-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_MlpRef0Ideal (m : (ℓ : Loc Cert.MlpRef0Ideal.nD Cert.MlpRef0Ideal.τ Cert.MlpRef0Ideal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_MlpRef1Ideal (m : (ℓ : Loc Cert.MlpRef1Ideal.nD Cert.MlpRef1Ideal.τ Cert.MlpRef1Ideal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1RefIdeal (m : (ℓ : Loc Cert.Pw1RefIdeal.nD Cert.Pw1RefIdeal.τ Cert.Pw1RefIdeal.sig) → Buf (Elt Ideal) ℓ) : Prop :=
  True

def Pre_Xlin0 (m : (ℓ : Loc Cert.Xlin0.nD Cert.Xlin0.τ Cert.Xlin0.sig) → Buf (Elt Bits) ℓ) : Prop :=
  True

def Pre_Xlin0Ideal (m : (ℓ : Loc Cert.Xlin0Ideal.nD Cert.Xlin0Ideal.τ Cert.Xlin0Ideal.sig) → Buf (Elt Ideal) ℓ) : Prop :=
  True

def Pre_XlinRef0Ideal (m : (ℓ : Loc Cert.XlinRef0Ideal.nD Cert.XlinRef0Ideal.τ Cert.XlinRef0Ideal.sig) → Buf (Elt Ideal) ℓ) : Prop :=
  True

def Pre_Xlin1 (m : (ℓ : Loc Cert.Xlin1.nD Cert.Xlin1.τ Cert.Xlin1.sig) → Buf (Elt Bits) ℓ) : Prop :=
  True

def Pre_Xlin1Ideal (m : (ℓ : Loc Cert.Xlin1Ideal.nD Cert.Xlin1Ideal.τ Cert.Xlin1Ideal.sig) → Buf (Elt Ideal) ℓ) : Prop :=
  True

def Pre_XlinRef1Ideal (m : (ℓ : Loc Cert.XlinRef1Ideal.nD Cert.XlinRef1Ideal.τ Cert.XlinRef1Ideal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_DownRef1Ideal (m : (ℓ : Loc Cert.DownRef1Ideal.nD Cert.DownRef1Ideal.τ Cert.DownRef1Ideal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_DownRef0Ideal (m : (ℓ : Loc Cert.DownRef0Ideal.nD Cert.DownRef0Ideal.τ Cert.DownRef0Ideal.sig) → Buf (Elt Ideal) ℓ) : Prop :=
  True

def Pre_Mdn0 (m : (ℓ : Loc Cert.Mdn0.nD Cert.Mdn0.τ Cert.Mdn0.sig) → Buf (Elt Bits) ℓ) : Prop :=
  True

def Pre_Mdn0Ideal (m : (ℓ : Loc Cert.Mdn0Ideal.nD Cert.Mdn0Ideal.τ Cert.Mdn0Ideal.sig) → Buf (Elt Ideal) ℓ) : Prop :=
  True

def Pre_MdnRef0Ideal (m : (ℓ : Loc Cert.MdnRef0Ideal.nD Cert.MdnRef0Ideal.τ Cert.MdnRef0Ideal.sig) → Buf (Elt Ideal) ℓ) : Prop :=
  True

def Pre_Mdn1 (m : (ℓ : Loc Cert.Mdn1.nD Cert.Mdn1.τ Cert.Mdn1.sig) → Buf (Elt Bits) ℓ) : Prop :=
  True

def Pre_Mdn1Ideal (m : (ℓ : Loc Cert.Mdn1Ideal.nD Cert.Mdn1Ideal.τ Cert.Mdn1Ideal.sig) → Buf (Elt Ideal) ℓ) : Prop :=
  True

def Pre_MdnRef1Ideal (m : (ℓ : Loc Cert.MdnRef1Ideal.nD Cert.MdnRef1Ideal.τ Cert.MdnRef1Ideal.sig) → Buf (Elt Ideal) ℓ) : Prop :=
  True

def Pre_Xdn0 (m : (ℓ : Loc Cert.Xdn0.nD Cert.Xdn0.τ Cert.Xdn0.sig) → Buf (Elt Bits) ℓ) : Prop :=
  True

def Pre_Xdn0Ideal (m : (ℓ : Loc Cert.Xdn0Ideal.nD Cert.Xdn0Ideal.τ Cert.Xdn0Ideal.sig) → Buf (Elt Ideal) ℓ) : Prop :=
  True

def Pre_XdnRef0Ideal (m : (ℓ : Loc Cert.XdnRef0Ideal.nD Cert.XdnRef0Ideal.τ Cert.XdnRef0Ideal.sig) → Buf (Elt Ideal) ℓ) : Prop :=
  True

def Pre_Xdn1 (m : (ℓ : Loc Cert.Xdn1.nD Cert.Xdn1.τ Cert.Xdn1.sig) → Buf (Elt Bits) ℓ) : Prop :=
  True

def Pre_Xdn1Ideal (m : (ℓ : Loc Cert.Xdn1Ideal.nD Cert.Xdn1Ideal.τ Cert.Xdn1Ideal.sig) → Buf (Elt Ideal) ℓ) : Prop :=
  True

def Pre_XdnRef1Ideal (m : (ℓ : Loc Cert.XdnRef1Ideal.nD Cert.XdnRef1Ideal.τ Cert.XdnRef1Ideal.sig) → Buf (Elt Ideal) ℓ) : Prop :=
  True

def Pre_Cdn (m : (ℓ : Loc Cert.Cdn.nD Cert.Cdn.τ Cert.Cdn.sig) → Buf (Elt Bits) ℓ) : Prop :=
  True

def Pre_CdnIdeal (m : (ℓ : Loc Cert.CdnIdeal.nD Cert.CdnIdeal.τ Cert.CdnIdeal.sig) → Buf (Elt Ideal) ℓ) : Prop :=
  True

def Pre_CdnRefIdeal (m : (ℓ : Loc Cert.CdnRefIdeal.nD Cert.CdnRefIdeal.τ Cert.CdnRefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_OutRef0Ideal (m : (ℓ : Loc Cert.OutRef0Ideal.nD Cert.OutRef0Ideal.τ Cert.OutRef0Ideal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_OutRef1Ideal (m : (ℓ : Loc Cert.OutRef1Ideal.nD Cert.OutRef1Ideal.τ Cert.OutRef1Ideal.sig) → Buf (Elt Ideal) ℓ) : Prop :=
  True

def Pre_Xfwd (m : (ℓ : Loc Cert.Xfwd.nD Cert.Xfwd.τ Cert.Xfwd.sig) → Buf (Elt Bits) ℓ) : Prop :=
  True

def Pre_XfwdIdeal (m : (ℓ : Loc Cert.XfwdIdeal.nD Cert.XfwdIdeal.τ Cert.XfwdIdeal.sig) → Buf (Elt Ideal) ℓ) : Prop :=
  True

def Pre_XfwdRefIdeal (m : (ℓ : Loc Cert.XfwdRefIdeal.nD Cert.XfwdRefIdeal.τ Cert.XfwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3))
      ∧ r.2.sem = fun _ => 0)

def quiescent_MlpRef0Ideal [hMlpRef0Ideal : Cert.MlpRef0Ideal.Facts] : Prop :=
  ∀ (m : (ℓ : Loc Cert.MlpRef0Ideal.nD Cert.MlpRef0Ideal.τ Cert.MlpRef0Ideal.sig) → Buf (Elt Ideal) ℓ) (g : Dev Cert.MlpRef0Ideal.nD → PrngReg), Pre_MlpRef0Ideal m →
    θ_run (Cert.MlpRef0Ideal.defs (F := Ideal)) (onTc (τ := Cert.MlpRef0Ideal.τ) (Cert.MlpRef0Ideal.main (F := Ideal))) ⟨m, fun _ => 0, g⟩ (fun r => (∀ c : Dev Cert.MlpRef0Ideal.nD,
      r.2.mem ((c.tc : Thread Cert.MlpRef0Ideal.nD Cert.MlpRef0Ideal.τ).loc Cert.MlpRef0Ideal.main_arg0) = m ((c.tc : Thread Cert.MlpRef0Ideal.nD Cert.MlpRef0Ideal.τ).loc Cert.MlpRef0Ideal.main_arg0)
      ∧ r.2.mem ((c.tc : Thread Cert.MlpRef0Ideal.nD Cert.MlpRef0Ideal.τ).loc Cert.MlpRef0Ideal.main_arg1) = m ((c.tc : Thread Cert.MlpRef0Ideal.nD Cert.MlpRef0Ideal.τ).loc Cert.MlpRef0Ideal.main_arg1)
      ∧ r.2.mem ((c.tc : Thread Cert.MlpRef0Ideal.nD Cert.MlpRef0Ideal.τ).loc Cert.MlpRef0Ideal.main_arg2) = m ((c.tc : Thread Cert.MlpRef0Ideal.nD Cert.MlpRef0Ideal.τ).loc Cert.MlpRef0Ideal.main_arg2)
      ∧ r.2.mem ((c.tc : Thread Cert.MlpRef0Ideal.nD Cert.MlpRef0Ideal.τ).loc Cert.MlpRef0Ideal.main_arg3) = m ((c.tc : Thread Cert.MlpRef0Ideal.nD Cert.MlpRef0Ideal.τ).loc Cert.MlpRef0Ideal.main_arg3))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3))
      ∧ r.2.sem = fun _ => 0)

def quiescent_MlpRef1Ideal [hMlpRef1Ideal : Cert.MlpRef1Ideal.Facts] : Prop :=
  ∀ (m : (ℓ : Loc Cert.MlpRef1Ideal.nD Cert.MlpRef1Ideal.τ Cert.MlpRef1Ideal.sig) → Buf (Elt Ideal) ℓ) (g : Dev Cert.MlpRef1Ideal.nD → PrngReg), Pre_MlpRef1Ideal m →
    θ_run (Cert.MlpRef1Ideal.defs (F := Ideal)) (onTc (τ := Cert.MlpRef1Ideal.τ) (Cert.MlpRef1Ideal.main (F := Ideal))) ⟨m, fun _ => 0, g⟩ (fun r => (∀ c : Dev Cert.MlpRef1Ideal.nD,
      r.2.mem ((c.tc : Thread Cert.MlpRef1Ideal.nD Cert.MlpRef1Ideal.τ).loc Cert.MlpRef1Ideal.main_arg0) = m ((c.tc : Thread Cert.MlpRef1Ideal.nD Cert.MlpRef1Ideal.τ).loc Cert.MlpRef1Ideal.main_arg0)
      ∧ r.2.mem ((c.tc : Thread Cert.MlpRef1Ideal.nD Cert.MlpRef1Ideal.τ).loc Cert.MlpRef1Ideal.main_arg1) = m ((c.tc : Thread Cert.MlpRef1Ideal.nD Cert.MlpRef1Ideal.τ).loc Cert.MlpRef1Ideal.main_arg1)
      ∧ r.2.mem ((c.tc : Thread Cert.MlpRef1Ideal.nD Cert.MlpRef1Ideal.τ).loc Cert.MlpRef1Ideal.main_arg2) = m ((c.tc : Thread Cert.MlpRef1Ideal.nD Cert.MlpRef1Ideal.τ).loc Cert.MlpRef1Ideal.main_arg2)
      ∧ r.2.mem ((c.tc : Thread Cert.MlpRef1Ideal.nD Cert.MlpRef1Ideal.τ).loc Cert.MlpRef1Ideal.main_arg3) = m ((c.tc : Thread Cert.MlpRef1Ideal.nD Cert.MlpRef1Ideal.τ).loc Cert.MlpRef1Ideal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2)
      ∧ r.2.mem ((c.tc : Thread Cert.Pw1.nD Cert.Pw1.τ).loc Cert.Pw1.main_arg3) = m ((c.tc : Thread Cert.Pw1.nD Cert.Pw1.τ).loc Cert.Pw1.main_arg3))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
      ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3))
      ∧ r.2.sem = fun _ => 0)

def quiescent_Pw1RefIdeal [hPw1RefIdeal : Cert.Pw1RefIdeal.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1)
      ∧ r.2.mem ((c.tc : Thread Cert.Pw1RefIdeal.nD Cert.Pw1RefIdeal.τ).loc Cert.Pw1RefIdeal.main_arg2) = m ((c.tc : Thread Cert.Pw1RefIdeal.nD Cert.Pw1RefIdeal.τ).loc Cert.Pw1RefIdeal.main_arg2)
      ∧ r.2.mem ((c.tc : Thread Cert.Pw1RefIdeal.nD Cert.Pw1RefIdeal.τ).loc Cert.Pw1RefIdeal.main_arg3) = m ((c.tc : Thread Cert.Pw1RefIdeal.nD Cert.Pw1RefIdeal.τ).loc Cert.Pw1RefIdeal.main_arg3))
      ∧ r.2.sem = fun _ => 0)

def quiescent_Xlin0 [hXlin0 : Cert.Xlin0.Facts] : Prop :=
  ∀ (m : (ℓ : Loc Cert.Xlin0.nD Cert.Xlin0.τ Cert.Xlin0.sig) → Buf (Elt Bits) ℓ) (g : Dev Cert.Xlin0.nD → PrngReg), Pre_Xlin0 m →
    θ_run (Cert.Xlin0.defs (F := Bits)) (onTc (τ := Cert.Xlin0.τ) (Cert.Xlin0.main (F := Bits))) ⟨m, fun _ => 0, g⟩ (fun r => (∀ c : Dev Cert.Xlin0.nD,
      r.2.mem ((c.tc : Thread Cert.Xlin0.nD Cert.Xlin0.τ).loc Cert.Xlin0.main_arg0) = m ((c.tc : Thread Cert.Xlin0.nD Cert.Xlin0.τ).loc Cert.Xlin0.main_arg0)
      ∧ r.2.mem ((c.tc : Thread Cert.Xlin0.nD Cert.Xlin0.τ).loc Cert.Xlin0.main_arg1) = m ((c.tc : Thread Cert.Xlin0.nD Cert.Xlin0.τ).loc Cert.Xlin0.main_arg1)
      ∧ r.2.mem ((c.tc : Thread Cert.Xlin0.nD Cert.Xlin0.τ).loc Cert.Xlin0.main_arg2) = m ((c.tc : Thread Cert.Xlin0.nD Cert.Xlin0.τ).loc Cert.Xlin0.main_arg2)
      ∧ r.2.mem ((c.tc : Thread Cert.Xlin0.nD Cert.Xlin0.τ).loc Cert.Xlin0.main_arg3) = m ((c.tc : Thread Cert.Xlin0.nD Cert.Xlin0.τ).loc Cert.Xlin0.main_arg3)
      ∧ r.2.mem ((c.tc : Thread Cert.Xlin0.nD Cert.Xlin0.τ).loc Cert.Xlin0.main_arg4) = m ((c.tc : Thread Cert.Xlin0.nD Cert.Xlin0.τ).loc Cert.Xlin0.main_arg4)
      ∧ r.2.mem ((c.tc : Thread Cert.Xlin0.nD Cert.Xlin0.τ).loc Cert.Xlin0.main_arg5) = m ((c.tc : Thread Cert.Xlin0.nD Cert.Xlin0.τ).loc Cert.Xlin0.main_arg5))
      ∧ r.2.sem = fun _ => 0)

def quiescent_Xlin0Ideal [hXlin0Ideal : Cert.Xlin0Ideal.Facts] : Prop :=
  ∀ (m : (ℓ : Loc Cert.Xlin0Ideal.nD Cert.Xlin0Ideal.τ Cert.Xlin0Ideal.sig) → Buf (Elt Ideal) ℓ) (g : Dev Cert.Xlin0Ideal.nD → PrngReg), Pre_Xlin0Ideal m →
    θ_run (Cert.Xlin0Ideal.defs (F := Ideal)) (onTc (τ := Cert.Xlin0Ideal.τ) (Cert.Xlin0Ideal.main (F := Ideal))) ⟨m, fun _ => 0, g⟩ (fun r => (∀ c : Dev Cert.Xlin0Ideal.nD,
      r.2.mem ((c.tc : Thread Cert.Xlin0Ideal.nD Cert.Xlin0Ideal.τ).loc Cert.Xlin0Ideal.main_arg0) = m ((c.tc : Thread Cert.Xlin0Ideal.nD Cert.Xlin0Ideal.τ).loc Cert.Xlin0Ideal.main_arg0)
      ∧ r.2.mem ((c.tc : Thread Cert.Xlin0Ideal.nD Cert.Xlin0Ideal.τ).loc Cert.Xlin0Ideal.main_arg1) = m ((c.tc : Thread Cert.Xlin0Ideal.nD Cert.Xlin0Ideal.τ).loc Cert.Xlin0Ideal.main_arg1)
      ∧ r.2.mem ((c.tc : Thread Cert.Xlin0Ideal.nD Cert.Xlin0Ideal.τ).loc Cert.Xlin0Ideal.main_arg2) = m ((c.tc : Thread Cert.Xlin0Ideal.nD Cert.Xlin0Ideal.τ).loc Cert.Xlin0Ideal.main_arg2)
      ∧ r.2.mem ((c.tc : Thread Cert.Xlin0Ideal.nD Cert.Xlin0Ideal.τ).loc Cert.Xlin0Ideal.main_arg3) = m ((c.tc : Thread Cert.Xlin0Ideal.nD Cert.Xlin0Ideal.τ).loc Cert.Xlin0Ideal.main_arg3)
      ∧ r.2.mem ((c.tc : Thread Cert.Xlin0Ideal.nD Cert.Xlin0Ideal.τ).loc Cert.Xlin0Ideal.main_arg4) = m ((c.tc : Thread Cert.Xlin0Ideal.nD Cert.Xlin0Ideal.τ).loc Cert.Xlin0Ideal.main_arg4)
      ∧ r.2.mem ((c.tc : Thread Cert.Xlin0Ideal.nD Cert.Xlin0Ideal.τ).loc Cert.Xlin0Ideal.main_arg5) = m ((c.tc : Thread Cert.Xlin0Ideal.nD Cert.Xlin0Ideal.τ).loc Cert.Xlin0Ideal.main_arg5))
      ∧ r.2.sem = fun _ => 0)

def quiescent_XlinRef0Ideal [hXlinRef0Ideal : Cert.XlinRef0Ideal.Facts] : Prop :=
  ∀ (m : (ℓ : Loc Cert.XlinRef0Ideal.nD Cert.XlinRef0Ideal.τ Cert.XlinRef0Ideal.sig) → Buf (Elt Ideal) ℓ) (g : Dev Cert.XlinRef0Ideal.nD → PrngReg), Pre_XlinRef0Ideal m →
    θ_run (Cert.XlinRef0Ideal.defs (F := Ideal)) (onTc (τ := Cert.XlinRef0Ideal.τ) (Cert.XlinRef0Ideal.main (F := Ideal))) ⟨m, fun _ => 0, g⟩ (fun r => (∀ c : Dev Cert.XlinRef0Ideal.nD,
      r.2.mem ((c.tc : Thread Cert.XlinRef0Ideal.nD Cert.XlinRef0Ideal.τ).loc Cert.XlinRef0Ideal.main_arg0) = m ((c.tc : Thread Cert.XlinRef0Ideal.nD Cert.XlinRef0Ideal.τ).loc Cert.XlinRef0Ideal.main_arg0)
      ∧ r.2.mem ((c.tc : Thread Cert.XlinRef0Ideal.nD Cert.XlinRef0Ideal.τ).loc Cert.XlinRef0Ideal.main_arg1) = m ((c.tc : Thread Cert.XlinRef0Ideal.nD Cert.XlinRef0Ideal.τ).loc Cert.XlinRef0Ideal.main_arg1)
      ∧ r.2.mem ((c.tc : Thread Cert.XlinRef0Ideal.nD Cert.XlinRef0Ideal.τ).loc Cert.XlinRef0Ideal.main_arg2) = m ((c.tc : Thread Cert.XlinRef0Ideal.nD Cert.XlinRef0Ideal.τ).loc Cert.XlinRef0Ideal.main_arg2)
      ∧ r.2.mem ((c.tc : Thread Cert.XlinRef0Ideal.nD Cert.XlinRef0Ideal.τ).loc Cert.XlinRef0Ideal.main_arg3) = m ((c.tc : Thread Cert.XlinRef0Ideal.nD Cert.XlinRef0Ideal.τ).loc Cert.XlinRef0Ideal.main_arg3)
      ∧ r.2.mem ((c.tc : Thread Cert.XlinRef0Ideal.nD Cert.XlinRef0Ideal.τ).loc Cert.XlinRef0Ideal.main_arg4) = m ((c.tc : Thread Cert.XlinRef0Ideal.nD Cert.XlinRef0Ideal.τ).loc Cert.XlinRef0Ideal.main_arg4)
      ∧ r.2.mem ((c.tc : Thread Cert.XlinRef0Ideal.nD Cert.XlinRef0Ideal.τ).loc Cert.XlinRef0Ideal.main_arg5) = m ((c.tc : Thread Cert.XlinRef0Ideal.nD Cert.XlinRef0Ideal.τ).loc Cert.XlinRef0Ideal.main_arg5))
      ∧ r.2.sem = fun _ => 0)

def quiescent_Xlin1 [hXlin1 : Cert.Xlin1.Facts] : Prop :=
  ∀ (m : (ℓ : Loc Cert.Xlin1.nD Cert.Xlin1.τ Cert.Xlin1.sig) → Buf (Elt Bits) ℓ) (g : Dev Cert.Xlin1.nD → PrngReg), Pre_Xlin1 m →
    θ_run (Cert.Xlin1.defs (F := Bits)) (onTc (τ := Cert.Xlin1.τ) (Cert.Xlin1.main (F := Bits))) ⟨m, fun _ => 0, g⟩ (fun r => (∀ c : Dev Cert.Xlin1.nD,
      r.2.mem ((c.tc : Thread Cert.Xlin1.nD Cert.Xlin1.τ).loc Cert.Xlin1.main_arg0) = m ((c.tc : Thread Cert.Xlin1.nD Cert.Xlin1.τ).loc Cert.Xlin1.main_arg0)
      ∧ r.2.mem ((c.tc : Thread Cert.Xlin1.nD Cert.Xlin1.τ).loc Cert.Xlin1.main_arg1) = m ((c.tc : Thread Cert.Xlin1.nD Cert.Xlin1.τ).loc Cert.Xlin1.main_arg1)
      ∧ r.2.mem ((c.tc : Thread Cert.Xlin1.nD Cert.Xlin1.τ).loc Cert.Xlin1.main_arg2) = m ((c.tc : Thread Cert.Xlin1.nD Cert.Xlin1.τ).loc Cert.Xlin1.main_arg2)
      ∧ r.2.mem ((c.tc : Thread Cert.Xlin1.nD Cert.Xlin1.τ).loc Cert.Xlin1.main_arg3) = m ((c.tc : Thread Cert.Xlin1.nD Cert.Xlin1.τ).loc Cert.Xlin1.main_arg3)
      ∧ r.2.mem ((c.tc : Thread Cert.Xlin1.nD Cert.Xlin1.τ).loc Cert.Xlin1.main_arg4) = m ((c.tc : Thread Cert.Xlin1.nD Cert.Xlin1.τ).loc Cert.Xlin1.main_arg4)
      ∧ r.2.mem ((c.tc : Thread Cert.Xlin1.nD Cert.Xlin1.τ).loc Cert.Xlin1.main_arg5) = m ((c.tc : Thread Cert.Xlin1.nD Cert.Xlin1.τ).loc Cert.Xlin1.main_arg5))
      ∧ r.2.sem = fun _ => 0)

def quiescent_Xlin1Ideal [hXlin1Ideal : Cert.Xlin1Ideal.Facts] : Prop :=
  ∀ (m : (ℓ : Loc Cert.Xlin1Ideal.nD Cert.Xlin1Ideal.τ Cert.Xlin1Ideal.sig) → Buf (Elt Ideal) ℓ) (g : Dev Cert.Xlin1Ideal.nD → PrngReg), Pre_Xlin1Ideal m →
    θ_run (Cert.Xlin1Ideal.defs (F := Ideal)) (onTc (τ := Cert.Xlin1Ideal.τ) (Cert.Xlin1Ideal.main (F := Ideal))) ⟨m, fun _ => 0, g⟩ (fun r => (∀ c : Dev Cert.Xlin1Ideal.nD,
      r.2.mem ((c.tc : Thread Cert.Xlin1Ideal.nD Cert.Xlin1Ideal.τ).loc Cert.Xlin1Ideal.main_arg0) = m ((c.tc : Thread Cert.Xlin1Ideal.nD Cert.Xlin1Ideal.τ).loc Cert.Xlin1Ideal.main_arg0)
      ∧ r.2.mem ((c.tc : Thread Cert.Xlin1Ideal.nD Cert.Xlin1Ideal.τ).loc Cert.Xlin1Ideal.main_arg1) = m ((c.tc : Thread Cert.Xlin1Ideal.nD Cert.Xlin1Ideal.τ).loc Cert.Xlin1Ideal.main_arg1)
      ∧ r.2.mem ((c.tc : Thread Cert.Xlin1Ideal.nD Cert.Xlin1Ideal.τ).loc Cert.Xlin1Ideal.main_arg2) = m ((c.tc : Thread Cert.Xlin1Ideal.nD Cert.Xlin1Ideal.τ).loc Cert.Xlin1Ideal.main_arg2)
      ∧ r.2.mem ((c.tc : Thread Cert.Xlin1Ideal.nD Cert.Xlin1Ideal.τ).loc Cert.Xlin1Ideal.main_arg3) = m ((c.tc : Thread Cert.Xlin1Ideal.nD Cert.Xlin1Ideal.τ).loc Cert.Xlin1Ideal.main_arg3)
      ∧ r.2.mem ((c.tc : Thread Cert.Xlin1Ideal.nD Cert.Xlin1Ideal.τ).loc Cert.Xlin1Ideal.main_arg4) = m ((c.tc : Thread Cert.Xlin1Ideal.nD Cert.Xlin1Ideal.τ).loc Cert.Xlin1Ideal.main_arg4)
      ∧ r.2.mem ((c.tc : Thread Cert.Xlin1Ideal.nD Cert.Xlin1Ideal.τ).loc Cert.Xlin1Ideal.main_arg5) = m ((c.tc : Thread Cert.Xlin1Ideal.nD Cert.Xlin1Ideal.τ).loc Cert.Xlin1Ideal.main_arg5))
      ∧ r.2.sem = fun _ => 0)

def quiescent_XlinRef1Ideal [hXlinRef1Ideal : Cert.XlinRef1Ideal.Facts] : Prop :=
  ∀ (m : (ℓ : Loc Cert.XlinRef1Ideal.nD Cert.XlinRef1Ideal.τ Cert.XlinRef1Ideal.sig) → Buf (Elt Ideal) ℓ) (g : Dev Cert.XlinRef1Ideal.nD → PrngReg), Pre_XlinRef1Ideal m →
    θ_run (Cert.XlinRef1Ideal.defs (F := Ideal)) (onTc (τ := Cert.XlinRef1Ideal.τ) (Cert.XlinRef1Ideal.main (F := Ideal))) ⟨m, fun _ => 0, g⟩ (fun r => (∀ c : Dev Cert.XlinRef1Ideal.nD,
      r.2.mem ((c.tc : Thread Cert.XlinRef1Ideal.nD Cert.XlinRef1Ideal.τ).loc Cert.XlinRef1Ideal.main_arg0) = m ((c.tc : Thread Cert.XlinRef1Ideal.nD Cert.XlinRef1Ideal.τ).loc Cert.XlinRef1Ideal.main_arg0)
      ∧ r.2.mem ((c.tc : Thread Cert.XlinRef1Ideal.nD Cert.XlinRef1Ideal.τ).loc Cert.XlinRef1Ideal.main_arg1) = m ((c.tc : Thread Cert.XlinRef1Ideal.nD Cert.XlinRef1Ideal.τ).loc Cert.XlinRef1Ideal.main_arg1)
      ∧ r.2.mem ((c.tc : Thread Cert.XlinRef1Ideal.nD Cert.XlinRef1Ideal.τ).loc Cert.XlinRef1Ideal.main_arg2) = m ((c.tc : Thread Cert.XlinRef1Ideal.nD Cert.XlinRef1Ideal.τ).loc Cert.XlinRef1Ideal.main_arg2)
      ∧ r.2.mem ((c.tc : Thread Cert.XlinRef1Ideal.nD Cert.XlinRef1Ideal.τ).loc Cert.XlinRef1Ideal.main_arg3) = m ((c.tc : Thread Cert.XlinRef1Ideal.nD Cert.XlinRef1Ideal.τ).loc Cert.XlinRef1Ideal.main_arg3)
      ∧ r.2.mem ((c.tc : Thread Cert.XlinRef1Ideal.nD Cert.XlinRef1Ideal.τ).loc Cert.XlinRef1Ideal.main_arg4) = m ((c.tc : Thread Cert.XlinRef1Ideal.nD Cert.XlinRef1Ideal.τ).loc Cert.XlinRef1Ideal.main_arg4)
      ∧ r.2.mem ((c.tc : Thread Cert.XlinRef1Ideal.nD Cert.XlinRef1Ideal.τ).loc Cert.XlinRef1Ideal.main_arg5) = m ((c.tc : Thread Cert.XlinRef1Ideal.nD Cert.XlinRef1Ideal.τ).loc Cert.XlinRef1Ideal.main_arg5))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4)
      ∧ r.2.mem ((c.tc : Thread Cert.Wout.nD Cert.Wout.τ).loc Cert.Wout.main_arg5) = m ((c.tc : Thread Cert.Wout.nD Cert.Wout.τ).loc Cert.Wout.main_arg5))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
      ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4)
      ∧ r.2.mem ((c.tc : Thread Cert.WoutRefIdeal.nD Cert.WoutRefIdeal.τ).loc Cert.WoutRefIdeal.main_arg5) = m ((c.tc : Thread Cert.WoutRefIdeal.nD Cert.WoutRefIdeal.τ).loc Cert.WoutRefIdeal.main_arg5))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2))
      ∧ r.2.sem = fun _ => 0)

def quiescent_DownRef1Ideal [hDownRef1Ideal : Cert.DownRef1Ideal.Facts] : Prop :=
  ∀ (m : (ℓ : Loc Cert.DownRef1Ideal.nD Cert.DownRef1Ideal.τ Cert.DownRef1Ideal.sig) → Buf (Elt Ideal) ℓ) (g : Dev Cert.DownRef1Ideal.nD → PrngReg), Pre_DownRef1Ideal m →
    θ_run (Cert.DownRef1Ideal.defs (F := Ideal)) (onTc (τ := Cert.DownRef1Ideal.τ) (Cert.DownRef1Ideal.main (F := Ideal))) ⟨m, fun _ => 0, g⟩ (fun r => (∀ c : Dev Cert.DownRef1Ideal.nD,
      r.2.mem ((c.tc : Thread Cert.DownRef1Ideal.nD Cert.DownRef1Ideal.τ).loc Cert.DownRef1Ideal.main_arg0) = m ((c.tc : Thread Cert.DownRef1Ideal.nD Cert.DownRef1Ideal.τ).loc Cert.DownRef1Ideal.main_arg0)
      ∧ r.2.mem ((c.tc : Thread Cert.DownRef1Ideal.nD Cert.DownRef1Ideal.τ).loc Cert.DownRef1Ideal.main_arg1) = m ((c.tc : Thread Cert.DownRef1Ideal.nD Cert.DownRef1Ideal.τ).loc Cert.DownRef1Ideal.main_arg1)
      ∧ r.2.mem ((c.tc : Thread Cert.DownRef1Ideal.nD Cert.DownRef1Ideal.τ).loc Cert.DownRef1Ideal.main_arg2) = m ((c.tc : Thread Cert.DownRef1Ideal.nD Cert.DownRef1Ideal.τ).loc Cert.DownRef1Ideal.main_arg2))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ r.2.sem = fun _ => 0)

def quiescent_DownRef0Ideal [hDownRef0Ideal : Cert.DownRef0Ideal.Facts] : Prop :=
  ∀ (m : (ℓ : Loc Cert.DownRef0Ideal.nD Cert.DownRef0Ideal.τ Cert.DownRef0Ideal.sig) → Buf (Elt Ideal) ℓ) (g : Dev Cert.DownRef0Ideal.nD → PrngReg), Pre_DownRef0Ideal m →
    θ_run (Cert.DownRef0Ideal.defs (F := Ideal)) (onTc (τ := Cert.DownRef0Ideal.τ) (Cert.DownRef0Ideal.main (F := Ideal))) ⟨m, fun _ => 0, g⟩ (fun r => (∀ c : Dev Cert.DownRef0Ideal.nD,
      r.2.mem ((c.tc : Thread Cert.DownRef0Ideal.nD Cert.DownRef0Ideal.τ).loc Cert.DownRef0Ideal.main_arg0) = m ((c.tc : Thread Cert.DownRef0Ideal.nD Cert.DownRef0Ideal.τ).loc Cert.DownRef0Ideal.main_arg0)
      ∧ r.2.mem ((c.tc : Thread Cert.DownRef0Ideal.nD Cert.DownRef0Ideal.τ).loc Cert.DownRef0Ideal.main_arg1) = m ((c.tc : Thread Cert.DownRef0Ideal.nD Cert.DownRef0Ideal.τ).loc Cert.DownRef0Ideal.main_arg1)
      ∧ r.2.mem ((c.tc : Thread Cert.DownRef0Ideal.nD Cert.DownRef0Ideal.τ).loc Cert.DownRef0Ideal.main_arg2) = m ((c.tc : Thread Cert.DownRef0Ideal.nD Cert.DownRef0Ideal.τ).loc Cert.DownRef0Ideal.main_arg2)
      ∧ r.2.mem ((c.tc : Thread Cert.DownRef0Ideal.nD Cert.DownRef0Ideal.τ).loc Cert.DownRef0Ideal.main_arg3) = m ((c.tc : Thread Cert.DownRef0Ideal.nD Cert.DownRef0Ideal.τ).loc Cert.DownRef0Ideal.main_arg3))
      ∧ r.2.sem = fun _ => 0)

def quiescent_Mdn0 [hMdn0 : Cert.Mdn0.Facts] : Prop :=
  ∀ (m : (ℓ : Loc Cert.Mdn0.nD Cert.Mdn0.τ Cert.Mdn0.sig) → Buf (Elt Bits) ℓ) (g : Dev Cert.Mdn0.nD → PrngReg), Pre_Mdn0 m →
    θ_run (Cert.Mdn0.defs (F := Bits)) (onTc (τ := Cert.Mdn0.τ) (Cert.Mdn0.main (F := Bits))) ⟨m, fun _ => 0, g⟩ (fun r => (∀ c : Dev Cert.Mdn0.nD,
      r.2.mem ((c.tc : Thread Cert.Mdn0.nD Cert.Mdn0.τ).loc Cert.Mdn0.main_arg0) = m ((c.tc : Thread Cert.Mdn0.nD Cert.Mdn0.τ).loc Cert.Mdn0.main_arg0)
      ∧ r.2.mem ((c.tc : Thread Cert.Mdn0.nD Cert.Mdn0.τ).loc Cert.Mdn0.main_arg1) = m ((c.tc : Thread Cert.Mdn0.nD Cert.Mdn0.τ).loc Cert.Mdn0.main_arg1)
      ∧ r.2.mem ((c.tc : Thread Cert.Mdn0.nD Cert.Mdn0.τ).loc Cert.Mdn0.main_arg2) = m ((c.tc : Thread Cert.Mdn0.nD Cert.Mdn0.τ).loc Cert.Mdn0.main_arg2)
      ∧ r.2.mem ((c.tc : Thread Cert.Mdn0.nD Cert.Mdn0.τ).loc Cert.Mdn0.main_arg3) = m ((c.tc : Thread Cert.Mdn0.nD Cert.Mdn0.τ).loc Cert.Mdn0.main_arg3)
      ∧ r.2.mem ((c.tc : Thread Cert.Mdn0.nD Cert.Mdn0.τ).loc Cert.Mdn0.main_arg4) = m ((c.tc : Thread Cert.Mdn0.nD Cert.Mdn0.τ).loc Cert.Mdn0.main_arg4))
      ∧ r.2.sem = fun _ => 0)

def quiescent_Mdn0Ideal [hMdn0Ideal : Cert.Mdn0Ideal.Facts] : Prop :=
  ∀ (m : (ℓ : Loc Cert.Mdn0Ideal.nD Cert.Mdn0Ideal.τ Cert.Mdn0Ideal.sig) → Buf (Elt Ideal) ℓ) (g : Dev Cert.Mdn0Ideal.nD → PrngReg), Pre_Mdn0Ideal m →
    θ_run (Cert.Mdn0Ideal.defs (F := Ideal)) (onTc (τ := Cert.Mdn0Ideal.τ) (Cert.Mdn0Ideal.main (F := Ideal))) ⟨m, fun _ => 0, g⟩ (fun r => (∀ c : Dev Cert.Mdn0Ideal.nD,
      r.2.mem ((c.tc : Thread Cert.Mdn0Ideal.nD Cert.Mdn0Ideal.τ).loc Cert.Mdn0Ideal.main_arg0) = m ((c.tc : Thread Cert.Mdn0Ideal.nD Cert.Mdn0Ideal.τ).loc Cert.Mdn0Ideal.main_arg0)
      ∧ r.2.mem ((c.tc : Thread Cert.Mdn0Ideal.nD Cert.Mdn0Ideal.τ).loc Cert.Mdn0Ideal.main_arg1) = m ((c.tc : Thread Cert.Mdn0Ideal.nD Cert.Mdn0Ideal.τ).loc Cert.Mdn0Ideal.main_arg1)
      ∧ r.2.mem ((c.tc : Thread Cert.Mdn0Ideal.nD Cert.Mdn0Ideal.τ).loc Cert.Mdn0Ideal.main_arg2) = m ((c.tc : Thread Cert.Mdn0Ideal.nD Cert.Mdn0Ideal.τ).loc Cert.Mdn0Ideal.main_arg2)
      ∧ r.2.mem ((c.tc : Thread Cert.Mdn0Ideal.nD Cert.Mdn0Ideal.τ).loc Cert.Mdn0Ideal.main_arg3) = m ((c.tc : Thread Cert.Mdn0Ideal.nD Cert.Mdn0Ideal.τ).loc Cert.Mdn0Ideal.main_arg3)
      ∧ r.2.mem ((c.tc : Thread Cert.Mdn0Ideal.nD Cert.Mdn0Ideal.τ).loc Cert.Mdn0Ideal.main_arg4) = m ((c.tc : Thread Cert.Mdn0Ideal.nD Cert.Mdn0Ideal.τ).loc Cert.Mdn0Ideal.main_arg4))
      ∧ r.2.sem = fun _ => 0)

def quiescent_MdnRef0Ideal [hMdnRef0Ideal : Cert.MdnRef0Ideal.Facts] : Prop :=
  ∀ (m : (ℓ : Loc Cert.MdnRef0Ideal.nD Cert.MdnRef0Ideal.τ Cert.MdnRef0Ideal.sig) → Buf (Elt Ideal) ℓ) (g : Dev Cert.MdnRef0Ideal.nD → PrngReg), Pre_MdnRef0Ideal m →
    θ_run (Cert.MdnRef0Ideal.defs (F := Ideal)) (onTc (τ := Cert.MdnRef0Ideal.τ) (Cert.MdnRef0Ideal.main (F := Ideal))) ⟨m, fun _ => 0, g⟩ (fun r => (∀ c : Dev Cert.MdnRef0Ideal.nD,
      r.2.mem ((c.tc : Thread Cert.MdnRef0Ideal.nD Cert.MdnRef0Ideal.τ).loc Cert.MdnRef0Ideal.main_arg0) = m ((c.tc : Thread Cert.MdnRef0Ideal.nD Cert.MdnRef0Ideal.τ).loc Cert.MdnRef0Ideal.main_arg0)
      ∧ r.2.mem ((c.tc : Thread Cert.MdnRef0Ideal.nD Cert.MdnRef0Ideal.τ).loc Cert.MdnRef0Ideal.main_arg1) = m ((c.tc : Thread Cert.MdnRef0Ideal.nD Cert.MdnRef0Ideal.τ).loc Cert.MdnRef0Ideal.main_arg1)
      ∧ r.2.mem ((c.tc : Thread Cert.MdnRef0Ideal.nD Cert.MdnRef0Ideal.τ).loc Cert.MdnRef0Ideal.main_arg2) = m ((c.tc : Thread Cert.MdnRef0Ideal.nD Cert.MdnRef0Ideal.τ).loc Cert.MdnRef0Ideal.main_arg2)
      ∧ r.2.mem ((c.tc : Thread Cert.MdnRef0Ideal.nD Cert.MdnRef0Ideal.τ).loc Cert.MdnRef0Ideal.main_arg3) = m ((c.tc : Thread Cert.MdnRef0Ideal.nD Cert.MdnRef0Ideal.τ).loc Cert.MdnRef0Ideal.main_arg3)
      ∧ r.2.mem ((c.tc : Thread Cert.MdnRef0Ideal.nD Cert.MdnRef0Ideal.τ).loc Cert.MdnRef0Ideal.main_arg4) = m ((c.tc : Thread Cert.MdnRef0Ideal.nD Cert.MdnRef0Ideal.τ).loc Cert.MdnRef0Ideal.main_arg4))
      ∧ r.2.sem = fun _ => 0)

def quiescent_Mdn1 [hMdn1 : Cert.Mdn1.Facts] : Prop :=
  ∀ (m : (ℓ : Loc Cert.Mdn1.nD Cert.Mdn1.τ Cert.Mdn1.sig) → Buf (Elt Bits) ℓ) (g : Dev Cert.Mdn1.nD → PrngReg), Pre_Mdn1 m →
    θ_run (Cert.Mdn1.defs (F := Bits)) (onTc (τ := Cert.Mdn1.τ) (Cert.Mdn1.main (F := Bits))) ⟨m, fun _ => 0, g⟩ (fun r => (∀ c : Dev Cert.Mdn1.nD,
      r.2.mem ((c.tc : Thread Cert.Mdn1.nD Cert.Mdn1.τ).loc Cert.Mdn1.main_arg0) = m ((c.tc : Thread Cert.Mdn1.nD Cert.Mdn1.τ).loc Cert.Mdn1.main_arg0)
      ∧ r.2.mem ((c.tc : Thread Cert.Mdn1.nD Cert.Mdn1.τ).loc Cert.Mdn1.main_arg1) = m ((c.tc : Thread Cert.Mdn1.nD Cert.Mdn1.τ).loc Cert.Mdn1.main_arg1)
      ∧ r.2.mem ((c.tc : Thread Cert.Mdn1.nD Cert.Mdn1.τ).loc Cert.Mdn1.main_arg2) = m ((c.tc : Thread Cert.Mdn1.nD Cert.Mdn1.τ).loc Cert.Mdn1.main_arg2)
      ∧ r.2.mem ((c.tc : Thread Cert.Mdn1.nD Cert.Mdn1.τ).loc Cert.Mdn1.main_arg3) = m ((c.tc : Thread Cert.Mdn1.nD Cert.Mdn1.τ).loc Cert.Mdn1.main_arg3)
      ∧ r.2.mem ((c.tc : Thread Cert.Mdn1.nD Cert.Mdn1.τ).loc Cert.Mdn1.main_arg4) = m ((c.tc : Thread Cert.Mdn1.nD Cert.Mdn1.τ).loc Cert.Mdn1.main_arg4))
      ∧ r.2.sem = fun _ => 0)

def quiescent_Mdn1Ideal [hMdn1Ideal : Cert.Mdn1Ideal.Facts] : Prop :=
  ∀ (m : (ℓ : Loc Cert.Mdn1Ideal.nD Cert.Mdn1Ideal.τ Cert.Mdn1Ideal.sig) → Buf (Elt Ideal) ℓ) (g : Dev Cert.Mdn1Ideal.nD → PrngReg), Pre_Mdn1Ideal m →
    θ_run (Cert.Mdn1Ideal.defs (F := Ideal)) (onTc (τ := Cert.Mdn1Ideal.τ) (Cert.Mdn1Ideal.main (F := Ideal))) ⟨m, fun _ => 0, g⟩ (fun r => (∀ c : Dev Cert.Mdn1Ideal.nD,
      r.2.mem ((c.tc : Thread Cert.Mdn1Ideal.nD Cert.Mdn1Ideal.τ).loc Cert.Mdn1Ideal.main_arg0) = m ((c.tc : Thread Cert.Mdn1Ideal.nD Cert.Mdn1Ideal.τ).loc Cert.Mdn1Ideal.main_arg0)
      ∧ r.2.mem ((c.tc : Thread Cert.Mdn1Ideal.nD Cert.Mdn1Ideal.τ).loc Cert.Mdn1Ideal.main_arg1) = m ((c.tc : Thread Cert.Mdn1Ideal.nD Cert.Mdn1Ideal.τ).loc Cert.Mdn1Ideal.main_arg1)
      ∧ r.2.mem ((c.tc : Thread Cert.Mdn1Ideal.nD Cert.Mdn1Ideal.τ).loc Cert.Mdn1Ideal.main_arg2) = m ((c.tc : Thread Cert.Mdn1Ideal.nD Cert.Mdn1Ideal.τ).loc Cert.Mdn1Ideal.main_arg2)
      ∧ r.2.mem ((c.tc : Thread Cert.Mdn1Ideal.nD Cert.Mdn1Ideal.τ).loc Cert.Mdn1Ideal.main_arg3) = m ((c.tc : Thread Cert.Mdn1Ideal.nD Cert.Mdn1Ideal.τ).loc Cert.Mdn1Ideal.main_arg3)
      ∧ r.2.mem ((c.tc : Thread Cert.Mdn1Ideal.nD Cert.Mdn1Ideal.τ).loc Cert.Mdn1Ideal.main_arg4) = m ((c.tc : Thread Cert.Mdn1Ideal.nD Cert.Mdn1Ideal.τ).loc Cert.Mdn1Ideal.main_arg4))
      ∧ r.2.sem = fun _ => 0)

def quiescent_MdnRef1Ideal [hMdnRef1Ideal : Cert.MdnRef1Ideal.Facts] : Prop :=
  ∀ (m : (ℓ : Loc Cert.MdnRef1Ideal.nD Cert.MdnRef1Ideal.τ Cert.MdnRef1Ideal.sig) → Buf (Elt Ideal) ℓ) (g : Dev Cert.MdnRef1Ideal.nD → PrngReg), Pre_MdnRef1Ideal m →
    θ_run (Cert.MdnRef1Ideal.defs (F := Ideal)) (onTc (τ := Cert.MdnRef1Ideal.τ) (Cert.MdnRef1Ideal.main (F := Ideal))) ⟨m, fun _ => 0, g⟩ (fun r => (∀ c : Dev Cert.MdnRef1Ideal.nD,
      r.2.mem ((c.tc : Thread Cert.MdnRef1Ideal.nD Cert.MdnRef1Ideal.τ).loc Cert.MdnRef1Ideal.main_arg0) = m ((c.tc : Thread Cert.MdnRef1Ideal.nD Cert.MdnRef1Ideal.τ).loc Cert.MdnRef1Ideal.main_arg0)
      ∧ r.2.mem ((c.tc : Thread Cert.MdnRef1Ideal.nD Cert.MdnRef1Ideal.τ).loc Cert.MdnRef1Ideal.main_arg1) = m ((c.tc : Thread Cert.MdnRef1Ideal.nD Cert.MdnRef1Ideal.τ).loc Cert.MdnRef1Ideal.main_arg1)
      ∧ r.2.mem ((c.tc : Thread Cert.MdnRef1Ideal.nD Cert.MdnRef1Ideal.τ).loc Cert.MdnRef1Ideal.main_arg2) = m ((c.tc : Thread Cert.MdnRef1Ideal.nD Cert.MdnRef1Ideal.τ).loc Cert.MdnRef1Ideal.main_arg2)
      ∧ r.2.mem ((c.tc : Thread Cert.MdnRef1Ideal.nD Cert.MdnRef1Ideal.τ).loc Cert.MdnRef1Ideal.main_arg3) = m ((c.tc : Thread Cert.MdnRef1Ideal.nD Cert.MdnRef1Ideal.τ).loc Cert.MdnRef1Ideal.main_arg3)
      ∧ r.2.mem ((c.tc : Thread Cert.MdnRef1Ideal.nD Cert.MdnRef1Ideal.τ).loc Cert.MdnRef1Ideal.main_arg4) = m ((c.tc : Thread Cert.MdnRef1Ideal.nD Cert.MdnRef1Ideal.τ).loc Cert.MdnRef1Ideal.main_arg4))
      ∧ r.2.sem = fun _ => 0)

def quiescent_Xdn0 [hXdn0 : Cert.Xdn0.Facts] : Prop :=
  ∀ (m : (ℓ : Loc Cert.Xdn0.nD Cert.Xdn0.τ Cert.Xdn0.sig) → Buf (Elt Bits) ℓ) (g : Dev Cert.Xdn0.nD → PrngReg), Pre_Xdn0 m →
    θ_run (Cert.Xdn0.defs (F := Bits)) (onTc (τ := Cert.Xdn0.τ) (Cert.Xdn0.main (F := Bits))) ⟨m, fun _ => 0, g⟩ (fun r => (∀ c : Dev Cert.Xdn0.nD,
      r.2.mem ((c.tc : Thread Cert.Xdn0.nD Cert.Xdn0.τ).loc Cert.Xdn0.main_arg0) = m ((c.tc : Thread Cert.Xdn0.nD Cert.Xdn0.τ).loc Cert.Xdn0.main_arg0)
      ∧ r.2.mem ((c.tc : Thread Cert.Xdn0.nD Cert.Xdn0.τ).loc Cert.Xdn0.main_arg1) = m ((c.tc : Thread Cert.Xdn0.nD Cert.Xdn0.τ).loc Cert.Xdn0.main_arg1)
      ∧ r.2.mem ((c.tc : Thread Cert.Xdn0.nD Cert.Xdn0.τ).loc Cert.Xdn0.main_arg2) = m ((c.tc : Thread Cert.Xdn0.nD Cert.Xdn0.τ).loc Cert.Xdn0.main_arg2)
      ∧ r.2.mem ((c.tc : Thread Cert.Xdn0.nD Cert.Xdn0.τ).loc Cert.Xdn0.main_arg3) = m ((c.tc : Thread Cert.Xdn0.nD Cert.Xdn0.τ).loc Cert.Xdn0.main_arg3)
      ∧ r.2.mem ((c.tc : Thread Cert.Xdn0.nD Cert.Xdn0.τ).loc Cert.Xdn0.main_arg4) = m ((c.tc : Thread Cert.Xdn0.nD Cert.Xdn0.τ).loc Cert.Xdn0.main_arg4))
      ∧ r.2.sem = fun _ => 0)

def quiescent_Xdn0Ideal [hXdn0Ideal : Cert.Xdn0Ideal.Facts] : Prop :=
  ∀ (m : (ℓ : Loc Cert.Xdn0Ideal.nD Cert.Xdn0Ideal.τ Cert.Xdn0Ideal.sig) → Buf (Elt Ideal) ℓ) (g : Dev Cert.Xdn0Ideal.nD → PrngReg), Pre_Xdn0Ideal m →
    θ_run (Cert.Xdn0Ideal.defs (F := Ideal)) (onTc (τ := Cert.Xdn0Ideal.τ) (Cert.Xdn0Ideal.main (F := Ideal))) ⟨m, fun _ => 0, g⟩ (fun r => (∀ c : Dev Cert.Xdn0Ideal.nD,
      r.2.mem ((c.tc : Thread Cert.Xdn0Ideal.nD Cert.Xdn0Ideal.τ).loc Cert.Xdn0Ideal.main_arg0) = m ((c.tc : Thread Cert.Xdn0Ideal.nD Cert.Xdn0Ideal.τ).loc Cert.Xdn0Ideal.main_arg0)
      ∧ r.2.mem ((c.tc : Thread Cert.Xdn0Ideal.nD Cert.Xdn0Ideal.τ).loc Cert.Xdn0Ideal.main_arg1) = m ((c.tc : Thread Cert.Xdn0Ideal.nD Cert.Xdn0Ideal.τ).loc Cert.Xdn0Ideal.main_arg1)
      ∧ r.2.mem ((c.tc : Thread Cert.Xdn0Ideal.nD Cert.Xdn0Ideal.τ).loc Cert.Xdn0Ideal.main_arg2) = m ((c.tc : Thread Cert.Xdn0Ideal.nD Cert.Xdn0Ideal.τ).loc Cert.Xdn0Ideal.main_arg2)
      ∧ r.2.mem ((c.tc : Thread Cert.Xdn0Ideal.nD Cert.Xdn0Ideal.τ).loc Cert.Xdn0Ideal.main_arg3) = m ((c.tc : Thread Cert.Xdn0Ideal.nD Cert.Xdn0Ideal.τ).loc Cert.Xdn0Ideal.main_arg3)
      ∧ r.2.mem ((c.tc : Thread Cert.Xdn0Ideal.nD Cert.Xdn0Ideal.τ).loc Cert.Xdn0Ideal.main_arg4) = m ((c.tc : Thread Cert.Xdn0Ideal.nD Cert.Xdn0Ideal.τ).loc Cert.Xdn0Ideal.main_arg4))
      ∧ r.2.sem = fun _ => 0)

def quiescent_XdnRef0Ideal [hXdnRef0Ideal : Cert.XdnRef0Ideal.Facts] : Prop :=
  ∀ (m : (ℓ : Loc Cert.XdnRef0Ideal.nD Cert.XdnRef0Ideal.τ Cert.XdnRef0Ideal.sig) → Buf (Elt Ideal) ℓ) (g : Dev Cert.XdnRef0Ideal.nD → PrngReg), Pre_XdnRef0Ideal m →
    θ_run (Cert.XdnRef0Ideal.defs (F := Ideal)) (onTc (τ := Cert.XdnRef0Ideal.τ) (Cert.XdnRef0Ideal.main (F := Ideal))) ⟨m, fun _ => 0, g⟩ (fun r => (∀ c : Dev Cert.XdnRef0Ideal.nD,
      r.2.mem ((c.tc : Thread Cert.XdnRef0Ideal.nD Cert.XdnRef0Ideal.τ).loc Cert.XdnRef0Ideal.main_arg0) = m ((c.tc : Thread Cert.XdnRef0Ideal.nD Cert.XdnRef0Ideal.τ).loc Cert.XdnRef0Ideal.main_arg0)
      ∧ r.2.mem ((c.tc : Thread Cert.XdnRef0Ideal.nD Cert.XdnRef0Ideal.τ).loc Cert.XdnRef0Ideal.main_arg1) = m ((c.tc : Thread Cert.XdnRef0Ideal.nD Cert.XdnRef0Ideal.τ).loc Cert.XdnRef0Ideal.main_arg1)
      ∧ r.2.mem ((c.tc : Thread Cert.XdnRef0Ideal.nD Cert.XdnRef0Ideal.τ).loc Cert.XdnRef0Ideal.main_arg2) = m ((c.tc : Thread Cert.XdnRef0Ideal.nD Cert.XdnRef0Ideal.τ).loc Cert.XdnRef0Ideal.main_arg2)
      ∧ r.2.mem ((c.tc : Thread Cert.XdnRef0Ideal.nD Cert.XdnRef0Ideal.τ).loc Cert.XdnRef0Ideal.main_arg3) = m ((c.tc : Thread Cert.XdnRef0Ideal.nD Cert.XdnRef0Ideal.τ).loc Cert.XdnRef0Ideal.main_arg3)
      ∧ r.2.mem ((c.tc : Thread Cert.XdnRef0Ideal.nD Cert.XdnRef0Ideal.τ).loc Cert.XdnRef0Ideal.main_arg4) = m ((c.tc : Thread Cert.XdnRef0Ideal.nD Cert.XdnRef0Ideal.τ).loc Cert.XdnRef0Ideal.main_arg4))
      ∧ r.2.sem = fun _ => 0)

def quiescent_Xdn1 [hXdn1 : Cert.Xdn1.Facts] : Prop :=
  ∀ (m : (ℓ : Loc Cert.Xdn1.nD Cert.Xdn1.τ Cert.Xdn1.sig) → Buf (Elt Bits) ℓ) (g : Dev Cert.Xdn1.nD → PrngReg), Pre_Xdn1 m →
    θ_run (Cert.Xdn1.defs (F := Bits)) (onTc (τ := Cert.Xdn1.τ) (Cert.Xdn1.main (F := Bits))) ⟨m, fun _ => 0, g⟩ (fun r => (∀ c : Dev Cert.Xdn1.nD,
      r.2.mem ((c.tc : Thread Cert.Xdn1.nD Cert.Xdn1.τ).loc Cert.Xdn1.main_arg0) = m ((c.tc : Thread Cert.Xdn1.nD Cert.Xdn1.τ).loc Cert.Xdn1.main_arg0)
      ∧ r.2.mem ((c.tc : Thread Cert.Xdn1.nD Cert.Xdn1.τ).loc Cert.Xdn1.main_arg1) = m ((c.tc : Thread Cert.Xdn1.nD Cert.Xdn1.τ).loc Cert.Xdn1.main_arg1)
      ∧ r.2.mem ((c.tc : Thread Cert.Xdn1.nD Cert.Xdn1.τ).loc Cert.Xdn1.main_arg2) = m ((c.tc : Thread Cert.Xdn1.nD Cert.Xdn1.τ).loc Cert.Xdn1.main_arg2)
      ∧ r.2.mem ((c.tc : Thread Cert.Xdn1.nD Cert.Xdn1.τ).loc Cert.Xdn1.main_arg3) = m ((c.tc : Thread Cert.Xdn1.nD Cert.Xdn1.τ).loc Cert.Xdn1.main_arg3)
      ∧ r.2.mem ((c.tc : Thread Cert.Xdn1.nD Cert.Xdn1.τ).loc Cert.Xdn1.main_arg4) = m ((c.tc : Thread Cert.Xdn1.nD Cert.Xdn1.τ).loc Cert.Xdn1.main_arg4))
      ∧ r.2.sem = fun _ => 0)

def quiescent_Xdn1Ideal [hXdn1Ideal : Cert.Xdn1Ideal.Facts] : Prop :=
  ∀ (m : (ℓ : Loc Cert.Xdn1Ideal.nD Cert.Xdn1Ideal.τ Cert.Xdn1Ideal.sig) → Buf (Elt Ideal) ℓ) (g : Dev Cert.Xdn1Ideal.nD → PrngReg), Pre_Xdn1Ideal m →
    θ_run (Cert.Xdn1Ideal.defs (F := Ideal)) (onTc (τ := Cert.Xdn1Ideal.τ) (Cert.Xdn1Ideal.main (F := Ideal))) ⟨m, fun _ => 0, g⟩ (fun r => (∀ c : Dev Cert.Xdn1Ideal.nD,
      r.2.mem ((c.tc : Thread Cert.Xdn1Ideal.nD Cert.Xdn1Ideal.τ).loc Cert.Xdn1Ideal.main_arg0) = m ((c.tc : Thread Cert.Xdn1Ideal.nD Cert.Xdn1Ideal.τ).loc Cert.Xdn1Ideal.main_arg0)
      ∧ r.2.mem ((c.tc : Thread Cert.Xdn1Ideal.nD Cert.Xdn1Ideal.τ).loc Cert.Xdn1Ideal.main_arg1) = m ((c.tc : Thread Cert.Xdn1Ideal.nD Cert.Xdn1Ideal.τ).loc Cert.Xdn1Ideal.main_arg1)
      ∧ r.2.mem ((c.tc : Thread Cert.Xdn1Ideal.nD Cert.Xdn1Ideal.τ).loc Cert.Xdn1Ideal.main_arg2) = m ((c.tc : Thread Cert.Xdn1Ideal.nD Cert.Xdn1Ideal.τ).loc Cert.Xdn1Ideal.main_arg2)
      ∧ r.2.mem ((c.tc : Thread Cert.Xdn1Ideal.nD Cert.Xdn1Ideal.τ).loc Cert.Xdn1Ideal.main_arg3) = m ((c.tc : Thread Cert.Xdn1Ideal.nD Cert.Xdn1Ideal.τ).loc Cert.Xdn1Ideal.main_arg3)
      ∧ r.2.mem ((c.tc : Thread Cert.Xdn1Ideal.nD Cert.Xdn1Ideal.τ).loc Cert.Xdn1Ideal.main_arg4) = m ((c.tc : Thread Cert.Xdn1Ideal.nD Cert.Xdn1Ideal.τ).loc Cert.Xdn1Ideal.main_arg4))
      ∧ r.2.sem = fun _ => 0)

def quiescent_XdnRef1Ideal [hXdnRef1Ideal : Cert.XdnRef1Ideal.Facts] : Prop :=
  ∀ (m : (ℓ : Loc Cert.XdnRef1Ideal.nD Cert.XdnRef1Ideal.τ Cert.XdnRef1Ideal.sig) → Buf (Elt Ideal) ℓ) (g : Dev Cert.XdnRef1Ideal.nD → PrngReg), Pre_XdnRef1Ideal m →
    θ_run (Cert.XdnRef1Ideal.defs (F := Ideal)) (onTc (τ := Cert.XdnRef1Ideal.τ) (Cert.XdnRef1Ideal.main (F := Ideal))) ⟨m, fun _ => 0, g⟩ (fun r => (∀ c : Dev Cert.XdnRef1Ideal.nD,
      r.2.mem ((c.tc : Thread Cert.XdnRef1Ideal.nD Cert.XdnRef1Ideal.τ).loc Cert.XdnRef1Ideal.main_arg0) = m ((c.tc : Thread Cert.XdnRef1Ideal.nD Cert.XdnRef1Ideal.τ).loc Cert.XdnRef1Ideal.main_arg0)
      ∧ r.2.mem ((c.tc : Thread Cert.XdnRef1Ideal.nD Cert.XdnRef1Ideal.τ).loc Cert.XdnRef1Ideal.main_arg1) = m ((c.tc : Thread Cert.XdnRef1Ideal.nD Cert.XdnRef1Ideal.τ).loc Cert.XdnRef1Ideal.main_arg1)
      ∧ r.2.mem ((c.tc : Thread Cert.XdnRef1Ideal.nD Cert.XdnRef1Ideal.τ).loc Cert.XdnRef1Ideal.main_arg2) = m ((c.tc : Thread Cert.XdnRef1Ideal.nD Cert.XdnRef1Ideal.τ).loc Cert.XdnRef1Ideal.main_arg2)
      ∧ r.2.mem ((c.tc : Thread Cert.XdnRef1Ideal.nD Cert.XdnRef1Ideal.τ).loc Cert.XdnRef1Ideal.main_arg3) = m ((c.tc : Thread Cert.XdnRef1Ideal.nD Cert.XdnRef1Ideal.τ).loc Cert.XdnRef1Ideal.main_arg3)
      ∧ r.2.mem ((c.tc : Thread Cert.XdnRef1Ideal.nD Cert.XdnRef1Ideal.τ).loc Cert.XdnRef1Ideal.main_arg4) = m ((c.tc : Thread Cert.XdnRef1Ideal.nD Cert.XdnRef1Ideal.τ).loc Cert.XdnRef1Ideal.main_arg4))
      ∧ r.2.sem = fun _ => 0)

def quiescent_Cdn [hCdn : Cert.Cdn.Facts] : Prop :=
  ∀ (m : (ℓ : Loc Cert.Cdn.nD Cert.Cdn.τ Cert.Cdn.sig) → Buf (Elt Bits) ℓ) (g : Dev Cert.Cdn.nD → PrngReg), Pre_Cdn m →
    θ_run (Cert.Cdn.defs (F := Bits)) (onTc (τ := Cert.Cdn.τ) (Cert.Cdn.main (F := Bits))) ⟨m, fun _ => 0, g⟩ (fun r => (∀ c : Dev Cert.Cdn.nD,
      r.2.mem ((c.tc : Thread Cert.Cdn.nD Cert.Cdn.τ).loc Cert.Cdn.main_arg0) = m ((c.tc : Thread Cert.Cdn.nD Cert.Cdn.τ).loc Cert.Cdn.main_arg0)
      ∧ r.2.mem ((c.tc : Thread Cert.Cdn.nD Cert.Cdn.τ).loc Cert.Cdn.main_arg1) = m ((c.tc : Thread Cert.Cdn.nD Cert.Cdn.τ).loc Cert.Cdn.main_arg1)
      ∧ r.2.mem ((c.tc : Thread Cert.Cdn.nD Cert.Cdn.τ).loc Cert.Cdn.main_arg2) = m ((c.tc : Thread Cert.Cdn.nD Cert.Cdn.τ).loc Cert.Cdn.main_arg2)
      ∧ r.2.mem ((c.tc : Thread Cert.Cdn.nD Cert.Cdn.τ).loc Cert.Cdn.main_arg3) = m ((c.tc : Thread Cert.Cdn.nD Cert.Cdn.τ).loc Cert.Cdn.main_arg3)
      ∧ r.2.mem ((c.tc : Thread Cert.Cdn.nD Cert.Cdn.τ).loc Cert.Cdn.main_arg4) = m ((c.tc : Thread Cert.Cdn.nD Cert.Cdn.τ).loc Cert.Cdn.main_arg4))
      ∧ r.2.sem = fun _ => 0)

def quiescent_CdnIdeal [hCdnIdeal : Cert.CdnIdeal.Facts] : Prop :=
  ∀ (m : (ℓ : Loc Cert.CdnIdeal.nD Cert.CdnIdeal.τ Cert.CdnIdeal.sig) → Buf (Elt Ideal) ℓ) (g : Dev Cert.CdnIdeal.nD → PrngReg), Pre_CdnIdeal m →
    θ_run (Cert.CdnIdeal.defs (F := Ideal)) (onTc (τ := Cert.CdnIdeal.τ) (Cert.CdnIdeal.main (F := Ideal))) ⟨m, fun _ => 0, g⟩ (fun r => (∀ c : Dev Cert.CdnIdeal.nD,
      r.2.mem ((c.tc : Thread Cert.CdnIdeal.nD Cert.CdnIdeal.τ).loc Cert.CdnIdeal.main_arg0) = m ((c.tc : Thread Cert.CdnIdeal.nD Cert.CdnIdeal.τ).loc Cert.CdnIdeal.main_arg0)
      ∧ r.2.mem ((c.tc : Thread Cert.CdnIdeal.nD Cert.CdnIdeal.τ).loc Cert.CdnIdeal.main_arg1) = m ((c.tc : Thread Cert.CdnIdeal.nD Cert.CdnIdeal.τ).loc Cert.CdnIdeal.main_arg1)
      ∧ r.2.mem ((c.tc : Thread Cert.CdnIdeal.nD Cert.CdnIdeal.τ).loc Cert.CdnIdeal.main_arg2) = m ((c.tc : Thread Cert.CdnIdeal.nD Cert.CdnIdeal.τ).loc Cert.CdnIdeal.main_arg2)
      ∧ r.2.mem ((c.tc : Thread Cert.CdnIdeal.nD Cert.CdnIdeal.τ).loc Cert.CdnIdeal.main_arg3) = m ((c.tc : Thread Cert.CdnIdeal.nD Cert.CdnIdeal.τ).loc Cert.CdnIdeal.main_arg3)
      ∧ r.2.mem ((c.tc : Thread Cert.CdnIdeal.nD Cert.CdnIdeal.τ).loc Cert.CdnIdeal.main_arg4) = m ((c.tc : Thread Cert.CdnIdeal.nD Cert.CdnIdeal.τ).loc Cert.CdnIdeal.main_arg4))
      ∧ r.2.sem = fun _ => 0)

def quiescent_CdnRefIdeal [hCdnRefIdeal : Cert.CdnRefIdeal.Facts] : Prop :=
  ∀ (m : (ℓ : Loc Cert.CdnRefIdeal.nD Cert.CdnRefIdeal.τ Cert.CdnRefIdeal.sig) → Buf (Elt Ideal) ℓ) (g : Dev Cert.CdnRefIdeal.nD → PrngReg), Pre_CdnRefIdeal m →
    θ_run (Cert.CdnRefIdeal.defs (F := Ideal)) (onTc (τ := Cert.CdnRefIdeal.τ) (Cert.CdnRefIdeal.main (F := Ideal))) ⟨m, fun _ => 0, g⟩ (fun r => (∀ c : Dev Cert.CdnRefIdeal.nD,
      r.2.mem ((c.tc : Thread Cert.CdnRefIdeal.nD Cert.CdnRefIdeal.τ).loc Cert.CdnRefIdeal.main_arg0) = m ((c.tc : Thread Cert.CdnRefIdeal.nD Cert.CdnRefIdeal.τ).loc Cert.CdnRefIdeal.main_arg0)
      ∧ r.2.mem ((c.tc : Thread Cert.CdnRefIdeal.nD Cert.CdnRefIdeal.τ).loc Cert.CdnRefIdeal.main_arg1) = m ((c.tc : Thread Cert.CdnRefIdeal.nD Cert.CdnRefIdeal.τ).loc Cert.CdnRefIdeal.main_arg1)
      ∧ r.2.mem ((c.tc : Thread Cert.CdnRefIdeal.nD Cert.CdnRefIdeal.τ).loc Cert.CdnRefIdeal.main_arg2) = m ((c.tc : Thread Cert.CdnRefIdeal.nD Cert.CdnRefIdeal.τ).loc Cert.CdnRefIdeal.main_arg2)
      ∧ r.2.mem ((c.tc : Thread Cert.CdnRefIdeal.nD Cert.CdnRefIdeal.τ).loc Cert.CdnRefIdeal.main_arg3) = m ((c.tc : Thread Cert.CdnRefIdeal.nD Cert.CdnRefIdeal.τ).loc Cert.CdnRefIdeal.main_arg3)
      ∧ r.2.mem ((c.tc : Thread Cert.CdnRefIdeal.nD Cert.CdnRefIdeal.τ).loc Cert.CdnRefIdeal.main_arg4) = m ((c.tc : Thread Cert.CdnRefIdeal.nD Cert.CdnRefIdeal.τ).loc Cert.CdnRefIdeal.main_arg4))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4)
      ∧ r.2.mem ((c.tc : Thread Cert.Out0.nD Cert.Out0.τ).loc Cert.Out0.main_arg5) = m ((c.tc : Thread Cert.Out0.nD Cert.Out0.τ).loc Cert.Out0.main_arg5)
      ∧ r.2.mem ((c.tc : Thread Cert.Out0.nD Cert.Out0.τ).loc Cert.Out0.main_arg6) = m ((c.tc : Thread Cert.Out0.nD Cert.Out0.τ).loc Cert.Out0.main_arg6)
      ∧ r.2.mem ((c.tc : Thread Cert.Out0.nD Cert.Out0.τ).loc Cert.Out0.main_arg7) = m ((c.tc : Thread Cert.Out0.nD Cert.Out0.τ).loc Cert.Out0.main_arg7))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
      ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5)
      ∧ r.2.mem ((c.tc : Thread Cert.Out0Ideal.nD Cert.Out0Ideal.τ).loc Cert.Out0Ideal.main_arg6) = m ((c.tc : Thread Cert.Out0Ideal.nD Cert.Out0Ideal.τ).loc Cert.Out0Ideal.main_arg6)
      ∧ r.2.mem ((c.tc : Thread Cert.Out0Ideal.nD Cert.Out0Ideal.τ).loc Cert.Out0Ideal.main_arg7) = m ((c.tc : Thread Cert.Out0Ideal.nD Cert.Out0Ideal.τ).loc Cert.Out0Ideal.main_arg7))
      ∧ r.2.sem = fun _ => 0)

def quiescent_OutRef0Ideal [hOutRef0Ideal : Cert.OutRef0Ideal.Facts] : Prop :=
  ∀ (m : (ℓ : Loc Cert.OutRef0Ideal.nD Cert.OutRef0Ideal.τ Cert.OutRef0Ideal.sig) → Buf (Elt Ideal) ℓ) (g : Dev Cert.OutRef0Ideal.nD → PrngReg), Pre_OutRef0Ideal m →
    θ_run (Cert.OutRef0Ideal.defs (F := Ideal)) (onTc (τ := Cert.OutRef0Ideal.τ) (Cert.OutRef0Ideal.main (F := Ideal))) ⟨m, fun _ => 0, g⟩ (fun r => (∀ c : Dev Cert.OutRef0Ideal.nD,
      r.2.mem ((c.tc : Thread Cert.OutRef0Ideal.nD Cert.OutRef0Ideal.τ).loc Cert.OutRef0Ideal.main_arg0) = m ((c.tc : Thread Cert.OutRef0Ideal.nD Cert.OutRef0Ideal.τ).loc Cert.OutRef0Ideal.main_arg0)
      ∧ r.2.mem ((c.tc : Thread Cert.OutRef0Ideal.nD Cert.OutRef0Ideal.τ).loc Cert.OutRef0Ideal.main_arg1) = m ((c.tc : Thread Cert.OutRef0Ideal.nD Cert.OutRef0Ideal.τ).loc Cert.OutRef0Ideal.main_arg1)
      ∧ r.2.mem ((c.tc : Thread Cert.OutRef0Ideal.nD Cert.OutRef0Ideal.τ).loc Cert.OutRef0Ideal.main_arg2) = m ((c.tc : Thread Cert.OutRef0Ideal.nD Cert.OutRef0Ideal.τ).loc Cert.OutRef0Ideal.main_arg2)
      ∧ r.2.mem ((c.tc : Thread Cert.OutRef0Ideal.nD Cert.OutRef0Ideal.τ).loc Cert.OutRef0Ideal.main_arg3) = m ((c.tc : Thread Cert.OutRef0Ideal.nD Cert.OutRef0Ideal.τ).loc Cert.OutRef0Ideal.main_arg3)
      ∧ r.2.mem ((c.tc : Thread Cert.OutRef0Ideal.nD Cert.OutRef0Ideal.τ).loc Cert.OutRef0Ideal.main_arg4) = m ((c.tc : Thread Cert.OutRef0Ideal.nD Cert.OutRef0Ideal.τ).loc Cert.OutRef0Ideal.main_arg4)
      ∧ r.2.mem ((c.tc : Thread Cert.OutRef0Ideal.nD Cert.OutRef0Ideal.τ).loc Cert.OutRef0Ideal.main_arg5) = m ((c.tc : Thread Cert.OutRef0Ideal.nD Cert.OutRef0Ideal.τ).loc Cert.OutRef0Ideal.main_arg5)
      ∧ r.2.mem ((c.tc : Thread Cert.OutRef0Ideal.nD Cert.OutRef0Ideal.τ).loc Cert.OutRef0Ideal.main_arg6) = m ((c.tc : Thread Cert.OutRef0Ideal.nD Cert.OutRef0Ideal.τ).loc Cert.OutRef0Ideal.main_arg6)
      ∧ r.2.mem ((c.tc : Thread Cert.OutRef0Ideal.nD Cert.OutRef0Ideal.τ).loc Cert.OutRef0Ideal.main_arg7) = m ((c.tc : Thread Cert.OutRef0Ideal.nD Cert.OutRef0Ideal.τ).loc Cert.OutRef0Ideal.main_arg7))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5)
      ∧ r.2.mem ((c.tc : Thread Cert.Out1.nD Cert.Out1.τ).loc Cert.Out1.main_arg6) = m ((c.tc : Thread Cert.Out1.nD Cert.Out1.τ).loc Cert.Out1.main_arg6)
      ∧ r.2.mem ((c.tc : Thread Cert.Out1.nD Cert.Out1.τ).loc Cert.Out1.main_arg7) = m ((c.tc : Thread Cert.Out1.nD Cert.Out1.τ).loc Cert.Out1.main_arg7)
      ∧ r.2.mem ((c.tc : Thread Cert.Out1.nD Cert.Out1.τ).loc Cert.Out1.main_arg8) = m ((c.tc : Thread Cert.Out1.nD Cert.Out1.τ).loc Cert.Out1.main_arg8))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
      ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
      ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
      ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8))
      ∧ r.2.sem = fun _ => 0)

def quiescent_OutRef1Ideal [hOutRef1Ideal : Cert.OutRef1Ideal.Facts] : Prop :=
  ∀ (m : (ℓ : Loc Cert.OutRef1Ideal.nD Cert.OutRef1Ideal.τ Cert.OutRef1Ideal.sig) → Buf (Elt Ideal) ℓ) (g : Dev Cert.OutRef1Ideal.nD → PrngReg), Pre_OutRef1Ideal m →
    θ_run (Cert.OutRef1Ideal.defs (F := Ideal)) (onTc (τ := Cert.OutRef1Ideal.τ) (Cert.OutRef1Ideal.main (F := Ideal))) ⟨m, fun _ => 0, g⟩ (fun r => (∀ c : Dev Cert.OutRef1Ideal.nD,
      r.2.mem ((c.tc : Thread Cert.OutRef1Ideal.nD Cert.OutRef1Ideal.τ).loc Cert.OutRef1Ideal.main_arg0) = m ((c.tc : Thread Cert.OutRef1Ideal.nD Cert.OutRef1Ideal.τ).loc Cert.OutRef1Ideal.main_arg0)
      ∧ r.2.mem ((c.tc : Thread Cert.OutRef1Ideal.nD Cert.OutRef1Ideal.τ).loc Cert.OutRef1Ideal.main_arg1) = m ((c.tc : Thread Cert.OutRef1Ideal.nD Cert.OutRef1Ideal.τ).loc Cert.OutRef1Ideal.main_arg1)
      ∧ r.2.mem ((c.tc : Thread Cert.OutRef1Ideal.nD Cert.OutRef1Ideal.τ).loc Cert.OutRef1Ideal.main_arg2) = m ((c.tc : Thread Cert.OutRef1Ideal.nD Cert.OutRef1Ideal.τ).loc Cert.OutRef1Ideal.main_arg2)
      ∧ r.2.mem ((c.tc : Thread Cert.OutRef1Ideal.nD Cert.OutRef1Ideal.τ).loc Cert.OutRef1Ideal.main_arg3) = m ((c.tc : Thread Cert.OutRef1Ideal.nD Cert.OutRef1Ideal.τ).loc Cert.OutRef1Ideal.main_arg3)
      ∧ r.2.mem ((c.tc : Thread Cert.OutRef1Ideal.nD Cert.OutRef1Ideal.τ).loc Cert.OutRef1Ideal.main_arg4) = m ((c.tc : Thread Cert.OutRef1Ideal.nD Cert.OutRef1Ideal.τ).loc Cert.OutRef1Ideal.main_arg4)
      ∧ r.2.mem ((c.tc : Thread Cert.OutRef1Ideal.nD Cert.OutRef1Ideal.τ).loc Cert.OutRef1Ideal.main_arg5) = m ((c.tc : Thread Cert.OutRef1Ideal.nD Cert.OutRef1Ideal.τ).loc Cert.OutRef1Ideal.main_arg5)
      ∧ r.2.mem ((c.tc : Thread Cert.OutRef1Ideal.nD Cert.OutRef1Ideal.τ).loc Cert.OutRef1Ideal.main_arg6) = m ((c.tc : Thread Cert.OutRef1Ideal.nD Cert.OutRef1Ideal.τ).loc Cert.OutRef1Ideal.main_arg6)
      ∧ r.2.mem ((c.tc : Thread Cert.OutRef1Ideal.nD Cert.OutRef1Ideal.τ).loc Cert.OutRef1Ideal.main_arg7) = m ((c.tc : Thread Cert.OutRef1Ideal.nD Cert.OutRef1Ideal.τ).loc Cert.OutRef1Ideal.main_arg7)
      ∧ r.2.mem ((c.tc : Thread Cert.OutRef1Ideal.nD Cert.OutRef1Ideal.τ).loc Cert.OutRef1Ideal.main_arg8) = m ((c.tc : Thread Cert.OutRef1Ideal.nD Cert.OutRef1Ideal.τ).loc Cert.OutRef1Ideal.main_arg8))
      ∧ r.2.sem = fun _ => 0)

def quiescent_Xfwd [hXfwd : Cert.Xfwd.Facts] : Prop :=
  ∀ (m : (ℓ : Loc Cert.Xfwd.nD Cert.Xfwd.τ Cert.Xfwd.sig) → Buf (Elt Bits) ℓ) (g : Dev Cert.Xfwd.nD → PrngReg), Pre_Xfwd m →
    θ_run (Cert.Xfwd.defs (F := Bits)) (onTc (τ := Cert.Xfwd.τ) (Cert.Xfwd.main (F := Bits))) ⟨m, fun _ => 0, g⟩ (fun r => (∀ c : Dev Cert.Xfwd.nD,
      r.2.mem ((c.tc : Thread Cert.Xfwd.nD Cert.Xfwd.τ).loc Cert.Xfwd.main_arg0) = m ((c.tc : Thread Cert.Xfwd.nD Cert.Xfwd.τ).loc Cert.Xfwd.main_arg0)
      ∧ r.2.mem ((c.tc : Thread Cert.Xfwd.nD Cert.Xfwd.τ).loc Cert.Xfwd.main_arg1) = m ((c.tc : Thread Cert.Xfwd.nD Cert.Xfwd.τ).loc Cert.Xfwd.main_arg1))
      ∧ r.2.sem = fun _ => 0)

def quiescent_XfwdIdeal [hXfwdIdeal : Cert.XfwdIdeal.Facts] : Prop :=
  ∀ (m : (ℓ : Loc Cert.XfwdIdeal.nD Cert.XfwdIdeal.τ Cert.XfwdIdeal.sig) → Buf (Elt Ideal) ℓ) (g : Dev Cert.XfwdIdeal.nD → PrngReg), Pre_XfwdIdeal m →
    θ_run (Cert.XfwdIdeal.defs (F := Ideal)) (onTc (τ := Cert.XfwdIdeal.τ) (Cert.XfwdIdeal.main (F := Ideal))) ⟨m, fun _ => 0, g⟩ (fun r => (∀ c : Dev Cert.XfwdIdeal.nD,
      r.2.mem ((c.tc : Thread Cert.XfwdIdeal.nD Cert.XfwdIdeal.τ).loc Cert.XfwdIdeal.main_arg0) = m ((c.tc : Thread Cert.XfwdIdeal.nD Cert.XfwdIdeal.τ).loc Cert.XfwdIdeal.main_arg0)
      ∧ r.2.mem ((c.tc : Thread Cert.XfwdIdeal.nD Cert.XfwdIdeal.τ).loc Cert.XfwdIdeal.main_arg1) = m ((c.tc : Thread Cert.XfwdIdeal.nD Cert.XfwdIdeal.τ).loc Cert.XfwdIdeal.main_arg1))
      ∧ r.2.sem = fun _ => 0)

def quiescent_XfwdRefIdeal [hXfwdRefIdeal : Cert.XfwdRefIdeal.Facts] : Prop :=
  ∀ (m : (ℓ : Loc Cert.XfwdRefIdeal.nD Cert.XfwdRefIdeal.τ Cert.XfwdRefIdeal.sig) → Buf (Elt Ideal) ℓ) (g : Dev Cert.XfwdRefIdeal.nD → PrngReg), Pre_XfwdRefIdeal m →
    θ_run (Cert.XfwdRefIdeal.defs (F := Ideal)) (onTc (τ := Cert.XfwdRefIdeal.τ) (Cert.XfwdRefIdeal.main (F := Ideal))) ⟨m, fun _ => 0, g⟩ (fun r => (∀ c : Dev Cert.XfwdRefIdeal.nD,
      r.2.mem ((c.tc : Thread Cert.XfwdRefIdeal.nD Cert.XfwdRefIdeal.τ).loc Cert.XfwdRefIdeal.main_arg0) = m ((c.tc : Thread Cert.XfwdRefIdeal.nD Cert.XfwdRefIdeal.τ).loc Cert.XfwdRefIdeal.main_arg0)
      ∧ r.2.mem ((c.tc : Thread Cert.XfwdRefIdeal.nD Cert.XfwdRefIdeal.τ).loc Cert.XfwdRefIdeal.main_arg1) = m ((c.tc : Thread Cert.XfwdRefIdeal.nD Cert.XfwdRefIdeal.τ).loc Cert.XfwdRefIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp0_Mlp0Ideal : Prop :=
  True

def algebraic_Mlp0Ideal_MlpRef0Ideal [hMlp0Ideal : Cert.Mlp0Ideal.Facts] [hMlpRef0Ideal : Cert.MlpRef0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.MlpRef0Ideal.nD Cert.MlpRef0Ideal.τ Cert.MlpRef0Ideal.sig) → Buf (Elt Ideal) ℓ) (g' : Dev Cert.MlpRef0Ideal.nD → PrngReg), Pre_Mlp0Ideal m →
    (∀ c : Dev Cert.Mlp0Ideal.nD,
      m' ((c.tc : Thread Cert.MlpRef0Ideal.nD Cert.MlpRef0Ideal.τ).loc Cert.MlpRef0Ideal.main_arg0) = m ((c.tc : Thread Cert.Mlp0Ideal.nD Cert.Mlp0Ideal.τ).loc Cert.Mlp0Ideal.main_arg0)
      ∧ m' ((c.tc : Thread Cert.MlpRef0Ideal.nD Cert.MlpRef0Ideal.τ).loc Cert.MlpRef0Ideal.main_arg1) = m ((c.tc : Thread Cert.Mlp0Ideal.nD Cert.Mlp0Ideal.τ).loc Cert.Mlp0Ideal.main_arg1)
      ∧ m' ((c.tc : Thread Cert.MlpRef0Ideal.nD Cert.MlpRef0Ideal.τ).loc Cert.MlpRef0Ideal.main_arg2) = m ((c.tc : Thread Cert.Mlp0Ideal.nD Cert.Mlp0Ideal.τ).loc Cert.Mlp0Ideal.main_arg2)
      ∧ m' ((c.tc : Thread Cert.MlpRef0Ideal.nD Cert.MlpRef0Ideal.τ).loc Cert.MlpRef0Ideal.main_arg3) = m ((c.tc : Thread Cert.Mlp0Ideal.nD Cert.Mlp0Ideal.τ).loc Cert.Mlp0Ideal.main_arg3)) →
    ∃ (v0 : (c : Dev Cert.Mlp0Ideal.nD) → Buf (Elt Ideal) ((c.tc : Thread Cert.Mlp0Ideal.nD Cert.Mlp0Ideal.τ).loc Cert.Mlp0Ideal.main_v12)) (v1 : (c : Dev Cert.Mlp0Ideal.nD) → Buf (Elt Ideal) ((c.tc : Thread Cert.Mlp0Ideal.nD Cert.Mlp0Ideal.τ).loc Cert.Mlp0Ideal.main_v14)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v12) = v0 c
          ∧ r.2.mem ((c.tc : Thread Cert.Mlp0Ideal.nD Cert.Mlp0Ideal.τ).loc Cert.Mlp0Ideal.main_v14) = v1 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3))
      ∧ θ_run (Cert.MlpRef0Ideal.defs (F := Ideal)) (onTc (τ := Cert.MlpRef0Ideal.τ) (Cert.MlpRef0Ideal.main (F := Ideal))) ⟨m', fun _ => 0, g'⟩ (fun r => ∀ c : Dev Cert.MlpRef0Ideal.nD,
          r.2.mem ((c.tc : Thread Cert.MlpRef0Ideal.nD Cert.MlpRef0Ideal.τ).loc Cert.MlpRef0Ideal.main_v22) = v0 c
          ∧ r.2.mem ((c.tc : Thread Cert.MlpRef0Ideal.nD Cert.MlpRef0Ideal.τ).loc Cert.MlpRef0Ideal.main_v16) = v1 c
          ∧ r.2.mem ((c.tc : Thread Cert.MlpRef0Ideal.nD Cert.MlpRef0Ideal.τ).loc Cert.MlpRef0Ideal.main_arg0) = m' ((c.tc : Thread Cert.MlpRef0Ideal.nD Cert.MlpRef0Ideal.τ).loc Cert.MlpRef0Ideal.main_arg0)
          ∧ r.2.mem ((c.tc : Thread Cert.MlpRef0Ideal.nD Cert.MlpRef0Ideal.τ).loc Cert.MlpRef0Ideal.main_arg1) = m' ((c.tc : Thread Cert.MlpRef0Ideal.nD Cert.MlpRef0Ideal.τ).loc Cert.MlpRef0Ideal.main_arg1)
          ∧ r.2.mem ((c.tc : Thread Cert.MlpRef0Ideal.nD Cert.MlpRef0Ideal.τ).loc Cert.MlpRef0Ideal.main_arg2) = m' ((c.tc : Thread Cert.MlpRef0Ideal.nD Cert.MlpRef0Ideal.τ).loc Cert.MlpRef0Ideal.main_arg2)
          ∧ r.2.mem ((c.tc : Thread Cert.MlpRef0Ideal.nD Cert.MlpRef0Ideal.τ).loc Cert.MlpRef0Ideal.main_arg3) = m' ((c.tc : Thread Cert.MlpRef0Ideal.nD Cert.MlpRef0Ideal.τ).loc Cert.MlpRef0Ideal.main_arg3))

def preserves_Mlp1_Mlp1Ideal : Prop :=
  True

def algebraic_Mlp1Ideal_MlpRef1Ideal [hMlp1Ideal : Cert.Mlp1Ideal.Facts] [hMlpRef1Ideal : Cert.MlpRef1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.MlpRef1Ideal.nD Cert.MlpRef1Ideal.τ Cert.MlpRef1Ideal.sig) → Buf (Elt Ideal) ℓ) (g' : Dev Cert.MlpRef1Ideal.nD → PrngReg), Pre_Mlp1Ideal m →
    (∀ c : Dev Cert.Mlp1Ideal.nD,
      m' ((c.tc : Thread Cert.MlpRef1Ideal.nD Cert.MlpRef1Ideal.τ).loc Cert.MlpRef1Ideal.main_arg0) = m ((c.tc : Thread Cert.Mlp1Ideal.nD Cert.Mlp1Ideal.τ).loc Cert.Mlp1Ideal.main_arg0)
      ∧ m' ((c.tc : Thread Cert.MlpRef1Ideal.nD Cert.MlpRef1Ideal.τ).loc Cert.MlpRef1Ideal.main_arg1) = m ((c.tc : Thread Cert.Mlp1Ideal.nD Cert.Mlp1Ideal.τ).loc Cert.Mlp1Ideal.main_arg1)
      ∧ m' ((c.tc : Thread Cert.MlpRef1Ideal.nD Cert.MlpRef1Ideal.τ).loc Cert.MlpRef1Ideal.main_arg2) = m ((c.tc : Thread Cert.Mlp1Ideal.nD Cert.Mlp1Ideal.τ).loc Cert.Mlp1Ideal.main_arg2)
      ∧ m' ((c.tc : Thread Cert.MlpRef1Ideal.nD Cert.MlpRef1Ideal.τ).loc Cert.MlpRef1Ideal.main_arg3) = m ((c.tc : Thread Cert.Mlp1Ideal.nD Cert.Mlp1Ideal.τ).loc Cert.Mlp1Ideal.main_arg3)) →
    ∃ (v0 : (c : Dev Cert.Mlp1Ideal.nD) → Buf (Elt Ideal) ((c.tc : Thread Cert.Mlp1Ideal.nD Cert.Mlp1Ideal.τ).loc Cert.Mlp1Ideal.main_v12)) (v1 : (c : Dev Cert.Mlp1Ideal.nD) → Buf (Elt Ideal) ((c.tc : Thread Cert.Mlp1Ideal.nD Cert.Mlp1Ideal.τ).loc Cert.Mlp1Ideal.main_v14)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v12) = v0 c
          ∧ r.2.mem ((c.tc : Thread Cert.Mlp1Ideal.nD Cert.Mlp1Ideal.τ).loc Cert.Mlp1Ideal.main_v14) = v1 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3))
      ∧ θ_run (Cert.MlpRef1Ideal.defs (F := Ideal)) (onTc (τ := Cert.MlpRef1Ideal.τ) (Cert.MlpRef1Ideal.main (F := Ideal))) ⟨m', fun _ => 0, g'⟩ (fun r => ∀ c : Dev Cert.MlpRef1Ideal.nD,
          r.2.mem ((c.tc : Thread Cert.MlpRef1Ideal.nD Cert.MlpRef1Ideal.τ).loc Cert.MlpRef1Ideal.main_v22) = v0 c
          ∧ r.2.mem ((c.tc : Thread Cert.MlpRef1Ideal.nD Cert.MlpRef1Ideal.τ).loc Cert.MlpRef1Ideal.main_v16) = v1 c
          ∧ r.2.mem ((c.tc : Thread Cert.MlpRef1Ideal.nD Cert.MlpRef1Ideal.τ).loc Cert.MlpRef1Ideal.main_arg0) = m' ((c.tc : Thread Cert.MlpRef1Ideal.nD Cert.MlpRef1Ideal.τ).loc Cert.MlpRef1Ideal.main_arg0)
          ∧ r.2.mem ((c.tc : Thread Cert.MlpRef1Ideal.nD Cert.MlpRef1Ideal.τ).loc Cert.MlpRef1Ideal.main_arg1) = m' ((c.tc : Thread Cert.MlpRef1Ideal.nD Cert.MlpRef1Ideal.τ).loc Cert.MlpRef1Ideal.main_arg1)
          ∧ r.2.mem ((c.tc : Thread Cert.MlpRef1Ideal.nD Cert.MlpRef1Ideal.τ).loc Cert.MlpRef1Ideal.main_arg2) = m' ((c.tc : Thread Cert.MlpRef1Ideal.nD Cert.MlpRef1Ideal.τ).loc Cert.MlpRef1Ideal.main_arg2)
          ∧ r.2.mem ((c.tc : Thread Cert.MlpRef1Ideal.nD Cert.MlpRef1Ideal.τ).loc Cert.MlpRef1Ideal.main_arg3) = m' ((c.tc : Thread Cert.MlpRef1Ideal.nD Cert.MlpRef1Ideal.τ).loc Cert.MlpRef1Ideal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4)) (v1 : (c : Dev Cert.ProjIdeal.nD) → Buf (Elt Ideal) ((c.tc : Thread Cert.ProjIdeal.nD Cert.ProjIdeal.τ).loc Cert.ProjIdeal.main_v5)) (v2 : (c : Dev Cert.ProjIdeal.nD) → Buf (Elt Ideal) ((c.tc : Thread Cert.ProjIdeal.nD Cert.ProjIdeal.τ).loc Cert.ProjIdeal.main_v7)) (v3 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_v5) = v1 c
          ∧ r.2.mem ((c.tc : Thread Cert.ProjIdeal.nD Cert.ProjIdeal.τ).loc Cert.ProjIdeal.main_v7) = v2 c
          ∧ r.2.mem ((c.tc : Thread Cert.ProjIdeal.nD Cert.ProjIdeal.τ).loc Cert.ProjIdeal.main_v10) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_v13) = v2 c
          ∧ r.2.mem ((c.tc : Thread Cert.ProjRefIdeal.nD Cert.ProjRefIdeal.τ).loc Cert.ProjRefIdeal.main_v12) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Pw1_Pw1Ideal : Prop :=
  True

def algebraic_Pw1Ideal_Pw1RefIdeal [hPw1Ideal : Cert.Pw1Ideal.Facts] [hPw1RefIdeal : Cert.Pw1RefIdeal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1RefIdeal.nD Cert.Pw1RefIdeal.τ Cert.Pw1RefIdeal.sig) → Buf (Elt Ideal) ℓ) (g' : Dev Cert.Pw1RefIdeal.nD → PrngReg), Pre_Pw1Ideal m →
    (∀ c : Dev Cert.Pw1Ideal.nD,
      m' ((c.tc : Thread Cert.Pw1RefIdeal.nD Cert.Pw1RefIdeal.τ).loc Cert.Pw1RefIdeal.main_arg0) = m ((c.tc : Thread Cert.Pw1Ideal.nD Cert.Pw1Ideal.τ).loc Cert.Pw1Ideal.main_arg0)
      ∧ m' ((c.tc : Thread Cert.Pw1RefIdeal.nD Cert.Pw1RefIdeal.τ).loc Cert.Pw1RefIdeal.main_arg1) = m ((c.tc : Thread Cert.Pw1Ideal.nD Cert.Pw1Ideal.τ).loc Cert.Pw1Ideal.main_arg1)
      ∧ m' ((c.tc : Thread Cert.Pw1RefIdeal.nD Cert.Pw1RefIdeal.τ).loc Cert.Pw1RefIdeal.main_arg2) = m ((c.tc : Thread Cert.Pw1Ideal.nD Cert.Pw1Ideal.τ).loc Cert.Pw1Ideal.main_arg2)
      ∧ m' ((c.tc : Thread Cert.Pw1RefIdeal.nD Cert.Pw1RefIdeal.τ).loc Cert.Pw1RefIdeal.main_arg3) = m ((c.tc : Thread Cert.Pw1Ideal.nD Cert.Pw1Ideal.τ).loc Cert.Pw1Ideal.main_arg3)) →
    ∃ (v0 : (c : Dev Cert.Pw1Ideal.nD) → Buf (Elt Ideal) ((c.tc : Thread Cert.Pw1Ideal.nD Cert.Pw1Ideal.τ).loc Cert.Pw1Ideal.main_v3)) (v1 : (c : Dev Cert.Pw1Ideal.nD) → Buf (Elt Ideal) ((c.tc : Thread Cert.Pw1Ideal.nD Cert.Pw1Ideal.τ).loc Cert.Pw1Ideal.main_v7)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v3) = v0 c
          ∧ r.2.mem ((c.tc : Thread Cert.Pw1Ideal.nD Cert.Pw1Ideal.τ).loc Cert.Pw1Ideal.main_v7) = v1 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
          ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3))
      ∧ θ_run (Cert.Pw1RefIdeal.defs (F := Ideal)) (onTc (τ := Cert.Pw1RefIdeal.τ) (Cert.Pw1RefIdeal.main (F := Ideal))) ⟨m', fun _ => 0, g'⟩ (fun r => ∀ c : Dev Cert.Pw1RefIdeal.nD,
          r.2.mem ((c.tc : Thread Cert.Pw1RefIdeal.nD Cert.Pw1RefIdeal.τ).loc Cert.Pw1RefIdeal.main_v6) = v0 c
          ∧ r.2.mem ((c.tc : Thread Cert.Pw1RefIdeal.nD Cert.Pw1RefIdeal.τ).loc Cert.Pw1RefIdeal.main_v9) = v1 c
          ∧ r.2.mem ((c.tc : Thread Cert.Pw1RefIdeal.nD Cert.Pw1RefIdeal.τ).loc Cert.Pw1RefIdeal.main_arg0) = m' ((c.tc : Thread Cert.Pw1RefIdeal.nD Cert.Pw1RefIdeal.τ).loc Cert.Pw1RefIdeal.main_arg0)
          ∧ r.2.mem ((c.tc : Thread Cert.Pw1RefIdeal.nD Cert.Pw1RefIdeal.τ).loc Cert.Pw1RefIdeal.main_arg1) = m' ((c.tc : Thread Cert.Pw1RefIdeal.nD Cert.Pw1RefIdeal.τ).loc Cert.Pw1RefIdeal.main_arg1)
          ∧ r.2.mem ((c.tc : Thread Cert.Pw1RefIdeal.nD Cert.Pw1RefIdeal.τ).loc Cert.Pw1RefIdeal.main_arg2) = m' ((c.tc : Thread Cert.Pw1RefIdeal.nD Cert.Pw1RefIdeal.τ).loc Cert.Pw1RefIdeal.main_arg2)
          ∧ r.2.mem ((c.tc : Thread Cert.Pw1RefIdeal.nD Cert.Pw1RefIdeal.τ).loc Cert.Pw1RefIdeal.main_arg3) = m' ((c.tc : Thread Cert.Pw1RefIdeal.nD Cert.Pw1RefIdeal.τ).loc Cert.Pw1RefIdeal.main_arg3))

def preserves_Xlin0_Xlin0Ideal : Prop :=
  True

def algebraic_Xlin0Ideal_XlinRef0Ideal [hXlin0Ideal : Cert.Xlin0Ideal.Facts] [hXlinRef0Ideal : Cert.XlinRef0Ideal.Facts] : Prop :=
  ∀ (m : (ℓ : Loc Cert.Xlin0Ideal.nD Cert.Xlin0Ideal.τ Cert.Xlin0Ideal.sig) → Buf (Elt Ideal) ℓ) (g : Dev Cert.Xlin0Ideal.nD → PrngReg)
    (m' : (ℓ : Loc Cert.XlinRef0Ideal.nD Cert.XlinRef0Ideal.τ Cert.XlinRef0Ideal.sig) → Buf (Elt Ideal) ℓ) (g' : Dev Cert.XlinRef0Ideal.nD → PrngReg), Pre_Xlin0Ideal m →
    (∀ c : Dev Cert.Xlin0Ideal.nD,
      m' ((c.tc : Thread Cert.XlinRef0Ideal.nD Cert.XlinRef0Ideal.τ).loc Cert.XlinRef0Ideal.main_arg0) = m ((c.tc : Thread Cert.Xlin0Ideal.nD Cert.Xlin0Ideal.τ).loc Cert.Xlin0Ideal.main_arg0)
      ∧ m' ((c.tc : Thread Cert.XlinRef0Ideal.nD Cert.XlinRef0Ideal.τ).loc Cert.XlinRef0Ideal.main_arg1) = m ((c.tc : Thread Cert.Xlin0Ideal.nD Cert.Xlin0Ideal.τ).loc Cert.Xlin0Ideal.main_arg1)
      ∧ m' ((c.tc : Thread Cert.XlinRef0Ideal.nD Cert.XlinRef0Ideal.τ).loc Cert.XlinRef0Ideal.main_arg2) = m ((c.tc : Thread Cert.Xlin0Ideal.nD Cert.Xlin0Ideal.τ).loc Cert.Xlin0Ideal.main_arg2)
      ∧ m' ((c.tc : Thread Cert.XlinRef0Ideal.nD Cert.XlinRef0Ideal.τ).loc Cert.XlinRef0Ideal.main_arg3) = m ((c.tc : Thread Cert.Xlin0Ideal.nD Cert.Xlin0Ideal.τ).loc Cert.Xlin0Ideal.main_arg3)
      ∧ m' ((c.tc : Thread Cert.XlinRef0Ideal.nD Cert.XlinRef0Ideal.τ).loc Cert.XlinRef0Ideal.main_arg4) = m ((c.tc : Thread Cert.Xlin0Ideal.nD Cert.Xlin0Ideal.τ).loc Cert.Xlin0Ideal.main_arg4)
      ∧ m' ((c.tc : Thread Cert.XlinRef0Ideal.nD Cert.XlinRef0Ideal.τ).loc Cert.XlinRef0Ideal.main_arg5) = m ((c.tc : Thread Cert.Xlin0Ideal.nD Cert.Xlin0Ideal.τ).loc Cert.Xlin0Ideal.main_arg5)) →
    ∃ (v0 : (c : Dev Cert.Xlin0Ideal.nD) → Buf (Elt Ideal) ((c.tc : Thread Cert.Xlin0Ideal.nD Cert.Xlin0Ideal.τ).loc Cert.Xlin0Ideal.main_v10)) (v1 : (c : Dev Cert.Xlin0Ideal.nD) → Buf (Elt Ideal) ((c.tc : Thread Cert.Xlin0Ideal.nD Cert.Xlin0Ideal.τ).loc Cert.Xlin0Ideal.main_v11)) (v2 : (c : Dev Cert.Xlin0Ideal.nD) → Buf (Elt Ideal) ((c.tc : Thread Cert.Xlin0Ideal.nD Cert.Xlin0Ideal.τ).loc Cert.Xlin0Ideal.main_v13)) (v3 : (c : Dev Cert.Xlin0Ideal.nD) → Buf (Elt Ideal) ((c.tc : Thread Cert.Xlin0Ideal.nD Cert.Xlin0Ideal.τ).loc Cert.Xlin0Ideal.main_v15)),
      θ_run (Cert.Xlin0Ideal.defs (F := Ideal)) (onTc (τ := Cert.Xlin0Ideal.τ) (Cert.Xlin0Ideal.main (F := Ideal))) ⟨m, fun _ => 0, g⟩ (fun r => ∀ c : Dev Cert.Xlin0Ideal.nD,
          r.2.mem ((c.tc : Thread Cert.Xlin0Ideal.nD Cert.Xlin0Ideal.τ).loc Cert.Xlin0Ideal.main_v10) = v0 c
          ∧ r.2.mem ((c.tc : Thread Cert.Xlin0Ideal.nD Cert.Xlin0Ideal.τ).loc Cert.Xlin0Ideal.main_v11) = v1 c
          ∧ r.2.mem ((c.tc : Thread Cert.Xlin0Ideal.nD Cert.Xlin0Ideal.τ).loc Cert.Xlin0Ideal.main_v13) = v2 c
          ∧ r.2.mem ((c.tc : Thread Cert.Xlin0Ideal.nD Cert.Xlin0Ideal.τ).loc Cert.Xlin0Ideal.main_v15) = v3 c
          ∧ r.2.mem ((c.tc : Thread Cert.Xlin0Ideal.nD Cert.Xlin0Ideal.τ).loc Cert.Xlin0Ideal.main_arg0) = m ((c.tc : Thread Cert.Xlin0Ideal.nD Cert.Xlin0Ideal.τ).loc Cert.Xlin0Ideal.main_arg0)
          ∧ r.2.mem ((c.tc : Thread Cert.Xlin0Ideal.nD Cert.Xlin0Ideal.τ).loc Cert.Xlin0Ideal.main_arg1) = m ((c.tc : Thread Cert.Xlin0Ideal.nD Cert.Xlin0Ideal.τ).loc Cert.Xlin0Ideal.main_arg1)
          ∧ r.2.mem ((c.tc : Thread Cert.Xlin0Ideal.nD Cert.Xlin0Ideal.τ).loc Cert.Xlin0Ideal.main_arg2) = m ((c.tc : Thread Cert.Xlin0Ideal.nD Cert.Xlin0Ideal.τ).loc Cert.Xlin0Ideal.main_arg2)
          ∧ r.2.mem ((c.tc : Thread Cert.Xlin0Ideal.nD Cert.Xlin0Ideal.τ).loc Cert.Xlin0Ideal.main_arg3) = m ((c.tc : Thread Cert.Xlin0Ideal.nD Cert.Xlin0Ideal.τ).loc Cert.Xlin0Ideal.main_arg3)
          ∧ r.2.mem ((c.tc : Thread Cert.Xlin0Ideal.nD Cert.Xlin0Ideal.τ).loc Cert.Xlin0Ideal.main_arg4) = m ((c.tc : Thread Cert.Xlin0Ideal.nD Cert.Xlin0Ideal.τ).loc Cert.Xlin0Ideal.main_arg4)
          ∧ r.2.mem ((c.tc : Thread Cert.Xlin0Ideal.nD Cert.Xlin0Ideal.τ).loc Cert.Xlin0Ideal.main_arg5) = m ((c.tc : Thread Cert.Xlin0Ideal.nD Cert.Xlin0Ideal.τ).loc Cert.Xlin0Ideal.main_arg5))
      ∧ θ_run (Cert.XlinRef0Ideal.defs (F := Ideal)) (onTc (τ := Cert.XlinRef0Ideal.τ) (Cert.XlinRef0Ideal.main (F := Ideal))) ⟨m', fun _ => 0, g'⟩ (fun r => ∀ c : Dev Cert.XlinRef0Ideal.nD,
          r.2.mem ((c.tc : Thread Cert.XlinRef0Ideal.nD Cert.XlinRef0Ideal.τ).loc Cert.XlinRef0Ideal.main_v3) = v0 c
          ∧ r.2.mem ((c.tc : Thread Cert.XlinRef0Ideal.nD Cert.XlinRef0Ideal.τ).loc Cert.XlinRef0Ideal.main_v11) = v1 c
          ∧ r.2.mem ((c.tc : Thread Cert.XlinRef0Ideal.nD Cert.XlinRef0Ideal.τ).loc Cert.XlinRef0Ideal.main_v10) = v2 c
          ∧ r.2.mem ((c.tc : Thread Cert.XlinRef0Ideal.nD Cert.XlinRef0Ideal.τ).loc Cert.XlinRef0Ideal.main_v14) = v3 c
          ∧ r.2.mem ((c.tc : Thread Cert.XlinRef0Ideal.nD Cert.XlinRef0Ideal.τ).loc Cert.XlinRef0Ideal.main_arg0) = m' ((c.tc : Thread Cert.XlinRef0Ideal.nD Cert.XlinRef0Ideal.τ).loc Cert.XlinRef0Ideal.main_arg0)
          ∧ r.2.mem ((c.tc : Thread Cert.XlinRef0Ideal.nD Cert.XlinRef0Ideal.τ).loc Cert.XlinRef0Ideal.main_arg1) = m' ((c.tc : Thread Cert.XlinRef0Ideal.nD Cert.XlinRef0Ideal.τ).loc Cert.XlinRef0Ideal.main_arg1)
          ∧ r.2.mem ((c.tc : Thread Cert.XlinRef0Ideal.nD Cert.XlinRef0Ideal.τ).loc Cert.XlinRef0Ideal.main_arg2) = m' ((c.tc : Thread Cert.XlinRef0Ideal.nD Cert.XlinRef0Ideal.τ).loc Cert.XlinRef0Ideal.main_arg2)
          ∧ r.2.mem ((c.tc : Thread Cert.XlinRef0Ideal.nD Cert.XlinRef0Ideal.τ).loc Cert.XlinRef0Ideal.main_arg3) = m' ((c.tc : Thread Cert.XlinRef0Ideal.nD Cert.XlinRef0Ideal.τ).loc Cert.XlinRef0Ideal.main_arg3)
          ∧ r.2.mem ((c.tc : Thread Cert.XlinRef0Ideal.nD Cert.XlinRef0Ideal.τ).loc Cert.XlinRef0Ideal.main_arg4) = m' ((c.tc : Thread Cert.XlinRef0Ideal.nD Cert.XlinRef0Ideal.τ).loc Cert.XlinRef0Ideal.main_arg4)
          ∧ r.2.mem ((c.tc : Thread Cert.XlinRef0Ideal.nD Cert.XlinRef0Ideal.τ).loc Cert.XlinRef0Ideal.main_arg5) = m' ((c.tc : Thread Cert.XlinRef0Ideal.nD Cert.XlinRef0Ideal.τ).loc Cert.XlinRef0Ideal.main_arg5))

def preserves_Xlin1_Xlin1Ideal : Prop :=
  True

def algebraic_Xlin1Ideal_XlinRef1Ideal [hXlin1Ideal : Cert.Xlin1Ideal.Facts] [hXlinRef1Ideal : Cert.XlinRef1Ideal.Facts] : Prop :=
  ∀ (m : (ℓ : Loc Cert.Xlin1Ideal.nD Cert.Xlin1Ideal.τ Cert.Xlin1Ideal.sig) → Buf (Elt Ideal) ℓ) (g : Dev Cert.Xlin1Ideal.nD → PrngReg)
    (m' : (ℓ : Loc Cert.XlinRef1Ideal.nD Cert.XlinRef1Ideal.τ Cert.XlinRef1Ideal.sig) → Buf (Elt Ideal) ℓ) (g' : Dev Cert.XlinRef1Ideal.nD → PrngReg), Pre_Xlin1Ideal m →
    (∀ c : Dev Cert.Xlin1Ideal.nD,
      m' ((c.tc : Thread Cert.XlinRef1Ideal.nD Cert.XlinRef1Ideal.τ).loc Cert.XlinRef1Ideal.main_arg0) = m ((c.tc : Thread Cert.Xlin1Ideal.nD Cert.Xlin1Ideal.τ).loc Cert.Xlin1Ideal.main_arg0)
      ∧ m' ((c.tc : Thread Cert.XlinRef1Ideal.nD Cert.XlinRef1Ideal.τ).loc Cert.XlinRef1Ideal.main_arg1) = m ((c.tc : Thread Cert.Xlin1Ideal.nD Cert.Xlin1Ideal.τ).loc Cert.Xlin1Ideal.main_arg1)
      ∧ m' ((c.tc : Thread Cert.XlinRef1Ideal.nD Cert.XlinRef1Ideal.τ).loc Cert.XlinRef1Ideal.main_arg2) = m ((c.tc : Thread Cert.Xlin1Ideal.nD Cert.Xlin1Ideal.τ).loc Cert.Xlin1Ideal.main_arg2)
      ∧ m' ((c.tc : Thread Cert.XlinRef1Ideal.nD Cert.XlinRef1Ideal.τ).loc Cert.XlinRef1Ideal.main_arg3) = m ((c.tc : Thread Cert.Xlin1Ideal.nD Cert.Xlin1Ideal.τ).loc Cert.Xlin1Ideal.main_arg3)
      ∧ m' ((c.tc : Thread Cert.XlinRef1Ideal.nD Cert.XlinRef1Ideal.τ).loc Cert.XlinRef1Ideal.main_arg4) = m ((c.tc : Thread Cert.Xlin1Ideal.nD Cert.Xlin1Ideal.τ).loc Cert.Xlin1Ideal.main_arg4)
      ∧ m' ((c.tc : Thread Cert.XlinRef1Ideal.nD Cert.XlinRef1Ideal.τ).loc Cert.XlinRef1Ideal.main_arg5) = m ((c.tc : Thread Cert.Xlin1Ideal.nD Cert.Xlin1Ideal.τ).loc Cert.Xlin1Ideal.main_arg5)) →
    ∃ (v0 : (c : Dev Cert.Xlin1Ideal.nD) → Buf (Elt Ideal) ((c.tc : Thread Cert.Xlin1Ideal.nD Cert.Xlin1Ideal.τ).loc Cert.Xlin1Ideal.main_v10)) (v1 : (c : Dev Cert.Xlin1Ideal.nD) → Buf (Elt Ideal) ((c.tc : Thread Cert.Xlin1Ideal.nD Cert.Xlin1Ideal.τ).loc Cert.Xlin1Ideal.main_v11)) (v2 : (c : Dev Cert.Xlin1Ideal.nD) → Buf (Elt Ideal) ((c.tc : Thread Cert.Xlin1Ideal.nD Cert.Xlin1Ideal.τ).loc Cert.Xlin1Ideal.main_v13)) (v3 : (c : Dev Cert.Xlin1Ideal.nD) → Buf (Elt Ideal) ((c.tc : Thread Cert.Xlin1Ideal.nD Cert.Xlin1Ideal.τ).loc Cert.Xlin1Ideal.main_v15)),
      θ_run (Cert.Xlin1Ideal.defs (F := Ideal)) (onTc (τ := Cert.Xlin1Ideal.τ) (Cert.Xlin1Ideal.main (F := Ideal))) ⟨m, fun _ => 0, g⟩ (fun r => ∀ c : Dev Cert.Xlin1Ideal.nD,
          r.2.mem ((c.tc : Thread Cert.Xlin1Ideal.nD Cert.Xlin1Ideal.τ).loc Cert.Xlin1Ideal.main_v10) = v0 c
          ∧ r.2.mem ((c.tc : Thread Cert.Xlin1Ideal.nD Cert.Xlin1Ideal.τ).loc Cert.Xlin1Ideal.main_v11) = v1 c
          ∧ r.2.mem ((c.tc : Thread Cert.Xlin1Ideal.nD Cert.Xlin1Ideal.τ).loc Cert.Xlin1Ideal.main_v13) = v2 c
          ∧ r.2.mem ((c.tc : Thread Cert.Xlin1Ideal.nD Cert.Xlin1Ideal.τ).loc Cert.Xlin1Ideal.main_v15) = v3 c
          ∧ r.2.mem ((c.tc : Thread Cert.Xlin1Ideal.nD Cert.Xlin1Ideal.τ).loc Cert.Xlin1Ideal.main_arg0) = m ((c.tc : Thread Cert.Xlin1Ideal.nD Cert.Xlin1Ideal.τ).loc Cert.Xlin1Ideal.main_arg0)
          ∧ r.2.mem ((c.tc : Thread Cert.Xlin1Ideal.nD Cert.Xlin1Ideal.τ).loc Cert.Xlin1Ideal.main_arg1) = m ((c.tc : Thread Cert.Xlin1Ideal.nD Cert.Xlin1Ideal.τ).loc Cert.Xlin1Ideal.main_arg1)
          ∧ r.2.mem ((c.tc : Thread Cert.Xlin1Ideal.nD Cert.Xlin1Ideal.τ).loc Cert.Xlin1Ideal.main_arg2) = m ((c.tc : Thread Cert.Xlin1Ideal.nD Cert.Xlin1Ideal.τ).loc Cert.Xlin1Ideal.main_arg2)
          ∧ r.2.mem ((c.tc : Thread Cert.Xlin1Ideal.nD Cert.Xlin1Ideal.τ).loc Cert.Xlin1Ideal.main_arg3) = m ((c.tc : Thread Cert.Xlin1Ideal.nD Cert.Xlin1Ideal.τ).loc Cert.Xlin1Ideal.main_arg3)
          ∧ r.2.mem ((c.tc : Thread Cert.Xlin1Ideal.nD Cert.Xlin1Ideal.τ).loc Cert.Xlin1Ideal.main_arg4) = m ((c.tc : Thread Cert.Xlin1Ideal.nD Cert.Xlin1Ideal.τ).loc Cert.Xlin1Ideal.main_arg4)
          ∧ r.2.mem ((c.tc : Thread Cert.Xlin1Ideal.nD Cert.Xlin1Ideal.τ).loc Cert.Xlin1Ideal.main_arg5) = m ((c.tc : Thread Cert.Xlin1Ideal.nD Cert.Xlin1Ideal.τ).loc Cert.Xlin1Ideal.main_arg5))
      ∧ θ_run (Cert.XlinRef1Ideal.defs (F := Ideal)) (onTc (τ := Cert.XlinRef1Ideal.τ) (Cert.XlinRef1Ideal.main (F := Ideal))) ⟨m', fun _ => 0, g'⟩ (fun r => ∀ c : Dev Cert.XlinRef1Ideal.nD,
          r.2.mem ((c.tc : Thread Cert.XlinRef1Ideal.nD Cert.XlinRef1Ideal.τ).loc Cert.XlinRef1Ideal.main_v3) = v0 c
          ∧ r.2.mem ((c.tc : Thread Cert.XlinRef1Ideal.nD Cert.XlinRef1Ideal.τ).loc Cert.XlinRef1Ideal.main_v11) = v1 c
          ∧ r.2.mem ((c.tc : Thread Cert.XlinRef1Ideal.nD Cert.XlinRef1Ideal.τ).loc Cert.XlinRef1Ideal.main_v10) = v2 c
          ∧ r.2.mem ((c.tc : Thread Cert.XlinRef1Ideal.nD Cert.XlinRef1Ideal.τ).loc Cert.XlinRef1Ideal.main_v14) = v3 c
          ∧ r.2.mem ((c.tc : Thread Cert.XlinRef1Ideal.nD Cert.XlinRef1Ideal.τ).loc Cert.XlinRef1Ideal.main_arg0) = m' ((c.tc : Thread Cert.XlinRef1Ideal.nD Cert.XlinRef1Ideal.τ).loc Cert.XlinRef1Ideal.main_arg0)
          ∧ r.2.mem ((c.tc : Thread Cert.XlinRef1Ideal.nD Cert.XlinRef1Ideal.τ).loc Cert.XlinRef1Ideal.main_arg1) = m' ((c.tc : Thread Cert.XlinRef1Ideal.nD Cert.XlinRef1Ideal.τ).loc Cert.XlinRef1Ideal.main_arg1)
          ∧ r.2.mem ((c.tc : Thread Cert.XlinRef1Ideal.nD Cert.XlinRef1Ideal.τ).loc Cert.XlinRef1Ideal.main_arg2) = m' ((c.tc : Thread Cert.XlinRef1Ideal.nD Cert.XlinRef1Ideal.τ).loc Cert.XlinRef1Ideal.main_arg2)
          ∧ r.2.mem ((c.tc : Thread Cert.XlinRef1Ideal.nD Cert.XlinRef1Ideal.τ).loc Cert.XlinRef1Ideal.main_arg3) = m' ((c.tc : Thread Cert.XlinRef1Ideal.nD Cert.XlinRef1Ideal.τ).loc Cert.XlinRef1Ideal.main_arg3)
          ∧ r.2.mem ((c.tc : Thread Cert.XlinRef1Ideal.nD Cert.XlinRef1Ideal.τ).loc Cert.XlinRef1Ideal.main_arg4) = m' ((c.tc : Thread Cert.XlinRef1Ideal.nD Cert.XlinRef1Ideal.τ).loc Cert.XlinRef1Ideal.main_arg4)
          ∧ r.2.mem ((c.tc : Thread Cert.XlinRef1Ideal.nD Cert.XlinRef1Ideal.τ).loc Cert.XlinRef1Ideal.main_arg5) = m' ((c.tc : Thread Cert.XlinRef1Ideal.nD Cert.XlinRef1Ideal.τ).loc Cert.XlinRef1Ideal.main_arg5))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)
      ∧ m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5)) →
    ∃ (v0 : (c : Dev Cert.WoutIdeal.nD) → Buf (Elt Ideal) ((c.tc : Thread Cert.WoutIdeal.nD Cert.WoutIdeal.τ).loc Cert.WoutIdeal.main_v10)) (v1 : (c : Dev Cert.WoutIdeal.nD) → Buf (Elt Ideal) ((c.tc : Thread Cert.WoutIdeal.nD Cert.WoutIdeal.τ).loc Cert.WoutIdeal.main_v11)) (v2 : (c : Dev Cert.WoutIdeal.nD) → Buf (Elt Ideal) ((c.tc : Thread Cert.WoutIdeal.nD Cert.WoutIdeal.τ).loc Cert.WoutIdeal.main_v13)) (v3 : (c : Dev Cert.WoutIdeal.nD) → Buf (Elt Ideal) ((c.tc : Thread Cert.WoutIdeal.nD Cert.WoutIdeal.τ).loc Cert.WoutIdeal.main_v15)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v10) = v0 c
          ∧ r.2.mem ((c.tc : Thread Cert.WoutIdeal.nD Cert.WoutIdeal.τ).loc Cert.WoutIdeal.main_v11) = v1 c
          ∧ r.2.mem ((c.tc : Thread Cert.WoutIdeal.nD Cert.WoutIdeal.τ).loc Cert.WoutIdeal.main_v13) = v2 c
          ∧ r.2.mem ((c.tc : Thread Cert.WoutIdeal.nD Cert.WoutIdeal.τ).loc Cert.WoutIdeal.main_v15) = v3 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
          ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v6) = v0 c
          ∧ r.2.mem ((c.tc : Thread Cert.WoutRefIdeal.nD Cert.WoutRefIdeal.τ).loc Cert.WoutRefIdeal.main_v13) = v1 c
          ∧ r.2.mem ((c.tc : Thread Cert.WoutRefIdeal.nD Cert.WoutRefIdeal.τ).loc Cert.WoutRefIdeal.main_v5) = v2 c
          ∧ r.2.mem ((c.tc : Thread Cert.WoutRefIdeal.nD Cert.WoutRefIdeal.τ).loc Cert.WoutRefIdeal.main_v12) = v3 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4)
          ∧ r.2.mem ((c.tc : Thread Cert.WoutRefIdeal.nD Cert.WoutRefIdeal.τ).loc Cert.WoutRefIdeal.main_arg5) = m' ((c.tc : Thread Cert.WoutRefIdeal.nD Cert.WoutRefIdeal.τ).loc Cert.WoutRefIdeal.main_arg5))

def preserves_Down1_Down1Ideal : Prop :=
  True

def algebraic_Down1Ideal_DownRef1Ideal [hDown1Ideal : Cert.Down1Ideal.Facts] [hDownRef1Ideal : Cert.DownRef1Ideal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.DownRef1Ideal.nD Cert.DownRef1Ideal.τ Cert.DownRef1Ideal.sig) → Buf (Elt Ideal) ℓ) (g' : Dev Cert.DownRef1Ideal.nD → PrngReg), Pre_Down1Ideal m →
    (∀ c : Dev Cert.Down1Ideal.nD,
      m' ((c.tc : Thread Cert.DownRef1Ideal.nD Cert.DownRef1Ideal.τ).loc Cert.DownRef1Ideal.main_arg0) = m ((c.tc : Thread Cert.Down1Ideal.nD Cert.Down1Ideal.τ).loc Cert.Down1Ideal.main_arg0)
      ∧ m' ((c.tc : Thread Cert.DownRef1Ideal.nD Cert.DownRef1Ideal.τ).loc Cert.DownRef1Ideal.main_arg1) = m ((c.tc : Thread Cert.Down1Ideal.nD Cert.Down1Ideal.τ).loc Cert.Down1Ideal.main_arg1)
      ∧ m' ((c.tc : Thread Cert.DownRef1Ideal.nD Cert.DownRef1Ideal.τ).loc Cert.DownRef1Ideal.main_arg2) = m ((c.tc : Thread Cert.Down1Ideal.nD Cert.Down1Ideal.τ).loc Cert.Down1Ideal.main_arg2)) →
    ∃ (v0 : (c : Dev Cert.Down1Ideal.nD) → Buf (Elt Ideal) ((c.tc : Thread Cert.Down1Ideal.nD Cert.Down1Ideal.τ).loc Cert.Down1Ideal.main_v3)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v3) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2))
      ∧ θ_run (Cert.DownRef1Ideal.defs (F := Ideal)) (onTc (τ := Cert.DownRef1Ideal.τ) (Cert.DownRef1Ideal.main (F := Ideal))) ⟨m', fun _ => 0, g'⟩ (fun r => ∀ c : Dev Cert.DownRef1Ideal.nD,
          r.2.mem ((c.tc : Thread Cert.DownRef1Ideal.nD Cert.DownRef1Ideal.τ).loc Cert.DownRef1Ideal.main_v4) = v0 c
          ∧ r.2.mem ((c.tc : Thread Cert.DownRef1Ideal.nD Cert.DownRef1Ideal.τ).loc Cert.DownRef1Ideal.main_arg0) = m' ((c.tc : Thread Cert.DownRef1Ideal.nD Cert.DownRef1Ideal.τ).loc Cert.DownRef1Ideal.main_arg0)
          ∧ r.2.mem ((c.tc : Thread Cert.DownRef1Ideal.nD Cert.DownRef1Ideal.τ).loc Cert.DownRef1Ideal.main_arg1) = m' ((c.tc : Thread Cert.DownRef1Ideal.nD Cert.DownRef1Ideal.τ).loc Cert.DownRef1Ideal.main_arg1)
          ∧ r.2.mem ((c.tc : Thread Cert.DownRef1Ideal.nD Cert.DownRef1Ideal.τ).loc Cert.DownRef1Ideal.main_arg2) = m' ((c.tc : Thread Cert.DownRef1Ideal.nD Cert.DownRef1Ideal.τ).loc Cert.DownRef1Ideal.main_arg2))

def preserves_Down0_Down0Ideal : Prop :=
  True

def algebraic_Down0Ideal_DownRef0Ideal [hDown0Ideal : Cert.Down0Ideal.Facts] [hDownRef0Ideal : Cert.DownRef0Ideal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.DownRef0Ideal.nD Cert.DownRef0Ideal.τ Cert.DownRef0Ideal.sig) → Buf (Elt Ideal) ℓ) (g' : Dev Cert.DownRef0Ideal.nD → PrngReg), Pre_Down0Ideal m →
    (∀ c : Dev Cert.Down0Ideal.nD,
      m' ((c.tc : Thread Cert.DownRef0Ideal.nD Cert.DownRef0Ideal.τ).loc Cert.DownRef0Ideal.main_arg0) = m ((c.tc : Thread Cert.Down0Ideal.nD Cert.Down0Ideal.τ).loc Cert.Down0Ideal.main_arg0)
      ∧ m' ((c.tc : Thread Cert.DownRef0Ideal.nD Cert.DownRef0Ideal.τ).loc Cert.DownRef0Ideal.main_arg1) = m ((c.tc : Thread Cert.Down0Ideal.nD Cert.Down0Ideal.τ).loc Cert.Down0Ideal.main_arg1)
      ∧ m' ((c.tc : Thread Cert.DownRef0Ideal.nD Cert.DownRef0Ideal.τ).loc Cert.DownRef0Ideal.main_arg2) = m ((c.tc : Thread Cert.Down0Ideal.nD Cert.Down0Ideal.τ).loc Cert.Down0Ideal.main_arg2)
      ∧ m' ((c.tc : Thread Cert.DownRef0Ideal.nD Cert.DownRef0Ideal.τ).loc Cert.DownRef0Ideal.main_arg3) = m ((c.tc : Thread Cert.Down0Ideal.nD Cert.Down0Ideal.τ).loc Cert.Down0Ideal.main_arg3)) →
    ∃ (v0 : (c : Dev Cert.Down0Ideal.nD) → Buf (Elt Ideal) ((c.tc : Thread Cert.Down0Ideal.nD Cert.Down0Ideal.τ).loc Cert.Down0Ideal.main_v5_0)) (v1 : (c : Dev Cert.Down0Ideal.nD) → Buf (Elt Ideal) ((c.tc : Thread Cert.Down0Ideal.nD Cert.Down0Ideal.τ).loc Cert.Down0Ideal.main_v5_1)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v5_0) = v0 c
          ∧ r.2.mem ((c.tc : Thread Cert.Down0Ideal.nD Cert.Down0Ideal.τ).loc Cert.Down0Ideal.main_v5_1) = v1 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ θ_run (Cert.DownRef0Ideal.defs (F := Ideal)) (onTc (τ := Cert.DownRef0Ideal.τ) (Cert.DownRef0Ideal.main (F := Ideal))) ⟨m', fun _ => 0, g'⟩ (fun r => ∀ c : Dev Cert.DownRef0Ideal.nD,
          r.2.mem ((c.tc : Thread Cert.DownRef0Ideal.nD Cert.DownRef0Ideal.τ).loc Cert.DownRef0Ideal.main_v4) = v0 c
          ∧ r.2.mem ((c.tc : Thread Cert.DownRef0Ideal.nD Cert.DownRef0Ideal.τ).loc Cert.DownRef0Ideal.main_v19) = v1 c
          ∧ r.2.mem ((c.tc : Thread Cert.DownRef0Ideal.nD Cert.DownRef0Ideal.τ).loc Cert.DownRef0Ideal.main_arg0) = m' ((c.tc : Thread Cert.DownRef0Ideal.nD Cert.DownRef0Ideal.τ).loc Cert.DownRef0Ideal.main_arg0)
          ∧ r.2.mem ((c.tc : Thread Cert.DownRef0Ideal.nD Cert.DownRef0Ideal.τ).loc Cert.DownRef0Ideal.main_arg1) = m' ((c.tc : Thread Cert.DownRef0Ideal.nD Cert.DownRef0Ideal.τ).loc Cert.DownRef0Ideal.main_arg1)
          ∧ r.2.mem ((c.tc : Thread Cert.DownRef0Ideal.nD Cert.DownRef0Ideal.τ).loc Cert.DownRef0Ideal.main_arg2) = m' ((c.tc : Thread Cert.DownRef0Ideal.nD Cert.DownRef0Ideal.τ).loc Cert.DownRef0Ideal.main_arg2)
          ∧ r.2.mem ((c.tc : Thread Cert.DownRef0Ideal.nD Cert.DownRef0Ideal.τ).loc Cert.DownRef0Ideal.main_arg3) = m' ((c.tc : Thread Cert.DownRef0Ideal.nD Cert.DownRef0Ideal.τ).loc Cert.DownRef0Ideal.main_arg3))

def preserves_Mdn0_Mdn0Ideal : Prop :=
  True

def algebraic_Mdn0Ideal_MdnRef0Ideal [hMdn0Ideal : Cert.Mdn0Ideal.Facts] [hMdnRef0Ideal : Cert.MdnRef0Ideal.Facts] : Prop :=
  ∀ (m : (ℓ : Loc Cert.Mdn0Ideal.nD Cert.Mdn0Ideal.τ Cert.Mdn0Ideal.sig) → Buf (Elt Ideal) ℓ) (g : Dev Cert.Mdn0Ideal.nD → PrngReg)
    (m' : (ℓ : Loc Cert.MdnRef0Ideal.nD Cert.MdnRef0Ideal.τ Cert.MdnRef0Ideal.sig) → Buf (Elt Ideal) ℓ) (g' : Dev Cert.MdnRef0Ideal.nD → PrngReg), Pre_Mdn0Ideal m →
    (∀ c : Dev Cert.Mdn0Ideal.nD,
      m' ((c.tc : Thread Cert.MdnRef0Ideal.nD Cert.MdnRef0Ideal.τ).loc Cert.MdnRef0Ideal.main_arg0) = m ((c.tc : Thread Cert.Mdn0Ideal.nD Cert.Mdn0Ideal.τ).loc Cert.Mdn0Ideal.main_arg0)
      ∧ m' ((c.tc : Thread Cert.MdnRef0Ideal.nD Cert.MdnRef0Ideal.τ).loc Cert.MdnRef0Ideal.main_arg1) = m ((c.tc : Thread Cert.Mdn0Ideal.nD Cert.Mdn0Ideal.τ).loc Cert.Mdn0Ideal.main_arg1)
      ∧ m' ((c.tc : Thread Cert.MdnRef0Ideal.nD Cert.MdnRef0Ideal.τ).loc Cert.MdnRef0Ideal.main_arg2) = m ((c.tc : Thread Cert.Mdn0Ideal.nD Cert.Mdn0Ideal.τ).loc Cert.Mdn0Ideal.main_arg2)
      ∧ m' ((c.tc : Thread Cert.MdnRef0Ideal.nD Cert.MdnRef0Ideal.τ).loc Cert.MdnRef0Ideal.main_arg3) = m ((c.tc : Thread Cert.Mdn0Ideal.nD Cert.Mdn0Ideal.τ).loc Cert.Mdn0Ideal.main_arg3)
      ∧ m' ((c.tc : Thread Cert.MdnRef0Ideal.nD Cert.MdnRef0Ideal.τ).loc Cert.MdnRef0Ideal.main_arg4) = m ((c.tc : Thread Cert.Mdn0Ideal.nD Cert.Mdn0Ideal.τ).loc Cert.Mdn0Ideal.main_arg4)) →
    ∃ (v0 : (c : Dev Cert.Mdn0Ideal.nD) → Buf (Elt Ideal) ((c.tc : Thread Cert.Mdn0Ideal.nD Cert.Mdn0Ideal.τ).loc Cert.Mdn0Ideal.main_v6_0)) (v1 : (c : Dev Cert.Mdn0Ideal.nD) → Buf (Elt Ideal) ((c.tc : Thread Cert.Mdn0Ideal.nD Cert.Mdn0Ideal.τ).loc Cert.Mdn0Ideal.main_v6_1)) (v2 : (c : Dev Cert.Mdn0Ideal.nD) → Buf (Elt Ideal) ((c.tc : Thread Cert.Mdn0Ideal.nD Cert.Mdn0Ideal.τ).loc Cert.Mdn0Ideal.main_v6_2)),
      θ_run (Cert.Mdn0Ideal.defs (F := Ideal)) (onTc (τ := Cert.Mdn0Ideal.τ) (Cert.Mdn0Ideal.main (F := Ideal))) ⟨m, fun _ => 0, g⟩ (fun r => ∀ c : Dev Cert.Mdn0Ideal.nD,
          r.2.mem ((c.tc : Thread Cert.Mdn0Ideal.nD Cert.Mdn0Ideal.τ).loc Cert.Mdn0Ideal.main_v6_0) = v0 c
          ∧ r.2.mem ((c.tc : Thread Cert.Mdn0Ideal.nD Cert.Mdn0Ideal.τ).loc Cert.Mdn0Ideal.main_v6_1) = v1 c
          ∧ r.2.mem ((c.tc : Thread Cert.Mdn0Ideal.nD Cert.Mdn0Ideal.τ).loc Cert.Mdn0Ideal.main_v6_2) = v2 c
          ∧ r.2.mem ((c.tc : Thread Cert.Mdn0Ideal.nD Cert.Mdn0Ideal.τ).loc Cert.Mdn0Ideal.main_arg0) = m ((c.tc : Thread Cert.Mdn0Ideal.nD Cert.Mdn0Ideal.τ).loc Cert.Mdn0Ideal.main_arg0)
          ∧ r.2.mem ((c.tc : Thread Cert.Mdn0Ideal.nD Cert.Mdn0Ideal.τ).loc Cert.Mdn0Ideal.main_arg1) = m ((c.tc : Thread Cert.Mdn0Ideal.nD Cert.Mdn0Ideal.τ).loc Cert.Mdn0Ideal.main_arg1)
          ∧ r.2.mem ((c.tc : Thread Cert.Mdn0Ideal.nD Cert.Mdn0Ideal.τ).loc Cert.Mdn0Ideal.main_arg2) = m ((c.tc : Thread Cert.Mdn0Ideal.nD Cert.Mdn0Ideal.τ).loc Cert.Mdn0Ideal.main_arg2)
          ∧ r.2.mem ((c.tc : Thread Cert.Mdn0Ideal.nD Cert.Mdn0Ideal.τ).loc Cert.Mdn0Ideal.main_arg3) = m ((c.tc : Thread Cert.Mdn0Ideal.nD Cert.Mdn0Ideal.τ).loc Cert.Mdn0Ideal.main_arg3)
          ∧ r.2.mem ((c.tc : Thread Cert.Mdn0Ideal.nD Cert.Mdn0Ideal.τ).loc Cert.Mdn0Ideal.main_arg4) = m ((c.tc : Thread Cert.Mdn0Ideal.nD Cert.Mdn0Ideal.τ).loc Cert.Mdn0Ideal.main_arg4))
      ∧ θ_run (Cert.MdnRef0Ideal.defs (F := Ideal)) (onTc (τ := Cert.MdnRef0Ideal.τ) (Cert.MdnRef0Ideal.main (F := Ideal))) ⟨m', fun _ => 0, g'⟩ (fun r => ∀ c : Dev Cert.MdnRef0Ideal.nD,
          r.2.mem ((c.tc : Thread Cert.MdnRef0Ideal.nD Cert.MdnRef0Ideal.τ).loc Cert.MdnRef0Ideal.main_v43) = v0 c
          ∧ r.2.mem ((c.tc : Thread Cert.MdnRef0Ideal.nD Cert.MdnRef0Ideal.τ).loc Cert.MdnRef0Ideal.main_v44) = v1 c
          ∧ r.2.mem ((c.tc : Thread Cert.MdnRef0Ideal.nD Cert.MdnRef0Ideal.τ).loc Cert.MdnRef0Ideal.main_v45) = v2 c
          ∧ r.2.mem ((c.tc : Thread Cert.MdnRef0Ideal.nD Cert.MdnRef0Ideal.τ).loc Cert.MdnRef0Ideal.main_arg0) = m' ((c.tc : Thread Cert.MdnRef0Ideal.nD Cert.MdnRef0Ideal.τ).loc Cert.MdnRef0Ideal.main_arg0)
          ∧ r.2.mem ((c.tc : Thread Cert.MdnRef0Ideal.nD Cert.MdnRef0Ideal.τ).loc Cert.MdnRef0Ideal.main_arg1) = m' ((c.tc : Thread Cert.MdnRef0Ideal.nD Cert.MdnRef0Ideal.τ).loc Cert.MdnRef0Ideal.main_arg1)
          ∧ r.2.mem ((c.tc : Thread Cert.MdnRef0Ideal.nD Cert.MdnRef0Ideal.τ).loc Cert.MdnRef0Ideal.main_arg2) = m' ((c.tc : Thread Cert.MdnRef0Ideal.nD Cert.MdnRef0Ideal.τ).loc Cert.MdnRef0Ideal.main_arg2)
          ∧ r.2.mem ((c.tc : Thread Cert.MdnRef0Ideal.nD Cert.MdnRef0Ideal.τ).loc Cert.MdnRef0Ideal.main_arg3) = m' ((c.tc : Thread Cert.MdnRef0Ideal.nD Cert.MdnRef0Ideal.τ).loc Cert.MdnRef0Ideal.main_arg3)
          ∧ r.2.mem ((c.tc : Thread Cert.MdnRef0Ideal.nD Cert.MdnRef0Ideal.τ).loc Cert.MdnRef0Ideal.main_arg4) = m' ((c.tc : Thread Cert.MdnRef0Ideal.nD Cert.MdnRef0Ideal.τ).loc Cert.MdnRef0Ideal.main_arg4))

def preserves_Mdn1_Mdn1Ideal : Prop :=
  True

def algebraic_Mdn1Ideal_MdnRef1Ideal [hMdn1Ideal : Cert.Mdn1Ideal.Facts] [hMdnRef1Ideal : Cert.MdnRef1Ideal.Facts] : Prop :=
  ∀ (m : (ℓ : Loc Cert.Mdn1Ideal.nD Cert.Mdn1Ideal.τ Cert.Mdn1Ideal.sig) → Buf (Elt Ideal) ℓ) (g : Dev Cert.Mdn1Ideal.nD → PrngReg)
    (m' : (ℓ : Loc Cert.MdnRef1Ideal.nD Cert.MdnRef1Ideal.τ Cert.MdnRef1Ideal.sig) → Buf (Elt Ideal) ℓ) (g' : Dev Cert.MdnRef1Ideal.nD → PrngReg), Pre_Mdn1Ideal m →
    (∀ c : Dev Cert.Mdn1Ideal.nD,
      m' ((c.tc : Thread Cert.MdnRef1Ideal.nD Cert.MdnRef1Ideal.τ).loc Cert.MdnRef1Ideal.main_arg0) = m ((c.tc : Thread Cert.Mdn1Ideal.nD Cert.Mdn1Ideal.τ).loc Cert.Mdn1Ideal.main_arg0)
      ∧ m' ((c.tc : Thread Cert.MdnRef1Ideal.nD Cert.MdnRef1Ideal.τ).loc Cert.MdnRef1Ideal.main_arg1) = m ((c.tc : Thread Cert.Mdn1Ideal.nD Cert.Mdn1Ideal.τ).loc Cert.Mdn1Ideal.main_arg1)
      ∧ m' ((c.tc : Thread Cert.MdnRef1Ideal.nD Cert.MdnRef1Ideal.τ).loc Cert.MdnRef1Ideal.main_arg2) = m ((c.tc : Thread Cert.Mdn1Ideal.nD Cert.Mdn1Ideal.τ).loc Cert.Mdn1Ideal.main_arg2)
      ∧ m' ((c.tc : Thread Cert.MdnRef1Ideal.nD Cert.MdnRef1Ideal.τ).loc Cert.MdnRef1Ideal.main_arg3) = m ((c.tc : Thread Cert.Mdn1Ideal.nD Cert.Mdn1Ideal.τ).loc Cert.Mdn1Ideal.main_arg3)
      ∧ m' ((c.tc : Thread Cert.MdnRef1Ideal.nD Cert.MdnRef1Ideal.τ).loc Cert.MdnRef1Ideal.main_arg4) = m ((c.tc : Thread Cert.Mdn1Ideal.nD Cert.Mdn1Ideal.τ).loc Cert.Mdn1Ideal.main_arg4)) →
    ∃ (v0 : (c : Dev Cert.Mdn1Ideal.nD) → Buf (Elt Ideal) ((c.tc : Thread Cert.Mdn1Ideal.nD Cert.Mdn1Ideal.τ).loc Cert.Mdn1Ideal.main_v6_0)) (v1 : (c : Dev Cert.Mdn1Ideal.nD) → Buf (Elt Ideal) ((c.tc : Thread Cert.Mdn1Ideal.nD Cert.Mdn1Ideal.τ).loc Cert.Mdn1Ideal.main_v6_1)) (v2 : (c : Dev Cert.Mdn1Ideal.nD) → Buf (Elt Ideal) ((c.tc : Thread Cert.Mdn1Ideal.nD Cert.Mdn1Ideal.τ).loc Cert.Mdn1Ideal.main_v6_2)),
      θ_run (Cert.Mdn1Ideal.defs (F := Ideal)) (onTc (τ := Cert.Mdn1Ideal.τ) (Cert.Mdn1Ideal.main (F := Ideal))) ⟨m, fun _ => 0, g⟩ (fun r => ∀ c : Dev Cert.Mdn1Ideal.nD,
          r.2.mem ((c.tc : Thread Cert.Mdn1Ideal.nD Cert.Mdn1Ideal.τ).loc Cert.Mdn1Ideal.main_v6_0) = v0 c
          ∧ r.2.mem ((c.tc : Thread Cert.Mdn1Ideal.nD Cert.Mdn1Ideal.τ).loc Cert.Mdn1Ideal.main_v6_1) = v1 c
          ∧ r.2.mem ((c.tc : Thread Cert.Mdn1Ideal.nD Cert.Mdn1Ideal.τ).loc Cert.Mdn1Ideal.main_v6_2) = v2 c
          ∧ r.2.mem ((c.tc : Thread Cert.Mdn1Ideal.nD Cert.Mdn1Ideal.τ).loc Cert.Mdn1Ideal.main_arg0) = m ((c.tc : Thread Cert.Mdn1Ideal.nD Cert.Mdn1Ideal.τ).loc Cert.Mdn1Ideal.main_arg0)
          ∧ r.2.mem ((c.tc : Thread Cert.Mdn1Ideal.nD Cert.Mdn1Ideal.τ).loc Cert.Mdn1Ideal.main_arg1) = m ((c.tc : Thread Cert.Mdn1Ideal.nD Cert.Mdn1Ideal.τ).loc Cert.Mdn1Ideal.main_arg1)
          ∧ r.2.mem ((c.tc : Thread Cert.Mdn1Ideal.nD Cert.Mdn1Ideal.τ).loc Cert.Mdn1Ideal.main_arg2) = m ((c.tc : Thread Cert.Mdn1Ideal.nD Cert.Mdn1Ideal.τ).loc Cert.Mdn1Ideal.main_arg2)
          ∧ r.2.mem ((c.tc : Thread Cert.Mdn1Ideal.nD Cert.Mdn1Ideal.τ).loc Cert.Mdn1Ideal.main_arg3) = m ((c.tc : Thread Cert.Mdn1Ideal.nD Cert.Mdn1Ideal.τ).loc Cert.Mdn1Ideal.main_arg3)
          ∧ r.2.mem ((c.tc : Thread Cert.Mdn1Ideal.nD Cert.Mdn1Ideal.τ).loc Cert.Mdn1Ideal.main_arg4) = m ((c.tc : Thread Cert.Mdn1Ideal.nD Cert.Mdn1Ideal.τ).loc Cert.Mdn1Ideal.main_arg4))
      ∧ θ_run (Cert.MdnRef1Ideal.defs (F := Ideal)) (onTc (τ := Cert.MdnRef1Ideal.τ) (Cert.MdnRef1Ideal.main (F := Ideal))) ⟨m', fun _ => 0, g'⟩ (fun r => ∀ c : Dev Cert.MdnRef1Ideal.nD,
          r.2.mem ((c.tc : Thread Cert.MdnRef1Ideal.nD Cert.MdnRef1Ideal.τ).loc Cert.MdnRef1Ideal.main_v43) = v0 c
          ∧ r.2.mem ((c.tc : Thread Cert.MdnRef1Ideal.nD Cert.MdnRef1Ideal.τ).loc Cert.MdnRef1Ideal.main_v44) = v1 c
          ∧ r.2.mem ((c.tc : Thread Cert.MdnRef1Ideal.nD Cert.MdnRef1Ideal.τ).loc Cert.MdnRef1Ideal.main_v45) = v2 c
          ∧ r.2.mem ((c.tc : Thread Cert.MdnRef1Ideal.nD Cert.MdnRef1Ideal.τ).loc Cert.MdnRef1Ideal.main_arg0) = m' ((c.tc : Thread Cert.MdnRef1Ideal.nD Cert.MdnRef1Ideal.τ).loc Cert.MdnRef1Ideal.main_arg0)
          ∧ r.2.mem ((c.tc : Thread Cert.MdnRef1Ideal.nD Cert.MdnRef1Ideal.τ).loc Cert.MdnRef1Ideal.main_arg1) = m' ((c.tc : Thread Cert.MdnRef1Ideal.nD Cert.MdnRef1Ideal.τ).loc Cert.MdnRef1Ideal.main_arg1)
          ∧ r.2.mem ((c.tc : Thread Cert.MdnRef1Ideal.nD Cert.MdnRef1Ideal.τ).loc Cert.MdnRef1Ideal.main_arg2) = m' ((c.tc : Thread Cert.MdnRef1Ideal.nD Cert.MdnRef1Ideal.τ).loc Cert.MdnRef1Ideal.main_arg2)
          ∧ r.2.mem ((c.tc : Thread Cert.MdnRef1Ideal.nD Cert.MdnRef1Ideal.τ).loc Cert.MdnRef1Ideal.main_arg3) = m' ((c.tc : Thread Cert.MdnRef1Ideal.nD Cert.MdnRef1Ideal.τ).loc Cert.MdnRef1Ideal.main_arg3)
          ∧ r.2.mem ((c.tc : Thread Cert.MdnRef1Ideal.nD Cert.MdnRef1Ideal.τ).loc Cert.MdnRef1Ideal.main_arg4) = m' ((c.tc : Thread Cert.MdnRef1Ideal.nD Cert.MdnRef1Ideal.τ).loc Cert.MdnRef1Ideal.main_arg4))

def preserves_Xdn0_Xdn0Ideal : Prop :=
  True

def algebraic_Xdn0Ideal_XdnRef0Ideal [hXdn0Ideal : Cert.Xdn0Ideal.Facts] [hXdnRef0Ideal : Cert.XdnRef0Ideal.Facts] : Prop :=
  ∀ (m : (ℓ : Loc Cert.Xdn0Ideal.nD Cert.Xdn0Ideal.τ Cert.Xdn0Ideal.sig) → Buf (Elt Ideal) ℓ) (g : Dev Cert.Xdn0Ideal.nD → PrngReg)
    (m' : (ℓ : Loc Cert.XdnRef0Ideal.nD Cert.XdnRef0Ideal.τ Cert.XdnRef0Ideal.sig) → Buf (Elt Ideal) ℓ) (g' : Dev Cert.XdnRef0Ideal.nD → PrngReg), Pre_Xdn0Ideal m →
    (∀ c : Dev Cert.Xdn0Ideal.nD,
      m' ((c.tc : Thread Cert.XdnRef0Ideal.nD Cert.XdnRef0Ideal.τ).loc Cert.XdnRef0Ideal.main_arg0) = m ((c.tc : Thread Cert.Xdn0Ideal.nD Cert.Xdn0Ideal.τ).loc Cert.Xdn0Ideal.main_arg0)
      ∧ m' ((c.tc : Thread Cert.XdnRef0Ideal.nD Cert.XdnRef0Ideal.τ).loc Cert.XdnRef0Ideal.main_arg1) = m ((c.tc : Thread Cert.Xdn0Ideal.nD Cert.Xdn0Ideal.τ).loc Cert.Xdn0Ideal.main_arg1)
      ∧ m' ((c.tc : Thread Cert.XdnRef0Ideal.nD Cert.XdnRef0Ideal.τ).loc Cert.XdnRef0Ideal.main_arg2) = m ((c.tc : Thread Cert.Xdn0Ideal.nD Cert.Xdn0Ideal.τ).loc Cert.Xdn0Ideal.main_arg2)
      ∧ m' ((c.tc : Thread Cert.XdnRef0Ideal.nD Cert.XdnRef0Ideal.τ).loc Cert.XdnRef0Ideal.main_arg3) = m ((c.tc : Thread Cert.Xdn0Ideal.nD Cert.Xdn0Ideal.τ).loc Cert.Xdn0Ideal.main_arg3)
      ∧ m' ((c.tc : Thread Cert.XdnRef0Ideal.nD Cert.XdnRef0Ideal.τ).loc Cert.XdnRef0Ideal.main_arg4) = m ((c.tc : Thread Cert.Xdn0Ideal.nD Cert.Xdn0Ideal.τ).loc Cert.Xdn0Ideal.main_arg4)) →
    ∃ (v0 : (c : Dev Cert.Xdn0Ideal.nD) → Buf (Elt Ideal) ((c.tc : Thread Cert.Xdn0Ideal.nD Cert.Xdn0Ideal.τ).loc Cert.Xdn0Ideal.main_v6_0)) (v1 : (c : Dev Cert.Xdn0Ideal.nD) → Buf (Elt Ideal) ((c.tc : Thread Cert.Xdn0Ideal.nD Cert.Xdn0Ideal.τ).loc Cert.Xdn0Ideal.main_v6_1)) (v2 : (c : Dev Cert.Xdn0Ideal.nD) → Buf (Elt Ideal) ((c.tc : Thread Cert.Xdn0Ideal.nD Cert.Xdn0Ideal.τ).loc Cert.Xdn0Ideal.main_v6_2)),
      θ_run (Cert.Xdn0Ideal.defs (F := Ideal)) (onTc (τ := Cert.Xdn0Ideal.τ) (Cert.Xdn0Ideal.main (F := Ideal))) ⟨m, fun _ => 0, g⟩ (fun r => ∀ c : Dev Cert.Xdn0Ideal.nD,
          r.2.mem ((c.tc : Thread Cert.Xdn0Ideal.nD Cert.Xdn0Ideal.τ).loc Cert.Xdn0Ideal.main_v6_0) = v0 c
          ∧ r.2.mem ((c.tc : Thread Cert.Xdn0Ideal.nD Cert.Xdn0Ideal.τ).loc Cert.Xdn0Ideal.main_v6_1) = v1 c
          ∧ r.2.mem ((c.tc : Thread Cert.Xdn0Ideal.nD Cert.Xdn0Ideal.τ).loc Cert.Xdn0Ideal.main_v6_2) = v2 c
          ∧ r.2.mem ((c.tc : Thread Cert.Xdn0Ideal.nD Cert.Xdn0Ideal.τ).loc Cert.Xdn0Ideal.main_arg0) = m ((c.tc : Thread Cert.Xdn0Ideal.nD Cert.Xdn0Ideal.τ).loc Cert.Xdn0Ideal.main_arg0)
          ∧ r.2.mem ((c.tc : Thread Cert.Xdn0Ideal.nD Cert.Xdn0Ideal.τ).loc Cert.Xdn0Ideal.main_arg1) = m ((c.tc : Thread Cert.Xdn0Ideal.nD Cert.Xdn0Ideal.τ).loc Cert.Xdn0Ideal.main_arg1)
          ∧ r.2.mem ((c.tc : Thread Cert.Xdn0Ideal.nD Cert.Xdn0Ideal.τ).loc Cert.Xdn0Ideal.main_arg2) = m ((c.tc : Thread Cert.Xdn0Ideal.nD Cert.Xdn0Ideal.τ).loc Cert.Xdn0Ideal.main_arg2)
          ∧ r.2.mem ((c.tc : Thread Cert.Xdn0Ideal.nD Cert.Xdn0Ideal.τ).loc Cert.Xdn0Ideal.main_arg3) = m ((c.tc : Thread Cert.Xdn0Ideal.nD Cert.Xdn0Ideal.τ).loc Cert.Xdn0Ideal.main_arg3)
          ∧ r.2.mem ((c.tc : Thread Cert.Xdn0Ideal.nD Cert.Xdn0Ideal.τ).loc Cert.Xdn0Ideal.main_arg4) = m ((c.tc : Thread Cert.Xdn0Ideal.nD Cert.Xdn0Ideal.τ).loc Cert.Xdn0Ideal.main_arg4))
      ∧ θ_run (Cert.XdnRef0Ideal.defs (F := Ideal)) (onTc (τ := Cert.XdnRef0Ideal.τ) (Cert.XdnRef0Ideal.main (F := Ideal))) ⟨m', fun _ => 0, g'⟩ (fun r => ∀ c : Dev Cert.XdnRef0Ideal.nD,
          r.2.mem ((c.tc : Thread Cert.XdnRef0Ideal.nD Cert.XdnRef0Ideal.τ).loc Cert.XdnRef0Ideal.main_v43) = v0 c
          ∧ r.2.mem ((c.tc : Thread Cert.XdnRef0Ideal.nD Cert.XdnRef0Ideal.τ).loc Cert.XdnRef0Ideal.main_v44) = v1 c
          ∧ r.2.mem ((c.tc : Thread Cert.XdnRef0Ideal.nD Cert.XdnRef0Ideal.τ).loc Cert.XdnRef0Ideal.main_v45) = v2 c
          ∧ r.2.mem ((c.tc : Thread Cert.XdnRef0Ideal.nD Cert.XdnRef0Ideal.τ).loc Cert.XdnRef0Ideal.main_arg0) = m' ((c.tc : Thread Cert.XdnRef0Ideal.nD Cert.XdnRef0Ideal.τ).loc Cert.XdnRef0Ideal.main_arg0)
          ∧ r.2.mem ((c.tc : Thread Cert.XdnRef0Ideal.nD Cert.XdnRef0Ideal.τ).loc Cert.XdnRef0Ideal.main_arg1) = m' ((c.tc : Thread Cert.XdnRef0Ideal.nD Cert.XdnRef0Ideal.τ).loc Cert.XdnRef0Ideal.main_arg1)
          ∧ r.2.mem ((c.tc : Thread Cert.XdnRef0Ideal.nD Cert.XdnRef0Ideal.τ).loc Cert.XdnRef0Ideal.main_arg2) = m' ((c.tc : Thread Cert.XdnRef0Ideal.nD Cert.XdnRef0Ideal.τ).loc Cert.XdnRef0Ideal.main_arg2)
          ∧ r.2.mem ((c.tc : Thread Cert.XdnRef0Ideal.nD Cert.XdnRef0Ideal.τ).loc Cert.XdnRef0Ideal.main_arg3) = m' ((c.tc : Thread Cert.XdnRef0Ideal.nD Cert.XdnRef0Ideal.τ).loc Cert.XdnRef0Ideal.main_arg3)
          ∧ r.2.mem ((c.tc : Thread Cert.XdnRef0Ideal.nD Cert.XdnRef0Ideal.τ).loc Cert.XdnRef0Ideal.main_arg4) = m' ((c.tc : Thread Cert.XdnRef0Ideal.nD Cert.XdnRef0Ideal.τ).loc Cert.XdnRef0Ideal.main_arg4))

def preserves_Xdn1_Xdn1Ideal : Prop :=
  True

def algebraic_Xdn1Ideal_XdnRef1Ideal [hXdn1Ideal : Cert.Xdn1Ideal.Facts] [hXdnRef1Ideal : Cert.XdnRef1Ideal.Facts] : Prop :=
  ∀ (m : (ℓ : Loc Cert.Xdn1Ideal.nD Cert.Xdn1Ideal.τ Cert.Xdn1Ideal.sig) → Buf (Elt Ideal) ℓ) (g : Dev Cert.Xdn1Ideal.nD → PrngReg)
    (m' : (ℓ : Loc Cert.XdnRef1Ideal.nD Cert.XdnRef1Ideal.τ Cert.XdnRef1Ideal.sig) → Buf (Elt Ideal) ℓ) (g' : Dev Cert.XdnRef1Ideal.nD → PrngReg), Pre_Xdn1Ideal m →
    (∀ c : Dev Cert.Xdn1Ideal.nD,
      m' ((c.tc : Thread Cert.XdnRef1Ideal.nD Cert.XdnRef1Ideal.τ).loc Cert.XdnRef1Ideal.main_arg0) = m ((c.tc : Thread Cert.Xdn1Ideal.nD Cert.Xdn1Ideal.τ).loc Cert.Xdn1Ideal.main_arg0)
      ∧ m' ((c.tc : Thread Cert.XdnRef1Ideal.nD Cert.XdnRef1Ideal.τ).loc Cert.XdnRef1Ideal.main_arg1) = m ((c.tc : Thread Cert.Xdn1Ideal.nD Cert.Xdn1Ideal.τ).loc Cert.Xdn1Ideal.main_arg1)
      ∧ m' ((c.tc : Thread Cert.XdnRef1Ideal.nD Cert.XdnRef1Ideal.τ).loc Cert.XdnRef1Ideal.main_arg2) = m ((c.tc : Thread Cert.Xdn1Ideal.nD Cert.Xdn1Ideal.τ).loc Cert.Xdn1Ideal.main_arg2)
      ∧ m' ((c.tc : Thread Cert.XdnRef1Ideal.nD Cert.XdnRef1Ideal.τ).loc Cert.XdnRef1Ideal.main_arg3) = m ((c.tc : Thread Cert.Xdn1Ideal.nD Cert.Xdn1Ideal.τ).loc Cert.Xdn1Ideal.main_arg3)
      ∧ m' ((c.tc : Thread Cert.XdnRef1Ideal.nD Cert.XdnRef1Ideal.τ).loc Cert.XdnRef1Ideal.main_arg4) = m ((c.tc : Thread Cert.Xdn1Ideal.nD Cert.Xdn1Ideal.τ).loc Cert.Xdn1Ideal.main_arg4)) →
    ∃ (v0 : (c : Dev Cert.Xdn1Ideal.nD) → Buf (Elt Ideal) ((c.tc : Thread Cert.Xdn1Ideal.nD Cert.Xdn1Ideal.τ).loc Cert.Xdn1Ideal.main_v6_0)) (v1 : (c : Dev Cert.Xdn1Ideal.nD) → Buf (Elt Ideal) ((c.tc : Thread Cert.Xdn1Ideal.nD Cert.Xdn1Ideal.τ).loc Cert.Xdn1Ideal.main_v6_1)) (v2 : (c : Dev Cert.Xdn1Ideal.nD) → Buf (Elt Ideal) ((c.tc : Thread Cert.Xdn1Ideal.nD Cert.Xdn1Ideal.τ).loc Cert.Xdn1Ideal.main_v6_2)),
      θ_run (Cert.Xdn1Ideal.defs (F := Ideal)) (onTc (τ := Cert.Xdn1Ideal.τ) (Cert.Xdn1Ideal.main (F := Ideal))) ⟨m, fun _ => 0, g⟩ (fun r => ∀ c : Dev Cert.Xdn1Ideal.nD,
          r.2.mem ((c.tc : Thread Cert.Xdn1Ideal.nD Cert.Xdn1Ideal.τ).loc Cert.Xdn1Ideal.main_v6_0) = v0 c
          ∧ r.2.mem ((c.tc : Thread Cert.Xdn1Ideal.nD Cert.Xdn1Ideal.τ).loc Cert.Xdn1Ideal.main_v6_1) = v1 c
          ∧ r.2.mem ((c.tc : Thread Cert.Xdn1Ideal.nD Cert.Xdn1Ideal.τ).loc Cert.Xdn1Ideal.main_v6_2) = v2 c
          ∧ r.2.mem ((c.tc : Thread Cert.Xdn1Ideal.nD Cert.Xdn1Ideal.τ).loc Cert.Xdn1Ideal.main_arg0) = m ((c.tc : Thread Cert.Xdn1Ideal.nD Cert.Xdn1Ideal.τ).loc Cert.Xdn1Ideal.main_arg0)
          ∧ r.2.mem ((c.tc : Thread Cert.Xdn1Ideal.nD Cert.Xdn1Ideal.τ).loc Cert.Xdn1Ideal.main_arg1) = m ((c.tc : Thread Cert.Xdn1Ideal.nD Cert.Xdn1Ideal.τ).loc Cert.Xdn1Ideal.main_arg1)
          ∧ r.2.mem ((c.tc : Thread Cert.Xdn1Ideal.nD Cert.Xdn1Ideal.τ).loc Cert.Xdn1Ideal.main_arg2) = m ((c.tc : Thread Cert.Xdn1Ideal.nD Cert.Xdn1Ideal.τ).loc Cert.Xdn1Ideal.main_arg2)
          ∧ r.2.mem ((c.tc : Thread Cert.Xdn1Ideal.nD Cert.Xdn1Ideal.τ).loc Cert.Xdn1Ideal.main_arg3) = m ((c.tc : Thread Cert.Xdn1Ideal.nD Cert.Xdn1Ideal.τ).loc Cert.Xdn1Ideal.main_arg3)
          ∧ r.2.mem ((c.tc : Thread Cert.Xdn1Ideal.nD Cert.Xdn1Ideal.τ).loc Cert.Xdn1Ideal.main_arg4) = m ((c.tc : Thread Cert.Xdn1Ideal.nD Cert.Xdn1Ideal.τ).loc Cert.Xdn1Ideal.main_arg4))
      ∧ θ_run (Cert.XdnRef1Ideal.defs (F := Ideal)) (onTc (τ := Cert.XdnRef1Ideal.τ) (Cert.XdnRef1Ideal.main (F := Ideal))) ⟨m', fun _ => 0, g'⟩ (fun r => ∀ c : Dev Cert.XdnRef1Ideal.nD,
          r.2.mem ((c.tc : Thread Cert.XdnRef1Ideal.nD Cert.XdnRef1Ideal.τ).loc Cert.XdnRef1Ideal.main_v43) = v0 c
          ∧ r.2.mem ((c.tc : Thread Cert.XdnRef1Ideal.nD Cert.XdnRef1Ideal.τ).loc Cert.XdnRef1Ideal.main_v44) = v1 c
          ∧ r.2.mem ((c.tc : Thread Cert.XdnRef1Ideal.nD Cert.XdnRef1Ideal.τ).loc Cert.XdnRef1Ideal.main_v45) = v2 c
          ∧ r.2.mem ((c.tc : Thread Cert.XdnRef1Ideal.nD Cert.XdnRef1Ideal.τ).loc Cert.XdnRef1Ideal.main_arg0) = m' ((c.tc : Thread Cert.XdnRef1Ideal.nD Cert.XdnRef1Ideal.τ).loc Cert.XdnRef1Ideal.main_arg0)
          ∧ r.2.mem ((c.tc : Thread Cert.XdnRef1Ideal.nD Cert.XdnRef1Ideal.τ).loc Cert.XdnRef1Ideal.main_arg1) = m' ((c.tc : Thread Cert.XdnRef1Ideal.nD Cert.XdnRef1Ideal.τ).loc Cert.XdnRef1Ideal.main_arg1)
          ∧ r.2.mem ((c.tc : Thread Cert.XdnRef1Ideal.nD Cert.XdnRef1Ideal.τ).loc Cert.XdnRef1Ideal.main_arg2) = m' ((c.tc : Thread Cert.XdnRef1Ideal.nD Cert.XdnRef1Ideal.τ).loc Cert.XdnRef1Ideal.main_arg2)
          ∧ r.2.mem ((c.tc : Thread Cert.XdnRef1Ideal.nD Cert.XdnRef1Ideal.τ).loc Cert.XdnRef1Ideal.main_arg3) = m' ((c.tc : Thread Cert.XdnRef1Ideal.nD Cert.XdnRef1Ideal.τ).loc Cert.XdnRef1Ideal.main_arg3)
          ∧ r.2.mem ((c.tc : Thread Cert.XdnRef1Ideal.nD Cert.XdnRef1Ideal.τ).loc Cert.XdnRef1Ideal.main_arg4) = m' ((c.tc : Thread Cert.XdnRef1Ideal.nD Cert.XdnRef1Ideal.τ).loc Cert.XdnRef1Ideal.main_arg4))

def preserves_Cdn_CdnIdeal : Prop :=
  True

def algebraic_CdnIdeal_CdnRefIdeal [hCdnIdeal : Cert.CdnIdeal.Facts] [hCdnRefIdeal : Cert.CdnRefIdeal.Facts] : Prop :=
  ∀ (m : (ℓ : Loc Cert.CdnIdeal.nD Cert.CdnIdeal.τ Cert.CdnIdeal.sig) → Buf (Elt Ideal) ℓ) (g : Dev Cert.CdnIdeal.nD → PrngReg)
    (m' : (ℓ : Loc Cert.CdnRefIdeal.nD Cert.CdnRefIdeal.τ Cert.CdnRefIdeal.sig) → Buf (Elt Ideal) ℓ) (g' : Dev Cert.CdnRefIdeal.nD → PrngReg), Pre_CdnIdeal m →
    (∀ c : Dev Cert.CdnIdeal.nD,
      m' ((c.tc : Thread Cert.CdnRefIdeal.nD Cert.CdnRefIdeal.τ).loc Cert.CdnRefIdeal.main_arg0) = m ((c.tc : Thread Cert.CdnIdeal.nD Cert.CdnIdeal.τ).loc Cert.CdnIdeal.main_arg0)
      ∧ m' ((c.tc : Thread Cert.CdnRefIdeal.nD Cert.CdnRefIdeal.τ).loc Cert.CdnRefIdeal.main_arg1) = m ((c.tc : Thread Cert.CdnIdeal.nD Cert.CdnIdeal.τ).loc Cert.CdnIdeal.main_arg1)
      ∧ m' ((c.tc : Thread Cert.CdnRefIdeal.nD Cert.CdnRefIdeal.τ).loc Cert.CdnRefIdeal.main_arg2) = m ((c.tc : Thread Cert.CdnIdeal.nD Cert.CdnIdeal.τ).loc Cert.CdnIdeal.main_arg2)
      ∧ m' ((c.tc : Thread Cert.CdnRefIdeal.nD Cert.CdnRefIdeal.τ).loc Cert.CdnRefIdeal.main_arg3) = m ((c.tc : Thread Cert.CdnIdeal.nD Cert.CdnIdeal.τ).loc Cert.CdnIdeal.main_arg3)
      ∧ m' ((c.tc : Thread Cert.CdnRefIdeal.nD Cert.CdnRefIdeal.τ).loc Cert.CdnRefIdeal.main_arg4) = m ((c.tc : Thread Cert.CdnIdeal.nD Cert.CdnIdeal.τ).loc Cert.CdnIdeal.main_arg4)) →
    ∃ (v0 : (c : Dev Cert.CdnIdeal.nD) → Buf (Elt Ideal) ((c.tc : Thread Cert.CdnIdeal.nD Cert.CdnIdeal.τ).loc Cert.CdnIdeal.main_v5_0)) (v1 : (c : Dev Cert.CdnIdeal.nD) → Buf (Elt Ideal) ((c.tc : Thread Cert.CdnIdeal.nD Cert.CdnIdeal.τ).loc Cert.CdnIdeal.main_v5_1)) (v2 : (c : Dev Cert.CdnIdeal.nD) → Buf (Elt Ideal) ((c.tc : Thread Cert.CdnIdeal.nD Cert.CdnIdeal.τ).loc Cert.CdnIdeal.main_v5_2)),
      θ_run (Cert.CdnIdeal.defs (F := Ideal)) (onTc (τ := Cert.CdnIdeal.τ) (Cert.CdnIdeal.main (F := Ideal))) ⟨m, fun _ => 0, g⟩ (fun r => ∀ c : Dev Cert.CdnIdeal.nD,
          r.2.mem ((c.tc : Thread Cert.CdnIdeal.nD Cert.CdnIdeal.τ).loc Cert.CdnIdeal.main_v5_0) = v0 c
          ∧ r.2.mem ((c.tc : Thread Cert.CdnIdeal.nD Cert.CdnIdeal.τ).loc Cert.CdnIdeal.main_v5_1) = v1 c
          ∧ r.2.mem ((c.tc : Thread Cert.CdnIdeal.nD Cert.CdnIdeal.τ).loc Cert.CdnIdeal.main_v5_2) = v2 c
          ∧ r.2.mem ((c.tc : Thread Cert.CdnIdeal.nD Cert.CdnIdeal.τ).loc Cert.CdnIdeal.main_arg0) = m ((c.tc : Thread Cert.CdnIdeal.nD Cert.CdnIdeal.τ).loc Cert.CdnIdeal.main_arg0)
          ∧ r.2.mem ((c.tc : Thread Cert.CdnIdeal.nD Cert.CdnIdeal.τ).loc Cert.CdnIdeal.main_arg1) = m ((c.tc : Thread Cert.CdnIdeal.nD Cert.CdnIdeal.τ).loc Cert.CdnIdeal.main_arg1)
          ∧ r.2.mem ((c.tc : Thread Cert.CdnIdeal.nD Cert.CdnIdeal.τ).loc Cert.CdnIdeal.main_arg2) = m ((c.tc : Thread Cert.CdnIdeal.nD Cert.CdnIdeal.τ).loc Cert.CdnIdeal.main_arg2)
          ∧ r.2.mem ((c.tc : Thread Cert.CdnIdeal.nD Cert.CdnIdeal.τ).loc Cert.CdnIdeal.main_arg3) = m ((c.tc : Thread Cert.CdnIdeal.nD Cert.CdnIdeal.τ).loc Cert.CdnIdeal.main_arg3)
          ∧ r.2.mem ((c.tc : Thread Cert.CdnIdeal.nD Cert.CdnIdeal.τ).loc Cert.CdnIdeal.main_arg4) = m ((c.tc : Thread Cert.CdnIdeal.nD Cert.CdnIdeal.τ).loc Cert.CdnIdeal.main_arg4))
      ∧ θ_run (Cert.CdnRefIdeal.defs (F := Ideal)) (onTc (τ := Cert.CdnRefIdeal.τ) (Cert.CdnRefIdeal.main (F := Ideal))) ⟨m', fun _ => 0, g'⟩ (fun r => ∀ c : Dev Cert.CdnRefIdeal.nD,
          r.2.mem ((c.tc : Thread Cert.CdnRefIdeal.nD Cert.CdnRefIdeal.τ).loc Cert.CdnRefIdeal.main_v41) = v0 c
          ∧ r.2.mem ((c.tc : Thread Cert.CdnRefIdeal.nD Cert.CdnRefIdeal.τ).loc Cert.CdnRefIdeal.main_v42) = v1 c
          ∧ r.2.mem ((c.tc : Thread Cert.CdnRefIdeal.nD Cert.CdnRefIdeal.τ).loc Cert.CdnRefIdeal.main_v43) = v2 c
          ∧ r.2.mem ((c.tc : Thread Cert.CdnRefIdeal.nD Cert.CdnRefIdeal.τ).loc Cert.CdnRefIdeal.main_arg0) = m' ((c.tc : Thread Cert.CdnRefIdeal.nD Cert.CdnRefIdeal.τ).loc Cert.CdnRefIdeal.main_arg0)
          ∧ r.2.mem ((c.tc : Thread Cert.CdnRefIdeal.nD Cert.CdnRefIdeal.τ).loc Cert.CdnRefIdeal.main_arg1) = m' ((c.tc : Thread Cert.CdnRefIdeal.nD Cert.CdnRefIdeal.τ).loc Cert.CdnRefIdeal.main_arg1)
          ∧ r.2.mem ((c.tc : Thread Cert.CdnRefIdeal.nD Cert.CdnRefIdeal.τ).loc Cert.CdnRefIdeal.main_arg2) = m' ((c.tc : Thread Cert.CdnRefIdeal.nD Cert.CdnRefIdeal.τ).loc Cert.CdnRefIdeal.main_arg2)
          ∧ r.2.mem ((c.tc : Thread Cert.CdnRefIdeal.nD Cert.CdnRefIdeal.τ).loc Cert.CdnRefIdeal.main_arg3) = m' ((c.tc : Thread Cert.CdnRefIdeal.nD Cert.CdnRefIdeal.τ).loc Cert.CdnRefIdeal.main_arg3)
          ∧ r.2.mem ((c.tc : Thread Cert.CdnRefIdeal.nD Cert.CdnRefIdeal.τ).loc Cert.CdnRefIdeal.main_arg4) = m' ((c.tc : Thread Cert.CdnRefIdeal.nD Cert.CdnRefIdeal.τ).loc Cert.CdnRefIdeal.main_arg4))

def preserves_Out0_Out0Ideal : Prop :=
  True

def algebraic_Out0Ideal_OutRef0Ideal [hOut0Ideal : Cert.Out0Ideal.Facts] [hOutRef0Ideal : Cert.OutRef0Ideal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.OutRef0Ideal.nD Cert.OutRef0Ideal.τ Cert.OutRef0Ideal.sig) → Buf (Elt Ideal) ℓ) (g' : Dev Cert.OutRef0Ideal.nD → PrngReg), Pre_Out0Ideal m →
    (∀ c : Dev Cert.Out0Ideal.nD,
      m' ((c.tc : Thread Cert.OutRef0Ideal.nD Cert.OutRef0Ideal.τ).loc Cert.OutRef0Ideal.main_arg0) = m ((c.tc : Thread Cert.Out0Ideal.nD Cert.Out0Ideal.τ).loc Cert.Out0Ideal.main_arg0)
      ∧ m' ((c.tc : Thread Cert.OutRef0Ideal.nD Cert.OutRef0Ideal.τ).loc Cert.OutRef0Ideal.main_arg1) = m ((c.tc : Thread Cert.Out0Ideal.nD Cert.Out0Ideal.τ).loc Cert.Out0Ideal.main_arg1)
      ∧ m' ((c.tc : Thread Cert.OutRef0Ideal.nD Cert.OutRef0Ideal.τ).loc Cert.OutRef0Ideal.main_arg2) = m ((c.tc : Thread Cert.Out0Ideal.nD Cert.Out0Ideal.τ).loc Cert.Out0Ideal.main_arg2)
      ∧ m' ((c.tc : Thread Cert.OutRef0Ideal.nD Cert.OutRef0Ideal.τ).loc Cert.OutRef0Ideal.main_arg3) = m ((c.tc : Thread Cert.Out0Ideal.nD Cert.Out0Ideal.τ).loc Cert.Out0Ideal.main_arg3)
      ∧ m' ((c.tc : Thread Cert.OutRef0Ideal.nD Cert.OutRef0Ideal.τ).loc Cert.OutRef0Ideal.main_arg4) = m ((c.tc : Thread Cert.Out0Ideal.nD Cert.Out0Ideal.τ).loc Cert.Out0Ideal.main_arg4)
      ∧ m' ((c.tc : Thread Cert.OutRef0Ideal.nD Cert.OutRef0Ideal.τ).loc Cert.OutRef0Ideal.main_arg5) = m ((c.tc : Thread Cert.Out0Ideal.nD Cert.Out0Ideal.τ).loc Cert.Out0Ideal.main_arg5)
      ∧ m' ((c.tc : Thread Cert.OutRef0Ideal.nD Cert.OutRef0Ideal.τ).loc Cert.OutRef0Ideal.main_arg6) = m ((c.tc : Thread Cert.Out0Ideal.nD Cert.Out0Ideal.τ).loc Cert.Out0Ideal.main_arg6)
      ∧ m' ((c.tc : Thread Cert.OutRef0Ideal.nD Cert.OutRef0Ideal.τ).loc Cert.OutRef0Ideal.main_arg7) = m ((c.tc : Thread Cert.Out0Ideal.nD Cert.Out0Ideal.τ).loc Cert.Out0Ideal.main_arg7)) →
    ∃ (v0 : (c : Dev Cert.Out0Ideal.nD) → Buf (Elt Ideal) ((c.tc : Thread Cert.Out0Ideal.nD Cert.Out0Ideal.τ).loc Cert.Out0Ideal.main_v9_0)) (v1 : (c : Dev Cert.Out0Ideal.nD) → Buf (Elt Ideal) ((c.tc : Thread Cert.Out0Ideal.nD Cert.Out0Ideal.τ).loc Cert.Out0Ideal.main_v9_1)) (v2 : (c : Dev Cert.Out0Ideal.nD) → Buf (Elt Ideal) ((c.tc : Thread Cert.Out0Ideal.nD Cert.Out0Ideal.τ).loc Cert.Out0Ideal.main_v13_0)) (v3 : (c : Dev Cert.Out0Ideal.nD) → Buf (Elt Ideal) ((c.tc : Thread Cert.Out0Ideal.nD Cert.Out0Ideal.τ).loc Cert.Out0Ideal.main_v13_1)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v9_0) = v0 c
          ∧ r.2.mem ((c.tc : Thread Cert.Out0Ideal.nD Cert.Out0Ideal.τ).loc Cert.Out0Ideal.main_v9_1) = v1 c
          ∧ r.2.mem ((c.tc : Thread Cert.Out0Ideal.nD Cert.Out0Ideal.τ).loc Cert.Out0Ideal.main_v13_0) = v2 c
          ∧ r.2.mem ((c.tc : Thread Cert.Out0Ideal.nD Cert.Out0Ideal.τ).loc Cert.Out0Ideal.main_v13_1) = v3 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4)
          ∧ r.2.mem ((c.tc : Thread Cert.Out0Ideal.nD Cert.Out0Ideal.τ).loc Cert.Out0Ideal.main_arg5) = m ((c.tc : Thread Cert.Out0Ideal.nD Cert.Out0Ideal.τ).loc Cert.Out0Ideal.main_arg5)
          ∧ r.2.mem ((c.tc : Thread Cert.Out0Ideal.nD Cert.Out0Ideal.τ).loc Cert.Out0Ideal.main_arg6) = m ((c.tc : Thread Cert.Out0Ideal.nD Cert.Out0Ideal.τ).loc Cert.Out0Ideal.main_arg6)
          ∧ r.2.mem ((c.tc : Thread Cert.Out0Ideal.nD Cert.Out0Ideal.τ).loc Cert.Out0Ideal.main_arg7) = m ((c.tc : Thread Cert.Out0Ideal.nD Cert.Out0Ideal.τ).loc Cert.Out0Ideal.main_arg7))
      ∧ θ_run (Cert.OutRef0Ideal.defs (F := Ideal)) (onTc (τ := Cert.OutRef0Ideal.τ) (Cert.OutRef0Ideal.main (F := Ideal))) ⟨m', fun _ => 0, g'⟩ (fun r => ∀ c : Dev Cert.OutRef0Ideal.nD,
          r.2.mem ((c.tc : Thread Cert.OutRef0Ideal.nD Cert.OutRef0Ideal.τ).loc Cert.OutRef0Ideal.main_v3) = v0 c
          ∧ r.2.mem ((c.tc : Thread Cert.OutRef0Ideal.nD Cert.OutRef0Ideal.τ).loc Cert.OutRef0Ideal.main_v24) = v1 c
          ∧ r.2.mem ((c.tc : Thread Cert.OutRef0Ideal.nD Cert.OutRef0Ideal.τ).loc Cert.OutRef0Ideal.main_v8) = v2 c
          ∧ r.2.mem ((c.tc : Thread Cert.OutRef0Ideal.nD Cert.OutRef0Ideal.τ).loc Cert.OutRef0Ideal.main_v40) = v3 c
          ∧ r.2.mem ((c.tc : Thread Cert.OutRef0Ideal.nD Cert.OutRef0Ideal.τ).loc Cert.OutRef0Ideal.main_arg0) = m' ((c.tc : Thread Cert.OutRef0Ideal.nD Cert.OutRef0Ideal.τ).loc Cert.OutRef0Ideal.main_arg0)
          ∧ r.2.mem ((c.tc : Thread Cert.OutRef0Ideal.nD Cert.OutRef0Ideal.τ).loc Cert.OutRef0Ideal.main_arg1) = m' ((c.tc : Thread Cert.OutRef0Ideal.nD Cert.OutRef0Ideal.τ).loc Cert.OutRef0Ideal.main_arg1)
          ∧ r.2.mem ((c.tc : Thread Cert.OutRef0Ideal.nD Cert.OutRef0Ideal.τ).loc Cert.OutRef0Ideal.main_arg2) = m' ((c.tc : Thread Cert.OutRef0Ideal.nD Cert.OutRef0Ideal.τ).loc Cert.OutRef0Ideal.main_arg2)
          ∧ r.2.mem ((c.tc : Thread Cert.OutRef0Ideal.nD Cert.OutRef0Ideal.τ).loc Cert.OutRef0Ideal.main_arg3) = m' ((c.tc : Thread Cert.OutRef0Ideal.nD Cert.OutRef0Ideal.τ).loc Cert.OutRef0Ideal.main_arg3)
          ∧ r.2.mem ((c.tc : Thread Cert.OutRef0Ideal.nD Cert.OutRef0Ideal.τ).loc Cert.OutRef0Ideal.main_arg4) = m' ((c.tc : Thread Cert.OutRef0Ideal.nD Cert.OutRef0Ideal.τ).loc Cert.OutRef0Ideal.main_arg4)
          ∧ r.2.mem ((c.tc : Thread Cert.OutRef0Ideal.nD Cert.OutRef0Ideal.τ).loc Cert.OutRef0Ideal.main_arg5) = m' ((c.tc : Thread Cert.OutRef0Ideal.nD Cert.OutRef0Ideal.τ).loc Cert.OutRef0Ideal.main_arg5)
          ∧ r.2.mem ((c.tc : Thread Cert.OutRef0Ideal.nD Cert.OutRef0Ideal.τ).loc Cert.OutRef0Ideal.main_arg6) = m' ((c.tc : Thread Cert.OutRef0Ideal.nD Cert.OutRef0Ideal.τ).loc Cert.OutRef0Ideal.main_arg6)
          ∧ r.2.mem ((c.tc : Thread Cert.OutRef0Ideal.nD Cert.OutRef0Ideal.τ).loc Cert.OutRef0Ideal.main_arg7) = m' ((c.tc : Thread Cert.OutRef0Ideal.nD Cert.OutRef0Ideal.τ).loc Cert.OutRef0Ideal.main_arg7))

def preserves_Out1_Out1Ideal : Prop :=
  True

def algebraic_Out1Ideal_OutRef1Ideal [hOut1Ideal : Cert.Out1Ideal.Facts] [hOutRef1Ideal : Cert.OutRef1Ideal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.OutRef1Ideal.nD Cert.OutRef1Ideal.τ Cert.OutRef1Ideal.sig) → Buf (Elt Ideal) ℓ) (g' : Dev Cert.OutRef1Ideal.nD → PrngReg), Pre_Out1Ideal m →
    (∀ c : Dev Cert.Out1Ideal.nD,
      m' ((c.tc : Thread Cert.OutRef1Ideal.nD Cert.OutRef1Ideal.τ).loc Cert.OutRef1Ideal.main_arg0) = m ((c.tc : Thread Cert.Out1Ideal.nD Cert.Out1Ideal.τ).loc Cert.Out1Ideal.main_arg0)
      ∧ m' ((c.tc : Thread Cert.OutRef1Ideal.nD Cert.OutRef1Ideal.τ).loc Cert.OutRef1Ideal.main_arg1) = m ((c.tc : Thread Cert.Out1Ideal.nD Cert.Out1Ideal.τ).loc Cert.Out1Ideal.main_arg1)
      ∧ m' ((c.tc : Thread Cert.OutRef1Ideal.nD Cert.OutRef1Ideal.τ).loc Cert.OutRef1Ideal.main_arg2) = m ((c.tc : Thread Cert.Out1Ideal.nD Cert.Out1Ideal.τ).loc Cert.Out1Ideal.main_arg2)
      ∧ m' ((c.tc : Thread Cert.OutRef1Ideal.nD Cert.OutRef1Ideal.τ).loc Cert.OutRef1Ideal.main_arg3) = m ((c.tc : Thread Cert.Out1Ideal.nD Cert.Out1Ideal.τ).loc Cert.Out1Ideal.main_arg3)
      ∧ m' ((c.tc : Thread Cert.OutRef1Ideal.nD Cert.OutRef1Ideal.τ).loc Cert.OutRef1Ideal.main_arg4) = m ((c.tc : Thread Cert.Out1Ideal.nD Cert.Out1Ideal.τ).loc Cert.Out1Ideal.main_arg4)
      ∧ m' ((c.tc : Thread Cert.OutRef1Ideal.nD Cert.OutRef1Ideal.τ).loc Cert.OutRef1Ideal.main_arg5) = m ((c.tc : Thread Cert.Out1Ideal.nD Cert.Out1Ideal.τ).loc Cert.Out1Ideal.main_arg5)
      ∧ m' ((c.tc : Thread Cert.OutRef1Ideal.nD Cert.OutRef1Ideal.τ).loc Cert.OutRef1Ideal.main_arg6) = m ((c.tc : Thread Cert.Out1Ideal.nD Cert.Out1Ideal.τ).loc Cert.Out1Ideal.main_arg6)
      ∧ m' ((c.tc : Thread Cert.OutRef1Ideal.nD Cert.OutRef1Ideal.τ).loc Cert.OutRef1Ideal.main_arg7) = m ((c.tc : Thread Cert.Out1Ideal.nD Cert.Out1Ideal.τ).loc Cert.Out1Ideal.main_arg7)
      ∧ m' ((c.tc : Thread Cert.OutRef1Ideal.nD Cert.OutRef1Ideal.τ).loc Cert.OutRef1Ideal.main_arg8) = m ((c.tc : Thread Cert.Out1Ideal.nD Cert.Out1Ideal.τ).loc Cert.Out1Ideal.main_arg8)) →
    ∃ (v0 : (c : Dev Cert.Out1Ideal.nD) → Buf (Elt Ideal) ((c.tc : Thread Cert.Out1Ideal.nD Cert.Out1Ideal.τ).loc Cert.Out1Ideal.main_v9_0)) (v1 : (c : Dev Cert.Out1Ideal.nD) → Buf (Elt Ideal) ((c.tc : Thread Cert.Out1Ideal.nD Cert.Out1Ideal.τ).loc Cert.Out1Ideal.main_v9_1)) (v2 : (c : Dev Cert.Out1Ideal.nD) → Buf (Elt Ideal) ((c.tc : Thread Cert.Out1Ideal.nD Cert.Out1Ideal.τ).loc Cert.Out1Ideal.main_v13_0)) (v3 : (c : Dev Cert.Out1Ideal.nD) → Buf (Elt Ideal) ((c.tc : Thread Cert.Out1Ideal.nD Cert.Out1Ideal.τ).loc Cert.Out1Ideal.main_v13_1)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v9_0) = v0 c
          ∧ r.2.mem ((c.tc : Thread Cert.Out1Ideal.nD Cert.Out1Ideal.τ).loc Cert.Out1Ideal.main_v9_1) = v1 c
          ∧ r.2.mem ((c.tc : Thread Cert.Out1Ideal.nD Cert.Out1Ideal.τ).loc Cert.Out1Ideal.main_v13_0) = v2 c
          ∧ r.2.mem ((c.tc : Thread Cert.Out1Ideal.nD Cert.Out1Ideal.τ).loc Cert.Out1Ideal.main_v13_1) = v3 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5)
          ∧ r.2.mem ((c.tc : Thread Cert.Out1Ideal.nD Cert.Out1Ideal.τ).loc Cert.Out1Ideal.main_arg6) = m ((c.tc : Thread Cert.Out1Ideal.nD Cert.Out1Ideal.τ).loc Cert.Out1Ideal.main_arg6)
          ∧ r.2.mem ((c.tc : Thread Cert.Out1Ideal.nD Cert.Out1Ideal.τ).loc Cert.Out1Ideal.main_arg7) = m ((c.tc : Thread Cert.Out1Ideal.nD Cert.Out1Ideal.τ).loc Cert.Out1Ideal.main_arg7)
          ∧ r.2.mem ((c.tc : Thread Cert.Out1Ideal.nD Cert.Out1Ideal.τ).loc Cert.Out1Ideal.main_arg8) = m ((c.tc : Thread Cert.Out1Ideal.nD Cert.Out1Ideal.τ).loc Cert.Out1Ideal.main_arg8))
      ∧ θ_run (Cert.OutRef1Ideal.defs (F := Ideal)) (onTc (τ := Cert.OutRef1Ideal.τ) (Cert.OutRef1Ideal.main (F := Ideal))) ⟨m', fun _ => 0, g'⟩ (fun r => ∀ c : Dev Cert.OutRef1Ideal.nD,
          r.2.mem ((c.tc : Thread Cert.OutRef1Ideal.nD Cert.OutRef1Ideal.τ).loc Cert.OutRef1Ideal.main_v7) = v0 c
          ∧ r.2.mem ((c.tc : Thread Cert.OutRef1Ideal.nD Cert.OutRef1Ideal.τ).loc Cert.OutRef1Ideal.main_v28) = v1 c
          ∧ r.2.mem ((c.tc : Thread Cert.OutRef1Ideal.nD Cert.OutRef1Ideal.τ).loc Cert.OutRef1Ideal.main_v12) = v2 c
          ∧ r.2.mem ((c.tc : Thread Cert.OutRef1Ideal.nD Cert.OutRef1Ideal.τ).loc Cert.OutRef1Ideal.main_v44) = v3 c
          ∧ r.2.mem ((c.tc : Thread Cert.OutRef1Ideal.nD Cert.OutRef1Ideal.τ).loc Cert.OutRef1Ideal.main_arg0) = m' ((c.tc : Thread Cert.OutRef1Ideal.nD Cert.OutRef1Ideal.τ).loc Cert.OutRef1Ideal.main_arg0)
          ∧ r.2.mem ((c.tc : Thread Cert.OutRef1Ideal.nD Cert.OutRef1Ideal.τ).loc Cert.OutRef1Ideal.main_arg1) = m' ((c.tc : Thread Cert.OutRef1Ideal.nD Cert.OutRef1Ideal.τ).loc Cert.OutRef1Ideal.main_arg1)
          ∧ r.2.mem ((c.tc : Thread Cert.OutRef1Ideal.nD Cert.OutRef1Ideal.τ).loc Cert.OutRef1Ideal.main_arg2) = m' ((c.tc : Thread Cert.OutRef1Ideal.nD Cert.OutRef1Ideal.τ).loc Cert.OutRef1Ideal.main_arg2)
          ∧ r.2.mem ((c.tc : Thread Cert.OutRef1Ideal.nD Cert.OutRef1Ideal.τ).loc Cert.OutRef1Ideal.main_arg3) = m' ((c.tc : Thread Cert.OutRef1Ideal.nD Cert.OutRef1Ideal.τ).loc Cert.OutRef1Ideal.main_arg3)
          ∧ r.2.mem ((c.tc : Thread Cert.OutRef1Ideal.nD Cert.OutRef1Ideal.τ).loc Cert.OutRef1Ideal.main_arg4) = m' ((c.tc : Thread Cert.OutRef1Ideal.nD Cert.OutRef1Ideal.τ).loc Cert.OutRef1Ideal.main_arg4)
          ∧ r.2.mem ((c.tc : Thread Cert.OutRef1Ideal.nD Cert.OutRef1Ideal.τ).loc Cert.OutRef1Ideal.main_arg5) = m' ((c.tc : Thread Cert.OutRef1Ideal.nD Cert.OutRef1Ideal.τ).loc Cert.OutRef1Ideal.main_arg5)
          ∧ r.2.mem ((c.tc : Thread Cert.OutRef1Ideal.nD Cert.OutRef1Ideal.τ).loc Cert.OutRef1Ideal.main_arg6) = m' ((c.tc : Thread Cert.OutRef1Ideal.nD Cert.OutRef1Ideal.τ).loc Cert.OutRef1Ideal.main_arg6)
          ∧ r.2.mem ((c.tc : Thread Cert.OutRef1Ideal.nD Cert.OutRef1Ideal.τ).loc Cert.OutRef1Ideal.main_arg7) = m' ((c.tc : Thread Cert.OutRef1Ideal.nD Cert.OutRef1Ideal.τ).loc Cert.OutRef1Ideal.main_arg7)
          ∧ r.2.mem ((c.tc : Thread Cert.OutRef1Ideal.nD Cert.OutRef1Ideal.τ).loc Cert.OutRef1Ideal.main_arg8) = m' ((c.tc : Thread Cert.OutRef1Ideal.nD Cert.OutRef1Ideal.τ).loc Cert.OutRef1Ideal.main_arg8))

def preserves_Xfwd_XfwdIdeal : Prop :=
  True

def algebraic_XfwdIdeal_XfwdRefIdeal [hXfwdIdeal : Cert.XfwdIdeal.Facts] [hXfwdRefIdeal : Cert.XfwdRefIdeal.Facts] : Prop :=
  ∀ (m : (ℓ : Loc Cert.XfwdIdeal.nD Cert.XfwdIdeal.τ Cert.XfwdIdeal.sig) → Buf (Elt Ideal) ℓ) (g : Dev Cert.XfwdIdeal.nD → PrngReg)
    (m' : (ℓ : Loc Cert.XfwdRefIdeal.nD Cert.XfwdRefIdeal.τ Cert.XfwdRefIdeal.sig) → Buf (Elt Ideal) ℓ) (g' : Dev Cert.XfwdRefIdeal.nD → PrngReg), Pre_XfwdIdeal m →
    (∀ c : Dev Cert.XfwdIdeal.nD,
      m' ((c.tc : Thread Cert.XfwdRefIdeal.nD Cert.XfwdRefIdeal.τ).loc Cert.XfwdRefIdeal.main_arg0) = m ((c.tc : Thread Cert.XfwdIdeal.nD Cert.XfwdIdeal.τ).loc Cert.XfwdIdeal.main_arg0)
      ∧ m' ((c.tc : Thread Cert.XfwdRefIdeal.nD Cert.XfwdRefIdeal.τ).loc Cert.XfwdRefIdeal.main_arg1) = m ((c.tc : Thread Cert.XfwdIdeal.nD Cert.XfwdIdeal.τ).loc Cert.XfwdIdeal.main_arg1)) →
    ∃ (v0 : (c : Dev Cert.XfwdIdeal.nD) → Buf (Elt Ideal) ((c.tc : Thread Cert.XfwdIdeal.nD Cert.XfwdIdeal.τ).loc Cert.XfwdIdeal.main_v0)),
      θ_run (Cert.XfwdIdeal.defs (F := Ideal)) (onTc (τ := Cert.XfwdIdeal.τ) (Cert.XfwdIdeal.main (F := Ideal))) ⟨m, fun _ => 0, g⟩ (fun r => ∀ c : Dev Cert.XfwdIdeal.nD,
          r.2.mem ((c.tc : Thread Cert.XfwdIdeal.nD Cert.XfwdIdeal.τ).loc Cert.XfwdIdeal.main_v0) = v0 c
          ∧ r.2.mem ((c.tc : Thread Cert.XfwdIdeal.nD Cert.XfwdIdeal.τ).loc Cert.XfwdIdeal.main_arg0) = m ((c.tc : Thread Cert.XfwdIdeal.nD Cert.XfwdIdeal.τ).loc Cert.XfwdIdeal.main_arg0)
          ∧ r.2.mem ((c.tc : Thread Cert.XfwdIdeal.nD Cert.XfwdIdeal.τ).loc Cert.XfwdIdeal.main_arg1) = m ((c.tc : Thread Cert.XfwdIdeal.nD Cert.XfwdIdeal.τ).loc Cert.XfwdIdeal.main_arg1))
      ∧ θ_run (Cert.XfwdRefIdeal.defs (F := Ideal)) (onTc (τ := Cert.XfwdRefIdeal.τ) (Cert.XfwdRefIdeal.main (F := Ideal))) ⟨m', fun _ => 0, g'⟩ (fun r => ∀ c : Dev Cert.XfwdRefIdeal.nD,
          r.2.mem ((c.tc : Thread Cert.XfwdRefIdeal.nD Cert.XfwdRefIdeal.τ).loc Cert.XfwdRefIdeal.main_v25) = v0 c
          ∧ r.2.mem ((c.tc : Thread Cert.XfwdRefIdeal.nD Cert.XfwdRefIdeal.τ).loc Cert.XfwdRefIdeal.main_arg0) = m' ((c.tc : Thread Cert.XfwdRefIdeal.nD Cert.XfwdRefIdeal.τ).loc Cert.XfwdRefIdeal.main_arg0)
          ∧ r.2.mem ((c.tc : Thread Cert.XfwdRefIdeal.nD Cert.XfwdRefIdeal.τ).loc Cert.XfwdRefIdeal.main_arg1) = m' ((c.tc : Thread Cert.XfwdRefIdeal.nD Cert.XfwdRefIdeal.τ).loc Cert.XfwdRefIdeal.main_arg1))

def Claim : Prop :=
  ∃ (hKernel : Cert.Kernel.Facts) (hKernelIdeal : Cert.KernelIdeal.Facts) (hReferenceIdeal : Cert.ReferenceIdeal.Facts) (hMlp0 : Cert.Mlp0.Facts) (hMlp0Ideal : Cert.Mlp0Ideal.Facts) (hMlpRef0Ideal : Cert.MlpRef0Ideal.Facts) (hMlp1 : Cert.Mlp1.Facts) (hMlp1Ideal : Cert.Mlp1Ideal.Facts) (hMlpRef1Ideal : Cert.MlpRef1Ideal.Facts) (hProj : Cert.Proj.Facts) (hProjIdeal : Cert.ProjIdeal.Facts) (hProjRefIdeal : Cert.ProjRefIdeal.Facts) (hPw1 : Cert.Pw1.Facts) (hPw1Ideal : Cert.Pw1Ideal.Facts) (hPw1RefIdeal : Cert.Pw1RefIdeal.Facts) (hXlin0 : Cert.Xlin0.Facts) (hXlin0Ideal : Cert.Xlin0Ideal.Facts) (hXlinRef0Ideal : Cert.XlinRef0Ideal.Facts) (hXlin1 : Cert.Xlin1.Facts) (hXlin1Ideal : Cert.Xlin1Ideal.Facts) (hXlinRef1Ideal : Cert.XlinRef1Ideal.Facts) (hWout : Cert.Wout.Facts) (hWoutIdeal : Cert.WoutIdeal.Facts) (hWoutRefIdeal : Cert.WoutRefIdeal.Facts) (hDown1 : Cert.Down1.Facts) (hDown1Ideal : Cert.Down1Ideal.Facts) (hDownRef1Ideal : Cert.DownRef1Ideal.Facts) (hDown0 : Cert.Down0.Facts) (hDown0Ideal : Cert.Down0Ideal.Facts) (hDownRef0Ideal : Cert.DownRef0Ideal.Facts) (hMdn0 : Cert.Mdn0.Facts) (hMdn0Ideal : Cert.Mdn0Ideal.Facts) (hMdnRef0Ideal : Cert.MdnRef0Ideal.Facts) (hMdn1 : Cert.Mdn1.Facts) (hMdn1Ideal : Cert.Mdn1Ideal.Facts) (hMdnRef1Ideal : Cert.MdnRef1Ideal.Facts) (hXdn0 : Cert.Xdn0.Facts) (hXdn0Ideal : Cert.Xdn0Ideal.Facts) (hXdnRef0Ideal : Cert.XdnRef0Ideal.Facts) (hXdn1 : Cert.Xdn1.Facts) (hXdn1Ideal : Cert.Xdn1Ideal.Facts) (hXdnRef1Ideal : Cert.XdnRef1Ideal.Facts) (hCdn : Cert.Cdn.Facts) (hCdnIdeal : Cert.CdnIdeal.Facts) (hCdnRefIdeal : Cert.CdnRefIdeal.Facts) (hOut0 : Cert.Out0.Facts) (hOut0Ideal : Cert.Out0Ideal.Facts) (hOutRef0Ideal : Cert.OutRef0Ideal.Facts) (hOut1 : Cert.Out1.Facts) (hOut1Ideal : Cert.Out1Ideal.Facts) (hOutRef1Ideal : Cert.OutRef1Ideal.Facts) (hXfwd : Cert.Xfwd.Facts) (hXfwdIdeal : Cert.XfwdIdeal.Facts) (hXfwdRefIdeal : Cert.XfwdRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp0 (hMlp0 := hMlp0)
    ∧ quiescent_Mlp0Ideal (hMlp0Ideal := hMlp0Ideal)
    ∧ quiescent_MlpRef0Ideal (hMlpRef0Ideal := hMlpRef0Ideal)
    ∧ quiescent_Mlp1 (hMlp1 := hMlp1)
    ∧ quiescent_Mlp1Ideal (hMlp1Ideal := hMlp1Ideal)
    ∧ quiescent_MlpRef1Ideal (hMlpRef1Ideal := hMlpRef1Ideal)
    ∧ quiescent_Proj (hProj := hProj)
    ∧ quiescent_ProjIdeal (hProjIdeal := hProjIdeal)
    ∧ quiescent_ProjRefIdeal (hProjRefIdeal := hProjRefIdeal)
    ∧ quiescent_Pw1 (hPw1 := hPw1)
    ∧ quiescent_Pw1Ideal (hPw1Ideal := hPw1Ideal)
    ∧ quiescent_Pw1RefIdeal (hPw1RefIdeal := hPw1RefIdeal)
    ∧ quiescent_Xlin0 (hXlin0 := hXlin0)
    ∧ quiescent_Xlin0Ideal (hXlin0Ideal := hXlin0Ideal)
    ∧ quiescent_XlinRef0Ideal (hXlinRef0Ideal := hXlinRef0Ideal)
    ∧ quiescent_Xlin1 (hXlin1 := hXlin1)
    ∧ quiescent_Xlin1Ideal (hXlin1Ideal := hXlin1Ideal)
    ∧ quiescent_XlinRef1Ideal (hXlinRef1Ideal := hXlinRef1Ideal)
    ∧ quiescent_Wout (hWout := hWout)
    ∧ quiescent_WoutIdeal (hWoutIdeal := hWoutIdeal)
    ∧ quiescent_WoutRefIdeal (hWoutRefIdeal := hWoutRefIdeal)
    ∧ quiescent_Down1 (hDown1 := hDown1)
    ∧ quiescent_Down1Ideal (hDown1Ideal := hDown1Ideal)
    ∧ quiescent_DownRef1Ideal (hDownRef1Ideal := hDownRef1Ideal)
    ∧ quiescent_Down0 (hDown0 := hDown0)
    ∧ quiescent_Down0Ideal (hDown0Ideal := hDown0Ideal)
    ∧ quiescent_DownRef0Ideal (hDownRef0Ideal := hDownRef0Ideal)
    ∧ quiescent_Mdn0 (hMdn0 := hMdn0)
    ∧ quiescent_Mdn0Ideal (hMdn0Ideal := hMdn0Ideal)
    ∧ quiescent_MdnRef0Ideal (hMdnRef0Ideal := hMdnRef0Ideal)
    ∧ quiescent_Mdn1 (hMdn1 := hMdn1)
    ∧ quiescent_Mdn1Ideal (hMdn1Ideal := hMdn1Ideal)
    ∧ quiescent_MdnRef1Ideal (hMdnRef1Ideal := hMdnRef1Ideal)
    ∧ quiescent_Xdn0 (hXdn0 := hXdn0)
    ∧ quiescent_Xdn0Ideal (hXdn0Ideal := hXdn0Ideal)
    ∧ quiescent_XdnRef0Ideal (hXdnRef0Ideal := hXdnRef0Ideal)
    ∧ quiescent_Xdn1 (hXdn1 := hXdn1)
    ∧ quiescent_Xdn1Ideal (hXdn1Ideal := hXdn1Ideal)
    ∧ quiescent_XdnRef1Ideal (hXdnRef1Ideal := hXdnRef1Ideal)
    ∧ quiescent_Cdn (hCdn := hCdn)
    ∧ quiescent_CdnIdeal (hCdnIdeal := hCdnIdeal)
    ∧ quiescent_CdnRefIdeal (hCdnRefIdeal := hCdnRefIdeal)
    ∧ quiescent_Out0 (hOut0 := hOut0)
    ∧ quiescent_Out0Ideal (hOut0Ideal := hOut0Ideal)
    ∧ quiescent_OutRef0Ideal (hOutRef0Ideal := hOutRef0Ideal)
    ∧ quiescent_Out1 (hOut1 := hOut1)
    ∧ quiescent_Out1Ideal (hOut1Ideal := hOut1Ideal)
    ∧ quiescent_OutRef1Ideal (hOutRef1Ideal := hOutRef1Ideal)
    ∧ quiescent_Xfwd (hXfwd := hXfwd)
    ∧ quiescent_XfwdIdeal (hXfwdIdeal := hXfwdIdeal)
    ∧ quiescent_XfwdRefIdeal (hXfwdRefIdeal := hXfwdRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp0_Mlp0Ideal
    ∧ algebraic_Mlp0Ideal_MlpRef0Ideal (hMlp0Ideal := hMlp0Ideal) (hMlpRef0Ideal := hMlpRef0Ideal)
    ∧ preserves_Mlp1_Mlp1Ideal
    ∧ algebraic_Mlp1Ideal_MlpRef1Ideal (hMlp1Ideal := hMlp1Ideal) (hMlpRef1Ideal := hMlpRef1Ideal)
    ∧ preserves_Proj_ProjIdeal
    ∧ algebraic_ProjIdeal_ProjRefIdeal (hProjIdeal := hProjIdeal) (hProjRefIdeal := hProjRefIdeal)
    ∧ preserves_Pw1_Pw1Ideal
    ∧ algebraic_Pw1Ideal_Pw1RefIdeal (hPw1Ideal := hPw1Ideal) (hPw1RefIdeal := hPw1RefIdeal)
    ∧ preserves_Xlin0_Xlin0Ideal
    ∧ algebraic_Xlin0Ideal_XlinRef0Ideal (hXlin0Ideal := hXlin0Ideal) (hXlinRef0Ideal := hXlinRef0Ideal)
    ∧ preserves_Xlin1_Xlin1Ideal
    ∧ algebraic_Xlin1Ideal_XlinRef1Ideal (hXlin1Ideal := hXlin1Ideal) (hXlinRef1Ideal := hXlinRef1Ideal)
    ∧ preserves_Wout_WoutIdeal
    ∧ algebraic_WoutIdeal_WoutRefIdeal (hWoutIdeal := hWoutIdeal) (hWoutRefIdeal := hWoutRefIdeal)
    ∧ preserves_Down1_Down1Ideal
    ∧ algebraic_Down1Ideal_DownRef1Ideal (hDown1Ideal := hDown1Ideal) (hDownRef1Ideal := hDownRef1Ideal)
    ∧ preserves_Down0_Down0Ideal
    ∧ algebraic_Down0Ideal_DownRef0Ideal (hDown0Ideal := hDown0Ideal) (hDownRef0Ideal := hDownRef0Ideal)
    ∧ preserves_Mdn0_Mdn0Ideal
    ∧ algebraic_Mdn0Ideal_MdnRef0Ideal (hMdn0Ideal := hMdn0Ideal) (hMdnRef0Ideal := hMdnRef0Ideal)
    ∧ preserves_Mdn1_Mdn1Ideal
    ∧ algebraic_Mdn1Ideal_MdnRef1Ideal (hMdn1Ideal := hMdn1Ideal) (hMdnRef1Ideal := hMdnRef1Ideal)
    ∧ preserves_Xdn0_Xdn0Ideal
    ∧ algebraic_Xdn0Ideal_XdnRef0Ideal (hXdn0Ideal := hXdn0Ideal) (hXdnRef0Ideal := hXdnRef0Ideal)
    ∧ preserves_Xdn1_Xdn1Ideal
    ∧ algebraic_Xdn1Ideal_XdnRef1Ideal (hXdn1Ideal := hXdn1Ideal) (hXdnRef1Ideal := hXdnRef1Ideal)
    ∧ preserves_Cdn_CdnIdeal
    ∧ algebraic_CdnIdeal_CdnRefIdeal (hCdnIdeal := hCdnIdeal) (hCdnRefIdeal := hCdnRefIdeal)
    ∧ preserves_Out0_Out0Ideal
    ∧ algebraic_Out0Ideal_OutRef0Ideal (hOut0Ideal := hOut0Ideal) (hOutRef0Ideal := hOutRef0Ideal)
    ∧ preserves_Out1_Out1Ideal
    ∧ algebraic_Out1Ideal_OutRef1Ideal (hOut1Ideal := hOut1Ideal) (hOutRef1Ideal := hOutRef1Ideal)
    ∧ preserves_Xfwd_XfwdIdeal
    ∧ algebraic_XfwdIdeal_XfwdRefIdeal (hXfwdIdeal := hXfwdIdeal) (hXfwdRefIdeal := hXfwdRefIdeal)
-- ==== Pre_finite_scores.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S4096x1024 .bf16) (main_arg2 : FVec F S256x2048 .bf16) : IVec S_ 1 :=
  let main_v0 : FVec F S4096x1024 .f32 := (extf .f32 · bitsLt_bf16_f32) main_arg1
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x1024 .bf16 := (extractStridedSlice S256x1024 ![0, 0] · slices_S256x2048_S256x1024_0_0) main_arg2
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S256x2048, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S256x2048, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S4096x4x256 : Shape := ⟨3, ![4096, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S256x2048, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x2x4x256, .f32⟩
  | .hbm, ⟨7, _⟩ => ⟨S256x1x4x256, .f32⟩
  | .hbm, ⟨8, _⟩ => ⟨S256x4x256, .f32⟩
  | .hbm, ⟨9, _⟩ => ⟨S256x1x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x1024, .f32⟩
  | .hbm, ⟨57, _⟩ => ⟨S4096x4x256, .f32⟩
  | .hbm, ⟨58, _⟩ => ⟨S4x256x4096, .f32⟩
  | .hbm, ⟨59, _⟩ => ⟨S4x4096x256, .f32⟩
  | .hbm, ⟨60, _⟩ => ⟨S4x256x256, .f32⟩
  | .hbm, ⟨61, _⟩ => ⟨S256x4x256, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S4x256x256, .f32⟩
  | .hbm, ⟨80, _⟩ => ⟨S256x4x256, .f32⟩
  | .hbm, ⟨81, _⟩ => ⟨S4x4096x256, .f32⟩
  | .hbm, ⟨82, _⟩ => ⟨S4096x4x256, .f32⟩
  | .hbm, ⟨83, _⟩ => ⟨S256x1x4x256, .f32⟩
  | .hbm, ⟨84, _⟩ => ⟨S_, .f32⟩
  | .hbm, ⟨85, _⟩ => ⟨S256x2x4x256, .f32⟩
  | .hbm, ⟨86, _⟩ => ⟨S256x1x4x256, .f32⟩
  | .hbm, ⟨87, _⟩ => ⟨S_, .f32⟩
  | .hbm, ⟨88, _⟩ => ⟨S256x2x4x256, .f32⟩
  | .hbm, ⟨89, _⟩ => ⟨S256x2x4x256, .f32⟩
  | .hbm, ⟨90, _⟩ => ⟨S256x2048, .f32⟩
  | .hbm, ⟨91, _⟩ => ⟨S4096x1024, .f32⟩
  | .hbm, ⟨92, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Mlp0.lean ====
abbrev S4096x1024 : Shape := ⟨2, ![4096, 1024]⟩
abbrev S2x1024x4096 : Shape := ⟨3, ![2, 1024, 4096]⟩
abbrev S2x4096x1024 : Shape := ⟨3, ![2, 4096, 1024]⟩
abbrev S2x1024x4x1024 : Shape := ⟨4, ![2, 1024, 4, 1024]⟩
abbrev S4x2x1024x1024 : Shape := ⟨4, ![4, 2, 1024, 1024]⟩
abbrev S2x4x1024x1024 : Shape := ⟨4, ![2, 4, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩
abbrev S4x1x1024x1024 : Shape := ⟨4, ![4, 1, 1024, 1024]⟩
abbrev S1x1024x4x1024 : Shape := ⟨4, ![1, 1024, 4, 1024]⟩
abbrev S1024x4096 : Shape := ⟨2, ![1024, 4096]⟩

abbrev nBuf : Space → Nat
  | .hbm => 19
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x4096, .f32⟩
  | .hbm, ⟨3, _⟩ => ⟨S2x4096x1024, .f32⟩
  | .hbm, ⟨4, _⟩ => ⟨S2x1024x4096, .bf16⟩
  | .hbm, ⟨5, _⟩ => ⟨S2x1024x4x1024, .bf16⟩
  | .hbm, ⟨6, _⟩ => ⟨S4x2x1024x1024, .bf16⟩
  | .hbm, ⟨7, _⟩ => ⟨S2x4096x1024, .bf16⟩
  | .hbm, ⟨8, _⟩ => ⟨S2x4x1024x1024, .bf16⟩
  | .hbm, ⟨9, _⟩ => ⟨S4x2x1024x1024, .bf16⟩
  | .hbm, ⟨10, _⟩ => ⟨S4096x4096, .bf16⟩
  | .hbm, ⟨11, _⟩ => ⟨S4096x4096, .bf16⟩
  | .hbm, ⟨12, _⟩ => ⟨S4x1x1024x1024, .bf16⟩
  | .hbm, ⟨13, _⟩ => ⟨S4x1x1024x1024, .bf16⟩
  | .hbm, ⟨14, _⟩ => ⟨S4x1x1024x1024, .f32⟩
  | .hbm, ⟨15, _⟩ => ⟨S1x1024x4x1024, .f32⟩
  | .hbm, ⟨16, _⟩ => ⟨S1024x4096, .f32⟩
  | .hbm, ⟨17, _⟩ => ⟨S4x1x1024x1024, .f32⟩
  | .hbm, ⟨18, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S1x1x1024x1024, .bf16⟩
  | .local _ .vmem, ⟨18, _⟩ => ⟨S1x1x1024x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1x1x1024x1024, .bf16⟩
  | .local _ .vmem, ⟨23, _⟩ => ⟨S1x1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Mlp0Ideal.lean ====
abbrev S4096x1024 : Shape := ⟨2, ![4096, 1024]⟩
abbrev S2x1024x4096 : Shape := ⟨3, ![2, 1024, 4096]⟩
abbrev S2x4096x1024 : Shape := ⟨3, ![2, 4096, 1024]⟩
abbrev S2x1024x4x1024 : Shape := ⟨4, ![2, 1024, 4, 1024]⟩
abbrev S4x2x1024x1024 : Shape := ⟨4, ![4, 2, 1024, 1024]⟩
abbrev S2x4x1024x1024 : Shape := ⟨4, ![2, 4, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩
abbrev S4x1x1024x1024 : Shape := ⟨4, ![4, 1, 1024, 1024]⟩
abbrev S1x1024x4x1024 : Shape := ⟨4, ![1, 1024, 4, 1024]⟩
abbrev S1024x4096 : Shape := ⟨2, ![1024, 4096]⟩

abbrev nBuf : Space → Nat
  | .hbm => 19
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x4096, .f32⟩
  | .hbm, ⟨3, _⟩ => ⟨S2x4096x1024, .f32⟩
  | .hbm, ⟨4, _⟩ => ⟨S2x1024x4096, .bf16⟩
  | .hbm, ⟨5, _⟩ => ⟨S2x1024x4x1024, .bf16⟩
  | .hbm, ⟨6, _⟩ => ⟨S4x2x1024x1024, .bf16⟩
  | .hbm, ⟨7, _⟩ => ⟨S2x4096x1024, .bf16⟩
  | .hbm, ⟨8, _⟩ => ⟨S2x4x1024x1024, .bf16⟩
  | .hbm, ⟨9, _⟩ => ⟨S4x2x1024x1024, .bf16⟩
  | .hbm, ⟨10, _⟩ => ⟨S4096x4096, .bf16⟩
  | .hbm, ⟨11, _⟩ => ⟨S4096x4096, .bf16⟩
  | .hbm, ⟨12, _⟩ => ⟨S4x1x1024x1024, .bf16⟩
  | .hbm, ⟨13, _⟩ => ⟨S4x1x1024x1024, .bf16⟩
  | .hbm, ⟨14, _⟩ => ⟨S4x1x1024x1024, .f32⟩
  | .hbm, ⟨15, _⟩ => ⟨S1x1024x4x1024, .f32⟩
  | .hbm, ⟨16, _⟩ => ⟨S1024x4096, .f32⟩
  | .hbm, ⟨17, _⟩ => ⟨S4x1x1024x1024, .f32⟩
  | .hbm, ⟨18, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S1x1x1024x1024, .bf16⟩
  | .local _ .vmem, ⟨18, _⟩ => ⟨S1x1x1024x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1x1x1024x1024, .bf16⟩
  | .local _ .vmem, ⟨23, _⟩ => ⟨S1x1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== MlpRef0Ideal.lean ====
abbrev S4096x1024 : Shape := ⟨2, ![4096, 1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x4096 : Shape := ⟨2, ![4096, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x4096, .f32⟩
  | .hbm, ⟨3, _⟩ => ⟨S2x4096x1024, .f32⟩
  | .hbm, ⟨4, _⟩ => ⟨S1x1024x4096, .f32⟩
  | .hbm, ⟨5, _⟩ => ⟨S1024x4096, .f32⟩
  | .hbm, ⟨6, _⟩ => ⟨S1x4096x1024, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x1024, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Mlp1.lean ====
abbrev S4096x1024 : Shape := ⟨2, ![4096, 1024]⟩
abbrev S2x1024x4096 : Shape := ⟨3, ![2, 1024, 4096]⟩
abbrev S2x4096x1024 : Shape := ⟨3, ![2, 4096, 1024]⟩
abbrev S2x1024x4x1024 : Shape := ⟨4, ![2, 1024, 4, 1024]⟩
abbrev S4x2x1024x1024 : Shape := ⟨4, ![4, 2, 1024, 1024]⟩
abbrev S2x4x1024x1024 : Shape := ⟨4, ![2, 4, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩
abbrev S4x1x1024x1024 : Shape := ⟨4, ![4, 1, 1024, 1024]⟩
abbrev S1x1024x4x1024 : Shape := ⟨4, ![1, 1024, 4, 1024]⟩
abbrev S1024x4096 : Shape := ⟨2, ![1024, 4096]⟩

abbrev nBuf : Space → Nat
  | .hbm => 19
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x4096, .f32⟩
  | .hbm, ⟨3, _⟩ => ⟨S2x4096x1024, .f32⟩
  | .hbm, ⟨4, _⟩ => ⟨S2x1024x4096, .bf16⟩
  | .hbm, ⟨5, _⟩ => ⟨S2x1024x4x1024, .bf16⟩
  | .hbm, ⟨6, _⟩ => ⟨S4x2x1024x1024, .bf16⟩
  | .hbm, ⟨7, _⟩ => ⟨S2x4096x1024, .bf16⟩
  | .hbm, ⟨8, _⟩ => ⟨S2x4x1024x1024, .bf16⟩
  | .hbm, ⟨9, _⟩ => ⟨S4x2x1024x1024, .bf16⟩
  | .hbm, ⟨10, _⟩ => ⟨S4096x4096, .bf16⟩
  | .hbm, ⟨11, _⟩ => ⟨S4096x4096, .bf16⟩
  | .hbm, ⟨12, _⟩ => ⟨S4x1x1024x1024, .bf16⟩
  | .hbm, ⟨13, _⟩ => ⟨S4x1x1024x1024, .bf16⟩
  | .hbm, ⟨14, _⟩ => ⟨S4x1x1024x1024, .f32⟩
  | .hbm, ⟨15, _⟩ => ⟨S1x1024x4x1024, .f32⟩
  | .hbm, ⟨16, _⟩ => ⟨S1024x4096, .f32⟩
  | .hbm, ⟨17, _⟩ => ⟨S4x1x1024x1024, .f32⟩
  | .hbm, ⟨18, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S1x1x1024x1024, .bf16⟩
  | .local _ .vmem, ⟨18, _⟩ => ⟨S1x1x1024x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1x1x1024x1024, .bf16⟩
  | .local _ .vmem, ⟨23, _⟩ => ⟨S1x1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Mlp1Ideal.lean ====
abbrev S4096x1024 : Shape := ⟨2, ![4096, 1024]⟩
abbrev S2x1024x4096 : Shape := ⟨3, ![2, 1024, 4096]⟩
abbrev S2x4096x1024 : Shape := ⟨3, ![2, 4096, 1024]⟩
abbrev S2x1024x4x1024 : Shape := ⟨4, ![2, 1024, 4, 1024]⟩
abbrev S4x2x1024x1024 : Shape := ⟨4, ![4, 2, 1024, 1024]⟩
abbrev S2x4x1024x1024 : Shape := ⟨4, ![2, 4, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩
abbrev S4x1x1024x1024 : Shape := ⟨4, ![4, 1, 1024, 1024]⟩
abbrev S1x1024x4x1024 : Shape := ⟨4, ![1, 1024, 4, 1024]⟩
abbrev S1024x4096 : Shape := ⟨2, ![1024, 4096]⟩

abbrev nBuf : Space → Nat
  | .hbm => 19
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x4096, .f32⟩
  | .hbm, ⟨3, _⟩ => ⟨S2x4096x1024, .f32⟩
  | .hbm, ⟨4, _⟩ => ⟨S2x1024x4096, .bf16⟩
  | .hbm, ⟨5, _⟩ => ⟨S2x1024x4x1024, .bf16⟩
  | .hbm, ⟨6, _⟩ => ⟨S4x2x1024x1024, .bf16⟩
  | .hbm, ⟨7, _⟩ => ⟨S2x4096x1024, .bf16⟩
  | .hbm, ⟨8, _⟩ => ⟨S2x4x1024x1024, .bf16⟩
  | .hbm, ⟨9, _⟩ => ⟨S4x2x1024x1024, .bf16⟩
  | .hbm, ⟨10, _⟩ => ⟨S4096x4096, .bf16⟩
  | .hbm, ⟨11, _⟩ => ⟨S4096x4096, .bf16⟩
  | .hbm, ⟨12, _⟩ => ⟨S4x1x1024x1024, .bf16⟩
  | .hbm, ⟨13, _⟩ => ⟨S4x1x1024x1024, .bf16⟩
  | .hbm, ⟨14, _⟩ => ⟨S4x1x1024x1024, .f32⟩
  | .hbm, ⟨15, _⟩ => ⟨S1x1024x4x1024, .f32⟩
  | .hbm, ⟨16, _⟩ => ⟨S1024x4096, .f32⟩
  | .hbm, ⟨17, _⟩ => ⟨S4x1x1024x1024, .f32⟩
  | .hbm, ⟨18, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S1x1x1024x1024, .bf16⟩
  | .local _ .vmem, ⟨18, _⟩ => ⟨S1x1x1024x1024, .bf16⟩
  | .local _ .vmem, ⟨19, _⟩ => ⟨S4096x1024, .bf16⟩
  | .local _ .vmem, ⟨20, _⟩ => ⟨S4096x1024, .bf16⟩
  | .local _ .vmem, ⟨21, _⟩ => ⟨S4096x1024, .bf16⟩
  | .local _ .vmem, ⟨22, _⟩ => ⟨S1x1x1024x1024, .bf16⟩
  | .local _ .vmem, ⟨23, _⟩ => ⟨S1x1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x1x1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== MlpRef1Ideal.lean ====
abbrev S4096x1024 : Shape := ⟨2, ![4096, 1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x4096 : Shape := ⟨2, ![4096, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x4096, .f32⟩
  | .hbm, ⟨3, _⟩ => ⟨S2x4096x1024, .f32⟩
  | .hbm, ⟨4, _⟩ => ⟨S1x1024x4096, .f32⟩
  | .hbm, ⟨5, _⟩ => ⟨S1024x4096, .f32⟩
  | .hbm, ⟨6, _⟩ => ⟨S1x4096x1024, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x1024, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proj.lean ====
abbrev S4096x1024 : Shape := ⟨2, ![4096, 1024]⟩
abbrev S4096x3072 : Shape := ⟨2, ![4096, 3072]⟩
abbrev S1x1024x4112 : Shape := ⟨3, ![1, 1024, 4112]⟩
abbrev S1024x4112 : Shape := ⟨2, ![1024, 4112]⟩
abbrev S1024x3072 : Shape := ⟨2, ![1024, 3072]⟩
abbrev S1024x1024 : Shape := ⟨2, ![1024, 1024]⟩
abbrev S1024x4096 : Shape := ⟨2, ![1024, 4096]⟩

abbrev nBuf : Space → Nat
  | .hbm => 15
  | .vmem => 31
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .bf16⟩
  | .hbm, ⟨3, _⟩ => ⟨S1x1024x4112, .f32⟩
  | .hbm, ⟨4, _⟩ => ⟨S1x1024x4112, .bf16⟩
  | .hbm, ⟨5, _⟩ => ⟨S1024x4112, .bf16⟩
  | .hbm, ⟨6, _⟩ => ⟨S1024x3072, .bf16⟩
  | .hbm, ⟨7, _⟩ => ⟨S1024x1024, .bf16⟩
  | .hbm, ⟨8, _⟩ => ⟨S4096x3072, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x3072, .f32⟩
  | .hbm, ⟨13, _⟩ => ⟨S1024x1024, .f32⟩
  | .hbm, ⟨14, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x3072, .bf16⟩
  | .local _ .vmem, ⟨12, _⟩ => ⟨S1024x3072, .bf16⟩
  | .local _ .vmem, ⟨13, _⟩ => ⟨S1024x3072, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S4096x1024, .bf16⟩
  | .local _ .vmem, ⟨24, _⟩ => ⟨S4096x1024, .bf16⟩
  | .local _ .vmem, ⟨25, _⟩ => ⟨S4096x1024, .bf16⟩
  | .local _ .vmem, ⟨26, _⟩ => ⟨S1024x1024, .f32⟩
  | .local _ .vmem, ⟨27, _⟩ => ⟨S1024x1024, .f32⟩
  | .local _ .vmem, ⟨28, _⟩ => ⟨S4096x1024, .bf16⟩
  | .local _ .vmem, ⟨29, _⟩ => ⟨S4096x1024, .bf16⟩
  | .local _ .vmem, ⟨30, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x3072 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 3, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== ProjRefIdeal.lean ====
abbrev S4096x1024 : Shape := ⟨2, ![4096, 1024]⟩
abbrev S4096x3072 : Shape := ⟨2, ![4096, 3072]⟩
abbrev S1x1024x4112 : Shape := ⟨3, ![1, 1024, 4112]⟩
abbrev S1024x4112 : Shape := ⟨2, ![1024, 4112]⟩
abbrev S1024x4096 : Shape := ⟨2, ![1024, 4096]⟩
abbrev S4096x4096 : Shape := ⟨2, ![4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .bf16⟩
  | .hbm, ⟨3, _⟩ => ⟨S1x1024x4112, .f32⟩
  | .hbm, ⟨4, _⟩ => ⟨S4096x1024, .f32⟩
  | .hbm, ⟨5, _⟩ => ⟨S1024x4112, .f32⟩
  | .hbm, ⟨6, _⟩ => ⟨S1024x4096, .f32⟩
  | .hbm, ⟨7, _⟩ => ⟨S4096x4096, .f32⟩
  | .hbm, ⟨8, _⟩ => ⟨S4096x3072, .f32⟩
  | .hbm, ⟨9, _⟩ => ⟨S4096x1024, .f32⟩
  | .hbm, ⟨10, _⟩ => ⟨S4096x3072, .f32⟩
  | .hbm, ⟨11, _⟩ => ⟨S4096x1024, .f32⟩
  | .hbm, ⟨12, _⟩ => ⟨S_, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S1024x4096, .f32⟩
  | .hbm, ⟨19, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Pw1.lean ====
abbrev S4096x1024 : Shape := ⟨2, ![4096, 1024]⟩
abbrev S4096x2048 : Shape := ⟨2, ![4096, 2048]⟩
abbrev S1x1024x2048 : Shape := ⟨3, ![1, 1024, 2048]⟩
abbrev S1x2048 : Shape := ⟨2, ![1, 2048]⟩
abbrev S1x1024x4x512 : Shape := ⟨4, ![1, 1024, 4, 512]⟩
abbrev S4x1x1024x512 : Shape := ⟨4, ![4, 1, 1024, 512]⟩
abbrev S1024x1024 : Shape := ⟨2, ![1024, 1024]⟩
abbrev S1x1x1024x512 : Shape := ⟨4, ![1, 1, 1024, 512]⟩
abbrev S1x512 : Shape := ⟨2, ![1, 512]⟩
abbrev S1024x512 : Shape := ⟨2, ![1024, 512]⟩
abbrev S4096x512 : Shape := ⟨2, ![4096, 512]⟩
abbrev S1024x2048 : Shape := ⟨2, ![1024, 2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x1024x2048, .f32⟩
  | .hbm, ⟨3, _⟩ => ⟨S1x2048, .f32⟩
  | .hbm, ⟨4, _⟩ => ⟨S1x1024x2048, .bf16⟩
  | .hbm, ⟨5, _⟩ => ⟨S1x1024x4x512, .bf16⟩
  | .hbm, ⟨6, _⟩ => ⟨S4x1x1024x512, .bf16⟩
  | .hbm, ⟨7, _⟩ => ⟨S4096x2048, .f32⟩
  | .hbm, ⟨8, _⟩ => ⟨S4x1x1024x512, .bf16⟩
  | .hbm, ⟨9, _⟩ => ⟨S4x1x1024x512, .f32⟩
  | .hbm, ⟨10, _⟩ => ⟨S1x1024x4x512, .f32⟩
  | .hbm, ⟨11, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S4096x1024, .bf16⟩
  | .local _ .vmem, ⟨9, _⟩ => ⟨S4096x512, .bf16⟩
  | .local _ .vmem, ⟨10, _⟩ => ⟨S4096x512, .bf16⟩
  | .local _ .vmem, ⟨11, _⟩ => ⟨S1x1x1024x512, .bf16⟩
  | .local _ .vmem, ⟨12, _⟩ => ⟨S1x1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Pw1RefIdeal.lean ====
abbrev S4096x1024 : Shape := ⟨2, ![4096, 1024]⟩
abbrev S4096x2048 : Shape := ⟨2, ![4096, 2048]⟩
abbrev S1x1024x2048 : Shape := ⟨3, ![1, 1024, 2048]⟩
abbrev S1x2048 : Shape := ⟨2, ![1, 2048]⟩
abbrev S1024x2048 : Shape := ⟨2, ![1024, 2048]⟩
abbrev S2048 : Shape := ⟨1, ![2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x1024x2048, .f32⟩
  | .hbm, ⟨3, _⟩ => ⟨S1x2048, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S2048x1024, .f32⟩
  | .hbm, ⟨13, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Xlin0.lean ====
abbrev S4096x1024 : Shape := ⟨2, ![4096, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x1024x1024, .f32⟩
  | .hbm, ⟨5, _⟩ => ⟨S2x1024x1024, .f32⟩
  | .hbm, ⟨6, _⟩ => ⟨S2x1024x1024, .bf16⟩
  | .hbm, ⟨7, _⟩ => ⟨S2x4x256x1024, .bf16⟩
  | .hbm, ⟨8, _⟩ => ⟨S4x2x256x1024, .bf16⟩
  | .hbm, ⟨9, _⟩ => ⟨S2x1024x1024, .bf16⟩
  | .hbm, ⟨10, _⟩ => ⟨S2x4x256x1024, .bf16⟩
  | .hbm, ⟨11, _⟩ => ⟨S4x2x256x1024, .bf16⟩
  | .hbm, ⟨12, _⟩ => ⟨S4096x1024, .bf16⟩
  | .hbm, ⟨13, _⟩ => ⟨S4096x1024, .bf16⟩
  | .hbm, ⟨14, _⟩ => ⟨S4x1x256x1024, .bf16⟩
  | .hbm, ⟨15, _⟩ => ⟨S4x1x256x1024, .bf16⟩
  | .hbm, ⟨16, _⟩ => ⟨S4096x1024, .f32⟩
  | .hbm, ⟨17, _⟩ => ⟨S4096x1024, .f32⟩
  | .hbm, ⟨18, _⟩ => ⟨S4x1x256x1024, .f32⟩
  | .hbm, ⟨19, _⟩ => ⟨S1024x1024, .f32⟩
  | .hbm, ⟨20, _⟩ => ⟨S4x1x256x1024, .f32⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S4x1x256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S4096x1024, .bf16⟩
  | .local _ .vmem, ⟨13, _⟩ => ⟨S4096x1024, .bf16⟩
  | .local _ .vmem, ⟨14, _⟩ => ⟨S4x1x256x1024, .bf16⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4x1x256x1024, .bf16⟩
  | .local _ .vmem, ⟨19, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S4x1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S4x1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]
-- ==== Xlin0Ideal.lean ====
abbrev S4096x1024 : Shape := ⟨2, ![4096, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x1024x1024, .f32⟩
  | .hbm, ⟨5, _⟩ => ⟨S2x1024x1024, .f32⟩
  | .hbm, ⟨6, _⟩ => ⟨S2x1024x1024, .bf16⟩
  | .hbm, ⟨7, _⟩ => ⟨S2x4x256x1024, .bf16⟩
  | .hbm, ⟨8, _⟩ => ⟨S4x2x256x1024, .bf16⟩
  | .hbm, ⟨9, _⟩ => ⟨S2x1024x1024, .bf16⟩
  | .hbm, ⟨10, _⟩ => ⟨S2x4x256x1024, .bf16⟩
  | .hbm, ⟨11, _⟩ => ⟨S4x2x256x1024, .bf16⟩
  | .hbm, ⟨12, _⟩ => ⟨S4096x1024, .bf16⟩
  | .hbm, ⟨13, _⟩ => ⟨S4096x1024, .bf16⟩
  | .hbm, ⟨14, _⟩ => ⟨S4x1x256x1024, .bf16⟩
  | .hbm, ⟨15, _⟩ => ⟨S4x1x256x1024, .bf16⟩
  | .hbm, ⟨16, _⟩ => ⟨S4096x1024, .f32⟩
  | .hbm, ⟨17, _⟩ => ⟨S4096x1024, .f32⟩
  | .hbm, ⟨18, _⟩ => ⟨S4x1x256x1024, .f32⟩
  | .hbm, ⟨19, _⟩ => ⟨S1024x1024, .f32⟩
  | .hbm, ⟨20, _⟩ => ⟨S4x1x256x1024, .f32⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S4x1x256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S4096x1024, .bf16⟩
  | .local _ .vmem, ⟨13, _⟩ => ⟨S4096x1024, .bf16⟩
  | .local _ .vmem, ⟨14, _⟩ => ⟨S4x1x256x1024, .bf16⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4x1x256x1024, .bf16⟩
  | .local _ .vmem, ⟨19, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S4x1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S4x1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]
-- ==== XlinRef0Ideal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x1024x1024, .f32⟩
  | .hbm, ⟨5, _⟩ => ⟨S2x1024x1024, .f32⟩
  | .hbm, ⟨6, _⟩ => ⟨S1x1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1024x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Xlin1.lean ====
abbrev S4096x1024 : Shape := ⟨2, ![4096, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x1024x1024, .f32⟩
  | .hbm, ⟨5, _⟩ => ⟨S2x1024x1024, .f32⟩
  | .hbm, ⟨6, _⟩ => ⟨S2x1024x1024, .bf16⟩
  | .hbm, ⟨7, _⟩ => ⟨S2x4x256x1024, .bf16⟩
  | .hbm, ⟨8, _⟩ => ⟨S4x2x256x1024, .bf16⟩
  | .hbm, ⟨9, _⟩ => ⟨S2x1024x1024, .bf16⟩
  | .hbm, ⟨10, _⟩ => ⟨S2x4x256x1024, .bf16⟩
  | .hbm, ⟨11, _⟩ => ⟨S4x2x256x1024, .bf16⟩
  | .hbm, ⟨12, _⟩ => ⟨S4096x1024, .bf16⟩
  | .hbm, ⟨13, _⟩ => ⟨S4096x1024, .bf16⟩
  | .hbm, ⟨14, _⟩ => ⟨S4x1x256x1024, .bf16⟩
  | .hbm, ⟨15, _⟩ => ⟨S4x1x256x1024, .bf16⟩
  | .hbm, ⟨16, _⟩ => ⟨S4096x1024, .f32⟩
  | .hbm, ⟨17, _⟩ => ⟨S4096x1024, .f32⟩
  | .hbm, ⟨18, _⟩ => ⟨S4x1x256x1024, .f32⟩
  | .hbm, ⟨19, _⟩ => ⟨S1024x1024, .f32⟩
  | .hbm, ⟨20, _⟩ => ⟨S4x1x256x1024, .f32⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S4x1x256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S4096x1024, .bf16⟩
  | .local _ .vmem, ⟨13, _⟩ => ⟨S4096x1024, .bf16⟩
  | .local _ .vmem, ⟨14, _⟩ => ⟨S4x1x256x1024, .bf16⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4x1x256x1024, .bf16⟩
  | .local _ .vmem, ⟨19, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S4x1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S4x1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]
-- ==== Xlin1Ideal.lean ====
abbrev S4096x1024 : Shape := ⟨2, ![4096, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S1024x1024 : Shape := ⟨2, ![1024, 1024]⟩
abbrev S4x1x256x1024 : Shape := ⟨4, ![4, 1, 256, 1024]⟩
abbrev S4x256x1024 : Shape := ⟨3, ![4, 256, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x1024x1024, .f32⟩
  | .hbm, ⟨5, _⟩ => ⟨S2x1024x1024, .f32⟩
  | .hbm, ⟨6, _⟩ => ⟨S2x1024x1024, .bf16⟩
  | .hbm, ⟨7, _⟩ => ⟨S2x4x256x1024, .bf16⟩
  | .hbm, ⟨8, _⟩ => ⟨S4x2x256x1024, .bf16⟩
  | .hbm, ⟨9, _⟩ => ⟨S2x1024x1024, .bf16⟩
  | .hbm, ⟨10, _⟩ => ⟨S2x4x256x1024, .bf16⟩
  | .hbm, ⟨11, _⟩ => ⟨S4x2x256x1024, .bf16⟩
  | .hbm, ⟨12, _⟩ => ⟨S4096x1024, .bf16⟩
  | .hbm, ⟨13, _⟩ => ⟨S4096x1024, .bf16⟩
  | .hbm, ⟨14, _⟩ => ⟨S4x1x256x1024, .bf16⟩
  | .hbm, ⟨15, _⟩ => ⟨S4x1x256x1024, .bf16⟩
  | .hbm, ⟨16, _⟩ => ⟨S4096x1024, .f32⟩
  | .hbm, ⟨17, _⟩ => ⟨S4096x1024, .f32⟩
  | .hbm, ⟨18, _⟩ => ⟨S4x1x256x1024, .f32⟩
  | .hbm, ⟨19, _⟩ => ⟨S1024x1024, .f32⟩
  | .hbm, ⟨20, _⟩ => ⟨S4x1x256x1024, .f32⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S4x1x256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S4096x1024, .bf16⟩
  | .local _ .vmem, ⟨13, _⟩ => ⟨S4096x1024, .bf16⟩
  | .local _ .vmem, ⟨14, _⟩ => ⟨S4x1x256x1024, .bf16⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4x1x256x1024, .bf16⟩
  | .local _ .vmem, ⟨19, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S4x1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S4x1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]
-- ==== XlinRef1Ideal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2x1024x1024, .f32⟩
  | .hbm, ⟨5, _⟩ => ⟨S2x1024x1024, .f32⟩
  | .hbm, ⟨6, _⟩ => ⟨S1x1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S1024x1024, .f32⟩
  | .hbm, ⟨16, _⟩ => ⟨S1024x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Wout.lean ====
abbrev S4096x1024 : Shape := ⟨2, ![4096, 1024]⟩
abbrev S1x1024x1024 : Shape := ⟨3, ![1, 1024, 1024]⟩
abbrev S1x4x256x1024 : Shape := ⟨4, ![1, 4, 256, 1024]⟩
abbrev S4x1x256x1024 : Shape := ⟨4, ![4, 1, 256, 1024]⟩
abbrev S1024x1024 : Shape := ⟨2, ![1024, 1024]⟩
abbrev S4x256x1024 : Shape := ⟨3, ![4, 256, 1024]⟩

abbrev nBuf : Space → Nat
  | .hbm => 22
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024x1024, .f32⟩
  | .hbm, ⟨5, _⟩ => ⟨S1x1024x1024, .f32⟩
  | .hbm, ⟨6, _⟩ => ⟨S1x1024x1024, .bf16⟩
  | .hbm, ⟨7, _⟩ => ⟨S1x4x256x1024, .bf16⟩
  | .hbm, ⟨8, _⟩ => ⟨S4x1x256x1024, .bf16⟩
  | .hbm, ⟨9, _⟩ => ⟨S1x1024x1024, .bf16⟩
  | .hbm, ⟨10, _⟩ => ⟨S1x4x256x1024, .bf16⟩
  | .hbm, ⟨11, _⟩ => ⟨S4x1x256x1024, .bf16⟩
  | .hbm, ⟨12, _⟩ => ⟨S4096x1024, .bf16⟩
  | .hbm, ⟨13, _⟩ => ⟨S4096x1024, .bf16⟩
  | .hbm, ⟨14, _⟩ => ⟨S4x1x256x1024, .bf16⟩
  | .hbm, ⟨15, _⟩ => ⟨S4x1x256x1024, .bf16⟩
  | .hbm, ⟨16, _⟩ => ⟨S4096x1024, .f32⟩
  | .hbm, ⟨17, _⟩ => ⟨S4096x1024, .f32⟩
  | .hbm, ⟨18, _⟩ => ⟨S4x1x256x1024, .f32⟩
  | .hbm, ⟨19, _⟩ => ⟨S1024x1024, .f32⟩
  | .hbm, ⟨20, _⟩ => ⟨S4x1x256x1024, .f32⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S4x1x256x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S4096x1024, .bf16⟩
  | .local _ .vmem, ⟨13, _⟩ => ⟨S4096x1024, .bf16⟩
  | .local _ .vmem, ⟨14, _⟩ => ⟨S4x1x256x1024, .bf16⟩
  | .local _ .vmem, ⟨15, _⟩ => ⟨S1024x1024, .f32⟩
  | .local _ .vmem, ⟨16, _⟩ => ⟨S4096x1024, .bf16⟩
  | .local _ .vmem, ⟨17, _⟩ => ⟨S4096x1024, .bf16⟩
  | .local _ .vmem, ⟨18, _⟩ => ⟨S4x1x256x1024, .bf16⟩
  | .local _ .vmem, ⟨19, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S4x1x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S4x1x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]
-- ==== WoutRefIdeal.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1x1024x1024, .f32⟩
  | .hbm, ⟨5, _⟩ => ⟨S1x1024x1024, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S1024x1024, .f32⟩
  | .hbm, ⟨18, _⟩ => ⟨S1024x1024, .f32⟩
  | .hbm, ⟨19, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Down1.lean ====
abbrev S4096x4096 : Shape := ⟨2, ![4096, 4096]⟩
abbrev S4096x1024 : Shape := ⟨2, ![4096, 1024]⟩
abbrev S2x4096x1024 : Shape := ⟨3, ![2, 4096, 1024]⟩
abbrev S2x4x1024x1024 : Shape := ⟨4, ![2, 4, 1024, 1024]⟩
abbrev S4x2x1024x1024 : Shape := ⟨4, ![4, 2, 1024, 1024]⟩
abbrev S1024x2048 : Shape := ⟨2, ![1024, 2048]⟩
abbrev S2x1x1024x1024 : Shape := ⟨4, ![2, 1, 1024, 1024]⟩
abbrev S1024x1024 : Shape := ⟨2, ![1024, 1024]⟩
abbrev S2x1024x1024 : Shape := ⟨3, ![2, 1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x4096x1024, .f32⟩
  | .hbm, ⟨3, _⟩ => ⟨S2x4096x1024, .bf16⟩
  | .hbm, ⟨4, _⟩ => ⟨S2x4x1024x1024, .bf16⟩
  | .hbm, ⟨5, _⟩ => ⟨S4x2x1024x1024, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2x1x1024x1024, .bf16⟩
  | .local _ .vmem, ⟨3, _⟩ => ⟨S2x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Down1Ideal.lean ====
abbrev S4096x4096 : Shape := ⟨2, ![4096, 4096]⟩
abbrev S4096x1024 : Shape := ⟨2, ![4096, 1024]⟩
abbrev S2x4096x1024 : Shape := ⟨3, ![2, 4096, 1024]⟩
abbrev S2x4x1024x1024 : Shape := ⟨4, ![2, 4, 1024, 1024]⟩
abbrev S4x2x1024x1024 : Shape := ⟨4, ![4, 2, 1024, 1024]⟩
abbrev S1024x2048 : Shape := ⟨2, ![1024, 2048]⟩
abbrev S2x1x1024x1024 : Shape := ⟨4, ![2, 1, 1024, 1024]⟩
abbrev S1024x1024 : Shape := ⟨2, ![1024, 1024]⟩
abbrev S2x1024x1024 : Shape := ⟨3, ![2, 1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x4096x1024, .f32⟩
  | .hbm, ⟨3, _⟩ => ⟨S2x4096x1024, .bf16⟩
  | .hbm, ⟨4, _⟩ => ⟨S2x4x1024x1024, .bf16⟩
  | .hbm, ⟨5, _⟩ => ⟨S4x2x1024x1024, .bf16⟩
  | .hbm, ⟨6, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2x1x1024x1024, .bf16⟩
  | .local _ .vmem, ⟨3, _⟩ => ⟨S2x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRef1Ideal.lean ====
abbrev S4096x4096 : Shape := ⟨2, ![4096, 4096]⟩
abbrev S4096x1024 : Shape := ⟨2, ![4096, 1024]⟩
abbrev S2x4096x1024 : Shape := ⟨3, ![2, 4096, 1024]⟩
abbrev S1x4096x1024 : Shape := ⟨3, ![1, 4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x4096x1024, .f32⟩
  | .hbm, ⟨3, _⟩ => ⟨S4096x4096, .f32⟩
  | .hbm, ⟨4, _⟩ => ⟨S1x4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down0.lean ====
abbrev S4096x4096 : Shape := ⟨2, ![4096, 4096]⟩
abbrev S4096x1024 : Shape := ⟨2, ![4096, 1024]⟩
abbrev S2x4096x1024 : Shape := ⟨3, ![2, 4096, 1024]⟩
abbrev S1x1024 : Shape := ⟨2, ![1, 1024]⟩
abbrev S2x4x1024x1024 : Shape := ⟨4, ![2, 4, 1024, 1024]⟩
abbrev S4x2x1024x1024 : Shape := ⟨4, ![4, 2, 1024, 1024]⟩
abbrev S1024 : Shape := ⟨1, ![1024]⟩
abbrev S1024x2048 : Shape := ⟨2, ![1024, 2048]⟩
abbrev S2x1x1024x1024 : Shape := ⟨4, ![2, 1, 1024, 1024]⟩
abbrev S1024x1024 : Shape := ⟨2, ![1024, 1024]⟩
abbrev S2x1024x1024 : Shape := ⟨3, ![2, 1024, 1024]⟩
abbrev S2048x1024 : Shape := ⟨2, ![2048, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x4096x1024, .f32⟩
  | .hbm, ⟨3, _⟩ => ⟨S1x1024, .f32⟩
  | .hbm, ⟨4, _⟩ => ⟨S2x4096x1024, .bf16⟩
  | .hbm, ⟨5, _⟩ => ⟨S2x4x1024x1024, .bf16⟩
  | .hbm, ⟨6, _⟩ => ⟨S4x2x1024x1024, .bf16⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2x1x1024x1024, .bf16⟩
  | .local _ .vmem, ⟨3, _⟩ => ⟨S2x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Down0Ideal.lean ====
abbrev S4096x4096 : Shape := ⟨2, ![4096, 4096]⟩
abbrev S4096x1024 : Shape := ⟨2, ![4096, 1024]⟩
abbrev S2x4096x1024 : Shape := ⟨3, ![2, 4096, 1024]⟩
abbrev S1x1024 : Shape := ⟨2, ![1, 1024]⟩
abbrev S2x4x1024x1024 : Shape := ⟨4, ![2, 4, 1024, 1024]⟩
abbrev S4x2x1024x1024 : Shape := ⟨4, ![4, 2, 1024, 1024]⟩
abbrev S1024 : Shape := ⟨1, ![1024]⟩
abbrev S1024x2048 : Shape := ⟨2, ![1024, 2048]⟩
abbrev S2x1x1024x1024 : Shape := ⟨4, ![2, 1, 1024, 1024]⟩
abbrev S1024x1024 : Shape := ⟨2, ![1024, 1024]⟩
abbrev S2x1024x1024 : Shape := ⟨3, ![2, 1024, 1024]⟩
abbrev S2048x1024 : Shape := ⟨2, ![2048, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x4096x1024, .f32⟩
  | .hbm, ⟨3, _⟩ => ⟨S1x1024, .f32⟩
  | .hbm, ⟨4, _⟩ => ⟨S2x4096x1024, .bf16⟩
  | .hbm, ⟨5, _⟩ => ⟨S2x4x1024x1024, .bf16⟩
  | .hbm, ⟨6, _⟩ => ⟨S4x2x1024x1024, .bf16⟩
  | .hbm, ⟨7, _⟩ => ⟨S1024, .f32⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2x1x1024x1024, .bf16⟩
  | .local _ .vmem, ⟨3, _⟩ => ⟨S2x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRef0Ideal.lean ====
abbrev S4096x4096 : Shape := ⟨2, ![4096, 4096]⟩
abbrev S4096x1024 : Shape := ⟨2, ![4096, 1024]⟩
abbrev S2x4096x1024 : Shape := ⟨3, ![2, 4096, 1024]⟩
abbrev S1x1024 : Shape := ⟨2, ![1, 1024]⟩
abbrev S1x4096x1024 : Shape := ⟨3, ![1, 4096, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x4096x1024, .f32⟩
  | .hbm, ⟨3, _⟩ => ⟨S1x1024, .f32⟩
  | .hbm, ⟨4, _⟩ => ⟨S4096x4096, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mdn0.lean ====
abbrev S4096x4096 : Shape := ⟨2, ![4096, 4096]⟩
abbrev S4096x1024 : Shape := ⟨2, ![4096, 1024]⟩
abbrev S2x1024 : Shape := ⟨2, ![2, 1024]⟩
abbrev S2x1024x4096 : Shape := ⟨3, ![2, 1024, 4096]⟩
abbrev S2x1024x4x1024 : Shape := ⟨4, ![2, 1024, 4, 1024]⟩
abbrev S4x2x1024x1024 : Shape := ⟨4, ![4, 2, 1024, 1024]⟩
abbrev S1x1024 : Shape := ⟨2, ![1, 1024]⟩
abbrev S1024 : Shape := ⟨1, ![1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x4096, .f32⟩
  | .hbm, ⟨5, _⟩ => ⟨S2x1024x4096, .bf16⟩
  | .hbm, ⟨6, _⟩ => ⟨S2x1024x4x1024, .bf16⟩
  | .hbm, ⟨7, _⟩ => ⟨S4x2x1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_29 : BitVec 32 := 0#32
  let v49 : BitVec 1 := Scalar.cmpi .eq arg0 c0_i32_29
  let v50 : BitVec 32 := Scalar.extui v49
  let c0_i32_30 : BitVec 32 := 0#32
  let v51 : BitVec 1 := Scalar.cmpi .ne v50 c0_i32_30
  v51

def k0_cond4 (i : grid0.Coords) : BitVec 1 :=
  let arg0 : BitVec 32 := BitVec.ofNat 32 (i 0).val
  let c0_i32_29 : BitVec 32 := 0#32
  let v49 : BitVec 1 := Scalar.cmpi .eq arg0 c0_i32_29
  let v_true : BitVec 1 := 1#1
  let v52 : BitVec 1 := Scalar.xori v49 v_true
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Mdn0Ideal.lean ====
abbrev S4096x4096 : Shape := ⟨2, ![4096, 4096]⟩
abbrev S4096x1024 : Shape := ⟨2, ![4096, 1024]⟩
abbrev S2x1024 : Shape := ⟨2, ![2, 1024]⟩
abbrev S2x1024x4096 : Shape := ⟨3, ![2, 1024, 4096]⟩
abbrev S2x1024x4x1024 : Shape := ⟨4, ![2, 1024, 4, 1024]⟩
abbrev S4x2x1024x1024 : Shape := ⟨4, ![4, 2, 1024, 1024]⟩
abbrev S1x1024 : Shape := ⟨2, ![1, 1024]⟩
abbrev S1024 : Shape := ⟨1, ![1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x4096, .f32⟩
  | .hbm, ⟨5, _⟩ => ⟨S2x1024x4096, .bf16⟩
  | .hbm, ⟨6, _⟩ => ⟨S2x1024x4x1024, .bf16⟩
  | .hbm, ⟨7, _⟩ => ⟨S4x2x1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_29 : BitVec 32 := 0#32
  let v49 : BitVec 1 := Scalar.cmpi .eq arg0 c0_i32_29
  let v50 : BitVec 32 := Scalar.extui v49
  let c0_i32_30 : BitVec 32 := 0#32
  let v51 : BitVec 1 := Scalar.cmpi .ne v50 c0_i32_30
  v51

def k0_cond4 (i : grid0.Coords) : BitVec 1 :=
  let arg0 : BitVec 32 := BitVec.ofNat 32 (i 0).val
  let c0_i32_29 : BitVec 32 := 0#32
  let v49 : BitVec 1 := Scalar.cmpi .eq arg0 c0_i32_29
  let v_true : BitVec 1 := 1#1
  let v52 : BitVec 1 := Scalar.xori v49 v_true
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== MdnRef0Ideal.lean ====
abbrev S4096x4096 : Shape := ⟨2, ![4096, 4096]⟩
abbrev S4096x1024 : Shape := ⟨2, ![4096, 1024]⟩
abbrev S2x1024 : Shape := ⟨2, ![2, 1024]⟩
abbrev S2x1024x4096 : Shape := ⟨3, ![2, 1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x4096, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024x4096, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Mdn1.lean ====
abbrev S4096x4096 : Shape := ⟨2, ![4096, 4096]⟩
abbrev S4096x1024 : Shape := ⟨2, ![4096, 1024]⟩
abbrev S2x1024 : Shape := ⟨2, ![2, 1024]⟩
abbrev S2x1024x4096 : Shape := ⟨3, ![2, 1024, 4096]⟩
abbrev S2x1024x4x1024 : Shape := ⟨4, ![2, 1024, 4, 1024]⟩
abbrev S4x2x1024x1024 : Shape := ⟨4, ![4, 2, 1024, 1024]⟩
abbrev S1x1024 : Shape := ⟨2, ![1, 1024]⟩
abbrev S1024 : Shape := ⟨1, ![1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x4096, .f32⟩
  | .hbm, ⟨5, _⟩ => ⟨S2x1024x4096, .bf16⟩
  | .hbm, ⟨6, _⟩ => ⟨S2x1024x4x1024, .bf16⟩
  | .hbm, ⟨7, _⟩ => ⟨S4x2x1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_29 : BitVec 32 := 0#32
  let v49 : BitVec 1 := Scalar.cmpi .eq arg0 c0_i32_29
  let v50 : BitVec 32 := Scalar.extui v49
  let c0_i32_30 : BitVec 32 := 0#32
  let v51 : BitVec 1 := Scalar.cmpi .ne v50 c0_i32_30
  v51

def k0_cond4 (i : grid0.Coords) : BitVec 1 :=
  let arg0 : BitVec 32 := BitVec.ofNat 32 (i 0).val
  let c0_i32_29 : BitVec 32 := 0#32
  let v49 : BitVec 1 := Scalar.cmpi .eq arg0 c0_i32_29
  let v_true : BitVec 1 := 1#1
  let v52 : BitVec 1 := Scalar.xori v49 v_true
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Mdn1Ideal.lean ====
abbrev S4096x4096 : Shape := ⟨2, ![4096, 4096]⟩
abbrev S4096x1024 : Shape := ⟨2, ![4096, 1024]⟩
abbrev S2x1024 : Shape := ⟨2, ![2, 1024]⟩
abbrev S2x1024x4096 : Shape := ⟨3, ![2, 1024, 4096]⟩
abbrev S2x1024x4x1024 : Shape := ⟨4, ![2, 1024, 4, 1024]⟩
abbrev S4x2x1024x1024 : Shape := ⟨4, ![4, 2, 1024, 1024]⟩
abbrev S1x1024 : Shape := ⟨2, ![1, 1024]⟩
abbrev S1024 : Shape := ⟨1, ![1024]⟩
abbrev S1024x1024 : Shape := ⟨2, ![1024, 1024]⟩
abbrev S1x1x1024x1024 : Shape := ⟨4, ![1, 1, 1024, 1024]⟩
abbrev S1024x1 : Shape := ⟨2, ![1024, 1]⟩

abbrev nBuf : Space → Nat
  | .hbm => 14
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x4096, .f32⟩
  | .hbm, ⟨5, _⟩ => ⟨S2x1024x4096, .bf16⟩
  | .hbm, ⟨6, _⟩ => ⟨S2x1024x4x1024, .bf16⟩
  | .hbm, ⟨7, _⟩ => ⟨S4x2x1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_29 : BitVec 32 := 0#32
  let v49 : BitVec 1 := Scalar.cmpi .eq arg0 c0_i32_29
  let v50 : BitVec 32 := Scalar.extui v49
  let c0_i32_30 : BitVec 32 := 0#32
  let v51 : BitVec 1 := Scalar.cmpi .ne v50 c0_i32_30
  v51

def k0_cond4 (i : grid0.Coords) : BitVec 1 :=
  let arg0 : BitVec 32 := BitVec.ofNat 32 (i 0).val
  let c0_i32_29 : BitVec 32 := 0#32
  let v49 : BitVec 1 := Scalar.cmpi .eq arg0 c0_i32_29
  let v_true : BitVec 1 := 1#1
  let v52 : BitVec 1 := Scalar.xori v49 v_true
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== MdnRef1Ideal.lean ====
abbrev S4096x4096 : Shape := ⟨2, ![4096, 4096]⟩
abbrev S4096x1024 : Shape := ⟨2, ![4096, 1024]⟩
abbrev S2x1024 : Shape := ⟨2, ![2, 1024]⟩
abbrev S2x1024x4096 : Shape := ⟨3, ![2, 1024, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x4096, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024x4096, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Xdn0.lean ====
abbrev S4096x1024 : Shape := ⟨2, ![4096, 1024]⟩
abbrev S2x1024 : Shape := ⟨2, ![2, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S1x1024 : Shape := ⟨2, ![1, 1024]⟩
abbrev S1024 : Shape := ⟨1, ![1024]⟩
abbrev S1024x1024 : Shape := ⟨2, ![1024, 1024]⟩
abbrev S4x1x256x1024 : Shape := ⟨4, ![4, 1, 256, 1024]⟩
abbrev S4x256x1024 : Shape := ⟨3, ![4, 256, 1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x1024, .f32⟩
  | .hbm, ⟨5, _⟩ => ⟨S2x1024x1024, .bf16⟩
  | .hbm, ⟨6, _⟩ => ⟨S2x4x256x1024, .bf16⟩
  | .hbm, ⟨7, _⟩ => ⟨S4x2x256x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def k0_cond3 (i : grid0.Coords) : BitVec 1 :=
  let arg0 : BitVec 32 := BitVec.ofNat 32 (i 0).val
  let c0_i32_30 : BitVec 32 := 0#32
  let v50 : BitVec 1 := Scalar.cmpi .eq arg0 c0_i32_30
  let v51 : BitVec 32 := Scalar.extui v50
  let c0_i32_31 : BitVec 32 := 0#32
  let v52 : BitVec 1 := Scalar.cmpi .ne v51 c0_i32_31
  v52

def k0_cond4 (i : grid0.Coords) : BitVec 1 :=
  let arg0 : BitVec 32 := BitVec.ofNat 32 (i 0).val
  let c0_i32_30 : BitVec 32 := 0#32
  let v50 : BitVec 1 := Scalar.cmpi .eq arg0 c0_i32_30
  let v_true : BitVec 1 := 1#1
  let v53 : BitVec 1 := Scalar.xori v50 v_true
  let v54 : BitVec 32 := Scalar.extui v53
  let c0_i32_32 : BitVec 32 := 0#32
  let v55 : BitVec 1 := Scalar.cmpi .ne v54 c0_i32_32
  v55

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Xdn0Ideal.lean ====
  ![arg1.toNat, c0_i32.toNat, c0_i32_0.toNat, arg2.toNat]
  let c0_i32_1 : BitVec 32 := 0#32
-- ==== XdnRef0Ideal.lean ====
abbrev S4096x1024 : Shape := ⟨2, ![4096, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024x1024, .f32⟩
  | .hbm, ⟨28, _⟩ => ⟨S1024x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Xdn1.lean ====
abbrev S4096x1024 : Shape := ⟨2, ![4096, 1024]⟩
abbrev S2x1024 : Shape := ⟨2, ![2, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S1x1024 : Shape := ⟨2, ![1, 1024]⟩
abbrev S1024 : Shape := ⟨1, ![1024]⟩
abbrev S1024x1024 : Shape := ⟨2, ![1024, 1024]⟩
abbrev S4x1x256x1024 : Shape := ⟨4, ![4, 1, 256, 1024]⟩
abbrev S4x256x1024 : Shape := ⟨3, ![4, 256, 1024]⟩
abbrev S1024x1 : Shape := ⟨2, ![1024, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x1024, .f32⟩
  | .hbm, ⟨5, _⟩ => ⟨S2x1024x1024, .bf16⟩
  | .hbm, ⟨6, _⟩ => ⟨S2x4x256x1024, .bf16⟩
  | .hbm, ⟨7, _⟩ => ⟨S4x2x256x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def k0_cond3 (i : grid0.Coords) : BitVec 1 :=
  let arg0 : BitVec 32 := BitVec.ofNat 32 (i 0).val
  let c0_i32_30 : BitVec 32 := 0#32
  let v50 : BitVec 1 := Scalar.cmpi .eq arg0 c0_i32_30
  let v51 : BitVec 32 := Scalar.extui v50
  let c0_i32_31 : BitVec 32 := 0#32
  let v52 : BitVec 1 := Scalar.cmpi .ne v51 c0_i32_31
  v52

def k0_cond4 (i : grid0.Coords) : BitVec 1 :=
  let arg0 : BitVec 32 := BitVec.ofNat 32 (i 0).val
  let c0_i32_30 : BitVec 32 := 0#32
  let v50 : BitVec 1 := Scalar.cmpi .eq arg0 c0_i32_30
  let v_true : BitVec 1 := 1#1
  let v53 : BitVec 1 := Scalar.xori v50 v_true
  let v54 : BitVec 32 := Scalar.extui v53
  let c0_i32_32 : BitVec 32 := 0#32
  let v55 : BitVec 1 := Scalar.cmpi .ne v54 c0_i32_32
  v55

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== XdnRef1Ideal.lean ====
abbrev S4096x1024 : Shape := ⟨2, ![4096, 1024]⟩
abbrev S2x1024 : Shape := ⟨2, ![2, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S2x1024, .f32⟩
  | .hbm, ⟨3, _⟩ => ⟨S4096x1024, .f32⟩
  | .hbm, ⟨4, _⟩ => ⟨S2x1024x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024x1024, .f32⟩
  | .hbm, ⟨28, _⟩ => ⟨S1024x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Cdn.lean ====
abbrev S4096x2048 : Shape := ⟨2, ![4096, 2048]⟩
abbrev S4096x1024 : Shape := ⟨2, ![4096, 1024]⟩
abbrev S1x1024 : Shape := ⟨2, ![1, 1024]⟩
abbrev S1x1024x2048 : Shape := ⟨3, ![1, 1024, 2048]⟩
abbrev S1x1024x4x512 : Shape := ⟨4, ![1, 1024, 4, 512]⟩
abbrev S4x1x1024x512 : Shape := ⟨4, ![4, 1, 1024, 512]⟩
abbrev S1024 : Shape := ⟨1, ![1024]⟩
abbrev S1024x512 : Shape := ⟨2, ![1024, 512]⟩
abbrev S1x1x1024x512 : Shape := ⟨4, ![1, 1, 1024, 512]⟩
abbrev S1024x1024 : Shape := ⟨2, ![1024, 1024]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x1024x2048, .f32⟩
  | .hbm, ⟨5, _⟩ => ⟨S1x1024x2048, .bf16⟩
  | .hbm, ⟨6, _⟩ => ⟨S1x1024x4x512, .bf16⟩
  | .hbm, ⟨7, _⟩ => ⟨S4x1x1024x512, .bf16⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def k0_cond3 (i : grid0.Coords) : BitVec 1 :=
  let arg0 : BitVec 32 := BitVec.ofNat 32 (i 0).val
  let c0_i32_29 : BitVec 32 := 0#32
  let v49 : BitVec 1 := Scalar.cmpi .eq arg0 c0_i32_29
  let v50 : BitVec 32 := Scalar.extui v49
  let c0_i32_30 : BitVec 32 := 0#32
  let v51 : BitVec 1 := Scalar.cmpi .ne v50 c0_i32_30
  v51

def k0_cond4 (i : grid0.Coords) : BitVec 1 :=
  let arg0 : BitVec 32 := BitVec.ofNat 32 (i 0).val
  let c0_i32_29 : BitVec 32 := 0#32
  let v49 : BitVec 1 := Scalar.cmpi .eq arg0 c0_i32_29
  let v_true : BitVec 1 := 1#1
  let v52 : BitVec 1 := Scalar.xori v49 v_true
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== CdnRefIdeal.lean ====
abbrev S4096x2048 : Shape := ⟨2, ![4096, 2048]⟩
abbrev S4096x1024 : Shape := ⟨2, ![4096, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x1024x2048, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x2048, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Out0.lean ====
abbrev S4096x1024 : Shape := ⟨2, ![4096, 1024]⟩
abbrev S1x1024x1024 : Shape := ⟨3, ![1, 1024, 1024]⟩
abbrev S2x1024x1024 : Shape := ⟨3, ![2, 1024, 1024]⟩
abbrev S2x1024 : Shape := ⟨2, ![2, 1024]⟩
abbrev S1x4x256x1024 : Shape := ⟨4, ![1, 4, 256, 1024]⟩
abbrev S4x1x256x1024 : Shape := ⟨4, ![4, 1, 256, 1024]⟩
abbrev S2x4x256x1024 : Shape := ⟨4, ![2, 4, 256, 1024]⟩
abbrev S4x2x256x1024 : Shape := ⟨4, ![4, 2, 256, 1024]⟩
abbrev S1x1024 : Shape := ⟨2, ![1, 1024]⟩
abbrev S1024 : Shape := ⟨1, ![1024]⟩
abbrev S1024x1024 : Shape := ⟨2, ![1024, 1024]⟩
abbrev S4x256x1024 : Shape := ⟨3, ![4, 256, 1024]⟩
abbrev S1024x1 : Shape := ⟨2, ![1024, 1]⟩

abbrev nBuf : Space → Nat
  | .hbm => 24
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024x1024, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S1x1024x1024, .bf16⟩
  | .hbm, ⟨9, _⟩ => ⟨S1x4x256x1024, .bf16⟩
  | .hbm, ⟨10, _⟩ => ⟨S4x1x256x1024, .bf16⟩
  | .hbm, ⟨11, _⟩ => ⟨S2x1024x1024, .bf16⟩
  | .hbm, ⟨12, _⟩ => ⟨S2x4x256x1024, .bf16⟩
  | .hbm, ⟨13, _⟩ => ⟨S4x2x256x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S4x1x256x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== OutRef0Ideal.lean ====
abbrev S4096x1024 : Shape := ⟨2, ![4096, 1024]⟩
abbrev S1x1024x1024 : Shape := ⟨3, ![1, 1024, 1024]⟩
abbrev S2x1024x1024 : Shape := ⟨3, ![2, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024x1024, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | .hbm, ⟨36, _⟩ => ⟨S1x1024, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Out1.lean ====
abbrev S4096x1024 : Shape := ⟨2, ![4096, 1024]⟩
abbrev S1x1024x1024 : Shape := ⟨3, ![1, 1024, 1024]⟩
abbrev S1x1024 : Shape := ⟨2, ![1, 1024]⟩
abbrev S2x1024x1024 : Shape := ⟨3, ![2, 1024, 1024]⟩
abbrev S2x1024 : Shape := ⟨2, ![2, 1024]⟩
abbrev S1x4x256x1024 : Shape := ⟨4, ![1, 4, 256, 1024]⟩
abbrev S4x1x256x1024 : Shape := ⟨4, ![4, 1, 256, 1024]⟩
abbrev S2x4x256x1024 : Shape := ⟨4, ![2, 4, 256, 1024]⟩
abbrev S4x2x256x1024 : Shape := ⟨4, ![4, 2, 256, 1024]⟩
abbrev S1024 : Shape := ⟨1, ![1024]⟩
abbrev S1024x1024 : Shape := ⟨2, ![1024, 1024]⟩
abbrev S4x256x1024 : Shape := ⟨3, ![4, 256, 1024]⟩
abbrev S1024x1 : Shape := ⟨2, ![1024, 1]⟩

abbrev nBuf : Space → Nat
  | .hbm => 25
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024x1024, .f32⟩
  | .hbm, ⟨5, _⟩ => ⟨S1x1024, .f32⟩
  | .hbm, ⟨6, _⟩ => ⟨S2x1024x1024, .f32⟩
  | .hbm, ⟨7, _⟩ => ⟨S2x1024, .f32⟩
  | .hbm, ⟨8, _⟩ => ⟨S2x1024, .f32⟩
  | .hbm, ⟨9, _⟩ => ⟨S1x1024x1024, .bf16⟩
  | .hbm, ⟨10, _⟩ => ⟨S1x4x256x1024, .bf16⟩
  | .hbm, ⟨11, _⟩ => ⟨S4x1x256x1024, .bf16⟩
  | .hbm, ⟨12, _⟩ => ⟨S2x1024x1024, .bf16⟩
  | .hbm, ⟨13, _⟩ => ⟨S2x4x256x1024, .bf16⟩
  | .hbm, ⟨14, _⟩ => ⟨S4x2x256x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x1x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S4x1x256x1024, .bf16⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 1, 1], ![false, false, false]⟩

def k1_cond2 (i : grid1.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4x1x256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== OutRef1Ideal.lean ====
abbrev S4096x1024 : Shape := ⟨2, ![4096, 1024]⟩
abbrev S1x1024x1024 : Shape := ⟨3, ![1, 1024, 1024]⟩
abbrev S1x1024 : Shape := ⟨2, ![1, 1024]⟩
abbrev S2x1024x1024 : Shape := ⟨3, ![2, 1024, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024x1024, .f32⟩
  | .hbm, ⟨5, _⟩ => ⟨S1x1024, .f32⟩
  | .hbm, ⟨6, _⟩ => ⟨S2x1024x1024, .f32⟩
  | .hbm, ⟨7, _⟩ => ⟨S2x1024, .f32⟩
  | .hbm, ⟨8, _⟩ => ⟨S2x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024x1024, .f32⟩
  | .hbm, ⟨19, _⟩ => ⟨S1024x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S1x1024, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Xfwd.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XfwdRefIdeal.lean ====
abbrev S4096x1024 : Shape := ⟨2, ![4096, 1024]⟩
abbrev S256x2048 : Shape := ⟨2, ![256, 2048]⟩
abbrev S4096x4x256 : Shape := ⟨3, ![4096, 4, 256]⟩
abbrev S256x2x4x256 : Shape := ⟨4, ![256, 2, 4, 256]⟩
abbrev S256x1x4x256 : Shape := ⟨4, ![256, 1, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S4096x4x256, .f32⟩
  | .hbm, ⟨5, _⟩ => ⟨S256x2x4x256, .f32⟩
  | .hbm, ⟨6, _⟩ => ⟨S256x1x4x256, .f32⟩
  | .hbm, ⟨7, _⟩ => ⟨S256x4x256, .f32⟩
  | .hbm, ⟨8, _⟩ => ⟨S256x1x4x256, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x256, .f32⟩
  | .hbm, ⟨27, _⟩ => ⟨S4x4096x256, .f32⟩
  | .hbm, ⟨28, _⟩ => ⟨S4x256x4096, .f32⟩
  | .hbm, ⟨29, _⟩ => ⟨S4096x4x256, .f32⟩
  | .hbm, ⟨30, _⟩ => ⟨S4096x1024, .f32⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Spec.lean ====
module

public import Idealize.ShloMosaic.Lib.IdealHost
public import Idealize.ShloMosaic.Lib.Pointwise
public import Idealize.ShloMosaic.Lib.Tactic

@[expose] public section

noncomputable section

/-! The gradient of the attention of one query row, in extended reals. -/

namespace Cert.Att

open Idealize.ShloMosaic

/-- The scores of one query row against the keys, scaled. -/
def score (Q : Fin 256 → EReal) (K : Fin 256 → Fin 256 → EReal) (j : Fin 256) : EReal :=
  (∑ d : Fin 256, Q d * K j d) * Ideal.ofBits .f32 0x3D800000#32

/-- The softmax numerators of a row of scores: the row's largest score is taken off first. -/
def expo (s : Fin 256 → EReal) (j : Fin 256) : EReal :=
  Ideal.exp (s j - Finset.univ.fold max (Ideal.ofBits .f32 0xFF800000#32) s)

/-- The softmax of a row of scores. -/
def prob (s : Fin 256 → EReal) (j : Fin 256) : EReal :=
  Ideal.div (expo s j) (∑ l : Fin 256, expo s l)

/-- The gradient with respect to one row's probabilities. -/
def dprob (G : Fin 256 → EReal) (V : Fin 256 → Fin 256 → EReal) (j : Fin 256) : EReal :=
  ∑ d : Fin 256, G d * V j d

/-- The gradient with respect to one row's unscaled scores, from its probabilities and their gradient. -/
def dscore (p dp : Fin 256 → EReal) (j : Fin 256) : EReal :=
  p j * (dp j - ∑ l : Fin 256, dp l * p l) * Ideal.ofBits .f32 0x3D800000#32

/-- Column `d` of head `h` among the query columns. -/
def col (h : Fin 4) (d : Fin 256) : Fin 1024 := ⟨h.val * 256 + d.val, by omega⟩

/-- Column `d` of head `h` among the key columns: the first half of the keys and values. -/
def kcol (h : Fin 4) (d : Fin 256) : Fin 2048 := ⟨h.val * 256 + d.val, by omega⟩

/-- Column `d` of head `h` among the value columns: the second half of the keys and values. -/
def vcol (h : Fin 4) (d : Fin 256) : Fin 2048 := ⟨1024 + h.val * 256 + d.val, by omega⟩

/-- The head a query column belongs to. -/
def qhead (y : Fin 1024) : Fin 4 := ⟨y.val / 256, by omega⟩

/-- The head a key or value column belongs to. -/
def head (y : Fin 2048) : Fin 4 := ⟨y.val % 1024 / 256, by omega⟩

/-- The query column that a key or value column stands beside. -/
def beside (y : Fin 2048) : Fin 1024 := ⟨y.val % 1024, by omega⟩

/-- The probabilities of head `h` for one query row. -/
def pr (Q : Fin 1024 → EReal) (KV : Fin 256 → Fin 2048 → EReal) (h : Fin 4) : Fin 256 → EReal :=
  prob (score (fun d => Q (col h d)) (fun j d => KV j (kcol h d)))

/-- The gradient with respect to the unscaled scores of head `h` for one query row. -/
def ds (Q G : Fin 1024 → EReal) (KV : Fin 256 → Fin 2048 → EReal) (h : Fin 4) : Fin 256 → EReal :=
  dscore (pr Q KV h) (dprob (fun d => G (col h d)) (fun j d => KV j (vcol h d)))

/-- The gradient of one query row. -/
def dqRow (Q G : Fin 1024 → EReal) (KV : Fin 256 → Fin 2048 → EReal) (y : Fin 1024) : EReal :=
  ∑ j : Fin 256, ds Q G KV (qhead y) j * KV j ⟨y.val, by omega⟩

/-- What one query row adds to the gradient of the keys and values. -/
def dkvRow (Q G : Fin 1024 → EReal) (KV : Fin 256 → Fin 2048 → EReal) (j : Fin 256) (y : Fin 2048) : EReal :=
  if y.val < 1024 then ds Q G KV (head y) j * Q (beside y) else pr Q KV (head y) j * G (beside y)

/-! ## The constants -/

theorem low_eq : Ideal.ofBits .f32 0xFF800000#32 = (⊥ : EReal) := by simp [Ideal.ofBits, Ideal.ieee]

theorem high_eq : Ideal.ofBits .f32 0x7F800000#32 = (⊤ : EReal) := by simp [Ideal.ofBits, Ideal.ieee]

theorem scale_eq : Ideal.ofBits .f32 0x3D800000#32 = ((1 / 16 : ℝ) : EReal) := by
  simp [Ideal.ofBits, Ideal.ieee, -EReal.coe_mul]; norm_num

/-! ## Rows of real numbers -/

/-- The extended real is a real number. -/
def IsReal (x : EReal) : Prop := ∃ r : ℝ, x = (r : EReal)

theorem IsReal.of_abs_lt {x : EReal} (h : max x (-x) < ⊤) : IsReal x := by
  induction x with
  | bot => simp at h
  | top => simp at h
  | coe r => exact ⟨r, rfl⟩

theorem coe_sum {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

theorem isReal_score (Q : Fin 256 → EReal) (K : Fin 256 → Fin 256 → EReal) (hQ : ∀ d, IsReal (Q d)) (hK : ∀ j d, IsReal (K j d))
    (j : Fin 256) : IsReal (score Q K j) := by
  choose q hq using hQ
  choose k hk using hK
  refine ⟨(∑ d, q d * k j d) * (1 / 16), ?_⟩
  rw [score, scale_eq, EReal.coe_mul, ← coe_sum]
  simp only [hq, hk, EReal.coe_mul]

/-- The greatest of a row of reals, taken from the least extended real, is a real. -/
theorem isReal_fold (s : Fin 256 → EReal) (hs : ∀ j, IsReal (s j)) : IsReal (Finset.univ.fold max (⊥ : EReal) s) := by
  have h : ∀ S : Finset (Fin 256), S.Nonempty → IsReal (S.fold max (⊥ : EReal) s) := by
    intro S hS
    induction hS using Finset.Nonempty.cons_induction with
    | singleton a => rw [Finset.fold_singleton, max_eq_left bot_le]; exact hs a
    | cons a S ha hS ih =>
      rw [Finset.fold_cons]
      obtain ⟨x, hx⟩ := hs a
      obtain ⟨y, hy⟩ := ih
      exact ⟨max x y, by rw [hx, hy]; exact (EReal.coe_strictMono.monotone.map_max).symm⟩
  exact h _ ⟨0, Finset.mem_univ _⟩

/-- The softmax numerators of a row of reals are positive reals. -/
theorem expo_pos (s : Fin 256 → EReal) (hs : ∀ j, IsReal (s j)) : ∃ a : Fin 256 → ℝ, (∀ j, 0 < a j) ∧ ∀ j, expo s j = (a j : EReal) := by
  obtain ⟨M, hM⟩ := isReal_fold s hs
  choose t ht using hs
  refine ⟨fun j => Real.exp (t j - M), fun j => Real.exp_pos _, fun j => ?_⟩
  rw [expo, low_eq, hM, ht, ← EReal.coe_sub]
  rfl

/-- A factor that is a nonnegative real comes out of a sum of extended reals. -/
theorem sum_mul_real {ι : Type} (s : Finset ι) (f : ι → EReal) (c : ℝ) (hc : 0 ≤ c) : ∑ i ∈ s, f i * (c : EReal) = (∑ i ∈ s, f i) * (c : EReal) := by
  induction s using Finset.cons_induction with
  | empty => simp
  | cons a s ha ih =>
    rw [Finset.sum_cons, Finset.sum_cons, ih]
    exact (EReal.right_distrib_of_nonneg_of_ne_top (EReal.coe_nonneg.2 hc) (EReal.coe_ne_top c) _ _).symm

/-- The gradient of a softmax through its quotient, as differentiation of the quotient gives it, is the gradient through the
    probabilities: for positive real numerators, and any gradients of the probabilities. -/
theorem dscore_quotient (e dp : Fin 256 → EReal) (a : Fin 256 → ℝ) (ha : ∀ j, 0 < a j) (he : ∀ j, e j = (a j : EReal)) (sc : EReal) (j : Fin 256) :
    (Ideal.div (dp j) (∑ l, e l) + ∑ _x : Fin 1, -∑ x, dp x * Ideal.div 1 ((∑ l, e l) * ∑ l, e l) * e x) * e j * sc
      = Ideal.div (e j) (∑ l, e l) * (dp j - ∑ l, dp l * Ideal.div (e l) (∑ l, e l)) * sc := by
  have hz : (0 : ℝ) < ∑ l, a l := Finset.sum_pos (fun l _ => ha l) ⟨0, Finset.mem_univ _⟩
  have hZ : ∑ l, e l = ((∑ l, a l : ℝ) : EReal) := by rw [← coe_sum]; exact Finset.sum_congr rfl fun l _ => he l
  generalize ∑ l, a l = z at hz hZ
  have hw : (0 : ℝ) ≤ 1 / z := by positivity
  have hS : ∑ x, dp x * Ideal.div 1 ((∑ l, e l) * ∑ l, e l) * e x = (∑ l, dp l * Ideal.div (e l) (∑ l, e l)) * ((1 / z : ℝ) : EReal) := by
    rw [hZ, ← sum_mul_real _ _ _ hw]
    refine Finset.sum_congr rfl fun x _ => ?_
    rw [he x, ← EReal.coe_mul, Ideal.div_coe (mul_pos hz hz).ne', Ideal.div_coe hz.ne', one_mul, mul_assoc, mul_assoc, ← EReal.coe_mul, ← EReal.coe_mul,
      ← EReal.coe_mul]
    congr 2
    field_simp
  rw [Fin.sum_univ_one, hS, hZ, Ideal.div_coe hz.ne', Ideal.div_coe hz.ne', ← EReal.neg_mul,
    ← EReal.right_distrib_of_nonneg_of_ne_top (EReal.coe_nonneg.2 hw) (EReal.coe_ne_top _), sub_eq_add_neg]
  ac_rfl

end Cert.Att

end
-- ==== Proof.Block.lean ====
module

public import proofs.«01_k».proof.Proof.Gen.KernelIdeal.Value
public import proofs.«01_k».proof.Proof.Spec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.Att

variable {F : FTy → Type} [FloatOps F]
variable (m : (ℓ : Loc nD τ sig) → Buf (Elt F) ℓ) (ρ : Dev nD → PrngReg)
theorem dqRow_col (Q G : Fin 1024 → EReal) (KV : Fin 256 → Fin 2048 → EReal) (h : Fin 4) (d : Fin 256) :
    dqRow Q G KV (col h d) = ∑ j : Fin 256, ds Q G KV h j * KV j (kcol h d) := by
  have e : qhead (col h d) = h := Fin.ext (by simp only [qhead, col]; omega)
  simp only [dqRow, e]
  rfl

theorem dkvRow_kcol (Q G : Fin 1024 → EReal) (KV : Fin 256 → Fin 2048 → EReal) (j : Fin 256) (h : Fin 4) (d : Fin 256) :
    dkvRow Q G KV j (kcol h d) = ds Q G KV h j * Q (col h d) := by
  have e : head (kcol h d) = h := Fin.ext (by simp only [head, kcol]; omega)
  have e' : beside (kcol h d) = col h d := Fin.ext (by simp only [beside, kcol, col]; omega)
  rw [dkvRow, if_pos (by simp only [kcol]; omega), e, e']

theorem dkvRow_vcol (Q G : Fin 1024 → EReal) (KV : Fin 256 → Fin 2048 → EReal) (j : Fin 256) (h : Fin 4) (d : Fin 256) :
    dkvRow Q G KV j (vcol h d) = pr Q KV h j * G (col h d) := by
  have e : head (vcol h d) = h := Fin.ext (by simp only [head, vcol]; omega)
  have e' : beside (vcol h d) = col h d := Fin.ext (by simp only [beside, vcol, col]; omega)
  rw [dkvRow, if_neg (by simp only [vcol]; omega), e, e']

theorem col_zero (d : Fin 256) : col 0 d = ⟨d.val, by omega⟩ := Fin.ext (by simp [col])

theorem kcol_zero (d : Fin 256) : kcol 0 d = ⟨d.val, by omega⟩ := Fin.ext (by simp [kcol])

/-- Earlier stores are not seen where later ones cover. -/
theorem canon_drop {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' y L ?_
      obtain ⟨q, hq, hy⟩ := h
      rcases List.mem_cons.mp hq with rfl | hq'
      · exact absurd hy hm
      · exact ⟨q, hq', hy⟩

/-- Eight stores that cover the buffer hide the one before them. -/
theorem canon_drop8 {s : Shape} {e : EltTy} (p0 p1 p2 p3 p4 p5 p6 p7 q : View.Piece (Elt Ideal) s e) (y : s.Idx)
    (h : ∃ p ∈ [p0, p1, p2, p3, p4, p5, p6, p7], y ∈ p.1.set) :
    View.canon [p0, p1, p2, p3, p4, p5, p6, p7, q] y = View.canon [p0, p1, p2, p3, p4, p5, p6, p7] y :=
  canon_drop [q] y [p0, p1, p2, p3, p4, p5, p6, p7] h

theorem ix2_1 {n0 n1 : ℕ} (a : Fin n0) (b : Fin n1) : ((ix2 a b : (⟨2, ![n0, n1]⟩ : Shape).Idx) 1 : ℕ) = b.val := rfl

/-- A tile's index from its two coordinates. -/
theorem tile_idx {n0 n1 : ℕ} (x : (⟨2, ![n0, n1]⟩ : Shape).Idx) {a : Fin n0} {b : Fin n1} (h0 : (x 0 : ℕ) = a.val) (h1 : (x 1 : ℕ) = b.val) : x = ix2 a b := by
  rw [eq_ix2 x]
  exact congrArg₂ ix2 (Fin.ext h0) (Fin.ext h1)

theorem outB_dq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S256x2048 .bf16) (harg3 : arg3.IsWhole) (arg4 : Memref sig .tc .vmem S512x1024 .bf16) (harg4 : arg4.IsWhole) (arg5 : Memref sig .tc .vmem S256x2048 .f32) (harg5 : arg5.IsWhole) (hc0 : ¬cond0_0 i)
    (x0 x1 : Vec Ideal S512x1024 .bf16) (x2 : Vec Ideal S256x2048 .bf16) (xo4 : Vec Ideal S256x2048 .f32) (r : Fin 512) (y : Fin 1024) :
    out0_B_3 (F := Ideal) c i arg1 harg1 arg2 harg2 arg3 harg3 arg4 harg4 arg5 harg5 hc0 x0 x1 x2 xo4 (ix2 r y) =
      dqRow (fun y => x1 (ix2 r y)) (fun y => x0 (ix2 r y)) (fun j y => x2 (ix2 j y)) y := by
  frame_out
  canon_tiles x h
  case piece0 =>
    obtain ⟨b, rfl⟩ : ∃ b : Fin 256, y = col 3 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay3, k0_pay2, k0_pay1, k0_pay25]
    rfl
  case piece1 =>
    obtain ⟨b, rfl⟩ : ∃ b : Fin 256, y = col 2 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay22, k0_pay21, k0_pay20]
    rfl
  case piece2 =>
    obtain ⟨b, rfl⟩ : ∃ b : Fin 256, y = col 1 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay17, k0_pay16, k0_pay15, k0_pay14]
    rfl
  case piece3 =>
    obtain ⟨b, rfl⟩ : ∃ b : Fin 256, y = col 0 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay9, k0_pay8, k0_pay7]
    simp only [ds, pr, col_zero, kcol_zero]
    rfl

theorem outA_dq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S256x2048 .bf16) (harg3 : arg3.IsWhole) (arg4 : Memref sig .tc .vmem S512x1024 .bf16) (harg4 : arg4.IsWhole) (arg5 : Memref sig .tc .vmem S256x2048 .f32) (harg5 : arg5.IsWhole) (hc0 : cond0_0 i)
    (x0 x1 : Vec Ideal S512x1024 .bf16) (x2 : Vec Ideal S256x2048 .bf16) (r : Fin 512) (y : Fin 1024) :
    out0_A_3 (F := Ideal) c i arg1 harg1 arg2 harg2 arg3 harg3 arg4 harg4 arg5 harg5 hc0 x0 x1 x2 (ix2 r y) =
      dqRow (fun y => x1 (ix2 r y)) (fun y => x0 (ix2 r y)) (fun j y => x2 (ix2 j y)) y := by
  frame_out
  canon_tiles x h
  case piece0 =>
    obtain ⟨b, rfl⟩ : ∃ b : Fin 256, y = col 3 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay3, k0_pay2, k0_pay1, k0_pay25]
    rfl
  case piece1 =>
    obtain ⟨b, rfl⟩ : ∃ b : Fin 256, y = col 2 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay22, k0_pay21, k0_pay20]
    rfl
  case piece2 =>
    obtain ⟨b, rfl⟩ : ∃ b : Fin 256, y = col 1 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay17, k0_pay16, k0_pay15, k0_pay14]
    rfl
  case piece3 =>
    obtain ⟨b, rfl⟩ : ∃ b : Fin 256, y = col 0 b := ⟨x 1, Fin.ext (h1.trans (by simp only [col]; norm_num))⟩
    obtain rfl : x = (ix2 r b : S512x256.Idx) := tile_idx x h0.symm (by simp only [ix2_1, col] at h1; norm_num at h1; omega)
    rw [dqRow_col]
    pointwise [k0_pay9, k0_pay8, k0_pay7]
    simp only [ds, pr, col_zero, kcol_zero]
    rfl

theorem outB_dkv (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S256x2048 .bf16) (harg3 : arg3.IsWhole) (arg4 : Memref sig .tc .vmem S512x1024 .bf16) (harg4 : arg4.IsWhole) (arg5 : Memref sig .tc .vmem S256x2048 .f32) (harg5 : arg5.IsWhole) (hc0 : ¬cond0_0 i)
    (x0 x1 : Vec Ideal S512x1024 .bf16) (x2 : Vec Ideal S256x2048 .bf16) (xo4 : Vec Ideal S256x2048 .f32) (j : Fin 256) (y : Fin 2048) :
    out0_B_4 (F := Ideal) c i arg1 harg1 arg2 harg2 arg3 harg3 arg4 harg4 arg5 harg5 hc0 x0 x1 x2 xo4 (ix2 j y) =
      xo4 (ix2 j y) + ∑ r : Fin 512, dkvRow (fun y => x1 (ix2 r y)) (fun y => x0 (ix2 r y)) (fun j y => x2 (ix2 j y)) j y := by
  frame_out
  canon_tiles x h
  case piece0 =>
    obtain ⟨b, rfl⟩ : ∃ b : Fin 256, y = vcol 3 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    pointwise [k0_pay5, k0_pay1, k0_pay25]
    rfl
  case piece1 =>
    obtain ⟨b, rfl⟩ : ∃ b : Fin 256, y = kcol 3 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    pointwise [k0_pay4, k0_pay2, k0_pay1, k0_pay25]
    rfl
  case piece2 =>
    obtain ⟨b, rfl⟩ : ∃ b : Fin 256, y = vcol 2 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    pointwise [k0_pay24, k0_pay20]
    rfl
  case piece3 =>
    obtain ⟨b, rfl⟩ : ∃ b : Fin 256, y = kcol 2 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    pointwise [k0_pay23, k0_pay21, k0_pay20]
    rfl
  case piece4 =>
    obtain ⟨b, rfl⟩ : ∃ b : Fin 256, y = vcol 1 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    pointwise [k0_pay19, k0_pay14]
    rfl
  case piece5 =>
    obtain ⟨b, rfl⟩ : ∃ b : Fin 256, y = kcol 1 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    pointwise [k0_pay18, k0_pay15, k0_pay14]
    rfl
  case piece6 =>
    obtain ⟨b, rfl⟩ : ∃ b : Fin 256, y = vcol 0 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    pointwise [k0_pay13, k0_pay7]
    simp only [ds, pr, col_zero, kcol_zero]
    rfl
  case piece7 =>
    obtain ⟨b, rfl⟩ : ∃ b : Fin 256, y = kcol 0 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    pointwise [k0_pay12, k0_pay10, k0_pay11, k0_pay8, k0_pay7]
    simp only [ds, pr, col_zero, kcol_zero]
    rfl

theorem outA_dkv (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S256x2048 .bf16) (harg3 : arg3.IsWhole) (arg4 : Memref sig .tc .vmem S512x1024 .bf16) (harg4 : arg4.IsWhole) (arg5 : Memref sig .tc .vmem S256x2048 .f32) (harg5 : arg5.IsWhole) (hc0 : cond0_0 i)
    (x0 x1 : Vec Ideal S512x1024 .bf16) (x2 : Vec Ideal S256x2048 .bf16) (j : Fin 256) (y : Fin 2048) :
    out0_A_4 (F := Ideal) c i arg1 harg1 arg2 harg2 arg3 harg3 arg4 harg4 arg5 harg5 hc0 x0 x1 x2 (ix2 j y) =
      ∑ r : Fin 512, dkvRow (fun y => x1 (ix2 r y)) (fun y => x0 (ix2 r y)) (fun j y => x2 (ix2 j y)) j y := by
  frame_out
  refine (canon_drop8 _ _ _ _ _ _ _ _ _ _ (View.cover_of_tiled_head _ _ _ (by rfl) _)).trans ?_
  canon_tiles x h
  case piece0 =>
    obtain ⟨b, rfl⟩ : ∃ b : Fin 256, y = vcol 3 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    rw [View.readCov_skip (h := by rfl), View.readCov_skip (h := by rfl), View.readCov_skip (h := by rfl), View.readCov_skip (h := by rfl), View.readCov_skip (h := by rfl), View.readCov_skip (h := by rfl), View.readCov_skip (h := by rfl), View.readCov_fill _ _ _ _ _ (by decide)]
    pointwise [k0_pay5, k0_pay1, k0_pay25, k0_pay6]
    rfl
  case piece1 =>
    obtain ⟨b, rfl⟩ : ∃ b : Fin 256, y = kcol 3 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    rw [View.readCov_skip (h := by rfl), View.readCov_skip (h := by rfl), View.readCov_skip (h := by rfl), View.readCov_skip (h := by rfl), View.readCov_skip (h := by rfl), View.readCov_skip (h := by rfl), View.readCov_fill _ _ _ _ _ (by decide)]
    pointwise [k0_pay4, k0_pay2, k0_pay1, k0_pay25, k0_pay6]
    rfl
  case piece2 =>
    obtain ⟨b, rfl⟩ : ∃ b : Fin 256, y = vcol 2 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    rw [View.readCov_skip (h := by rfl), View.readCov_skip (h := by rfl), View.readCov_skip (h := by rfl), View.readCov_skip (h := by rfl), View.readCov_skip (h := by rfl), View.readCov_fill _ _ _ _ _ (by decide)]
    pointwise [k0_pay24, k0_pay20, k0_pay6]
    rfl
  case piece3 =>
    obtain ⟨b, rfl⟩ : ∃ b : Fin 256, y = kcol 2 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    rw [View.readCov_skip (h := by rfl), View.readCov_skip (h := by rfl), View.readCov_skip (h := by rfl), View.readCov_skip (h := by rfl), View.readCov_fill _ _ _ _ _ (by decide)]
    pointwise [k0_pay23, k0_pay21, k0_pay20, k0_pay6]
    rfl
  case piece4 =>
    obtain ⟨b, rfl⟩ : ∃ b : Fin 256, y = vcol 1 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    rw [View.readCov_skip (h := by rfl), View.readCov_skip (h := by rfl), View.readCov_skip (h := by rfl), View.readCov_fill _ _ _ _ _ (by decide)]
    pointwise [k0_pay19, k0_pay14, k0_pay6]
    rfl
  case piece5 =>
    obtain ⟨b, rfl⟩ : ∃ b : Fin 256, y = kcol 1 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    rw [View.readCov_skip (h := by rfl), View.readCov_skip (h := by rfl), View.readCov_fill _ _ _ _ _ (by decide)]
    pointwise [k0_pay18, k0_pay15, k0_pay14, k0_pay6]
    rfl
  case piece6 =>
    obtain ⟨b, rfl⟩ : ∃ b : Fin 256, y = vcol 0 b := ⟨x 1, Fin.ext (h1.trans (by simp only [vcol]; norm_num))⟩
    obtain rfl : x = (ix2 j b : S256x256.Idx) := tile_idx x h0.symm (by simp only [ix2_1, vcol] at h1; norm_num at h1; omega)
    simp only [dkvRow_vcol]
    rw [View.readCov_skip (h := by rfl), View.readCov_fill _ _ _ _ _ (by decide)]
    pointwise [k0_pay13, k0_pay7, k0_pay6]
    simp only [ds, pr, col_zero, kcol_zero]
    rfl
  case piece7 =>
    obtain ⟨b, rfl⟩ : ∃ b : Fin 256, y = kcol 0 b := ⟨x 1, Fin.ext (h1.trans (by simp only [kcol]; norm_num))⟩
    obtain rfl : x = (ix2 j b : S256x256.Idx) := tile_idx x h0.symm (by simp only [ix2_1, kcol] at h1; norm_num at h1; omega)
    simp only [dkvRow_kcol]
    rw [View.readCov_fill _ _ _ _ _ (by decide)]
    pointwise [k0_pay12, k0_pay10, k0_pay11, k0_pay8, k0_pay7, k0_pay6]
    simp only [ds, pr, col_zero, kcol_zero]
    rfl
-- ==== Proof.Arrays.lean ====
module

public import proofs.«01_k».proof.Proof.Block
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.Att

variable (m : (ℓ : Loc nD τ sig) → Buf (Elt Ideal) ℓ)

/-- One row of the incoming gradient. -/
def gRow (c : Dev nD) (r : Fin 4096) (y : Fin 1024) : EReal := m ((c : Thread nD τ).loc main_arg0) (ix2 r y)

/-- One row of the queries. -/
def qRow (c : Dev nD) (r : Fin 4096) (y : Fin 1024) : EReal := m ((c : Thread nD τ).loc main_arg1) (ix2 r y)

/-- The keys and values. -/
def kvMat (c : Dev nD) (j : Fin 256) (y : Fin 2048) : EReal := m ((c : Thread nD τ).loc main_arg2) (ix2 j y)

/-- Row `r` of block `t` is a row of the array. -/
def blkRow (t : Fin cfg0.N) (r : Fin 512) : Fin 4096 := ⟨t.val * 512 + r.val, by have := t.isLt; have : cfg0.N = 8 := rfl; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem iblk0 (c : Dev nD) (t : Fin cfg0.N) (r : Fin 512) (y : Fin 1024) :
    iblk (F := Ideal) m c 0 t (ix2 r y : S512x1024.Idx) = gRow m c (blkRow t r) y := by
  blk_simp [iblk]
  rw [V_main_arg0]
  refine congrArg (m _) ?_
  blk_ext [idx0 t, blkRow]

theorem iblk1 (c : Dev nD) (t : Fin cfg0.N) (r : Fin 512) (y : Fin 1024) :
    iblk (F := Ideal) m c 1 t (ix2 r y : S512x1024.Idx) = qRow m c (blkRow t r) y := by
  blk_simp [iblk]
  rw [V_main_arg1]
  refine congrArg (m _) ?_
  blk_ext [idx1 t, blkRow]

theorem iblk2 (c : Dev nD) (t : Fin cfg0.N) (j : Fin 256) (y : Fin 2048) :
    iblk (F := Ideal) m c 2 t (ix2 j y : S256x2048.Idx) = kvMat m c j y := by
  blk_simp [iblk]
  rw [V_main_arg2]
  refine congrArg (m _) ?_
  blk_ext [idx2 t]

/-- What grid point `t` leaves in the block of query gradients. -/
theorem point_dq (c : Dev nD) (t : Fin cfg0.N) (r : Fin 512) (y : Fin 1024) :
    (outsAt0 (F := Ideal) m c t.val t.isLt).1 (ix2 r y) = dqRow (qRow m c (blkRow t r)) (gRow m c (blkRow t r)) (kvMat m c) y := by
  by_cases h : t.val % 8 = 0
  · rw [outsAt0_A m c t h]
    dsimp only
    rw [outA_dq]
    simp only [iblk0, iblk1, iblk2]
  · rw [outsAt0_B m c t h]
    dsimp only
    rw [outB_dq]
    simp only [iblk0, iblk1, iblk2]

/-- What the rows of block `t` add to the gradient of the keys and values. -/
def addend (c : Dev nD) (t : Fin cfg0.N) (i : S256x2048.Idx) : EReal :=
  ∑ r : Fin 512, dkvRow (qRow m c (blkRow t r)) (gRow m c (blkRow t r)) (kvMat m c) (i 0) (i 1)

theorem point_dkv (c : Dev nD) (t : Fin cfg0.N) (ht : t.val + 1 = cfg0.N) (i : S256x2048.Idx) :
    (outsAt0 (F := Ideal) m c t.val t.isLt).2 i = ∑ p : Fin cfg0.N, addend m c p i := by
  refine (Pipeline.eq_sum_fin_of_reset_step_apply_last (fun n h => (outsAt0 (F := Ideal) m c n h).2) 8 (fun _ => (0 : EReal)) (addend m c)
    ?_ ?_ (by decide) t ht i).trans (zero_add _)
  · intro t h i
    obtain ⟨j, y, rfl⟩ : ∃ j y, i = (ix2 j y : S256x2048.Idx) := ⟨i 0, i 1, eq_ix2 i⟩
    rw [outsAt0_A m c t h]
    dsimp only
    rw [outA_dkv, zero_add]
    simp only [iblk0, iblk1, iblk2]
    rfl
  · intro t h i
    obtain ⟨j, y, rfl⟩ : ∃ j y, i = (ix2 j y : S256x2048.Idx) := ⟨i 0, i 1, eq_ix2 i⟩
    rw [outsAt0_B m c t h]
    dsimp only
    rw [outB_dkv]
    simp only [iblk0, iblk1, iblk2]
    rfl

/-- The array of query gradients after the run. -/
theorem arr_dq (c : Dev nD) :
    (dats (F := Ideal) m 0 c).arrAt 3 cfg0.N = fun i : S4096x1024.Idx => dqRow (qRow m c (i 0)) (gRow m c (i 0)) (kvMat m c) (i 1) := by
  refine (dats m 0 c).arrAt_eq_of_covers 3 _ (by decide +kernel) fun t _ y => ?_
  blk_simp
  rw [after0_3]
  obtain ⟨r, z, rfl⟩ : ∃ r z, y = (ix2 r z : S512x1024.Idx) := ⟨y 0, y 1, eq_ix2 y⟩
  rw [point_dq]
  have e0 : (win0_3.blk t).view.emb (ix2 r z) 0 = blkRow t r := Fin.ext (by blk_simp [idx3 t]; simp [blkRow, ix2])
  have e1 : (win0_3.blk t).view.emb (ix2 r z) 1 = z := Fin.ext (by blk_simp [idx3 t])
  exact congrArg₂ (fun a b => dqRow (qRow m c a) (gRow m c a) (kvMat m c) b) e0.symm e1.symm

/-- The last grid point, the one that writes the gradient of the keys and values back. -/
def lastPt : Fin cfg0.N := ⟨7, by decide⟩

/-- The array of key and value gradients after the run. -/
theorem arr_dkv (c : Dev nD) :
    (dats (F := Ideal) m 0 c).arrAt 4 cfg0.N = fun i : S256x2048.Idx => ∑ r : Fin 4096, dkvRow (qRow m c r) (gRow m c r) (kvMat m c) (i 0) (i 1) := by
  refine (dats m 0 c).arrAt_eq_of_after_last 4 lastPt (by decide +kernel) _ fun j => ?_
  refine ((congrFun (after0_4 (F := Ideal) m c lastPt) _).trans (point_dkv m c lastPt rfl _)).trans ?_
  unfold addend
  exact Fin.sum_mul_add_congr (n := 512) (f := fun r => dkvRow (qRow m c r) (gRow m c r) (kvMat m c) (j 0) (j 1)) fun s k hl => rfl
-- ==== Proof.AttHost.lean ====
module

public import proofs.«01_k».proof.Proof.Gen.ReferenceIdeal.Run
public import proofs.«01_k».proof.Proof.Spec
public import Idealize.ShloMosaic.Lib.Tactic
public import Idealize.ShloMosaic.Lib.Pointwise
public import Idealize.ShloMosaic.Lib.ValueIdx

@[expose] public section

set_option maxRecDepth 16384

noncomputable section

/-! The softmax of the attention on the host, as an array of the queries and of the keys and values. -/

namespace Cert.ReferenceIdeal.Att

open Cert.ReferenceIdeal Cert.ReferenceIdeal.Gen Idealize.ShloMosaic Idealize.ShloMosaic.TcCoe Idealize.SL.Sem
open Cert.Att

/-- The queries by token, head and lane. -/
def q3 (Q : FVec Ideal S4096x1024 .bf16) : FVec Ideal S4096x4x256 .f32 :=
  shapeCast _ (extf (F := Ideal) .f32 Q bitsLt_bf16_f32) shapeCasts_S4096x1024_S4096x4x256

/-- The keys and values, by memory slot, part, head and lane. -/
def kv4 (KV : FVec Ideal S256x2048 .bf16) : FVec Ideal S256x2x4x256 .f32 :=
  shapeCast _ (extf (F := Ideal) .f32 KV bitsLt_bf16_f32) shapeCasts_S256x2048_S256x2x4x256

/-- The keys by memory slot, head and lane. -/
def k3 (KV : FVec Ideal S256x2048 .bf16) : FVec Ideal S256x4x256 .f32 :=
  shapeCast _ (extractStridedSlice S256x1x4x256 ![0, 0, 0, 0] (kv4 KV) slices_S256x2x4x256_S256x1x4x256_0_0_0_0) shapeCasts_S256x1x4x256_S256x4x256

/-- The values by memory slot, head and lane. -/
def v3 (KV : FVec Ideal S256x2048 .bf16) : FVec Ideal S256x4x256 .f32 :=
  shapeCast _ (extractStridedSlice S256x1x4x256 ![0, 1, 0, 0] (kv4 KV) slices_S256x2x4x256_S256x1x4x256_0_1_0_0) shapeCasts_S256x1x4x256_S256x4x256

/-- The scale of the scores, everywhere. -/
def sc3 : FVec Ideal S4x4096x256 .f32 := broadcastInDim S4x4096x256 ![] bcast_S_S4x4096x256 (constant S_ .f32 0x3D800000#32)

/-- The scaled scores. -/
def s3 (Q : FVec Ideal S4096x1024 .bf16) (KV : FVec Ideal S256x2048 .bf16) : FVec Ideal S4x4096x256 .f32 :=
  mulf (Host.dotGeneral (F := Ideal) dot_S4096x4x256_S256x4x256_S4x4096x256_2_2_0_0_1_1 none (q3 Q) (k3 KV)) sc3

/-- A number for each head and token, the same for every memory slot. -/
def wide (x : FVec Ideal S4x4096 .f32) : FVec Ideal S4x4096x256 .f32 :=
  broadcastInDim S4x4096x256 ![0, 1, 2] bcast_S4x4096x1_S4x4096x256_0_1_2 (broadcastInDim S4x4096x1 ![0, 1] bcast_S4x4096_S4x4096x1_0_1 x)

/-- The largest score of each head and token. -/
def mx2 (Q : FVec Ideal S4096x1024 .bf16) (KV : FVec Ideal S256x2048 .bf16) : FVec Ideal S4x4096 .f32 :=
  Host.reduce FloatOps.maximumf (s3 Q KV) (constant S_ .f32 0xFF800000#32) reducesTo_S4x4096x256_S4x4096_d2 h_S_

/-- What is taken off the scores. -/
def top2 (Q : FVec Ideal S4096x1024 .bf16) (KV : FVec Ideal S256x2048 .bf16) : FVec Ideal S4x4096 .f32 :=
  maximumf (broadcastInDim S4x4096 ![] bcast_S_S4x4096 (constant S_ .f32 0xFF800000#32)) (mx2 Q KV)

/-- The numerators of the softmax. -/
def e3 (Q : FVec Ideal S4096x1024 .bf16) (KV : FVec Ideal S256x2048 .bf16) : FVec Ideal S4x4096x256 .f32 :=
  Host.exp (F := Ideal) (subf (s3 Q KV) (wide (top2 Q KV)))

/-- The denominators of the softmax. -/
def z2 (Q : FVec Ideal S4096x1024 .bf16) (KV : FVec Ideal S256x2048 .bf16) : FVec Ideal S4x4096 .f32 :=
  Host.reduceAdd (e3 Q KV) (constant S_ .f32 0x00000000#32) reducesTo_S4x4096x256_S4x4096_d2 h_S_

/-- One row of the queries. -/
def rowOf (Q : FVec Ideal S4096x1024 .bf16) (r : Fin 4096) (y : Fin 1024) : EReal := Q (ix2 r y)

/-- The keys and values. -/
def matOf (KV : FVec Ideal S256x2048 .bf16) (j : Fin 256) (y : Fin 2048) : EReal := KV (ix2 j y)

/-- The scores of one query row in one head. -/
def sRow (Q : FVec Ideal S4096x1024 .bf16) (KV : FVec Ideal S256x2048 .bf16) (h : Fin 4) (r : Fin 4096) : Fin 256 → EReal :=
  score (fun d => rowOf Q r (col h d)) (fun j d => matOf KV j (kcol h d))

theorem q3_apply (Q : FVec Ideal S4096x1024 .bf16) (r : Fin 4096) (h : Fin 4) (d : Fin 256) : q3 Q (ix3 r h d) = rowOf Q r (col h d) := by
  pointwise [q3]
  rfl

theorem k3_apply (KV : FVec Ideal S256x2048 .bf16) (j : Fin 256) (h : Fin 4) (d : Fin 256) : k3 KV (ix3 j h d) = matOf KV j (kcol h d) := by
  pointwise [k3, kv4]
  rfl

theorem v3_apply (KV : FVec Ideal S256x2048 .bf16) (j : Fin 256) (h : Fin 4) (d : Fin 256) : v3 KV (ix3 j h d) = matOf KV j (vcol h d) := by
  pointwise [v3, kv4]
  rfl

theorem s3_apply (Q : FVec Ideal S4096x1024 .bf16) (KV : FVec Ideal S256x2048 .bf16) (h : Fin 4) (r : Fin 4096) (j : Fin 256) : s3 Q KV (ix3 h r j) = sRow Q KV h r j := by
  have e : (s3 Q KV (ix3 h r j) : EReal) = (∑ x : Fin 256, q3 Q (ix3 r h x) * k3 KV (ix3 j h x)) * Ideal.ofBits .f32 0x3D800000#32 := by
    pointwise [s3, sc3]
  rw [e]
  simp only [q3_apply, k3_apply]
  rfl

theorem mx2_apply (Q : FVec Ideal S4096x1024 .bf16) (KV : FVec Ideal S256x2048 .bf16) (h : Fin 4) (r : Fin 4096) : mx2 Q KV (ix2 h r) =
    Finset.univ.fold max (Ideal.ofBits FTy.f32 0xFF800000#32) (fun x : Fin 256 => s3 Q KV (ix3 h r x)) := by
  pointwise [mx2]

theorem top_apply (z : FVec Ideal S4x4096 .f32) (h : Fin 4) (r : Fin 4096) :
    (maximumf (broadcastInDim S4x4096 ![] bcast_S_S4x4096 (constant S_ .f32 0xFF800000#32)) z (ix2 h r) : EReal) = max (Ideal.ofBits FTy.f32 0xFF800000#32) (z (ix2 h r) : EReal) := by
  pointwise

theorem top2_apply (Q : FVec Ideal S4096x1024 .bf16) (KV : FVec Ideal S256x2048 .bf16) (h : Fin 4) (r : Fin 4096) :
    (top2 Q KV (ix2 h r) : EReal) = Finset.univ.fold max (Ideal.ofBits FTy.f32 0xFF800000#32) (sRow Q KV h r) := by
  have e : (top2 Q KV (ix2 h r) : EReal) = max (Ideal.ofBits FTy.f32 0xFF800000#32) (mx2 Q KV (ix2 h r) : EReal) := by
    unfold top2
    exact top_apply _ _ _
  rw [e, mx2_apply, low_eq, max_eq_right bot_le]
  simp only [s3_apply]

theorem e3_apply (Q : FVec Ideal S4096x1024 .bf16) (KV : FVec Ideal S256x2048 .bf16) (h : Fin 4) (r : Fin 4096) (j : Fin 256) : (e3 Q KV (ix3 h r j) : EReal) = expo (sRow Q KV h r) j := by
  have e : (e3 Q KV (ix3 h r j) : EReal) = Ideal.exp (s3 Q KV (ix3 h r j) - top2 Q KV (ix2 h r)) := by
    pointwise [e3, wide]
  rw [e, top2_apply, s3_apply]
  rfl

theorem z2_apply (Q : FVec Ideal S4096x1024 .bf16) (KV : FVec Ideal S256x2048 .bf16) (h : Fin 4) (r : Fin 4096) : (z2 Q KV (ix2 h r) : EReal) = ∑ l : Fin 256, expo (sRow Q KV h r) l := by
  have e : (z2 Q KV (ix2 h r) : EReal) = ∑ x : Fin 256, e3 Q KV (ix3 h r x) := by
    pointwise [z2]
  rw [e]
  simp only [e3_apply]

end Cert.ReferenceIdeal.Att

end
-- ==== Proof.Ref.lean ====
module

public import proofs.«01_k».proof.Proof.Gen.ReferenceIdeal.Run
public import proofs.«01_k».proof.Proof.AttHost
public import Idealize.ShloMosaic.Lib.Tactic
public import Idealize.ShloMosaic.Lib.Pointwise
public import Idealize.ShloMosaic.Lib.ValueIdx

@[expose] public section

set_option maxRecDepth 16384

noncomputable section

namespace Cert.ReferenceIdeal.Att

open Cert.ReferenceIdeal Cert.ReferenceIdeal.Gen Idealize.ShloMosaic Idealize.ShloMosaic.TcCoe Idealize.SL.Sem
open Cert.Att

variable (m : (ℓ : Loc nD τ sig) → Buf (Elt Ideal) ℓ)

/-- The queries. -/
abbrev qArr (c : Dev nD) : FVec Ideal S4096x1024 .bf16 := m ((c.tc : Thread nD τ).loc main_arg1)

/-- The keys and values as an array. -/
abbrev kvArr (c : Dev nD) : FVec Ideal S256x2048 .bf16 := m ((c.tc : Thread nD τ).loc main_arg2)

/-- One row of the queries. -/
abbrev qRow (c : Dev nD) : Fin 4096 → Fin 1024 → EReal := rowOf (qArr m c)

/-- The keys and values. -/
abbrev kvMat (c : Dev nD) : Fin 256 → Fin 2048 → EReal := matOf (kvArr m c)

/-- The incoming gradient by token, head and lane. -/
def g3 (c : Dev nD) : FVec Ideal S4096x4x256 .f32 :=
  shapeCast _ (extf (F := Ideal) .f32 (m ((c.tc : Thread nD τ).loc main_arg0)) bitsLt_bf16_f32) shapeCasts_S4096x1024_S4096x4x256

/-- The incoming gradient transposed. -/
def gT (c : Dev nD) : FVec Ideal S4x256x4096 .f32 := transpose S4x256x4096 [1, 2, 0] (g3 m c) transposes_S4096x4x256_S4x256x4096_1_2_0

/-- The gradient with respect to the probabilities. -/
def dp3 (c : Dev nD) : FVec Ideal S4x4096x256 .f32 :=
  Host.dotGeneral (F := Ideal) dot_S4x256x4096_S256x4x256_S4x4096x256_1_2_2_0_0_1 none (gT m c) (v3 (kvArr m c))

/-- The denominators on an axis of one. -/
def z3 (c : Dev nD) : FVec Ideal S4x4096x1 .f32 := broadcastInDim S4x4096x1 ![0, 1] bcast_S4x4096_S4x4096x1_0_1 (z2 (qArr m c) (kvArr m c))

/-- The reciprocal of the square of the denominators. -/
def w3 (c : Dev nD) : FVec Ideal S4x4096x256 .f32 :=
  broadcastInDim S4x4096x256 ![0, 1, 2] bcast_S4x4096x1_S4x4096x256_0_1_2
    (Host.divf (broadcastInDim S4x4096x1 ![] bcast_S_S4x4096x1 (constant S_ .f32 0x3F800000#32)) (mulf (z3 m c) (z3 m c)))

/-- What the gradient with respect to the denominators brings. -/
def n2 (c : Dev nD) : FVec Ideal S4x4096 .f32 :=
  Host.reduceAdd (Host.negf (shapeCast _ (Host.reduceAdd (F := Ideal) (mulf (mulf (dp3 m c) (w3 m c)) (e3 (qArr m c) (kvArr m c))) (constant S_ .f32 0x00000000#32)
    reducesTo_S4x4096x256_S4x4096_d2 h_S_) shapeCasts_S4x4096_S4x4096x1)) (constant S_ .f32 0x00000000#32) reducesTo_S4x4096x1_S4x4096_d2 h_S_

/-- The gradient with respect to the unscaled scores. -/
def ds3 (c : Dev nD) : FVec Ideal S4x4096x256 .f32 :=
  mulf (mulf (addf (Host.divf (dp3 m c) (wide (z2 (qArr m c) (kvArr m c)))) (broadcastInDim S4x4096x256 ![0, 1] bcast_S4x4096_S4x4096x256_0_1 (n2 m c))) (e3 (qArr m c) (kvArr m c))) sc3

/-- The gradient of the queries. -/
def dq (c : Dev nD) : FVec Ideal S4096x1024 .bf16 :=
  truncf (F := Ideal) .bf16 (shapeCast _ (transpose S4096x4x256 [1, 0, 2] (Host.dotGeneral (F := Ideal) dot_S4x4096x256_S256x4x256_S4x4096x256_2_0_1_2_0_1 none (ds3 m c) (k3 (kvArr m c)))
    transposes_S4x4096x256_S4096x4x256_1_0_2) shapeCasts_S4096x4x256_S4096x1024) bitsLt_bf16_f32

/-- The gradient of the values. -/
def dv (c : Dev nD) : FVec Ideal S256x4x256 .f32 :=
  transpose S256x4x256 [2, 0, 1] (Host.dotGeneral (F := Ideal) dot_S4x256x4096_S4x4096x256_S4x256x256_2_1_1_2_0_0 none (gT m c) (Host.divf (e3 (qArr m c) (kvArr m c)) (wide (z2 (qArr m c) (kvArr m c)))))
    transposes_S4x256x256_S256x4x256_2_0_1

/-- The gradient of the keys. -/
def dk (c : Dev nD) : FVec Ideal S256x4x256 .f32 :=
  transpose S256x4x256 [1, 0, 2] (Host.dotGeneral (F := Ideal) dot_S4x4096x256_S4096x4x256_S4x256x256_1_0_2_2_0_1 none (ds3 m c) (q3 (qArr m c)))
    transposes_S4x256x256_S256x4x256_1_0_2

/-- The gradient of the keys and values. -/
def dkv (c : Dev nD) : FVec Ideal S256x2048 .f32 :=
  shapeCast _ (addf (F := Ideal)
    (pad S256x2x4x256 ![0, 1, 0, 0] ![0, 0, 0, 0] ![0, 0, 0, 0] (broadcastInDim S256x1x4x256 ![0, 2, 3] bcast_S256x4x256_S256x1x4x256_0_2_3 (dv m c))
      (constant S_ .f32 0x00000000#32) pads_S256x1x4x256_S256x2x4x256_000_100_000_000 h_S_)
    (pad S256x2x4x256 ![0, 0, 0, 0] ![0, 1, 0, 0] ![0, 0, 0, 0] (broadcastInDim S256x1x4x256 ![0, 2, 3] bcast_S256x4x256_S256x1x4x256_0_2_3 (dk m c))
      (constant S_ .f32 0x00000000#32) pads_S256x1x4x256_S256x2x4x256_000_010_000_000 h_S_)) shapeCasts_S256x2x4x256_S256x2048

theorem res_dq (c : Dev nD) : Value.res_out0 (F := Ideal) m c = dq m c := rfl

theorem res_dkv (c : Dev nD) : Value.res_out1 (F := Ideal) m c = dkv m c := rfl

/-- One row of the incoming gradient. -/
def gRow (c : Dev nD) (r : Fin 4096) (y : Fin 1024) : EReal := m ((c.tc : Thread nD τ).loc main_arg0) (ix2 r y)

/-! ## The stages, entry by entry -/

theorem g3_apply (c : Dev nD) (r : Fin 4096) (h : Fin 4) (d : Fin 256) : g3 m c (ix3 r h d) = gRow m c r (col h d) := by
  pointwise [g3]
  rfl

theorem dp3_apply (c : Dev nD) (h : Fin 4) (r : Fin 4096) (j : Fin 256) :
    (dp3 m c (ix3 h r j) : EReal) = dprob (fun d => gRow m c r (col h d)) (fun j d => kvMat m c j (vcol h d)) j := by
  have e : (dp3 m c (ix3 h r j) : EReal) = ∑ x : Fin 256, g3 m c (ix3 r h x) * v3 (kvArr m c) (ix3 j h x) := by
    pointwise [dp3, gT]
  rw [e]
  simp only [g3_apply, v3_apply]
  rfl

/-- The queries and the keys are real numbers. -/
structure Finite (c : Dev nD) : Prop where
  query : ∀ r y, IsReal (qRow m c r y)
  key : ∀ j h d, IsReal (kvMat m c j (kcol h d))

theorem ds3_apply (c : Dev nD) (hf : Finite m c) (h : Fin 4) (r : Fin 4096) (j : Fin 256) :
    (ds3 m c (ix3 h r j) : EReal) = ds (qRow m c r) (gRow m c r) (kvMat m c) h j := by
  have e : (ds3 m c (ix3 h r j) : EReal) = (Ideal.div (dp3 m c (ix3 h r j)) (z2 (qArr m c) (kvArr m c) (ix2 h r))
      + ∑ _x : Fin 1, -∑ x : Fin 256, dp3 m c (ix3 h r x) * Ideal.div 1 (z2 (qArr m c) (kvArr m c) (ix2 h r) * z2 (qArr m c) (kvArr m c) (ix2 h r)) * e3 (qArr m c) (kvArr m c) (ix3 h r x))
      * e3 (qArr m c) (kvArr m c) (ix3 h r j) * Ideal.ofBits .f32 0x3D800000#32 := by
    pointwise [ds3, sc3, wide, n2, w3, z3]
  rw [e]
  simp only [e3_apply, z2_apply, dp3_apply]
  obtain ⟨a, ha, he⟩ := expo_pos (sRow (qArr m c) (kvArr m c) h r) (isReal_score _ _ (fun d => hf.query r _) fun j d => hf.key j h d)
  exact dscore_quotient _ _ a ha he _ j

theorem dq_apply (c : Dev nD) (hf : Finite m c) (r : Fin 4096) (y : Fin 1024) :
    (dq m c (ix2 r y) : EReal) = dqRow (qRow m c r) (gRow m c r) (kvMat m c) y := by
  have e : (dq m c (ix2 r y) : EReal) = ∑ x : Fin 256, ds3 m c (ix3 (qhead y) r x) * k3 (kvArr m c) (ix3 x (qhead y) ⟨y.val % 256, by omega⟩) := by
    pointwise [dq]
    rfl
  rw [e]
  refine Finset.sum_congr rfl fun j _ => ?_
  rw [ds3_apply m c hf, k3_apply]
  refine congrArg (ds (qRow m c r) (gRow m c r) (kvMat m c) (qhead y) j * ·) (congrArg (kvMat m c j) (Fin.ext ?_))
  simp only [kcol, qhead]
  omega

theorem dv_apply (c : Dev nD) (j : Fin 256) (h : Fin 4) (d : Fin 256) :
    (dv m c (ix3 j h d) : EReal) = ∑ r : Fin 4096, pr (qRow m c r) (kvMat m c) h j * gRow m c r (col h d) := by
  have e : (dv m c (ix3 j h d) : EReal) = ∑ x : Fin 4096, g3 m c (ix3 x h d) * Ideal.div (e3 (qArr m c) (kvArr m c) (ix3 h x j)) (z2 (qArr m c) (kvArr m c) (ix2 h x)) := by
    pointwise [dv, gT, wide]
  rw [e]
  refine Finset.sum_congr rfl fun r _ => ?_
  rw [g3_apply, e3_apply, z2_apply, mul_comm]
  rfl

theorem dk_apply (c : Dev nD) (hf : Finite m c) (j : Fin 256) (h : Fin 4) (d : Fin 256) :
    (dk m c (ix3 j h d) : EReal) = ∑ r : Fin 4096, ds (qRow m c r) (gRow m c r) (kvMat m c) h j * qRow m c r (col h d) := by
  have e : (dk m c (ix3 j h d) : EReal) = ∑ x : Fin 4096, ds3 m c (ix3 h x j) * q3 (qArr m c) (ix3 x h d) := by
    pointwise [dk]
  rw [e]
  refine Finset.sum_congr rfl fun r _ => ?_
  rw [ds3_apply m c hf, q3_apply]

theorem dkv_apply (c : Dev nD) (hf : Finite m c) (j : Fin 256) (y : Fin 2048) :
    (dkv m c (ix2 j y) : EReal) = ∑ r : Fin 4096, dkvRow (qRow m c r) (gRow m c r) (kvMat m c) j y := by
  have e : (dkv m c (ix2 j y) : EReal) =
      (if h : (1 ≤ y.val / 1024 ∧ y.val / 1024 - 1 < 1) ∧ y.val / 256 % 4 < 4 ∧ y.val % 256 < 256 then
        dv m c (ix3 j ⟨y.val / 256 % 4, by omega⟩ ⟨y.val % 256, by omega⟩) else (0 : EReal))
      + (if h : y.val / 1024 < 1 ∧ y.val / 256 % 4 < 4 ∧ y.val % 256 < 256 then
        dk m c (ix3 j ⟨y.val / 256 % 4, by omega⟩ ⟨y.val % 256, by omega⟩) else (0 : EReal)) := by
    pointwise [dkv]
  have eh : (⟨y.val / 256 % 4, by omega⟩ : Fin 4) = head y := Fin.ext (by simp only [head]; omega)
  have ec : col (head y) ⟨y.val % 256, by omega⟩ = beside y := Fin.ext (by simp only [col, head, beside]; omega)
  rw [e]
  by_cases hy : y.val < 1024
  · rw [dif_neg (by omega), dif_pos (by omega), zero_add, eh, dk_apply m c hf]
    refine Finset.sum_congr rfl fun r _ => ?_
    rw [ec, dkvRow, if_pos hy]
  · rw [dif_pos (by omega), dif_neg (by omega), add_zero, eh, dv_apply]
    refine Finset.sum_congr rfl fun r _ => ?_
    rw [ec, dkvRow, if_neg hy]

end Cert.ReferenceIdeal.Att

end
-- ==== Proof.Pre.lean ====
module

public import proofs.«01_k».proof.Proof.Spec
public import proofs.«01_k».proof.Proof.Gen.Pre_finite_scores
public import Idealize.ShloMosaic.Lib.ReduceAll
public import Idealize.ShloMosaic.Lib.WordCmp
public import Idealize.ShloMosaic.Lib.Pointwise
public import Idealize.ShloMosaic.Lib.Tactic
public import Idealize.ShloMosaic.Lib.ValueIdx

@[expose] public section

set_option maxRecDepth 16384

noncomputable section

/-! What the precondition says: every query and every key is a real number. -/

namespace Cert.Att

open Cert.Pre_finite_scores Cert.Pre_finite_scores.Gen Idealize.ShloMosaic Idealize.SL.Sem

instance : Subsingleton S_.Idx := ⟨fun _ _ => funext fun i => i.elim0⟩

/-- An entry whose magnitude compares below infinity is a real number. -/
theorem isReal_of_cmp {x : EReal} (h : Ideal.cmp .olt (max x (-x)) (Ideal.ofBits .f32 0x7F800000#32) = 1#1) : IsReal x := by
  rw [high_eq] at h
  refine IsReal.of_abs_lt ?_
  by_contra hn
  simp [Ideal.cmp, hn] at h

theorem pre_finite (g q : FVec Ideal S4096x1024 .bf16) (kv : FVec Ideal S256x2048 .bf16) (h : fn (F := Ideal) g q kv = fun _ => 1#1) :
    (∀ (r : Fin 4096) (y : Fin 1024), IsReal (q (ix2 r y))) ∧ ∀ (j : Fin 256) (y : Fin 1024), IsReal (kv (ix2 j ⟨y.val, by omega⟩)) := by
  have h1 := congrFun h (Shape.Idx.first h_S_)
  obtain ⟨hq, hk⟩ := IntOp.andi_eq_one.1 h1
  constructor
  · intro r y
    have e := Host.reduce_andi_all _ _ _ _ _ hq (ix2 r y)
    exact isReal_of_cmp e
  · intro j y
    have e := Host.reduce_andi_all _ _ _ _ _ hk (ix2 j y)
    refine isReal_of_cmp (Eq.trans ?_ e)
    symm
    pointwise
    rfl

end Cert.Att

end
-- ==== Proof.Attention.lean ====
module

public import proofs.«01_k».proof.Defs
public import proofs.«01_k».proof.Proof.Gen.Kernel
public import proofs.«01_k».proof.Proof.Arrays
public import proofs.«01_k».proof.Proof.Ref
public import proofs.«01_k».proof.Proof.Pre
public import Idealize.ShloMosaic.Lib.Claim
public import Idealize.ShloMosaic.Lib.Quiescent

@[expose] public section

set_option maxRecDepth 16384

noncomputable section

/-! The backward call of the cross attention: its claim against the gradient of the attention's own lines. -/

namespace Cert.Att

open Idealize.ShloMosaic Idealize.ShloMosaic.TcCoe Idealize.SL.Sem

/-- An index of a two-axis array is a pair of coordinates. -/
theorem ix2_surj {a b : Nat} (i : (⟨2, ![a, b]⟩ : Shape).Idx) : ∃ r y, i = ix2 r y := ⟨i 0, i 1, eq_ix2 i⟩

/-- The reference's run leaves its arguments and its counters as they were. -/
theorem reference_frame : Cert.quiescent_ReferenceIdeal := by
  intro m g _
  refine (θ_run Cert.ReferenceIdeal.defs _ _).mono (fun r h => ⟨fun c => (h c).2.2, ?_⟩) (Cert.ReferenceIdeal.Value.run (F := Ideal) m g)
  exact sem_eq_zero_of_no_sems (by decide) r.2

theorem algebraic : Cert.algebraic_KernelIdeal_ReferenceIdeal_pre_finite_scores := by
  intro m g m' g' hpre hm
  have hq (c) : Cert.ReferenceIdeal.Att.qRow m' c = Cert.KernelIdeal.Att.qRow m c :=
    funext fun r => funext fun y => congrFun (hm c).2.1 (ix2 r y)
  have hg (c) : Cert.ReferenceIdeal.Att.gRow m' c = Cert.KernelIdeal.Att.gRow m c :=
    funext fun r => funext fun y => congrFun (hm c).1 (ix2 r y)
  have hk (c) : Cert.ReferenceIdeal.Att.kvMat m' c = Cert.KernelIdeal.Att.kvMat m c :=
    funext fun j => funext fun y => congrFun (hm c).2.2 (ix2 j y)
  have hf (c) : Cert.ReferenceIdeal.Att.Finite m' c := by
    obtain ⟨h1, h2⟩ := pre_finite _ _ _ (hpre c)
    refine ⟨fun r y => ?_, fun j h d => ?_⟩
    · rw [hq]
      exact h1 r y
    · rw [hk]
      exact h2 j (col h d)
  refine ⟨_, _, Cert.KernelIdeal.Value.run_blocks m g, ?_⟩
  refine (θ_run Cert.ReferenceIdeal.defs _ _).mono (fun r h c => ?_) (Cert.ReferenceIdeal.Value.run (F := Ideal) m' g')
  obtain ⟨h0, h1, ha⟩ := h c
  refine ⟨h0.trans ?_, h1.trans ?_, ha⟩
  · refine (Cert.ReferenceIdeal.Att.res_dq m' c).trans ?_
    rw [Cert.KernelIdeal.Att.arr_dq]
    funext i
    obtain ⟨r, y, rfl⟩ := ix2_surj i
    refine (Cert.ReferenceIdeal.Att.dq_apply m' c (hf c) r y).trans ?_
    rw [hq, hg, hk]
    rfl
  · refine (Cert.ReferenceIdeal.Att.res_dkv m' c).trans ?_
    rw [Cert.KernelIdeal.Att.arr_dkv]
    funext i
    obtain ⟨j, y, rfl⟩ := ix2_surj i
    refine (Cert.ReferenceIdeal.Att.dkv_apply m' c (hf c) j y).trans ?_
    rw [hq, hg, hk]
    rfl

end Cert.Att

end
-- ==== Proof.Mlp0Run.lean ====
module

public import proofs.«01_k».proof.Proof.Gen.Mlp0Ideal.Frame

@[expose] public section

set_option maxRecDepth 16384

noncomputable section

namespace Cert.Mlp0Ideal.Run

open Cert.Mlp0Ideal Cert.Mlp0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The four calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v12 (by decide)), h c _ (mem_uc main_v14 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c)⟩) (run m ρ)

end Cert.Mlp0Ideal.Run
-- ==== Proof.MlpSpec.lean ====
module

public import Idealize.ShloMosaic.Lib.Pointwise
public import Idealize.ShloMosaic.Lib.ValueIdx

@[expose] public section

noncomputable section

namespace Cert.MlpVal

open Idealize.ShloMosaic

/-- The hidden layer before its nonlinearity: row `r` of the input against column `j` of the first weight. -/
def hid (n : Fin 4096 → Fin 1024 → EReal) (wu : Fin 1024 → Fin 4096 → EReal) (r : Fin 4096) (j : Fin 4096) : EReal :=
  ∑ k : Fin 1024, n r k * wu k j

/-- The squared positive part. -/
def sqPos (u : EReal) : EReal := max u 0 * max u 0

/-- The constant two, as both programs write it. -/
def two : EReal := Ideal.ofBits .f32 0x40000000#32

/-- The gradient reaching the hidden layer: row `r` of the incoming gradient against row `j` of the second weight. -/
def back (g : Fin 4096 → Fin 1024 → EReal) (wd : Fin 4096 → Fin 1024 → EReal) (r : Fin 4096) (j : Fin 4096) : EReal :=
  ∑ k : Fin 1024, g r k * wd j k

/-- The gradient of the hidden layer before its nonlinearity, the slope being twice the positive part. -/
def dhid (n : Fin 4096 → Fin 1024 → EReal) (wu : Fin 1024 → Fin 4096 → EReal) (g : Fin 4096 → Fin 1024 → EReal)
    (wd : Fin 4096 → Fin 1024 → EReal) (r : Fin 4096) (j : Fin 4096) : EReal :=
  back g wd r j * (two * max (hid n wu r j) 0)

/-- The gradient of the first weight. -/
def dUp (n : Fin 4096 → Fin 1024 → EReal) (wu : Fin 1024 → Fin 4096 → EReal) (g : Fin 4096 → Fin 1024 → EReal)
    (wd : Fin 4096 → Fin 1024 → EReal) (k : Fin 1024) (j : Fin 4096) : EReal :=
  ∑ r : Fin 4096, n r k * dhid n wu g wd r j

/-- The gradient of the second weight. -/
def dDown (n : Fin 4096 → Fin 1024 → EReal) (wu : Fin 1024 → Fin 4096 → EReal) (g : Fin 4096 → Fin 1024 → EReal)
    (j : Fin 4096) (k : Fin 1024) : EReal :=
  ∑ r : Fin 4096, sqPos (hid n wu r j) * g r k

/-- The root of a square of a positive part is that part, on every extended real. -/
theorem sqrt_sqPos (u : EReal) : Ideal.sqrt (sqPos u) = max u 0 := by
  obtain ⟨v, hv, hv0⟩ : ∃ v : EReal, max u 0 = v ∧ 0 ≤ v := ⟨_, rfl, le_max_right _ _⟩
  rw [sqPos, hv]
  induction v using EReal.rec with
  | bot => simp at hv0
  | top => rw [EReal.top_mul_top]; rfl
  | coe x =>
    have hx : 0 ≤ x := EReal.coe_nonneg.mp hv0
    rw [← EReal.coe_mul, Ideal.sqrt_coe, if_neg (not_lt.mpr (mul_nonneg hx hx)), Real.sqrt_mul_self hx]

/-- Where the hidden layer is not positive its gradient is nothing. -/
theorem dhid_select (n : Fin 4096 → Fin 1024 → EReal) (wu : Fin 1024 → Fin 4096 → EReal) (g : Fin 4096 → Fin 1024 → EReal)
    (wd : Fin 4096 → Fin 1024 → EReal) (r j : Fin 4096) (h : ¬ 0 < hid n wu r j) : dhid n wu g wd r j = 0 := by
  rw [dhid, max_eq_right (not_lt.mp h), mul_zero, mul_zero]

/-- Row `r` of the tile in row `p` of tiles. -/
def at4 (p : Fin 4) (r : Fin 1024) : Fin 4096 := ⟨p.val * 1024 + r.val, by omega⟩

/-- The row of tiles of grid point `t`, and its column of tiles. -/
def pRow (t : ℕ) (h : t < 16) : Fin 4 := ⟨t / 4, by omega⟩
def pCol (t : ℕ) : Fin 4 := ⟨t % 4, by omega⟩

/-- The tile a row lies in, and its place in the tile. -/
def tileOf (j : Fin 4096) : Fin 4 := ⟨j.val / 1024, by omega⟩
def inTile (j : Fin 4096) : Fin 1024 := ⟨j.val % 1024, by omega⟩

theorem tileOf_at4 (p : Fin 4) (r : Fin 1024) : tileOf (at4 p r) = p := Fin.ext (by simp only [tileOf, at4]; omega)
theorem inTile_at4 (p : Fin 4) (r : Fin 1024) : inTile (at4 p r) = r := Fin.ext (by simp only [inTile, at4]; omega)
theorem at4_tile (j : Fin 4096) : at4 (tileOf j) (inTile j) = j := Fin.ext (by simp only [tileOf, inTile, at4]; omega)

/-- The shard a grid point of these calls writes. -/
def shard (t : ℕ) (h : t < 4) : Fin 4 := ⟨t, h⟩

/-- The four coordinates of an entry of a shard. -/
theorem shard_idx (y : (⟨4, ![1, 1, 1024, 1024]⟩ : Shape).Idx) : ∃ a b, y = (ix4 0 0 a b : (⟨4, ![1, 1, 1024, 1024]⟩ : Shape).Idx) :=
  ⟨y 2, y 3, by
    refine (eq_ix4 y).trans ?_
    rw [show y 0 = (0 : Fin 1) from Subsingleton.elim (α := Fin 1) _ _, show y 1 = (0 : Fin 1) from Subsingleton.elim (α := Fin 1) _ _]⟩

end Cert.MlpVal
-- ==== Proof.Mlp0Arr.lean ====
module

public import proofs.«01_k».proof.Proof.Mlp0Run
public import proofs.«01_k».proof.Proof.MlpSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

namespace Cert.Mlp0Ideal.Arr

open Cert.Mlp0Ideal Cert.Mlp0Ideal.Gen Idealize.ShloMosaic Idealize.ShloMosaic.TcCoe Idealize.SL.Sem
open Idealize.ShloMosaic.Pipeline (Dat)
open Cert.MlpVal

/-! ## What one tile's body leaves -/

theorem tile_up (x0 : Vec Ideal S1024x1024 .bf16) (x1 : Vec Ideal S1x1x1024x1024 .bf16) (r c : Fin 1024) :
    out0_2 (F := Ideal) x0 x1 (ix2 r c) = sqPos (∑ k : Fin 1024, x0 (ix2 r k) * x1 (ix4 0 0 k c)) := by
  frame_out
  pointwise [k0_pay1]
  rfl

theorem tile_act (x0 : Vec Ideal S1024x1024 .bf16) (x1 : Vec Ideal S1x1x1024x1024 .bf16) (x2 : Vec Ideal S1024x1024 .bf16) (r c : Fin 1024) :
    out1_3 (F := Ideal) x0 x1 x2 (ix2 r c) = (∑ k : Fin 1024, x0 (ix2 r k) * x1 (ix4 0 0 c k)) * (two * Ideal.sqrt (x2 (ix2 r c))) := by
  frame_out
  pointwise [k1_pay1]
  rfl

theorem tile_down (x0 x1 : Vec Ideal S4096x1024 .bf16) (r c : Fin 1024) :
    out2_2 (F := Ideal) x0 x1 (ix4 0 0 r c) = ∑ k : Fin 4096, x0 (ix2 k r) * x1 (ix2 k c) := by
  frame_out
  pointwise [k2_pay1]

theorem tile_dup (x0 x1 : Vec Ideal S4096x1024 .bf16) (r c : Fin 1024) :
    out3_2 (F := Ideal) x0 x1 (ix4 0 0 r c) = ∑ k : Fin 4096, x0 (ix2 k r) * x1 (ix2 k c) := by
  frame_out
  pointwise [k3_pay1]

/-! ## Where the blocks lie -/

theorem idx00 : ∀ t : Fin cfg0.N, win0_0.index t = ![t.val / 4, 0] := (by decide +kernel : ∀ t : Fin grid0.N, _)
theorem idx01 : ∀ t : Fin cfg0.N, win0_1.index t = ![t.val % 4, 0, 0, 0] := (by decide +kernel : ∀ t : Fin grid0.N, _)
theorem idx02 : ∀ t : Fin cfg0.N, win0_2.index t = ![t.val / 4, t.val % 4] := (by decide +kernel : ∀ t : Fin grid0.N, _)
theorem idx10 : ∀ t : Fin cfg1.N, win1_0.index t = ![t.val / 4, 0] := (by decide +kernel : ∀ t : Fin grid1.N, _)
theorem idx11 : ∀ t : Fin cfg1.N, win1_1.index t = ![t.val % 4, 0, 0, 0] := (by decide +kernel : ∀ t : Fin grid1.N, _)
theorem idx12 : ∀ t : Fin cfg1.N, win1_2.index t = ![t.val / 4, t.val % 4] := (by decide +kernel : ∀ t : Fin grid1.N, _)
theorem idx13 : ∀ t : Fin cfg1.N, win1_3.index t = ![t.val / 4, t.val % 4] := (by decide +kernel : ∀ t : Fin grid1.N, _)
theorem idx20 : ∀ t : Fin cfg2.N, win2_0.index t = ![0, t.val] := (by decide +kernel : ∀ t : Fin grid2.N, _)
theorem idx21 : ∀ t : Fin cfg2.N, win2_1.index t = ![0, 0] := (by decide +kernel : ∀ t : Fin grid2.N, _)
theorem idx22 : ∀ t : Fin cfg2.N, win2_2.index t = ![t.val, 0, 0, 0] := (by decide +kernel : ∀ t : Fin grid2.N, _)
theorem idx30 : ∀ t : Fin cfg3.N, win3_0.index t = ![0, 0] := (by decide +kernel : ∀ t : Fin grid3.N, _)
theorem idx31 : ∀ t : Fin cfg3.N, win3_1.index t = ![0, t.val] := (by decide +kernel : ∀ t : Fin grid3.N, _)
theorem idx32 : ∀ t : Fin cfg3.N, win3_2.index t = ![t.val, 0, 0, 0] := (by decide +kernel : ∀ t : Fin grid3.N, _)

section
variable (V : (c : Dev nD) → (b : Ref sig .tc) → Buf (Elt Ideal) ((c : Thread nD τ).loc b))

/-- The arrays the calls read, entry by entry: the input, the incoming gradient, the two weights (each split over four
    shards, the hidden index numbered through), the hidden layer and its gradient. -/
def nMat (c : Dev nD) (r : Fin 4096) (k : Fin 1024) : EReal := V c main_arg0 (ix2 r k)
def gMat (c : Dev nD) (r : Fin 4096) (k : Fin 1024) : EReal := V c main_arg1 (ix2 r k)
def upMat (c : Dev nD) (k : Fin 1024) (j : Fin 4096) : EReal := V c main_v2 (ix4 (tileOf j) 0 k (inTile j))
def downMat (c : Dev nD) (j : Fin 4096) (k : Fin 1024) : EReal := V c main_v5 (ix4 (tileOf j) 0 (inTile j) k)
def actMat (c : Dev nD) (r j : Fin 4096) : EReal := V c main_v6 (ix2 r j)
def dupMat (c : Dev nD) (r j : Fin 4096) : EReal := V c main_v7 (ix2 r j)

/-! ## The call that raises the input to the hidden layer -/

theorem blk00 (c : Dev nD) (t : Fin cfg0.N) (r k : Fin 1024) :
    iblk0 (F := Ideal) V c 0 t (ix2 r k : S1024x1024.Idx) = nMat V c (at4 (pRow t.val t.isLt) r) k := by
  blk_simp [iblk0]
  refine congrArg (V c main_arg0) ?_
  blk_ext [idx00 t, at4, pRow]

theorem blk01 (c : Dev nD) (t : Fin cfg0.N) (k j : Fin 1024) :
    iblk0 (F := Ideal) V c 1 t (ix4 0 0 k j : S1x1x1024x1024.Idx) = upMat V c k (at4 (pCol t.val) j) := by
  rw [upMat, tileOf_at4, inTile_at4]
  blk_simp [iblk0]
  refine congrArg (V c main_v2) ?_
  blk_ext [idx01 t, pCol]

theorem arr_up (c : Dev nD) :
    (dat0 (F := Ideal) V c).arrAt 2 cfg0.N = fun i : S4096x4096.Idx => sqPos (hid (nMat V c) (upMat V c) (i 0) (i 1)) := by
  refine (dat0 V c).arrAt_eq_of_covers 2 _ (by decide +kernel) fun t _ y => ?_
  blk_simp
  rw [after0_2]
  obtain ⟨r, z, rfl⟩ : ∃ r z, y = (ix2 r z : S1024x1024.Idx) := ⟨y 0, y 1, eq_ix2 y⟩
  rw [tile_up]
  have e0 : (win0_2.blk t).view.emb (ix2 r z) 0 = at4 (pRow t.val t.isLt) r := Fin.ext (by blk_simp [idx02 t]; simp [at4, pRow, ix2])
  have e1 : (win0_2.blk t).view.emb (ix2 r z) 1 = at4 (pCol t.val) z := Fin.ext (by blk_simp [idx02 t]; simp [at4, pCol, ix2])
  simp only [e0, e1, blk00, blk01]
  rfl

/-! ## The call that brings the gradient back to the hidden layer -/

theorem blk10 (c : Dev nD) (t : Fin cfg1.N) (r k : Fin 1024) :
    iblk1 (F := Ideal) V c 0 t (ix2 r k : S1024x1024.Idx) = gMat V c (at4 (pRow t.val t.isLt) r) k := by
  blk_simp [iblk1]
  refine congrArg (V c main_arg1) ?_
  blk_ext [idx10 t, at4, pRow]

theorem blk11 (c : Dev nD) (t : Fin cfg1.N) (j k : Fin 1024) :
    iblk1 (F := Ideal) V c 1 t (ix4 0 0 j k : S1x1x1024x1024.Idx) = downMat V c (at4 (pCol t.val) j) k := by
  rw [downMat, tileOf_at4, inTile_at4]
  blk_simp [iblk1]
  refine congrArg (V c main_v5) ?_
  blk_ext [idx11 t, pCol]

theorem blk12 (c : Dev nD) (t : Fin cfg1.N) (r j : Fin 1024) :
    iblk1 (F := Ideal) V c 2 t (ix2 r j : S1024x1024.Idx) = actMat V c (at4 (pRow t.val t.isLt) r) (at4 (pCol t.val) j) := by
  blk_simp [iblk1]
  refine congrArg (V c main_v6) ?_
  blk_ext [idx12 t, at4, pRow, pCol]

theorem arr_act (c : Dev nD) :
    (dat1 (F := Ideal) V c).arrAt 3 cfg1.N = fun i : S4096x4096.Idx =>
      back (gMat V c) (downMat V c) (i 0) (i 1) * (two * Ideal.sqrt (actMat V c (i 0) (i 1))) := by
  refine (dat1 V c).arrAt_eq_of_covers 3 _ (by decide +kernel) fun t _ y => ?_
  blk_simp
  rw [after1_3]
  obtain ⟨r, z, rfl⟩ : ∃ r z, y = (ix2 r z : S1024x1024.Idx) := ⟨y 0, y 1, eq_ix2 y⟩
  rw [tile_act]
  have e0 : (win1_3.blk t).view.emb (ix2 r z) 0 = at4 (pRow t.val t.isLt) r := Fin.ext (by blk_simp [idx13 t]; simp [at4, pRow, ix2])
  have e1 : (win1_3.blk t).view.emb (ix2 r z) 1 = at4 (pCol t.val) z := Fin.ext (by blk_simp [idx13 t]; simp [at4, pCol, ix2])
  simp only [e0, e1, blk10, blk11, blk12]
  rfl

/-! ## The calls that make the weights' gradients -/

theorem blk20 (c : Dev nD) (t : Fin cfg2.N) (r : Fin 4096) (j : Fin 1024) :
    iblk2 (F := Ideal) V c 0 t (ix2 r j : S4096x1024.Idx) = actMat V c r (at4 (shard t.val t.isLt) j) := by
  blk_simp [iblk2]
  refine congrArg (V c main_v6) ?_
  blk_ext [idx20 t, at4, shard]

theorem blk21 (c : Dev nD) (t : Fin cfg2.N) (r : Fin 4096) (k : Fin 1024) :
    iblk2 (F := Ideal) V c 1 t (ix2 r k : S4096x1024.Idx) = gMat V c r k := by
  blk_simp [iblk2]
  refine congrArg (V c main_arg1) ?_
  blk_ext [idx21 t]

theorem arr_down (c : Dev nD) :
    (dat2 (F := Ideal) V c).arrAt 2 cfg2.N = fun i : S4x1x1024x1024.Idx =>
      ∑ r : Fin 4096, actMat V c r (at4 (i 0) (i 2)) * gMat V c r (i 3) := by
  refine (dat2 V c).arrAt_eq_of_covers 2 _ (by decide +kernel) fun t _ y => ?_
  blk_simp
  rw [after2_2]
  obtain ⟨a, b, rfl⟩ := shard_idx y
  rw [tile_down]
  have e0 : (win2_2.blk t).view.emb (ix4 0 0 a b) 0 = shard t.val t.isLt := Fin.ext (by blk_simp [idx22 t]; simp [shard, ix4])
  have e2 : (win2_2.blk t).view.emb (ix4 0 0 a b) 2 = a := Fin.ext (by blk_simp [idx22 t])
  have e3 : (win2_2.blk t).view.emb (ix4 0 0 a b) 3 = b := Fin.ext (by blk_simp [idx22 t])
  simp only [e0, e2, e3, blk20, blk21]

theorem blk30 (c : Dev nD) (t : Fin cfg3.N) (r : Fin 4096) (k : Fin 1024) :
    iblk3 (F := Ideal) V c 0 t (ix2 r k : S4096x1024.Idx) = nMat V c r k := by
  blk_simp [iblk3]
  refine congrArg (V c main_arg0) ?_
  blk_ext [idx30 t]

theorem blk31 (c : Dev nD) (t : Fin cfg3.N) (r : Fin 4096) (j : Fin 1024) :
    iblk3 (F := Ideal) V c 1 t (ix2 r j : S4096x1024.Idx) = dupMat V c r (at4 (shard t.val t.isLt) j) := by
  blk_simp [iblk3]
  refine congrArg (V c main_v7) ?_
  blk_ext [idx31 t, at4, shard]

theorem arr_dup (c : Dev nD) :
    (dat3 (F := Ideal) V c).arrAt 2 cfg3.N = fun i : S4x1x1024x1024.Idx =>
      ∑ r : Fin 4096, nMat V c r (i 2) * dupMat V c r (at4 (i 0) (i 3)) := by
  refine (dat3 V c).arrAt_eq_of_covers 2 _ (by decide +kernel) fun t _ y => ?_
  blk_simp
  rw [after3_2]
  obtain ⟨a, b, rfl⟩ := shard_idx y
  rw [tile_dup]
  have e0 : (win3_2.blk t).view.emb (ix4 0 0 a b) 0 = shard t.val t.isLt := Fin.ext (by blk_simp [idx32 t]; simp [shard, ix4])
  have e2 : (win3_2.blk t).view.emb (ix4 0 0 a b) 2 = a := Fin.ext (by blk_simp [idx32 t])
  have e3 : (win3_2.blk t).view.emb (ix4 0 0 a b) 3 = b := Fin.ext (by blk_simp [idx32 t])
  simp only [e0, e2, e3, blk30, blk31]

end

end Cert.Mlp0Ideal.Arr
-- ==== Proof.Mlp0Chain.lean ====
module

public import proofs.«01_k».proof.Proof.Mlp0Arr
public import Idealize.ShloMosaic.Lib.StableHlo.Run

@[expose] public section

set_option maxRecDepth 16384

noncomputable section

namespace Cert.Mlp0Ideal.Arr

open Cert.Mlp0Ideal Cert.Mlp0Ideal.Gen Idealize.ShloMosaic Idealize.ShloMosaic.TcCoe Idealize.SL.Sem Idealize.ShloMosaic.StableHlo
open Cert.MlpVal

variable (m : (ℓ : Loc nD τ sig) → Buf (Elt Ideal) ℓ) (ρ : Dev nD → PrngReg)

/-- The arguments, entry by entry: the input, the incoming gradient and the two weights of the first layer. -/
def nArg (c : Dev nD) (r : Fin 4096) (k : Fin 1024) : EReal := m ((c : Thread nD τ).loc main_arg0) (ix2 r k)
def gArg (c : Dev nD) (r : Fin 4096) (k : Fin 1024) : EReal := m ((c : Thread nD τ).loc main_arg1) (ix2 r k)
def uArg (c : Dev nD) (k : Fin 1024) (j : Fin 4096) : EReal := m ((c : Thread nD τ).loc main_arg2) (ix3 0 k j)
def dArg (c : Dev nD) (j : Fin 4096) (k : Fin 1024) : EReal := m ((c : Thread nD τ).loc main_arg3) (ix3 0 j k)

theorem up_stack (c : Dev nD) :
    V1 (F := Ideal) m ρ c main_v2 = transpose S4x2x1024x1024 [2, 0, 1, 3]
      (shapeCast S2x1024x4x1024 (truncf .bf16 (m ((c : Thread nD τ).loc main_arg2) : FVec Ideal S2x1024x4096 .f32) bitsLt_bf16_f32 : FVec Ideal S2x1024x4096 .bf16)
        shapeCasts_S2x1024x4096_S2x1024x4x1024) transposes_S2x1024x4x1024_S4x2x1024x1024_2_0_1_3 := by
  show StableHlo.after hostOps0 _ _ = _
  simp only [hostOps0]
  after_results <;> rfl

theorem down_stack (c : Dev nD) :
    V1 (F := Ideal) m ρ c main_v5 = transpose S4x2x1024x1024 [1, 0, 2, 3]
      (shapeCast S2x4x1024x1024 (truncf .bf16 (m ((c : Thread nD τ).loc main_arg3) : FVec Ideal S2x4096x1024 .f32) bitsLt_bf16_f32 : FVec Ideal S2x4096x1024 .bf16)
        shapeCasts_S2x4096x1024_S2x4x1024x1024) transposes_S2x4x1024x1024_S4x2x1024x1024_1_0_2_3 := by
  show StableHlo.after hostOps0 _ _ = _
  simp only [hostOps0]
  after_results <;> rfl

theorem up_entry (c : Dev nD) : upMat (V1 (F := Ideal) m ρ) c = uArg m c := by
  funext k j
  rw [upMat, up_stack]
  pointwise
  exact congrArg (fun x => m ((c : Thread nD τ).loc main_arg2) (ix3 0 k x)) (at4_tile j)

theorem down_entry (c : Dev nD) : downMat (V1 (F := Ideal) m ρ) c = dArg m c := by
  funext j k
  rw [downMat, down_stack]
  pointwise
  exact congrArg (fun x => m ((c : Thread nD τ).loc main_arg3) (ix3 0 x k)) (at4_tile j)

/-- The hidden layer after the first call, and what the later calls read of it. -/
theorem act_entry (c : Dev nD) (r j : Fin 4096) :
    actMat (V2 (F := Ideal) m ρ) c r j = sqPos (hid (nArg m c) (uArg m c) r j) := by
  have e : nMat (V1 (F := Ideal) m ρ) c = nArg m c := by
    funext r k
    exact congrFun (W1_of (F := Ideal) m ρ c main_arg0 (by decide)) _
  rw [← e, ← up_entry m ρ]
  exact congrFun ((W2_arr (F := Ideal) m ρ c 2).trans (arr_up (V1 m ρ) c)) (ix2 r j)

theorem act_kept (c : Dev nD) : actMat (V3 (F := Ideal) m ρ) c = actMat (V2 (F := Ideal) m ρ) c := by
  funext r j
  exact congrFun (W3_of (F := Ideal) m ρ c main_v6 (by decide)) _

/-- The gradient of the hidden layer after the second call. The call takes twice the square root of the hidden layer for the
    slope: the root of a square of a positive part is that part, on every extended real. -/
theorem dup_entry (c : Dev nD) (r j : Fin 4096) :
    dupMat (V3 (F := Ideal) m ρ) c r j = back (gArg m c) (dArg m c) r j * (two * Ideal.sqrt (sqPos (hid (nArg m c) (uArg m c) r j))) := by
  have eg : gMat (V2 (F := Ideal) m ρ) c = gArg m c := by
    funext r k
    exact congrFun ((W2_of (F := Ideal) m ρ c main_arg1 (by decide)).trans (W1_of m ρ c main_arg1 (by decide))) _
  have ed : downMat (V2 (F := Ideal) m ρ) c = dArg m c := by
    refine Eq.trans ?_ (down_entry m ρ c)
    funext j k
    exact congrFun (W2_of (F := Ideal) m ρ c main_v5 (by decide)) _
  rw [← act_entry m ρ, ← eg, ← ed]
  exact congrFun ((W3_arr (F := Ideal) m ρ c 3).trans (arr_act (V2 m ρ) c)) (ix2 r j)

theorem dup_eq (c : Dev nD) (r j : Fin 4096) :
    dupMat (V3 (F := Ideal) m ρ) c r j = dhid (nArg m c) (uArg m c) (gArg m c) (dArg m c) r j := by
  rw [dup_entry, sqrt_sqPos]
  rfl

/-- The second weight's gradient, shard by shard. -/
theorem down_result (c : Dev nD) (p : Fin 4) (a b : Fin 1024) :
    W5 (F := Ideal) m ρ c (Proc.devRef .tc main_v8) (ix4 p 0 a b) = dDown (nArg m c) (uArg m c) (gArg m c) (at4 p a) b := by
  have eg : gMat (V3 (F := Ideal) m ρ) c = gArg m c := by
    funext r k
    exact congrFun (((W3_of (F := Ideal) m ρ c main_arg1 (by decide)).trans (W2_of m ρ c main_arg1 (by decide))).trans (W1_of m ρ c main_arg1 (by decide))) _
  refine (congrFun (((W5_of (F := Ideal) m ρ c main_v8 (by decide)).trans (W4_arr m ρ c 2)).trans (arr_down (V3 m ρ) c)) _).trans ?_
  rw [act_kept, eg]
  simp only [act_entry]
  rfl

/-- The first weight's gradient, shard by shard. -/
theorem up_result (c : Dev nD) (p : Fin 4) (a b : Fin 1024) :
    W5 (F := Ideal) m ρ c (Proc.devRef .tc main_v9) (ix4 p 0 a b) = dUp (nArg m c) (uArg m c) (gArg m c) (dArg m c) a (at4 p b) := by
  have en : nMat (V4 (F := Ideal) m ρ) c = nArg m c := by
    funext r k
    exact congrFun ((((W4_of (F := Ideal) m ρ c main_arg0 (by decide)).trans (W3_of m ρ c main_arg0 (by decide))).trans (W2_of m ρ c main_arg0 (by decide))).trans (W1_of m ρ c main_arg0 (by decide))) _
  have ed : dupMat (V4 (F := Ideal) m ρ) c = dupMat (V3 (F := Ideal) m ρ) c := by
    funext r j
    exact congrFun (W4_of (F := Ideal) m ρ c main_v7 (by decide)) _
  refine (congrFun ((W5_arr (F := Ideal) m ρ c 2).trans (arr_dup (V4 m ρ) c)) _).trans ?_
  rw [en, ed]
  simp only [dup_eq]
  rfl

theorem up_read (c : Dev nD) :
    W6 (F := Ideal) m ρ c (Proc.devRef .tc main_v12) = shapeCast S1024x4096 (transpose S1x1024x4x1024 [1, 2, 0, 3]
      (extf .f32 (W5 (F := Ideal) m ρ c (Proc.devRef .tc main_v9) : FVec Ideal S4x1x1024x1024 .bf16) bitsLt_bf16_f32 : FVec Ideal S4x1x1024x1024 .f32)
      transposes_S4x1x1024x1024_S1x1024x4x1024_1_2_0_3) shapeCasts_S1x1024x4x1024_S1024x4096 := by
  show StableHlo.after hostOps4 _ _ = _
  simp only [hostOps4]
  after_results <;> rfl

theorem down_read (c : Dev nD) :
    W6 (F := Ideal) m ρ c (Proc.devRef .tc main_v14) = shapeCast S4096x1024
      (extf .f32 (W5 (F := Ideal) m ρ c (Proc.devRef .tc main_v8) : FVec Ideal S4x1x1024x1024 .bf16) bitsLt_bf16_f32 : FVec Ideal S4x1x1024x1024 .f32)
      shapeCasts_S4x1x1024x1024_S4096x1024 := by
  show StableHlo.after hostOps4 _ _ = _
  simp only [hostOps4]
  after_results <;> rfl

/-- The program's two results. -/
theorem up_apply (c : Dev nD) (k : Fin 1024) (j : Fin 4096) :
    W6 (F := Ideal) m ρ c (Proc.devRef .tc main_v12) (ix2 k j : S1024x4096.Idx) = dUp (nArg m c) (uArg m c) (gArg m c) (dArg m c) k j := by
  have e := up_result m ρ c (tileOf j) k (inTile j)
  rw [at4_tile] at e
  rw [up_read, ← e]
  pointwise
  rfl

theorem down_apply (c : Dev nD) (j : Fin 4096) (k : Fin 1024) :
    W6 (F := Ideal) m ρ c (Proc.devRef .tc main_v14) (ix2 j k : S4096x1024.Idx) = dDown (nArg m c) (uArg m c) (gArg m c) j k := by
  have e := down_result m ρ c (tileOf j) (inTile j) k
  rw [at4_tile] at e
  rw [down_read, ← e]
  pointwise
  rfl

end Cert.Mlp0Ideal.Arr
-- ==== Proof.Mlp0RefVal.lean ====
module

public import proofs.«01_k».proof.Proof.Gen.MlpRef0Ideal.Run
public import proofs.«01_k».proof.Proof.MlpSpec
public import Idealize.ShloMosaic.Lib.Tactic
public import Idealize.ShloMosaic.Lib.Pointwise
public import Idealize.ShloMosaic.Lib.ValueIdx

@[expose] public section

set_option maxRecDepth 16384

noncomputable section

namespace Cert.MlpRef0Ideal.Val

open Cert.MlpRef0Ideal Cert.MlpRef0Ideal.Gen Idealize.ShloMosaic Idealize.ShloMosaic.TcCoe Idealize.SL.Sem
open Cert.MlpVal

variable (m : (ℓ : Loc nD τ sig) → Buf (Elt Ideal) ℓ)

/-- The arguments, entry by entry: the input, the incoming gradient and the two weights of the first layer. -/
def nArg (c : Dev nD) (r : Fin 4096) (k : Fin 1024) : EReal := m ((c.tc : Thread nD τ).loc main_arg0) (ix2 r k)
def gArg (c : Dev nD) (r : Fin 4096) (k : Fin 1024) : EReal := m ((c.tc : Thread nD τ).loc main_arg1) (ix2 r k)
def uArg (c : Dev nD) (k : Fin 1024) (j : Fin 4096) : EReal := m ((c.tc : Thread nD τ).loc main_arg2) (ix3 0 k j)
def dArg (c : Dev nD) (j : Fin 4096) (k : Fin 1024) : EReal := m ((c.tc : Thread nD τ).loc main_arg3) (ix3 0 j k)

/-- The input and the incoming gradient in the wide format. -/
def nWide (c : Dev nD) : FVec Ideal S4096x1024 .f32 := extf (F := Ideal) .f32 (m ((c.tc : Thread nD τ).loc main_arg0)) bitsLt_bf16_f32
def gWide (c : Dev nD) : FVec Ideal S4096x1024 .f32 := extf (F := Ideal) .f32 (m ((c.tc : Thread nD τ).loc main_arg1)) bitsLt_bf16_f32

/-- The first layer's two weights. -/
def wUp (c : Dev nD) : FVec Ideal S1024x4096 .f32 :=
  shapeCast _ (extractStridedSlice S1x1024x4096 ![0, 0, 0] (m ((c.tc : Thread nD τ).loc main_arg2) : FVec Ideal S2x1024x4096 .f32) slices_S2x1024x4096_S1x1024x4096_0_0_0) shapeCasts_S1x1024x4096_S1024x4096
def wDown (c : Dev nD) : FVec Ideal S4096x1024 .f32 :=
  shapeCast _ (extractStridedSlice S1x4096x1024 ![0, 0, 0] (m ((c.tc : Thread nD τ).loc main_arg3) : FVec Ideal S2x4096x1024 .f32) slices_S2x4096x1024_S1x4096x1024_0_0_0) shapeCasts_S1x4096x1024_S4096x1024

/-- Nothing, everywhere. -/
def none4 : FVec Ideal S4096x4096 .f32 := broadcastInDim S4096x4096 ![] bcast_S_S4096x4096 (constant S_ .f32 0x00000000#32)

/-- The hidden layer before its nonlinearity, its positive part, and its gradient. -/
def pre (c : Dev nD) : FVec Ideal S4096x4096 .f32 := Host.dotGeneral (F := Ideal) dot_S4096x1024_S1024x4096_S4096x4096_1_0_0_1_n_n none (nWide m c) (wUp m c)
def pos (c : Dev nD) : FVec Ideal S4096x4096 .f32 := maximumf (pre m c) none4
def dpre (c : Dev nD) : FVec Ideal S4096x4096 .f32 :=
  select (cmpf .ogt (pre m c) none4)
    (mulf (Host.dotGeneral (F := Ideal) dot_S4096x1024_S4096x1024_S4096x4096_1_1_0_0_n_n none (gWide m c) (wDown m c))
      (mulf (broadcastInDim S4096x4096 ![] bcast_S_S4096x4096 (constant S_ .f32 0x40000000#32)) (pos m c))) none4

/-- The two results. -/
def upGrad (c : Dev nD) : FVec Ideal S1024x4096 .f32 :=
  transpose S1024x4096 [1, 0] (Host.dotGeneral (F := Ideal) dot_S4096x4096_S4096x1024_S4096x1024_0_0_1_1_n_n none (dpre m c) (nWide m c)) transposes_S4096x1024_S1024x4096_1_0
def downGrad (c : Dev nD) : FVec Ideal S4096x1024 .f32 :=
  transpose S4096x1024 [1, 0] (Host.dotGeneral (F := Ideal) dot_S4096x1024_S4096x4096_S1024x4096_0_0_1_1_n_n none (gWide m c) (mulf (pos m c) (pos m c))) transposes_S1024x4096_S4096x1024_1_0

theorem pre_apply (c : Dev nD) (r j : Fin 4096) : pre m c (ix2 r j) = hid (nArg m c) (uArg m c) r j := by
  pointwise [pre, nWide, wUp]
  rfl

theorem none4_apply (r j : Fin 4096) : none4 (ix2 r j) = 0 := by
  pointwise [none4]

theorem pos_apply (c : Dev nD) (r j : Fin 4096) : pos m c (ix2 r j) = max (hid (nArg m c) (uArg m c) r j) 0 := by
  have e : (pos m c (ix2 r j) : EReal) = max (pre m c (ix2 r j)) (none4 (ix2 r j)) := by pointwise [pos]
  rw [e, pre_apply, none4_apply]

theorem dpre_apply (c : Dev nD) (r j : Fin 4096) : dpre m c (ix2 r j) = dhid (nArg m c) (uArg m c) (gArg m c) (dArg m c) r j := by
  have e : (dpre m c (ix2 r j) : EReal) = if none4 (ix2 r j) < pre m c (ix2 r j) then
      (∑ k : Fin 1024, gArg m c r k * dArg m c j k) * (two * pos m c (ix2 r j)) else none4 (ix2 r j) := by
    pointwise [dpre, gWide, wDown]
    rfl
  rw [e, pre_apply, none4_apply, pos_apply]
  split_ifs with h
  · rfl
  · exact (dhid_select _ _ _ _ _ _ h).symm

theorem upGrad_apply (c : Dev nD) (k : Fin 1024) (j : Fin 4096) :
    upGrad m c (ix2 k j) = dUp (nArg m c) (uArg m c) (gArg m c) (dArg m c) k j := by
  have e : (upGrad m c (ix2 k j) : EReal) = ∑ r : Fin 4096, dpre m c (ix2 r j) * nArg m c r k := by
    pointwise [upGrad, nWide]
    rfl
  rw [e]
  simp only [dpre_apply]
  exact Finset.sum_congr rfl fun r _ => mul_comm _ _

theorem downGrad_apply (c : Dev nD) (j : Fin 4096) (k : Fin 1024) :
    downGrad m c (ix2 j k) = dDown (nArg m c) (uArg m c) (gArg m c) j k := by
  have e : (downGrad m c (ix2 j k) : EReal) = ∑ r : Fin 4096, gArg m c r k * (pos m c (ix2 r j) * pos m c (ix2 r j)) := by
    pointwise [downGrad, gWide]
    rfl
  rw [e]
  simp only [pos_apply]
  exact Finset.sum_congr rfl fun r _ => mul_comm _ _

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v22) = upGrad m c
      ∧ r.2.mem ((c.tc : Thread nD τ).loc main_v16) = downGrad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.MlpRef0Ideal.Val
-- ==== Proof.Mlp0Claim.lean ====
module

public import proofs.«01_k».proof.Defs
public import proofs.«01_k».proof.Proof.Gen.Mlp0
public import proofs.«01_k».proof.Proof.Mlp0Chain
public import proofs.«01_k».proof.Proof.Mlp0RefVal
public import Idealize.ShloMosaic.Lib.Quiescent

@[expose] public section

set_option maxRecDepth 16384

noncomputable section

/-! The gradients of the two weights of the squared-ReLU network, first layer. -/

namespace Cert.Mlp0Claim

open Idealize.ShloMosaic Idealize.ShloMosaic.TcCoe Idealize.SL.Sem

/-- The reference's run leaves its arguments and its counters as they were. -/
theorem reference_frame : Cert.quiescent_MlpRef0Ideal := by
  intro m g _
  refine (θ_run Cert.MlpRef0Ideal.defs _ _).mono (fun r h => ⟨fun c => (h c).2.2, ?_⟩) (Cert.MlpRef0Ideal.Val.run m g)
  exact sem_eq_zero_of_no_sems (by decide) r.2

/-- The calls' weight gradients are the derivative's. -/
theorem algebraic : Cert.algebraic_Mlp0Ideal_MlpRef0Ideal := by
  intro m g m' g' _ hm
  have hn (c) : Cert.MlpRef0Ideal.Val.nArg m' c = Cert.Mlp0Ideal.Arr.nArg m c :=
    funext fun r => funext fun k => congrFun (hm c).1 (ix2 r k)
  have hg (c) : Cert.MlpRef0Ideal.Val.gArg m' c = Cert.Mlp0Ideal.Arr.gArg m c :=
    funext fun r => funext fun k => congrFun (hm c).2.1 (ix2 r k)
  have hu (c) : Cert.MlpRef0Ideal.Val.uArg m' c = Cert.Mlp0Ideal.Arr.uArg m c :=
    funext fun k => funext fun j => congrFun (hm c).2.2.1 (ix3 0 k j)
  have hd (c) : Cert.MlpRef0Ideal.Val.dArg m' c = Cert.Mlp0Ideal.Arr.dArg m c :=
    funext fun j => funext fun k => congrFun (hm c).2.2.2 (ix3 0 j k)
  refine ⟨_, _, Cert.Mlp0Ideal.Run.run_results m g, ?_⟩
  refine (θ_run Cert.MlpRef0Ideal.defs _ _).mono (fun r h c => ?_) (Cert.MlpRef0Ideal.Val.run m' g')
  obtain ⟨h0, h1, ha⟩ := h c
  refine ⟨h0.trans ?_, h1.trans ?_, ha⟩
  · funext i
    obtain ⟨k, j, rfl⟩ : ∃ k j, i = (ix2 k j : Cert.Mlp0Ideal.S1024x4096.Idx) := ⟨i 0, i 1, eq_ix2 i⟩
    refine (Cert.MlpRef0Ideal.Val.upGrad_apply m' c k j).trans ?_
    rw [hn, hg, hu, hd]
    exact (Cert.Mlp0Ideal.Arr.up_apply m g c k j).symm
  · funext i
    obtain ⟨j, k, rfl⟩ : ∃ j k, i = (ix2 j k : Cert.Mlp0Ideal.S4096x1024.Idx) := ⟨i 0, i 1, eq_ix2 i⟩
    refine (Cert.MlpRef0Ideal.Val.downGrad_apply m' c j k).trans ?_
    rw [hn, hg, hu]
    exact (Cert.Mlp0Ideal.Arr.down_apply m g c j k).symm

end Cert.Mlp0Claim

end
-- ==== Proof.Mlp1Run.lean ====
module

public import proofs.«01_k».proof.Proof.Gen.Mlp1Ideal.Frame

@[expose] public section

set_option maxRecDepth 16384

noncomputable section

namespace Cert.Mlp1Ideal.Run

open Cert.Mlp1Ideal Cert.Mlp1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The four calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v12 (by decide)), h c _ (mem_uc main_v14 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c)⟩) (run m ρ)

end Cert.Mlp1Ideal.Run
-- ==== Proof.Mlp1Arr.lean ====
module

public import proofs.«01_k».proof.Proof.Mlp1Run
public import proofs.«01_k».proof.Proof.MlpSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

namespace Cert.Mlp1Ideal.Arr

open Cert.Mlp1Ideal Cert.Mlp1Ideal.Gen Idealize.ShloMosaic Idealize.ShloMosaic.TcCoe Idealize.SL.Sem
open Idealize.ShloMosaic.Pipeline (Dat)
open Cert.MlpVal

/-! ## What one tile's body leaves -/

theorem tile_up (x0 : Vec Ideal S1024x1024 .bf16) (x1 : Vec Ideal S1x1x1024x1024 .bf16) (r c : Fin 1024) :
    out0_2 (F := Ideal) x0 x1 (ix2 r c) = sqPos (∑ k : Fin 1024, x0 (ix2 r k) * x1 (ix4 0 0 k c)) := by
  frame_out
  pointwise [k0_pay1]
  rfl

theorem tile_act (x0 : Vec Ideal S1024x1024 .bf16) (x1 : Vec Ideal S1x1x1024x1024 .bf16) (x2 : Vec Ideal S1024x1024 .bf16) (r c : Fin 1024) :
    out1_3 (F := Ideal) x0 x1 x2 (ix2 r c) = (∑ k : Fin 1024, x0 (ix2 r k) * x1 (ix4 0 0 c k)) * (two * Ideal.sqrt (x2 (ix2 r c))) := by
  frame_out
  pointwise [k1_pay1]
  rfl

theorem tile_down (x0 x1 : Vec Ideal S4096x1024 .bf16) (r c : Fin 1024) :
    out2_2 (F := Ideal) x0 x1 (ix4 0 0 r c) = ∑ k : Fin 4096, x0 (ix2 k r) * x1 (ix2 k c) := by
  frame_out
  pointwise [k2_pay1]

theorem tile_dup (x0 x1 : Vec Ideal S4096x1024 .bf16) (r c : Fin 1024) :
    out3_2 (F := Ideal) x0 x1 (ix4 0 0 r c) = ∑ k : Fin 4096, x0 (ix2 k r) * x1 (ix2 k c) := by
  frame_out
  pointwise [k3_pay1]

/-! ## Where the blocks lie -/

theorem idx00 : ∀ t : Fin cfg0.N, win0_0.index t = ![t.val / 4, 0] := (by decide +kernel : ∀ t : Fin grid0.N, _)
theorem idx01 : ∀ t : Fin cfg0.N, win0_1.index t = ![t.val % 4, 1, 0, 0] := (by decide +kernel : ∀ t : Fin grid0.N, _)
theorem idx02 : ∀ t : Fin cfg0.N, win0_2.index t = ![t.val / 4, t.val % 4] := (by decide +kernel : ∀ t : Fin grid0.N, _)
theorem idx10 : ∀ t : Fin cfg1.N, win1_0.index t = ![t.val / 4, 0] := (by decide +kernel : ∀ t : Fin grid1.N, _)
theorem idx11 : ∀ t : Fin cfg1.N, win1_1.index t = ![t.val % 4, 1, 0, 0] := (by decide +kernel : ∀ t : Fin grid1.N, _)
theorem idx12 : ∀ t : Fin cfg1.N, win1_2.index t = ![t.val / 4, t.val % 4] := (by decide +kernel : ∀ t : Fin grid1.N, _)
theorem idx13 : ∀ t : Fin cfg1.N, win1_3.index t = ![t.val / 4, t.val % 4] := (by decide +kernel : ∀ t : Fin grid1.N, _)
theorem idx20 : ∀ t : Fin cfg2.N, win2_0.index t = ![0, t.val] := (by decide +kernel : ∀ t : Fin grid2.N, _)
theorem idx21 : ∀ t : Fin cfg2.N, win2_1.index t = ![0, 0] := (by decide +kernel : ∀ t : Fin grid2.N, _)
theorem idx22 : ∀ t : Fin cfg2.N, win2_2.index t = ![t.val, 0, 0, 0] := (by decide +kernel : ∀ t : Fin grid2.N, _)
theorem idx30 : ∀ t : Fin cfg3.N, win3_0.index t = ![0, 0] := (by decide +kernel : ∀ t : Fin grid3.N, _)
theorem idx31 : ∀ t : Fin cfg3.N, win3_1.index t = ![0, t.val] := (by decide +kernel : ∀ t : Fin grid3.N, _)
theorem idx32 : ∀ t : Fin cfg3.N, win3_2.index t = ![t.val, 0, 0, 0] := (by decide +kernel : ∀ t : Fin grid3.N, _)

section
variable (V : (c : Dev nD) → (b : Ref sig .tc) → Buf (Elt Ideal) ((c : Thread nD τ).loc b))

/-- The arrays the calls read, entry by entry: the input, the incoming gradient, the two weights (each split over four
    shards, the hidden index numbered through), the hidden layer and its gradient. -/
def nMat (c : Dev nD) (r : Fin 4096) (k : Fin 1024) : EReal := V c main_arg0 (ix2 r k)
def gMat (c : Dev nD) (r : Fin 4096) (k : Fin 1024) : EReal := V c main_arg1 (ix2 r k)
def upMat (c : Dev nD) (k : Fin 1024) (j : Fin 4096) : EReal := V c main_v2 (ix4 (tileOf j) 1 k (inTile j))
def downMat (c : Dev nD) (j : Fin 4096) (k : Fin 1024) : EReal := V c main_v5 (ix4 (tileOf j) 1 (inTile j) k)
def actMat (c : Dev nD) (r j : Fin 4096) : EReal := V c main_v6 (ix2 r j)
def dupMat (c : Dev nD) (r j : Fin 4096) : EReal := V c main_v7 (ix2 r j)

/-! ## The call that raises the input to the hidden layer -/

theorem blk00 (c : Dev nD) (t : Fin cfg0.N) (r k : Fin 1024) :
    iblk0 (F := Ideal) V c 0 t (ix2 r k : S1024x1024.Idx) = nMat V c (at4 (pRow t.val t.isLt) r) k := by
  blk_simp [iblk0]
  refine congrArg (V c main_arg0) ?_
  blk_ext [idx00 t, at4, pRow]

theorem blk01 (c : Dev nD) (t : Fin cfg0.N) (k j : Fin 1024) :
    iblk0 (F := Ideal) V c 1 t (ix4 0 0 k j : S1x1x1024x1024.Idx) = upMat V c k (at4 (pCol t.val) j) := by
  rw [upMat, tileOf_at4, inTile_at4]
  blk_simp [iblk0]
  refine congrArg (V c main_v2) ?_
  blk_ext [idx01 t, pCol]

theorem arr_up (c : Dev nD) :
    (dat0 (F := Ideal) V c).arrAt 2 cfg0.N = fun i : S4096x4096.Idx => sqPos (hid (nMat V c) (upMat V c) (i 0) (i 1)) := by
  refine (dat0 V c).arrAt_eq_of_covers 2 _ (by decide +kernel) fun t _ y => ?_
  blk_simp
  rw [after0_2]
  obtain ⟨r, z, rfl⟩ : ∃ r z, y = (ix2 r z : S1024x1024.Idx) := ⟨y 0, y 1, eq_ix2 y⟩
  rw [tile_up]
  have e0 : (win0_2.blk t).view.emb (ix2 r z) 0 = at4 (pRow t.val t.isLt) r := Fin.ext (by blk_simp [idx02 t]; simp [at4, pRow, ix2])
  have e1 : (win0_2.blk t).view.emb (ix2 r z) 1 = at4 (pCol t.val) z := Fin.ext (by blk_simp [idx02 t]; simp [at4, pCol, ix2])
  simp only [e0, e1, blk00, blk01]
  rfl

/-! ## The call that brings the gradient back to the hidden layer -/

theorem blk10 (c : Dev nD) (t : Fin cfg1.N) (r k : Fin 1024) :
    iblk1 (F := Ideal) V c 0 t (ix2 r k : S1024x1024.Idx) = gMat V c (at4 (pRow t.val t.isLt) r) k := by
  blk_simp [iblk1]
  refine congrArg (V c main_arg1) ?_
  blk_ext [idx10 t, at4, pRow]

theorem blk11 (c : Dev nD) (t : Fin cfg1.N) (j k : Fin 1024) :
    iblk1 (F := Ideal) V c 1 t (ix4 0 0 j k : S1x1x1024x1024.Idx) = downMat V c (at4 (pCol t.val) j) k := by
  rw [downMat, tileOf_at4, inTile_at4]
  blk_simp [iblk1]
  refine congrArg (V c main_v5) ?_
  blk_ext [idx11 t, pCol]

theorem blk12 (c : Dev nD) (t : Fin cfg1.N) (r j : Fin 1024) :
    iblk1 (F := Ideal) V c 2 t (ix2 r j : S1024x1024.Idx) = actMat V c (at4 (pRow t.val t.isLt) r) (at4 (pCol t.val) j) := by
  blk_simp [iblk1]
  refine congrArg (V c main_v6) ?_
  blk_ext [idx12 t, at4, pRow, pCol]

theorem arr_act (c : Dev nD) :
    (dat1 (F := Ideal) V c).arrAt 3 cfg1.N = fun i : S4096x4096.Idx =>
      back (gMat V c) (downMat V c) (i 0) (i 1) * (two * Ideal.sqrt (actMat V c (i 0) (i 1))) := by
  refine (dat1 V c).arrAt_eq_of_covers 3 _ (by decide +kernel) fun t _ y => ?_
  blk_simp
  rw [after1_3]
  obtain ⟨r, z, rfl⟩ : ∃ r z, y = (ix2 r z : S1024x1024.Idx) := ⟨y 0, y 1, eq_ix2 y⟩
  rw [tile_act]
  have e0 : (win1_3.blk t).view.emb (ix2 r z) 0 = at4 (pRow t.val t.isLt) r := Fin.ext (by blk_simp [idx13 t]; simp [at4, pRow, ix2])
  have e1 : (win1_3.blk t).view.emb (ix2 r z) 1 = at4 (pCol t.val) z := Fin.ext (by blk_simp [idx13 t]; simp [at4, pCol, ix2])
  simp only [e0, e1, blk10, blk11, blk12]
  rfl

/-! ## The calls that make the weights' gradients -/

theorem blk20 (c : Dev nD) (t : Fin cfg2.N) (r : Fin 4096) (j : Fin 1024) :
    iblk2 (F := Ideal) V c 0 t (ix2 r j : S4096x1024.Idx) = actMat V c r (at4 (shard t.val t.isLt) j) := by
  blk_simp [iblk2]
  refine congrArg (V c main_v6) ?_
  blk_ext [idx20 t, at4, shard]

theorem blk21 (c : Dev nD) (t : Fin cfg2.N) (r : Fin 4096) (k : Fin 1024) :
    iblk2 (F := Ideal) V c 1 t (ix2 r k : S4096x1024.Idx) = gMat V c r k := by
  blk_simp [iblk2]
  refine congrArg (V c main_arg1) ?_
  blk_ext [idx21 t]

theorem arr_down (c : Dev nD) :
    (dat2 (F := Ideal) V c).arrAt 2 cfg2.N = fun i : S4x1x1024x1024.Idx =>
      ∑ r : Fin 4096, actMat V c r (at4 (i 0) (i 2)) * gMat V c r (i 3) := by
  refine (dat2 V c).arrAt_eq_of_covers 2 _ (by decide +kernel) fun t _ y => ?_
  blk_simp
  rw [after2_2]
  obtain ⟨a, b, rfl⟩ := shard_idx y
  rw [tile_down]
  have e0 : (win2_2.blk t).view.emb (ix4 0 0 a b) 0 = shard t.val t.isLt := Fin.ext (by blk_simp [idx22 t]; simp [shard, ix4])
  have e2 : (win2_2.blk t).view.emb (ix4 0 0 a b) 2 = a := Fin.ext (by blk_simp [idx22 t])
  have e3 : (win2_2.blk t).view.emb (ix4 0 0 a b) 3 = b := Fin.ext (by blk_simp [idx22 t])
  simp only [e0, e2, e3, blk20, blk21]

theorem blk30 (c : Dev nD) (t : Fin cfg3.N) (r : Fin 4096) (k : Fin 1024) :
    iblk3 (F := Ideal) V c 0 t (ix2 r k : S4096x1024.Idx) = nMat V c r k := by
  blk_simp [iblk3]
  refine congrArg (V c main_arg0) ?_
  blk_ext [idx30 t]

theorem blk31 (c : Dev nD) (t : Fin cfg3.N) (r : Fin 4096) (j : Fin 1024) :
    iblk3 (F := Ideal) V c 1 t (ix2 r j : S4096x1024.Idx) = dupMat V c r (at4 (shard t.val t.isLt) j) := by
  blk_simp [iblk3]
  refine congrArg (V c main_v7) ?_
  blk_ext [idx31 t, at4, shard]

theorem arr_dup (c : Dev nD) :
    (dat3 (F := Ideal) V c).arrAt 2 cfg3.N = fun i : S4x1x1024x1024.Idx =>
      ∑ r : Fin 4096, nMat V c r (i 2) * dupMat V c r (at4 (i 0) (i 3)) := by
  refine (dat3 V c).arrAt_eq_of_covers 2 _ (by decide +kernel) fun t _ y => ?_
  blk_simp
  rw [after3_2]
  obtain ⟨a, b, rfl⟩ := shard_idx y
  rw [tile_dup]
  have e0 : (win3_2.blk t).view.emb (ix4 0 0 a b) 0 = shard t.val t.isLt := Fin.ext (by blk_simp [idx32 t]; simp [shard, ix4])
  have e2 : (win3_2.blk t).view.emb (ix4 0 0 a b) 2 = a := Fin.ext (by blk_simp [idx32 t])
  have e3 : (win3_2.blk t).view.emb (ix4 0 0 a b) 3 = b := Fin.ext (by blk_simp [idx32 t])
  simp only [e0, e2, e3, blk30, blk31]

end

end Cert.Mlp1Ideal.Arr
-- ==== Proof.Mlp1Chain.lean ====
module

public import proofs.«01_k».proof.Proof.Mlp1Arr
public import Idealize.ShloMosaic.Lib.StableHlo.Run

@[expose] public section

set_option maxRecDepth 16384

noncomputable section

namespace Cert.Mlp1Ideal.Arr

open Cert.Mlp1Ideal Cert.Mlp1Ideal.Gen Idealize.ShloMosaic Idealize.ShloMosaic.TcCoe Idealize.SL.Sem Idealize.ShloMosaic.StableHlo
open Cert.MlpVal

variable (m : (ℓ : Loc nD τ sig) → Buf (Elt Ideal) ℓ) (ρ : Dev nD → PrngReg)

/-- The arguments, entry by entry: the input, the incoming gradient and the two weights of the second layer. -/
def nArg (c : Dev nD) (r : Fin 4096) (k : Fin 1024) : EReal := m ((c : Thread nD τ).loc main_arg0) (ix2 r k)
def gArg (c : Dev nD) (r : Fin 4096) (k : Fin 1024) : EReal := m ((c : Thread nD τ).loc main_arg1) (ix2 r k)
def uArg (c : Dev nD) (k : Fin 1024) (j : Fin 4096) : EReal := m ((c : Thread nD τ).loc main_arg2) (ix3 1 k j)
def dArg (c : Dev nD) (j : Fin 4096) (k : Fin 1024) : EReal := m ((c : Thread nD τ).loc main_arg3) (ix3 1 j k)

theorem up_stack (c : Dev nD) :
    V1 (F := Ideal) m ρ c main_v2 = transpose S4x2x1024x1024 [2, 0, 1, 3]
      (shapeCast S2x1024x4x1024 (truncf .bf16 (m ((c : Thread nD τ).loc main_arg2) : FVec Ideal S2x1024x4096 .f32) bitsLt_bf16_f32 : FVec Ideal S2x1024x4096 .bf16)
        shapeCasts_S2x1024x4096_S2x1024x4x1024) transposes_S2x1024x4x1024_S4x2x1024x1024_2_0_1_3 := by
  show StableHlo.after hostOps0 _ _ = _
  simp only [hostOps0]
  after_results <;> rfl

theorem down_stack (c : Dev nD) :
    V1 (F := Ideal) m ρ c main_v5 = transpose S4x2x1024x1024 [1, 0, 2, 3]
      (shapeCast S2x4x1024x1024 (truncf .bf16 (m ((c : Thread nD τ).loc main_arg3) : FVec Ideal S2x4096x1024 .f32) bitsLt_bf16_f32 : FVec Ideal S2x4096x1024 .bf16)
        shapeCasts_S2x4096x1024_S2x4x1024x1024) transposes_S2x4x1024x1024_S4x2x1024x1024_1_0_2_3 := by
  show StableHlo.after hostOps0 _ _ = _
  simp only [hostOps0]
  after_results <;> rfl

theorem up_entry (c : Dev nD) : upMat (V1 (F := Ideal) m ρ) c = uArg m c := by
  funext k j
  rw [upMat, up_stack]
  pointwise
  exact congrArg (fun x => m ((c : Thread nD τ).loc main_arg2) (ix3 1 k x)) (at4_tile j)

theorem down_entry (c : Dev nD) : downMat (V1 (F := Ideal) m ρ) c = dArg m c := by
  funext j k
  rw [downMat, down_stack]
  pointwise
  exact congrArg (fun x => m ((c : Thread nD τ).loc main_arg3) (ix3 1 x k)) (at4_tile j)

/-- The hidden layer after the first call, and what the later calls read of it. -/
theorem act_entry (c : Dev nD) (r j : Fin 4096) :
    actMat (V2 (F := Ideal) m ρ) c r j = sqPos (hid (nArg m c) (uArg m c) r j) := by
  have e : nMat (V1 (F := Ideal) m ρ) c = nArg m c := by
    funext r k
    exact congrFun (W1_of (F := Ideal) m ρ c main_arg0 (by decide)) _
  rw [← e, ← up_entry m ρ]
  exact congrFun ((W2_arr (F := Ideal) m ρ c 2).trans (arr_up (V1 m ρ) c)) (ix2 r j)

theorem act_kept (c : Dev nD) : actMat (V3 (F := Ideal) m ρ) c = actMat (V2 (F := Ideal) m ρ) c := by
  funext r j
  exact congrFun (W3_of (F := Ideal) m ρ c main_v6 (by decide)) _

/-- The gradient of the hidden layer after the second call. The call takes twice the square root of the hidden layer for the
    slope: the root of a square of a positive part is that part, on every extended real. -/
theorem dup_entry (c : Dev nD) (r j : Fin 4096) :
    dupMat (V3 (F := Ideal) m ρ) c r j = back (gArg m c) (dArg m c) r j * (two * Ideal.sqrt (sqPos (hid (nArg m c) (uArg m c) r j))) := by
  have eg : gMat (V2 (F := Ideal) m ρ) c = gArg m c := by
    funext r k
    exact congrFun ((W2_of (F := Ideal) m ρ c main_arg1 (by decide)).trans (W1_of m ρ c main_arg1 (by decide))) _
  have ed : downMat (V2 (F := Ideal) m ρ) c = dArg m c := by
    refine Eq.trans ?_ (down_entry m ρ c)
    funext j k
    exact congrFun (W2_of (F := Ideal) m ρ c main_v5 (by decide)) _
  rw [← act_entry m ρ, ← eg, ← ed]
  exact congrFun ((W3_arr (F := Ideal) m ρ c 3).trans (arr_act (V2 m ρ) c)) (ix2 r j)

theorem dup_eq (c : Dev nD) (r j : Fin 4096) :
    dupMat (V3 (F := Ideal) m ρ) c r j = dhid (nArg m c) (uArg m c) (gArg m c) (dArg m c) r j := by
  rw [dup_entry, sqrt_sqPos]
  rfl

/-- The second weight's gradient, shard by shard. -/
theorem down_result (c : Dev nD) (p : Fin 4) (a b : Fin 1024) :
    W5 (F := Ideal) m ρ c (Proc.devRef .tc main_v8) (ix4 p 0 a b) = dDown (nArg m c) (uArg m c) (gArg m c) (at4 p a) b := by
  have eg : gMat (V3 (F := Ideal) m ρ) c = gArg m c := by
    funext r k
    exact congrFun (((W3_of (F := Ideal) m ρ c main_arg1 (by decide)).trans (W2_of m ρ c main_arg1 (by decide))).trans (W1_of m ρ c main_arg1 (by decide))) _
  refine (congrFun (((W5_of (F := Ideal) m ρ c main_v8 (by decide)).trans (W4_arr m ρ c 2)).trans (arr_down (V3 m ρ) c)) _).trans ?_
  rw [act_kept, eg]
  simp only [act_entry]
  rfl

/-- The first weight's gradient, shard by shard. -/
theorem up_result (c : Dev nD) (p : Fin 4) (a b : Fin 1024) :
    W5 (F := Ideal) m ρ c (Proc.devRef .tc main_v9) (ix4 p 0 a b) = dUp (nArg m c) (uArg m c) (gArg m c) (dArg m c) a (at4 p b) := by
  have en : nMat (V4 (F := Ideal) m ρ) c = nArg m c := by
    funext r k
    exact congrFun ((((W4_of (F := Ideal) m ρ c main_arg0 (by decide)).trans (W3_of m ρ c main_arg0 (by decide))).trans (W2_of m ρ c main_arg0 (by decide))).trans (W1_of m ρ c main_arg0 (by decide))) _
  have ed : dupMat (V4 (F := Ideal) m ρ) c = dupMat (V3 (F := Ideal) m ρ) c := by
    funext r j
    exact congrFun (W4_of (F := Ideal) m ρ c main_v7 (by decide)) _
  refine (congrFun ((W5_arr (F := Ideal) m ρ c 2).trans (arr_dup (V4 m ρ) c)) _).trans ?_
  rw [en, ed]
  simp only [dup_eq]
  rfl

theorem up_read (c : Dev nD) :
    W6 (F := Ideal) m ρ c (Proc.devRef .tc main_v12) = shapeCast S1024x4096 (transpose S1x1024x4x1024 [1, 2, 0, 3]
      (extf .f32 (W5 (F := Ideal) m ρ c (Proc.devRef .tc main_v9) : FVec Ideal S4x1x1024x1024 .bf16) bitsLt_bf16_f32 : FVec Ideal S4x1x1024x1024 .f32)
      transposes_S4x1x1024x1024_S1x1024x4x1024_1_2_0_3) shapeCasts_S1x1024x4x1024_S1024x4096 := by
  show StableHlo.after hostOps4 _ _ = _
  simp only [hostOps4]
  after_results <;> rfl

theorem down_read (c : Dev nD) :
    W6 (F := Ideal) m ρ c (Proc.devRef .tc main_v14) = shapeCast S4096x1024
      (extf .f32 (W5 (F := Ideal) m ρ c (Proc.devRef .tc main_v8) : FVec Ideal S4x1x1024x1024 .bf16) bitsLt_bf16_f32 : FVec Ideal S4x1x1024x1024 .f32)
      shapeCasts_S4x1x1024x1024_S4096x1024 := by
  show StableHlo.after hostOps4 _ _ = _
  simp only [hostOps4]
  after_results <;> rfl

/-- The program's two results. -/
theorem up_apply (c : Dev nD) (k : Fin 1024) (j : Fin 4096) :
    W6 (F := Ideal) m ρ c (Proc.devRef .tc main_v12) (ix2 k j : S1024x4096.Idx) = dUp (nArg m c) (uArg m c) (gArg m c) (dArg m c) k j := by
  have e := up_result m ρ c (tileOf j) k (inTile j)
  rw [at4_tile] at e
  rw [up_read, ← e]
  pointwise
  rfl

theorem down_apply (c : Dev nD) (j : Fin 4096) (k : Fin 1024) :
    W6 (F := Ideal) m ρ c (Proc.devRef .tc main_v14) (ix2 j k : S4096x1024.Idx) = dDown (nArg m c) (uArg m c) (gArg m c) j k := by
  have e := down_result m ρ c (tileOf j) (inTile j) k
  rw [at4_tile] at e
  rw [down_read, ← e]
  pointwise
  rfl

end Cert.Mlp1Ideal.Arr
-- ==== Proof.Mlp1RefVal.lean ====
module

public import proofs.«01_k».proof.Proof.Gen.MlpRef1Ideal.Run
public import proofs.«01_k».proof.Proof.MlpSpec
public import Idealize.ShloMosaic.Lib.Tactic
public import Idealize.ShloMosaic.Lib.Pointwise
public import Idealize.ShloMosaic.Lib.ValueIdx

@[expose] public section

set_option maxRecDepth 16384

noncomputable section

namespace Cert.MlpRef1Ideal.Val

open Cert.MlpRef1Ideal Cert.MlpRef1Ideal.Gen Idealize.ShloMosaic Idealize.ShloMosaic.TcCoe Idealize.SL.Sem
open Cert.MlpVal

variable (m : (ℓ : Loc nD τ sig) → Buf (Elt Ideal) ℓ)

/-- The arguments, entry by entry: the input, the incoming gradient and the two weights of the second layer. -/
def nArg (c : Dev nD) (r : Fin 4096) (k : Fin 1024) : EReal := m ((c.tc : Thread nD τ).loc main_arg0) (ix2 r k)
def gArg (c : Dev nD) (r : Fin 4096) (k : Fin 1024) : EReal := m ((c.tc : Thread nD τ).loc main_arg1) (ix2 r k)
def uArg (c : Dev nD) (k : Fin 1024) (j : Fin 4096) : EReal := m ((c.tc : Thread nD τ).loc main_arg2) (ix3 1 k j)
def dArg (c : Dev nD) (j : Fin 4096) (k : Fin 1024) : EReal := m ((c.tc : Thread nD τ).loc main_arg3) (ix3 1 j k)

/-- The input and the incoming gradient in the wide format. -/
def nWide (c : Dev nD) : FVec Ideal S4096x1024 .f32 := extf (F := Ideal) .f32 (m ((c.tc : Thread nD τ).loc main_arg0)) bitsLt_bf16_f32
def gWide (c : Dev nD) : FVec Ideal S4096x1024 .f32 := extf (F := Ideal) .f32 (m ((c.tc : Thread nD τ).loc main_arg1)) bitsLt_bf16_f32

/-- The second layer's two weights. -/
def wUp (c : Dev nD) : FVec Ideal S1024x4096 .f32 :=
  shapeCast _ (extractStridedSlice S1x1024x4096 ![1, 0, 0] (m ((c.tc : Thread nD τ).loc main_arg2) : FVec Ideal S2x1024x4096 .f32) slices_S2x1024x4096_S1x1024x4096_1_0_0) shapeCasts_S1x1024x4096_S1024x4096
def wDown (c : Dev nD) : FVec Ideal S4096x1024 .f32 :=
  shapeCast _ (extractStridedSlice S1x4096x1024 ![1, 0, 0] (m ((c.tc : Thread nD τ).loc main_arg3) : FVec Ideal S2x4096x1024 .f32) slices_S2x4096x1024_S1x4096x1024_1_0_0) shapeCasts_S1x4096x1024_S4096x1024

/-- Nothing, everywhere. -/
def none4 : FVec Ideal S4096x4096 .f32 := broadcastInDim S4096x4096 ![] bcast_S_S4096x4096 (constant S_ .f32 0x00000000#32)

/-- The hidden layer before its nonlinearity, its positive part, and its gradient. -/
def pre (c : Dev nD) : FVec Ideal S4096x4096 .f32 := Host.dotGeneral (F := Ideal) dot_S4096x1024_S1024x4096_S4096x4096_1_0_0_1_n_n none (nWide m c) (wUp m c)
def pos (c : Dev nD) : FVec Ideal S4096x4096 .f32 := maximumf (pre m c) none4
def dpre (c : Dev nD) : FVec Ideal S4096x4096 .f32 :=
  select (cmpf .ogt (pre m c) none4)
    (mulf (Host.dotGeneral (F := Ideal) dot_S4096x1024_S4096x1024_S4096x4096_1_1_0_0_n_n none (gWide m c) (wDown m c))
      (mulf (broadcastInDim S4096x4096 ![] bcast_S_S4096x4096 (constant S_ .f32 0x40000000#32)) (pos m c))) none4

/-- The two results. -/
def upGrad (c : Dev nD) : FVec Ideal S1024x4096 .f32 :=
  transpose S1024x4096 [1, 0] (Host.dotGeneral (F := Ideal) dot_S4096x4096_S4096x1024_S4096x1024_0_0_1_1_n_n none (dpre m c) (nWide m c)) transposes_S4096x1024_S1024x4096_1_0
def downGrad (c : Dev nD) : FVec Ideal S4096x1024 .f32 :=
  transpose S4096x1024 [1, 0] (Host.dotGeneral (F := Ideal) dot_S4096x1024_S4096x4096_S1024x4096_0_0_1_1_n_n none (gWide m c) (mulf (pos m c) (pos m c))) transposes_S1024x4096_S4096x1024_1_0

theorem pre_apply (c : Dev nD) (r j : Fin 4096) : pre m c (ix2 r j) = hid (nArg m c) (uArg m c) r j := by
  pointwise [pre, nWide, wUp]
  rfl

theorem none4_apply (r j : Fin 4096) : none4 (ix2 r j) = 0 := by
  pointwise [none4]

theorem pos_apply (c : Dev nD) (r j : Fin 4096) : pos m c (ix2 r j) = max (hid (nArg m c) (uArg m c) r j) 0 := by
  have e : (pos m c (ix2 r j) : EReal) = max (pre m c (ix2 r j)) (none4 (ix2 r j)) := by pointwise [pos]
  rw [e, pre_apply, none4_apply]

theorem dpre_apply (c : Dev nD) (r j : Fin 4096) : dpre m c (ix2 r j) = dhid (nArg m c) (uArg m c) (gArg m c) (dArg m c) r j := by
  have e : (dpre m c (ix2 r j) : EReal) = if none4 (ix2 r j) < pre m c (ix2 r j) then
      (∑ k : Fin 1024, gArg m c r k * dArg m c j k) * (two * pos m c (ix2 r j)) else none4 (ix2 r j) := by
    pointwise [dpre, gWide, wDown]
    rfl
  rw [e, pre_apply, none4_apply, pos_apply]
  split_ifs with h
  · rfl
  · exact (dhid_select _ _ _ _ _ _ h).symm

theorem upGrad_apply (c : Dev nD) (k : Fin 1024) (j : Fin 4096) :
    upGrad m c (ix2 k j) = dUp (nArg m c) (uArg m c) (gArg m c) (dArg m c) k j := by
  have e : (upGrad m c (ix2 k j) : EReal) = ∑ r : Fin 4096, dpre m c (ix2 r j) * nArg m c r k := by
    pointwise [upGrad, nWide]
    rfl
  rw [e]
  simp only [dpre_apply]
  exact Finset.sum_congr rfl fun r _ => mul_comm _ _

theorem downGrad_apply (c : Dev nD) (j : Fin 4096) (k : Fin 1024) :
    downGrad m c (ix2 j k) = dDown (nArg m c) (uArg m c) (gArg m c) j k := by
  have e : (downGrad m c (ix2 j k) : EReal) = ∑ r : Fin 4096, gArg m c r k * (pos m c (ix2 r j) * pos m c (ix2 r j)) := by
    pointwise [downGrad, gWide]
    rfl
  rw [e]
  simp only [pos_apply]
  exact Finset.sum_congr rfl fun r _ => mul_comm _ _

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v22) = upGrad m c
      ∧ r.2.mem ((c.tc : Thread nD τ).loc main_v16) = downGrad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.MlpRef1Ideal.Val
-- ==== Proof.Mlp1Claim.lean ====
module

public import proofs.«01_k».proof.Defs
public import proofs.«01_k».proof.Proof.Gen.Mlp1
public import proofs.«01_k».proof.Proof.Mlp1Chain
public import proofs.«01_k».proof.Proof.Mlp1RefVal
public import Idealize.ShloMosaic.Lib.Quiescent

@[expose] public section

set_option maxRecDepth 16384

noncomputable section

/-! The gradients of the two weights of the squared-ReLU network, second layer. -/

namespace Cert.Mlp1Claim

open Idealize.ShloMosaic Idealize.ShloMosaic.TcCoe Idealize.SL.Sem

/-- The reference's run leaves its arguments and its counters as they were. -/
theorem reference_frame : Cert.quiescent_MlpRef1Ideal := by
  intro m g _
  refine (θ_run Cert.MlpRef1Ideal.defs _ _).mono (fun r h => ⟨fun c => (h c).2.2, ?_⟩) (Cert.MlpRef1Ideal.Val.run m g)
  exact sem_eq_zero_of_no_sems (by decide) r.2

/-- The calls' weight gradients are the derivative's. -/
theorem algebraic : Cert.algebraic_Mlp1Ideal_MlpRef1Ideal := by
  intro m g m' g' _ hm
  have hn (c) : Cert.MlpRef1Ideal.Val.nArg m' c = Cert.Mlp1Ideal.Arr.nArg m c :=
    funext fun r => funext fun k => congrFun (hm c).1 (ix2 r k)
  have hg (c) : Cert.MlpRef1Ideal.Val.gArg m' c = Cert.Mlp1Ideal.Arr.gArg m c :=
    funext fun r => funext fun k => congrFun (hm c).2.1 (ix2 r k)
  have hu (c) : Cert.MlpRef1Ideal.Val.uArg m' c = Cert.Mlp1Ideal.Arr.uArg m c :=
    funext fun k => funext fun j => congrFun (hm c).2.2.1 (ix3 1 k j)
  have hd (c) : Cert.MlpRef1Ideal.Val.dArg m' c = Cert.Mlp1Ideal.Arr.dArg m c :=
    funext fun j => funext fun k => congrFun (hm c).2.2.2 (ix3 1 j k)
  refine ⟨_, _, Cert.Mlp1Ideal.Run.run_results m g, ?_⟩
  refine (θ_run Cert.MlpRef1Ideal.defs _ _).mono (fun r h c => ?_) (Cert.MlpRef1Ideal.Val.run m' g')
  obtain ⟨h0, h1, ha⟩ := h c
  refine ⟨h0.trans ?_, h1.trans ?_, ha⟩
  · funext i
    obtain ⟨k, j, rfl⟩ : ∃ k j, i = (ix2 k j : Cert.Mlp1Ideal.S1024x4096.Idx) := ⟨i 0, i 1, eq_ix2 i⟩
    refine (Cert.MlpRef1Ideal.Val.upGrad_apply m' c k j).trans ?_
    rw [hn, hg, hu, hd]
    exact (Cert.Mlp1Ideal.Arr.up_apply m g c k j).symm
  · funext i
    obtain ⟨j, k, rfl⟩ : ∃ j k, i = (ix2 j k : Cert.Mlp1Ideal.S4096x1024.Idx) := ⟨i 0, i 1, eq_ix2 i⟩
    refine (Cert.MlpRef1Ideal.Val.downGrad_apply m' c j k).trans ?_
    rw [hn, hg, hu]
    exact (Cert.Mlp1Ideal.Arr.down_apply m g c j k).symm

end Cert.Mlp1Claim

end
-- ==== Proof.ProjRun.lean ====
module

public import proofs.«01_k».proof.Proof.Gen.ProjIdeal.Frame

@[expose] public section

set_option maxRecDepth 16384

noncomputable section

namespace Cert.ProjIdeal.Run

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The six calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v4) = W8 m ρ c (Proc.devRef .tc main_v4)
      ∧ r.2.mem ((c.tc : Thread nD τ).loc main_v5) = W8 m ρ c (Proc.devRef .tc main_v5)
      ∧ r.2.mem ((c.tc : Thread nD τ).loc main_v7) = W8 m ρ c (Proc.devRef .tc main_v7)
      ∧ r.2.mem ((c.tc : Thread nD τ).loc main_v10) = W8 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v4 (by decide)),
      h c _ (mem_uc main_v5 (by decide)),
      h c _ (mem_uc main_v7 (by decide)),
      h c _ (mem_uc main_v10 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c)⟩) (run m ρ)

end Cert.ProjIdeal.Run
-- ==== Proof.ProdSpec.lean ====
module

public import proofs.«01_k».proof.Proof.MlpSpec
public import Idealize.ShloMosaic.Lib.Pointwise
public import Idealize.ShloMosaic.Lib.ValueIdx

@[expose] public section

set_option maxRecDepth 16384

noncomputable section

/-! Products of matrices, entry by entry, and the places of tiles in them: what the plain products of the step are compared in. -/

namespace Cert.ProdVal

open Idealize.ShloMosaic

/-- The product of two matrices, and a matrix with its coordinates exchanged. -/
def mul {a k b : ℕ} (x : Fin a → Fin k → EReal) (y : Fin k → Fin b → EReal) (r : Fin a) (j : Fin b) : EReal := ∑ q : Fin k, x r q * y q j
def tr {a b : ℕ} (x : Fin a → Fin b → EReal) (j : Fin b) (r : Fin a) : EReal := x r j

/-- The transposed product with its factors exchanged. -/
theorem mul_tr {a k b : ℕ} (x : Fin k → Fin a → EReal) (y : Fin k → Fin b → EReal) (r : Fin a) (j : Fin b) :
    ∑ q : Fin k, y q j * x q r = mul (tr x) y r j := Finset.sum_congr rfl fun q _ => mul_comm _ _

/-- Row `r` of the tile in row `p` of three rows of tiles. -/
def at3 (p : Fin 3) (r : Fin 1024) : Fin 3072 := ⟨p.val * 1024 + r.val, by omega⟩

/-- The row of tiles and the column of tiles of grid point `t`, three tiles to a row. -/
def pRow3 (t : ℕ) (h : t < 12) : Fin 4 := ⟨t / 3, by omega⟩
def pCol3 (t : ℕ) : Fin 3 := ⟨t % 3, by omega⟩
def third (t : ℕ) (h : t < 3) : Fin 3 := ⟨t, h⟩

/-- A column among the first 3072 of 4096, and one among the last 1024. -/
def lo (j : Fin 3072) : Fin 4096 := ⟨j.val, by omega⟩
def hi (j : Fin 1024) : Fin 4096 := ⟨3072 + j.val, by omega⟩

/-- A sum over 4096 columns is the sum over the first 3072 and that over the last 1024. -/
theorem sum_lo_hi (f : Fin 4096 → EReal) : ∑ j, f j = (∑ j : Fin 3072, f (lo j)) + ∑ j : Fin 1024, f (hi j) :=
  Fin.sum_univ_add (a := 3072) (b := 1024) f

/-- A column is one of the first or one of the last. -/
theorem cols (j : Fin 4096) : (∃ q, j = lo q) ∨ ∃ q, j = hi q := by
  by_cases h : j.val < 3072
  · exact .inl ⟨⟨j.val, h⟩, rfl⟩
  · exact .inr ⟨⟨j.val - 3072, by omega⟩, Fin.ext (by simp only [hi]; omega)⟩

/-- Column `r` of the shard `p` of 2048 columns in four shards, the shard a column lies in and its place there. -/
def at512 (p : Fin 4) (r : Fin 512) : Fin 2048 := ⟨p.val * 512 + r.val, by omega⟩
def tile512 (j : Fin 2048) : Fin 4 := ⟨j.val / 512, by omega⟩
def in512 (j : Fin 2048) : Fin 512 := ⟨j.val % 512, by omega⟩

theorem tile512_at (p : Fin 4) (r : Fin 512) : tile512 (at512 p r) = p := Fin.ext (by simp only [tile512, at512]; omega)
theorem in512_at (p : Fin 4) (r : Fin 512) : in512 (at512 p r) = r := Fin.ext (by simp only [in512, at512]; omega)
theorem at512_tile (j : Fin 2048) : at512 (tile512 j) (in512 j) = j := Fin.ext (by simp only [tile512, in512, at512]; omega)

/-- Column `r` of the shard `p` of 1024 columns in four shards, the shard a column lies in and its place there. -/
def at256 (p : Fin 4) (r : Fin 256) : Fin 1024 := ⟨p.val * 256 + r.val, by omega⟩
def tile256 (j : Fin 1024) : Fin 4 := ⟨j.val / 256, by omega⟩
def in256 (j : Fin 1024) : Fin 256 := ⟨j.val % 256, by omega⟩

theorem tile256_at (p : Fin 4) (r : Fin 256) : tile256 (at256 p r) = p := Fin.ext (by simp only [tile256, at256]; omega)
theorem in256_at (p : Fin 4) (r : Fin 256) : in256 (at256 p r) = r := Fin.ext (by simp only [in256, at256]; omega)
theorem at256_tile (j : Fin 1024) : at256 (tile256 j) (in256 j) = j := Fin.ext (by simp only [tile256, in256, at256]; omega)

/-- The four coordinates of an entry of a shard, and of an entry of four shards. -/
theorem one_one_idx {a b : ℕ} (y : (⟨4, ![1, 1, a, b]⟩ : Shape).Idx) : ∃ r s, y = (ix4 0 0 r s : (⟨4, ![1, 1, a, b]⟩ : Shape).Idx) :=
  ⟨y 2, y 3, by
    refine (eq_ix4 y).trans ?_
    rw [show y 0 = (0 : Fin 1) from Subsingleton.elim (α := Fin 1) _ _, show y 1 = (0 : Fin 1) from Subsingleton.elim (α := Fin 1) _ _]⟩

theorem four_one_idx {a b : ℕ} (y : (⟨4, ![4, 1, a, b]⟩ : Shape).Idx) : ∃ p r s, y = (ix4 p 0 r s : (⟨4, ![4, 1, a, b]⟩ : Shape).Idx) :=
  ⟨y 0, y 2, y 3, by
    refine (eq_ix4 y).trans ?_
    rw [show y 1 = (0 : Fin 1) from Subsingleton.elim (α := Fin 1) _ _]⟩

end Cert.ProdVal
-- ==== Proof.ProjArr.lean ====
module

public import proofs.«01_k».proof.Proof.ProjRun
public import proofs.«01_k».proof.Proof.ProdSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The two projections of the gated delta rule's layer and their gradients: what every call leaves, tile by tile, and the
program's results. -/

namespace Cert.ProjIdeal.Arr

open Cert.ProjIdeal Cert.ProjIdeal.Gen Idealize.ShloMosaic Idealize.ShloMosaic.TcCoe Idealize.SL.Sem Idealize.ShloMosaic.StableHlo
open Idealize.ShloMosaic.Pipeline (Dat)
open Cert.MlpVal Cert.ProdVal

/-! ## What one tile's body leaves -/

theorem tile0 (x0 : Vec Ideal S1024x1024 .bf16) (x1 : Vec Ideal S1024x1024 .bf16) (r c : Fin 1024) :
    out0_2 (F := Ideal) x0 x1 (ix2 r c) = ∑ k : Fin 1024, x0 (ix2 r k) * x1 (ix2 k c) := by
  frame_out
  pointwise [k0_pay1]

theorem tile1 (x0 : Vec Ideal S1024x1024 .bf16) (x1 : Vec Ideal S1024x1024 .bf16) (r c : Fin 1024) :
    out1_2 (F := Ideal) x0 x1 (ix2 r c) = ∑ k : Fin 1024, x0 (ix2 r k) * x1 (ix2 k c) := by
  frame_out
  pointwise [k1_pay1]

theorem tile2 (x0 : Vec Ideal S1024x3072 .bf16) (x1 : Vec Ideal S1024x3072 .bf16) (r c : Fin 1024) :
    out2_2 (F := Ideal) x0 x1 (ix2 r c) = ∑ k : Fin 3072, x0 (ix2 r k) * x1 (ix2 c k) := by
  frame_out
  pointwise [k2_pay1]

theorem tile4 (x0 : Vec Ideal S4096x1024 .bf16) (x1 : Vec Ideal S4096x1024 .bf16) (r c : Fin 1024) :
    out4_2 (F := Ideal) x0 x1 (ix2 r c) = ∑ k : Fin 4096, x0 (ix2 k r) * x1 (ix2 k c) := by
  frame_out
  pointwise [k4_pay1]

theorem tile5 (x0 : Vec Ideal S4096x1024 .bf16) (x1 : Vec Ideal S4096x1024 .bf16) (r c : Fin 1024) :
    out5_2 (F := Ideal) x0 x1 (ix2 r c) = ∑ k : Fin 4096, x0 (ix2 k r) * x1 (ix2 k c) := by
  frame_out
  pointwise [k5_pay1]

theorem tile3 (x0 x1 : Vec Ideal S1024x1024 .bf16) (x2 : Vec Ideal S1024x1024 .f32) (r c : Fin 1024) :
    out3_3 (F := Ideal) x0 x1 x2 (ix2 r c) = (∑ k : Fin 1024, x0 (ix2 r k) * x1 (ix2 c k)) + x2 (ix2 r c) := by
  frame_out
  pointwise [k3_pay1]

/-! ## Where the blocks lie -/

theorem idx00 : ∀ t : Fin cfg0.N, win0_0.index t = ![t.val / 3, 0] := (by decide +kernel : ∀ t : Fin grid0.N, _)
theorem idx01 : ∀ t : Fin cfg0.N, win0_1.index t = ![0, t.val % 3] := (by decide +kernel : ∀ t : Fin grid0.N, _)
theorem idx02 : ∀ t : Fin cfg0.N, win0_2.index t = ![t.val / 3, t.val % 3] := (by decide +kernel : ∀ t : Fin grid0.N, _)
theorem idx10 : ∀ t : Fin cfg1.N, win1_0.index t = ![t.val, 0] := (by decide +kernel : ∀ t : Fin grid1.N, _)
theorem idx11 : ∀ t : Fin cfg1.N, win1_1.index t = ![0, 0] := (by decide +kernel : ∀ t : Fin grid1.N, _)
theorem idx12 : ∀ t : Fin cfg1.N, win1_2.index t = ![t.val, 0] := (by decide +kernel : ∀ t : Fin grid1.N, _)
theorem idx20 : ∀ t : Fin cfg2.N, win2_0.index t = ![t.val, 0] := (by decide +kernel : ∀ t : Fin grid2.N, _)
theorem idx21 : ∀ t : Fin cfg2.N, win2_1.index t = ![0, 0] := (by decide +kernel : ∀ t : Fin grid2.N, _)
theorem idx22 : ∀ t : Fin cfg2.N, win2_2.index t = ![t.val, 0] := (by decide +kernel : ∀ t : Fin grid2.N, _)
theorem idx30 : ∀ t : Fin cfg3.N, win3_0.index t = ![t.val, 0] := (by decide +kernel : ∀ t : Fin grid3.N, _)
theorem idx31 : ∀ t : Fin cfg3.N, win3_1.index t = ![0, 0] := (by decide +kernel : ∀ t : Fin grid3.N, _)
theorem idx32 : ∀ t : Fin cfg3.N, win3_2.index t = ![t.val, 0] := (by decide +kernel : ∀ t : Fin grid3.N, _)
theorem idx33 : ∀ t : Fin cfg3.N, win3_3.index t = ![t.val, 0] := (by decide +kernel : ∀ t : Fin grid3.N, _)
theorem idx40 : ∀ t : Fin cfg4.N, win4_0.index t = ![0, 0] := (by decide +kernel : ∀ t : Fin grid4.N, _)
theorem idx41 : ∀ t : Fin cfg4.N, win4_1.index t = ![0, t.val] := (by decide +kernel : ∀ t : Fin grid4.N, _)
theorem idx42 : ∀ t : Fin cfg4.N, win4_2.index t = ![0, t.val] := (by decide +kernel : ∀ t : Fin grid4.N, _)
theorem idx50 : ∀ t : Fin cfg5.N, win5_0.index t = ![0, 0] := (by decide +kernel : ∀ t : Fin grid5.N, _)
theorem idx51 : ∀ t : Fin cfg5.N, win5_1.index t = ![0, 0] := (by decide +kernel : ∀ t : Fin grid5.N, _)
theorem idx52 : ∀ t : Fin cfg5.N, win5_2.index t = ![0, 0] := (by decide +kernel : ∀ t : Fin grid5.N, _)

section
variable (V : (c : Dev nD) → (b : Ref sig .tc) → Buf (Elt Ideal) ((c : Thread nD τ).loc b))

/-- The arrays the calls read, entry by entry: the input, the incoming gradients, the two weights and the first part of the
    input's gradient. -/
def nMat (c : Dev nD) (r : Fin 4096) (k : Fin 1024) : EReal := V c main_arg0 (ix2 r k)
def qMat (c : Dev nD) (r : Fin 4096) (j : Fin 3072) : EReal := V c main_arg1 (ix2 r j)
def zMat (c : Dev nD) (r : Fin 4096) (j : Fin 1024) : EReal := V c main_arg2 (ix2 r j)
def wqMat (c : Dev nD) (k : Fin 1024) (j : Fin 3072) : EReal := V c main_v2 (ix2 k j)
def wzMat (c : Dev nD) (k : Fin 1024) (j : Fin 1024) : EReal := V c main_v3 (ix2 k j)
def dMat (c : Dev nD) (r : Fin 4096) (k : Fin 1024) : EReal := V c main_v6 (ix2 r k)

theorem blk00 (c : Dev nD) (t : Fin cfg0.N) (r k : Fin 1024) :
    iblk0 (F := Ideal) V c 0 t (ix2 r k : S1024x1024.Idx) = nMat V c (at4 (pRow3 t.val t.isLt) r) k := by
  blk_simp [iblk0]
  refine congrArg (V c main_arg0) ?_
  blk_ext [idx00 t, at4, pRow3]

theorem blk01 (c : Dev nD) (t : Fin cfg0.N) (k j : Fin 1024) :
    iblk0 (F := Ideal) V c 1 t (ix2 k j : S1024x1024.Idx) = wqMat V c k (at3 (pCol3 t.val) j) := by
  blk_simp [iblk0]
  refine congrArg (V c main_v2) ?_
  blk_ext [idx01 t, at3, pCol3]

theorem arr0 (c : Dev nD) :
    (dat0 (F := Ideal) V c).arrAt 2 cfg0.N = fun i : S4096x3072.Idx => mul (nMat V c) (wqMat V c) (i 0) (i 1) := by
  refine (dat0 V c).arrAt_eq_of_covers 2 _ (by decide +kernel) fun t _ y => ?_
  blk_simp
  rw [after0_2]
  obtain ⟨r, z, rfl⟩ : ∃ r z, y = (ix2 r z : S1024x1024.Idx) := ⟨y 0, y 1, eq_ix2 y⟩
  rw [tile0]
  have e0 : (win0_2.blk t).view.emb (ix2 r z) 0 = at4 (pRow3 t.val t.isLt) r := Fin.ext (by blk_simp [idx02 t]; simp [at4, at3, pRow3, pCol3, ix2])
  have e1 : (win0_2.blk t).view.emb (ix2 r z) 1 = at3 (pCol3 t.val) z := Fin.ext (by blk_simp [idx02 t]; simp [at4, at3, pRow3, pCol3, ix2])
  simp only [e0, e1, blk00, blk01]
  rfl

theorem blk10 (c : Dev nD) (t : Fin cfg1.N) (r k : Fin 1024) :
    iblk1 (F := Ideal) V c 0 t (ix2 r k : S1024x1024.Idx) = nMat V c (at4 (shard t.val t.isLt) r) k := by
  blk_simp [iblk1]
  refine congrArg (V c main_arg0) ?_
  blk_ext [idx10 t, at4, shard]

theorem blk11 (c : Dev nD) (t : Fin cfg1.N) (k j : Fin 1024) :
    iblk1 (F := Ideal) V c 1 t (ix2 k j : S1024x1024.Idx) = wzMat V c k j := by
  blk_simp [iblk1]
  refine congrArg (V c main_v3) ?_
  blk_ext [idx11 t]

theorem arr1 (c : Dev nD) :
    (dat1 (F := Ideal) V c).arrAt 2 cfg1.N = fun i : S4096x1024.Idx => mul (nMat V c) (wzMat V c) (i 0) (i 1) := by
  refine (dat1 V c).arrAt_eq_of_covers 2 _ (by decide +kernel) fun t _ y => ?_
  blk_simp
  rw [after1_2]
  obtain ⟨r, z, rfl⟩ : ∃ r z, y = (ix2 r z : S1024x1024.Idx) := ⟨y 0, y 1, eq_ix2 y⟩
  rw [tile1]
  have e0 : (win1_2.blk t).view.emb (ix2 r z) 0 = at4 (shard t.val t.isLt) r := Fin.ext (by blk_simp [idx12 t]; simp [at4, shard, ix2])
  have e1 : (win1_2.blk t).view.emb (ix2 r z) 1 = z := Fin.ext (by blk_simp [idx12 t])
  simp only [e0, e1, blk10, blk11]
  rfl

theorem blk20 (c : Dev nD) (t : Fin cfg2.N) (r : Fin 1024) (j : Fin 3072) :
    iblk2 (F := Ideal) V c 0 t (ix2 r j : S1024x3072.Idx) = qMat V c (at4 (shard t.val t.isLt) r) j := by
  blk_simp [iblk2]
  refine congrArg (V c main_arg1) ?_
  blk_ext [idx20 t, at4, shard]

theorem blk21 (c : Dev nD) (t : Fin cfg2.N) (k : Fin 1024) (j : Fin 3072) :
    iblk2 (F := Ideal) V c 1 t (ix2 k j : S1024x3072.Idx) = wqMat V c k j := by
  blk_simp [iblk2]
  refine congrArg (V c main_v2) ?_
  blk_ext [idx21 t]

theorem arr2 (c : Dev nD) :
    (dat2 (F := Ideal) V c).arrAt 2 cfg2.N = fun i : S4096x1024.Idx => mul (qMat V c) (tr (wqMat V c)) (i 0) (i 1) := by
  refine (dat2 V c).arrAt_eq_of_covers 2 _ (by decide +kernel) fun t _ y => ?_
  blk_simp
  rw [after2_2]
  obtain ⟨r, z, rfl⟩ : ∃ r z, y = (ix2 r z : S1024x1024.Idx) := ⟨y 0, y 1, eq_ix2 y⟩
  rw [tile2]
  have e0 : (win2_2.blk t).view.emb (ix2 r z) 0 = at4 (shard t.val t.isLt) r := Fin.ext (by blk_simp [idx22 t]; simp [at4, shard, ix2])
  have e1 : (win2_2.blk t).view.emb (ix2 r z) 1 = z := Fin.ext (by blk_simp [idx22 t])
  simp only [e0, e1, blk20, blk21]
  rfl

theorem blk30 (c : Dev nD) (t : Fin cfg3.N) (r j : Fin 1024) :
    iblk3 (F := Ideal) V c 0 t (ix2 r j : S1024x1024.Idx) = zMat V c (at4 (shard t.val t.isLt) r) j := by
  blk_simp [iblk3]
  refine congrArg (V c main_arg2) ?_
  blk_ext [idx30 t, at4, shard]

theorem blk31 (c : Dev nD) (t : Fin cfg3.N) (k j : Fin 1024) :
    iblk3 (F := Ideal) V c 1 t (ix2 k j : S1024x1024.Idx) = wzMat V c k j := by
  blk_simp [iblk3]
  refine congrArg (V c main_v3) ?_
  blk_ext [idx31 t]

theorem blk32 (c : Dev nD) (t : Fin cfg3.N) (r k : Fin 1024) :
    iblk3 (F := Ideal) V c 2 t (ix2 r k : S1024x1024.Idx) = dMat V c (at4 (shard t.val t.isLt) r) k := by
  blk_simp [iblk3]
  refine congrArg (V c main_v6) ?_
  blk_ext [idx32 t, at4, shard]

theorem arr3 (c : Dev nD) :
    (dat3 (F := Ideal) V c).arrAt 3 cfg3.N = fun i : S4096x1024.Idx => mul (zMat V c) (tr (wzMat V c)) (i 0) (i 1) + dMat V c (i 0) (i 1) := by
  refine (dat3 V c).arrAt_eq_of_covers 3 _ (by decide +kernel) fun t _ y => ?_
  blk_simp
  rw [after3_3]
  obtain ⟨r, z, rfl⟩ : ∃ r z, y = (ix2 r z : S1024x1024.Idx) := ⟨y 0, y 1, eq_ix2 y⟩
  rw [tile3]
  have e0 : (win3_3.blk t).view.emb (ix2 r z) 0 = at4 (shard t.val t.isLt) r := Fin.ext (by blk_simp [idx33 t]; simp [at4, shard, ix2])
  have e1 : (win3_3.blk t).view.emb (ix2 r z) 1 = z := Fin.ext (by blk_simp [idx33 t])
  simp only [e0, e1, blk30, blk31, blk32]
  rfl

theorem blk40 (c : Dev nD) (t : Fin cfg4.N) (r : Fin 4096) (k : Fin 1024) :
    iblk4 (F := Ideal) V c 0 t (ix2 r k : S4096x1024.Idx) = nMat V c r k := by
  blk_simp [iblk4]
  refine congrArg (V c main_arg0) ?_
  blk_ext [idx40 t]

theorem blk41 (c : Dev nD) (t : Fin cfg4.N) (r : Fin 4096) (j : Fin 1024) :
    iblk4 (F := Ideal) V c 1 t (ix2 r j : S4096x1024.Idx) = qMat V c r (at3 (third t.val t.isLt) j) := by
  blk_simp [iblk4]
  refine congrArg (V c main_arg1) ?_
  blk_ext [idx41 t, at3, third]

theorem arr4 (c : Dev nD) :
    (dat4 (F := Ideal) V c).arrAt 2 cfg4.N = fun i : S1024x3072.Idx => mul (tr (nMat V c)) (qMat V c) (i 0) (i 1) := by
  refine (dat4 V c).arrAt_eq_of_covers 2 _ (by decide +kernel) fun t _ y => ?_
  blk_simp
  rw [after4_2]
  obtain ⟨r, z, rfl⟩ : ∃ r z, y = (ix2 r z : S1024x1024.Idx) := ⟨y 0, y 1, eq_ix2 y⟩
  rw [tile4]
  have e0 : (win4_2.blk t).view.emb (ix2 r z) 0 = r := Fin.ext (by blk_simp [idx42 t])
  have e1 : (win4_2.blk t).view.emb (ix2 r z) 1 = at3 (third t.val t.isLt) z := Fin.ext (by blk_simp [idx42 t]; simp [at3, third, ix2])
  simp only [e0, e1, blk40, blk41]
  rfl

theorem blk50 (c : Dev nD) (t : Fin cfg5.N) (r : Fin 4096) (k : Fin 1024) :
    iblk5 (F := Ideal) V c 0 t (ix2 r k : S4096x1024.Idx) = nMat V c r k := by
  blk_simp [iblk5]
  refine congrArg (V c main_arg0) ?_
  blk_ext [idx50 t]

theorem blk51 (c : Dev nD) (t : Fin cfg5.N) (r : Fin 4096) (j : Fin 1024) :
    iblk5 (F := Ideal) V c 1 t (ix2 r j : S4096x1024.Idx) = zMat V c r j := by
  blk_simp [iblk5]
  refine congrArg (V c main_arg2) ?_
  blk_ext [idx51 t]

theorem arr5 (c : Dev nD) :
    (dat5 (F := Ideal) V c).arrAt 2 cfg5.N = fun i : S1024x1024.Idx => mul (tr (nMat V c)) (zMat V c) (i 0) (i 1) := by
  refine (dat5 V c).arrAt_eq_of_covers 2 _ (by decide +kernel) fun t _ y => ?_
  blk_simp
  rw [after5_2]
  obtain ⟨r, z, rfl⟩ : ∃ r z, y = (ix2 r z : S1024x1024.Idx) := ⟨y 0, y 1, eq_ix2 y⟩
  rw [tile5]
  have e0 : (win5_2.blk t).view.emb (ix2 r z) 0 = r := Fin.ext (by blk_simp [idx52 t])
  have e1 : (win5_2.blk t).view.emb (ix2 r z) 1 = z := Fin.ext (by blk_simp [idx52 t])
  simp only [e0, e1, blk50, blk51]
  rfl

end

variable (m : (ℓ : Loc nD τ sig) → Buf (Elt Ideal) ℓ) (ρ : Dev nD → PrngReg)

/-- The arguments, entry by entry: the input, the two incoming gradients and the weight. -/
def nArg (c : Dev nD) (r : Fin 4096) (k : Fin 1024) : EReal := m ((c : Thread nD τ).loc main_arg0) (ix2 r k)
def qArg (c : Dev nD) (r : Fin 4096) (j : Fin 3072) : EReal := m ((c : Thread nD τ).loc main_arg1) (ix2 r j)
def zArg (c : Dev nD) (r : Fin 4096) (j : Fin 1024) : EReal := m ((c : Thread nD τ).loc main_arg2) (ix2 r j)
def wArg (c : Dev nD) (k : Fin 1024) (j : Fin 4096) : EReal := m ((c : Thread nD τ).loc main_arg3) (ix3 0 k ⟨j.val, by omega⟩)

theorem wq_read (c : Dev nD) :
    V1 (F := Ideal) m ρ c main_v2 = extractStridedSlice S1024x3072 ![0, 0] (shapeCast S1024x4112
      (truncf .bf16 (m ((c : Thread nD τ).loc main_arg3) : FVec Ideal S1x1024x4112 .f32) bitsLt_bf16_f32 : FVec Ideal S1x1024x4112 .bf16)
        shapeCasts_S1x1024x4112_S1024x4112) slices_S1024x4112_S1024x3072_0_0 := by
  show StableHlo.after hostOps0 _ _ = _
  simp only [hostOps0]
  after_results <;> rfl

theorem wz_read (c : Dev nD) :
    V1 (F := Ideal) m ρ c main_v3 = extractStridedSlice S1024x1024 ![0, 3072] (shapeCast S1024x4112
      (truncf .bf16 (m ((c : Thread nD τ).loc main_arg3) : FVec Ideal S1x1024x4112 .f32) bitsLt_bf16_f32 : FVec Ideal S1x1024x4112 .bf16)
        shapeCasts_S1x1024x4112_S1024x4112) slices_S1024x4112_S1024x1024_0_3072 := by
  show StableHlo.after hostOps0 _ _ = _
  simp only [hostOps0]
  after_results <;> rfl

theorem wq_entry (c : Dev nD) : wqMat (V1 (F := Ideal) m ρ) c = fun k j => wArg m c k (lo j) := by
  funext k j
  rw [wqMat, wq_read]
  pointwise
  rfl

theorem wz_entry (c : Dev nD) : wzMat (V1 (F := Ideal) m ρ) c = fun k j => wArg m c k (hi j) := by
  funext k j
  rw [wzMat, wz_read]
  pointwise
  rfl

/-! ## What each call finds -/

theorem nMat1 (c : Dev nD) : nMat (V1 (F := Ideal) m ρ) c = nArg m c := by
  funext a b
  exact congrFun (W1_of (F := Ideal) m ρ c main_arg0 (by decide)) _

theorem nMat2 (c : Dev nD) : nMat (V2 (F := Ideal) m ρ) c = nArg m c := by
  funext a b
  exact congrFun ((W2_of (F := Ideal) m ρ c main_arg0 (by decide)).trans (W1_of (F := Ideal) m ρ c main_arg0 (by decide))) _

theorem wzMat2 (c : Dev nD) : wzMat (V2 (F := Ideal) m ρ) c = fun k j => wArg m c k (hi j) := by
  refine Eq.trans ?_ (wz_entry m ρ c)
  funext a b
  exact congrFun (W2_of (F := Ideal) m ρ c main_v3 (by decide)) _

theorem qMat3 (c : Dev nD) : qMat (V3 (F := Ideal) m ρ) c = qArg m c := by
  funext a b
  exact congrFun ((W3_of (F := Ideal) m ρ c main_arg1 (by decide)).trans ((W2_of (F := Ideal) m ρ c main_arg1 (by decide)).trans (W1_of (F := Ideal) m ρ c main_arg1 (by decide)))) _

theorem wqMat3 (c : Dev nD) : wqMat (V3 (F := Ideal) m ρ) c = fun k j => wArg m c k (lo j) := by
  refine Eq.trans ?_ (wq_entry m ρ c)
  funext a b
  exact congrFun ((W3_of (F := Ideal) m ρ c main_v2 (by decide)).trans (W2_of (F := Ideal) m ρ c main_v2 (by decide))) _

theorem zMat4 (c : Dev nD) : zMat (V4 (F := Ideal) m ρ) c = zArg m c := by
  funext a b
  exact congrFun ((W4_of (F := Ideal) m ρ c main_arg2 (by decide)).trans ((W3_of (F := Ideal) m ρ c main_arg2 (by decide)).trans ((W2_of (F := Ideal) m ρ c main_arg2 (by decide)).trans (W1_of (F := Ideal) m ρ c main_arg2 (by decide))))) _

theorem wzMat4 (c : Dev nD) : wzMat (V4 (F := Ideal) m ρ) c = fun k j => wArg m c k (hi j) := by
  refine Eq.trans ?_ (wz_entry m ρ c)
  funext a b
  exact congrFun ((W4_of (F := Ideal) m ρ c main_v3 (by decide)).trans ((W3_of (F := Ideal) m ρ c main_v3 (by decide)).trans (W2_of (F := Ideal) m ρ c main_v3 (by decide)))) _

theorem nMat5 (c : Dev nD) : nMat (V5 (F := Ideal) m ρ) c = nArg m c := by
  funext a b
  exact congrFun ((W5_of (F := Ideal) m ρ c main_arg0 (by decide)).trans ((W4_of (F := Ideal) m ρ c main_arg0 (by decide)).trans ((W3_of (F := Ideal) m ρ c main_arg0 (by decide)).trans ((W2_of (F := Ideal) m ρ c main_arg0 (by decide)).trans (W1_of (F := Ideal) m ρ c main_arg0 (by decide)))))) _

theorem qMat5 (c : Dev nD) : qMat (V5 (F := Ideal) m ρ) c = qArg m c := by
  funext a b
  exact congrFun ((W5_of (F := Ideal) m ρ c main_arg1 (by decide)).trans ((W4_of (F := Ideal) m ρ c main_arg1 (by decide)).trans ((W3_of (F := Ideal) m ρ c main_arg1 (by decide)).trans ((W2_of (F := Ideal) m ρ c main_arg1 (by decide)).trans (W1_of (F := Ideal) m ρ c main_arg1 (by decide)))))) _

theorem nMat6 (c : Dev nD) : nMat (V6 (F := Ideal) m ρ) c = nArg m c := by
  funext a b
  exact congrFun ((W6_of (F := Ideal) m ρ c main_arg0 (by decide)).trans ((W5_of (F := Ideal) m ρ c main_arg0 (by decide)).trans ((W4_of (F := Ideal) m ρ c main_arg0 (by decide)).trans ((W3_of (F := Ideal) m ρ c main_arg0 (by decide)).trans ((W2_of (F := Ideal) m ρ c main_arg0 (by decide)).trans (W1_of (F := Ideal) m ρ c main_arg0 (by decide))))))) _

theorem zMat6 (c : Dev nD) : zMat (V6 (F := Ideal) m ρ) c = zArg m c := by
  funext a b
  exact congrFun ((W6_of (F := Ideal) m ρ c main_arg2 (by decide)).trans ((W5_of (F := Ideal) m ρ c main_arg2 (by decide)).trans ((W4_of (F := Ideal) m ρ c main_arg2 (by decide)).trans ((W3_of (F := Ideal) m ρ c main_arg2 (by decide)).trans ((W2_of (F := Ideal) m ρ c main_arg2 (by decide)).trans (W1_of (F := Ideal) m ρ c main_arg2 (by decide))))))) _

/-! ## The results -/

theorem qkv_apply (c : Dev nD) (r : Fin 4096) (j : Fin 3072) :
    W8 (F := Ideal) m ρ c (Proc.devRef .tc main_v4) (ix2 r j : S4096x3072.Idx) = mul (nArg m c) (wArg m c) r (lo j) := by
  refine (congrFun ((W8_of (F := Ideal) m ρ c main_v4 (by decide)).trans ((W7_of (F := Ideal) m ρ c main_v4 (by decide)).trans ((W6_of (F := Ideal) m ρ c main_v4 (by decide)).trans ((W5_of (F := Ideal) m ρ c main_v4 (by decide)).trans ((W4_of (F := Ideal) m ρ c main_v4 (by decide)).trans ((W3_of (F := Ideal) m ρ c main_v4 (by decide)).trans ((W2_arr (F := Ideal) m ρ c 2).trans (arr0 (V1 m ρ) c)))))))) _).trans ?_
  rw [nMat1, wq_entry]
  rfl

theorem z_apply (c : Dev nD) (r : Fin 4096) (j : Fin 1024) :
    W8 (F := Ideal) m ρ c (Proc.devRef .tc main_v5) (ix2 r j : S4096x1024.Idx) = mul (nArg m c) (wArg m c) r (hi j) := by
  refine (congrFun ((W8_of (F := Ideal) m ρ c main_v5 (by decide)).trans ((W7_of (F := Ideal) m ρ c main_v5 (by decide)).trans ((W6_of (F := Ideal) m ρ c main_v5 (by decide)).trans ((W5_of (F := Ideal) m ρ c main_v5 (by decide)).trans ((W4_of (F := Ideal) m ρ c main_v5 (by decide)).trans ((W3_arr (F := Ideal) m ρ c 2).trans (arr1 (V2 m ρ) c))))))) _).trans ?_
  rw [nMat2, wzMat2]
  rfl

theorem dMat4 (c : Dev nD) : dMat (V4 (F := Ideal) m ρ) c = mul (qArg m c) (tr fun k j => wArg m c k (lo j)) := by
  funext r k
  refine (congrFun ((W4_arr (F := Ideal) m ρ c 2).trans (arr2 (V3 m ρ) c)) _).trans ?_
  rw [qMat3, wqMat3]
  rfl

theorem dn_apply (c : Dev nD) (r : Fin 4096) (j : Fin 1024) :
    W8 (F := Ideal) m ρ c (Proc.devRef .tc main_v7) (ix2 r j : S4096x1024.Idx) = mul (zArg m c) (tr fun k j => wArg m c k (hi j)) r j + mul (qArg m c) (tr fun k j => wArg m c k (lo j)) r j := by
  refine (congrFun ((W8_of (F := Ideal) m ρ c main_v7 (by decide)).trans ((W7_of (F := Ideal) m ρ c main_v7 (by decide)).trans ((W6_of (F := Ideal) m ρ c main_v7 (by decide)).trans ((W5_arr (F := Ideal) m ρ c 3).trans (arr3 (V4 m ρ) c))))) _).trans ?_
  rw [zMat4, wzMat4, dMat4]
  rfl

theorem dw_read (c : Dev nD) :
    W8 (F := Ideal) m ρ c (Proc.devRef .tc main_v10) = concatenate S1024x4096 1
      [⟨S1024x3072, (W7 (F := Ideal) m ρ c (Proc.devRef .tc main_v8) : FVec Ideal S1024x3072 .f32)⟩,
        ⟨S1024x1024, (W7 (F := Ideal) m ρ c (Proc.devRef .tc main_v9) : FVec Ideal S1024x1024 .f32)⟩]
      concatenates_S1024x3072_S1024x1024_S1024x4096_d1 := by
  show StableHlo.after hostOps6 _ _ = _
  simp only [hostOps6]
  after_results <;> rfl

theorem dw_lo (c : Dev nD) (k : Fin 1024) (j : Fin 3072) :
    W8 (F := Ideal) m ρ c (Proc.devRef .tc main_v10) (ix2 k (lo j) : S1024x4096.Idx) = mul (tr (nArg m c)) (qArg m c) k j := by
  have e : W7 (F := Ideal) m ρ c (Proc.devRef .tc main_v8) (ix2 k j : S1024x3072.Idx) = mul (tr (nArg m c)) (qArg m c) k j := by
    refine (congrFun ((W7_of (F := Ideal) m ρ c main_v8 (by decide)).trans ((W6_arr (F := Ideal) m ρ c 2).trans (arr4 (V5 m ρ) c))) _).trans ?_
    rw [nMat5, qMat5]
    rfl
  rw [dw_read, ← e]
  pointwise [lo]

theorem dw_hi (c : Dev nD) (k : Fin 1024) (j : Fin 1024) :
    W8 (F := Ideal) m ρ c (Proc.devRef .tc main_v10) (ix2 k (hi j) : S1024x4096.Idx) = mul (tr (nArg m c)) (zArg m c) k j := by
  have e : W7 (F := Ideal) m ρ c (Proc.devRef .tc main_v9) (ix2 k j : S1024x1024.Idx) = mul (tr (nArg m c)) (zArg m c) k j := by
    refine (congrFun ((W7_arr (F := Ideal) m ρ c 2).trans (arr5 (V6 m ρ) c)) _).trans ?_
    rw [nMat6, zMat6]
    rfl
  rw [dw_read, ← e]
  pointwise [hi]

end Cert.ProjIdeal.Arr
-- ==== Proof.ProjRefVal.lean ====
module

public import proofs.«01_k».proof.Proof.Gen.ProjRefIdeal.Run
public import proofs.«01_k».proof.Proof.ProdSpec
public import Idealize.ShloMosaic.Lib.Tactic
public import Idealize.ShloMosaic.Lib.Pointwise
public import Idealize.ShloMosaic.Lib.ValueIdx

@[expose] public section

set_option maxRecDepth 16384

noncomputable section

/-! The reference of the two projections and their gradients, entry by entry. -/

namespace Cert.ProjRefIdeal.Val

open Cert.ProjRefIdeal Cert.ProjRefIdeal.Gen Idealize.ShloMosaic Idealize.ShloMosaic.TcCoe Idealize.SL.Sem
open Cert.MlpVal Cert.ProdVal

variable (m : (ℓ : Loc nD τ sig) → Buf (Elt Ideal) ℓ)

/-- The arguments, entry by entry: the input, the two incoming gradients and the weight. -/
def nArg (c : Dev nD) (r : Fin 4096) (k : Fin 1024) : EReal := m ((c.tc : Thread nD τ).loc main_arg0) (ix2 r k)
def qArg (c : Dev nD) (r : Fin 4096) (j : Fin 3072) : EReal := m ((c.tc : Thread nD τ).loc main_arg1) (ix2 r j)
def zArg (c : Dev nD) (r : Fin 4096) (j : Fin 1024) : EReal := m ((c.tc : Thread nD τ).loc main_arg2) (ix2 r j)
def wArg (c : Dev nD) (k : Fin 1024) (j : Fin 4096) : EReal := m ((c.tc : Thread nD τ).loc main_arg3) (ix3 0 k ⟨j.val, by omega⟩)

/-- The three two-coordinate arguments in the wide format, and the weight's columns that are used. -/
def nWide (c : Dev nD) : FVec Ideal S4096x1024 .f32 := extf (F := Ideal) .f32 (m ((c.tc : Thread nD τ).loc main_arg0)) bitsLt_bf16_f32
def qWide (c : Dev nD) : FVec Ideal S4096x3072 .f32 := extf (F := Ideal) .f32 (m ((c.tc : Thread nD τ).loc main_arg1)) bitsLt_bf16_f32
def zWide (c : Dev nD) : FVec Ideal S4096x1024 .f32 := extf (F := Ideal) .f32 (m ((c.tc : Thread nD τ).loc main_arg2)) bitsLt_bf16_f32
def wFlat (c : Dev nD) : FVec Ideal S1024x4112 .f32 := shapeCast S1024x4112 (m ((c.tc : Thread nD τ).loc main_arg3) : FVec Ideal S1x1024x4112 .f32) shapeCasts_S1x1024x4112_S1024x4112
def wCols (c : Dev nD) : FVec Ideal S1024x4096 .f32 := extractStridedSlice S1024x4096 ![0, 0] (wFlat m c) slices_S1024x4112_S1024x4096_0_0

/-- The product, and the gradient it receives: zeros where one of the two parts has no columns. -/
def prod (c : Dev nD) : FVec Ideal S4096x4096 .f32 := Host.dotGeneral (F := Ideal) dot_S4096x1024_S1024x4096_S4096x4096_1_0_0_1_n_n none (nWide m c) (wCols m c)
def padZ (c : Dev nD) : FVec Ideal S4096x4096 .f32 :=
  pad S4096x4096 ![0, 3072] ![0, 0] ![0, 0] (zWide m c) (constant (F := Ideal) S_ .f32 0x00000000#32) pads_S4096x1024_S4096x4096_000_307200 h_S_
def padQ (c : Dev nD) : FVec Ideal S4096x4096 .f32 :=
  pad S4096x4096 ![0, 0] ![0, 1024] ![0, 0] (qWide m c) (constant (F := Ideal) S_ .f32 0x00000000#32) pads_S4096x3072_S4096x4096_000_010240 h_S_
def cot (c : Dev nD) : FVec Ideal S4096x4096 .f32 := addf (padZ m c) (padQ m c)

/-- The four results. -/
def qOut (c : Dev nD) : FVec Ideal S4096x3072 .f32 := extractStridedSlice S4096x3072 ![0, 0] (prod m c) slices_S4096x4096_S4096x3072_0_0
def zOut (c : Dev nD) : FVec Ideal S4096x1024 .f32 := extractStridedSlice S4096x1024 ![0, 3072] (prod m c) slices_S4096x4096_S4096x1024_0_3072
def dnOut (c : Dev nD) : FVec Ideal S4096x1024 .f32 := Host.dotGeneral (F := Ideal) dot_S4096x4096_S1024x4096_S4096x1024_1_1_0_0_n_n none (cot m c) (wCols m c)
def dwOut (c : Dev nD) : FVec Ideal S1024x4096 .f32 :=
  transpose S1024x4096 [1, 0] (Host.dotGeneral (F := Ideal) dot_S4096x4096_S4096x1024_S4096x1024_0_0_1_1_n_n none (cot m c) (nWide m c)) transposes_S4096x1024_S1024x4096_1_0

theorem flat_apply (x : FVec Ideal S1x1024x4112 .f32) (k : Fin 1024) (j : Fin 4112) :
    shapeCast S1024x4112 x shapeCasts_S1x1024x4112_S1024x4112 (ix2 k j) = x (ix3 0 k j) := by
  pointwise

theorem wFlat_apply (c : Dev nD) (k : Fin 1024) (j : Fin 4112) :
    wFlat m c (ix2 k j) = (m ((c.tc : Thread nD τ).loc main_arg3) : FVec Ideal S1x1024x4112 .f32) (ix3 0 k j) := flat_apply _ k j

theorem wCols_apply (c : Dev nD) (k : Fin 1024) (j : Fin 4096) : wCols m c (ix2 k j) = wArg m c k j := by
  refine Eq.trans ?_ (wFlat_apply m c k ⟨j.val, by omega⟩)
  refine extractStridedSlice_apply _ _ _ _ _ fun a => ?_
  fin_cases a <;> simp [ix2]

theorem prod_apply (c : Dev nD) (r j : Fin 4096) : prod m c (ix2 r j) = mul (nArg m c) (wArg m c) r j := by
  have e : (prod m c (ix2 r j) : EReal) = ∑ k : Fin 1024, nArg m c r k * wCols m c (ix2 k j) := by
    pointwise [prod, nWide]
    rfl
  rw [e]
  simp only [wCols_apply]
  rfl

theorem qOut_apply (c : Dev nD) (r : Fin 4096) (j : Fin 3072) : qOut m c (ix2 r j) = mul (nArg m c) (wArg m c) r (lo j) := by
  refine Eq.trans ?_ (prod_apply m c r (lo j))
  pointwise [qOut]
  rfl

theorem zOut_apply (c : Dev nD) (r : Fin 4096) (j : Fin 1024) : zOut m c (ix2 r j) = mul (nArg m c) (wArg m c) r (hi j) := by
  refine Eq.trans ?_ (prod_apply m c r (hi j))
  pointwise [zOut]
  rfl

/-- The received gradient's first columns and its last ones. -/
theorem cot_lo (c : Dev nD) (r : Fin 4096) (j : Fin 3072) : cot m c (ix2 r (lo j)) = qArg m c r j := by
  have e : (cot m c (ix2 r (lo j)) : EReal) = padZ m c (ix2 r (lo j)) + padQ m c (ix2 r (lo j)) := by pointwise [cot]
  have ez : (padZ m c (ix2 r (lo j)) : EReal) = 0 := by
    pointwise [padZ, lo]
    simp
  have eq : (padQ m c (ix2 r (lo j)) : EReal) = qArg m c r j := by
    pointwise [padQ, lo, qWide]
    simp [qArg]
  rw [e, ez, eq, zero_add]

theorem cot_hi (c : Dev nD) (r : Fin 4096) (j : Fin 1024) : cot m c (ix2 r (hi j)) = zArg m c r j := by
  have e : (cot m c (ix2 r (hi j)) : EReal) = padZ m c (ix2 r (hi j)) + padQ m c (ix2 r (hi j)) := by pointwise [cot]
  have eq : (padQ m c (ix2 r (hi j)) : EReal) = 0 := by
    pointwise [padQ, hi]
  have ez : (padZ m c (ix2 r (hi j)) : EReal) = zArg m c r j := by
    pointwise [padZ, hi, zWide]
    simp [zArg]
  rw [e, ez, eq, add_zero]

theorem dnOut_apply (c : Dev nD) (r : Fin 4096) (k : Fin 1024) :
    dnOut m c (ix2 r k) = mul (zArg m c) (tr fun k j => wArg m c k (hi j)) r k + mul (qArg m c) (tr fun k j => wArg m c k (lo j)) r k := by
  have e : (dnOut m c (ix2 r k) : EReal) = ∑ j : Fin 4096, cot m c (ix2 r j) * wCols m c (ix2 k j) := by pointwise [dnOut]
  rw [e, sum_lo_hi, add_comm]
  simp only [cot_lo, cot_hi, wCols_apply]
  rfl

theorem dwOut_lo (c : Dev nD) (k : Fin 1024) (j : Fin 3072) : dwOut m c (ix2 k (lo j)) = mul (tr (nArg m c)) (qArg m c) k j := by
  have e : (dwOut m c (ix2 k (lo j)) : EReal) = ∑ r : Fin 4096, cot m c (ix2 r (lo j)) * nArg m c r k := by
    pointwise [dwOut, nWide]
    rfl
  rw [e]
  simp only [cot_lo]
  exact mul_tr _ _ _ _

theorem dwOut_hi (c : Dev nD) (k : Fin 1024) (j : Fin 1024) : dwOut m c (ix2 k (hi j)) = mul (tr (nArg m c)) (zArg m c) k j := by
  have e : (dwOut m c (ix2 k (hi j)) : EReal) = ∑ r : Fin 4096, cot m c (ix2 r (hi j)) * nArg m c r k := by
    pointwise [dwOut, nWide]
    rfl
  rw [e]
  simp only [cot_hi]
  exact mul_tr _ _ _ _

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v4) = qOut m c
      ∧ r.2.mem ((c.tc : Thread nD τ).loc main_v5) = zOut m c
      ∧ r.2.mem ((c.tc : Thread nD τ).loc main_v13) = dnOut m c
      ∧ r.2.mem ((c.tc : Thread nD τ).loc main_v12) = dwOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.ProjRefIdeal.Val
-- ==== Proof.ProjClaim.lean ====
module

public import proofs.«01_k».proof.Defs
public import proofs.«01_k».proof.Proof.Gen.Proj
public import proofs.«01_k».proof.Proof.ProjArr
public import proofs.«01_k».proof.Proof.ProjRefVal
public import Idealize.ShloMosaic.Lib.Quiescent

@[expose] public section

set_option maxRecDepth 16384

noncomputable section

/-! The two projections of the gated delta rule's layer, the gradient of their input and that of their weight. -/

namespace Cert.ProjClaim

open Idealize.ShloMosaic Idealize.ShloMosaic.TcCoe Idealize.SL.Sem
open Cert.MlpVal Cert.ProdVal

/-- The reference's run leaves its arguments and its counters as they were. -/
theorem reference_frame : Cert.quiescent_ProjRefIdeal := by
  intro m g _
  refine (θ_run Cert.ProjRefIdeal.defs _ _).mono (fun r h => ⟨fun c => (h c).2.2.2.2, ?_⟩) (Cert.ProjRefIdeal.Val.run m g)
  exact sem_eq_zero_of_no_sems (by decide) r.2

/-- The calls' results are the reference's. -/
theorem algebraic : Cert.algebraic_ProjIdeal_ProjRefIdeal := by
  intro m g m' g' _ hm
  have hn (c) : Cert.ProjRefIdeal.Val.nArg m' c = Cert.ProjIdeal.Arr.nArg m c :=
    funext fun r => funext fun k => congrFun (hm c).1 (ix2 r k)
  have hq (c) : Cert.ProjRefIdeal.Val.qArg m' c = Cert.ProjIdeal.Arr.qArg m c :=
    funext fun r => funext fun j => congrFun (hm c).2.1 (ix2 r j)
  have hz (c) : Cert.ProjRefIdeal.Val.zArg m' c = Cert.ProjIdeal.Arr.zArg m c :=
    funext fun r => funext fun j => congrFun (hm c).2.2.1 (ix2 r j)
  have hw (c) : Cert.ProjRefIdeal.Val.wArg m' c = Cert.ProjIdeal.Arr.wArg m c :=
    funext fun k => funext fun j => congrFun (hm c).2.2.2 (ix3 0 k ⟨j.val, by omega⟩)
  refine ⟨_, _, _, _, Cert.ProjIdeal.Run.run_results m g, ?_⟩
  refine (θ_run Cert.ProjRefIdeal.defs _ _).mono (fun r h c => ?_) (Cert.ProjRefIdeal.Val.run m' g')
  obtain ⟨h0, h1, h2, h3, ha⟩ := h c
  refine ⟨h0.trans ?_, h1.trans ?_, h2.trans ?_, h3.trans ?_, ha⟩
  · funext i
    obtain ⟨a, b, rfl⟩ : ∃ a b, i = (ix2 a b : Cert.ProjIdeal.S4096x3072.Idx) := ⟨i 0, i 1, eq_ix2 i⟩
    refine (Cert.ProjRefIdeal.Val.qOut_apply m' c a b).trans ?_
    rw [hn, hw]
    exact (Cert.ProjIdeal.Arr.qkv_apply m g c a b).symm
  · funext i
    obtain ⟨a, b, rfl⟩ : ∃ a b, i = (ix2 a b : Cert.ProjIdeal.S4096x1024.Idx) := ⟨i 0, i 1, eq_ix2 i⟩
    refine (Cert.ProjRefIdeal.Val.zOut_apply m' c a b).trans ?_
    rw [hn, hw]
    exact (Cert.ProjIdeal.Arr.z_apply m g c a b).symm
  · funext i
    obtain ⟨a, b, rfl⟩ : ∃ a b, i = (ix2 a b : Cert.ProjIdeal.S4096x1024.Idx) := ⟨i 0, i 1, eq_ix2 i⟩
    refine (Cert.ProjRefIdeal.Val.dnOut_apply m' c a b).trans ?_
    rw [hz, hq, hw]
    exact (Cert.ProjIdeal.Arr.dn_apply m g c a b).symm
  · funext i
    obtain ⟨a, b, rfl⟩ : ∃ a b, i = (ix2 a b : Cert.ProjIdeal.S1024x4096.Idx) := ⟨i 0, i 1, eq_ix2 i⟩
    rcases cols b with ⟨j, rfl⟩ | ⟨j, rfl⟩
    · refine (Cert.ProjRefIdeal.Val.dwOut_lo m' c a j).trans ?_
      rw [hn, hq]
      exact (Cert.ProjIdeal.Arr.dw_lo m g c a j).symm
    · refine (Cert.ProjRefIdeal.Val.dwOut_hi m' c a j).trans ?_
      rw [hn, hz]
      exact (Cert.ProjIdeal.Arr.dw_hi m g c a j).symm

end Cert.ProjClaim
-- ==== Proof.Pw1Run.lean ====
module

public import proofs.«01_k».proof.Proof.Gen.Pw1Ideal.Frame

@[expose] public section

set_option maxRecDepth 16384

noncomputable section

namespace Cert.Pw1Ideal.Run

open Cert.Pw1Ideal Cert.Pw1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The two calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v3 (by decide)),
      h c _ (mem_uc main_v7 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩) (run m ρ)

end Cert.Pw1Ideal.Run
-- ==== Proof.Pw1Arr.lean ====
module

public import proofs.«01_k».proof.Proof.Pw1Run
public import proofs.«01_k».proof.Proof.ProdSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The pointwise convolution that widens the convolution's input, and its weight's gradient: what the calls leave, tile by tile,
and the program's results. -/

namespace Cert.Pw1Ideal.Arr

open Cert.Pw1Ideal Cert.Pw1Ideal.Gen Idealize.ShloMosaic Idealize.ShloMosaic.TcCoe Idealize.SL.Sem Idealize.ShloMosaic.StableHlo
open Idealize.ShloMosaic.Pipeline (Dat)
open Cert.MlpVal Cert.ProdVal

/-! ## What one tile's body leaves -/

theorem tile0 (x0 : Vec Ideal S1024x1024 .bf16) (x1 : Vec Ideal S1x1x1024x512 .bf16) (x2 : Vec Ideal S1x512 .f32) (r : Fin 1024) (c : Fin 512) :
    out0_3 (F := Ideal) x0 x1 x2 (ix2 r c) = (∑ k : Fin 1024, x0 (ix2 r k) * x1 (ix4 0 0 k c)) + x2 (ix2 0 c) := by
  frame_out
  pointwise [k0_pay1]

theorem tile1 (x0 : Vec Ideal S4096x1024 .bf16) (x1 : Vec Ideal S4096x512 .bf16) (r : Fin 1024) (c : Fin 512) :
    out1_2 (F := Ideal) x0 x1 (ix4 0 0 r c) = ∑ k : Fin 4096, x0 (ix2 k r) * x1 (ix2 k c) := by
  frame_out
  pointwise [k1_pay1]

/-! ## Where the blocks lie -/

theorem idx00 : ∀ t : Fin cfg0.N, win0_0.index t = ![t.val / 4, 0] := (by decide +kernel : ∀ t : Fin grid0.N, _)
theorem idx01 : ∀ t : Fin cfg0.N, win0_1.index t = ![t.val % 4, 0, 0, 0] := (by decide +kernel : ∀ t : Fin grid0.N, _)
theorem idx02 : ∀ t : Fin cfg0.N, win0_2.index t = ![0, t.val % 4] := (by decide +kernel : ∀ t : Fin grid0.N, _)
theorem idx03 : ∀ t : Fin cfg0.N, win0_3.index t = ![t.val / 4, t.val % 4] := (by decide +kernel : ∀ t : Fin grid0.N, _)
theorem idx10 : ∀ t : Fin cfg1.N, win1_0.index t = ![0, 0] := (by decide +kernel : ∀ t : Fin grid1.N, _)
theorem idx11 : ∀ t : Fin cfg1.N, win1_1.index t = ![0, t.val] := (by decide +kernel : ∀ t : Fin grid1.N, _)
theorem idx12 : ∀ t : Fin cfg1.N, win1_2.index t = ![t.val, 0, 0, 0] := (by decide +kernel : ∀ t : Fin grid1.N, _)

section
variable (V : (c : Dev nD) → (b : Ref sig .tc) → Buf (Elt Ideal) ((c : Thread nD τ).loc b))

/-- The arrays the calls read, entry by entry: the input, the incoming gradient, the weight (split over four shards, its columns
    numbered through) and the offset. -/
def nMat (c : Dev nD) (r : Fin 4096) (k : Fin 1024) : EReal := V c main_arg0 (ix2 r k)
def uMat (c : Dev nD) (r : Fin 4096) (j : Fin 2048) : EReal := V c main_arg1 (ix2 r j)
def wMat (c : Dev nD) (k : Fin 1024) (j : Fin 2048) : EReal := V c main_v2 (ix4 (tile512 j) 0 k (in512 j))
def bMat (c : Dev nD) (j : Fin 2048) : EReal := V c main_arg3 (ix2 0 j)

theorem blk00 (c : Dev nD) (t : Fin cfg0.N) (r k : Fin 1024) :
    iblk0 (F := Ideal) V c 0 t (ix2 r k : S1024x1024.Idx) = nMat V c (at4 (pRow t.val t.isLt) r) k := by
  blk_simp [iblk0]
  refine congrArg (V c main_arg0) ?_
  blk_ext [idx00 t, at4, pRow]

theorem blk01 (c : Dev nD) (t : Fin cfg0.N) (k : Fin 1024) (j : Fin 512) :
    iblk0 (F := Ideal) V c 1 t (ix4 0 0 k j : S1x1x1024x512.Idx) = wMat V c k (at512 (pCol t.val) j) := by
  rw [wMat, tile512_at, in512_at]
  blk_simp [iblk0]
  refine congrArg (V c main_v2) ?_
  blk_ext [idx01 t, pCol]

theorem blk02 (c : Dev nD) (t : Fin cfg0.N) (j : Fin 512) :
    iblk0 (F := Ideal) V c 2 t (ix2 0 j : S1x512.Idx) = bMat V c (at512 (pCol t.val) j) := by
  blk_simp [iblk0]
  refine congrArg (V c main_arg3) ?_
  blk_ext [idx02 t, at512, pCol]

theorem arr0 (c : Dev nD) :
    (dat0 (F := Ideal) V c).arrAt 3 cfg0.N = fun i : S4096x2048.Idx => mul (nMat V c) (wMat V c) (i 0) (i 1) + bMat V c (i 1) := by
  refine (dat0 V c).arrAt_eq_of_covers 3 _ (by decide +kernel) fun t _ y => ?_
  blk_simp
  rw [after0_3]
  obtain ⟨r, z, rfl⟩ : ∃ r z, y = (ix2 r z : S1024x512.Idx) := ⟨y 0, y 1, eq_ix2 y⟩
  rw [tile0]
  have e0 : (win0_3.blk t).view.emb (ix2 r z) 0 = at4 (pRow t.val t.isLt) r := Fin.ext (by blk_simp [idx03 t]; simp [at4, at512, pRow, pCol, ix2])
  have e1 : (win0_3.blk t).view.emb (ix2 r z) 1 = at512 (pCol t.val) z := Fin.ext (by blk_simp [idx03 t]; simp [at4, at512, pRow, pCol, ix2])
  simp only [e0, e1, blk00, blk01, blk02]
  rfl

theorem blk10 (c : Dev nD) (t : Fin cfg1.N) (r : Fin 4096) (k : Fin 1024) :
    iblk1 (F := Ideal) V c 0 t (ix2 r k : S4096x1024.Idx) = nMat V c r k := by
  blk_simp [iblk1]
  refine congrArg (V c main_arg0) ?_
  blk_ext [idx10 t]

theorem blk11 (c : Dev nD) (t : Fin cfg1.N) (r : Fin 4096) (j : Fin 512) :
    iblk1 (F := Ideal) V c 1 t (ix2 r j : S4096x512.Idx) = uMat V c r (at512 (shard t.val t.isLt) j) := by
  blk_simp [iblk1]
  refine congrArg (V c main_arg1) ?_
  blk_ext [idx11 t, at512, shard]

theorem arr1 (c : Dev nD) :
    (dat1 (F := Ideal) V c).arrAt 2 cfg1.N = fun i : S4x1x1024x512.Idx => mul (tr (nMat V c)) (uMat V c) (i 2) (at512 (i 0) (i 3)) := by
  refine (dat1 V c).arrAt_eq_of_covers 2 _ (by decide +kernel) fun t _ y => ?_
  blk_simp
  rw [after1_2]
  obtain ⟨a, b, rfl⟩ := one_one_idx y
  rw [tile1]
  have e0 : (win1_2.blk t).view.emb (ix4 0 0 a b) 0 = shard t.val t.isLt := Fin.ext (by blk_simp [idx12 t]; simp [shard, ix4])
  have e2 : (win1_2.blk t).view.emb (ix4 0 0 a b) 2 = a := Fin.ext (by blk_simp [idx12 t])
  have e3 : (win1_2.blk t).view.emb (ix4 0 0 a b) 3 = b := Fin.ext (by blk_simp [idx12 t])
  simp only [e0, e2, e3, blk10, blk11]
  rfl

end

variable (m : (ℓ : Loc nD τ sig) → Buf (Elt Ideal) ℓ) (ρ : Dev nD → PrngReg)

/-- The arguments, entry by entry: the input, the incoming gradient, the weight and the offset. -/
def nArg (c : Dev nD) (r : Fin 4096) (k : Fin 1024) : EReal := m ((c : Thread nD τ).loc main_arg0) (ix2 r k)
def uArg (c : Dev nD) (r : Fin 4096) (j : Fin 2048) : EReal := m ((c : Thread nD τ).loc main_arg1) (ix2 r j)
def wArg (c : Dev nD) (k : Fin 1024) (j : Fin 2048) : EReal := m ((c : Thread nD τ).loc main_arg2) (ix3 0 k j)
def bArg (c : Dev nD) (j : Fin 2048) : EReal := m ((c : Thread nD τ).loc main_arg3) (ix2 0 j)

theorem w_stack (c : Dev nD) :
    V1 (F := Ideal) m ρ c main_v2 = transpose S4x1x1024x512 [2, 0, 1, 3]
      (shapeCast S1x1024x4x512 (truncf .bf16 (m ((c : Thread nD τ).loc main_arg2) : FVec Ideal S1x1024x2048 .f32) bitsLt_bf16_f32 : FVec Ideal S1x1024x2048 .bf16)
        shapeCasts_S1x1024x2048_S1x1024x4x512) transposes_S1x1024x4x512_S4x1x1024x512_2_0_1_3 := by
  show StableHlo.after hostOps0 _ _ = _
  simp only [hostOps0]
  after_results <;> rfl

theorem w_entry (c : Dev nD) : wMat (V1 (F := Ideal) m ρ) c = wArg m c := by
  funext k j
  rw [wMat, w_stack]
  pointwise
  exact congrArg (fun x => m ((c : Thread nD τ).loc main_arg2) (ix3 0 k x)) (at512_tile j)

theorem n_entry (c : Dev nD) : nMat (V1 (F := Ideal) m ρ) c = nArg m c := by
  funext r k
  exact congrFun (W1_of (F := Ideal) m ρ c main_arg0 (by decide)) _

theorem b_entry (c : Dev nD) : bMat (V1 (F := Ideal) m ρ) c = bArg m c := by
  funext j
  exact congrFun (W1_of (F := Ideal) m ρ c main_arg3 (by decide)) _

theorem n_kept (c : Dev nD) : nMat (V2 (F := Ideal) m ρ) c = nArg m c := by
  funext r k
  exact congrFun ((W2_of (F := Ideal) m ρ c main_arg0 (by decide)).trans (W1_of m ρ c main_arg0 (by decide))) _

theorem u_kept (c : Dev nD) : uMat (V2 (F := Ideal) m ρ) c = uArg m c := by
  funext r j
  exact congrFun ((W2_of (F := Ideal) m ρ c main_arg1 (by decide)).trans (W1_of m ρ c main_arg1 (by decide))) _

/-! ## The results -/

theorem u_apply (c : Dev nD) (r : Fin 4096) (j : Fin 2048) :
    W4 (F := Ideal) m ρ c (Proc.devRef .tc main_v3) (ix2 r j : S4096x2048.Idx) = mul (nArg m c) (wArg m c) r j + bArg m c j := by
  refine (congrFun ((W4_of (F := Ideal) m ρ c main_v3 (by decide)).trans ((W3_of m ρ c main_v3 (by decide)).trans
    ((W2_arr m ρ c 3).trans (arr0 (V1 m ρ) c)))) _).trans ?_
  rw [n_entry, w_entry, b_entry]
  rfl

theorem dw_result (c : Dev nD) (p : Fin 4) (k : Fin 1024) (j : Fin 512) :
    W3 (F := Ideal) m ρ c (Proc.devRef .tc main_v4) (ix4 p 0 k j) = mul (tr (nArg m c)) (uArg m c) k (at512 p j) := by
  refine (congrFun ((W3_arr (F := Ideal) m ρ c 2).trans (arr1 (V2 m ρ) c)) _).trans ?_
  rw [n_kept, u_kept]
  rfl

theorem dw_read (c : Dev nD) :
    W4 (F := Ideal) m ρ c (Proc.devRef .tc main_v7) = shapeCast S1024x2048 (transpose S1x1024x4x512 [1, 2, 0, 3]
      (extf .f32 (W3 (F := Ideal) m ρ c (Proc.devRef .tc main_v4) : FVec Ideal S4x1x1024x512 .bf16) bitsLt_bf16_f32 : FVec Ideal S4x1x1024x512 .f32)
      transposes_S4x1x1024x512_S1x1024x4x512_1_2_0_3) shapeCasts_S1x1024x4x512_S1024x2048 := by
  show StableHlo.after hostOps2 _ _ = _
  simp only [hostOps2]
  after_results <;> rfl

theorem dw_apply (c : Dev nD) (k : Fin 1024) (j : Fin 2048) :
    W4 (F := Ideal) m ρ c (Proc.devRef .tc main_v7) (ix2 k j : S1024x2048.Idx) = mul (tr (nArg m c)) (uArg m c) k j := by
  have e := dw_result m ρ c (tile512 j) k (in512 j)
  rw [at512_tile] at e
  rw [dw_read, ← e]
  pointwise
  rfl

end Cert.Pw1Ideal.Arr
-- ==== Proof.Pw1RefVal.lean ====
module

public import proofs.«01_k».proof.Proof.Gen.Pw1RefIdeal.Run
public import proofs.«01_k».proof.Proof.ProdSpec
public import Idealize.ShloMosaic.Lib.Tactic
public import Idealize.ShloMosaic.Lib.Pointwise
public import Idealize.ShloMosaic.Lib.ValueIdx

@[expose] public section

set_option maxRecDepth 16384

noncomputable section

/-! The reference of the pointwise convolution and of its weight's gradient, entry by entry. -/

namespace Cert.Pw1RefIdeal.Val

open Cert.Pw1RefIdeal Cert.Pw1RefIdeal.Gen Idealize.ShloMosaic Idealize.ShloMosaic.TcCoe Idealize.SL.Sem
open Cert.MlpVal Cert.ProdVal

variable (m : (ℓ : Loc nD τ sig) → Buf (Elt Ideal) ℓ)

/-- The arguments, entry by entry: the input, the incoming gradient, the weight and the offset. -/
def nArg (c : Dev nD) (r : Fin 4096) (k : Fin 1024) : EReal := m ((c.tc : Thread nD τ).loc main_arg0) (ix2 r k)
def uArg (c : Dev nD) (r : Fin 4096) (j : Fin 2048) : EReal := m ((c.tc : Thread nD τ).loc main_arg1) (ix2 r j)
def wArg (c : Dev nD) (k : Fin 1024) (j : Fin 2048) : EReal := m ((c.tc : Thread nD τ).loc main_arg2) (ix3 0 k j)
def bArg (c : Dev nD) (j : Fin 2048) : EReal := m ((c.tc : Thread nD τ).loc main_arg3) (ix2 0 j)

/-- The input and the incoming gradient in the wide format, the weight, and the offset in every row. -/
def nWide (c : Dev nD) : FVec Ideal S4096x1024 .f32 := extf (F := Ideal) .f32 (m ((c.tc : Thread nD τ).loc main_arg0)) bitsLt_bf16_f32
def uWide (c : Dev nD) : FVec Ideal S4096x2048 .f32 := extf (F := Ideal) .f32 (m ((c.tc : Thread nD τ).loc main_arg1)) bitsLt_bf16_f32
def flat (x : FVec Ideal S1x1024x2048 .f32) : FVec Ideal S1024x2048 .f32 := shapeCast S1024x2048 x shapeCasts_S1x1024x2048_S1024x2048
def rows (x : FVec Ideal S1x2048 .f32) : FVec Ideal S4096x2048 .f32 :=
  broadcastInDim S4096x2048 ![0, 1] bcast_S1x2048_S4096x2048_0_1 (broadcastInDim S1x2048 ![1] bcast_S2048_S1x2048_1 (shapeCast S2048 x shapeCasts_S1x2048_S2048))

/-- The two results. -/
def uOut (c : Dev nD) : FVec Ideal S4096x2048 .f32 :=
  addf (Host.dotGeneral (F := Ideal) dot_S4096x1024_S1024x2048_S4096x2048_1_0_0_1_n_n none (nWide m c) (flat (m ((c.tc : Thread nD τ).loc main_arg2))))
    (rows (m ((c.tc : Thread nD τ).loc main_arg3)))
def dwOut (c : Dev nD) : FVec Ideal S1024x2048 .f32 :=
  transpose S1024x2048 [1, 0] (Host.dotGeneral (F := Ideal) dot_S4096x2048_S4096x1024_S2048x1024_0_0_1_1_n_n none (uWide m c) (nWide m c)) transposes_S2048x1024_S1024x2048_1_0

theorem flat_apply (x : FVec Ideal S1x1024x2048 .f32) (k : Fin 1024) (j : Fin 2048) : flat x (ix2 k j) = x (ix3 0 k j) := by
  pointwise [flat]

theorem rows_apply (x : FVec Ideal S1x2048 .f32) (r : Fin 4096) (j : Fin 2048) : rows x (ix2 r j) = x (ix2 0 j) := by
  pointwise [rows]

theorem uOut_apply (c : Dev nD) (r : Fin 4096) (j : Fin 2048) : uOut m c (ix2 r j) = mul (nArg m c) (wArg m c) r j + bArg m c j := by
  have e : (uOut m c (ix2 r j) : EReal) = (∑ k : Fin 1024, nArg m c r k * flat (m ((c.tc : Thread nD τ).loc main_arg2)) (ix2 k j))
      + rows (m ((c.tc : Thread nD τ).loc main_arg3)) (ix2 r j) := by
    pointwise [uOut, nWide]
    rfl
  rw [e, rows_apply]
  simp only [flat_apply]
  rfl

theorem dwOut_apply (c : Dev nD) (k : Fin 1024) (j : Fin 2048) : dwOut m c (ix2 k j) = mul (tr (nArg m c)) (uArg m c) k j := by
  have e : (dwOut m c (ix2 k j) : EReal) = ∑ r : Fin 4096, uArg m c r j * nArg m c r k := by
    pointwise [dwOut, nWide, uWide]
    rfl
  rw [e]
  exact mul_tr _ _ _ _

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v6) = uOut m c
      ∧ r.2.mem ((c.tc : Thread nD τ).loc main_v9) = dwOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.Pw1RefIdeal.Val
-- ==== Proof.Pw1Claim.lean ====
module

public import proofs.«01_k».proof.Defs
public import proofs.«01_k».proof.Proof.Gen.Pw1
public import proofs.«01_k».proof.Proof.Pw1Arr
public import proofs.«01_k».proof.Proof.Pw1RefVal
public import Idealize.ShloMosaic.Lib.Quiescent

@[expose] public section

set_option maxRecDepth 16384

noncomputable section

/-! The pointwise convolution that widens the convolution's input, and its weight's gradient. -/

namespace Cert.Pw1Claim

open Idealize.ShloMosaic Idealize.ShloMosaic.TcCoe Idealize.SL.Sem
open Cert.MlpVal Cert.ProdVal

/-- The reference's run leaves its arguments and its counters as they were. -/
theorem reference_frame : Cert.quiescent_Pw1RefIdeal := by
  intro m g _
  refine (θ_run Cert.Pw1RefIdeal.defs _ _).mono (fun r h => ⟨fun c => (h c).2.2, ?_⟩) (Cert.Pw1RefIdeal.Val.run m g)
  exact sem_eq_zero_of_no_sems (by decide) r.2

/-- The calls' results are the reference's. -/
theorem algebraic : Cert.algebraic_Pw1Ideal_Pw1RefIdeal := by
  intro m g m' g' _ hm
  have hn (c) : Cert.Pw1RefIdeal.Val.nArg m' c = Cert.Pw1Ideal.Arr.nArg m c :=
    funext fun r => funext fun k => congrFun (hm c).1 (ix2 r k)
  have hu (c) : Cert.Pw1RefIdeal.Val.uArg m' c = Cert.Pw1Ideal.Arr.uArg m c :=
    funext fun r => funext fun j => congrFun (hm c).2.1 (ix2 r j)
  have hw (c) : Cert.Pw1RefIdeal.Val.wArg m' c = Cert.Pw1Ideal.Arr.wArg m c :=
    funext fun k => funext fun j => congrFun (hm c).2.2.1 (ix3 0 k j)
  have hb (c) : Cert.Pw1RefIdeal.Val.bArg m' c = Cert.Pw1Ideal.Arr.bArg m c :=
    funext fun j => congrFun (hm c).2.2.2 (ix2 0 j)
  refine ⟨_, _, Cert.Pw1Ideal.Run.run_results m g, ?_⟩
  refine (θ_run Cert.Pw1RefIdeal.defs _ _).mono (fun r h c => ?_) (Cert.Pw1RefIdeal.Val.run m' g')
  obtain ⟨h0, h1, ha⟩ := h c
  refine ⟨h0.trans ?_, h1.trans ?_, ha⟩
  · funext i
    obtain ⟨a, b, rfl⟩ : ∃ a b, i = (ix2 a b : Cert.Pw1Ideal.S4096x2048.Idx) := ⟨i 0, i 1, eq_ix2 i⟩
    refine (Cert.Pw1RefIdeal.Val.uOut_apply m' c a b).trans ?_
    rw [hn, hw, hb]
    exact (Cert.Pw1Ideal.Arr.u_apply m g c a b).symm
  · funext i
    obtain ⟨a, b, rfl⟩ : ∃ a b, i = (ix2 a b : Cert.Pw1Ideal.S1024x2048.Idx) := ⟨i 0, i 1, eq_ix2 i⟩
    refine (Cert.Pw1RefIdeal.Val.dwOut_apply m' c a b).trans ?_
    rw [hn, hu]
    exact (Cert.Pw1Ideal.Arr.dw_apply m g c a b).symm

end Cert.Pw1Claim
-- ==== Proof.Xlin0Run.lean ====
module

public import proofs.«01_k».proof.Proof.Gen.Xlin0Ideal.Frame

@[expose] public section

set_option maxRecDepth 16384

noncomputable section

namespace Cert.Xlin0Ideal.Run

open Cert.Xlin0Ideal Cert.Xlin0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The four calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_v11) = W6 m ρ c (Proc.devRef .tc main_v11)
      ∧ r.2.mem ((c.tc : Thread nD τ).loc main_v13) = W6 m ρ c (Proc.devRef .tc main_v13)
      ∧ r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v10 (by decide)),
      h c _ (mem_uc main_v11 (by decide)),
      h c _ (mem_uc main_v13 (by decide)),
      h c _ (mem_uc main_v15 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run m ρ)

end Cert.Xlin0Ideal.Run
-- ==== Proof.Xlin0Arr.lean ====
module

public import proofs.«01_k».proof.Proof.Xlin0Run
public import proofs.«01_k».proof.Proof.ProdSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The attention's query projection and the gradients of its output projection and of both weights, first layer: what the calls
leave, tile by tile, and the program's results. -/

namespace Cert.Xlin0Ideal.Arr

open Cert.Xlin0Ideal Cert.Xlin0Ideal.Gen Idealize.ShloMosaic Idealize.ShloMosaic.TcCoe Idealize.SL.Sem Idealize.ShloMosaic.StableHlo
open Idealize.ShloMosaic.Pipeline (Dat)
open Cert.MlpVal Cert.ProdVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 0, 0, 0] := (by decide +kernel : ∀ t : Fin grid0.N, _)
theorem idx02 : ∀ t : Fin cfg0.N, win0_2.index t = ![t.val, 0] := (by decide +kernel : ∀ t : Fin grid0.N, _)
theorem idx10 : ∀ t : Fin cfg1.N, win1_0.index t = ![t.val, 0] := (by decide +kernel : ∀ t : Fin grid1.N, _)
theorem idx11 : ∀ t : Fin cfg1.N, win1_1.index t = ![0, 0, 0, 0] := (by decide +kernel : ∀ t : Fin grid1.N, _)
theorem idx12 : ∀ t : Fin cfg1.N, win1_2.index t = ![t.val, 0] := (by decide +kernel : ∀ t : Fin grid1.N, _)
theorem idx20 : ∀ t : Fin cfg2.N, win2_0.index t = ![0, 0] := (by decide +kernel : ∀ t : Fin grid2.N, _)
theorem idx21 : ∀ t : Fin cfg2.N, win2_1.index t = ![0, 0] := (by decide +kernel : ∀ t : Fin grid2.N, _)
theorem idx22 : ∀ t : Fin cfg2.N, win2_2.index t = ![0, 0, 0, 0] := (by decide +kernel : ∀ t : Fin grid2.N, _)
theorem idx30 : ∀ t : Fin cfg3.N, win3_0.index t = ![0, 0] := (by decide +kernel : ∀ t : Fin grid3.N, _)
theorem idx31 : ∀ t : Fin cfg3.N, win3_1.index t = ![0, 0] := (by decide +kernel : ∀ t : Fin grid3.N, _)
theorem idx32 : ∀ t : Fin cfg3.N, win3_2.index t = ![0, 0, 0, 0] := (by decide +kernel : ∀ t : Fin grid3.N, _)

section
variable (V : (c : Dev nD) → (b : Ref sig .tc) → Buf (Elt Ideal) ((c : Thread nD τ).loc b))

/-- The arrays the calls read, entry by entry: the input, the attention's output, the queries' gradient, the incoming gradient, and
    this layer's two weights, each split over four shards, its rows numbered through. -/
def nMat (c : Dev nD) (r : Fin 4096) (k : Fin 1024) : EReal := V c main_arg0 (ix2 r k)
def oMat (c : Dev nD) (r : Fin 4096) (k : Fin 1024) : EReal := V c main_arg1 (ix2 r k)
def qMat (c : Dev nD) (r : Fin 4096) (k : Fin 1024) : EReal := V c main_arg2 (ix2 r k)
def hMat (c : Dev nD) (r : Fin 4096) (k : Fin 1024) : EReal := V c main_arg3 (ix2 r k)
def wqMat (c : Dev nD) (k j : Fin 1024) : EReal := V c main_v2 (ix4 (tile256 k) 0 (in256 k) j)
def woMat (c : Dev nD) (k j : Fin 1024) : EReal := V c main_v5 (ix4 (tile256 k) 0 (in256 k) j)

/-! ## What one tile's body leaves -/

theorem tile0 (c : Dev nD) (t : Fin cfg0.N) (r z : Fin 1024) :
    outsAt0 (F := Ideal) V c t (ix2 r z) = mul (fun (r : Fin 1024) (k : Fin 1024) => iblk0 V c 0 t (ix2 r k)) (fun k z => iblk0 V c 1 t (ix4 (tile256 k) 0 (in256 k) z)) r z := by
  rw [outsAt0]
  frame_out
  pointwise [k0_pay3, k0_pay2, k0_pay1]
  rfl

theorem tile1 (c : Dev nD) (t : Fin cfg1.N) (r z : Fin 1024) :
    outsAt1 (F := Ideal) V c t (ix2 r z) = mul (fun (r : Fin 1024) (k : Fin 1024) => iblk1 V c 0 t (ix2 r k)) (fun k z => iblk1 V c 1 t (ix4 (tile256 z) 0 (in256 z) k)) r z := by
  rw [outsAt1]
  frame_out
  pointwise [k1_pay3, k1_pay2, k1_pay1]
  rfl

theorem tile2 (c : Dev nD) (t : Fin cfg2.N) (p : Fin 4) (a : Fin 256) (b : Fin 1024) :
    outsAt2 (F := Ideal) V c t (ix4 p 0 a b) = mul (fun (a : Fin 1024) (k : Fin 4096) => iblk2 V c 0 t (ix2 k a)) (fun k b => iblk2 V c 1 t (ix2 k b)) (at256 p a) b := by
  rw [outsAt2]
  frame_out
  pointwise [k2_pay3, k2_pay2, k2_pay1]
  rfl

theorem tile3 (c : Dev nD) (t : Fin cfg3.N) (p : Fin 4) (a : Fin 256) (b : Fin 1024) :
    outsAt3 (F := Ideal) V c t (ix4 p 0 a b) = mul (fun (a : Fin 1024) (k : Fin 4096) => iblk3 V c 0 t (ix2 k a)) (fun k b => iblk3 V c 1 t (ix2 k b)) (at256 p a) b := by
  rw [outsAt3]
  frame_out
  pointwise [k3_pay3, k3_pay2, k3_pay1]
  rfl

/-! ## The calls' blocks and arrays -/

theorem blk00 (c : Dev nD) (t : Fin cfg0.N) (r k : Fin 1024) :
    iblk0 (F := Ideal) V c 0 t (ix2 r k : S1024x1024.Idx) = nMat V c (at4 (shard t.val t.isLt) r) k := by
  blk_simp [iblk0]
  refine congrArg (V c main_arg0) ?_
  blk_ext [idx00 t, at4, shard]

theorem blk01 (c : Dev nD) (t : Fin cfg0.N) (k j : Fin 1024) :
    iblk0 (F := Ideal) V c 1 t (ix4 (tile256 k) 0 (in256 k) j : S4x1x256x1024.Idx) = wqMat V c k j := by
  blk_simp [iblk0]
  refine congrArg (V c main_v2) ?_
  blk_ext [idx01 t, tile256, in256]

theorem arr0 (c : Dev nD) :
    (dat0 (F := Ideal) V c).arrAt 2 cfg0.N = fun i : S4096x1024.Idx => mul (nMat V c) (wqMat V c) (i 0) (i 1) := by
  refine (dat0 V c).arrAt_eq_of_covers 2 _ (by decide +kernel) fun t _ y => ?_
  blk_simp
  rw [after0_2]
  obtain ⟨r, z, rfl⟩ : ∃ r z, y = (ix2 r z : S1024x1024.Idx) := ⟨y 0, y 1, eq_ix2 y⟩
  rw [tile0]
  have e0 : (win0_2.blk t).view.emb (ix2 r z) 0 = at4 (shard t.val t.isLt) r := Fin.ext (by blk_simp [idx02 t]; simp [at4, shard, ix2])
  have e1 : (win0_2.blk t).view.emb (ix2 r z) 1 = z := Fin.ext (by blk_simp [idx02 t])
  simp only [e0, e1, blk00, blk01]
  rfl

theorem blk10 (c : Dev nD) (t : Fin cfg1.N) (r k : Fin 1024) :
    iblk1 (F := Ideal) V c 0 t (ix2 r k : S1024x1024.Idx) = hMat V c (at4 (shard t.val t.isLt) r) k := by
  blk_simp [iblk1]
  refine congrArg (V c main_arg3) ?_
  blk_ext [idx10 t, at4, shard]

theorem blk11 (c : Dev nD) (t : Fin cfg1.N) (k j : Fin 1024) :
    iblk1 (F := Ideal) V c 1 t (ix4 (tile256 k) 0 (in256 k) j : S4x1x256x1024.Idx) = woMat V c k j := by
  blk_simp [iblk1]
  refine congrArg (V c main_v5) ?_
  blk_ext [idx11 t, tile256, in256]

theorem arr1 (c : Dev nD) :
    (dat1 (F := Ideal) V c).arrAt 2 cfg1.N = fun i : S4096x1024.Idx => mul (hMat V c) (tr (woMat V c)) (i 0) (i 1) := by
  refine (dat1 V c).arrAt_eq_of_covers 2 _ (by decide +kernel) fun t _ y => ?_
  blk_simp
  rw [after1_2]
  obtain ⟨r, z, rfl⟩ : ∃ r z, y = (ix2 r z : S1024x1024.Idx) := ⟨y 0, y 1, eq_ix2 y⟩
  rw [tile1]
  have e0 : (win1_2.blk t).view.emb (ix2 r z) 0 = at4 (shard t.val t.isLt) r := Fin.ext (by blk_simp [idx12 t]; simp [at4, shard, ix2])
  have e1 : (win1_2.blk t).view.emb (ix2 r z) 1 = z := Fin.ext (by blk_simp [idx12 t])
  simp only [e0, e1, blk10, blk11]
  rfl

theorem blk20 (c : Dev nD) (t : Fin cfg2.N) (r : Fin 4096) (k : Fin 1024) :
    iblk2 (F := Ideal) V c 0 t (ix2 r k : S4096x1024.Idx) = oMat V c r k := by
  blk_simp [iblk2]
  refine congrArg (V c main_arg1) ?_
  blk_ext [idx20 t]

theorem blk21 (c : Dev nD) (t : Fin cfg2.N) (r : Fin 4096) (k : Fin 1024) :
    iblk2 (F := Ideal) V c 1 t (ix2 r k : S4096x1024.Idx) = hMat V c r k := by
  blk_simp [iblk2]
  refine congrArg (V c main_arg3) ?_
  blk_ext [idx21 t]

theorem arr2 (c : Dev nD) :
    (dat2 (F := Ideal) V c).arrAt 2 cfg2.N = fun i : S4x1x256x1024.Idx => mul (tr (oMat V c)) (hMat V c) (at256 (i 0) (i 2)) (i 3) := by
  refine (dat2 V c).arrAt_eq_of_covers 2 _ (by decide +kernel) fun t _ y => ?_
  blk_simp
  rw [after2_2]
  obtain ⟨p, a, b, rfl⟩ := four_one_idx y
  rw [tile2]
  have e0 : (win2_2.blk t).view.emb (ix4 p 0 a b) 0 = p := Fin.ext (by blk_simp [idx22 t])
  have e2 : (win2_2.blk t).view.emb (ix4 p 0 a b) 2 = a := Fin.ext (by blk_simp [idx22 t])
  have e3 : (win2_2.blk t).view.emb (ix4 p 0 a b) 3 = b := Fin.ext (by blk_simp [idx22 t])
  simp only [e0, e2, e3, blk20, blk21]
  rfl

theorem blk30 (c : Dev nD) (t : Fin cfg3.N) (r : Fin 4096) (k : Fin 1024) :
    iblk3 (F := Ideal) V c 0 t (ix2 r k : S4096x1024.Idx) = nMat V c r k := by
  blk_simp [iblk3]
  refine congrArg (V c main_arg0) ?_
  blk_ext [idx30 t]

theorem blk31 (c : Dev nD) (t : Fin cfg3.N) (r : Fin 4096) (k : Fin 1024) :
    iblk3 (F := Ideal) V c 1 t (ix2 r k : S4096x1024.Idx) = qMat V c r k := by
  blk_simp [iblk3]
  refine congrArg (V c main_arg2) ?_
  blk_ext [idx31 t]

theorem arr3 (c : Dev nD) :
    (dat3 (F := Ideal) V c).arrAt 2 cfg3.N = fun i : S4x1x256x1024.Idx => mul (tr (nMat V c)) (qMat V c) (at256 (i 0) (i 2)) (i 3) := by
  refine (dat3 V c).arrAt_eq_of_covers 2 _ (by decide +kernel) fun t _ y => ?_
  blk_simp
  rw [after3_2]
  obtain ⟨p, a, b, rfl⟩ := four_one_idx y
  rw [tile3]
  have e0 : (win3_2.blk t).view.emb (ix4 p 0 a b) 0 = p := Fin.ext (by blk_simp [idx32 t])
  have e2 : (win3_2.blk t).view.emb (ix4 p 0 a b) 2 = a := Fin.ext (by blk_simp [idx32 t])
  have e3 : (win3_2.blk t).view.emb (ix4 p 0 a b) 3 = b := Fin.ext (by blk_simp [idx32 t])
  simp only [e0, e2, e3, blk30, blk31]
  rfl

end

variable (m : (ℓ : Loc nD τ sig) → Buf (Elt Ideal) ℓ) (ρ : Dev nD → PrngReg)

/-- The arguments, entry by entry: the input, the attention's output, the queries' gradient, the incoming gradient and this
    layer's two weights. -/
def nArg (c : Dev nD) (r : Fin 4096) (k : Fin 1024) : EReal := m ((c : Thread nD τ).loc main_arg0) (ix2 r k)
def oArg (c : Dev nD) (r : Fin 4096) (k : Fin 1024) : EReal := m ((c : Thread nD τ).loc main_arg1) (ix2 r k)
def qArg (c : Dev nD) (r : Fin 4096) (k : Fin 1024) : EReal := m ((c : Thread nD τ).loc main_arg2) (ix2 r k)
def hArg (c : Dev nD) (r : Fin 4096) (k : Fin 1024) : EReal := m ((c : Thread nD τ).loc main_arg3) (ix2 r k)
def wqArg (c : Dev nD) (k j : Fin 1024) : EReal := m ((c : Thread nD τ).loc main_arg4) (ix3 0 k j)
def woArg (c : Dev nD) (k j : Fin 1024) : EReal := m ((c : Thread nD τ).loc main_arg5) (ix3 0 k j)

theorem wq_stack (c : Dev nD) :
    V1 (F := Ideal) m ρ c main_v2 = transpose S4x2x256x1024 [1, 0, 2, 3]
      (shapeCast S2x4x256x1024 (truncf .bf16 (m ((c : Thread nD τ).loc main_arg4) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem wq_entry (c : Dev nD) : wqMat (V1 (F := Ideal) m ρ) c = wqArg m c := by
  funext k j
  rw [wqMat, wq_stack]
  pointwise
  exact congrArg (fun x => m ((c : Thread nD τ).loc main_arg4) (ix3 0 x j)) (at256_tile k)

theorem wo_stack (c : Dev nD) :
    V1 (F := Ideal) m ρ c main_v5 = transpose S4x2x256x1024 [1, 0, 2, 3]
      (shapeCast S2x4x256x1024 (truncf .bf16 (m ((c : Thread nD τ).loc main_arg5) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem wo_entry (c : Dev nD) : woMat (V1 (F := Ideal) m ρ) c = woArg m c := by
  funext k j
  rw [woMat, wo_stack]
  pointwise
  exact congrArg (fun x => m ((c : Thread nD τ).loc main_arg5) (ix3 0 x j)) (at256_tile k)

/-! ## What each call finds -/

theorem nMat1 (c : Dev nD) : nMat (V1 (F := Ideal) m ρ) c = nArg m c := by
  funext a b
  exact congrFun (W1_of (F := Ideal) m ρ c main_arg0 (by decide)) _

theorem hMat2 (c : Dev nD) : hMat (V2 (F := Ideal) m ρ) c = hArg m c := by
  funext a b
  exact congrFun ((W2_of (F := Ideal) m ρ c main_arg3 (by decide)).trans (W1_of (F := Ideal) m ρ c main_arg3 (by decide))) _

theorem woMat2 (c : Dev nD) : woMat (V2 (F := Ideal) m ρ) c = woArg m c := by
  refine Eq.trans ?_ (wo_entry m ρ c)
  funext a b
  exact congrFun (W2_of (F := Ideal) m ρ c main_v5 (by decide)) _

theorem oMat3 (c : Dev nD) : oMat (V3 (F := Ideal) m ρ) c = oArg m c := by
  funext a b
  exact congrFun ((W3_of (F := Ideal) m ρ c main_arg1 (by decide)).trans ((W2_of (F := Ideal) m ρ c main_arg1 (by decide)).trans (W1_of (F := Ideal) m ρ c main_arg1 (by decide)))) _

theorem hMat3 (c : Dev nD) : hMat (V3 (F := Ideal) m ρ) c = hArg m c := by
  funext a b
  exact congrFun ((W3_of (F := Ideal) m ρ c main_arg3 (by decide)).trans ((W2_of (F := Ideal) m ρ c main_arg3 (by decide)).trans (W1_of (F := Ideal) m ρ c main_arg3 (by decide)))) _

theorem nMat4 (c : Dev nD) : nMat (V4 (F := Ideal) m ρ) c = nArg m c := by
  funext a b
  exact congrFun ((W4_of (F := Ideal) m ρ c main_arg0 (by decide)).trans ((W3_of (F := Ideal) m ρ c main_arg0 (by decide)).trans ((W2_of (F := Ideal) m ρ c main_arg0 (by decide)).trans (W1_of (F := Ideal) m ρ c main_arg0 (by decide))))) _

theorem qMat4 (c : Dev nD) : qMat (V4 (F := Ideal) m ρ) c = qArg m c := by
  funext a b
  exact congrFun ((W4_of (F := Ideal) m ρ c main_arg2 (by decide)).trans ((W3_of (F := Ideal) m ρ c main_arg2 (by decide)).trans ((W2_of (F := Ideal) m ρ c main_arg2 (by decide)).trans (W1_of (F := Ideal) m ρ c main_arg2 (by decide))))) _

/-! ## The results -/

theorem q_read (c : Dev nD) :
    W6 (F := Ideal) m ρ c (Proc.devRef .tc main_v10) = (extf .f32 (W5 (F := Ideal) m ρ c (Proc.devRef .tc main_v6) : FVec Ideal S4096x1024 .bf16) bitsLt_bf16_f32 : FVec Ideal S4096x1024 .f32) := by
  show StableHlo.after hostOps4 _ _ = _
  simp only [hostOps4]
  after_results <;> rfl

theorem q_apply (c : Dev nD) (r : Fin 4096) (j : Fin 1024) :
    W6 (F := Ideal) m ρ c (Proc.devRef .tc main_v10) (ix2 r j : S4096x1024.Idx) = mul (nArg m c) (wqArg m c) r j := by
  rw [q_read]
  refine Eq.trans ?_ ((congrFun ((W5_of (F := Ideal) m ρ c main_v6 (by decide)).trans ((W4_of (F := Ideal) m ρ c main_v6 (by decide)).trans ((W3_of (F := Ideal) m ρ c main_v6 (by decide)).trans ((W2_arr (F := Ideal) m ρ c 2).trans (arr0 (V1 m ρ) c))))) (ix2 r j)).trans ?_)
  · pointwise
  · rw [nMat1, wq_entry]
    rfl

theorem do_read (c : Dev nD) :
    W6 (F := Ideal) m ρ c (Proc.devRef .tc main_v11) = (extf .f32 (W5 (F := Ideal) m ρ c (Proc.devRef .tc main_v7) : FVec Ideal S4096x1024 .bf16) bitsLt_bf16_f32 : FVec Ideal S4096x1024 .f32) := by
  show StableHlo.after hostOps4 _ _ = _
  simp only [hostOps4]
  after_results <;> rfl

theorem do_apply (c : Dev nD) (r : Fin 4096) (j : Fin 1024) :
    W6 (F := Ideal) m ρ c (Proc.devRef .tc main_v11) (ix2 r j : S4096x1024.Idx) = mul (hArg m c) (tr (woArg m c)) r j := by
  rw [do_read]
  refine Eq.trans ?_ ((congrFun ((W5_of (F := Ideal) m ρ c main_v7 (by decide)).trans ((W4_of (F := Ideal) m ρ c main_v7 (by decide)).trans ((W3_arr (F := Ideal) m ρ c 2).trans (arr1 (V2 m ρ) c)))) (ix2 r j)).trans ?_)
  · pointwise
  · rw [hMat2, woMat2]
    rfl

theorem dwo_read (c : Dev nD) :
    W6 (F := Ideal) m ρ c (Proc.devRef .tc main_v13) = shapeCast S1024x1024
      (extf .f32 (W5 (F := Ideal) m ρ c (Proc.devRef .tc main_v8) : FVec Ideal S4x1x256x1024 .bf16) bitsLt_bf16_f32 : FVec Ideal S4x1x256x1024 .f32)
      shapeCasts_S4x1x256x1024_S1024x1024 := by
  show StableHlo.after hostOps4 _ _ = _
  simp only [hostOps4]
  after_results <;> rfl

theorem dwo_result (c : Dev nD) (p : Fin 4) (a : Fin 256) (b : Fin 1024) :
    W5 (F := Ideal) m ρ c (Proc.devRef .tc main_v8) (ix4 p 0 a b) = mul (tr (oArg m c)) (hArg m c) (at256 p a) b := by
  refine (congrFun ((W5_of (F := Ideal) m ρ c main_v8 (by decide)).trans ((W4_arr (F := Ideal) m ρ c 2).trans (arr2 (V3 m ρ) c))) _).trans ?_
  rw [oMat3, hMat3]
  rfl

theorem dwo_apply (c : Dev nD) (k j : Fin 1024) :
    W6 (F := Ideal) m ρ c (Proc.devRef .tc main_v13) (ix2 k j : S1024x1024.Idx) = mul (tr (oArg m c)) (hArg m c) k j := by
  have e := dwo_result m ρ c (tile256 k) (in256 k) j
  rw [at256_tile] at e
  rw [dwo_read, ← e]
  pointwise
  rfl

theorem dwq_read (c : Dev nD) :
    W6 (F := Ideal) m ρ c (Proc.devRef .tc main_v15) = shapeCast S1024x1024
      (extf .f32 (W5 (F := Ideal) m ρ c (Proc.devRef .tc main_v9) : FVec Ideal S4x1x256x1024 .bf16) bitsLt_bf16_f32 : FVec Ideal S4x1x256x1024 .f32)
      shapeCasts_S4x1x256x1024_S1024x1024 := by
  show StableHlo.after hostOps4 _ _ = _
  simp only [hostOps4]
  after_results <;> rfl

theorem dwq_result (c : Dev nD) (p : Fin 4) (a : Fin 256) (b : Fin 1024) :
    W5 (F := Ideal) m ρ c (Proc.devRef .tc main_v9) (ix4 p 0 a b) = mul (tr (nArg m c)) (qArg m c) (at256 p a) b := by
  refine (congrFun ((W5_arr (F := Ideal) m ρ c 2).trans (arr3 (V4 m ρ) c)) _).trans ?_
  rw [nMat4, qMat4]
  rfl

theorem dwq_apply (c : Dev nD) (k j : Fin 1024) :
    W6 (F := Ideal) m ρ c (Proc.devRef .tc main_v15) (ix2 k j : S1024x1024.Idx) = mul (tr (nArg m c)) (qArg m c) k j := by
  have e := dwq_result m ρ c (tile256 k) (in256 k) j
  rw [at256_tile] at e
  rw [dwq_read, ← e]
  pointwise
  rfl

end Cert.Xlin0Ideal.Arr
-- ==== Proof.XlinRef0Val.lean ====
module

public import proofs.«01_k».proof.Proof.Gen.XlinRef0Ideal.Run
public import proofs.«01_k».proof.Proof.ProdSpec
public import Idealize.ShloMosaic.Lib.Tactic
public import Idealize.ShloMosaic.Lib.Pointwise
public import Idealize.ShloMosaic.Lib.ValueIdx

@[expose] public section

set_option maxRecDepth 16384

noncomputable section

/-! The reference of the query projection and of the output projection's gradients, first layer, entry by entry. -/

namespace Cert.XlinRef0Ideal.Val

open Cert.XlinRef0Ideal Cert.XlinRef0Ideal.Gen Idealize.ShloMosaic Idealize.ShloMosaic.TcCoe Idealize.SL.Sem
open Cert.MlpVal Cert.ProdVal

variable (m : (ℓ : Loc nD τ sig) → Buf (Elt Ideal) ℓ)

/-- The arguments, entry by entry: the input, the attention's output, the queries' gradient, the incoming gradient and this
    layer's two weights. -/
def nArg (c : Dev nD) (r : Fin 4096) (k : Fin 1024) : EReal := m ((c.tc : Thread nD τ).loc main_arg0) (ix2 r k)
def oArg (c : Dev nD) (r : Fin 4096) (k : Fin 1024) : EReal := m ((c.tc : Thread nD τ).loc main_arg1) (ix2 r k)
def qArg (c : Dev nD) (r : Fin 4096) (k : Fin 1024) : EReal := m ((c.tc : Thread nD τ).loc main_arg2) (ix2 r k)
def hArg (c : Dev nD) (r : Fin 4096) (k : Fin 1024) : EReal := m ((c.tc : Thread nD τ).loc main_arg3) (ix2 r k)
def wqArg (c : Dev nD) (k j : Fin 1024) : EReal := m ((c.tc : Thread nD τ).loc main_arg4) (ix3 0 k j)
def woArg (c : Dev nD) (k j : Fin 1024) : EReal := m ((c.tc : Thread nD τ).loc main_arg5) (ix3 0 k j)

/-- An array of the narrow format in the wide one, and this layer's part of a weight. -/
def wide (x : FVec Ideal S4096x1024 .bf16) : FVec Ideal S4096x1024 .f32 := extf (F := Ideal) .f32 x bitsLt_bf16_f32
def layer (x : FVec Ideal S2x1024x1024 .f32) : FVec Ideal S1024x1024 .f32 :=
  shapeCast S1024x1024 (extractStridedSlice S1x1024x1024 ![0, 0, 0] x slices_S2x1024x1024_S1x1024x1024_0_0_0) shapeCasts_S1x1024x1024_S1024x1024

/-- The four results. -/
def qOut (c : Dev nD) : FVec Ideal S4096x1024 .f32 :=
  Host.dotGeneral (F := Ideal) dot_S4096x1024_S1024x1024_S4096x1024_1_0_0_1_n_n none (wide (m ((c.tc : Thread nD τ).loc main_arg0))) (layer (m ((c.tc : Thread nD τ).loc main_arg4)))
def doOut (c : Dev nD) : FVec Ideal S4096x1024 .f32 :=
  Host.dotGeneral (F := Ideal) dot_S4096x1024_S1024x1024_S4096x1024_1_1_0_0_n_n none (wide (m ((c.tc : Thread nD τ).loc main_arg3))) (layer (m ((c.tc : Thread nD τ).loc main_arg5)))
def dwoOut (c : Dev nD) : FVec Ideal S1024x1024 .f32 :=
  transpose S1024x1024 [1, 0] (Host.dotGeneral (F := Ideal) dot_S4096x1024_S4096x1024_S1024x1024_0_0_1_1_n_n none
    (wide (m ((c.tc : Thread nD τ).loc main_arg3))) (wide (m ((c.tc : Thread nD τ).loc main_arg1)))) transposes_S1024x1024_S1024x1024_1_0
def dwqOut (c : Dev nD) : FVec Ideal S1024x1024 .f32 :=
  transpose S1024x1024 [1, 0] (Host.dotGeneral (F := Ideal) dot_S4096x1024_S4096x1024_S1024x1024_0_0_1_1_n_n none
    (wide (m ((c.tc : Thread nD τ).loc main_arg2))) (wide (m ((c.tc : Thread nD τ).loc main_arg0)))) transposes_S1024x1024_S1024x1024_1_0

theorem layer_apply (x : FVec Ideal S2x1024x1024 .f32) (k j : Fin 1024) : layer x (ix2 k j) = x (ix3 0 k j) := by
  pointwise [layer]

theorem wide_apply (x : FVec Ideal S4096x1024 .bf16) (r : Fin 4096) (k : Fin 1024) : (wide x (ix2 r k) : EReal) = x (ix2 r k) := by
  pointwise [wide]

theorem qOut_apply (c : Dev nD) (r : Fin 4096) (j : Fin 1024) : qOut m c (ix2 r j) = mul (nArg m c) (wqArg m c) r j := by
  have e : (qOut m c (ix2 r j) : EReal) = ∑ k : Fin 1024, wide (m ((c.tc : Thread nD τ).loc main_arg0)) (ix2 r k)
      * layer (m ((c.tc : Thread nD τ).loc main_arg4)) (ix2 k j) := by pointwise [qOut]
  rw [e]
  simp only [layer_apply, wide_apply]
  rfl

theorem doOut_apply (c : Dev nD) (r : Fin 4096) (j : Fin 1024) : doOut m c (ix2 r j) = mul (hArg m c) (tr (woArg m c)) r j := by
  have e : (doOut m c (ix2 r j) : EReal) = ∑ k : Fin 1024, wide (m ((c.tc : Thread nD τ).loc main_arg3)) (ix2 r k)
      * layer (m ((c.tc : Thread nD τ).loc main_arg5)) (ix2 j k) := by pointwise [doOut]
  rw [e]
  simp only [layer_apply, wide_apply]
  rfl

theorem dwoOut_apply (c : Dev nD) (k j : Fin 1024) : dwoOut m c (ix2 k j) = mul (tr (oArg m c)) (hArg m c) k j := by
  have e : (dwoOut m c (ix2 k j) : EReal) = ∑ r : Fin 4096, wide (m ((c.tc : Thread nD τ).loc main_arg3)) (ix2 r j)
      * wide (m ((c.tc : Thread nD τ).loc main_arg1)) (ix2 r k) := by pointwise [dwoOut]
  rw [e]
  simp only [wide_apply]
  exact mul_tr (oArg m c) (hArg m c) k j

theorem dwqOut_apply (c : Dev nD) (k j : Fin 1024) : dwqOut m c (ix2 k j) = mul (tr (nArg m c)) (qArg m c) k j := by
  have e : (dwqOut m c (ix2 k j) : EReal) = ∑ r : Fin 4096, wide (m ((c.tc : Thread nD τ).loc main_arg2)) (ix2 r j)
      * wide (m ((c.tc : Thread nD τ).loc main_arg0)) (ix2 r k) := by pointwise [dwqOut]
  rw [e]
  simp only [wide_apply]
  exact mul_tr (nArg m c) (qArg m c) k j

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v3) = qOut m c
      ∧ r.2.mem ((c.tc : Thread nD τ).loc main_v11) = doOut m c
      ∧ r.2.mem ((c.tc : Thread nD τ).loc main_v10) = dwoOut m c
      ∧ r.2.mem ((c.tc : Thread nD τ).loc main_v14) = dwqOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.XlinRef0Ideal.Val
-- ==== Proof.Xlin0Claim.lean ====
module

public import proofs.«01_k».proof.Defs
public import proofs.«01_k».proof.Proof.Gen.Xlin0
public import proofs.«01_k».proof.Proof.Xlin0Arr
public import proofs.«01_k».proof.Proof.XlinRef0Val
public import Idealize.ShloMosaic.Lib.Quiescent

@[expose] public section

set_option maxRecDepth 16384

noncomputable section

/-! The attention's query projection and the gradients of its output projection and of both weights, first layer. -/

namespace Cert.Xlin0Claim

open Idealize.ShloMosaic Idealize.ShloMosaic.TcCoe Idealize.SL.Sem
open Cert.MlpVal Cert.ProdVal

/-- The reference's run leaves its arguments and its counters as they were. -/
theorem reference_frame : Cert.quiescent_XlinRef0Ideal := by
  intro m g _
  refine (θ_run Cert.XlinRef0Ideal.defs _ _).mono (fun r h => ⟨fun c => (h c).2.2.2.2, ?_⟩) (Cert.XlinRef0Ideal.Val.run m g)
  exact sem_eq_zero_of_no_sems (by decide) r.2

/-- The calls' results are the reference's. -/
theorem algebraic : Cert.algebraic_Xlin0Ideal_XlinRef0Ideal := by
  intro m g m' g' _ hm
  have hn (c) : Cert.XlinRef0Ideal.Val.nArg m' c = Cert.Xlin0Ideal.Arr.nArg m c :=
    funext fun r => funext fun k => congrFun (hm c).1 (ix2 r k)
  have ho (c) : Cert.XlinRef0Ideal.Val.oArg m' c = Cert.Xlin0Ideal.Arr.oArg m c :=
    funext fun r => funext fun k => congrFun (hm c).2.1 (ix2 r k)
  have hq (c) : Cert.XlinRef0Ideal.Val.qArg m' c = Cert.Xlin0Ideal.Arr.qArg m c :=
    funext fun r => funext fun k => congrFun (hm c).2.2.1 (ix2 r k)
  have hh (c) : Cert.XlinRef0Ideal.Val.hArg m' c = Cert.Xlin0Ideal.Arr.hArg m c :=
    funext fun r => funext fun k => congrFun (hm c).2.2.2.1 (ix2 r k)
  have hwq (c) : Cert.XlinRef0Ideal.Val.wqArg m' c = Cert.Xlin0Ideal.Arr.wqArg m c :=
    funext fun k => funext fun j => congrFun (hm c).2.2.2.2.1 (ix3 0 k j)
  have hwo (c) : Cert.XlinRef0Ideal.Val.woArg m' c = Cert.Xlin0Ideal.Arr.woArg m c :=
    funext fun k => funext fun j => congrFun (hm c).2.2.2.2.2 (ix3 0 k j)
  refine ⟨_, _, _, _, Cert.Xlin0Ideal.Run.run_results m g, ?_⟩
  refine (θ_run Cert.XlinRef0Ideal.defs _ _).mono (fun r h c => ?_) (Cert.XlinRef0Ideal.Val.run m' g')
  obtain ⟨h0, h1, h2, h3, ha⟩ := h c
  refine ⟨h0.trans ?_, h1.trans ?_, h2.trans ?_, h3.trans ?_, ha⟩
  · funext i
    obtain ⟨a, b, rfl⟩ : ∃ a b, i = (ix2 a b : Cert.Xlin0Ideal.S4096x1024.Idx) := ⟨i 0, i 1, eq_ix2 i⟩
    refine (Cert.XlinRef0Ideal.Val.qOut_apply m' c a b).trans ?_
    rw [hn, hwq]
    exact (Cert.Xlin0Ideal.Arr.q_apply m g c a b).symm
  · funext i
    obtain ⟨a, b, rfl⟩ : ∃ a b, i = (ix2 a b : Cert.Xlin0Ideal.S4096x1024.Idx) := ⟨i 0, i 1, eq_ix2 i⟩
    refine (Cert.XlinRef0Ideal.Val.doOut_apply m' c a b).trans ?_
    rw [hh, hwo]
    exact (Cert.Xlin0Ideal.Arr.do_apply m g c a b).symm
  · funext i
    obtain ⟨a, b, rfl⟩ : ∃ a b, i = (ix2 a b : Cert.Xlin0Ideal.S1024x1024.Idx) := ⟨i 0, i 1, eq_ix2 i⟩
    refine (Cert.XlinRef0Ideal.Val.dwoOut_apply m' c a b).trans ?_
    rw [ho, hh]
    exact (Cert.Xlin0Ideal.Arr.dwo_apply m g c a b).symm
  · funext i
    obtain ⟨a, b, rfl⟩ : ∃ a b, i = (ix2 a b : Cert.Xlin0Ideal.S1024x1024.Idx) := ⟨i 0, i 1, eq_ix2 i⟩
    refine (Cert.XlinRef0Ideal.Val.dwqOut_apply m' c a b).trans ?_
    rw [hn, hq]
    exact (Cert.Xlin0Ideal.Arr.dwq_apply m g c a b).symm

end Cert.Xlin0Claim
-- ==== Proof.Xlin1Run.lean ====
module

public import proofs.«01_k».proof.Proof.Gen.Xlin1Ideal.Frame

@[expose] public section

set_option maxRecDepth 16384

noncomputable section

namespace Cert.Xlin1Ideal.Run

open Cert.Xlin1Ideal Cert.Xlin1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The four calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_v11) = W6 m ρ c (Proc.devRef .tc main_v11)
      ∧ r.2.mem ((c.tc : Thread nD τ).loc main_v13) = W6 m ρ c (Proc.devRef .tc main_v13)
      ∧ r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v10 (by decide)),
      h c _ (mem_uc main_v11 (by decide)),
      h c _ (mem_uc main_v13 (by decide)),
      h c _ (mem_uc main_v15 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run m ρ)

end Cert.Xlin1Ideal.Run
-- ==== Proof.Xlin1Arr.lean ====
module

public import proofs.«01_k».proof.Proof.Xlin1Run
public import proofs.«01_k».proof.Proof.ProdSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The attention's query projection and the gradients of its output projection and of both weights, second layer: what the calls
leave, tile by tile, and the program's results. -/

namespace Cert.Xlin1Ideal.Arr

open Cert.Xlin1Ideal Cert.Xlin1Ideal.Gen Idealize.ShloMosaic Idealize.ShloMosaic.TcCoe Idealize.SL.Sem Idealize.ShloMosaic.StableHlo
open Idealize.ShloMosaic.Pipeline (Dat)
open Cert.MlpVal Cert.ProdVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 1, 0, 0] := (by decide +kernel : ∀ t : Fin grid0.N, _)
theorem idx02 : ∀ t : Fin cfg0.N, win0_2.index t = ![t.val, 0] := (by decide +kernel : ∀ t : Fin grid0.N, _)
theorem idx10 : ∀ t : Fin cfg1.N, win1_0.index t = ![t.val, 0] := (by decide +kernel : ∀ t : Fin grid1.N, _)
theorem idx11 : ∀ t : Fin cfg1.N, win1_1.index t = ![0, 1, 0, 0] := (by decide +kernel : ∀ t : Fin grid1.N, _)
theorem idx12 : ∀ t : Fin cfg1.N, win1_2.index t = ![t.val, 0] := (by decide +kernel : ∀ t : Fin grid1.N, _)
theorem idx20 : ∀ t : Fin cfg2.N, win2_0.index t = ![0, 0] := (by decide +kernel : ∀ t : Fin grid2.N, _)
theorem idx21 : ∀ t : Fin cfg2.N, win2_1.index t = ![0, 0] := (by decide +kernel : ∀ t : Fin grid2.N, _)
theorem idx22 : ∀ t : Fin cfg2.N, win2_2.index t = ![0, 0, 0, 0] := (by decide +kernel : ∀ t : Fin grid2.N, _)
theorem idx30 : ∀ t : Fin cfg3.N, win3_0.index t = ![0, 0] := (by decide +kernel : ∀ t : Fin grid3.N, _)
theorem idx31 : ∀ t : Fin cfg3.N, win3_1.index t = ![0, 0] := (by decide +kernel : ∀ t : Fin grid3.N, _)
theorem idx32 : ∀ t : Fin cfg3.N, win3_2.index t = ![0, 0, 0, 0] := (by decide +kernel : ∀ t : Fin grid3.N, _)

section
variable (V : (c : Dev nD) → (b : Ref sig .tc) → Buf (Elt Ideal) ((c : Thread nD τ).loc b))

/-- The arrays the calls read, entry by entry: the input, the attention's output, the queries' gradient, the incoming gradient, and
    this layer's two weights, each split over four shards, its rows numbered through. -/
def nMat (c : Dev nD) (r : Fin 4096) (k : Fin 1024) : EReal := V c main_arg0 (ix2 r k)
def oMat (c : Dev nD) (r : Fin 4096) (k : Fin 1024) : EReal := V c main_arg1 (ix2 r k)
def qMat (c : Dev nD) (r : Fin 4096) (k : Fin 1024) : EReal := V c main_arg2 (ix2 r k)
def hMat (c : Dev nD) (r : Fin 4096) (k : Fin 1024) : EReal := V c main_arg3 (ix2 r k)
def wqMat (c : Dev nD) (k j : Fin 1024) : EReal := V c main_v2 (ix4 (tile256 k) 1 (in256 k) j)
def woMat (c : Dev nD) (k j : Fin 1024) : EReal := V c main_v5 (ix4 (tile256 k) 1 (in256 k) j)

/-! ## What one tile's body leaves -/

theorem tile0 (c : Dev nD) (t : Fin cfg0.N) (r z : Fin 1024) :
    outsAt0 (F := Ideal) V c t (ix2 r z) = mul (fun (r : Fin 1024) (k : Fin 1024) => iblk0 V c 0 t (ix2 r k)) (fun k z => iblk0 V c 1 t (ix4 (tile256 k) 0 (in256 k) z)) r z := by
  rw [outsAt0]
  frame_out
  pointwise [k0_pay3, k0_pay2, k0_pay1]
  rfl

theorem tile1 (c : Dev nD) (t : Fin cfg1.N) (r z : Fin 1024) :
    outsAt1 (F := Ideal) V c t (ix2 r z) = mul (fun (r : Fin 1024) (k : Fin 1024) => iblk1 V c 0 t (ix2 r k)) (fun k z => iblk1 V c 1 t (ix4 (tile256 z) 0 (in256 z) k)) r z := by
  rw [outsAt1]
  frame_out
  pointwise [k1_pay3, k1_pay2, k1_pay1]
  rfl

theorem tile2 (c : Dev nD) (t : Fin cfg2.N) (p : Fin 4) (a : Fin 256) (b : Fin 1024) :
    outsAt2 (F := Ideal) V c t (ix4 p 0 a b) = mul (fun (a : Fin 1024) (k : Fin 4096) => iblk2 V c 0 t (ix2 k a)) (fun k b => iblk2 V c 1 t (ix2 k b)) (at256 p a) b := by
  rw [outsAt2]
  frame_out
  pointwise [k2_pay3, k2_pay2, k2_pay1]
  rfl

theorem tile3 (c : Dev nD) (t : Fin cfg3.N) (p : Fin 4) (a : Fin 256) (b : Fin 1024) :
    outsAt3 (F := Ideal) V c t (ix4 p 0 a b) = mul (fun (a : Fin 1024) (k : Fin 4096) => iblk3 V c 0 t (ix2 k a)) (fun k b => iblk3 V c 1 t (ix2 k b)) (at256 p a) b := by
  rw [outsAt3]
  frame_out
  pointwise [k3_pay3, k3_pay2, k3_pay1]
  rfl

/-! ## The calls' blocks and arrays -/

theorem blk00 (c : Dev nD) (t : Fin cfg0.N) (r k : Fin 1024) :
    iblk0 (F := Ideal) V c 0 t (ix2 r k : S1024x1024.Idx) = nMat V c (at4 (shard t.val t.isLt) r) k := by
  blk_simp [iblk0]
  refine congrArg (V c main_arg0) ?_
  blk_ext [idx00 t, at4, shard]

theorem blk01 (c : Dev nD) (t : Fin cfg0.N) (k j : Fin 1024) :
    iblk0 (F := Ideal) V c 1 t (ix4 (tile256 k) 0 (in256 k) j : S4x1x256x1024.Idx) = wqMat V c k j := by
  blk_simp [iblk0]
  refine congrArg (V c main_v2) ?_
  blk_ext [idx01 t, tile256, in256]

theorem arr0 (c : Dev nD) :
    (dat0 (F := Ideal) V c).arrAt 2 cfg0.N = fun i : S4096x1024.Idx => mul (nMat V c) (wqMat V c) (i 0) (i 1) := by
  refine (dat0 V c).arrAt_eq_of_covers 2 _ (by decide +kernel) fun t _ y => ?_
  blk_simp
  rw [after0_2]
  obtain ⟨r, z, rfl⟩ : ∃ r z, y = (ix2 r z : S1024x1024.Idx) := ⟨y 0, y 1, eq_ix2 y⟩
  rw [tile0]
  have e0 : (win0_2.blk t).view.emb (ix2 r z) 0 = at4 (shard t.val t.isLt) r := Fin.ext (by blk_simp [idx02 t]; simp [at4, shard, ix2])
  have e1 : (win0_2.blk t).view.emb (ix2 r z) 1 = z := Fin.ext (by blk_simp [idx02 t])
  simp only [e0, e1, blk00, blk01]
  rfl

theorem blk10 (c : Dev nD) (t : Fin cfg1.N) (r k : Fin 1024) :
    iblk1 (F := Ideal) V c 0 t (ix2 r k : S1024x1024.Idx) = hMat V c (at4 (shard t.val t.isLt) r) k := by
  blk_simp [iblk1]
  refine congrArg (V c main_arg3) ?_
  blk_ext [idx10 t, at4, shard]

theorem blk11 (c : Dev nD) (t : Fin cfg1.N) (k j : Fin 1024) :
    iblk1 (F := Ideal) V c 1 t (ix4 (tile256 k) 0 (in256 k) j : S4x1x256x1024.Idx) = woMat V c k j := by
  blk_simp [iblk1]
  refine congrArg (V c main_v5) ?_
  blk_ext [idx11 t, tile256, in256]

theorem arr1 (c : Dev nD) :
    (dat1 (F := Ideal) V c).arrAt 2 cfg1.N = fun i : S4096x1024.Idx => mul (hMat V c) (tr (woMat V c)) (i 0) (i 1) := by
  refine (dat1 V c).arrAt_eq_of_covers 2 _ (by decide +kernel) fun t _ y => ?_
  blk_simp
  rw [after1_2]
  obtain ⟨r, z, rfl⟩ : ∃ r z, y = (ix2 r z : S1024x1024.Idx) := ⟨y 0, y 1, eq_ix2 y⟩
  rw [tile1]
  have e0 : (win1_2.blk t).view.emb (ix2 r z) 0 = at4 (shard t.val t.isLt) r := Fin.ext (by blk_simp [idx12 t]; simp [at4, shard, ix2])
  have e1 : (win1_2.blk t).view.emb (ix2 r z) 1 = z := Fin.ext (by blk_simp [idx12 t])
  simp only [e0, e1, blk10, blk11]
  rfl

theorem blk20 (c : Dev nD) (t : Fin cfg2.N) (r : Fin 4096) (k : Fin 1024) :
    iblk2 (F := Ideal) V c 0 t (ix2 r k : S4096x1024.Idx) = oMat V c r k := by
  blk_simp [iblk2]
  refine congrArg (V c main_arg1) ?_
  blk_ext [idx20 t]

theorem blk21 (c : Dev nD) (t : Fin cfg2.N) (r : Fin 4096) (k : Fin 1024) :
    iblk2 (F := Ideal) V c 1 t (ix2 r k : S4096x1024.Idx) = hMat V c r k := by
  blk_simp [iblk2]
  refine congrArg (V c main_arg3) ?_
  blk_ext [idx21 t]

theorem arr2 (c : Dev nD) :
    (dat2 (F := Ideal) V c).arrAt 2 cfg2.N = fun i : S4x1x256x1024.Idx => mul (tr (oMat V c)) (hMat V c) (at256 (i 0) (i 2)) (i 3) := by
  refine (dat2 V c).arrAt_eq_of_covers 2 _ (by decide +kernel) fun t _ y => ?_
  blk_simp
  rw [after2_2]
  obtain ⟨p, a, b, rfl⟩ := four_one_idx y
  rw [tile2]
  have e0 : (win2_2.blk t).view.emb (ix4 p 0 a b) 0 = p := Fin.ext (by blk_simp [idx22 t])
  have e2 : (win2_2.blk t).view.emb (ix4 p 0 a b) 2 = a := Fin.ext (by blk_simp [idx22 t])
  have e3 : (win2_2.blk t).view.emb (ix4 p 0 a b) 3 = b := Fin.ext (by blk_simp [idx22 t])
  simp only [e0, e2, e3, blk20, blk21]
  rfl

theorem blk30 (c : Dev nD) (t : Fin cfg3.N) (r : Fin 4096) (k : Fin 1024) :
    iblk3 (F := Ideal) V c 0 t (ix2 r k : S4096x1024.Idx) = nMat V c r k := by
  blk_simp [iblk3]
  refine congrArg (V c main_arg0) ?_
  blk_ext [idx30 t]

theorem blk31 (c : Dev nD) (t : Fin cfg3.N) (r : Fin 4096) (k : Fin 1024) :
    iblk3 (F := Ideal) V c 1 t (ix2 r k : S4096x1024.Idx) = qMat V c r k := by
  blk_simp [iblk3]
  refine congrArg (V c main_arg2) ?_
  blk_ext [idx31 t]

theorem arr3 (c : Dev nD) :
    (dat3 (F := Ideal) V c).arrAt 2 cfg3.N = fun i : S4x1x256x1024.Idx => mul (tr (nMat V c)) (qMat V c) (at256 (i 0) (i 2)) (i 3) := by
  refine (dat3 V c).arrAt_eq_of_covers 2 _ (by decide +kernel) fun t _ y => ?_
  blk_simp
  rw [after3_2]
  obtain ⟨p, a, b, rfl⟩ := four_one_idx y
  rw [tile3]
  have e0 : (win3_2.blk t).view.emb (ix4 p 0 a b) 0 = p := Fin.ext (by blk_simp [idx32 t])
  have e2 : (win3_2.blk t).view.emb (ix4 p 0 a b) 2 = a := Fin.ext (by blk_simp [idx32 t])
  have e3 : (win3_2.blk t).view.emb (ix4 p 0 a b) 3 = b := Fin.ext (by blk_simp [idx32 t])
  simp only [e0, e2, e3, blk30, blk31]
  rfl

end

variable (m : (ℓ : Loc nD τ sig) → Buf (Elt Ideal) ℓ) (ρ : Dev nD → PrngReg)

/-- The arguments, entry by entry: the input, the attention's output, the queries' gradient, the incoming gradient and this
    layer's two weights. -/
def nArg (c : Dev nD) (r : Fin 4096) (k : Fin 1024) : EReal := m ((c : Thread nD τ).loc main_arg0) (ix2 r k)
def oArg (c : Dev nD) (r : Fin 4096) (k : Fin 1024) : EReal := m ((c : Thread nD τ).loc main_arg1) (ix2 r k)
def qArg (c : Dev nD) (r : Fin 4096) (k : Fin 1024) : EReal := m ((c : Thread nD τ).loc main_arg2) (ix2 r k)
def hArg (c : Dev nD) (r : Fin 4096) (k : Fin 1024) : EReal := m ((c : Thread nD τ).loc main_arg3) (ix2 r k)
def wqArg (c : Dev nD) (k j : Fin 1024) : EReal := m ((c : Thread nD τ).loc main_arg4) (ix3 1 k j)
def woArg (c : Dev nD) (k j : Fin 1024) : EReal := m ((c : Thread nD τ).loc main_arg5) (ix3 1 k j)

theorem wq_stack (c : Dev nD) :
    V1 (F := Ideal) m ρ c main_v2 = transpose S4x2x256x1024 [1, 0, 2, 3]
      (shapeCast S2x4x256x1024 (truncf .bf16 (m ((c : Thread nD τ).loc main_arg4) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem wq_entry (c : Dev nD) : wqMat (V1 (F := Ideal) m ρ) c = wqArg m c := by
  funext k j
  rw [wqMat, wq_stack]
  pointwise
  exact congrArg (fun x => m ((c : Thread nD τ).loc main_arg4) (ix3 1 x j)) (at256_tile k)

theorem wo_stack (c : Dev nD) :
    V1 (F := Ideal) m ρ c main_v5 = transpose S4x2x256x1024 [1, 0, 2, 3]
      (shapeCast S2x4x256x1024 (truncf .bf16 (m ((c : Thread nD τ).loc main_arg5) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem wo_entry (c : Dev nD) : woMat (V1 (F := Ideal) m ρ) c = woArg m c := by
  funext k j
  rw [woMat, wo_stack]
  pointwise
  exact congrArg (fun x => m ((c : Thread nD τ).loc main_arg5) (ix3 1 x j)) (at256_tile k)

/-! ## What each call finds -/

theorem nMat1 (c : Dev nD) : nMat (V1 (F := Ideal) m ρ) c = nArg m c := by
  funext a b
  exact congrFun (W1_of (F := Ideal) m ρ c main_arg0 (by decide)) _

theorem hMat2 (c : Dev nD) : hMat (V2 (F := Ideal) m ρ) c = hArg m c := by
  funext a b
  exact congrFun ((W2_of (F := Ideal) m ρ c main_arg3 (by decide)).trans (W1_of (F := Ideal) m ρ c main_arg3 (by decide))) _

theorem woMat2 (c : Dev nD) : woMat (V2 (F := Ideal) m ρ) c = woArg m c := by
  refine Eq.trans ?_ (wo_entry m ρ c)
  funext a b
  exact congrFun (W2_of (F := Ideal) m ρ c main_v5 (by decide)) _

theorem oMat3 (c : Dev nD) : oMat (V3 (F := Ideal) m ρ) c = oArg m c := by
  funext a b
  exact congrFun ((W3_of (F := Ideal) m ρ c main_arg1 (by decide)).trans ((W2_of (F := Ideal) m ρ c main_arg1 (by decide)).trans (W1_of (F := Ideal) m ρ c main_arg1 (by decide)))) _

theorem hMat3 (c : Dev nD) : hMat (V3 (F := Ideal) m ρ) c = hArg m c := by
  funext a b
  exact congrFun ((W3_of (F := Ideal) m ρ c main_arg3 (by decide)).trans ((W2_of (F := Ideal) m ρ c main_arg3 (by decide)).trans (W1_of (F := Ideal) m ρ c main_arg3 (by decide)))) _

theorem nMat4 (c : Dev nD) : nMat (V4 (F := Ideal) m ρ) c = nArg m c := by
  funext a b
  exact congrFun ((W4_of (F := Ideal) m ρ c main_arg0 (by decide)).trans ((W3_of (F := Ideal) m ρ c main_arg0 (by decide)).trans ((W2_of (F := Ideal) m ρ c main_arg0 (by decide)).trans (W1_of (F := Ideal) m ρ c main_arg0 (by decide))))) _

theorem qMat4 (c : Dev nD) : qMat (V4 (F := Ideal) m ρ) c = qArg m c := by
  funext a b
  exact congrFun ((W4_of (F := Ideal) m ρ c main_arg2 (by decide)).trans ((W3_of (F := Ideal) m ρ c main_arg2 (by decide)).trans ((W2_of (F := Ideal) m ρ c main_arg2 (by decide)).trans (W1_of (F := Ideal) m ρ c main_arg2 (by decide))))) _

/-! ## The results -/

theorem q_read (c : Dev nD) :
    W6 (F := Ideal) m ρ c (Proc.devRef .tc main_v10) = (extf .f32 (W5 (F := Ideal) m ρ c (Proc.devRef .tc main_v6) : FVec Ideal S4096x1024 .bf16) bitsLt_bf16_f32 : FVec Ideal S4096x1024 .f32) := by
  show StableHlo.after hostOps4 _ _ = _
  simp only [hostOps4]
  after_results <;> rfl

theorem q_apply (c : Dev nD) (r : Fin 4096) (j : Fin 1024) :
    W6 (F := Ideal) m ρ c (Proc.devRef .tc main_v10) (ix2 r j : S4096x1024.Idx) = mul (nArg m c) (wqArg m c) r j := by
  rw [q_read]
  refine Eq.trans ?_ ((congrFun ((W5_of (F := Ideal) m ρ c main_v6 (by decide)).trans ((W4_of (F := Ideal) m ρ c main_v6 (by decide)).trans ((W3_of (F := Ideal) m ρ c main_v6 (by decide)).trans ((W2_arr (F := Ideal) m ρ c 2).trans (arr0 (V1 m ρ) c))))) (ix2 r j)).trans ?_)
  · pointwise
  · rw [nMat1, wq_entry]
    rfl

theorem do_read (c : Dev nD) :
    W6 (F := Ideal) m ρ c (Proc.devRef .tc main_v11) = (extf .f32 (W5 (F := Ideal) m ρ c (Proc.devRef .tc main_v7) : FVec Ideal S4096x1024 .bf16) bitsLt_bf16_f32 : FVec Ideal S4096x1024 .f32) := by
  show StableHlo.after hostOps4 _ _ = _
  simp only [hostOps4]
  after_results <;> rfl

theorem do_apply (c : Dev nD) (r : Fin 4096) (j : Fin 1024) :
    W6 (F := Ideal) m ρ c (Proc.devRef .tc main_v11) (ix2 r j : S4096x1024.Idx) = mul (hArg m c) (tr (woArg m c)) r j := by
  rw [do_read]
  refine Eq.trans ?_ ((congrFun ((W5_of (F := Ideal) m ρ c main_v7 (by decide)).trans ((W4_of (F := Ideal) m ρ c main_v7 (by decide)).trans ((W3_arr (F := Ideal) m ρ c 2).trans (arr1 (V2 m ρ) c)))) (ix2 r j)).trans ?_)
  · pointwise
  · rw [hMat2, woMat2]
    rfl

theorem dwo_read (c : Dev nD) :
    W6 (F := Ideal) m ρ c (Proc.devRef .tc main_v13) = shapeCast S1024x1024
      (extf .f32 (W5 (F := Ideal) m ρ c (Proc.devRef .tc main_v8) : FVec Ideal S4x1x256x1024 .bf16) bitsLt_bf16_f32 : FVec Ideal S4x1x256x1024 .f32)
      shapeCasts_S4x1x256x1024_S1024x1024 := by
  show StableHlo.after hostOps4 _ _ = _
  simp only [hostOps4]
  after_results <;> rfl

theorem dwo_result (c : Dev nD) (p : Fin 4) (a : Fin 256) (b : Fin 1024) :
    W5 (F := Ideal) m ρ c (Proc.devRef .tc main_v8) (ix4 p 0 a b) = mul (tr (oArg m c)) (hArg m c) (at256 p a) b := by
  refine (congrFun ((W5_of (F := Ideal) m ρ c main_v8 (by decide)).trans ((W4_arr (F := Ideal) m ρ c 2).trans (arr2 (V3 m ρ) c))) _).trans ?_
  rw [oMat3, hMat3]
  rfl

theorem dwo_apply (c : Dev nD) (k j : Fin 1024) :
    W6 (F := Ideal) m ρ c (Proc.devRef .tc main_v13) (ix2 k j : S1024x1024.Idx) = mul (tr (oArg m c)) (hArg m c) k j := by
  have e := dwo_result m ρ c (tile256 k) (in256 k) j
  rw [at256_tile] at e
  rw [dwo_read, ← e]
  pointwise
  rfl

theorem dwq_read (c : Dev nD) :
    W6 (F := Ideal) m ρ c (Proc.devRef .tc main_v15) = shapeCast S1024x1024
      (extf .f32 (W5 (F := Ideal) m ρ c (Proc.devRef .tc main_v9) : FVec Ideal S4x1x256x1024 .bf16) bitsLt_bf16_f32 : FVec Ideal S4x1x256x1024 .f32)
      shapeCasts_S4x1x256x1024_S1024x1024 := by
  show StableHlo.after hostOps4 _ _ = _
  simp only [hostOps4]
  after_results <;> rfl

theorem dwq_result (c : Dev nD) (p : Fin 4) (a : Fin 256) (b : Fin 1024) :
    W5 (F := Ideal) m ρ c (Proc.devRef .tc main_v9) (ix4 p 0 a b) = mul (tr (nArg m c)) (qArg m c) (at256 p a) b := by
  refine (congrFun ((W5_arr (F := Ideal) m ρ c 2).trans (arr3 (V4 m ρ) c)) _).trans ?_
  rw [nMat4, qMat4]
  rfl

theorem dwq_apply (c : Dev nD) (k j : Fin 1024) :
    W6 (F := Ideal) m ρ c (Proc.devRef .tc main_v15) (ix2 k j : S1024x1024.Idx) = mul (tr (nArg m c)) (qArg m c) k j := by
  have e := dwq_result m ρ c (tile256 k) (in256 k) j
  rw [at256_tile] at e
  rw [dwq_read, ← e]
  pointwise
  rfl

end Cert.Xlin1Ideal.Arr
-- ==== Proof.XlinRef1Val.lean ====
module

public import proofs.«01_k».proof.Proof.Gen.XlinRef1Ideal.Run
public import proofs.«01_k».proof.Proof.ProdSpec
public import Idealize.ShloMosaic.Lib.Tactic
public import Idealize.ShloMosaic.Lib.Pointwise
public import Idealize.ShloMosaic.Lib.ValueIdx

@[expose] public section

set_option maxRecDepth 16384

noncomputable section

/-! The reference of the query projection and of the output projection's gradients, second layer, entry by entry. -/

namespace Cert.XlinRef1Ideal.Val

open Cert.XlinRef1Ideal Cert.XlinRef1Ideal.Gen Idealize.ShloMosaic Idealize.ShloMosaic.TcCoe Idealize.SL.Sem
open Cert.MlpVal Cert.ProdVal

variable (m : (ℓ : Loc nD τ sig) → Buf (Elt Ideal) ℓ)

/-- The arguments, entry by entry: the input, the attention's output, the queries' gradient, the incoming gradient and this
    layer's two weights. -/
def nArg (c : Dev nD) (r : Fin 4096) (k : Fin 1024) : EReal := m ((c.tc : Thread nD τ).loc main_arg0) (ix2 r k)
def oArg (c : Dev nD) (r : Fin 4096) (k : Fin 1024) : EReal := m ((c.tc : Thread nD τ).loc main_arg1) (ix2 r k)
def qArg (c : Dev nD) (r : Fin 4096) (k : Fin 1024) : EReal := m ((c.tc : Thread nD τ).loc main_arg2) (ix2 r k)
def hArg (c : Dev nD) (r : Fin 4096) (k : Fin 1024) : EReal := m ((c.tc : Thread nD τ).loc main_arg3) (ix2 r k)
def wqArg (c : Dev nD) (k j : Fin 1024) : EReal := m ((c.tc : Thread nD τ).loc main_arg4) (ix3 1 k j)
def woArg (c : Dev nD) (k j : Fin 1024) : EReal := m ((c.tc : Thread nD τ).loc main_arg5) (ix3 1 k j)

/-- An array of the narrow format in the wide one, and this layer's part of a weight. -/
def wide (x : FVec Ideal S4096x1024 .bf16) : FVec Ideal S4096x1024 .f32 := extf (F := Ideal) .f32 x bitsLt_bf16_f32
def layer (x : FVec Ideal S2x1024x1024 .f32) : FVec Ideal S1024x1024 .f32 :=
  shapeCast S1024x1024 (extractStridedSlice S1x1024x1024 ![1, 0, 0] x slices_S2x1024x1024_S1x1024x1024_1_0_0) shapeCasts_S1x1024x1024_S1024x1024

/-- The four results. -/
def qOut (c : Dev nD) : FVec Ideal S4096x1024 .f32 :=
  Host.dotGeneral (F := Ideal) dot_S4096x1024_S1024x1024_S4096x1024_1_0_0_1_n_n none (wide (m ((c.tc : Thread nD τ).loc main_arg0))) (layer (m ((c.tc : Thread nD τ).loc main_arg4)))
def doOut (c : Dev nD) : FVec Ideal S4096x1024 .f32 :=
  Host.dotGeneral (F := Ideal) dot_S4096x1024_S1024x1024_S4096x1024_1_1_0_0_n_n none (wide (m ((c.tc : Thread nD τ).loc main_arg3))) (layer (m ((c.tc : Thread nD τ).loc main_arg5)))
def dwoOut (c : Dev nD) : FVec Ideal S1024x1024 .f32 :=
  transpose S1024x1024 [1, 0] (Host.dotGeneral (F := Ideal) dot_S4096x1024_S4096x1024_S1024x1024_0_0_1_1_n_n none
    (wide (m ((c.tc : Thread nD τ).loc main_arg3))) (wide (m ((c.tc : Thread nD τ).loc main_arg1)))) transposes_S1024x1024_S1024x1024_1_0
def dwqOut (c : Dev nD) : FVec Ideal S1024x1024 .f32 :=
  transpose S1024x1024 [1, 0] (Host.dotGeneral (F := Ideal) dot_S4096x1024_S4096x1024_S1024x1024_0_0_1_1_n_n none
    (wide (m ((c.tc : Thread nD τ).loc main_arg2))) (wide (m ((c.tc : Thread nD τ).loc main_arg0)))) transposes_S1024x1024_S1024x1024_1_0

theorem layer_apply (x : FVec Ideal S2x1024x1024 .f32) (k j : Fin 1024) : layer x (ix2 k j) = x (ix3 1 k j) := by
  pointwise [layer]

theorem wide_apply (x : FVec Ideal S4096x1024 .bf16) (r : Fin 4096) (k : Fin 1024) : (wide x (ix2 r k) : EReal) = x (ix2 r k) := by
  pointwise [wide]

theorem qOut_apply (c : Dev nD) (r : Fin 4096) (j : Fin 1024) : qOut m c (ix2 r j) = mul (nArg m c) (wqArg m c) r j := by
  have e : (qOut m c (ix2 r j) : EReal) = ∑ k : Fin 1024, wide (m ((c.tc : Thread nD τ).loc main_arg0)) (ix2 r k)
      * layer (m ((c.tc : Thread nD τ).loc main_arg4)) (ix2 k j) := by pointwise [qOut]
  rw [e]
  simp only [layer_apply, wide_apply]
  rfl

theorem doOut_apply (c : Dev nD) (r : Fin 4096) (j : Fin 1024) : doOut m c (ix2 r j) = mul (hArg m c) (tr (woArg m c)) r j := by
  have e : (doOut m c (ix2 r j) : EReal) = ∑ k : Fin 1024, wide (m ((c.tc : Thread nD τ).loc main_arg3)) (ix2 r k)
      * layer (m ((c.tc : Thread nD τ).loc main_arg5)) (ix2 j k) := by pointwise [doOut]
  rw [e]
  simp only [layer_apply, wide_apply]
  rfl

theorem dwoOut_apply (c : Dev nD) (k j : Fin 1024) : dwoOut m c (ix2 k j) = mul (tr (oArg m c)) (hArg m c) k j := by
  have e : (dwoOut m c (ix2 k j) : EReal) = ∑ r : Fin 4096, wide (m ((c.tc : Thread nD τ).loc main_arg3)) (ix2 r j)
      * wide (m ((c.tc : Thread nD τ).loc main_arg1)) (ix2 r k) := by pointwise [dwoOut]
  rw [e]
  simp only [wide_apply]
  exact mul_tr (oArg m c) (hArg m c) k j

theorem dwqOut_apply (c : Dev nD) (k j : Fin 1024) : dwqOut m c (ix2 k j) = mul (tr (nArg m c)) (qArg m c) k j := by
  have e : (dwqOut m c (ix2 k j) : EReal) = ∑ r : Fin 4096, wide (m ((c.tc : Thread nD τ).loc main_arg2)) (ix2 r j)
      * wide (m ((c.tc : Thread nD τ).loc main_arg0)) (ix2 r k) := by pointwise [dwqOut]
  rw [e]
  simp only [wide_apply]
  exact mul_tr (nArg m c) (qArg m c) k j

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v3) = qOut m c
      ∧ r.2.mem ((c.tc : Thread nD τ).loc main_v11) = doOut m c
      ∧ r.2.mem ((c.tc : Thread nD τ).loc main_v10) = dwoOut m c
      ∧ r.2.mem ((c.tc : Thread nD τ).loc main_v14) = dwqOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.XlinRef1Ideal.Val
-- ==== Proof.Xlin1Claim.lean ====
module

public import proofs.«01_k».proof.Defs
public import proofs.«01_k».proof.Proof.Gen.Xlin1
public import proofs.«01_k».proof.Proof.Xlin1Arr
public import proofs.«01_k».proof.Proof.XlinRef1Val
public import Idealize.ShloMosaic.Lib.Quiescent

@[expose] public section

set_option maxRecDepth 16384

noncomputable section

/-! The attention's query projection and the gradients of its output projection and of both weights, second layer. -/

namespace Cert.Xlin1Claim

open Idealize.ShloMosaic Idealize.ShloMosaic.TcCoe Idealize.SL.Sem
open Cert.MlpVal Cert.ProdVal

/-- The reference's run leaves its arguments and its counters as they were. -/
theorem reference_frame : Cert.quiescent_XlinRef1Ideal := by
  intro m g _
  refine (θ_run Cert.XlinRef1Ideal.defs _ _).mono (fun r h => ⟨fun c => (h c).2.2.2.2, ?_⟩) (Cert.XlinRef1Ideal.Val.run m g)
  exact sem_eq_zero_of_no_sems (by decide) r.2

/-- The calls' results are the reference's. -/
theorem algebraic : Cert.algebraic_Xlin1Ideal_XlinRef1Ideal := by
  intro m g m' g' _ hm
  have hn (c) : Cert.XlinRef1Ideal.Val.nArg m' c = Cert.Xlin1Ideal.Arr.nArg m c :=
    funext fun r => funext fun k => congrFun (hm c).1 (ix2 r k)
  have ho (c) : Cert.XlinRef1Ideal.Val.oArg m' c = Cert.Xlin1Ideal.Arr.oArg m c :=
    funext fun r => funext fun k => congrFun (hm c).2.1 (ix2 r k)
  have hq (c) : Cert.XlinRef1Ideal.Val.qArg m' c = Cert.Xlin1Ideal.Arr.qArg m c :=
    funext fun r => funext fun k => congrFun (hm c).2.2.1 (ix2 r k)
  have hh (c) : Cert.XlinRef1Ideal.Val.hArg m' c = Cert.Xlin1Ideal.Arr.hArg m c :=
    funext fun r => funext fun k => congrFun (hm c).2.2.2.1 (ix2 r k)
  have hwq (c) : Cert.XlinRef1Ideal.Val.wqArg m' c = Cert.Xlin1Ideal.Arr.wqArg m c :=
    funext fun k => funext fun j => congrFun (hm c).2.2.2.2.1 (ix3 1 k j)
  have hwo (c) : Cert.XlinRef1Ideal.Val.woArg m' c = Cert.Xlin1Ideal.Arr.woArg m c :=
    funext fun k => funext fun j => congrFun (hm c).2.2.2.2.2 (ix3 1 k j)
  refine ⟨_, _, _, _, Cert.Xlin1Ideal.Run.run_results m g, ?_⟩
  refine (θ_run Cert.XlinRef1Ideal.defs _ _).mono (fun r h c => ?_) (Cert.XlinRef1Ideal.Val.run m' g')
  obtain ⟨h0, h1, h2, h3, ha⟩ := h c
  refine ⟨h0.trans ?_, h1.trans ?_, h2.trans ?_, h3.trans ?_, ha⟩
  · funext i
    obtain ⟨a, b, rfl⟩ : ∃ a b, i = (ix2 a b : Cert.Xlin1Ideal.S4096x1024.Idx) := ⟨i 0, i 1, eq_ix2 i⟩
    refine (Cert.XlinRef1Ideal.Val.qOut_apply m' c a b).trans ?_
    rw [hn, hwq]
    exact (Cert.Xlin1Ideal.Arr.q_apply m g c a b).symm
  · funext i
    obtain ⟨a, b, rfl⟩ : ∃ a b, i = (ix2 a b : Cert.Xlin1Ideal.S4096x1024.Idx) := ⟨i 0, i 1, eq_ix2 i⟩
    refine (Cert.XlinRef1Ideal.Val.doOut_apply m' c a b).trans ?_
    rw [hh, hwo]
    exact (Cert.Xlin1Ideal.Arr.do_apply m g c a b).symm
  · funext i
    obtain ⟨a, b, rfl⟩ : ∃ a b, i = (ix2 a b : Cert.Xlin1Ideal.S1024x1024.Idx) := ⟨i 0, i 1, eq_ix2 i⟩
    refine (Cert.XlinRef1Ideal.Val.dwoOut_apply m' c a b).trans ?_
    rw [ho, hh]
    exact (Cert.Xlin1Ideal.Arr.dwo_apply m g c a b).symm
  · funext i
    obtain ⟨a, b, rfl⟩ : ∃ a b, i = (ix2 a b : Cert.Xlin1Ideal.S1024x1024.Idx) := ⟨i 0, i 1, eq_ix2 i⟩
    refine (Cert.XlinRef1Ideal.Val.dwqOut_apply m' c a b).trans ?_
    rw [hn, hq]
    exact (Cert.Xlin1Ideal.Arr.dwq_apply m g c a b).symm

end Cert.Xlin1Claim
-- ==== Proof.WoutRun.lean ====
module

public import proofs.«01_k».proof.Proof.Gen.WoutIdeal.Frame

@[expose] public section

set_option maxRecDepth 16384

noncomputable section

namespace Cert.WoutIdeal.Run

open Cert.WoutIdeal Cert.WoutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The four calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_v11) = W6 m ρ c (Proc.devRef .tc main_v11)
      ∧ r.2.mem ((c.tc : Thread nD τ).loc main_v13) = W6 m ρ c (Proc.devRef .tc main_v13)
      ∧ r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v10 (by decide)),
      h c _ (mem_uc main_v11 (by decide)),
      h c _ (mem_uc main_v13 (by decide)),
      h c _ (mem_uc main_v15 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c)⟩) (run m ρ)

end Cert.WoutIdeal.Run
-- ==== Proof.WoutArr.lean ====
module

public import proofs.«01_k».proof.Proof.WoutRun
public import proofs.«01_k».proof.Proof.ProdSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The gradients of the two output products, of the recurrent block and of the convolution block: what the calls leave, tile by
tile, and the program's results. -/

namespace Cert.WoutIdeal.Arr

open Cert.WoutIdeal Cert.WoutIdeal.Gen Idealize.ShloMosaic Idealize.ShloMosaic.TcCoe Idealize.SL.Sem Idealize.ShloMosaic.StableHlo
open Idealize.ShloMosaic.Pipeline (Dat)
open Cert.MlpVal Cert.ProdVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 0, 0, 0] := (by decide +kernel : ∀ t : Fin grid0.N, _)
theorem idx02 : ∀ t : Fin cfg0.N, win0_2.index t = ![t.val, 0] := (by decide +kernel : ∀ t : Fin grid0.N, _)
theorem idx10 : ∀ t : Fin cfg1.N, win1_0.index t = ![t.val, 0] := (by decide +kernel : ∀ t : Fin grid1.N, _)
theorem idx11 : ∀ t : Fin cfg1.N, win1_1.index t = ![0, 0, 0, 0] := (by decide +kernel : ∀ t : Fin grid1.N, _)
theorem idx12 : ∀ t : Fin cfg1.N, win1_2.index t = ![t.val, 0] := (by decide +kernel : ∀ t : Fin grid1.N, _)
theorem idx20 : ∀ t : Fin cfg2.N, win2_0.index t = ![0, 0] := (by decide +kernel : ∀ t : Fin grid2.N, _)
theorem idx21 : ∀ t : Fin cfg2.N, win2_1.index t = ![0, 0] := (by decide +kernel : ∀ t : Fin grid2.N, _)
theorem idx22 : ∀ t : Fin cfg2.N, win2_2.index t = ![0, 0, 0, 0] := (by decide +kernel : ∀ t : Fin grid2.N, _)
theorem idx30 : ∀ t : Fin cfg3.N, win3_0.index t = ![0, 0] := (by decide +kernel : ∀ t : Fin grid3.N, _)
theorem idx31 : ∀ t : Fin cfg3.N, win3_1.index t = ![0, 0] := (by decide +kernel : ∀ t : Fin grid3.N, _)
theorem idx32 : ∀ t : Fin cfg3.N, win3_2.index t = ![0, 0, 0, 0] := (by decide +kernel : ∀ t : Fin grid3.N, _)

section
variable (V : (c : Dev nD) → (b : Ref sig .tc) → Buf (Elt Ideal) ((c : Thread nD τ).loc b))

/-- The arrays the calls read, entry by entry: the two blocks' inner values, the two incoming gradients, and the two weights, each
    split over four shards, its rows numbered through. -/
def gMat (c : Dev nD) (r : Fin 4096) (k : Fin 1024) : EReal := V c main_arg0 (ix2 r k)
def sMat (c : Dev nD) (r : Fin 4096) (k : Fin 1024) : EReal := V c main_arg1 (ix2 r k)
def dMat (c : Dev nD) (r : Fin 4096) (k : Fin 1024) : EReal := V c main_arg2 (ix2 r k)
def eMat (c : Dev nD) (r : Fin 4096) (k : Fin 1024) : EReal := V c main_arg3 (ix2 r k)
def wgMat (c : Dev nD) (k j : Fin 1024) : EReal := V c main_v2 (ix4 (tile256 k) 0 (in256 k) j)
def wsMat (c : Dev nD) (k j : Fin 1024) : EReal := V c main_v5 (ix4 (tile256 k) 0 (in256 k) j)

/-! ## What one tile's body leaves -/

theorem tile0 (c : Dev nD) (t : Fin cfg0.N) (r z : Fin 1024) :
    outsAt0 (F := Ideal) V c t (ix2 r z) = mul (fun (r : Fin 1024) (k : Fin 1024) => iblk0 V c 0 t (ix2 r k)) (fun k z => iblk0 V c 1 t (ix4 (tile256 z) 0 (in256 z) k)) r z := by
  rw [outsAt0]
  frame_out
  pointwise [k0_pay3, k0_pay2, k0_pay1]
  rfl

theorem tile1 (c : Dev nD) (t : Fin cfg1.N) (r z : Fin 1024) :
    outsAt1 (F := Ideal) V c t (ix2 r z) = mul (fun (r : Fin 1024) (k : Fin 1024) => iblk1 V c 0 t (ix2 r k)) (fun k z => iblk1 V c 1 t (ix4 (tile256 z) 0 (in256 z) k)) r z := by
  rw [outsAt1]
  frame_out
  pointwise [k1_pay3, k1_pay2, k1_pay1]
  rfl

theorem tile2 (c : Dev nD) (t : Fin cfg2.N) (p : Fin 4) (a : Fin 256) (b : Fin 1024) :
    outsAt2 (F := Ideal) V c t (ix4 p 0 a b) = mul (fun (a : Fin 1024) (k : Fin 4096) => iblk2 V c 0 t (ix2 k a)) (fun k b => iblk2 V c 1 t (ix2 k b)) (at256 p a) b := by
  rw [outsAt2]
  frame_out
  pointwise [k2_pay3, k2_pay2, k2_pay1]
  rfl

theorem tile3 (c : Dev nD) (t : Fin cfg3.N) (p : Fin 4) (a : Fin 256) (b : Fin 1024) :
    outsAt3 (F := Ideal) V c t (ix4 p 0 a b) = mul (fun (a : Fin 1024) (k : Fin 4096) => iblk3 V c 0 t (ix2 k a)) (fun k b => iblk3 V c 1 t (ix2 k b)) (at256 p a) b := by
  rw [outsAt3]
  frame_out
  pointwise [k3_pay3, k3_pay2, k3_pay1]
  rfl

/-! ## The calls' blocks and arrays -/

theorem blk00 (c : Dev nD) (t : Fin cfg0.N) (r k : Fin 1024) :
    iblk0 (F := Ideal) V c 0 t (ix2 r k : S1024x1024.Idx) = dMat V c (at4 (shard t.val t.isLt) r) k := by
  blk_simp [iblk0]
  refine congrArg (V c main_arg2) ?_
  blk_ext [idx00 t, at4, shard]

theorem blk01 (c : Dev nD) (t : Fin cfg0.N) (k j : Fin 1024) :
    iblk0 (F := Ideal) V c 1 t (ix4 (tile256 k) 0 (in256 k) j : S4x1x256x1024.Idx) = wgMat V c k j := by
  blk_simp [iblk0]
  refine congrArg (V c main_v2) ?_
  blk_ext [idx01 t, tile256, in256]

theorem arr0 (c : Dev nD) :
    (dat0 (F := Ideal) V c).arrAt 2 cfg0.N = fun i : S4096x1024.Idx => mul (dMat V c) (tr (wgMat V c)) (i 0) (i 1) := by
  refine (dat0 V c).arrAt_eq_of_covers 2 _ (by decide +kernel) fun t _ y => ?_
  blk_simp
  rw [after0_2]
  obtain ⟨r, z, rfl⟩ : ∃ r z, y = (ix2 r z : S1024x1024.Idx) := ⟨y 0, y 1, eq_ix2 y⟩
  rw [tile0]
  have e0 : (win0_2.blk t).view.emb (ix2 r z) 0 = at4 (shard t.val t.isLt) r := Fin.ext (by blk_simp [idx02 t]; simp [at4, shard, ix2])
  have e1 : (win0_2.blk t).view.emb (ix2 r z) 1 = z := Fin.ext (by blk_simp [idx02 t])
  simp only [e0, e1, blk00, blk01]
  rfl

theorem blk10 (c : Dev nD) (t : Fin cfg1.N) (r k : Fin 1024) :
    iblk1 (F := Ideal) V c 0 t (ix2 r k : S1024x1024.Idx) = eMat V c (at4 (shard t.val t.isLt) r) k := by
  blk_simp [iblk1]
  refine congrArg (V c main_arg3) ?_
  blk_ext [idx10 t, at4, shard]

theorem blk11 (c : Dev nD) (t : Fin cfg1.N) (k j : Fin 1024) :
    iblk1 (F := Ideal) V c 1 t (ix4 (tile256 k) 0 (in256 k) j : S4x1x256x1024.Idx) = wsMat V c k j := by
  blk_simp [iblk1]
  refine congrArg (V c main_v5) ?_
  blk_ext [idx11 t, tile256, in256]

theorem arr1 (c : Dev nD) :
    (dat1 (F := Ideal) V c).arrAt 2 cfg1.N = fun i : S4096x1024.Idx => mul (eMat V c) (tr (wsMat V c)) (i 0) (i 1) := by
  refine (dat1 V c).arrAt_eq_of_covers 2 _ (by decide +kernel) fun t _ y => ?_
  blk_simp
  rw [after1_2]
  obtain ⟨r, z, rfl⟩ : ∃ r z, y = (ix2 r z : S1024x1024.Idx) := ⟨y 0, y 1, eq_ix2 y⟩
  rw [tile1]
  have e0 : (win1_2.blk t).view.emb (ix2 r z) 0 = at4 (shard t.val t.isLt) r := Fin.ext (by blk_simp [idx12 t]; simp [at4, shard, ix2])
  have e1 : (win1_2.blk t).view.emb (ix2 r z) 1 = z := Fin.ext (by blk_simp [idx12 t])
  simp only [e0, e1, blk10, blk11]
  rfl

theorem blk20 (c : Dev nD) (t : Fin cfg2.N) (r : Fin 4096) (k : Fin 1024) :
    iblk2 (F := Ideal) V c 0 t (ix2 r k : S4096x1024.Idx) = gMat V c r k := by
  blk_simp [iblk2]
  refine congrArg (V c main_arg0) ?_
  blk_ext [idx20 t]

theorem blk21 (c : Dev nD) (t : Fin cfg2.N) (r : Fin 4096) (k : Fin 1024) :
    iblk2 (F := Ideal) V c 1 t (ix2 r k : S4096x1024.Idx) = dMat V c r k := by
  blk_simp [iblk2]
  refine congrArg (V c main_arg2) ?_
  blk_ext [idx21 t]

theorem arr2 (c : Dev nD) :
    (dat2 (F := Ideal) V c).arrAt 2 cfg2.N = fun i : S4x1x256x1024.Idx => mul (tr (gMat V c)) (dMat V c) (at256 (i 0) (i 2)) (i 3) := by
  refine (dat2 V c).arrAt_eq_of_covers 2 _ (by decide +kernel) fun t _ y => ?_
  blk_simp
  rw [after2_2]
  obtain ⟨p, a, b, rfl⟩ := four_one_idx y
  rw [tile2]
  have e0 : (win2_2.blk t).view.emb (ix4 p 0 a b) 0 = p := Fin.ext (by blk_simp [idx22 t])
  have e2 : (win2_2.blk t).view.emb (ix4 p 0 a b) 2 = a := Fin.ext (by blk_simp [idx22 t])
  have e3 : (win2_2.blk t).view.emb (ix4 p 0 a b) 3 = b := Fin.ext (by blk_simp [idx22 t])
  simp only [e0, e2, e3, blk20, blk21]
  rfl

theorem blk30 (c : Dev nD) (t : Fin cfg3.N) (r : Fin 4096) (k : Fin 1024) :
    iblk3 (F := Ideal) V c 0 t (ix2 r k : S4096x1024.Idx) = sMat V c r k := by
  blk_simp [iblk3]
  refine congrArg (V c main_arg1) ?_
  blk_ext [idx30 t]

theorem blk31 (c : Dev nD) (t : Fin cfg3.N) (r : Fin 4096) (k : Fin 1024) :
    iblk3 (F := Ideal) V c 1 t (ix2 r k : S4096x1024.Idx) = eMat V c r k := by
  blk_simp [iblk3]
  refine congrArg (V c main_arg3) ?_
  blk_ext [idx31 t]

theorem arr3 (c : Dev nD) :
    (dat3 (F := Ideal) V c).arrAt 2 cfg3.N = fun i : S4x1x256x1024.Idx => mul (tr (sMat V c)) (eMat V c) (at256 (i 0) (i 2)) (i 3) := by
  refine (dat3 V c).arrAt_eq_of_covers 2 _ (by decide +kernel) fun t _ y => ?_
  blk_simp
  rw [after3_2]
  obtain ⟨p, a, b, rfl⟩ := four_one_idx y
  rw [tile3]
  have e0 : (win3_2.blk t).view.emb (ix4 p 0 a b) 0 = p := Fin.ext (by blk_simp [idx32 t])
  have e2 : (win3_2.blk t).view.emb (ix4 p 0 a b) 2 = a := Fin.ext (by blk_simp [idx32 t])
  have e3 : (win3_2.blk t).view.emb (ix4 p 0 a b) 3 = b := Fin.ext (by blk_simp [idx32 t])
  simp only [e0, e2, e3, blk30, blk31]
  rfl

end

variable (m : (ℓ : Loc nD τ sig) → Buf (Elt Ideal) ℓ) (ρ : Dev nD → PrngReg)

/-- The arguments, entry by entry: the two blocks' inner values, the two incoming gradients and the two weights. -/
def gArg (c : Dev nD) (r : Fin 4096) (k : Fin 1024) : EReal := m ((c : Thread nD τ).loc main_arg0) (ix2 r k)
def sArg (c : Dev nD) (r : Fin 4096) (k : Fin 1024) : EReal := m ((c : Thread nD τ).loc main_arg1) (ix2 r k)
def dArg (c : Dev nD) (r : Fin 4096) (k : Fin 1024) : EReal := m ((c : Thread nD τ).loc main_arg2) (ix2 r k)
def eArg (c : Dev nD) (r : Fin 4096) (k : Fin 1024) : EReal := m ((c : Thread nD τ).loc main_arg3) (ix2 r k)
def wgArg (c : Dev nD) (k j : Fin 1024) : EReal := m ((c : Thread nD τ).loc main_arg4) (ix3 0 k j)
def wsArg (c : Dev nD) (k j : Fin 1024) : EReal := m ((c : Thread nD τ).loc main_arg5) (ix3 0 k j)

theorem wg_stack (c : Dev nD) :
    V1 (F := Ideal) m ρ c main_v2 = transpose S4x1x256x1024 [1, 0, 2, 3]
      (shapeCast S1x4x256x1024 (truncf .bf16 (m ((c : Thread nD τ).loc main_arg4) : FVec Ideal S1x1024x1024 .f32) bitsLt_bf16_f32 : FVec Ideal S1x1024x1024 .bf16)
        shapeCasts_S1x1024x1024_S1x4x256x1024) transposes_S1x4x256x1024_S4x1x256x1024_1_0_2_3 := by
  show StableHlo.after hostOps0 _ _ = _
  simp only [hostOps0]
  after_results <;> rfl

theorem wg_entry (c : Dev nD) : wgMat (V1 (F := Ideal) m ρ) c = wgArg m c := by
  funext k j
  rw [wgMat, wg_stack]
  pointwise
  exact congrArg (fun x => m ((c : Thread nD τ).loc main_arg4) (ix3 0 x j)) (at256_tile k)

theorem ws_stack (c : Dev nD) :
    V1 (F := Ideal) m ρ c main_v5 = transpose S4x1x256x1024 [1, 0, 2, 3]
      (shapeCast S1x4x256x1024 (truncf .bf16 (m ((c : Thread nD τ).loc main_arg5) : FVec Ideal S1x1024x1024 .f32) bitsLt_bf16_f32 : FVec Ideal S1x1024x1024 .bf16)
        shapeCasts_S1x1024x1024_S1x4x256x1024) transposes_S1x4x256x1024_S4x1x256x1024_1_0_2_3 := by
  show StableHlo.after hostOps0 _ _ = _
  simp only [hostOps0]
  after_results <;> rfl

theorem ws_entry (c : Dev nD) : wsMat (V1 (F := Ideal) m ρ) c = wsArg m c := by
  funext k j
  rw [wsMat, ws_stack]
  pointwise
  exact congrArg (fun x => m ((c : Thread nD τ).loc main_arg5) (ix3 0 x j)) (at256_tile k)

/-! ## What each call finds -/

theorem dMat1 (c : Dev nD) : dMat (V1 (F := Ideal) m ρ) c = dArg m c := by
  funext a b
  exact congrFun (W1_of (F := Ideal) m ρ c main_arg2 (by decide)) _

theorem eMat2 (c : Dev nD) : eMat (V2 (F := Ideal) m ρ) c = eArg m c := by
  funext a b
  exact congrFun ((W2_of (F := Ideal) m ρ c main_arg3 (by decide)).trans (W1_of (F := Ideal) m ρ c main_arg3 (by decide))) _

theorem wsMat2 (c : Dev nD) : wsMat (V2 (F := Ideal) m ρ) c = wsArg m c := by
  refine Eq.trans ?_ (ws_entry m ρ c)
  funext a b
  exact congrFun (W2_of (F := Ideal) m ρ c main_v5 (by decide)) _

theorem gMat3 (c : Dev nD) : gMat (V3 (F := Ideal) m ρ) c = gArg m c := by
  funext a b
  exact congrFun ((W3_of (F := Ideal) m ρ c main_arg0 (by decide)).trans ((W2_of (F := Ideal) m ρ c main_arg0 (by decide)).trans (W1_of (F := Ideal) m ρ c main_arg0 (by decide)))) _

theorem dMat3 (c : Dev nD) : dMat (V3 (F := Ideal) m ρ) c = dArg m c := by
  funext a b
  exact congrFun ((W3_of (F := Ideal) m ρ c main_arg2 (by decide)).trans ((W2_of (F := Ideal) m ρ c main_arg2 (by decide)).trans (W1_of (F := Ideal) m ρ c main_arg2 (by decide)))) _

theorem sMat4 (c : Dev nD) : sMat (V4 (F := Ideal) m ρ) c = sArg m c := by
  funext a b
  exact congrFun ((W4_of (F := Ideal) m ρ c main_arg1 (by decide)).trans ((W3_of (F := Ideal) m ρ c main_arg1 (by decide)).trans ((W2_of (F := Ideal) m ρ c main_arg1 (by decide)).trans (W1_of (F := Ideal) m ρ c main_arg1 (by decide))))) _

theorem eMat4 (c : Dev nD) : eMat (V4 (F := Ideal) m ρ) c = eArg m c := by
  funext a b
  exact congrFun ((W4_of (F := Ideal) m ρ c main_arg3 (by decide)).trans ((W3_of (F := Ideal) m ρ c main_arg3 (by decide)).trans ((W2_of (F := Ideal) m ρ c main_arg3 (by decide)).trans (W1_of (F := Ideal) m ρ c main_arg3 (by decide))))) _

/-! ## The results -/

theorem do_read (c : Dev nD) :
    W6 (F := Ideal) m ρ c (Proc.devRef .tc main_v10) = (extf .f32 (W5 (F := Ideal) m ρ c (Proc.devRef .tc main_v6) : FVec Ideal S4096x1024 .bf16) bitsLt_bf16_f32 : FVec Ideal S4096x1024 .f32) := by
  show StableHlo.after hostOps4 _ _ = _
  simp only [hostOps4]
  after_results <;> rfl

theorem do_apply (c : Dev nD) (r : Fin 4096) (j : Fin 1024) :
    W6 (F := Ideal) m ρ c (Proc.devRef .tc main_v10) (ix2 r j : S4096x1024.Idx) = mul (dArg m c) (tr (wgArg m c)) r j := by
  rw [do_read]
  refine Eq.trans ?_ ((congrFun ((W5_of (F := Ideal) m ρ c main_v6 (by decide)).trans ((W4_of (F := Ideal) m ρ c main_v6 (by decide)).trans ((W3_of (F := Ideal) m ρ c main_v6 (by decide)).trans ((W2_arr (F := Ideal) m ρ c 2).trans (arr0 (V1 m ρ) c))))) (ix2 r j)).trans ?_)
  · pointwise
  · rw [dMat1, wg_entry]
    rfl

theorem ds_read (c : Dev nD) :
    W6 (F := Ideal) m ρ c (Proc.devRef .tc main_v11) = (extf .f32 (W5 (F := Ideal) m ρ c (Proc.devRef .tc main_v7) : FVec Ideal S4096x1024 .bf16) bitsLt_bf16_f32 : FVec Ideal S4096x1024 .f32) := by
  show StableHlo.after hostOps4 _ _ = _
  simp only [hostOps4]
  after_results <;> rfl

theorem ds_apply (c : Dev nD) (r : Fin 4096) (j : Fin 1024) :
    W6 (F := Ideal) m ρ c (Proc.devRef .tc main_v11) (ix2 r j : S4096x1024.Idx) = mul (eArg m c) (tr (wsArg m c)) r j := by
  rw [ds_read]
  refine Eq.trans ?_ ((congrFun ((W5_of (F := Ideal) m ρ c main_v7 (by decide)).trans ((W4_of (F := Ideal) m ρ c main_v7 (by decide)).trans ((W3_arr (F := Ideal) m ρ c 2).trans (arr1 (V2 m ρ) c)))) (ix2 r j)).trans ?_)
  · pointwise
  · rw [eMat2, wsMat2]
    rfl

theorem dwg_read (c : Dev nD) :
    W6 (F := Ideal) m ρ c (Proc.devRef .tc main_v13) = shapeCast S1024x1024
      (extf .f32 (W5 (F := Ideal) m ρ c (Proc.devRef .tc main_v8) : FVec Ideal S4x1x256x1024 .bf16) bitsLt_bf16_f32 : FVec Ideal S4x1x256x1024 .f32)
      shapeCasts_S4x1x256x1024_S1024x1024 := by
  show StableHlo.after hostOps4 _ _ = _
  simp only [hostOps4]
  after_results <;> rfl

theorem dwg_result (c : Dev nD) (p : Fin 4) (a : Fin 256) (b : Fin 1024) :
    W5 (F := Ideal) m ρ c (Proc.devRef .tc main_v8) (ix4 p 0 a b) = mul (tr (gArg m c)) (dArg m c) (at256 p a) b := by
  refine (congrFun ((W5_of (F := Ideal) m ρ c main_v8 (by decide)).trans ((W4_arr (F := Ideal) m ρ c 2).trans (arr2 (V3 m ρ) c))) _).trans ?_
  rw [gMat3, dMat3]
  rfl

theorem dwg_apply (c : Dev nD) (k j : Fin 1024) :
    W6 (F := Ideal) m ρ c (Proc.devRef .tc main_v13) (ix2 k j : S1024x1024.Idx) = mul (tr (gArg m c)) (dArg m c) k j := by
  have e := dwg_result m ρ c (tile256 k) (in256 k) j
  rw [at256_tile] at e
  rw [dwg_read, ← e]
  pointwise
  rfl

theorem dws_read (c : Dev nD) :
    W6 (F := Ideal) m ρ c (Proc.devRef .tc main_v15) = shapeCast S1024x1024
      (extf .f32 (W5 (F := Ideal) m ρ c (Proc.devRef .tc main_v9) : FVec Ideal S4x1x256x1024 .bf16) bitsLt_bf16_f32 : FVec Ideal S4x1x256x1024 .f32)
      shapeCasts_S4x1x256x1024_S1024x1024 := by
  show StableHlo.after hostOps4 _ _ = _
  simp only [hostOps4]
  after_results <;> rfl

theorem dws_result (c : Dev nD) (p : Fin 4) (a : Fin 256) (b : Fin 1024) :
    W5 (F := Ideal) m ρ c (Proc.devRef .tc main_v9) (ix4 p 0 a b) = mul (tr (sArg m c)) (eArg m c) (at256 p a) b := by
  refine (congrFun ((W5_arr (F := Ideal) m ρ c 2).trans (arr3 (V4 m ρ) c)) _).trans ?_
  rw [sMat4, eMat4]
  rfl

theorem dws_apply (c : Dev nD) (k j : Fin 1024) :
    W6 (F := Ideal) m ρ c (Proc.devRef .tc main_v15) (ix2 k j : S1024x1024.Idx) = mul (tr (sArg m c)) (eArg m c) k j := by
  have e := dws_result m ρ c (tile256 k) (in256 k) j
  rw [at256_tile] at e
  rw [dws_read, ← e]
  pointwise
  rfl

end Cert.WoutIdeal.Arr
-- ==== Proof.WoutRefVal.lean ====
module

public import proofs.«01_k».proof.Proof.Gen.WoutRefIdeal.Run
public import proofs.«01_k».proof.Proof.ProdSpec
public import Idealize.ShloMosaic.Lib.Tactic
public import Idealize.ShloMosaic.Lib.Pointwise
public import Idealize.ShloMosaic.Lib.ValueIdx

@[expose] public section

set_option maxRecDepth 16384

noncomputable section

/-! The reference of the gradients of the two output products, entry by entry. -/

namespace Cert.WoutRefIdeal.Val

open Cert.WoutRefIdeal Cert.WoutRefIdeal.Gen Idealize.ShloMosaic Idealize.ShloMosaic.TcCoe Idealize.SL.Sem
open Cert.MlpVal Cert.ProdVal

variable (m : (ℓ : Loc nD τ sig) → Buf (Elt Ideal) ℓ)

/-- The arguments, entry by entry: the two blocks' inner values, the two incoming gradients and the two weights. -/
def gArg (c : Dev nD) (r : Fin 4096) (k : Fin 1024) : EReal := m ((c.tc : Thread nD τ).loc main_arg0) (ix2 r k)
def sArg (c : Dev nD) (r : Fin 4096) (k : Fin 1024) : EReal := m ((c.tc : Thread nD τ).loc main_arg1) (ix2 r k)
def dArg (c : Dev nD) (r : Fin 4096) (k : Fin 1024) : EReal := m ((c.tc : Thread nD τ).loc main_arg2) (ix2 r k)
def eArg (c : Dev nD) (r : Fin 4096) (k : Fin 1024) : EReal := m ((c.tc : Thread nD τ).loc main_arg3) (ix2 r k)
def wgArg (c : Dev nD) (k j : Fin 1024) : EReal := m ((c.tc : Thread nD τ).loc main_arg4) (ix3 0 k j)
def wsArg (c : Dev nD) (k j : Fin 1024) : EReal := m ((c.tc : Thread nD τ).loc main_arg5) (ix3 0 k j)

/-- An array of the narrow format in the wide one, and a weight without its leading axis. -/
def wide (x : FVec Ideal S4096x1024 .bf16) : FVec Ideal S4096x1024 .f32 := extf (F := Ideal) .f32 x bitsLt_bf16_f32
def flat (x : FVec Ideal S1x1024x1024 .f32) : FVec Ideal S1024x1024 .f32 := shapeCast S1024x1024 x shapeCasts_S1x1024x1024_S1024x1024

/-- An incoming gradient times a transposed weight, and the gradient of a weight. -/
def inner (x : FVec Ideal S4096x1024 .bf16) (w : FVec Ideal S1x1024x1024 .f32) : FVec Ideal S4096x1024 .f32 :=
  Host.dotGeneral (F := Ideal) dot_S4096x1024_S1024x1024_S4096x1024_1_1_0_0_n_n none (wide x) (flat w)
def weight (x y : FVec Ideal S4096x1024 .bf16) : FVec Ideal S1024x1024 .f32 :=
  transpose S1024x1024 [1, 0] (Host.dotGeneral (F := Ideal) dot_S4096x1024_S4096x1024_S1024x1024_0_0_1_1_n_n none (wide y) (wide x))
    transposes_S1024x1024_S1024x1024_1_0

theorem flat_apply (x : FVec Ideal S1x1024x1024 .f32) (k j : Fin 1024) : flat x (ix2 k j) = x (ix3 0 k j) := by
  pointwise [flat]

theorem wide_apply (x : FVec Ideal S4096x1024 .bf16) (r : Fin 4096) (k : Fin 1024) : (wide x (ix2 r k) : EReal) = x (ix2 r k) := by
  pointwise [wide]

theorem inner_apply (x : FVec Ideal S4096x1024 .bf16) (w : FVec Ideal S1x1024x1024 .f32) (r : Fin 4096) (j : Fin 1024) :
    (inner x w (ix2 r j) : EReal) = mul (fun (r : Fin 4096) (k : Fin 1024) => x (ix2 r k)) (tr fun (k j : Fin 1024) => w (ix3 0 k j)) r j := by
  have e : (inner x w (ix2 r j) : EReal) = ∑ k : Fin 1024, wide x (ix2 r k) * flat w (ix2 j k) := by pointwise [inner]
  rw [e]
  simp only [flat_apply, wide_apply]
  rfl

theorem weight_apply (x y : FVec Ideal S4096x1024 .bf16) (k j : Fin 1024) :
    (weight x y (ix2 k j) : EReal) = mul (tr fun (r : Fin 4096) (k : Fin 1024) => x (ix2 r k)) (fun (r : Fin 4096) (k : Fin 1024) => y (ix2 r k)) k j := by
  have e : (weight x y (ix2 k j) : EReal) = ∑ r : Fin 4096, wide y (ix2 r j) * wide x (ix2 r k) := by pointwise [weight]
  rw [e]
  simp only [wide_apply]
  exact mul_tr (fun (r : Fin 4096) (k : Fin 1024) => (x (ix2 r k) : EReal)) (fun (r : Fin 4096) (k : Fin 1024) => (y (ix2 r k) : EReal)) k j

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v6) = inner (m ((c.tc : Thread nD τ).loc main_arg2)) (m ((c.tc : Thread nD τ).loc main_arg4))
      ∧ r.2.mem ((c.tc : Thread nD τ).loc main_v13) = inner (m ((c.tc : Thread nD τ).loc main_arg3)) (m ((c.tc : Thread nD τ).loc main_arg5))
      ∧ r.2.mem ((c.tc : Thread nD τ).loc main_v5) = weight (m ((c.tc : Thread nD τ).loc main_arg0)) (m ((c.tc : Thread nD τ).loc main_arg2))
      ∧ r.2.mem ((c.tc : Thread nD τ).loc main_v12) = weight (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run (F := Ideal) m ρ

end Cert.WoutRefIdeal.Val
-- ==== Proof.WoutClaim.lean ====
module

public import proofs.«01_k».proof.Defs
public import proofs.«01_k».proof.Proof.Gen.Wout
public import proofs.«01_k».proof.Proof.WoutArr
public import proofs.«01_k».proof.Proof.WoutRefVal
public import Idealize.ShloMosaic.Lib.Quiescent

@[expose] public section

set_option maxRecDepth 16384

noncomputable section

/-! The gradients of the two output products. -/

namespace Cert.WoutClaim

open Idealize.ShloMosaic Idealize.ShloMosaic.TcCoe Idealize.SL.Sem
open Cert.MlpVal Cert.ProdVal

/-- The reference's run leaves its arguments and its counters as they were. -/
theorem reference_frame : Cert.quiescent_WoutRefIdeal := by
  intro m g _
  refine (θ_run Cert.WoutRefIdeal.defs _ _).mono (fun r h => ⟨fun c => (h c).2.2.2.2, ?_⟩) (Cert.WoutRefIdeal.Val.run m g)
  exact sem_eq_zero_of_no_sems (by decide) r.2

/-- The calls' results are the reference's. -/
theorem algebraic : Cert.algebraic_WoutIdeal_WoutRefIdeal := by
  intro m g m' g' _ hm
  have hg (c) : Cert.WoutRefIdeal.Val.gArg m' c = Cert.WoutIdeal.Arr.gArg m c :=
    funext fun r => funext fun k => congrFun (hm c).1 (ix2 r k)
  have hs (c) : Cert.WoutRefIdeal.Val.sArg m' c = Cert.WoutIdeal.Arr.sArg m c :=
    funext fun r => funext fun k => congrFun (hm c).2.1 (ix2 r k)
  have hd (c) : Cert.WoutRefIdeal.Val.dArg m' c = Cert.WoutIdeal.Arr.dArg m c :=
    funext fun r => funext fun k => congrFun (hm c).2.2.1 (ix2 r k)
  have he (c) : Cert.WoutRefIdeal.Val.eArg m' c = Cert.WoutIdeal.Arr.eArg m c :=
    funext fun r => funext fun k => congrFun (hm c).2.2.2.1 (ix2 r k)
  have hwg (c) : Cert.WoutRefIdeal.Val.wgArg m' c = Cert.WoutIdeal.Arr.wgArg m c :=
    funext fun k => funext fun j => congrFun (hm c).2.2.2.2.1 (ix3 0 k j)
  have hws (c) : Cert.WoutRefIdeal.Val.wsArg m' c = Cert.WoutIdeal.Arr.wsArg m c :=
    funext fun k => funext fun j => congrFun (hm c).2.2.2.2.2 (ix3 0 k j)
  refine ⟨_, _, _, _, Cert.WoutIdeal.Run.run_results m g, ?_⟩
  refine (θ_run Cert.WoutRefIdeal.defs _ _).mono (fun r h c => ?_) (Cert.WoutRefIdeal.Val.run m' g')
  obtain ⟨h0, h1, h2, h3, ha⟩ := h c
  refine ⟨h0.trans ?_, h1.trans ?_, h2.trans ?_, h3.trans ?_, ha⟩
  · funext i
    obtain ⟨a, b, rfl⟩ : ∃ a b, i = (ix2 a b : Cert.WoutIdeal.S4096x1024.Idx) := ⟨i 0, i 1, eq_ix2 i⟩
    refine (Cert.WoutRefIdeal.Val.inner_apply _ _ a b).trans ?_
    refine Eq.trans ?_ (Cert.WoutIdeal.Arr.do_apply m g c a b).symm
    rw [← hd, ← hwg]
    rfl
  · funext i
    obtain ⟨a, b, rfl⟩ : ∃ a b, i = (ix2 a b : Cert.WoutIdeal.S4096x1024.Idx) := ⟨i 0, i 1, eq_ix2 i⟩
    refine (Cert.WoutRefIdeal.Val.inner_apply _ _ a b).trans ?_
    refine Eq.trans ?_ (Cert.WoutIdeal.Arr.ds_apply m g c a b).symm
    rw [← he, ← hws]
    rfl
  · funext i
    obtain ⟨a, b, rfl⟩ : ∃ a b, i = (ix2 a b : Cert.WoutIdeal.S1024x1024.Idx) := ⟨i 0, i 1, eq_ix2 i⟩
    refine (Cert.WoutRefIdeal.Val.weight_apply _ _ a b).trans ?_
    refine Eq.trans ?_ (Cert.WoutIdeal.Arr.dwg_apply m g c a b).symm
    rw [← hg, ← hd]
    rfl
  · funext i
    obtain ⟨a, b, rfl⟩ : ∃ a b, i = (ix2 a b : Cert.WoutIdeal.S1024x1024.Idx) := ⟨i 0, i 1, eq_ix2 i⟩
    refine (Cert.WoutRefIdeal.Val.weight_apply _ _ a b).trans ?_
    refine Eq.trans ?_ (Cert.WoutIdeal.Arr.dws_apply m g c a b).symm
    rw [← hs, ← he]
    rfl

end Cert.WoutClaim
-- ==== Proof.DownSpec.lean ====
module

public import proofs.«01_k».proof.Proof.MlpSpec
public import proofs.«01_k».proof.Proof.ProdSpec

@[expose] public section

set_option maxRecDepth 16384

noncomputable section

/-! Where the blocks of a product in two steps lie, and its sum in two halves. -/

namespace Cert.DownVal

open Idealize.ShloMosaic Cert.MlpVal Cert.ProdVal

/-- The row of tiles and the half of the columns that grid point `t` reads, two points to a row. -/
def pair (t : ℕ) (h : t < 8) : Fin 4 := ⟨t / 2, by omega⟩
def half (t : ℕ) : Fin 2 := ⟨t % 2, by omega⟩

/-- Column `k` of a half, and where it lies in the two shards of that half. -/
def inHalf (p : Fin 2) (k : Fin 2048) : Fin 4096 := ⟨p.val * 2048 + k.val, by omega⟩
def shard2 (k : Fin 2048) : Fin 2 := ⟨k.val / 1024, by omega⟩
def place2 (k : Fin 2048) : Fin 1024 := ⟨k.val % 1024, by omega⟩

/-- A sum over 4096 columns in two halves. -/
theorem sum_halves (f : Fin 4096 → EReal) : ∑ k, f k = (∑ k, f (inHalf 0 k)) + ∑ k, f (inHalf 1 k) := by
  refine (Fin.sum_univ_add (a := 2048) (b := 2048) f).trans (congrArg₂ (· + ·) ?_ ?_)
  · exact Finset.sum_congr rfl fun k _ => congrArg f (Fin.ext (by simp [inHalf]))
  · exact Finset.sum_congr rfl fun k _ => congrArg f (Fin.ext (by simp [inHalf, Nat.add_comm]))

/-- The number of columns and the small term under the root, as both programs write them. -/
def width : EReal := Ideal.ofBits .f32 0x44800000#32
def small : EReal := Ideal.ofBits .f32 0x358637BD#32

/-- An entry of a row divided by the row's root mean square and scaled by a gain. -/
def normed (y : Fin 1024 → EReal) (z : Fin 1024) (g : EReal) : EReal :=
  y z * Ideal.rsqrt (Ideal.div (∑ q, y q * y q) width + small) * g

end Cert.DownVal
-- ==== Proof.Down1Arr.lean ====
module

public import proofs.«01_k».proof.Proof.Gen.Down1Ideal.Value
public import proofs.«01_k».proof.Proof.DownSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The second product of the pointwise network, second layer, with the skip connection: what the call leaves, tile by tile. -/

namespace Cert.Down1Ideal.Arr

open Cert.Down1Ideal Cert.Down1Ideal.Gen Idealize.ShloMosaic Idealize.ShloMosaic.TcCoe Idealize.SL.Sem Idealize.ShloMosaic.StableHlo
open Idealize.ShloMosaic.Pipeline (Dat)
open Cert.MlpVal Cert.ProdVal Cert.DownVal

/-! ## Where the blocks lie -/

theorem idx00 : ∀ t : Fin cfg0.N, win0_0.index t = ![t.val / 2, t.val % 2] := (by decide +kernel : ∀ t : Fin grid0.N, _)
theorem idx01 : ∀ t : Fin cfg0.N, win0_1.index t = ![t.val % 2, 1, 0, 0] := (by decide +kernel : ∀ t : Fin grid0.N, _)
theorem idx02 : ∀ t : Fin cfg0.N, win0_2.index t = ![t.val / 2, 0] := (by decide +kernel : ∀ t : Fin grid0.N, _)
theorem idx03 : ∀ t : Fin cfg0.N, win0_3.index t = ![t.val / 2, 0] := (by decide +kernel : ∀ t : Fin grid0.N, _)

variable (m : (ℓ : Loc nD τ sig) → Buf (Elt Ideal) ℓ)

/-- The arguments, entry by entry: the hidden layer, the skip connection and this layer's weight. -/
def xArg (c : Dev nD) (r : Fin 4096) (k : Fin 4096) : EReal := m ((c : Thread nD τ).loc main_arg0) (ix2 r k)
def hArg (c : Dev nD) (r : Fin 4096) (k : Fin 1024) : EReal := m ((c : Thread nD τ).loc main_arg1) (ix2 r k)
def wArg (c : Dev nD) (k : Fin 4096) (j : Fin 1024) : EReal := m ((c : Thread nD τ).loc main_arg2) (ix3 1 k j)

/-- The weight as the call finds it: split over four shards. -/
theorem stack (c : Dev nD) :
    V (F := Ideal) m c main_v2 = transpose S4x2x1024x1024 [1, 0, 2, 3]
      (shapeCast S2x4x1024x1024 (truncf .bf16 (m ((c : Thread nD τ).loc main_arg2) : FVec Ideal S2x4096x1024 .f32) bitsLt_bf16_f32 : FVec Ideal S2x4096x1024 .bf16)
        shapeCasts_S2x4096x1024_S2x4x1024x1024) transposes_S2x4x1024x1024_S4x2x1024x1024_1_0_2_3 := by
  show StableHlo.after hostOps0 _ _ = _
  simp only [hostOps0]
  after_results <;> rfl

theorem stack_entry (c : Dev nD) (k : Fin 4096) (j : Fin 1024) :
    V (F := Ideal) m c main_v2 (ix4 (tileOf k) 1 (inTile k) j : S4x2x1024x1024.Idx) = wArg m c k j := by
  rw [stack]
  pointwise
  exact congrArg (fun x => m ((c : Thread nD τ).loc main_arg2) (ix3 1 x j)) (at4_tile k)

/-! ## The blocks -/

theorem blk0 (c : Dev nD) (t : Fin cfg0.N) (r : Fin 1024) (k : Fin 2048) :
    iblk (F := Ideal) m c 0 t (ix2 r k : S1024x2048.Idx) = xArg m c (at4 (pair t.val t.isLt) r) (inHalf (half t.val) k) := by
  blk_simp [iblk]
  rw [V_main_arg0]
  refine congrArg (m _) ?_
  blk_ext [idx00 t, at4, pair, inHalf, half]

theorem blk1 (c : Dev nD) (t : Fin cfg0.N) (k : Fin 2048) (j : Fin 1024) :
    iblk (F := Ideal) m c 1 t (ix4 (shard2 k) 0 (place2 k) j : S2x1x1024x1024.Idx) = wArg m c (inHalf (half t.val) k) j := by
  refine Eq.trans ?_ (stack_entry m c (inHalf (half t.val) k) j)
  blk_simp [iblk]
  refine congrArg (V m c main_v2) ?_
  blk_ext [idx01 t, tileOf, inTile, inHalf, half, shard2, place2] <;> omega

theorem blk2 (c : Dev nD) (t : Fin cfg0.N) (r k : Fin 1024) :
    iblk (F := Ideal) m c 2 t (ix2 r k : S1024x1024.Idx) = hArg m c (at4 (pair t.val t.isLt) r) k := by
  blk_simp [iblk]
  rw [V_main_arg1]
  refine congrArg (m _) ?_
  blk_ext [idx02 t, at4, pair]

/-- What the columns of half `p` add to an entry of the product. -/
def part (c : Dev nD) (p : Fin 2) (r : Fin 4096) (j : Fin 1024) : EReal := ∑ k : Fin 2048, xArg m c r (inHalf p k) * wArg m c (inHalf p k) j

/-- The call's entry: the product and the skip connection. -/
def down (c : Dev nD) (r : Fin 4096) (j : Fin 1024) : EReal := mul (xArg m c) (wArg m c) r j + hArg m c r j

theorem part_sum (c : Dev nD) (r : Fin 4096) (j : Fin 1024) : part m c 0 r j + part m c 1 r j = mul (xArg m c) (wArg m c) r j :=
  (sum_halves fun k => xArg m c r k * wArg m c k j).symm

/-! ## What the points leave -/

/-- After a row's first point: what the first half adds. -/
theorem first (c : Dev nD) (t : Fin cfg0.N) (h : t.val % 2 = 0) (r z : Fin 1024) :
    (outsAt0 (F := Ideal) m c t.val t.isLt).2 (ix2 r z) = part m c 0 (at4 (pair t.val t.isLt) r) z := by
  have e : (outsAt0 (F := Ideal) m c t.val t.isLt).2 (ix2 r z)
      = mul (fun (r : Fin 1024) (k : Fin 2048) => iblk m c 0 t (ix2 r k)) (fun k z => iblk m c 1 t (ix4 (shard2 k) 0 (place2 k) z)) r z := by
    rw [outsAt0_A m c t h (by omega)]
    dsimp only
    frame_out
    pointwise [k0_pay2, k0_pay1]
    rfl
  rw [e]
  simp only [blk0, blk1, show half t.val = 0 from Fin.ext h]
  rfl

/-- A row's second point adds the second half and the skip connection. -/
theorem second (c : Dev nD) (t : Fin cfg0.N) (h : t.val % 2 = 1) (r z : Fin 1024) :
    (outsAt0 (F := Ideal) m c t.val t.isLt).1 (ix2 r z) = down m c (at4 (pair t.val t.isLt) r) z := by
  have ha := first m c ⟨t.val - 1, Nat.lt_of_le_of_lt (Nat.sub_le _ _) t.isLt⟩ (by dsimp only; omega) r z
  have e : (outsAt0 (F := Ideal) m c t.val t.isLt).1 (ix2 r z)
      = ((outsAt0 (F := Ideal) m c (t.val - 1) (Nat.lt_of_le_of_lt (Nat.sub_le _ _) t.isLt)).2 (ix2 r z)
        + mul (fun (r : Fin 1024) (k : Fin 2048) => iblk m c 0 t (ix2 r k)) (fun k z => iblk m c 1 t (ix4 (shard2 k) 0 (place2 k) z)) r z)
        + iblk m c 2 t (ix2 r z : S1024x1024.Idx) := by
    rw [outsAt0_B m c t (by omega) h]
    dsimp only
    generalize (outsAt0 (F := Ideal) m c (t.val - 1) (Nat.lt_of_le_of_lt (Nat.sub_le _ _) t.isLt)).2 = xs
    frame_out
    pointwise [k0_pay3, k0_pay2, k0_pay1]
    rw [read_unread_whole]
    rfl
  rw [e, ha, down, ← part_sum]
  simp only [blk0, blk1, blk2, show half t.val = 1 from Fin.ext h, show pair (t.val - 1) (by have : t.val < 8 := t.isLt; omega) = pair t.val t.isLt from Fin.ext (by simp only [pair]; omega)]
  rfl

/-! ## The array after the run -/

theorem arr (c : Dev nD) : (dats (F := Ideal) m 0 c).arrAt 3 cfg0.N = fun i : S4096x1024.Idx => down m c (i 0) (i 1) := by
  refine (dats m 0 c).arrAt_eq_of_covers 3 _ (by decide +kernel) fun t hf y => ?_
  blk_simp
  rw [after0_3]
  obtain ⟨r, z, rfl⟩ : ∃ r z, y = (ix2 r z : S1024x1024.Idx) := ⟨y 0, y 1, eq_ix2 y⟩
  rw [second m c t ((flush0_3 t).mp hf)]
  have e0 : (win0_3.blk t).view.emb (ix2 r z) 0 = at4 (pair t.val t.isLt) r := Fin.ext (by blk_simp [idx03 t]; simp [at4, pair, ix2])
  have e1 : (win0_3.blk t).view.emb (ix2 r z) 1 = z := Fin.ext (by blk_simp [idx03 t])
  simp only [e0, e1]

end Cert.Down1Ideal.Arr
-- ==== Proof.DownRef1Val.lean ====
module

public import proofs.«01_k».proof.Proof.Gen.DownRef1Ideal.Run
public import proofs.«01_k».proof.Proof.DownSpec
public import Idealize.ShloMosaic.Lib.Tactic
public import Idealize.ShloMosaic.Lib.Pointwise
public import Idealize.ShloMosaic.Lib.ValueIdx

@[expose] public section

set_option maxRecDepth 16384

noncomputable section

/-! The reference of the second product of the pointwise network, second layer, entry by entry. -/

namespace Cert.DownRef1Ideal.Val

open Cert.DownRef1Ideal Cert.DownRef1Ideal.Gen Idealize.ShloMosaic Idealize.ShloMosaic.TcCoe Idealize.SL.Sem
open Cert.MlpVal Cert.ProdVal Cert.DownVal

variable (m : (ℓ : Loc nD τ sig) → Buf (Elt Ideal) ℓ)

/-- The arguments, entry by entry: the hidden layer, the skip connection and this layer's weight. -/
def xArg (c : Dev nD) (r : Fin 4096) (k : Fin 4096) : EReal := m ((c.tc : Thread nD τ).loc main_arg0) (ix2 r k)
def hArg (c : Dev nD) (r : Fin 4096) (k : Fin 1024) : EReal := m ((c.tc : Thread nD τ).loc main_arg1) (ix2 r k)
def wArg (c : Dev nD) (k : Fin 4096) (j : Fin 1024) : EReal := m ((c.tc : Thread nD τ).loc main_arg2) (ix3 1 k j)

/-- The hidden layer in the wide format, and this layer's part of the weight. -/
def wide (x : FVec Ideal S4096x4096 .bf16) : FVec Ideal S4096x4096 .f32 := extf (F := Ideal) .f32 x bitsLt_bf16_f32
def layer (x : FVec Ideal S2x4096x1024 .f32) : FVec Ideal S4096x1024 .f32 :=
  shapeCast S4096x1024 (extractStridedSlice S1x4096x1024 ![1, 0, 0] x slices_S2x4096x1024_S1x4096x1024_1_0_0) shapeCasts_S1x4096x1024_S4096x1024

/-- The product and the skip connection. -/
def downOut (x : FVec Ideal S4096x4096 .bf16) (h : FVec Ideal S4096x1024 .f32) (w : FVec Ideal S2x4096x1024 .f32) : FVec Ideal S4096x1024 .f32 :=
  addf h (Host.dotGeneral (F := Ideal) dot_S4096x4096_S4096x1024_S4096x1024_1_0_0_1_n_n none (wide x) (layer w))

theorem layer_apply (x : FVec Ideal S2x4096x1024 .f32) (k : Fin 4096) (j : Fin 1024) : layer x (ix2 k j) = x (ix3 1 k j) := by
  pointwise [layer]

theorem wide_apply (x : FVec Ideal S4096x4096 .bf16) (r k : Fin 4096) : (wide x (ix2 r k) : EReal) = x (ix2 r k) := by
  pointwise [wide]

theorem downOut_apply (x : FVec Ideal S4096x4096 .bf16) (h : FVec Ideal S4096x1024 .f32) (w : FVec Ideal S2x4096x1024 .f32) (r : Fin 4096) (j : Fin 1024) :
    (downOut x h w (ix2 r j) : EReal) = mul (fun (r k : Fin 4096) => x (ix2 r k)) (fun (k : Fin 4096) (j : Fin 1024) => w (ix3 1 k j)) r j + h (ix2 r j) := by
  have e : (downOut x h w (ix2 r j) : EReal) = h (ix2 r j) + ∑ k : Fin 4096, wide x (ix2 r k) * layer w (ix2 k j) := by pointwise [downOut]
  rw [e, add_comm]
  simp only [layer_apply, wide_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v4) = downOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.DownRef1Ideal.Val
-- ==== Proof.Down1Claim.lean ====
module

public import proofs.«01_k».proof.Defs
public import proofs.«01_k».proof.Proof.Gen.Down1
public import proofs.«01_k».proof.Proof.Down1Arr
public import proofs.«01_k».proof.Proof.DownRef1Val
public import Idealize.ShloMosaic.Lib.Quiescent

@[expose] public section

set_option maxRecDepth 16384

noncomputable section

/-! The second product of the pointwise network, second layer. -/

namespace Cert.Down1Claim

open Idealize.ShloMosaic Idealize.ShloMosaic.TcCoe Idealize.SL.Sem
open Cert.MlpVal Cert.ProdVal Cert.DownVal

/-- The reference's run leaves its arguments and its counters as they were. -/
theorem reference_frame : Cert.quiescent_DownRef1Ideal := by
  intro m g _
  refine (θ_run Cert.DownRef1Ideal.defs _ _).mono (fun r h => ⟨fun c => (h c).2, ?_⟩) (Cert.DownRef1Ideal.Val.run m g)
  exact sem_eq_zero_of_no_sems (by decide) r.2

/-- The calls' results are the reference's. -/
theorem algebraic : Cert.algebraic_Down1Ideal_DownRef1Ideal := by
  intro m g m' g' _ hm
  have hx (c) : Cert.DownRef1Ideal.Val.xArg m' c = Cert.Down1Ideal.Arr.xArg m c :=
    funext fun r => funext fun k => congrFun (hm c).1 (ix2 r k)
  have hh (c) : Cert.DownRef1Ideal.Val.hArg m' c = Cert.Down1Ideal.Arr.hArg m c :=
    funext fun r => funext fun k => congrFun (hm c).2.1 (ix2 r k)
  have hw (c) : Cert.DownRef1Ideal.Val.wArg m' c = Cert.Down1Ideal.Arr.wArg m c :=
    funext fun k => funext fun j => congrFun (hm c).2.2 (ix3 1 k j)
  have hdown (c) (a : Fin 4096) (b : Fin 1024) :
      mul (Cert.DownRef1Ideal.Val.xArg m' c) (Cert.DownRef1Ideal.Val.wArg m' c) a b + Cert.DownRef1Ideal.Val.hArg m' c a b = Cert.Down1Ideal.Arr.down m c a b := by
    rw [hx, hh, hw]
    rfl
  refine ⟨_, Cert.Down1Ideal.Value.run_blocks m g, ?_⟩
  refine (θ_run Cert.DownRef1Ideal.defs _ _).mono (fun r h c => ?_) (Cert.DownRef1Ideal.Val.run m' g')
  obtain ⟨h0, ha⟩ := h c
  refine ⟨h0.trans ?_, ha⟩
  · funext i
    obtain ⟨a, b, rfl⟩ : ∃ a b, i = (ix2 a b : Cert.Down1Ideal.S4096x1024.Idx) := ⟨i 0, i 1, eq_ix2 i⟩
    refine (Cert.DownRef1Ideal.Val.downOut_apply _ _ _ a b).trans ?_
    refine Eq.trans ?_ (congrFun (Cert.Down1Ideal.Arr.arr m c) (ix2 a b)).symm
    refine Eq.trans ?_ (hdown c a b)
    rfl

end Cert.Down1Claim
-- ==== Proof.Down0Arr.lean ====
module

public import proofs.«01_k».proof.Proof.Gen.Down0Ideal.Value
public import proofs.«01_k».proof.Proof.DownSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The second product of the pointwise network, first layer, with the skip connection and the next block's norm: what the call leaves, tile by tile. -/

namespace Cert.Down0Ideal.Arr

open Cert.Down0Ideal Cert.Down0Ideal.Gen Idealize.ShloMosaic Idealize.ShloMosaic.TcCoe Idealize.SL.Sem Idealize.ShloMosaic.StableHlo
open Idealize.ShloMosaic.Pipeline (Dat)
open Cert.MlpVal Cert.ProdVal Cert.DownVal

/-! ## Where the blocks lie -/

theorem idx00 : ∀ t : Fin cfg0.N, win0_0.index t = ![t.val / 2, t.val % 2] := (by decide +kernel : ∀ t : Fin grid0.N, _)
theorem idx01 : ∀ t : Fin cfg0.N, win0_1.index t = ![t.val % 2, 0, 0, 0] := (by decide +kernel : ∀ t : Fin grid0.N, _)
theorem idx02 : ∀ t : Fin cfg0.N, win0_2.index t = ![t.val / 2, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val / 2, 0] := (by decide +kernel : ∀ t : Fin grid0.N, _)
theorem idx05 : ∀ t : Fin cfg0.N, win0_5.index t = ![t.val / 2, 0] := (by decide +kernel : ∀ t : Fin grid0.N, _)

variable (m : (ℓ : Loc nD τ sig) → Buf (Elt Ideal) ℓ)

/-- The arguments, entry by entry: the hidden layer, the skip connection and this layer's weight, and the next block's gain. -/
def xArg (c : Dev nD) (r : Fin 4096) (k : Fin 4096) : EReal := m ((c : Thread nD τ).loc main_arg0) (ix2 r k)
def hArg (c : Dev nD) (r : Fin 4096) (k : Fin 1024) : EReal := m ((c : Thread nD τ).loc main_arg1) (ix2 r k)
def wArg (c : Dev nD) (k : Fin 4096) (j : Fin 1024) : EReal := m ((c : Thread nD τ).loc main_arg2) (ix3 0 k j)
def gArg (c : Dev nD) (j : Fin 1024) : EReal := m ((c : Thread nD τ).loc main_arg3) (ix2 0 j)

/-- The weight as the call finds it: split over four shards. -/
theorem stack (c : Dev nD) :
    V (F := Ideal) m c main_v2 = transpose S4x2x1024x1024 [1, 0, 2, 3]
      (shapeCast S2x4x1024x1024 (truncf .bf16 (m ((c : Thread nD τ).loc main_arg2) : FVec Ideal S2x4096x1024 .f32) bitsLt_bf16_f32 : FVec Ideal S2x4096x1024 .bf16)
        shapeCasts_S2x4096x1024_S2x4x1024x1024) transposes_S2x4x1024x1024_S4x2x1024x1024_1_0_2_3 := by
  show StableHlo.after hostOps0 _ _ = _
  simp only [hostOps0]
  after_results <;> rfl

theorem stack_entry (c : Dev nD) (k : Fin 4096) (j : Fin 1024) :
    V (F := Ideal) m c main_v2 (ix4 (tileOf k) 0 (inTile k) j : S4x2x1024x1024.Idx) = wArg m c k j := by
  rw [stack]
  pointwise
  exact congrArg (fun x => m ((c : Thread nD τ).loc main_arg2) (ix3 0 x j)) (at4_tile k)

/-- The gain as the call finds it. -/
theorem gain (c : Dev nD) :
    V (F := Ideal) m c main_v4 = shapeCast S1x1024 (shapeCast S1024 (m ((c : Thread nD τ).loc main_arg3) : FVec Ideal S1x1024 .f32) shapeCasts_S1x1024_S1024)
      shapeCasts_S1024_S1x1024 := by
  show StableHlo.after hostOps0 _ _ = _
  simp only [hostOps0]
  after_results <;> rfl

theorem gain_entry (c : Dev nD) (z : Fin 1024) : V (F := Ideal) m c main_v4 (ix2 0 z : S1x1024.Idx) = gArg m c z := by
  rw [gain]
  pointwise
  rfl

/-! ## The blocks -/

theorem blk0 (c : Dev nD) (t : Fin cfg0.N) (r : Fin 1024) (k : Fin 2048) :
    iblk (F := Ideal) m c 0 t (ix2 r k : S1024x2048.Idx) = xArg m c (at4 (pair t.val t.isLt) r) (inHalf (half t.val) k) := by
  blk_simp [iblk]
  rw [V_main_arg0]
  refine congrArg (m _) ?_
  blk_ext [idx00 t, at4, pair, inHalf, half]

theorem blk1 (c : Dev nD) (t : Fin cfg0.N) (k : Fin 2048) (j : Fin 1024) :
    iblk (F := Ideal) m c 1 t (ix4 (shard2 k) 0 (place2 k) j : S2x1x1024x1024.Idx) = wArg m c (inHalf (half t.val) k) j := by
  refine Eq.trans ?_ (stack_entry m c (inHalf (half t.val) k) j)
  blk_simp [iblk]
  refine congrArg (V m c main_v2) ?_
  blk_ext [idx01 t, tileOf, inTile, inHalf, half, shard2, place2] <;> omega

theorem blk2 (c : Dev nD) (t : Fin cfg0.N) (r k : Fin 1024) :
    iblk (F := Ideal) m c 2 t (ix2 r k : S1024x1024.Idx) = hArg m c (at4 (pair t.val t.isLt) r) k := by
  blk_simp [iblk]
  rw [V_main_arg1]
  refine congrArg (m _) ?_
  blk_ext [idx02 t, at4, pair]

theorem blk3 (c : Dev nD) (t : Fin cfg0.N) (z : Fin 1024) :
    iblk (F := Ideal) m c 3 t (ix2 0 z : S1x1024.Idx) = gArg m c z := by
  refine Eq.trans ?_ (gain_entry m c z)
  blk_simp [iblk]
  refine congrArg (V m c main_v4) ?_
  blk_ext [idx03 t]

/-- What the columns of half `p` add to an entry of the product. -/
def part (c : Dev nD) (p : Fin 2) (r : Fin 4096) (j : Fin 1024) : EReal := ∑ k : Fin 2048, xArg m c r (inHalf p k) * wArg m c (inHalf p k) j

/-- The call's entry: the product and the skip connection. -/
def down (c : Dev nD) (r : Fin 4096) (j : Fin 1024) : EReal := mul (xArg m c) (wArg m c) r j + hArg m c r j

theorem part_sum (c : Dev nD) (r : Fin 4096) (j : Fin 1024) : part m c 0 r j + part m c 1 r j = mul (xArg m c) (wArg m c) r j :=
  (sum_halves fun k => xArg m c r k * wArg m c k j).symm

/-! ## What the points leave -/

/-- After a row's first point: what the first half adds. -/
theorem first (c : Dev nD) (t : Fin cfg0.N) (h : t.val % 2 = 0) (r z : Fin 1024) :
    (outsAt0 (F := Ideal) m c t.val t.isLt).2.2 (ix2 r z) = part m c 0 (at4 (pair t.val t.isLt) r) z := by
  have e : (outsAt0 (F := Ideal) m c t.val t.isLt).2.2 (ix2 r z)
      = mul (fun (r : Fin 1024) (k : Fin 2048) => iblk m c 0 t (ix2 r k)) (fun k z => iblk m c 1 t (ix4 (shard2 k) 0 (place2 k) z)) r z := by
    rw [outsAt0_A m c t h (by omega)]
    dsimp only
    frame_out
    pointwise [k0_pay2, k0_pay1]
    rfl
  rw [e]
  simp only [blk0, blk1, show half t.val = 0 from Fin.ext h]
  rfl

/-- A row's second point adds the second half and the skip connection. -/
theorem second (c : Dev nD) (t : Fin cfg0.N) (h : t.val % 2 = 1) (r z : Fin 1024) :
    (outsAt0 (F := Ideal) m c t.val t.isLt).1 (ix2 r z) = down m c (at4 (pair t.val t.isLt) r) z := by
  have ha := first m c ⟨t.val - 1, Nat.lt_of_le_of_lt (Nat.sub_le _ _) t.isLt⟩ (by dsimp only; omega) r z
  have e : (outsAt0 (F := Ideal) m c t.val t.isLt).1 (ix2 r z)
      = ((outsAt0 (F := Ideal) m c (t.val - 1) (Nat.lt_of_le_of_lt (Nat.sub_le _ _) t.isLt)).2.2 (ix2 r z)
        + mul (fun (r : Fin 1024) (k : Fin 2048) => iblk m c 0 t (ix2 r k)) (fun k z => iblk m c 1 t (ix4 (shard2 k) 0 (place2 k) z)) r z)
        + iblk m c 2 t (ix2 r z : S1024x1024.Idx) := by
    rw [outsAt0_B m c t (by omega) h]
    dsimp only
    generalize (outsAt0 (F := Ideal) m c (t.val - 1) (Nat.lt_of_le_of_lt (Nat.sub_le _ _) t.isLt)).2.2 = xs
    frame_out
    pointwise [k0_pay3, k0_pay2, k0_pay1]
    rw [read_unread_whole]
    rfl
  rw [e, ha, down, ← part_sum]
  simp only [blk0, blk1, blk2, show half t.val = 1 from Fin.ext h, show pair (t.val - 1) (by have : t.val < 8 := t.isLt; omega) = pair t.val t.isLt from Fin.ext (by simp only [pair]; omega)]
  rfl

/-- A row's second point leaves the normed row too. -/
theorem second_norm (c : Dev nD) (t : Fin cfg0.N) (h : t.val % 2 = 1) (r z : Fin 1024) :
    (outsAt0 (F := Ideal) m c t.val t.isLt).2.1 (ix2 r z) = normed (down m c (at4 (pair t.val t.isLt) r)) z (gArg m c z) := by
  have e : (outsAt0 (F := Ideal) m c t.val t.isLt).2.1 (ix2 r z)
      = normed (fun q => (outsAt0 (F := Ideal) m c t.val t.isLt).1 (ix2 r q)) z (iblk m c 3 t (ix2 0 z : S1x1024.Idx)) := by
    rw [outsAt0_B m c t (by omega) h]
    dsimp only
    generalize (outsAt0 (F := Ideal) m c (t.val - 1) (Nat.lt_of_le_of_lt (Nat.sub_le _ _) t.isLt)).2.2 = xs
    frame_out
    pointwise [k0_pay4, k0_pay3, k0_pay2, k0_pay1, normed]
    rfl
  rw [e, blk3]
  simp only [second m c t h]

/-! ## The array after the run -/

theorem arr (c : Dev nD) : (dats (F := Ideal) m 0 c).arrAt 4 cfg0.N = fun i : S4096x1024.Idx => down m c (i 0) (i 1) := by
  refine (dats m 0 c).arrAt_eq_of_covers 4 _ (by decide +kernel) fun t hf y => ?_
  blk_simp
  rw [after0_4]
  obtain ⟨r, z, rfl⟩ : ∃ r z, y = (ix2 r z : S1024x1024.Idx) := ⟨y 0, y 1, eq_ix2 y⟩
  rw [second m c t ((flush0_4 t).mp hf)]
  have e0 : (win0_4.blk t).view.emb (ix2 r z) 0 = at4 (pair t.val t.isLt) r := Fin.ext (by blk_simp [idx04 t]; simp [at4, pair, ix2])
  have e1 : (win0_4.blk t).view.emb (ix2 r z) 1 = z := Fin.ext (by blk_simp [idx04 t])
  simp only [e0, e1]

theorem arr_norm (c : Dev nD) :
    (dats (F := Ideal) m 0 c).arrAt 5 cfg0.N = fun i : S4096x1024.Idx => normed (down m c (i 0)) (i 1) (gArg m c (i 1)) := by
  refine (dats m 0 c).arrAt_eq_of_covers 5 _ (by decide +kernel) fun t hf y => ?_
  blk_simp
  rw [after0_5]
  obtain ⟨r, z, rfl⟩ : ∃ r z, y = (ix2 r z : S1024x1024.Idx) := ⟨y 0, y 1, eq_ix2 y⟩
  rw [second_norm m c t ((flush0_5 t).mp hf)]
  have e0 : (win0_5.blk t).view.emb (ix2 r z) 0 = at4 (pair t.val t.isLt) r := Fin.ext (by blk_simp [idx05 t]; simp [at4, pair, ix2])
  have e1 : (win0_5.blk t).view.emb (ix2 r z) 1 = z := Fin.ext (by blk_simp [idx05 t])
  simp only [e0, e1]

end Cert.Down0Ideal.Arr
-- ==== Proof.DownRef0Val.lean ====
module

public import proofs.«01_k».proof.Proof.Gen.DownRef0Ideal.Run
public import proofs.«01_k».proof.Proof.DownSpec
public import Idealize.ShloMosaic.Lib.Tactic
public import Idealize.ShloMosaic.Lib.Pointwise
public import Idealize.ShloMosaic.Lib.ValueIdx

@[expose] public section

set_option maxRecDepth 16384

noncomputable section

/-! The reference of the second product of the pointwise network, first layer, entry by entry. -/

namespace Cert.DownRef0Ideal.Val

open Cert.DownRef0Ideal Cert.DownRef0Ideal.Gen Idealize.ShloMosaic Idealize.ShloMosaic.TcCoe Idealize.SL.Sem
open Cert.MlpVal Cert.ProdVal Cert.DownVal

variable (m : (ℓ : Loc nD τ sig) → Buf (Elt Ideal) ℓ)

/-- The arguments, entry by entry: the hidden layer, the skip connection and this layer's weight, and the next block's gain. -/
def xArg (c : Dev nD) (r : Fin 4096) (k : Fin 4096) : EReal := m ((c.tc : Thread nD τ).loc main_arg0) (ix2 r k)
def hArg (c : Dev nD) (r : Fin 4096) (k : Fin 1024) : EReal := m ((c.tc : Thread nD τ).loc main_arg1) (ix2 r k)
def wArg (c : Dev nD) (k : Fin 4096) (j : Fin 1024) : EReal := m ((c.tc : Thread nD τ).loc main_arg2) (ix3 0 k j)
def gArg (c : Dev nD) (j : Fin 1024) : EReal := m ((c.tc : Thread nD τ).loc main_arg3) (ix2 0 j)

/-- The hidden layer in the wide format, and this layer's part of the weight. -/
def wide (x : FVec Ideal S4096x4096 .bf16) : FVec Ideal S4096x4096 .f32 := extf (F := Ideal) .f32 x bitsLt_bf16_f32
def layer (x : FVec Ideal S2x4096x1024 .f32) : FVec Ideal S4096x1024 .f32 :=
  shapeCast S4096x1024 (extractStridedSlice S1x4096x1024 ![0, 0, 0] x slices_S2x4096x1024_S1x4096x1024_0_0_0) shapeCasts_S1x4096x1024_S4096x1024

/-- The product and the skip connection. -/
def downOut (x : FVec Ideal S4096x4096 .bf16) (h : FVec Ideal S4096x1024 .f32) (w : FVec Ideal S2x4096x1024 .f32) : FVec Ideal S4096x1024 .f32 :=
  addf h (Host.dotGeneral (F := Ideal) dot_S4096x4096_S4096x1024_S4096x1024_1_0_0_1_n_n none (wide x) (layer w))

theorem layer_apply (x : FVec Ideal S2x4096x1024 .f32) (k : Fin 4096) (j : Fin 1024) : layer x (ix2 k j) = x (ix3 0 k j) := by
  pointwise [layer]

theorem wide_apply (x : FVec Ideal S4096x4096 .bf16) (r k : Fin 4096) : (wide x (ix2 r k) : EReal) = x (ix2 r k) := by
  pointwise [wide]

theorem downOut_apply (x : FVec Ideal S4096x4096 .bf16) (h : FVec Ideal S4096x1024 .f32) (w : FVec Ideal S2x4096x1024 .f32) (r : Fin 4096) (j : Fin 1024) :
    (downOut x h w (ix2 r j) : EReal) = mul (fun (r k : Fin 4096) => x (ix2 r k)) (fun (k : Fin 4096) (j : Fin 1024) => w (ix3 0 k j)) r j + h (ix2 r j) := by
  have e : (downOut x h w (ix2 r j) : EReal) = h (ix2 r j) + ∑ k : Fin 4096, wide x (ix2 r k) * layer w (ix2 k j) := by pointwise [downOut]
  rw [e, add_comm]
  simp only [layer_apply, wide_apply]
  rfl

/-- A row's root mean square, and the normed rows. -/
def rootOut (y : FVec Ideal S4096x1024 .f32) : FVec Ideal S4096x1 .f32 :=
  Host.rsqrt (addf (Host.divf (broadcastInDim S4096x1 ![0] bcast_S4096_S4096x1_0
      (Host.reduceAdd (mulf y y) (constant (F := Ideal) S_ .f32 0x00000000#32) reducesTo_S4096x1024_S4096_d1 h_S_))
    (broadcastInDim S4096x1 ![] bcast_S_S4096x1 (constant (F := Ideal) S_ .f32 0x44800000#32)))
    (broadcastInDim S4096x1 ![] bcast_S_S4096x1 (constant (F := Ideal) S_ .f32 0x358637BD#32)))
def normOut (y : FVec Ideal S4096x1024 .f32) (g : FVec Ideal S1x1024 .f32) : FVec Ideal S4096x1024 .bf16 :=
  truncf .bf16 (mulf (mulf y (broadcastInDim S4096x1024 ![0, 1] bcast_S4096x1_S4096x1024_0_1 (rootOut y)))
    (broadcastInDim S4096x1024 ![0, 1] bcast_S1x1024_S4096x1024_0_1 (broadcastInDim S1x1024 ![1] bcast_S1024_S1x1024_1 (shapeCast S1024 g shapeCasts_S1x1024_S1024)))) bitsLt_bf16_f32

theorem rootOut_apply (y : FVec Ideal S4096x1024 .f32) (r : Fin 4096) :
    (rootOut y (ix2 r 0) : EReal) = Ideal.rsqrt (Ideal.div (∑ q : Fin 1024, y (ix2 r q) * y (ix2 r q)) width + small) := by
  pointwise [rootOut]
  rfl

theorem normOut_apply (y : FVec Ideal S4096x1024 .f32) (g : FVec Ideal S1x1024 .f32) (r : Fin 4096) (z : Fin 1024) :
    (normOut y g (ix2 r z) : EReal) = normed (fun q => y (ix2 r q)) z (g (ix2 0 z)) := by
  have e : (normOut y g (ix2 r z) : EReal) = y (ix2 r z) * rootOut y (ix2 r 0) * g (ix2 0 z) := by pointwise [normOut]
  rw [e, rootOut_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v4) = downOut (m ((c.tc : Thread nD τ).loc main_arg0)) (m ((c.tc : Thread nD τ).loc main_arg1)) (m ((c.tc : Thread nD τ).loc main_arg2))
      ∧ r.2.mem ((c.tc : Thread nD τ).loc main_v19) = normOut (downOut (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.DownRef0Ideal.Val
-- ==== Proof.Down0Claim.lean ====
module

public import proofs.«01_k».proof.Defs
public import proofs.«01_k».proof.Proof.Gen.Down0
public import proofs.«01_k».proof.Proof.Down0Arr
public import proofs.«01_k».proof.Proof.DownRef0Val
public import Idealize.ShloMosaic.Lib.Quiescent

@[expose] public section

set_option maxRecDepth 16384

noncomputable section

/-! The second product of the pointwise network, first layer. -/

namespace Cert.Down0Claim

open Idealize.ShloMosaic Idealize.ShloMosaic.TcCoe Idealize.SL.Sem
open Cert.MlpVal Cert.ProdVal Cert.DownVal

/-- The reference's run leaves its arguments and its counters as they were. -/
theorem reference_frame : Cert.quiescent_DownRef0Ideal := by
  intro m g _
  refine (θ_run Cert.DownRef0Ideal.defs _ _).mono (fun r h => ⟨fun c => (h c).2.2, ?_⟩) (Cert.DownRef0Ideal.Val.run m g)
  exact sem_eq_zero_of_no_sems (by decide) r.2

/-- The calls' results are the reference's. -/
theorem algebraic : Cert.algebraic_Down0Ideal_DownRef0Ideal := by
  intro m g m' g' _ hm
  have hx (c) : Cert.DownRef0Ideal.Val.xArg m' c = Cert.Down0Ideal.Arr.xArg m c :=
    funext fun r => funext fun k => congrFun (hm c).1 (ix2 r k)
  have hh (c) : Cert.DownRef0Ideal.Val.hArg m' c = Cert.Down0Ideal.Arr.hArg m c :=
    funext fun r => funext fun k => congrFun (hm c).2.1 (ix2 r k)
  have hw (c) : Cert.DownRef0Ideal.Val.wArg m' c = Cert.Down0Ideal.Arr.wArg m c :=
    funext fun k => funext fun j => congrFun (hm c).2.2.1 (ix3 0 k j)
  have hg (c) : Cert.DownRef0Ideal.Val.gArg m' c = Cert.Down0Ideal.Arr.gArg m c :=
    funext fun j => congrFun (hm c).2.2.2 (ix2 0 j)
  have hdown (c) (a : Fin 4096) (b : Fin 1024) :
      mul (Cert.DownRef0Ideal.Val.xArg m' c) (Cert.DownRef0Ideal.Val.wArg m' c) a b + Cert.DownRef0Ideal.Val.hArg m' c a b = Cert.Down0Ideal.Arr.down m c a b := by
    rw [hx, hh, hw]
    rfl
  refine ⟨_, _, Cert.Down0Ideal.Value.run_blocks m g, ?_⟩
  refine (θ_run Cert.DownRef0Ideal.defs _ _).mono (fun r h c => ?_) (Cert.DownRef0Ideal.Val.run m' g')
  obtain ⟨h0, h1, ha⟩ := h c
  refine ⟨h0.trans ?_, h1.trans ?_, ha⟩
  · funext i
    obtain ⟨a, b, rfl⟩ : ∃ a b, i = (ix2 a b : Cert.Down0Ideal.S4096x1024.Idx) := ⟨i 0, i 1, eq_ix2 i⟩
    refine (Cert.DownRef0Ideal.Val.downOut_apply _ _ _ a b).trans ?_
    refine Eq.trans ?_ (congrFun (Cert.Down0Ideal.Arr.arr m c) (ix2 a b)).symm
    refine Eq.trans ?_ (hdown c a b)
    rfl
  · funext i
    obtain ⟨a, b, rfl⟩ : ∃ a b, i = (ix2 a b : Cert.Down0Ideal.S4096x1024.Idx) := ⟨i 0, i 1, eq_ix2 i⟩
    refine (Cert.DownRef0Ideal.Val.normOut_apply _ _ a b).trans ?_
    refine Eq.trans ?_ (congrFun (Cert.Down0Ideal.Arr.arr_norm m c) (ix2 a b)).symm
    refine congrArg₂ (fun y g => normed y b g) (funext fun q => ?_) (congrFun (hg c) b)
    refine (Cert.DownRef0Ideal.Val.downOut_apply _ _ _ a q).trans ?_
    exact hdown c a q

end Cert.Down0Claim
-- ==== Proof.NormSpec.lean ====
module

public import proofs.«01_k».proof.Proof.MlpSpec
public import proofs.«01_k».proof.Proof.ProdSpec
public import proofs.«01_k».proof.Proof.DownSpec

@[expose] public section

set_option maxRecDepth 16384

noncomputable section

/-! The gradient of the root-mean-square norm as the calls compute it and as differentiation gives it, and their agreement. -/

namespace Cert.NormVal

open Idealize.ShloMosaic Cert.MlpVal Cert.ProdVal Cert.DownVal

/-- The mean square of a row with the small term, and one over its root. -/
def square (y : Fin 1024 → EReal) : EReal := Ideal.div (∑ q, y q * y q) width + small
def root (y : Fin 1024 → EReal) : EReal := Ideal.rsqrt (square y)

/-- The constant minus one half. -/
def minusHalf : EReal := Ideal.ofBits .f32 0xBF000000#32

theorem width_eq : width = ((1024 : ℝ) : EReal) := by
  simp [width, Ideal.ofBits, Ideal.ieee, -EReal.coe_mul] <;> norm_num

theorem minusHalf_eq : minusHalf = (((-1 / 2 : ℝ)) : EReal) := by
  simp [minusHalf, Ideal.ofBits, Ideal.ieee, -EReal.coe_mul] <;> norm_num

theorem small_pos : 0 < small := by
  simp [small, Ideal.ofBits, Ideal.ieee, -EReal.coe_mul] <;> norm_num

theorem div_width (s : EReal) : Ideal.div s width = s * width⁻¹ := by
  rw [Ideal.div, if_neg]
  rw [width_eq]
  exact_mod_cast (by norm_num : (1024 : ℝ) ≠ 0)

/-- The square of an extended real is not negative. -/
theorem sq_nonneg (x : EReal) : 0 ≤ x * x := by
  induction x using EReal.rec with
  | bot => simp
  | top => simp
  | coe a => exact_mod_cast mul_self_nonneg a

theorem square_pos (y : Fin 1024 → EReal) : 0 < square y := by
  have h : 0 ≤ Ideal.div (∑ q, y q * y q) width := by
    rw [div_width]
    refine mul_nonneg (Finset.sum_nonneg fun q _ => sq_nonneg (y q)) ?_
    rw [width_eq, ← EReal.coe_inv]
    exact_mod_cast (by norm_num : (0 : ℝ) ≤ (1024 : ℝ)⁻¹)
  rw [square]
  exact lt_of_lt_of_le small_pos (le_add_of_nonneg_left h)

/-- Of a positive extended real, one over the root is finite and not negative, and divided by the argument it is its cube. -/
theorem rsqrt_facts (v : EReal) (hv : 0 < v) :
    0 ≤ Ideal.rsqrt v ∧ Ideal.rsqrt v ≠ ⊤ ∧ Ideal.div (Ideal.rsqrt v) v = Ideal.rsqrt v * Ideal.rsqrt v * Ideal.rsqrt v := by
  induction v using EReal.rec with
  | bot => simp at hv
  | top => simp [Ideal.rsqrt_top, Ideal.div]
  | coe x =>
    have hx : 0 < x := EReal.coe_pos.mp hv
    have hr : Ideal.rsqrt (x : EReal) = (((Real.sqrt x)⁻¹ : ℝ) : EReal) := by
      rw [Ideal.rsqrt_coe, if_neg (not_lt.mpr hx.le), if_neg hx.ne']
    rw [hr]
    refine ⟨EReal.coe_nonneg.mpr (inv_nonneg.mpr (Real.sqrt_nonneg x)), EReal.coe_ne_top _, ?_⟩
    rw [Ideal.div, if_neg (by exact_mod_cast hx.ne'), ← EReal.coe_inv, ← EReal.coe_mul, ← EReal.coe_mul, ← EReal.coe_mul, mul_assoc]
    congr 2
    rw [← mul_inv, Real.mul_self_sqrt hx.le]

theorem root_nonneg (y : Fin 1024 → EReal) : 0 ≤ root y := (rsqrt_facts _ (square_pos y)).1
theorem root_ne_top (y : Fin 1024 → EReal) : root y ≠ ⊤ := (rsqrt_facts _ (square_pos y)).2.1

theorem mul_root_add (y : Fin 1024 → EReal) (a b : EReal) : root y * (a + b) = root y * a + root y * b :=
  EReal.left_distrib_of_nonneg_of_ne_top (root_nonneg y) (root_ne_top y) a b

theorem sum_mul_root (y : Fin 1024 → EReal) {ι : Type} (s : Finset ι) (f : ι → EReal) : ∑ q ∈ s, f q * root y = (∑ q ∈ s, f q) * root y := by
  classical
  induction s using Finset.induction_on with
  | empty => simp
  | insert a s ha ih =>
    rw [Finset.sum_insert ha, Finset.sum_insert ha, ih, mul_comm _ (root y), mul_comm _ (root y), mul_comm _ (root y), mul_root_add]

/-- Minus one half of a number twice is minus the number. -/
theorem minusHalf_twice (q : EReal) : minusHalf * q + minusHalf * q = -q := by
  rw [minusHalf_eq]
  induction q using EReal.rec with
  | bot => rw [EReal.coe_mul_bot_of_neg (by norm_num)]; rfl
  | top => rw [EReal.coe_mul_top_of_neg (by norm_num)]; rfl
  | coe x =>
    rw [← EReal.coe_mul, ← EReal.coe_add, ← EReal.coe_neg]
    congr 1
    ring

/-- The gradient reaching a normed row's input as the calls compute it: `d` is the incoming gradient, `y` the row, `g` the gain. -/
def normBack (d y g : Fin 1024 → EReal) (z : Fin 1024) : EReal :=
  root y * (d z * g z - y z * root y * Ideal.div (∑ q, d q * g q * (y q * root y)) width)

/-- The gradient passed by and the one through the norm, and a row as the norm leaves it before the gain. -/
def withBack (h : EReal) (d y g : Fin 1024 → EReal) (z : Fin 1024) : EReal := h + normBack d y g z
def normRow (y : Fin 1024 → EReal) (z : Fin 1024) : EReal := y z * root y

/-- What differentiation makes of the mean under the root, of one row. -/
def slope (d y g : Fin 1024 → EReal) : EReal :=
  Ideal.div ((∑ q, y q * (d q * g q)) * (minusHalf * Ideal.div (root y) (square y))) width

/-- The two agree: the mean's gradient comes twice with minus one half. -/
theorem normBack_eq (h : EReal) (d y g : Fin 1024 → EReal) (z : Fin 1024) :
    h + d z * g z * root y + y z * slope d y g + slope d y g * y z = h + normBack d y g z := by
  have hs : ∑ q, d q * g q * (y q * root y) = (∑ q, y q * (d q * g q)) * root y := by
    rw [← sum_mul_root]
    exact Finset.sum_congr rfl fun q _ => by ac_rfl
  have hc : Ideal.div (root y) (square y) = root y * root y * root y := (rsqrt_facts _ (square_pos y)).2.2
  rw [normBack, slope, hs, hc, div_width, div_width, sub_eq_add_neg, mul_root_add, mul_neg, mul_comm (_ * width⁻¹) (y z), add_assoc, add_assoc]
  generalize ∑ q, y q * (d q * g q) = D
  generalize root y = r
  have hq : y z * (D * (minusHalf * (r * r * r)) * width⁻¹) = minusHalf * (r * (y z * r * (D * r * width⁻¹))) := by ac_rfl
  rw [hq, minusHalf_twice, mul_comm (d z * g z) r]

/-- A sum over 4096 places in four tiles, over 2048 in four and over 1024 in four. -/
theorem sum_at4 (f : Fin 4096 → EReal) : ∑ j, f j = ∑ p : Fin 4, ∑ r : Fin 1024, f (at4 p r) := by
  rw [← Fintype.sum_prod_type']
  exact (Fintype.sum_equiv ⟨fun x : Fin 4 × Fin 1024 => at4 x.1 x.2, fun j => (tileOf j, inTile j),
    fun x => Prod.ext (tileOf_at4 _ _) (inTile_at4 _ _), at4_tile⟩ _ _ fun _ => rfl).symm

theorem sum_at512 (f : Fin 2048 → EReal) : ∑ j, f j = ∑ p : Fin 4, ∑ r : Fin 512, f (at512 p r) := by
  rw [← Fintype.sum_prod_type']
  exact (Fintype.sum_equiv ⟨fun x : Fin 4 × Fin 512 => at512 x.1 x.2, fun j => (tile512 j, in512 j),
    fun x => Prod.ext (tile512_at _ _) (in512_at _ _), at512_tile⟩ _ _ fun _ => rfl).symm

/-- The gradient of the gain: the sum over the rows of the incoming gradient against the normed rows. -/
def gainBack (d y : Fin 4096 → Fin 1024 → EReal) (z : Fin 1024) : EReal := ∑ r : Fin 4096, d r z * (y r z * root (y r))

/-- The part of a row of tiles. -/
def gainPart (d y : Fin 4096 → Fin 1024 → EReal) (p : Fin 4) (z : Fin 1024) : EReal :=
  ∑ r : Fin 1024, d (at4 p r) z * (y (at4 p r) z * root (y (at4 p r)))

theorem gainBack_parts (d y : Fin 4096 → Fin 1024 → EReal) (z : Fin 1024) :
    gainPart d y 0 z + gainPart d y 1 z + gainPart d y 2 z + gainPart d y 3 z = gainBack d y z := by
  rw [gainBack, sum_at4, Fin.sum_univ_four]
  rfl

end Cert.NormVal
-- ==== Proof.Mdn0Arr.lean ====
module

public import proofs.«01_k».proof.Proof.Gen.Mdn0Ideal.Value
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The gradient of the squared-ReLU network's input through the norm before it, first layer: what the call leaves, tile by tile. -/

namespace Cert.Mdn0Ideal.Arr

open Cert.Mdn0Ideal Cert.Mdn0Ideal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val / 4, t.val % 4] := (by decide +kernel : ∀ t : Fin grid0.N, _)
theorem idx01 : ∀ t : Fin cfg0.N, win0_1.index t = ![t.val % 4, 0, 0, 0] := (by decide +kernel : ∀ t : Fin grid0.N, _)
theorem idx02 : ∀ t : Fin cfg0.N, win0_2.index t = ![t.val / 4, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val / 4, 0] := (by decide +kernel : ∀ t : Fin grid0.N, _)
theorem idx05 : ∀ t : Fin cfg0.N, win0_5.index t = ![t.val / 4, 0] := (by decide +kernel : ∀ t : Fin grid0.N, _)
theorem idx06 : ∀ t : Fin cfg0.N, win0_6.index t = ![t.val / 4, 0] := (by decide +kernel : ∀ t : Fin grid0.N, _)
theorem idx07 : ∀ t : Fin cfg0.N, win0_7.index t = ![0, 0] := (by decide +kernel : ∀ t : Fin grid0.N, _)

variable (m : (ℓ : Loc nD τ sig) → Buf (Elt Ideal) ℓ)

/-- The arguments, entry by entry: the incoming gradient, the norm's input, its gain, the gradient passed by, and the weight. -/
def ctArg (c : Dev nD) (r : Fin 4096) (k : Fin 4096) : EReal := m ((c : Thread nD τ).loc main_arg0) (ix2 r k)
def hArg (c : Dev nD) (r : Fin 4096) (j : Fin 1024) : EReal := m ((c : Thread nD τ).loc main_arg1) (ix2 r j)
def gArg (c : Dev nD) (j : Fin 1024) : EReal := m ((c : Thread nD τ).loc main_arg2) (ix2 0 j)
def dhArg (c : Dev nD) (r : Fin 4096) (j : Fin 1024) : EReal := m ((c : Thread nD τ).loc main_arg3) (ix2 r j)
def wArg (c : Dev nD) (j : Fin 1024) (k : Fin 4096) : EReal := m ((c : Thread nD τ).loc main_arg4) (ix3 0 j k)

/-- The weight as the call finds it: split over four shards. -/
theorem stack (c : Dev nD) :
    V (F := Ideal) m c main_v2 = transpose S4x2x1024x1024 [2, 0, 1, 3]
      (shapeCast S2x1024x4x1024 (truncf .bf16 (m ((c : Thread nD τ).loc main_arg4) : FVec Ideal S2x1024x4096 .f32) bitsLt_bf16_f32 : FVec Ideal S2x1024x4096 .bf16)
        shapeCasts_S2x1024x4096_S2x1024x4x1024) transposes_S2x1024x4x1024_S4x2x1024x1024_2_0_1_3 := by
  show StableHlo.after hostOps0 _ _ = _
  simp only [hostOps0]
  after_results <;> rfl

theorem stack_entry (c : Dev nD) (j : Fin 1024) (k : Fin 4096) :
    V (F := Ideal) m c main_v2 (ix4 (tileOf k) 0 j (inTile k) : S4x2x1024x1024.Idx) = wArg m c j k := by
  rw [stack]
  pointwise
  exact congrArg (fun x => m ((c : Thread nD τ).loc main_arg4) (ix3 0 j x)) (at4_tile k)

/-- The gain as the call finds it. -/
theorem gain (c : Dev nD) :
    V (F := Ideal) m c main_v5 = shapeCast S1x1024 (shapeCast S1024 (extractStridedSlice S1x1024 ![0, 0] (m ((c : Thread nD τ).loc main_arg2) : FVec Ideal S2x1024 .f32) slices_S2x1024_S1x1024_0_0) shapeCasts_S1x1024_S1024)
      shapeCasts_S1024_S1x1024 := by
  show StableHlo.after hostOps0 _ _ = _
  simp only [hostOps0]
  after_results <;> rfl

theorem gain_entry (c : Dev nD) (z : Fin 1024) : V (F := Ideal) m c main_v5 (ix2 0 z : S1x1024.Idx) = gArg m c z := by
  rw [gain]
  pointwise
  rfl

/-! ## The blocks -/

theorem blk0 (c : Dev nD) (t : Fin cfg0.N) (r : Fin 1024) (k : Fin 1024) :
    iblk (F := Ideal) m c 0 t (ix2 r k : S1024x1024.Idx) = ctArg m c (at4 (pRow t.val t.isLt) r) (at4 (pCol t.val) k) := by
  blk_simp [iblk]
  rw [V_main_arg0]
  refine congrArg (m _) ?_
  blk_ext [idx00 t, at4, pCol, pRow]

theorem blk1 (c : Dev nD) (t : Fin cfg0.N) (j : Fin 1024) (k : Fin 1024) :
    iblk (F := Ideal) m c 1 t (ix4 0 0 j k : S1x1x1024x1024.Idx) = wArg m c j (at4 (pCol t.val) k) := by
  refine Eq.trans ?_ (stack_entry m c j (at4 (pCol t.val) k))
  rw [tileOf_at4, inTile_at4]
  blk_simp [iblk]
  refine congrArg (V m c main_v2) ?_
  blk_ext [idx01 t, pCol]

theorem blk2 (c : Dev nD) (t : Fin cfg0.N) (r j : Fin 1024) :
    iblk (F := Ideal) m c 2 t (ix2 r j : S1024x1024.Idx) = hArg m c (at4 (pRow t.val t.isLt) r) j := by
  blk_simp [iblk]
  rw [V_main_arg1]
  refine congrArg (m _) ?_
  blk_ext [idx02 t, at4, pRow]

theorem blk3 (c : Dev nD) (t : Fin cfg0.N) (z : Fin 1024) : iblk (F := Ideal) m c 3 t (ix2 0 z : S1x1024.Idx) = gArg m c z := by
  refine Eq.trans ?_ (gain_entry m c z)
  blk_simp [iblk]
  refine congrArg (V m c main_v5) ?_
  blk_ext [idx03 t]

theorem blk4 (c : Dev nD) (t : Fin cfg0.N) (r j : Fin 1024) :
    iblk (F := Ideal) m c 4 t (ix2 r j : S1024x1024.Idx) = dhArg m c (at4 (pRow t.val t.isLt) r) j := by
  blk_simp [iblk]
  rw [V_main_arg3]
  refine congrArg (m _) ?_
  blk_ext [idx04 t, at4, pRow]

/-- The gradient reaching the normed rows. -/
def dn (c : Dev nD) : Fin 4096 → Fin 1024 → EReal := mul (ctArg m c) (tr (wArg m c))

/-- The call's entry: the gradient passed by and the one through the norm. -/
def total (c : Dev nD) (r : Fin 4096) (z : Fin 1024) : EReal := dhArg m c r z + normBack (dn m c r) (hArg m c r) (gArg m c) z

/-- What the columns of step `p` add to an entry of that gradient. -/
def part (c : Dev nD) (p : Fin 4) (r : Fin 4096) (j : Fin 1024) : EReal := ∑ k : Fin 1024, ctArg m c r (at4 p k) * wArg m c j (at4 p k)

theorem part_sum (c : Dev nD) (r : Fin 4096) (j : Fin 1024) : part m c 0 r j + part m c 1 r j + part m c 2 r j + part m c 3 r j = dn m c r j := by
  rw [dn, mul, sum_at4, Fin.sum_univ_four]
  rfl

theorem step_part (c : Dev nD) (t : Fin cfg0.N) (p : Fin 4) (h : t.val % 4 = p.val) (r z : Fin 1024) :
    mul (fun (r : Fin 1024) (k : Fin 1024) => iblk m c 0 t (ix2 r k)) (fun k z => iblk m c 1 t (ix4 0 0 z k)) r z = part m c p (at4 (pRow t.val t.isLt) r) z := by
  simp only [blk0, blk1, show pCol t.val = p from Fin.ext h]
  rfl

/-! ## What the points leave -/

/-- A row's first point leaves what its step adds. -/
theorem first (c : Dev nD) (t : Fin cfg0.N) (h : t.val % 4 = 0) (r z : Fin 1024) :
    (outsAt0 (F := Ideal) m c t.val t.isLt).2.2.2 (ix2 r z) = part m c 0 (at4 (pRow t.val t.isLt) r) z := by
  have e : (outsAt0 (F := Ideal) m c t.val t.isLt).2.2.2 (ix2 r z) = mul (fun (r : Fin 1024) (k : Fin 1024) => iblk m c 0 t (ix2 r k)) (fun k z => iblk m c 1 t (ix4 0 0 z k)) r z := by
    rw [outsAt0_A m c t h (by omega)]
    dsimp only
    frame_out
    pointwise [k0_pay2, k0_pay1]
    rfl
  rw [e, step_part m c t 0 h]

/-- Each later point of a row adds its step. -/
theorem next (c : Dev nD) (t : Fin cfg0.N) (h : ¬t.val % 4 = 0) (h' : ¬t.val % 4 = 3) (r z : Fin 1024) :
    (outsAt0 (F := Ideal) m c t.val t.isLt).2.2.2 (ix2 r z) = (outsAt0 (F := Ideal) m c (t.val - 1) (Nat.lt_of_le_of_lt (Nat.sub_le _ _) t.isLt)).2.2.2 (ix2 r z) + mul (fun (r : Fin 1024) (k : Fin 1024) => iblk m c 0 t (ix2 r k)) (fun k z => iblk m c 1 t (ix4 0 0 z k)) r z := by
  rw [outsAt0_B m c t h h']
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay2, k0_pay1]
  rw [read_unread_whole]
  rfl

/-- The point before, in the same row. -/
def pred (t : Fin cfg0.N) : Fin cfg0.N := ⟨t.val - 1, Nat.lt_of_le_of_lt (Nat.sub_le _ _) t.isLt⟩

theorem row_pred (t : Fin cfg0.N) (h : ¬t.val % 4 = 0) : pRow (pred t).val (pred t).isLt = pRow t.val t.isLt :=
  Fin.ext (by simp only [pRow, pred]; omega)

theorem second (c : Dev nD) (t : Fin cfg0.N) (h : t.val % 4 = 1) (r z : Fin 1024) :
    (outsAt0 (F := Ideal) m c t.val t.isLt).2.2.2 (ix2 r z) = part m c 0 (at4 (pRow t.val t.isLt) r) z + part m c 1 (at4 (pRow t.val t.isLt) r) z := by
  have ha := first m c (pred t) (by simp only [pred]; omega) r z
  rw [row_pred t (by omega)] at ha
  rw [next m c t (by omega) (by omega), step_part m c t 1 h, ← ha]
  rfl

theorem third (c : Dev nD) (t : Fin cfg0.N) (h : t.val % 4 = 2) (r z : Fin 1024) :
    (outsAt0 (F := Ideal) m c t.val t.isLt).2.2.2 (ix2 r z) = part m c 0 (at4 (pRow t.val t.isLt) r) z + part m c 1 (at4 (pRow t.val t.isLt) r) z + part m c 2 (at4 (pRow t.val t.isLt) r) z := by
  have ha := second m c (pred t) (by simp only [pred]; omega) r z
  rw [row_pred t (by omega)] at ha
  rw [next m c t (by omega) (by omega), step_part m c t 2 h, ← ha]
  rfl

/-- Before a row's last point and with its step added: the whole gradient reaching the normed rows. -/
theorem whole (c : Dev nD) (t : Fin cfg0.N) (h : t.val % 4 = 3) (r z : Fin 1024) :
    (outsAt0 (F := Ideal) m c (t.val - 1) (Nat.lt_of_le_of_lt (Nat.sub_le _ _) t.isLt)).2.2.2 (ix2 r z) + mul (fun (r : Fin 1024) (k : Fin 1024) => iblk m c 0 t (ix2 r k)) (fun k z => iblk m c 1 t (ix4 0 0 z k)) r z = dn m c (at4 (pRow t.val t.isLt) r) z := by
  have ha := third m c (pred t) (by simp only [pred]; omega) r z
  rw [row_pred t (by omega)] at ha
  rw [step_part m c t 3 h, ← part_sum, ← ha]
  rfl

/-- A row's last point leaves the gradient of the norm's input, in both formats. -/
theorem last (c : Dev nD) (t : Fin cfg0.N) (h : t.val % 4 = 3) (r z : Fin 1024) :
    (outsAt0 (F := Ideal) m c t.val t.isLt).1 (ix2 r z) = total m c (at4 (pRow t.val t.isLt) r) z := by
  have e : (outsAt0 (F := Ideal) m c t.val t.isLt).1 (ix2 r z) = withBack (iblk m c 4 t (ix2 r z : S1024x1024.Idx)) (fun q => (outsAt0 (F := Ideal) m c (t.val - 1) (Nat.lt_of_le_of_lt (Nat.sub_le _ _) t.isLt)).2.2.2 (ix2 r q) + mul (fun (r : Fin 1024) (k : Fin 1024) => iblk m c 0 t (ix2 r k)) (fun k z => iblk m c 1 t (ix4 0 0 z k)) r q)
      (fun q => iblk m c 2 t (ix2 r q : S1024x1024.Idx)) (fun q => iblk m c 3 t (ix2 0 q : S1x1024.Idx)) z := by
    by_cases h2 : t.val < 4
    · rw [outsAt0_C m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay7, k0_pay5, k0_pay4, k0_pay2, k0_pay1, withBack, normBack, root, square]
      simp only [read_unread_whole]
      rfl
    · rw [outsAt0_D m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay7, k0_pay5, k0_pay4, k0_pay2, k0_pay1, withBack, normBack, root, square]
      simp only [read_unread_whole]
      rfl
  rw [e]
  simp only [whole m c t h, blk2, blk3, blk4]
  rfl

theorem last_narrow (c : Dev nD) (t : Fin cfg0.N) (h : t.val % 4 = 3) (r z : Fin 1024) :
    (outsAt0 (F := Ideal) m c t.val t.isLt).2.1 (ix2 r z) = total m c (at4 (pRow t.val t.isLt) r) z := by
  have e : (outsAt0 (F := Ideal) m c t.val t.isLt).2.1 (ix2 r z) = withBack (iblk m c 4 t (ix2 r z : S1024x1024.Idx)) (fun q => (outsAt0 (F := Ideal) m c (t.val - 1) (Nat.lt_of_le_of_lt (Nat.sub_le _ _) t.isLt)).2.2.2 (ix2 r q) + mul (fun (r : Fin 1024) (k : Fin 1024) => iblk m c 0 t (ix2 r k)) (fun k z => iblk m c 1 t (ix4 0 0 z k)) r q)
      (fun q => iblk m c 2 t (ix2 r q : S1024x1024.Idx)) (fun q => iblk m c 3 t (ix2 0 q : S1x1024.Idx)) z := by
    by_cases h2 : t.val < 4
    · rw [outsAt0_C m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay8, k0_pay7, k0_pay5, k0_pay4, k0_pay2, k0_pay1, withBack, normBack, root, square]
      simp only [read_unread_whole]
      rfl
    · rw [outsAt0_D m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay8, k0_pay7, k0_pay5, k0_pay4, k0_pay2, k0_pay1, withBack, normBack, root, square]
      simp only [read_unread_whole]
      rfl
  rw [e]
  simp only [whole m c t h, blk2, blk3, blk4]
  rfl

/-! ## The gain's gradient -/

/-- What a row's last point adds to the gain's gradient. -/
theorem gain_part (c : Dev nD) (t : Fin cfg0.N) (h : t.val % 4 = 3) (z : Fin 1024) :
    (∑ r : Fin 1024, ((outsAt0 (F := Ideal) m c (t.val - 1) (Nat.lt_of_le_of_lt (Nat.sub_le _ _) t.isLt)).2.2.2 (ix2 r z) + mul (fun (r : Fin 1024) (k : Fin 1024) => iblk m c 0 t (ix2 r k)) (fun k z => iblk m c 1 t (ix4 0 0 z k)) r z)
      * normRow (fun q => iblk m c 2 t (ix2 r q : S1024x1024.Idx)) z)
      = gainPart (dn m c) (hArg m c) (pRow t.val t.isLt) z := by
  simp only [whole m c t h, blk2]
  rfl

/-- The first row's last point leaves its part. -/
theorem gain_first (c : Dev nD) (t : Fin cfg0.N) (h : t.val % 4 = 3) (h2 : t.val < 4) (z : Fin 1024) :
    (outsAt0 (F := Ideal) m c t.val t.isLt).2.2.1 (ix2 0 z) = gainPart (dn m c) (hArg m c) (pRow t.val t.isLt) z := by
  rw [← gain_part m c t h]
  rw [outsAt0_C m c t (by omega) h h2 (by omega)]
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay6, k0_pay5, k0_pay4, k0_pay2, k0_pay1, normRow, root, square]
  simp only [read_unread_whole]
  rfl

/-- The later rows' last points add theirs. -/
theorem gain_next (c : Dev nD) (t : Fin cfg0.N) (h : t.val % 4 = 3) (h2 : ¬t.val < 4) (z : Fin 1024) :
    (outsAt0 (F := Ideal) m c t.val t.isLt).2.2.1 (ix2 0 z) = (outsAt0 (F := Ideal) m c (t.val - 1) (Nat.lt_of_le_of_lt (Nat.sub_le _ _) t.isLt)).2.2.1 (ix2 0 z) + gainPart (dn m c) (hArg m c) (pRow t.val t.isLt) z := by
  rw [← gain_part m c t h]
  rw [outsAt0_D m c t (by omega) h h2 (by omega)]
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay3, k0_pay6, k0_pay5, k0_pay4, k0_pay2, k0_pay1, normRow, root, square]
  simp only [read_unread_whole]
  rfl

/-- The other points leave it as it was. -/
theorem gain_keep (c : Dev nD) (t : Fin cfg0.N) (h0 : t.val ≠ 0) (h : ¬t.val % 4 = 3) :
    (outsAt0 (F := Ideal) m c t.val t.isLt).2.2.1 = (outsAt0 (F := Ideal) m c (t.val - 1) (Nat.lt_of_le_of_lt (Nat.sub_le _ _) t.isLt)).2.2.1 := by
  by_cases h' : t.val % 4 = 0
  · obtain ⟨n, hn⟩ := t
    cases n with
    | zero => exact absurd rfl h0
    | succ n =>
      rw [outsAt0_A m c ⟨n + 1, hn⟩ h' h]
      rfl
  · rw [outsAt0_B m c t h' h]
    rfl

theorem gain_row (c : Dev nD) (a b : ℕ) (hb : b < cfg0.N) (p : Fin 4) (h : b = a + 4) (h3 : a % 4 = 3) (hp : p.val = b / 4) (z : Fin 1024) :
    (outsAt0 (F := Ideal) m c b hb).2.2.1 (ix2 0 z)
      = (outsAt0 (F := Ideal) m c a (by omega)).2.2.1 (ix2 0 z) + gainPart (dn m c) (hArg m c) p z := by
  subst h
  obtain rfl : p = pRow (a + 4) hb := Fin.ext hp
  have k1 := gain_keep m c ⟨a + 1, by omega⟩ (by simp) (by dsimp only; omega)
  have k2 := gain_keep m c ⟨a + 2, by omega⟩ (by simp) (by dsimp only; omega)
  have k3 := gain_keep m c ⟨a + 3, by omega⟩ (by simp) (by dsimp only; omega)
  refine (gain_next m c ⟨a + 4, hb⟩ (by dsimp only; omega) (by dsimp only; omega) z).trans ?_
  exact congrArg (fun x : FVec Ideal S1x1024 .f32 => x (ix2 0 z) + gainPart (dn m c) (hArg m c) (pRow (a + 4) hb) z) (k3.trans (k2.trans k1))

theorem gain_start (c : Dev nD) (a : ℕ) (ha : a < cfg0.N) (p : Fin 4) (h : a = 3) (hp : p.val = a / 4) (z : Fin 1024) :
    (outsAt0 (F := Ideal) m c a ha).2.2.1 (ix2 0 z) = gainPart (dn m c) (hArg m c) p z := by
  obtain rfl : p = pRow a ha := Fin.ext hp
  exact gain_first m c ⟨a, ha⟩ (by dsimp only; omega) (by dsimp only; omega) z

/-- After the last point: the whole gain's gradient. -/
theorem gain_whole (c : Dev nD) (t : Fin cfg0.N) (h : t.val % 16 = 15) (z : Fin 1024) :
    (outsAt0 (F := Ideal) m c t.val t.isLt).2.2.1 (ix2 0 z) = gainBack (dn m c) (hArg m c) z := by
  have hN : cfg0.N = 16 := N_0
  have ht : t.val = 15 := by have := t.isLt; omega
  rw [gain_row m c 11 t.val t.isLt 3 ht rfl (by rw [ht]; rfl) z, gain_row m c 7 11 (by omega) 2 rfl rfl rfl z,
    gain_row m c 3 7 (by omega) 1 rfl rfl rfl z, gain_start m c 3 (by omega) 0 rfl rfl z, gainBack_parts]

/-! ## The arrays after the run -/

theorem arr (c : Dev nD) : (dats (F := Ideal) m 0 c).arrAt 5 cfg0.N = fun i : S4096x1024.Idx => total m c (i 0) (i 1) := by
  refine (dats m 0 c).arrAt_eq_of_covers 5 _ (by decide +kernel) fun t hf y => ?_
  blk_simp
  rw [after0_5]
  obtain ⟨r, z, rfl⟩ : ∃ r z, y = (ix2 r z : S1024x1024.Idx) := ⟨y 0, y 1, eq_ix2 y⟩
  rw [last m c t ((flush0_5 t).mp hf)]
  have e0 : (win0_5.blk t).view.emb (ix2 r z) 0 = at4 (pRow t.val t.isLt) r := Fin.ext (by blk_simp [idx05 t]; simp [at4, pRow, ix2])
  have e1 : (win0_5.blk t).view.emb (ix2 r z) 1 = z := Fin.ext (by blk_simp [idx05 t])
  simp only [e0, e1]

theorem arr_narrow (c : Dev nD) : (dats (F := Ideal) m 0 c).arrAt 6 cfg0.N = fun i : S4096x1024.Idx => total m c (i 0) (i 1) := by
  refine (dats m 0 c).arrAt_eq_of_covers 6 _ (by decide +kernel) fun t hf y => ?_
  blk_simp
  rw [after0_6]
  obtain ⟨r, z, rfl⟩ : ∃ r z, y = (ix2 r z : S1024x1024.Idx) := ⟨y 0, y 1, eq_ix2 y⟩
  rw [last_narrow m c t ((flush0_6 t).mp hf)]
  have e0 : (win0_6.blk t).view.emb (ix2 r z) 0 = at4 (pRow t.val t.isLt) r := Fin.ext (by blk_simp [idx06 t]; simp [at4, pRow, ix2])
  have e1 : (win0_6.blk t).view.emb (ix2 r z) 1 = z := Fin.ext (by blk_simp [idx06 t])
  simp only [e0, e1]

theorem arr_gain (c : Dev nD) : (dats (F := Ideal) m 0 c).arrAt 7 cfg0.N = fun i : S1x1024.Idx => gainBack (dn m c) (hArg m c) (i 1) := by
  refine (dats m 0 c).arrAt_eq_of_covers 7 _ (by decide +kernel) fun t hf y => ?_
  blk_simp
  rw [after0_7]
  obtain ⟨z, rfl⟩ : ∃ z, y = (ix2 0 z : S1x1024.Idx) :=
    ⟨y 1, by
      refine (eq_ix2 y).trans ?_
      rw [show y 0 = (0 : Fin 1) from Subsingleton.elim (α := Fin 1) _ _]⟩
  rw [gain_whole m c t ((flush0_7 t).mp hf)]
  have e1 : (win0_7.blk t).view.emb (ix2 0 z) 1 = z := Fin.ext (by blk_simp [idx07 t])
  simp only [e1]

end Cert.Mdn0Ideal.Arr
-- ==== Proof.NormHost.lean ====
module

public import proofs.«01_k».proof.Proof.Gen.MdnRef0Ideal.Run
public import proofs.«01_k».proof.Proof.NormSpec
public import Idealize.ShloMosaic.Lib.Tactic
public import Idealize.ShloMosaic.Lib.Pointwise
public import Idealize.ShloMosaic.Lib.ValueIdx

@[expose] public section

set_option maxRecDepth 16384

noncomputable section

/-! The norm and its gradient as the references compute them, of whole arrays and entry by entry. -/

namespace Cert.NormVal

open Cert.MdnRef0Ideal Cert.MdnRef0Ideal.Gen Idealize.ShloMosaic Idealize.ShloMosaic.TcCoe Idealize.SL.Sem
open Cert.MlpVal Cert.ProdVal Cert.DownVal

/-- A row's mean square with the small term, and one over its root. -/
def squareOut (y : FVec Ideal S4096x1024 .f32) : FVec Ideal S4096x1 .f32 :=
  addf (Host.divf (broadcastInDim S4096x1 ![0] bcast_S4096_S4096x1_0
      (Host.reduceAdd (mulf y y) (constant (F := Ideal) S_ .f32 0x00000000#32) reducesTo_S4096x1024_S4096_d1 h_S_))
    (broadcastInDim S4096x1 ![] bcast_S_S4096x1 (constant (F := Ideal) S_ .f32 0x44800000#32)))
    (broadcastInDim S4096x1 ![] bcast_S_S4096x1 (constant (F := Ideal) S_ .f32 0x358637BD#32))
def rootOut (y : FVec Ideal S4096x1024 .f32) : FVec Ideal S4096x1 .f32 := Host.rsqrt (squareOut y)
def wideRoot (y : FVec Ideal S4096x1024 .f32) : FVec Ideal S4096x1024 .f32 :=
  broadcastInDim S4096x1024 ![0, 1] bcast_S4096x1_S4096x1024_0_1 (rootOut y)

/-- Rows scaled by a gain. -/
def scaled (d : FVec Ideal S4096x1024 .f32) (g : FVec Ideal S1x1024 .f32) : FVec Ideal S4096x1024 .f32 :=
  mulf d (broadcastInDim S4096x1024 ![0, 1] bcast_S1x1024_S4096x1024_0_1 g)

/-- The normed rows. -/
def normOut (y : FVec Ideal S4096x1024 .f32) (g : FVec Ideal S1x1024 .f32) : FVec Ideal S4096x1024 .bf16 :=
  truncf .bf16 (scaled (mulf y (wideRoot y)) g) bitsLt_bf16_f32

/-- What differentiation makes of the mean under the root. -/
def rowSum (y a : FVec Ideal S4096x1024 .f32) : FVec Ideal S4096x1 .f32 :=
  shapeCast S4096x1 (Host.reduceAdd (mulf y a) (constant (F := Ideal) S_ .f32 0x00000000#32) reducesTo_S4096x1024_S4096_d1 h_S_) shapeCasts_S4096_S4096x1
def halfCube (y : FVec Ideal S4096x1024 .f32) : FVec Ideal S4096x1 .f32 :=
  mulf (broadcastInDim S4096x1 ![] bcast_S_S4096x1 (constant (F := Ideal) S_ .f32 0xBF000000#32)) (Host.divf (rootOut y) (squareOut y))
def slopeCol (y a : FVec Ideal S4096x1024 .f32) : FVec Ideal S4096x1 .f32 :=
  Host.divf (mulf (rowSum y a) (halfCube y)) (broadcastInDim S4096x1 ![] bcast_S_S4096x1 (constant (F := Ideal) S_ .f32 0x44800000#32))
def slopeOut (y a : FVec Ideal S4096x1024 .f32) : FVec Ideal S4096x1024 .f32 :=
  broadcastInDim S4096x1024 ![0] bcast_S4096_S4096x1024_0
    (Host.reduceAdd (slopeCol y a) (constant (F := Ideal) S_ .f32 0x00000000#32) reducesTo_S4096x1_S4096_d1 h_S_)

/-- The three results, of the gradient reaching the normed rows. -/
def totalOut (d h y : FVec Ideal S4096x1024 .f32) (g : FVec Ideal S1x1024 .f32) : FVec Ideal S4096x1024 .f32 :=
  addf (addf (addf h (mulf (scaled d g) (wideRoot y))) (mulf y (slopeOut y (scaled d g)))) (mulf (slopeOut y (scaled d g)) y)
def narrowOut (d h y : FVec Ideal S4096x1024 .f32) (g : FVec Ideal S1x1024 .f32) : FVec Ideal S4096x1024 .bf16 :=
  truncf .bf16 (totalOut d h y g) bitsLt_bf16_f32
def gainSum (d y : FVec Ideal S4096x1024 .f32) : FVec Ideal S1x1024 .f32 :=
  shapeCast S1x1024 (Host.reduceAdd (mulf (mulf y (wideRoot y)) d) (constant (F := Ideal) S_ .f32 0x00000000#32) reducesTo_S4096x1024_S1024_d0 h_S_) shapeCasts_S1024_S1x1024
def gainOut (d y : FVec Ideal S4096x1024 .f32) : FVec Ideal S1x1024 .f32 :=
  shapeCast S1x1024 (Host.reduceAdd (gainSum d y) (constant (F := Ideal) S_ .f32 0x00000000#32) reducesTo_S1x1024_S1024_d0 h_S_) shapeCasts_S1024_S1x1024

theorem squareOut_apply (y : FVec Ideal S4096x1024 .f32) (r : Fin 4096) : (squareOut y (ix2 r 0) : EReal) = square fun q => y (ix2 r q) := by
  pointwise [squareOut]
  rfl

theorem rootOut_apply (y : FVec Ideal S4096x1024 .f32) (r : Fin 4096) : (rootOut y (ix2 r 0) : EReal) = root fun q => y (ix2 r q) := by
  have e : (rootOut y (ix2 r 0) : EReal) = Ideal.rsqrt (squareOut y (ix2 r 0)) := by pointwise [rootOut]
  rw [e, squareOut_apply]
  rfl

theorem wideRoot_apply (y : FVec Ideal S4096x1024 .f32) (r : Fin 4096) (z : Fin 1024) : (wideRoot y (ix2 r z) : EReal) = root fun q => y (ix2 r q) := by
  refine Eq.trans ?_ (rootOut_apply y r)
  pointwise [wideRoot]

theorem scaled_apply (d : FVec Ideal S4096x1024 .f32) (g : FVec Ideal S1x1024 .f32) (r : Fin 4096) (z : Fin 1024) :
    (scaled d g (ix2 r z) : EReal) = d (ix2 r z) * g (ix2 0 z) := by
  pointwise [scaled]

theorem rowSum_apply (y a : FVec Ideal S4096x1024 .f32) (r : Fin 4096) : (rowSum y a (ix2 r 0) : EReal) = ∑ q : Fin 1024, y (ix2 r q) * a (ix2 r q) := by
  pointwise [rowSum]

theorem halfCube_apply (y : FVec Ideal S4096x1024 .f32) (r : Fin 4096) :
    (halfCube y (ix2 r 0) : EReal) = minusHalf * Ideal.div (root fun q => y (ix2 r q)) (square fun q => y (ix2 r q)) := by
  have e : (halfCube y (ix2 r 0) : EReal) = minusHalf * Ideal.div (rootOut y (ix2 r 0)) (squareOut y (ix2 r 0)) := by
    pointwise [halfCube]
    rfl
  rw [e, rootOut_apply, squareOut_apply]

theorem slopeOut_apply (y a : FVec Ideal S4096x1024 .f32) (r : Fin 4096) (z : Fin 1024) :
    (slopeOut y a (ix2 r z) : EReal) = Ideal.div ((∑ q : Fin 1024, y (ix2 r q) * a (ix2 r q))
      * (minusHalf * Ideal.div (root fun q => y (ix2 r q)) (square fun q => y (ix2 r q)))) width := by
  have e : (slopeOut y a (ix2 r z) : EReal) = ∑ q : Fin 1, slopeCol y a (ix2 r q) := by pointwise [slopeOut]
  have e' : (slopeCol y a (ix2 r 0) : EReal) = Ideal.div (rowSum y a (ix2 r 0) * halfCube y (ix2 r 0)) width := by
    pointwise [slopeCol]
    rfl
  rw [e, Fin.sum_univ_one, e', rowSum_apply, halfCube_apply]

/-- The gradient of the norm's input is the calls' form of it. -/
theorem totalOut_apply (d h y : FVec Ideal S4096x1024 .f32) (g : FVec Ideal S1x1024 .f32) (r : Fin 4096) (z : Fin 1024) :
    (totalOut d h y g (ix2 r z) : EReal)
      = h (ix2 r z) + normBack (fun q => d (ix2 r q)) (fun q => y (ix2 r q)) (fun q => g (ix2 0 q)) z := by
  have e : (totalOut d h y g (ix2 r z) : EReal) = h (ix2 r z) + scaled d g (ix2 r z) * wideRoot y (ix2 r z)
      + y (ix2 r z) * slopeOut y (scaled d g) (ix2 r z) + slopeOut y (scaled d g) (ix2 r z) * y (ix2 r z) := by
    pointwise [totalOut]
  rw [e, slopeOut_apply, wideRoot_apply]
  simp only [scaled_apply]
  exact normBack_eq (h (ix2 r z)) (fun q => d (ix2 r q)) (fun q => y (ix2 r q)) (fun q => g (ix2 0 q)) z

theorem narrowOut_apply (d h y : FVec Ideal S4096x1024 .f32) (g : FVec Ideal S1x1024 .f32) (r : Fin 4096) (z : Fin 1024) :
    (narrowOut d h y g (ix2 r z) : EReal)
      = h (ix2 r z) + normBack (fun q => d (ix2 r q)) (fun q => y (ix2 r q)) (fun q => g (ix2 0 q)) z := by
  refine Eq.trans ?_ (totalOut_apply d h y g r z)
  pointwise [narrowOut]

/-- The gain's gradient. -/
theorem gainOut_apply (d y : FVec Ideal S4096x1024 .f32) (z : Fin 1024) :
    (gainOut d y (ix2 0 z) : EReal) = gainBack (fun r q => d (ix2 r q)) (fun r q => y (ix2 r q)) z := by
  have e : (gainOut d y (ix2 0 z) : EReal) = ∑ q : Fin 1, gainSum d y (ix2 q z) := by pointwise [gainOut]
  have e' : (gainSum d y (ix2 0 z) : EReal) = ∑ r : Fin 4096, y (ix2 r z) * wideRoot y (ix2 r z) * d (ix2 r z) := by pointwise [gainSum]
  rw [e, Fin.sum_univ_one, e']
  simp only [wideRoot_apply]
  exact Finset.sum_congr rfl fun r _ => mul_comm _ _

/-- The normed rows are the calls' form of them. -/
theorem normOut_apply (y : FVec Ideal S4096x1024 .f32) (g : FVec Ideal S1x1024 .f32) (r : Fin 4096) (z : Fin 1024) :
    (normOut y g (ix2 r z) : EReal) = normed (fun q => y (ix2 r q)) z (g (ix2 0 z)) := by
  have e : (normOut y g (ix2 r z) : EReal) = scaled (mulf y (wideRoot y)) g (ix2 r z) := by pointwise [normOut]
  have e' : (mulf y (wideRoot y) (ix2 r z) : EReal) = y (ix2 r z) * wideRoot y (ix2 r z) := by pointwise
  rw [e, scaled_apply, e', wideRoot_apply]
  rfl

end Cert.NormVal
-- ==== Proof.MdnRef0Val.lean ====
module

public import proofs.«01_k».proof.Proof.Gen.MdnRef0Ideal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the gradient of the squared-ReLU network's input through the norm before it, first layer, entry by entry. -/

namespace Cert.MdnRef0Ideal.Val

open Cert.MdnRef0Ideal Cert.MdnRef0Ideal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the incoming gradient, the norm's input, its gain, the gradient passed by, and the weight. -/
def ctArg (c : Dev nD) (r : Fin 4096) (k : Fin 4096) : EReal := m ((c.tc : Thread nD τ).loc main_arg0) (ix2 r k)
def hArg (c : Dev nD) (r : Fin 4096) (j : Fin 1024) : EReal := m ((c.tc : Thread nD τ).loc main_arg1) (ix2 r j)
def gArg (c : Dev nD) (j : Fin 1024) : EReal := m ((c.tc : Thread nD τ).loc main_arg2) (ix2 0 j)
def dhArg (c : Dev nD) (r : Fin 4096) (j : Fin 1024) : EReal := m ((c.tc : Thread nD τ).loc main_arg3) (ix2 r j)
def wArg (c : Dev nD) (j : Fin 1024) (k : Fin 4096) : EReal := m ((c.tc : Thread nD τ).loc main_arg4) (ix3 0 j k)

/-- The incoming gradient in the wide format, the weight, and the gain as a row. -/
def wide (x : FVec Ideal S4096x4096 .bf16) : FVec Ideal S4096x4096 .f32 := extf (F := Ideal) .f32 x bitsLt_bf16_f32
def layer (x : FVec Ideal S2x1024x4096 .f32) : FVec Ideal S1024x4096 .f32 :=
  shapeCast S1024x4096 (extractStridedSlice S1x1024x4096 ![0, 0, 0] x slices_S2x1024x4096_S1x1024x4096_0_0_0) shapeCasts_S1x1024x4096_S1024x4096
def gainRow (g : FVec Ideal S2x1024 .f32) : FVec Ideal S1x1024 .f32 :=
  broadcastInDim S1x1024 ![1] bcast_S1024_S1x1024_1 (shapeCast S1024 (extractStridedSlice S1x1024 ![0, 0] g slices_S2x1024_S1x1024_0_0) shapeCasts_S1x1024_S1024)

/-- The gradient reaching the normed rows. -/
def dnOut (x : FVec Ideal S4096x4096 .bf16) (w : FVec Ideal S2x1024x4096 .f32) : FVec Ideal S4096x1024 .f32 :=
  Host.dotGeneral (F := Ideal) dot_S4096x4096_S1024x4096_S4096x1024_1_1_0_0_n_n none (wide x) (layer w)

theorem layer_apply (x : FVec Ideal S2x1024x4096 .f32) (j : Fin 1024) (k : Fin 4096) : layer x (ix2 j k) = x (ix3 0 j k) := by
  pointwise [layer]

theorem gainRow_apply (g : FVec Ideal S2x1024 .f32) (z : Fin 1024) : gainRow g (ix2 0 z) = g (ix2 0 z) := by
  pointwise [gainRow]

theorem wide_apply (x : FVec Ideal S4096x4096 .bf16) (r : Fin 4096) (k : Fin 4096) : (wide x (ix2 r k) : EReal) = x (ix2 r k) := by
  pointwise [wide]

theorem dnOut_apply (x : FVec Ideal S4096x4096 .bf16) (w : FVec Ideal S2x1024x4096 .f32) (r : Fin 4096) (j : Fin 1024) :
    (dnOut x w (ix2 r j) : EReal) = mul (fun (r : Fin 4096) (k : Fin 4096) => x (ix2 r k)) (tr fun (j : Fin 1024) (k : Fin 4096) => w (ix3 0 j k)) r j := by
  have e : (dnOut x w (ix2 r j) : EReal) = ∑ k : Fin 4096, wide x (ix2 r k) * layer w (ix2 j k) := by pointwise [dnOut]
  rw [e]
  simp only [layer_apply, wide_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v43) = totalOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v44) = narrowOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v45) = gainOut (dnOut (m ((c.tc : Thread nD τ).loc main_arg0)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.MdnRef0Ideal.Val
-- ==== Proof.Mdn0Claim.lean ====
module

public import proofs.«01_k».proof.Defs
public import proofs.«01_k».proof.Proof.Gen.Mdn0
public import proofs.«01_k».proof.Proof.Mdn0Arr
public import proofs.«01_k».proof.Proof.MdnRef0Val
public import Idealize.ShloMosaic.Lib.Quiescent

@[expose] public section

set_option maxRecDepth 16384

noncomputable section

/-! The gradient of the squared-ReLU network's input through the norm before it, first layer. -/

namespace Cert.Mdn0Claim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_MdnRef0Ideal := by
  intro m g _
  refine (θ_run Cert.MdnRef0Ideal.defs _ _).mono (fun r h => ⟨fun c => (h c).2.2.2, ?_⟩) (Cert.MdnRef0Ideal.Val.run m g)
  exact sem_eq_zero_of_no_sems (by decide) r.2

/-- The calls' results are the reference's. -/
theorem algebraic : Cert.algebraic_Mdn0Ideal_MdnRef0Ideal := by
  intro m g m' g' _ hm
  have hct (c) : Cert.MdnRef0Ideal.Val.ctArg m' c = Cert.Mdn0Ideal.Arr.ctArg m c :=
    funext fun r => funext fun k => congrFun (hm c).1 (ix2 r k)
  have hh (c) : Cert.MdnRef0Ideal.Val.hArg m' c = Cert.Mdn0Ideal.Arr.hArg m c :=
    funext fun r => funext fun k => congrFun (hm c).2.1 (ix2 r k)
  have hg (c) : Cert.MdnRef0Ideal.Val.gArg m' c = Cert.Mdn0Ideal.Arr.gArg m c :=
    funext fun j => congrFun (hm c).2.2.1 (ix2 0 j)
  have hdh (c) : Cert.MdnRef0Ideal.Val.dhArg m' c = Cert.Mdn0Ideal.Arr.dhArg m c :=
    funext fun r => funext fun k => congrFun (hm c).2.2.2.1 (ix2 r k)
  have hw (c) : Cert.MdnRef0Ideal.Val.wArg m' c = Cert.Mdn0Ideal.Arr.wArg m c :=
    funext fun j => funext fun k => congrFun (hm c).2.2.2.2 (ix3 0 j k)
  have hdn (c) : mul (Cert.MdnRef0Ideal.Val.ctArg m' c) (tr (Cert.MdnRef0Ideal.Val.wArg m' c)) = Cert.Mdn0Ideal.Arr.dn m c := by
    rw [hct, hw]
    rfl
  have htotal (c) (a : Fin 4096) (b : Fin 1024) :
      Cert.MdnRef0Ideal.Val.dhArg m' c a b + normBack (mul (Cert.MdnRef0Ideal.Val.ctArg m' c) (tr (Cert.MdnRef0Ideal.Val.wArg m' c)) a) (Cert.MdnRef0Ideal.Val.hArg m' c a) (Cert.MdnRef0Ideal.Val.gArg m' c) b = Cert.Mdn0Ideal.Arr.total m c a b := by
    rw [hdn, hdh, hh, hg]
    rfl
  have hgain (c) (b : Fin 1024) :
      gainBack (mul (Cert.MdnRef0Ideal.Val.ctArg m' c) (tr (Cert.MdnRef0Ideal.Val.wArg m' c))) (Cert.MdnRef0Ideal.Val.hArg m' c) b = gainBack (Cert.Mdn0Ideal.Arr.dn m c) (Cert.Mdn0Ideal.Arr.hArg m c) b := by
    rw [hdn, hh]
  refine ⟨_, _, _, Cert.Mdn0Ideal.Value.run_blocks m g, ?_⟩
  refine (θ_run Cert.MdnRef0Ideal.defs _ _).mono (fun r h c => ?_) (Cert.MdnRef0Ideal.Val.run m' g')
  obtain ⟨h0, h1, h2, ha⟩ := h c
  refine ⟨h0.trans ?_, h1.trans ?_, h2.trans ?_, ha⟩
  · funext i
    obtain ⟨a, b, rfl⟩ : ∃ a b, i = (ix2 a b : Cert.Mdn0Ideal.S4096x1024.Idx) := ⟨i 0, i 1, eq_ix2 i⟩
    refine (Cert.NormVal.totalOut_apply _ _ _ _ a b).trans ?_
    refine Eq.trans ?_ (congrFun (Cert.Mdn0Ideal.Arr.arr m c) (ix2 a b)).symm
    simp only [Cert.MdnRef0Ideal.Val.dnOut_apply, Cert.MdnRef0Ideal.Val.gainRow_apply]
    exact htotal c a b
  · funext i
    obtain ⟨a, b, rfl⟩ : ∃ a b, i = (ix2 a b : Cert.Mdn0Ideal.S4096x1024.Idx) := ⟨i 0, i 1, eq_ix2 i⟩
    refine (Cert.NormVal.narrowOut_apply _ _ _ _ a b).trans ?_
    refine Eq.trans ?_ (congrFun (Cert.Mdn0Ideal.Arr.arr_narrow m c) (ix2 a b)).symm
    simp only [Cert.MdnRef0Ideal.Val.dnOut_apply, Cert.MdnRef0Ideal.Val.gainRow_apply]
    exact htotal c a b
  · funext i
    obtain ⟨a, b, rfl⟩ : ∃ a b, i = (ix2 a b : Cert.Mdn0Ideal.S1x1024.Idx) := ⟨i 0, i 1, eq_ix2 i⟩
    obtain rfl : a = (0 : Fin 1) := Subsingleton.elim (α := Fin 1) _ _
    refine (Cert.NormVal.gainOut_apply _ _ b).trans ?_
    refine Eq.trans ?_ (congrFun (Cert.Mdn0Ideal.Arr.arr_gain m c) (ix2 0 b)).symm
    simp only [Cert.MdnRef0Ideal.Val.dnOut_apply]
    exact hgain c b

end Cert.Mdn0Claim
-- ==== Proof.Mdn1Arr.lean ====
module

public import proofs.«01_k».proof.Proof.Gen.Mdn1Ideal.Value
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The gradient of the squared-ReLU network's input through the norm before it, second layer: what the call leaves, tile by tile. -/

namespace Cert.Mdn1Ideal.Arr

open Cert.Mdn1Ideal Cert.Mdn1Ideal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val / 4, t.val % 4] := (by decide +kernel : ∀ t : Fin grid0.N, _)
theorem idx01 : ∀ t : Fin cfg0.N, win0_1.index t = ![t.val % 4, 1, 0, 0] := (by decide +kernel : ∀ t : Fin grid0.N, _)
theorem idx02 : ∀ t : Fin cfg0.N, win0_2.index t = ![t.val / 4, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val / 4, 0] := (by decide +kernel : ∀ t : Fin grid0.N, _)
theorem idx05 : ∀ t : Fin cfg0.N, win0_5.index t = ![t.val / 4, 0] := (by decide +kernel : ∀ t : Fin grid0.N, _)
theorem idx06 : ∀ t : Fin cfg0.N, win0_6.index t = ![t.val / 4, 0] := (by decide +kernel : ∀ t : Fin grid0.N, _)
theorem idx07 : ∀ t : Fin cfg0.N, win0_7.index t = ![0, 0] := (by decide +kernel : ∀ t : Fin grid0.N, _)

variable (m : (ℓ : Loc nD τ sig) → Buf (Elt Ideal) ℓ)

/-- The arguments, entry by entry: the incoming gradient, the norm's input, its gain, the gradient passed by, and the weight. -/
def ctArg (c : Dev nD) (r : Fin 4096) (k : Fin 4096) : EReal := m ((c : Thread nD τ).loc main_arg0) (ix2 r k)
def hArg (c : Dev nD) (r : Fin 4096) (j : Fin 1024) : EReal := m ((c : Thread nD τ).loc main_arg1) (ix2 r j)
def gArg (c : Dev nD) (j : Fin 1024) : EReal := m ((c : Thread nD τ).loc main_arg2) (ix2 1 j)
def dhArg (c : Dev nD) (r : Fin 4096) (j : Fin 1024) : EReal := m ((c : Thread nD τ).loc main_arg3) (ix2 r j)
def wArg (c : Dev nD) (j : Fin 1024) (k : Fin 4096) : EReal := m ((c : Thread nD τ).loc main_arg4) (ix3 1 j k)

/-- The weight as the call finds it: split over four shards. -/
theorem stack (c : Dev nD) :
    V (F := Ideal) m c main_v2 = transpose S4x2x1024x1024 [2, 0, 1, 3]
      (shapeCast S2x1024x4x1024 (truncf .bf16 (m ((c : Thread nD τ).loc main_arg4) : FVec Ideal S2x1024x4096 .f32) bitsLt_bf16_f32 : FVec Ideal S2x1024x4096 .bf16)
        shapeCasts_S2x1024x4096_S2x1024x4x1024) transposes_S2x1024x4x1024_S4x2x1024x1024_2_0_1_3 := by
  show StableHlo.after hostOps0 _ _ = _
  simp only [hostOps0]
  after_results <;> rfl

theorem stack_entry (c : Dev nD) (j : Fin 1024) (k : Fin 4096) :
    V (F := Ideal) m c main_v2 (ix4 (tileOf k) 1 j (inTile k) : S4x2x1024x1024.Idx) = wArg m c j k := by
  rw [stack]
  pointwise
  exact congrArg (fun x => m ((c : Thread nD τ).loc main_arg4) (ix3 1 j x)) (at4_tile k)

/-- The gain as the call finds it. -/
theorem gain (c : Dev nD) :
    V (F := Ideal) m c main_v5 = shapeCast S1x1024 (shapeCast S1024 (extractStridedSlice S1x1024 ![1, 0] (m ((c : Thread nD τ).loc main_arg2) : FVec Ideal S2x1024 .f32) slices_S2x1024_S1x1024_1_0) shapeCasts_S1x1024_S1024)
      shapeCasts_S1024_S1x1024 := by
  show StableHlo.after hostOps0 _ _ = _
  simp only [hostOps0]
  after_results <;> rfl

theorem gain_entry (c : Dev nD) (z : Fin 1024) : V (F := Ideal) m c main_v5 (ix2 0 z : S1x1024.Idx) = gArg m c z := by
  rw [gain]
  pointwise
  rfl

/-! ## The blocks -/

theorem blk0 (c : Dev nD) (t : Fin cfg0.N) (r : Fin 1024) (k : Fin 1024) :
    iblk (F := Ideal) m c 0 t (ix2 r k : S1024x1024.Idx) = ctArg m c (at4 (pRow t.val t.isLt) r) (at4 (pCol t.val) k) := by
  blk_simp [iblk]
  rw [V_main_arg0]
  refine congrArg (m _) ?_
  blk_ext [idx00 t, at4, pCol, pRow]

theorem blk1 (c : Dev nD) (t : Fin cfg0.N) (j : Fin 1024) (k : Fin 1024) :
    iblk (F := Ideal) m c 1 t (ix4 0 0 j k : S1x1x1024x1024.Idx) = wArg m c j (at4 (pCol t.val) k) := by
  refine Eq.trans ?_ (stack_entry m c j (at4 (pCol t.val) k))
  rw [tileOf_at4, inTile_at4]
  blk_simp [iblk]
  refine congrArg (V m c main_v2) ?_
  blk_ext [idx01 t, pCol]

theorem blk2 (c : Dev nD) (t : Fin cfg0.N) (r j : Fin 1024) :
    iblk (F := Ideal) m c 2 t (ix2 r j : S1024x1024.Idx) = hArg m c (at4 (pRow t.val t.isLt) r) j := by
  blk_simp [iblk]
  rw [V_main_arg1]
  refine congrArg (m _) ?_
  blk_ext [idx02 t, at4, pRow]

theorem blk3 (c : Dev nD) (t : Fin cfg0.N) (z : Fin 1024) : iblk (F := Ideal) m c 3 t (ix2 0 z : S1x1024.Idx) = gArg m c z := by
  refine Eq.trans ?_ (gain_entry m c z)
  blk_simp [iblk]
  refine congrArg (V m c main_v5) ?_
  blk_ext [idx03 t]

theorem blk4 (c : Dev nD) (t : Fin cfg0.N) (r j : Fin 1024) :
    iblk (F := Ideal) m c 4 t (ix2 r j : S1024x1024.Idx) = dhArg m c (at4 (pRow t.val t.isLt) r) j := by
  blk_simp [iblk]
  rw [V_main_arg3]
  refine congrArg (m _) ?_
  blk_ext [idx04 t, at4, pRow]

/-- The gradient reaching the normed rows. -/
def dn (c : Dev nD) : Fin 4096 → Fin 1024 → EReal := mul (ctArg m c) (tr (wArg m c))

/-- The call's entry: the gradient passed by and the one through the norm. -/
def total (c : Dev nD) (r : Fin 4096) (z : Fin 1024) : EReal := dhArg m c r z + normBack (dn m c r) (hArg m c r) (gArg m c) z

/-- What the columns of step `p` add to an entry of that gradient. -/
def part (c : Dev nD) (p : Fin 4) (r : Fin 4096) (j : Fin 1024) : EReal := ∑ k : Fin 1024, ctArg m c r (at4 p k) * wArg m c j (at4 p k)

theorem part_sum (c : Dev nD) (r : Fin 4096) (j : Fin 1024) : part m c 0 r j + part m c 1 r j + part m c 2 r j + part m c 3 r j = dn m c r j := by
  rw [dn, mul, sum_at4, Fin.sum_univ_four]
  rfl

theorem step_part (c : Dev nD) (t : Fin cfg0.N) (p : Fin 4) (h : t.val % 4 = p.val) (r z : Fin 1024) :
    mul (fun (r : Fin 1024) (k : Fin 1024) => iblk m c 0 t (ix2 r k)) (fun k z => iblk m c 1 t (ix4 0 0 z k)) r z = part m c p (at4 (pRow t.val t.isLt) r) z := by
  simp only [blk0, blk1, show pCol t.val = p from Fin.ext h]
  rfl

/-! ## What the points leave -/

/-- A row's first point leaves what its step adds. -/
theorem first (c : Dev nD) (t : Fin cfg0.N) (h : t.val % 4 = 0) (r z : Fin 1024) :
    (outsAt0 (F := Ideal) m c t.val t.isLt).2.2.2 (ix2 r z) = part m c 0 (at4 (pRow t.val t.isLt) r) z := by
  have e : (outsAt0 (F := Ideal) m c t.val t.isLt).2.2.2 (ix2 r z) = mul (fun (r : Fin 1024) (k : Fin 1024) => iblk m c 0 t (ix2 r k)) (fun k z => iblk m c 1 t (ix4 0 0 z k)) r z := by
    rw [outsAt0_A m c t h (by omega)]
    dsimp only
    frame_out
    pointwise [k0_pay2, k0_pay1]
    rfl
  rw [e, step_part m c t 0 h]

/-- Each later point of a row adds its step. -/
theorem next (c : Dev nD) (t : Fin cfg0.N) (h : ¬t.val % 4 = 0) (h' : ¬t.val % 4 = 3) (r z : Fin 1024) :
    (outsAt0 (F := Ideal) m c t.val t.isLt).2.2.2 (ix2 r z) = (outsAt0 (F := Ideal) m c (t.val - 1) (Nat.lt_of_le_of_lt (Nat.sub_le _ _) t.isLt)).2.2.2 (ix2 r z) + mul (fun (r : Fin 1024) (k : Fin 1024) => iblk m c 0 t (ix2 r k)) (fun k z => iblk m c 1 t (ix4 0 0 z k)) r z := by
  rw [outsAt0_B m c t h h']
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay2, k0_pay1]
  rw [read_unread_whole]
  rfl

/-- The point before, in the same row. -/
def pred (t : Fin cfg0.N) : Fin cfg0.N := ⟨t.val - 1, Nat.lt_of_le_of_lt (Nat.sub_le _ _) t.isLt⟩

theorem row_pred (t : Fin cfg0.N) (h : ¬t.val % 4 = 0) : pRow (pred t).val (pred t).isLt = pRow t.val t.isLt :=
  Fin.ext (by simp only [pRow, pred]; omega)

theorem second (c : Dev nD) (t : Fin cfg0.N) (h : t.val % 4 = 1) (r z : Fin 1024) :
    (outsAt0 (F := Ideal) m c t.val t.isLt).2.2.2 (ix2 r z) = part m c 0 (at4 (pRow t.val t.isLt) r) z + part m c 1 (at4 (pRow t.val t.isLt) r) z := by
  have ha := first m c (pred t) (by simp only [pred]; omega) r z
  rw [row_pred t (by omega)] at ha
  rw [next m c t (by omega) (by omega), step_part m c t 1 h, ← ha]
  rfl

theorem third (c : Dev nD) (t : Fin cfg0.N) (h : t.val % 4 = 2) (r z : Fin 1024) :
    (outsAt0 (F := Ideal) m c t.val t.isLt).2.2.2 (ix2 r z) = part m c 0 (at4 (pRow t.val t.isLt) r) z + part m c 1 (at4 (pRow t.val t.isLt) r) z + part m c 2 (at4 (pRow t.val t.isLt) r) z := by
  have ha := second m c (pred t) (by simp only [pred]; omega) r z
  rw [row_pred t (by omega)] at ha
  rw [next m c t (by omega) (by omega), step_part m c t 2 h, ← ha]
  rfl

/-- Before a row's last point and with its step added: the whole gradient reaching the normed rows. -/
theorem whole (c : Dev nD) (t : Fin cfg0.N) (h : t.val % 4 = 3) (r z : Fin 1024) :
    (outsAt0 (F := Ideal) m c (t.val - 1) (Nat.lt_of_le_of_lt (Nat.sub_le _ _) t.isLt)).2.2.2 (ix2 r z) + mul (fun (r : Fin 1024) (k : Fin 1024) => iblk m c 0 t (ix2 r k)) (fun k z => iblk m c 1 t (ix4 0 0 z k)) r z = dn m c (at4 (pRow t.val t.isLt) r) z := by
  have ha := third m c (pred t) (by simp only [pred]; omega) r z
  rw [row_pred t (by omega)] at ha
  rw [step_part m c t 3 h, ← part_sum, ← ha]
  rfl

/-- A row's last point leaves the gradient of the norm's input, in both formats. -/
theorem last (c : Dev nD) (t : Fin cfg0.N) (h : t.val % 4 = 3) (r z : Fin 1024) :
    (outsAt0 (F := Ideal) m c t.val t.isLt).1 (ix2 r z) = total m c (at4 (pRow t.val t.isLt) r) z := by
  have e : (outsAt0 (F := Ideal) m c t.val t.isLt).1 (ix2 r z) = withBack (iblk m c 4 t (ix2 r z : S1024x1024.Idx)) (fun q => (outsAt0 (F := Ideal) m c (t.val - 1) (Nat.lt_of_le_of_lt (Nat.sub_le _ _) t.isLt)).2.2.2 (ix2 r q) + mul (fun (r : Fin 1024) (k : Fin 1024) => iblk m c 0 t (ix2 r k)) (fun k z => iblk m c 1 t (ix4 0 0 z k)) r q)
      (fun q => iblk m c 2 t (ix2 r q : S1024x1024.Idx)) (fun q => iblk m c 3 t (ix2 0 q : S1x1024.Idx)) z := by
    by_cases h2 : t.val < 4
    · rw [outsAt0_C m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay7, k0_pay5, k0_pay4, k0_pay2, k0_pay1, withBack, normBack, root, square]
      simp only [read_unread_whole]
      rfl
    · rw [outsAt0_D m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay7, k0_pay5, k0_pay4, k0_pay2, k0_pay1, withBack, normBack, root, square]
      simp only [read_unread_whole]
      rfl
  rw [e]
  simp only [whole m c t h, blk2, blk3, blk4]
  rfl

theorem last_narrow (c : Dev nD) (t : Fin cfg0.N) (h : t.val % 4 = 3) (r z : Fin 1024) :
    (outsAt0 (F := Ideal) m c t.val t.isLt).2.1 (ix2 r z) = total m c (at4 (pRow t.val t.isLt) r) z := by
  have e : (outsAt0 (F := Ideal) m c t.val t.isLt).2.1 (ix2 r z) = withBack (iblk m c 4 t (ix2 r z : S1024x1024.Idx)) (fun q => (outsAt0 (F := Ideal) m c (t.val - 1) (Nat.lt_of_le_of_lt (Nat.sub_le _ _) t.isLt)).2.2.2 (ix2 r q) + mul (fun (r : Fin 1024) (k : Fin 1024) => iblk m c 0 t (ix2 r k)) (fun k z => iblk m c 1 t (ix4 0 0 z k)) r q)
      (fun q => iblk m c 2 t (ix2 r q : S1024x1024.Idx)) (fun q => iblk m c 3 t (ix2 0 q : S1x1024.Idx)) z := by
    by_cases h2 : t.val < 4
    · rw [outsAt0_C m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay8, k0_pay7, k0_pay5, k0_pay4, k0_pay2, k0_pay1, withBack, normBack, root, square]
      simp only [read_unread_whole]
      rfl
    · rw [outsAt0_D m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay8, k0_pay7, k0_pay5, k0_pay4, k0_pay2, k0_pay1, withBack, normBack, root, square]
      simp only [read_unread_whole]
      rfl
  rw [e]
  simp only [whole m c t h, blk2, blk3, blk4]
  rfl

/-! ## The gain's gradient -/

/-- What a row's last point adds to the gain's gradient. -/
theorem gain_part (c : Dev nD) (t : Fin cfg0.N) (h : t.val % 4 = 3) (z : Fin 1024) :
    (∑ r : Fin 1024, ((outsAt0 (F := Ideal) m c (t.val - 1) (Nat.lt_of_le_of_lt (Nat.sub_le _ _) t.isLt)).2.2.2 (ix2 r z) + mul (fun (r : Fin 1024) (k : Fin 1024) => iblk m c 0 t (ix2 r k)) (fun k z => iblk m c 1 t (ix4 0 0 z k)) r z)
      * normRow (fun q => iblk m c 2 t (ix2 r q : S1024x1024.Idx)) z)
      = gainPart (dn m c) (hArg m c) (pRow t.val t.isLt) z := by
  simp only [whole m c t h, blk2]
  rfl

/-- The first row's last point leaves its part. -/
theorem gain_first (c : Dev nD) (t : Fin cfg0.N) (h : t.val % 4 = 3) (h2 : t.val < 4) (z : Fin 1024) :
    (outsAt0 (F := Ideal) m c t.val t.isLt).2.2.1 (ix2 0 z) = gainPart (dn m c) (hArg m c) (pRow t.val t.isLt) z := by
  rw [← gain_part m c t h]
  rw [outsAt0_C m c t (by omega) h h2 (by omega)]
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay6, k0_pay5, k0_pay4, k0_pay2, k0_pay1, normRow, root, square]
  simp only [read_unread_whole]
  rfl

/-- The later rows' last points add theirs. -/
theorem gain_next (c : Dev nD) (t : Fin cfg0.N) (h : t.val % 4 = 3) (h2 : ¬t.val < 4) (z : Fin 1024) :
    (outsAt0 (F := Ideal) m c t.val t.isLt).2.2.1 (ix2 0 z) = (outsAt0 (F := Ideal) m c (t.val - 1) (Nat.lt_of_le_of_lt (Nat.sub_le _ _) t.isLt)).2.2.1 (ix2 0 z) + gainPart (dn m c) (hArg m c) (pRow t.val t.isLt) z := by
  rw [← gain_part m c t h]
  rw [outsAt0_D m c t (by omega) h h2 (by omega)]
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay3, k0_pay6, k0_pay5, k0_pay4, k0_pay2, k0_pay1, normRow, root, square]
  simp only [read_unread_whole]
  rfl

/-- The other points leave it as it was. -/
theorem gain_keep (c : Dev nD) (t : Fin cfg0.N) (h0 : t.val ≠ 0) (h : ¬t.val % 4 = 3) :
    (outsAt0 (F := Ideal) m c t.val t.isLt).2.2.1 = (outsAt0 (F := Ideal) m c (t.val - 1) (Nat.lt_of_le_of_lt (Nat.sub_le _ _) t.isLt)).2.2.1 := by
  by_cases h' : t.val % 4 = 0
  · obtain ⟨n, hn⟩ := t
    cases n with
    | zero => exact absurd rfl h0
    | succ n =>
      rw [outsAt0_A m c ⟨n + 1, hn⟩ h' h]
      rfl
  · rw [outsAt0_B m c t h' h]
    rfl

theorem gain_row (c : Dev nD) (a b : ℕ) (hb : b < cfg0.N) (p : Fin 4) (h : b = a + 4) (h3 : a % 4 = 3) (hp : p.val = b / 4) (z : Fin 1024) :
    (outsAt0 (F := Ideal) m c b hb).2.2.1 (ix2 0 z)
      = (outsAt0 (F := Ideal) m c a (by omega)).2.2.1 (ix2 0 z) + gainPart (dn m c) (hArg m c) p z := by
  subst h
  obtain rfl : p = pRow (a + 4) hb := Fin.ext hp
  have k1 := gain_keep m c ⟨a + 1, by omega⟩ (by simp) (by dsimp only; omega)
  have k2 := gain_keep m c ⟨a + 2, by omega⟩ (by simp) (by dsimp only; omega)
  have k3 := gain_keep m c ⟨a + 3, by omega⟩ (by simp) (by dsimp only; omega)
  refine (gain_next m c ⟨a + 4, hb⟩ (by dsimp only; omega) (by dsimp only; omega) z).trans ?_
  exact congrArg (fun x : FVec Ideal S1x1024 .f32 => x (ix2 0 z) + gainPart (dn m c) (hArg m c) (pRow (a + 4) hb) z) (k3.trans (k2.trans k1))

theorem gain_start (c : Dev nD) (a : ℕ) (ha : a < cfg0.N) (p : Fin 4) (h : a = 3) (hp : p.val = a / 4) (z : Fin 1024) :
    (outsAt0 (F := Ideal) m c a ha).2.2.1 (ix2 0 z) = gainPart (dn m c) (hArg m c) p z := by
  obtain rfl : p = pRow a ha := Fin.ext hp
  exact gain_first m c ⟨a, ha⟩ (by dsimp only; omega) (by dsimp only; omega) z

/-- After the last point: the whole gain's gradient. -/
theorem gain_whole (c : Dev nD) (t : Fin cfg0.N) (h : t.val % 16 = 15) (z : Fin 1024) :
    (outsAt0 (F := Ideal) m c t.val t.isLt).2.2.1 (ix2 0 z) = gainBack (dn m c) (hArg m c) z := by
  have hN : cfg0.N = 16 := N_0
  have ht : t.val = 15 := by have := t.isLt; omega
  rw [gain_row m c 11 t.val t.isLt 3 ht rfl (by rw [ht]; rfl) z, gain_row m c 7 11 (by omega) 2 rfl rfl rfl z,
    gain_row m c 3 7 (by omega) 1 rfl rfl rfl z, gain_start m c 3 (by omega) 0 rfl rfl z, gainBack_parts]

/-! ## The arrays after the run -/

theorem arr (c : Dev nD) : (dats (F := Ideal) m 0 c).arrAt 5 cfg0.N = fun i : S4096x1024.Idx => total m c (i 0) (i 1) := by
  refine (dats m 0 c).arrAt_eq_of_covers 5 _ (by decide +kernel) fun t hf y => ?_
  blk_simp
  rw [after0_5]
  obtain ⟨r, z, rfl⟩ : ∃ r z, y = (ix2 r z : S1024x1024.Idx) := ⟨y 0, y 1, eq_ix2 y⟩
  rw [last m c t ((flush0_5 t).mp hf)]
  have e0 : (win0_5.blk t).view.emb (ix2 r z) 0 = at4 (pRow t.val t.isLt) r := Fin.ext (by blk_simp [idx05 t]; simp [at4, pRow, ix2])
  have e1 : (win0_5.blk t).view.emb (ix2 r z) 1 = z := Fin.ext (by blk_simp [idx05 t])
  simp only [e0, e1]

theorem arr_narrow (c : Dev nD) : (dats (F := Ideal) m 0 c).arrAt 6 cfg0.N = fun i : S4096x1024.Idx => total m c (i 0) (i 1) := by
  refine (dats m 0 c).arrAt_eq_of_covers 6 _ (by decide +kernel) fun t hf y => ?_
  blk_simp
  rw [after0_6]
  obtain ⟨r, z, rfl⟩ : ∃ r z, y = (ix2 r z : S1024x1024.Idx) := ⟨y 0, y 1, eq_ix2 y⟩
  rw [last_narrow m c t ((flush0_6 t).mp hf)]
  have e0 : (win0_6.blk t).view.emb (ix2 r z) 0 = at4 (pRow t.val t.isLt) r := Fin.ext (by blk_simp [idx06 t]; simp [at4, pRow, ix2])
  have e1 : (win0_6.blk t).view.emb (ix2 r z) 1 = z := Fin.ext (by blk_simp [idx06 t])
  simp only [e0, e1]

theorem arr_gain (c : Dev nD) : (dats (F := Ideal) m 0 c).arrAt 7 cfg0.N = fun i : S1x1024.Idx => gainBack (dn m c) (hArg m c) (i 1) := by
  refine (dats m 0 c).arrAt_eq_of_covers 7 _ (by decide +kernel) fun t hf y => ?_
  blk_simp
  rw [after0_7]
  obtain ⟨z, rfl⟩ : ∃ z, y = (ix2 0 z : S1x1024.Idx) :=
    ⟨y 1, by
      refine (eq_ix2 y).trans ?_
      rw [show y 0 = (0 : Fin 1) from Subsingleton.elim (α := Fin 1) _ _]⟩
  rw [gain_whole m c t ((flush0_7 t).mp hf)]
  have e1 : (win0_7.blk t).view.emb (ix2 0 z) 1 = z := Fin.ext (by blk_simp [idx07 t])
  simp only [e1]

end Cert.Mdn1Ideal.Arr
-- ==== Proof.MdnRef1Val.lean ====
module

public import proofs.«01_k».proof.Proof.Gen.MdnRef1Ideal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the gradient of the squared-ReLU network's input through the norm before it, second layer, entry by entry. -/

namespace Cert.MdnRef1Ideal.Val

open Cert.MdnRef1Ideal Cert.MdnRef1Ideal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the incoming gradient, the norm's input, its gain, the gradient passed by, and the weight. -/
def ctArg (c : Dev nD) (r : Fin 4096) (k : Fin 4096) : EReal := m ((c.tc : Thread nD τ).loc main_arg0) (ix2 r k)
def hArg (c : Dev nD) (r : Fin 4096) (j : Fin 1024) : EReal := m ((c.tc : Thread nD τ).loc main_arg1) (ix2 r j)
def gArg (c : Dev nD) (j : Fin 1024) : EReal := m ((c.tc : Thread nD τ).loc main_arg2) (ix2 1 j)
def dhArg (c : Dev nD) (r : Fin 4096) (j : Fin 1024) : EReal := m ((c.tc : Thread nD τ).loc main_arg3) (ix2 r j)
def wArg (c : Dev nD) (j : Fin 1024) (k : Fin 4096) : EReal := m ((c.tc : Thread nD τ).loc main_arg4) (ix3 1 j k)

/-- The incoming gradient in the wide format, the weight, and the gain as a row. -/
def wide (x : FVec Ideal S4096x4096 .bf16) : FVec Ideal S4096x4096 .f32 := extf (F := Ideal) .f32 x bitsLt_bf16_f32
def layer (x : FVec Ideal S2x1024x4096 .f32) : FVec Ideal S1024x4096 .f32 :=
  shapeCast S1024x4096 (extractStridedSlice S1x1024x4096 ![1, 0, 0] x slices_S2x1024x4096_S1x1024x4096_1_0_0) shapeCasts_S1x1024x4096_S1024x4096
def gainRow (g : FVec Ideal S2x1024 .f32) : FVec Ideal S1x1024 .f32 :=
  broadcastInDim S1x1024 ![1] bcast_S1024_S1x1024_1 (shapeCast S1024 (extractStridedSlice S1x1024 ![1, 0] g slices_S2x1024_S1x1024_1_0) shapeCasts_S1x1024_S1024)

/-- The gradient reaching the normed rows. -/
def dnOut (x : FVec Ideal S4096x4096 .bf16) (w : FVec Ideal S2x1024x4096 .f32) : FVec Ideal S4096x1024 .f32 :=
  Host.dotGeneral (F := Ideal) dot_S4096x4096_S1024x4096_S4096x1024_1_1_0_0_n_n none (wide x) (layer w)

theorem layer_apply (x : FVec Ideal S2x1024x4096 .f32) (j : Fin 1024) (k : Fin 4096) : layer x (ix2 j k) = x (ix3 1 j k) := by
  pointwise [layer]

theorem gainRow_apply (g : FVec Ideal S2x1024 .f32) (z : Fin 1024) : gainRow g (ix2 0 z) = g (ix2 1 z) := by
  pointwise [gainRow]

theorem wide_apply (x : FVec Ideal S4096x4096 .bf16) (r : Fin 4096) (k : Fin 4096) : (wide x (ix2 r k) : EReal) = x (ix2 r k) := by
  pointwise [wide]

theorem dnOut_apply (x : FVec Ideal S4096x4096 .bf16) (w : FVec Ideal S2x1024x4096 .f32) (r : Fin 4096) (j : Fin 1024) :
    (dnOut x w (ix2 r j) : EReal) = mul (fun (r : Fin 4096) (k : Fin 4096) => x (ix2 r k)) (tr fun (j : Fin 1024) (k : Fin 4096) => w (ix3 1 j k)) r j := by
  have e : (dnOut x w (ix2 r j) : EReal) = ∑ k : Fin 4096, wide x (ix2 r k) * layer w (ix2 j k) := by pointwise [dnOut]
  rw [e]
  simp only [layer_apply, wide_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v43) = totalOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v44) = narrowOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v45) = gainOut (dnOut (m ((c.tc : Thread nD τ).loc main_arg0)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.MdnRef1Ideal.Val
-- ==== Proof.Mdn1Claim.lean ====
module

public import proofs.«01_k».proof.Defs
public import proofs.«01_k».proof.Proof.Gen.Mdn1
public import proofs.«01_k».proof.Proof.Mdn1Arr
public import proofs.«01_k».proof.Proof.MdnRef1Val
public import Idealize.ShloMosaic.Lib.Quiescent

@[expose] public section

set_option maxRecDepth 16384

noncomputable section

/-! The gradient of the squared-ReLU network's input through the norm before it, second layer. -/

namespace Cert.Mdn1Claim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_MdnRef1Ideal := by
  intro m g _
  refine (θ_run Cert.MdnRef1Ideal.defs _ _).mono (fun r h => ⟨fun c => (h c).2.2.2, ?_⟩) (Cert.MdnRef1Ideal.Val.run m g)
  exact sem_eq_zero_of_no_sems (by decide) r.2

/-- The calls' results are the reference's. -/
theorem algebraic : Cert.algebraic_Mdn1Ideal_MdnRef1Ideal := by
  intro m g m' g' _ hm
  have hct (c) : Cert.MdnRef1Ideal.Val.ctArg m' c = Cert.Mdn1Ideal.Arr.ctArg m c :=
    funext fun r => funext fun k => congrFun (hm c).1 (ix2 r k)
  have hh (c) : Cert.MdnRef1Ideal.Val.hArg m' c = Cert.Mdn1Ideal.Arr.hArg m c :=
    funext fun r => funext fun k => congrFun (hm c).2.1 (ix2 r k)
  have hg (c) : Cert.MdnRef1Ideal.Val.gArg m' c = Cert.Mdn1Ideal.Arr.gArg m c :=
    funext fun j => congrFun (hm c).2.2.1 (ix2 1 j)
  have hdh (c) : Cert.MdnRef1Ideal.Val.dhArg m' c = Cert.Mdn1Ideal.Arr.dhArg m c :=
    funext fun r => funext fun k => congrFun (hm c).2.2.2.1 (ix2 r k)
  have hw (c) : Cert.MdnRef1Ideal.Val.wArg m' c = Cert.Mdn1Ideal.Arr.wArg m c :=
    funext fun j => funext fun k => congrFun (hm c).2.2.2.2 (ix3 1 j k)
  have hdn (c) : mul (Cert.MdnRef1Ideal.Val.ctArg m' c) (tr (Cert.MdnRef1Ideal.Val.wArg m' c)) = Cert.Mdn1Ideal.Arr.dn m c := by
    rw [hct, hw]
    rfl
  have htotal (c) (a : Fin 4096) (b : Fin 1024) :
      Cert.MdnRef1Ideal.Val.dhArg m' c a b + normBack (mul (Cert.MdnRef1Ideal.Val.ctArg m' c) (tr (Cert.MdnRef1Ideal.Val.wArg m' c)) a) (Cert.MdnRef1Ideal.Val.hArg m' c a) (Cert.MdnRef1Ideal.Val.gArg m' c) b = Cert.Mdn1Ideal.Arr.total m c a b := by
    rw [hdn, hdh, hh, hg]
    rfl
  have hgain (c) (b : Fin 1024) :
      gainBack (mul (Cert.MdnRef1Ideal.Val.ctArg m' c) (tr (Cert.MdnRef1Ideal.Val.wArg m' c))) (Cert.MdnRef1Ideal.Val.hArg m' c) b = gainBack (Cert.Mdn1Ideal.Arr.dn m c) (Cert.Mdn1Ideal.Arr.hArg m c) b := by
    rw [hdn, hh]
  refine ⟨_, _, _, Cert.Mdn1Ideal.Value.run_blocks m g, ?_⟩
  refine (θ_run Cert.MdnRef1Ideal.defs _ _).mono (fun r h c => ?_) (Cert.MdnRef1Ideal.Val.run m' g')
  obtain ⟨h0, h1, h2, ha⟩ := h c
  refine ⟨h0.trans ?_, h1.trans ?_, h2.trans ?_, ha⟩
  · funext i
    obtain ⟨a, b, rfl⟩ : ∃ a b, i = (ix2 a b : Cert.Mdn1Ideal.S4096x1024.Idx) := ⟨i 0, i 1, eq_ix2 i⟩
    refine (Cert.NormVal.totalOut_apply _ _ _ _ a b).trans ?_
    refine Eq.trans ?_ (congrFun (Cert.Mdn1Ideal.Arr.arr m c) (ix2 a b)).symm
    simp only [Cert.MdnRef1Ideal.Val.dnOut_apply, Cert.MdnRef1Ideal.Val.gainRow_apply]
    exact htotal c a b
  · funext i
    obtain ⟨a, b, rfl⟩ : ∃ a b, i = (ix2 a b : Cert.Mdn1Ideal.S4096x1024.Idx) := ⟨i 0, i 1, eq_ix2 i⟩
    refine (Cert.NormVal.narrowOut_apply _ _ _ _ a b).trans ?_
    refine Eq.trans ?_ (congrFun (Cert.Mdn1Ideal.Arr.arr_narrow m c) (ix2 a b)).symm
    simp only [Cert.MdnRef1Ideal.Val.dnOut_apply, Cert.MdnRef1Ideal.Val.gainRow_apply]
    exact htotal c a b
  · funext i
    obtain ⟨a, b, rfl⟩ : ∃ a b, i = (ix2 a b : Cert.Mdn1Ideal.S1x1024.Idx) := ⟨i 0, i 1, eq_ix2 i⟩
    obtain rfl : a = (0 : Fin 1) := Subsingleton.elim (α := Fin 1) _ _
    refine (Cert.NormVal.gainOut_apply _ _ b).trans ?_
    refine Eq.trans ?_ (congrFun (Cert.Mdn1Ideal.Arr.arr_gain m c) (ix2 0 b)).symm
    simp only [Cert.MdnRef1Ideal.Val.dnOut_apply]
    exact hgain c b

end Cert.Mdn1Claim
-- ==== Proof.Xdn0Arr.lean ====
module

public import proofs.«01_k».proof.Proof.Gen.Xdn0Ideal.Value
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The gradient of the attention's query projection's input through the norm before it, first layer: what the call leaves, tile by tile. -/

namespace Cert.Xdn0Ideal.Arr

open Cert.Xdn0Ideal Cert.Xdn0Ideal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 0, 0, 0] := (by decide +kernel : ∀ t : Fin grid0.N, _)
theorem idx02 : ∀ t : Fin cfg0.N, win0_2.index t = ![t.val, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val, 0] := (by decide +kernel : ∀ t : Fin grid0.N, _)
theorem idx05 : ∀ t : Fin cfg0.N, win0_5.index t = ![t.val, 0] := (by decide +kernel : ∀ t : Fin grid0.N, _)
theorem idx06 : ∀ t : Fin cfg0.N, win0_6.index t = ![t.val, 0] := (by decide +kernel : ∀ t : Fin grid0.N, _)
theorem idx07 : ∀ t : Fin cfg0.N, win0_7.index t = ![0, 0] := (by decide +kernel : ∀ t : Fin grid0.N, _)

variable (m : (ℓ : Loc nD τ sig) → Buf (Elt Ideal) ℓ)

/-- The arguments, entry by entry: the incoming gradient, the norm's input, its gain, the gradient passed by, and the weight. -/
def ctArg (c : Dev nD) (r : Fin 4096) (k : Fin 1024) : EReal := m ((c : Thread nD τ).loc main_arg0) (ix2 r k)
def hArg (c : Dev nD) (r : Fin 4096) (j : Fin 1024) : EReal := m ((c : Thread nD τ).loc main_arg1) (ix2 r j)
def gArg (c : Dev nD) (j : Fin 1024) : EReal := m ((c : Thread nD τ).loc main_arg2) (ix2 0 j)
def dhArg (c : Dev nD) (r : Fin 4096) (j : Fin 1024) : EReal := m ((c : Thread nD τ).loc main_arg3) (ix2 r j)
def wArg (c : Dev nD) (j : Fin 1024) (k : Fin 1024) : EReal := m ((c : Thread nD τ).loc main_arg4) (ix3 0 j k)

/-- The weight as the call finds it: split over four shards. -/
theorem stack (c : Dev nD) :
    V (F := Ideal) m c main_v2 = transpose S4x2x256x1024 [1, 0, 2, 3]
      (shapeCast S2x4x256x1024 (truncf .bf16 (m ((c : Thread nD τ).loc main_arg4) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem stack_entry (c : Dev nD) (j k : Fin 1024) :
    V (F := Ideal) m c main_v2 (ix4 (tile256 j) 0 (in256 j) k : S4x2x256x1024.Idx) = wArg m c j k := by
  rw [stack]
  pointwise
  exact congrArg (fun x => m ((c : Thread nD τ).loc main_arg4) (ix3 0 x k)) (at256_tile j)

/-- The gain as the call finds it. -/
theorem gain (c : Dev nD) :
    V (F := Ideal) m c main_v5 = shapeCast S1x1024 (shapeCast S1024 (extractStridedSlice S1x1024 ![0, 0] (m ((c : Thread nD τ).loc main_arg2) : FVec Ideal S2x1024 .f32) slices_S2x1024_S1x1024_0_0) shapeCasts_S1x1024_S1024)
      shapeCasts_S1024_S1x1024 := by
  show StableHlo.after hostOps0 _ _ = _
  simp only [hostOps0]
  after_results <;> rfl

theorem gain_entry (c : Dev nD) (z : Fin 1024) : V (F := Ideal) m c main_v5 (ix2 0 z : S1x1024.Idx) = gArg m c z := by
  rw [gain]
  pointwise
  rfl

/-! ## The blocks -/

theorem blk0 (c : Dev nD) (t : Fin cfg0.N) (r k : Fin 1024) :
    iblk (F := Ideal) m c 0 t (ix2 r k : S1024x1024.Idx) = ctArg m c (at4 (shard t.val t.isLt) r) k := by
  blk_simp [iblk]
  rw [V_main_arg0]
  refine congrArg (m _) ?_
  blk_ext [idx00 t, at4, shard]

theorem blk1 (c : Dev nD) (t : Fin cfg0.N) (j k : Fin 1024) :
    iblk (F := Ideal) m c 1 t (ix4 (tile256 j) 0 (in256 j) k : S4x1x256x1024.Idx) = wArg m c j k := by
  refine Eq.trans ?_ (stack_entry m c j k)
  blk_simp [iblk]
  refine congrArg (V m c main_v2) ?_
  blk_ext [idx01 t, tile256, in256]

theorem blk2 (c : Dev nD) (t : Fin cfg0.N) (r j : Fin 1024) :
    iblk (F := Ideal) m c 2 t (ix2 r j : S1024x1024.Idx) = hArg m c (at4 (shard t.val t.isLt) r) j := by
  blk_simp [iblk]
  rw [V_main_arg1]
  refine congrArg (m _) ?_
  blk_ext [idx02 t, at4, shard]

theorem blk3 (c : Dev nD) (t : Fin cfg0.N) (z : Fin 1024) : iblk (F := Ideal) m c 3 t (ix2 0 z : S1x1024.Idx) = gArg m c z := by
  refine Eq.trans ?_ (gain_entry m c z)
  blk_simp [iblk]
  refine congrArg (V m c main_v5) ?_
  blk_ext [idx03 t]

theorem blk4 (c : Dev nD) (t : Fin cfg0.N) (r j : Fin 1024) :
    iblk (F := Ideal) m c 4 t (ix2 r j : S1024x1024.Idx) = dhArg m c (at4 (shard t.val t.isLt) r) j := by
  blk_simp [iblk]
  rw [V_main_arg3]
  refine congrArg (m _) ?_
  blk_ext [idx04 t, at4, shard]

/-- The gradient reaching the normed rows. -/
def dn (c : Dev nD) : Fin 4096 → Fin 1024 → EReal := mul (ctArg m c) (tr (wArg m c))

/-- The call's entry: the gradient passed by and the one through the norm. -/
def total (c : Dev nD) (r : Fin 4096) (z : Fin 1024) : EReal := dhArg m c r z + normBack (dn m c r) (hArg m c r) (gArg m c) z

theorem whole (c : Dev nD) (t : Fin cfg0.N) (r z : Fin 1024) : mul (fun (r : Fin 1024) (k : Fin 1024) => iblk m c 0 t (ix2 r k)) (fun k z => iblk m c 1 t (ix4 (tile256 z) 0 (in256 z) k)) r z = dn m c (at4 (shard t.val t.isLt) r) z := by
  simp only [blk0, blk1]
  rfl

/-! ## What the points leave -/

/-- A point leaves the gradient of the norm's input, in both formats. -/
theorem last (c : Dev nD) (t : Fin cfg0.N) (r z : Fin 1024) :
    (outsAt0 (F := Ideal) m c t.val t.isLt).1 (ix2 r z) = total m c (at4 (shard t.val t.isLt) r) z := by
  have hN : t.val < 4 := t.isLt
  have e : (outsAt0 (F := Ideal) m c t.val t.isLt).1 (ix2 r z) = withBack (iblk m c 4 t (ix2 r z : S1024x1024.Idx)) (mul (fun (r : Fin 1024) (k : Fin 1024) => iblk m c 0 t (ix2 r k)) (fun k z => iblk m c 1 t (ix4 (tile256 z) 0 (in256 z) k)) r)
      (fun q => iblk m c 2 t (ix2 r q : S1024x1024.Idx)) (fun q => iblk m c 3 t (ix2 0 q : S1x1024.Idx)) z := by
    by_cases h2 : t.val % 4 = 0
    · rw [outsAt0_A m c t h2 (by omega)]
      dsimp only
      frame_out
      pointwise [k0_pay7, k0_pay5, k0_pay4, k0_pay2, k0_pay1, withBack, normBack, root, square]
      rfl
    · rw [outsAt0_B m c t h2 (by omega)]
      dsimp only
      generalize (outsAt0 (F := Ideal) m c (t.val - 1) (Nat.lt_of_le_of_lt (Nat.sub_le _ _) t.isLt)).2.2 = ys
      frame_out
      pointwise [k0_pay7, k0_pay5, k0_pay4, k0_pay2, k0_pay1, withBack, normBack, root, square]
      rfl
  have hd : mul (fun (r : Fin 1024) (k : Fin 1024) => iblk m c 0 t (ix2 r k)) (fun k z => iblk m c 1 t (ix4 (tile256 z) 0 (in256 z) k)) r = dn m c (at4 (shard t.val t.isLt) r) := funext fun q => whole m c t r q
  rw [e, hd]
  simp only [blk2, blk3, blk4]
  rfl

theorem last_narrow (c : Dev nD) (t : Fin cfg0.N) (r z : Fin 1024) :
    (outsAt0 (F := Ideal) m c t.val t.isLt).2.1 (ix2 r z) = total m c (at4 (shard t.val t.isLt) r) z := by
  have hN : t.val < 4 := t.isLt
  have e : (outsAt0 (F := Ideal) m c t.val t.isLt).2.1 (ix2 r z) = withBack (iblk m c 4 t (ix2 r z : S1024x1024.Idx)) (mul (fun (r : Fin 1024) (k : Fin 1024) => iblk m c 0 t (ix2 r k)) (fun k z => iblk m c 1 t (ix4 (tile256 z) 0 (in256 z) k)) r)
      (fun q => iblk m c 2 t (ix2 r q : S1024x1024.Idx)) (fun q => iblk m c 3 t (ix2 0 q : S1x1024.Idx)) z := by
    by_cases h2 : t.val % 4 = 0
    · rw [outsAt0_A m c t h2 (by omega)]
      dsimp only
      frame_out
      pointwise [k0_pay8, k0_pay7, k0_pay5, k0_pay4, k0_pay2, k0_pay1, withBack, normBack, root, square]
      rfl
    · rw [outsAt0_B m c t h2 (by omega)]
      dsimp only
      generalize (outsAt0 (F := Ideal) m c (t.val - 1) (Nat.lt_of_le_of_lt (Nat.sub_le _ _) t.isLt)).2.2 = ys
      frame_out
      pointwise [k0_pay8, k0_pay7, k0_pay5, k0_pay4, k0_pay2, k0_pay1, withBack, normBack, root, square]
      rfl
  have hd : mul (fun (r : Fin 1024) (k : Fin 1024) => iblk m c 0 t (ix2 r k)) (fun k z => iblk m c 1 t (ix4 (tile256 z) 0 (in256 z) k)) r = dn m c (at4 (shard t.val t.isLt) r) := funext fun q => whole m c t r q
  rw [e, hd]
  simp only [blk2, blk3, blk4]
  rfl

/-! ## The gain's gradient -/

/-- What a point adds to the gain's gradient. -/
theorem gain_part (c : Dev nD) (t : Fin cfg0.N) (z : Fin 1024) :
    (∑ r : Fin 1024, mul (fun (r : Fin 1024) (k : Fin 1024) => iblk m c 0 t (ix2 r k)) (fun k z => iblk m c 1 t (ix4 (tile256 z) 0 (in256 z) k)) r z * normRow (fun q => iblk m c 2 t (ix2 r q : S1024x1024.Idx)) z)
      = gainPart (dn m c) (hArg m c) (shard t.val t.isLt) z := by
  simp only [whole m c t, blk2]
  rfl

/-- The first point leaves its part. -/
theorem gain_first (c : Dev nD) (t : Fin cfg0.N) (h2 : t.val % 4 = 0) (z : Fin 1024) :
    (outsAt0 (F := Ideal) m c t.val t.isLt).2.2 (ix2 0 z) = gainPart (dn m c) (hArg m c) (shard t.val t.isLt) z := by
  have hN : t.val < 4 := t.isLt
  rw [← gain_part m c t]
  rw [outsAt0_A m c t h2 (by omega)]
  dsimp only
  frame_out
  pointwise [k0_pay6, k0_pay5, k0_pay4, k0_pay2, k0_pay1, normRow, root, square]
  rfl

/-- The later points add theirs. -/
theorem gain_next (c : Dev nD) (t : Fin cfg0.N) (h2 : ¬t.val % 4 = 0) (z : Fin 1024) :
    (outsAt0 (F := Ideal) m c t.val t.isLt).2.2 (ix2 0 z) = (outsAt0 (F := Ideal) m c (t.val - 1) (Nat.lt_of_le_of_lt (Nat.sub_le _ _) t.isLt)).2.2 (ix2 0 z) + gainPart (dn m c) (hArg m c) (shard t.val t.isLt) z := by
  rw [← gain_part m c t]
  rw [outsAt0_B m c t h2 (by omega)]
  dsimp only
  generalize (outsAt0 (F := Ideal) m c (t.val - 1) (Nat.lt_of_le_of_lt (Nat.sub_le _ _) t.isLt)).2.2 = ys
  frame_out
  pointwise [k0_pay3, k0_pay6, k0_pay5, k0_pay4, k0_pay2, k0_pay1, normRow, root, square]
  rfl

theorem gain_row (c : Dev nD) (n : ℕ) (hn : n + 1 < cfg0.N) (z : Fin 1024) :
    (outsAt0 (F := Ideal) m c (n + 1) hn).2.2 (ix2 0 z)
      = (outsAt0 (F := Ideal) m c n (by omega)).2.2 (ix2 0 z) + gainPart (dn m c) (hArg m c) (shard (n + 1) hn) z := by
  have hN : n + 1 < 4 := hn
  exact gain_next m c ⟨n + 1, hn⟩ (by dsimp only; omega) z

/-- After the last point: the whole gain's gradient. -/
theorem gain_whole (c : Dev nD) (t : Fin cfg0.N) (h : t.val % 4 = 3) (z : Fin 1024) :
    (outsAt0 (F := Ideal) m c t.val t.isLt).2.2 (ix2 0 z) = gainBack (dn m c) (hArg m c) z := by
  have hN : cfg0.N = 4 := N_0
  obtain ⟨n, hn⟩ := t
  obtain rfl : n = 3 := by dsimp only at h; omega
  refine (gain_row m c 2 (by omega) z).trans ?_
  rw [gain_row m c 1 (by omega) z, gain_row m c 0 (by omega) z, gain_first m c ⟨0, by omega⟩ rfl z, ← gainBack_parts]
  rfl

/-! ## The arrays after the run -/

theorem arr (c : Dev nD) : (dats (F := Ideal) m 0 c).arrAt 5 cfg0.N = fun i : S4096x1024.Idx => total m c (i 0) (i 1) := by
  refine (dats m 0 c).arrAt_eq_of_covers 5 _ (by decide +kernel) fun t hf y => ?_
  blk_simp
  rw [after0_5]
  obtain ⟨r, z, rfl⟩ : ∃ r z, y = (ix2 r z : S1024x1024.Idx) := ⟨y 0, y 1, eq_ix2 y⟩
  rw [last m c t]
  have e0 : (win0_5.blk t).view.emb (ix2 r z) 0 = at4 (shard t.val t.isLt) r := Fin.ext (by blk_simp [idx05 t]; simp [at4, shard, ix2])
  have e1 : (win0_5.blk t).view.emb (ix2 r z) 1 = z := Fin.ext (by blk_simp [idx05 t])
  simp only [e0, e1]

theorem arr_narrow (c : Dev nD) : (dats (F := Ideal) m 0 c).arrAt 6 cfg0.N = fun i : S4096x1024.Idx => total m c (i 0) (i 1) := by
  refine (dats m 0 c).arrAt_eq_of_covers 6 _ (by decide +kernel) fun t hf y => ?_
  blk_simp
  rw [after0_6]
  obtain ⟨r, z, rfl⟩ : ∃ r z, y = (ix2 r z : S1024x1024.Idx) := ⟨y 0, y 1, eq_ix2 y⟩
  rw [last_narrow m c t]
  have e0 : (win0_6.blk t).view.emb (ix2 r z) 0 = at4 (shard t.val t.isLt) r := Fin.ext (by blk_simp [idx06 t]; simp [at4, shard, ix2])
  have e1 : (win0_6.blk t).view.emb (ix2 r z) 1 = z := Fin.ext (by blk_simp [idx06 t])
  simp only [e0, e1]

theorem arr_gain (c : Dev nD) : (dats (F := Ideal) m 0 c).arrAt 7 cfg0.N = fun i : S1x1024.Idx => gainBack (dn m c) (hArg m c) (i 1) := by
  refine (dats m 0 c).arrAt_eq_of_covers 7 _ (by decide +kernel) fun t hf y => ?_
  blk_simp
  rw [after0_7]
  obtain ⟨z, rfl⟩ : ∃ z, y = (ix2 0 z : S1x1024.Idx) :=
    ⟨y 1, by
      refine (eq_ix2 y).trans ?_
      rw [show y 0 = (0 : Fin 1) from Subsingleton.elim (α := Fin 1) _ _]⟩
  rw [gain_whole m c t ((flush0_7 t).mp hf)]
  have e1 : (win0_7.blk t).view.emb (ix2 0 z) 1 = z := Fin.ext (by blk_simp [idx07 t])
  simp only [e1]

end Cert.Xdn0Ideal.Arr
-- ==== Proof.XdnRef0Val.lean ====
module

public import proofs.«01_k».proof.Proof.Gen.XdnRef0Ideal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the gradient of the attention's query projection's input through the norm before it, first layer, entry by entry. -/

namespace Cert.XdnRef0Ideal.Val

open Cert.XdnRef0Ideal Cert.XdnRef0Ideal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the incoming gradient, the norm's input, its gain, the gradient passed by, and the weight. -/
def ctArg (c : Dev nD) (r : Fin 4096) (k : Fin 1024) : EReal := m ((c.tc : Thread nD τ).loc main_arg0) (ix2 r k)
def hArg (c : Dev nD) (r : Fin 4096) (j : Fin 1024) : EReal := m ((c.tc : Thread nD τ).loc main_arg1) (ix2 r j)
def gArg (c : Dev nD) (j : Fin 1024) : EReal := m ((c.tc : Thread nD τ).loc main_arg2) (ix2 0 j)
def dhArg (c : Dev nD) (r : Fin 4096) (j : Fin 1024) : EReal := m ((c.tc : Thread nD τ).loc main_arg3) (ix2 r j)
def wArg (c : Dev nD) (j : Fin 1024) (k : Fin 1024) : EReal := m ((c.tc : Thread nD τ).loc main_arg4) (ix3 0 j k)

/-- The incoming gradient in the wide format, the weight, and the gain as a row. -/
def wide (x : FVec Ideal S4096x1024 .bf16) : FVec Ideal S4096x1024 .f32 := extf (F := Ideal) .f32 x bitsLt_bf16_f32
def layer (x : FVec Ideal S2x1024x1024 .f32) : FVec Ideal S1024x1024 .f32 :=
  shapeCast S1024x1024 (extractStridedSlice S1x1024x1024 ![0, 0, 0] x slices_S2x1024x1024_S1x1024x1024_0_0_0) shapeCasts_S1x1024x1024_S1024x1024
def gainRow (g : FVec Ideal S2x1024 .f32) : FVec Ideal S1x1024 .f32 :=
  broadcastInDim S1x1024 ![1] bcast_S1024_S1x1024_1 (shapeCast S1024 (extractStridedSlice S1x1024 ![0, 0] g slices_S2x1024_S1x1024_0_0) shapeCasts_S1x1024_S1024)

/-- The gradient reaching the normed rows. -/
def dnOut (x : FVec Ideal S4096x1024 .bf16) (w : FVec Ideal S2x1024x1024 .f32) : FVec Ideal S4096x1024 .f32 :=
  Host.dotGeneral (F := Ideal) dot_S4096x1024_S1024x1024_S4096x1024_1_1_0_0_n_n none (wide x) (layer w)

theorem layer_apply (x : FVec Ideal S2x1024x1024 .f32) (j : Fin 1024) (k : Fin 1024) : layer x (ix2 j k) = x (ix3 0 j k) := by
  pointwise [layer]

theorem gainRow_apply (g : FVec Ideal S2x1024 .f32) (z : Fin 1024) : gainRow g (ix2 0 z) = g (ix2 0 z) := by
  pointwise [gainRow]

theorem wide_apply (x : FVec Ideal S4096x1024 .bf16) (r : Fin 4096) (k : Fin 1024) : (wide x (ix2 r k) : EReal) = x (ix2 r k) := by
  pointwise [wide]

theorem dnOut_apply (x : FVec Ideal S4096x1024 .bf16) (w : FVec Ideal S2x1024x1024 .f32) (r : Fin 4096) (j : Fin 1024) :
    (dnOut x w (ix2 r j) : EReal) = mul (fun (r : Fin 4096) (k : Fin 1024) => x (ix2 r k)) (tr fun (j : Fin 1024) (k : Fin 1024) => w (ix3 0 j k)) r j := by
  have e : (dnOut x w (ix2 r j) : EReal) = ∑ k : Fin 1024, wide x (ix2 r k) * layer w (ix2 j k) := by pointwise [dnOut]
  rw [e]
  simp only [layer_apply, wide_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v43) = totalOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v44) = narrowOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v45) = gainOut (dnOut (m ((c.tc : Thread nD τ).loc main_arg0)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.XdnRef0Ideal.Val
-- ==== Proof.Xdn0Claim.lean ====
module

public import proofs.«01_k».proof.Defs
public import proofs.«01_k».proof.Proof.Gen.Xdn0
public import proofs.«01_k».proof.Proof.Xdn0Arr
public import proofs.«01_k».proof.Proof.XdnRef0Val
public import Idealize.ShloMosaic.Lib.Quiescent

@[expose] public section

set_option maxRecDepth 16384

noncomputable section

/-! The gradient of the attention's query projection's input through the norm before it, first layer. -/

namespace Cert.Xdn0Claim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_XdnRef0Ideal := by
  intro m g _
  refine (θ_run Cert.XdnRef0Ideal.defs _ _).mono (fun r h => ⟨fun c => (h c).2.2.2, ?_⟩) (Cert.XdnRef0Ideal.Val.run m g)
  exact sem_eq_zero_of_no_sems (by decide) r.2

/-- The calls' results are the reference's. -/
theorem algebraic : Cert.algebraic_Xdn0Ideal_XdnRef0Ideal := by
  intro m g m' g' _ hm
  have hct (c) : Cert.XdnRef0Ideal.Val.ctArg m' c = Cert.Xdn0Ideal.Arr.ctArg m c :=
    funext fun r => funext fun k => congrFun (hm c).1 (ix2 r k)
  have hh (c) : Cert.XdnRef0Ideal.Val.hArg m' c = Cert.Xdn0Ideal.Arr.hArg m c :=
    funext fun r => funext fun k => congrFun (hm c).2.1 (ix2 r k)
  have hg (c) : Cert.XdnRef0Ideal.Val.gArg m' c = Cert.Xdn0Ideal.Arr.gArg m c :=
    funext fun j => congrFun (hm c).2.2.1 (ix2 0 j)
  have hdh (c) : Cert.XdnRef0Ideal.Val.dhArg m' c = Cert.Xdn0Ideal.Arr.dhArg m c :=
    funext fun r => funext fun k => congrFun (hm c).2.2.2.1 (ix2 r k)
  have hw (c) : Cert.XdnRef0Ideal.Val.wArg m' c = Cert.Xdn0Ideal.Arr.wArg m c :=
    funext fun j => funext fun k => congrFun (hm c).2.2.2.2 (ix3 0 j k)
  have hdn (c) : mul (Cert.XdnRef0Ideal.Val.ctArg m' c) (tr (Cert.XdnRef0Ideal.Val.wArg m' c)) = Cert.Xdn0Ideal.Arr.dn m c := by
    rw [hct, hw]
    rfl
  have htotal (c) (a : Fin 4096) (b : Fin 1024) :
      Cert.XdnRef0Ideal.Val.dhArg m' c a b + normBack (mul (Cert.XdnRef0Ideal.Val.ctArg m' c) (tr (Cert.XdnRef0Ideal.Val.wArg m' c)) a) (Cert.XdnRef0Ideal.Val.hArg m' c a) (Cert.XdnRef0Ideal.Val.gArg m' c) b = Cert.Xdn0Ideal.Arr.total m c a b := by
    rw [hdn, hdh, hh, hg]
    rfl
  have hgain (c) (b : Fin 1024) :
      gainBack (mul (Cert.XdnRef0Ideal.Val.ctArg m' c) (tr (Cert.XdnRef0Ideal.Val.wArg m' c))) (Cert.XdnRef0Ideal.Val.hArg m' c) b = gainBack (Cert.Xdn0Ideal.Arr.dn m c) (Cert.Xdn0Ideal.Arr.hArg m c) b := by
    rw [hdn, hh]
  refine ⟨_, _, _, Cert.Xdn0Ideal.Value.run_blocks m g, ?_⟩
  refine (θ_run Cert.XdnRef0Ideal.defs _ _).mono (fun r h c => ?_) (Cert.XdnRef0Ideal.Val.run m' g')
  obtain ⟨h0, h1, h2, ha⟩ := h c
  refine ⟨h0.trans ?_, h1.trans ?_, h2.trans ?_, ha⟩
  · funext i
    obtain ⟨a, b, rfl⟩ : ∃ a b, i = (ix2 a b : Cert.Xdn0Ideal.S4096x1024.Idx) := ⟨i 0, i 1, eq_ix2 i⟩
    refine (Cert.NormVal.totalOut_apply _ _ _ _ a b).trans ?_
    refine Eq.trans ?_ (congrFun (Cert.Xdn0Ideal.Arr.arr m c) (ix2 a b)).symm
    simp only [Cert.XdnRef0Ideal.Val.dnOut_apply, Cert.XdnRef0Ideal.Val.gainRow_apply]
    exact htotal c a b
  · funext i
    obtain ⟨a, b, rfl⟩ : ∃ a b, i = (ix2 a b : Cert.Xdn0Ideal.S4096x1024.Idx) := ⟨i 0, i 1, eq_ix2 i⟩
    refine (Cert.NormVal.narrowOut_apply _ _ _ _ a b).trans ?_
    refine Eq.trans ?_ (congrFun (Cert.Xdn0Ideal.Arr.arr_narrow m c) (ix2 a b)).symm
    simp only [Cert.XdnRef0Ideal.Val.dnOut_apply, Cert.XdnRef0Ideal.Val.gainRow_apply]
    exact htotal c a b
  · funext i
    obtain ⟨a, b, rfl⟩ : ∃ a b, i = (ix2 a b : Cert.Xdn0Ideal.S1x1024.Idx) := ⟨i 0, i 1, eq_ix2 i⟩
    obtain rfl : a = (0 : Fin 1) := Subsingleton.elim (α := Fin 1) _ _
    refine (Cert.NormVal.gainOut_apply _ _ b).trans ?_
    refine Eq.trans ?_ (congrFun (Cert.Xdn0Ideal.Arr.arr_gain m c) (ix2 0 b)).symm
    simp only [Cert.XdnRef0Ideal.Val.dnOut_apply]
    exact hgain c b

end Cert.Xdn0Claim
-- ==== Proof.Xdn1Arr.lean ====
module

public import proofs.«01_k».proof.Proof.Gen.Xdn1Ideal.Value
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The gradient of the attention's query projection's input through the norm before it, second layer: what the call leaves, tile by tile. -/

namespace Cert.Xdn1Ideal.Arr

open Cert.Xdn1Ideal Cert.Xdn1Ideal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 1, 0, 0] := (by decide +kernel : ∀ t : Fin grid0.N, _)
theorem idx02 : ∀ t : Fin cfg0.N, win0_2.index t = ![t.val, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val, 0] := (by decide +kernel : ∀ t : Fin grid0.N, _)
theorem idx05 : ∀ t : Fin cfg0.N, win0_5.index t = ![t.val, 0] := (by decide +kernel : ∀ t : Fin grid0.N, _)
theorem idx06 : ∀ t : Fin cfg0.N, win0_6.index t = ![t.val, 0] := (by decide +kernel : ∀ t : Fin grid0.N, _)
theorem idx07 : ∀ t : Fin cfg0.N, win0_7.index t = ![0, 0] := (by decide +kernel : ∀ t : Fin grid0.N, _)

variable (m : (ℓ : Loc nD τ sig) → Buf (Elt Ideal) ℓ)

/-- The arguments, entry by entry: the incoming gradient, the norm's input, its gain, the gradient passed by, and the weight. -/
def ctArg (c : Dev nD) (r : Fin 4096) (k : Fin 1024) : EReal := m ((c : Thread nD τ).loc main_arg0) (ix2 r k)
def hArg (c : Dev nD) (r : Fin 4096) (j : Fin 1024) : EReal := m ((c : Thread nD τ).loc main_arg1) (ix2 r j)
def gArg (c : Dev nD) (j : Fin 1024) : EReal := m ((c : Thread nD τ).loc main_arg2) (ix2 1 j)
def dhArg (c : Dev nD) (r : Fin 4096) (j : Fin 1024) : EReal := m ((c : Thread nD τ).loc main_arg3) (ix2 r j)
def wArg (c : Dev nD) (j : Fin 1024) (k : Fin 1024) : EReal := m ((c : Thread nD τ).loc main_arg4) (ix3 1 j k)

/-- The weight as the call finds it: split over four shards. -/
theorem stack (c : Dev nD) :
    V (F := Ideal) m c main_v2 = transpose S4x2x256x1024 [1, 0, 2, 3]
      (shapeCast S2x4x256x1024 (truncf .bf16 (m ((c : Thread nD τ).loc main_arg4) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem stack_entry (c : Dev nD) (j k : Fin 1024) :
    V (F := Ideal) m c main_v2 (ix4 (tile256 j) 1 (in256 j) k : S4x2x256x1024.Idx) = wArg m c j k := by
  rw [stack]
  pointwise
  exact congrArg (fun x => m ((c : Thread nD τ).loc main_arg4) (ix3 1 x k)) (at256_tile j)

/-- The gain as the call finds it. -/
theorem gain (c : Dev nD) :
    V (F := Ideal) m c main_v5 = shapeCast S1x1024 (shapeCast S1024 (extractStridedSlice S1x1024 ![1, 0] (m ((c : Thread nD τ).loc main_arg2) : FVec Ideal S2x1024 .f32) slices_S2x1024_S1x1024_1_0) shapeCasts_S1x1024_S1024)
      shapeCasts_S1024_S1x1024 := by
  show StableHlo.after hostOps0 _ _ = _
  simp only [hostOps0]
  after_results <;> rfl

theorem gain_entry (c : Dev nD) (z : Fin 1024) : V (F := Ideal) m c main_v5 (ix2 0 z : S1x1024.Idx) = gArg m c z := by
  rw [gain]
  pointwise
  rfl

/-! ## The blocks -/

theorem blk0 (c : Dev nD) (t : Fin cfg0.N) (r k : Fin 1024) :
    iblk (F := Ideal) m c 0 t (ix2 r k : S1024x1024.Idx) = ctArg m c (at4 (shard t.val t.isLt) r) k := by
  blk_simp [iblk]
  rw [V_main_arg0]
  refine congrArg (m _) ?_
  blk_ext [idx00 t, at4, shard]

theorem blk1 (c : Dev nD) (t : Fin cfg0.N) (j k : Fin 1024) :
    iblk (F := Ideal) m c 1 t (ix4 (tile256 j) 0 (in256 j) k : S4x1x256x1024.Idx) = wArg m c j k := by
  refine Eq.trans ?_ (stack_entry m c j k)
  blk_simp [iblk]
  refine congrArg (V m c main_v2) ?_
  blk_ext [idx01 t, tile256, in256]

theorem blk2 (c : Dev nD) (t : Fin cfg0.N) (r j : Fin 1024) :
    iblk (F := Ideal) m c 2 t (ix2 r j : S1024x1024.Idx) = hArg m c (at4 (shard t.val t.isLt) r) j := by
  blk_simp [iblk]
  rw [V_main_arg1]
  refine congrArg (m _) ?_
  blk_ext [idx02 t, at4, shard]

theorem blk3 (c : Dev nD) (t : Fin cfg0.N) (z : Fin 1024) : iblk (F := Ideal) m c 3 t (ix2 0 z : S1x1024.Idx) = gArg m c z := by
  refine Eq.trans ?_ (gain_entry m c z)
  blk_simp [iblk]
  refine congrArg (V m c main_v5) ?_
  blk_ext [idx03 t]

theorem blk4 (c : Dev nD) (t : Fin cfg0.N) (r j : Fin 1024) :
    iblk (F := Ideal) m c 4 t (ix2 r j : S1024x1024.Idx) = dhArg m c (at4 (shard t.val t.isLt) r) j := by
  blk_simp [iblk]
  rw [V_main_arg3]
  refine congrArg (m _) ?_
  blk_ext [idx04 t, at4, shard]

/-- The gradient reaching the normed rows. -/
def dn (c : Dev nD) : Fin 4096 → Fin 1024 → EReal := mul (ctArg m c) (tr (wArg m c))

/-- The call's entry: the gradient passed by and the one through the norm. -/
def total (c : Dev nD) (r : Fin 4096) (z : Fin 1024) : EReal := dhArg m c r z + normBack (dn m c r) (hArg m c r) (gArg m c) z

theorem whole (c : Dev nD) (t : Fin cfg0.N) (r z : Fin 1024) : mul (fun (r : Fin 1024) (k : Fin 1024) => iblk m c 0 t (ix2 r k)) (fun k z => iblk m c 1 t (ix4 (tile256 z) 0 (in256 z) k)) r z = dn m c (at4 (shard t.val t.isLt) r) z := by
  simp only [blk0, blk1]
  rfl

/-! ## What the points leave -/

/-- A point leaves the gradient of the norm's input, in both formats. -/
theorem last (c : Dev nD) (t : Fin cfg0.N) (r z : Fin 1024) :
    (outsAt0 (F := Ideal) m c t.val t.isLt).1 (ix2 r z) = total m c (at4 (shard t.val t.isLt) r) z := by
  have hN : t.val < 4 := t.isLt
  have e : (outsAt0 (F := Ideal) m c t.val t.isLt).1 (ix2 r z) = withBack (iblk m c 4 t (ix2 r z : S1024x1024.Idx)) (mul (fun (r : Fin 1024) (k : Fin 1024) => iblk m c 0 t (ix2 r k)) (fun k z => iblk m c 1 t (ix4 (tile256 z) 0 (in256 z) k)) r)
      (fun q => iblk m c 2 t (ix2 r q : S1024x1024.Idx)) (fun q => iblk m c 3 t (ix2 0 q : S1x1024.Idx)) z := by
    by_cases h2 : t.val % 4 = 0
    · rw [outsAt0_A m c t h2 (by omega)]
      dsimp only
      frame_out
      pointwise [k0_pay7, k0_pay5, k0_pay4, k0_pay2, k0_pay1, withBack, normBack, root, square]
      rfl
    · rw [outsAt0_B m c t h2 (by omega)]
      dsimp only
      generalize (outsAt0 (F := Ideal) m c (t.val - 1) (Nat.lt_of_le_of_lt (Nat.sub_le _ _) t.isLt)).2.2 = ys
      frame_out
      pointwise [k0_pay7, k0_pay5, k0_pay4, k0_pay2, k0_pay1, withBack, normBack, root, square]
      rfl
  have hd : mul (fun (r : Fin 1024) (k : Fin 1024) => iblk m c 0 t (ix2 r k)) (fun k z => iblk m c 1 t (ix4 (tile256 z) 0 (in256 z) k)) r = dn m c (at4 (shard t.val t.isLt) r) := funext fun q => whole m c t r q
  rw [e, hd]
  simp only [blk2, blk3, blk4]
  rfl

theorem last_narrow (c : Dev nD) (t : Fin cfg0.N) (r z : Fin 1024) :
    (outsAt0 (F := Ideal) m c t.val t.isLt).2.1 (ix2 r z) = total m c (at4 (shard t.val t.isLt) r) z := by
  have hN : t.val < 4 := t.isLt
  have e : (outsAt0 (F := Ideal) m c t.val t.isLt).2.1 (ix2 r z) = withBack (iblk m c 4 t (ix2 r z : S1024x1024.Idx)) (mul (fun (r : Fin 1024) (k : Fin 1024) => iblk m c 0 t (ix2 r k)) (fun k z => iblk m c 1 t (ix4 (tile256 z) 0 (in256 z) k)) r)
      (fun q => iblk m c 2 t (ix2 r q : S1024x1024.Idx)) (fun q => iblk m c 3 t (ix2 0 q : S1x1024.Idx)) z := by
    by_cases h2 : t.val % 4 = 0
    · rw [outsAt0_A m c t h2 (by omega)]
      dsimp only
      frame_out
      pointwise [k0_pay8, k0_pay7, k0_pay5, k0_pay4, k0_pay2, k0_pay1, withBack, normBack, root, square]
      rfl
    · rw [outsAt0_B m c t h2 (by omega)]
      dsimp only
      generalize (outsAt0 (F := Ideal) m c (t.val - 1) (Nat.lt_of_le_of_lt (Nat.sub_le _ _) t.isLt)).2.2 = ys
      frame_out
      pointwise [k0_pay8, k0_pay7, k0_pay5, k0_pay4, k0_pay2, k0_pay1, withBack, normBack, root, square]
      rfl
  have hd : mul (fun (r : Fin 1024) (k : Fin 1024) => iblk m c 0 t (ix2 r k)) (fun k z => iblk m c 1 t (ix4 (tile256 z) 0 (in256 z) k)) r = dn m c (at4 (shard t.val t.isLt) r) := funext fun q => whole m c t r q
  rw [e, hd]
  simp only [blk2, blk3, blk4]
  rfl

/-! ## The gain's gradient -/

/-- What a point adds to the gain's gradient. -/
theorem gain_part (c : Dev nD) (t : Fin cfg0.N) (z : Fin 1024) :
    (∑ r : Fin 1024, mul (fun (r : Fin 1024) (k : Fin 1024) => iblk m c 0 t (ix2 r k)) (fun k z => iblk m c 1 t (ix4 (tile256 z) 0 (in256 z) k)) r z * normRow (fun q => iblk m c 2 t (ix2 r q : S1024x1024.Idx)) z)
      = gainPart (dn m c) (hArg m c) (shard t.val t.isLt) z := by
  simp only [whole m c t, blk2]
  rfl

/-- The first point leaves its part. -/
theorem gain_first (c : Dev nD) (t : Fin cfg0.N) (h2 : t.val % 4 = 0) (z : Fin 1024) :
    (outsAt0 (F := Ideal) m c t.val t.isLt).2.2 (ix2 0 z) = gainPart (dn m c) (hArg m c) (shard t.val t.isLt) z := by
  have hN : t.val < 4 := t.isLt
  rw [← gain_part m c t]
  rw [outsAt0_A m c t h2 (by omega)]
  dsimp only
  frame_out
  pointwise [k0_pay6, k0_pay5, k0_pay4, k0_pay2, k0_pay1, normRow, root, square]
  rfl

/-- The later points add theirs. -/
theorem gain_next (c : Dev nD) (t : Fin cfg0.N) (h2 : ¬t.val % 4 = 0) (z : Fin 1024) :
    (outsAt0 (F := Ideal) m c t.val t.isLt).2.2 (ix2 0 z) = (outsAt0 (F := Ideal) m c (t.val - 1) (Nat.lt_of_le_of_lt (Nat.sub_le _ _) t.isLt)).2.2 (ix2 0 z) + gainPart (dn m c) (hArg m c) (shard t.val t.isLt) z := by
  rw [← gain_part m c t]
  rw [outsAt0_B m c t h2 (by omega)]
  dsimp only
  generalize (outsAt0 (F := Ideal) m c (t.val - 1) (Nat.lt_of_le_of_lt (Nat.sub_le _ _) t.isLt)).2.2 = ys
  frame_out
  pointwise [k0_pay3, k0_pay6, k0_pay5, k0_pay4, k0_pay2, k0_pay1, normRow, root, square]
  rfl

theorem gain_row (c : Dev nD) (n : ℕ) (hn : n + 1 < cfg0.N) (z : Fin 1024) :
    (outsAt0 (F := Ideal) m c (n + 1) hn).2.2 (ix2 0 z)
      = (outsAt0 (F := Ideal) m c n (by omega)).2.2 (ix2 0 z) + gainPart (dn m c) (hArg m c) (shard (n + 1) hn) z := by
  have hN : n + 1 < 4 := hn
  exact gain_next m c ⟨n + 1, hn⟩ (by dsimp only; omega) z

/-- After the last point: the whole gain's gradient. -/
theorem gain_whole (c : Dev nD) (t : Fin cfg0.N) (h : t.val % 4 = 3) (z : Fin 1024) :
    (outsAt0 (F := Ideal) m c t.val t.isLt).2.2 (ix2 0 z) = gainBack (dn m c) (hArg m c) z := by
  have hN : cfg0.N = 4 := N_0
  obtain ⟨n, hn⟩ := t
  obtain rfl : n = 3 := by dsimp only at h; omega
  refine (gain_row m c 2 (by omega) z).trans ?_
  rw [gain_row m c 1 (by omega) z, gain_row m c 0 (by omega) z, gain_first m c ⟨0, by omega⟩ rfl z, ← gainBack_parts]
  rfl

/-! ## The arrays after the run -/

theorem arr (c : Dev nD) : (dats (F := Ideal) m 0 c).arrAt 5 cfg0.N = fun i : S4096x1024.Idx => total m c (i 0) (i 1) := by
  refine (dats m 0 c).arrAt_eq_of_covers 5 _ (by decide +kernel) fun t hf y => ?_
  blk_simp
  rw [after0_5]
  obtain ⟨r, z, rfl⟩ : ∃ r z, y = (ix2 r z : S1024x1024.Idx) := ⟨y 0, y 1, eq_ix2 y⟩
  rw [last m c t]
  have e0 : (win0_5.blk t).view.emb (ix2 r z) 0 = at4 (shard t.val t.isLt) r := Fin.ext (by blk_simp [idx05 t]; simp [at4, shard, ix2])
  have e1 : (win0_5.blk t).view.emb (ix2 r z) 1 = z := Fin.ext (by blk_simp [idx05 t])
  simp only [e0, e1]

theorem arr_narrow (c : Dev nD) : (dats (F := Ideal) m 0 c).arrAt 6 cfg0.N = fun i : S4096x1024.Idx => total m c (i 0) (i 1) := by
  refine (dats m 0 c).arrAt_eq_of_covers 6 _ (by decide +kernel) fun t hf y => ?_
  blk_simp
  rw [after0_6]
  obtain ⟨r, z, rfl⟩ : ∃ r z, y = (ix2 r z : S1024x1024.Idx) := ⟨y 0, y 1, eq_ix2 y⟩
  rw [last_narrow m c t]
  have e0 : (win0_6.blk t).view.emb (ix2 r z) 0 = at4 (shard t.val t.isLt) r := Fin.ext (by blk_simp [idx06 t]; simp [at4, shard, ix2])
  have e1 : (win0_6.blk t).view.emb (ix2 r z) 1 = z := Fin.ext (by blk_simp [idx06 t])
  simp only [e0, e1]

theorem arr_gain (c : Dev nD) : (dats (F := Ideal) m 0 c).arrAt 7 cfg0.N = fun i : S1x1024.Idx => gainBack (dn m c) (hArg m c) (i 1) := by
  refine (dats m 0 c).arrAt_eq_of_covers 7 _ (by decide +kernel) fun t hf y => ?_
  blk_simp
  rw [after0_7]
  obtain ⟨z, rfl⟩ : ∃ z, y = (ix2 0 z : S1x1024.Idx) :=
    ⟨y 1, by
      refine (eq_ix2 y).trans ?_
      rw [show y 0 = (0 : Fin 1) from Subsingleton.elim (α := Fin 1) _ _]⟩
  rw [gain_whole m c t ((flush0_7 t).mp hf)]
  have e1 : (win0_7.blk t).view.emb (ix2 0 z) 1 = z := Fin.ext (by blk_simp [idx07 t])
  simp only [e1]

end Cert.Xdn1Ideal.Arr
-- ==== Proof.XdnRef1Val.lean ====
module

public import proofs.«01_k».proof.Proof.Gen.XdnRef1Ideal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the gradient of the attention's query projection's input through the norm before it, second layer, entry by entry. -/

namespace Cert.XdnRef1Ideal.Val

open Cert.XdnRef1Ideal Cert.XdnRef1Ideal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the incoming gradient, the norm's input, its gain, the gradient passed by, and the weight. -/
def ctArg (c : Dev nD) (r : Fin 4096) (k : Fin 1024) : EReal := m ((c.tc : Thread nD τ).loc main_arg0) (ix2 r k)
def hArg (c : Dev nD) (r : Fin 4096) (j : Fin 1024) : EReal := m ((c.tc : Thread nD τ).loc main_arg1) (ix2 r j)
def gArg (c : Dev nD) (j : Fin 1024) : EReal := m ((c.tc : Thread nD τ).loc main_arg2) (ix2 1 j)
def dhArg (c : Dev nD) (r : Fin 4096) (j : Fin 1024) : EReal := m ((c.tc : Thread nD τ).loc main_arg3) (ix2 r j)
def wArg (c : Dev nD) (j : Fin 1024) (k : Fin 1024) : EReal := m ((c.tc : Thread nD τ).loc main_arg4) (ix3 1 j k)

/-- The incoming gradient in the wide format, the weight, and the gain as a row. -/
def wide (x : FVec Ideal S4096x1024 .bf16) : FVec Ideal S4096x1024 .f32 := extf (F := Ideal) .f32 x bitsLt_bf16_f32
def layer (x : FVec Ideal S2x1024x1024 .f32) : FVec Ideal S1024x1024 .f32 :=
  shapeCast S1024x1024 (extractStridedSlice S1x1024x1024 ![1, 0, 0] x slices_S2x1024x1024_S1x1024x1024_1_0_0) shapeCasts_S1x1024x1024_S1024x1024
def gainRow (g : FVec Ideal S2x1024 .f32) : FVec Ideal S1x1024 .f32 :=
  broadcastInDim S1x1024 ![1] bcast_S1024_S1x1024_1 (shapeCast S1024 (extractStridedSlice S1x1024 ![1, 0] g slices_S2x1024_S1x1024_1_0) shapeCasts_S1x1024_S1024)

/-- The gradient reaching the normed rows. -/
def dnOut (x : FVec Ideal S4096x1024 .bf16) (w : FVec Ideal S2x1024x1024 .f32) : FVec Ideal S4096x1024 .f32 :=
  Host.dotGeneral (F := Ideal) dot_S4096x1024_S1024x1024_S4096x1024_1_1_0_0_n_n none (wide x) (layer w)

theorem layer_apply (x : FVec Ideal S2x1024x1024 .f32) (j : Fin 1024) (k : Fin 1024) : layer x (ix2 j k) = x (ix3 1 j k) := by
  pointwise [layer]

theorem gainRow_apply (g : FVec Ideal S2x1024 .f32) (z : Fin 1024) : gainRow g (ix2 0 z) = g (ix2 1 z) := by
  pointwise [gainRow]

theorem wide_apply (x : FVec Ideal S4096x1024 .bf16) (r : Fin 4096) (k : Fin 1024) : (wide x (ix2 r k) : EReal) = x (ix2 r k) := by
  pointwise [wide]

theorem dnOut_apply (x : FVec Ideal S4096x1024 .bf16) (w : FVec Ideal S2x1024x1024 .f32) (r : Fin 4096) (j : Fin 1024) :
    (dnOut x w (ix2 r j) : EReal) = mul (fun (r : Fin 4096) (k : Fin 1024) => x (ix2 r k)) (tr fun (j : Fin 1024) (k : Fin 1024) => w (ix3 1 j k)) r j := by
  have e : (dnOut x w (ix2 r j) : EReal) = ∑ k : Fin 1024, wide x (ix2 r k) * layer w (ix2 j k) := by pointwise [dnOut]
  rw [e]
  simp only [layer_apply, wide_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v43) = totalOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v44) = narrowOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v45) = gainOut (dnOut (m ((c.tc : Thread nD τ).loc main_arg0)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.XdnRef1Ideal.Val
-- ==== Proof.Xdn1Claim.lean ====
module

public import proofs.«01_k».proof.Defs
public import proofs.«01_k».proof.Proof.Gen.Xdn1
public import proofs.«01_k».proof.Proof.Xdn1Arr
public import proofs.«01_k».proof.Proof.XdnRef1Val
public import Idealize.ShloMosaic.Lib.Quiescent

@[expose] public section

set_option maxRecDepth 16384

noncomputable section

/-! The gradient of the attention's query projection's input through the norm before it, second layer. -/

namespace Cert.Xdn1Claim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_XdnRef1Ideal := by
  intro m g _
  refine (θ_run Cert.XdnRef1Ideal.defs _ _).mono (fun r h => ⟨fun c => (h c).2.2.2, ?_⟩) (Cert.XdnRef1Ideal.Val.run m g)
  exact sem_eq_zero_of_no_sems (by decide) r.2

/-- The calls' results are the reference's. -/
theorem algebraic : Cert.algebraic_Xdn1Ideal_XdnRef1Ideal := by
  intro m g m' g' _ hm
  have hct (c) : Cert.XdnRef1Ideal.Val.ctArg m' c = Cert.Xdn1Ideal.Arr.ctArg m c :=
    funext fun r => funext fun k => congrFun (hm c).1 (ix2 r k)
  have hh (c) : Cert.XdnRef1Ideal.Val.hArg m' c = Cert.Xdn1Ideal.Arr.hArg m c :=
    funext fun r => funext fun k => congrFun (hm c).2.1 (ix2 r k)
  have hg (c) : Cert.XdnRef1Ideal.Val.gArg m' c = Cert.Xdn1Ideal.Arr.gArg m c :=
    funext fun j => congrFun (hm c).2.2.1 (ix2 1 j)
  have hdh (c) : Cert.XdnRef1Ideal.Val.dhArg m' c = Cert.Xdn1Ideal.Arr.dhArg m c :=
    funext fun r => funext fun k => congrFun (hm c).2.2.2.1 (ix2 r k)
  have hw (c) : Cert.XdnRef1Ideal.Val.wArg m' c = Cert.Xdn1Ideal.Arr.wArg m c :=
    funext fun j => funext fun k => congrFun (hm c).2.2.2.2 (ix3 1 j k)
  have hdn (c) : mul (Cert.XdnRef1Ideal.Val.ctArg m' c) (tr (Cert.XdnRef1Ideal.Val.wArg m' c)) = Cert.Xdn1Ideal.Arr.dn m c := by
    rw [hct, hw]
    rfl
  have htotal (c) (a : Fin 4096) (b : Fin 1024) :
      Cert.XdnRef1Ideal.Val.dhArg m' c a b + normBack (mul (Cert.XdnRef1Ideal.Val.ctArg m' c) (tr (Cert.XdnRef1Ideal.Val.wArg m' c)) a) (Cert.XdnRef1Ideal.Val.hArg m' c a) (Cert.XdnRef1Ideal.Val.gArg m' c) b = Cert.Xdn1Ideal.Arr.total m c a b := by
    rw [hdn, hdh, hh, hg]
    rfl
  have hgain (c) (b : Fin 1024) :
      gainBack (mul (Cert.XdnRef1Ideal.Val.ctArg m' c) (tr (Cert.XdnRef1Ideal.Val.wArg m' c))) (Cert.XdnRef1Ideal.Val.hArg m' c) b = gainBack (Cert.Xdn1Ideal.Arr.dn m c) (Cert.Xdn1Ideal.Arr.hArg m c) b := by
    rw [hdn, hh]
  refine ⟨_, _, _, Cert.Xdn1Ideal.Value.run_blocks m g, ?_⟩
  refine (θ_run Cert.XdnRef1Ideal.defs _ _).mono (fun r h c => ?_) (Cert.XdnRef1Ideal.Val.run m' g')
  obtain ⟨h0, h1, h2, ha⟩ := h c
  refine ⟨h0.trans ?_, h1.trans ?_, h2.trans ?_, ha⟩
  · funext i
    obtain ⟨a, b, rfl⟩ : ∃ a b, i = (ix2 a b : Cert.Xdn1Ideal.S4096x1024.Idx) := ⟨i 0, i 1, eq_ix2 i⟩
    refine (Cert.NormVal.totalOut_apply _ _ _ _ a b).trans ?_
    refine Eq.trans ?_ (congrFun (Cert.Xdn1Ideal.Arr.arr m c) (ix2 a b)).symm
    simp only [Cert.XdnRef1Ideal.Val.dnOut_apply, Cert.XdnRef1Ideal.Val.gainRow_apply]
    exact htotal c a b
  · funext i
    obtain ⟨a, b, rfl⟩ : ∃ a b, i = (ix2 a b : Cert.Xdn1Ideal.S4096x1024.Idx) := ⟨i 0, i 1, eq_ix2 i⟩
    refine (Cert.NormVal.narrowOut_apply _ _ _ _ a b).trans ?_
    refine Eq.trans ?_ (congrFun (Cert.Xdn1Ideal.Arr.arr_narrow m c) (ix2 a b)).symm
    simp only [Cert.XdnRef1Ideal.Val.dnOut_apply, Cert.XdnRef1Ideal.Val.gainRow_apply]
    exact htotal c a b
  · funext i
    obtain ⟨a, b, rfl⟩ : ∃ a b, i = (ix2 a b : Cert.Xdn1Ideal.S1x1024.Idx) := ⟨i 0, i 1, eq_ix2 i⟩
    obtain rfl : a = (0 : Fin 1) := Subsingleton.elim (α := Fin 1) _ _
    refine (Cert.NormVal.gainOut_apply _ _ b).trans ?_
    refine Eq.trans ?_ (congrFun (Cert.Xdn1Ideal.Arr.arr_gain m c) (ix2 0 b)).symm
    simp only [Cert.XdnRef1Ideal.Val.dnOut_apply]
    exact hgain c b

end Cert.Xdn1Claim
-- ==== Proof.CdnArr.lean ====
module

public import proofs.«01_k».proof.Proof.Gen.CdnIdeal.Value
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The gradient of the convolution block's widening product's input through the norm before it, its layer: what the call leaves, tile by tile. -/

namespace Cert.CdnIdeal.Arr

open Cert.CdnIdeal Cert.CdnIdeal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val / 4, t.val % 4] := (by decide +kernel : ∀ t : Fin grid0.N, _)
theorem idx01 : ∀ t : Fin cfg0.N, win0_1.index t = ![t.val % 4, 0, 0, 0] := (by decide +kernel : ∀ t : Fin grid0.N, _)
theorem idx02 : ∀ t : Fin cfg0.N, win0_2.index t = ![t.val / 4, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val / 4, 0] := (by decide +kernel : ∀ t : Fin grid0.N, _)
theorem idx05 : ∀ t : Fin cfg0.N, win0_5.index t = ![t.val / 4, 0] := (by decide +kernel : ∀ t : Fin grid0.N, _)
theorem idx06 : ∀ t : Fin cfg0.N, win0_6.index t = ![t.val / 4, 0] := (by decide +kernel : ∀ t : Fin grid0.N, _)
theorem idx07 : ∀ t : Fin cfg0.N, win0_7.index t = ![0, 0] := (by decide +kernel : ∀ t : Fin grid0.N, _)

variable (m : (ℓ : Loc nD τ sig) → Buf (Elt Ideal) ℓ)

/-- The arguments, entry by entry: the incoming gradient, the norm's input, its gain, the gradient passed by, and the weight. -/
def ctArg (c : Dev nD) (r : Fin 4096) (k : Fin 2048) : EReal := m ((c : Thread nD τ).loc main_arg0) (ix2 r k)
def hArg (c : Dev nD) (r : Fin 4096) (j : Fin 1024) : EReal := m ((c : Thread nD τ).loc main_arg1) (ix2 r j)
def gArg (c : Dev nD) (j : Fin 1024) : EReal := m ((c : Thread nD τ).loc main_arg2) (ix2 0 j)
def dhArg (c : Dev nD) (r : Fin 4096) (j : Fin 1024) : EReal := m ((c : Thread nD τ).loc main_arg3) (ix2 r j)
def wArg (c : Dev nD) (j : Fin 1024) (k : Fin 2048) : EReal := m ((c : Thread nD τ).loc main_arg4) (ix3 0 j k)

/-- The weight as the call finds it: split over four shards. -/
theorem stack (c : Dev nD) :
    V (F := Ideal) m c main_v2 = transpose S4x1x1024x512 [2, 0, 1, 3]
      (shapeCast S1x1024x4x512 (truncf .bf16 (m ((c : Thread nD τ).loc main_arg4) : FVec Ideal S1x1024x2048 .f32) bitsLt_bf16_f32 : FVec Ideal S1x1024x2048 .bf16)
        shapeCasts_S1x1024x2048_S1x1024x4x512) transposes_S1x1024x4x512_S4x1x1024x512_2_0_1_3 := by
  show StableHlo.after hostOps0 _ _ = _
  simp only [hostOps0]
  after_results <;> rfl

theorem stack_entry (c : Dev nD) (j : Fin 1024) (k : Fin 2048) :
    V (F := Ideal) m c main_v2 (ix4 (tile512 k) 0 j (in512 k) : S4x1x1024x512.Idx) = wArg m c j k := by
  rw [stack]
  pointwise
  exact congrArg (fun x => m ((c : Thread nD τ).loc main_arg4) (ix3 0 j x)) (at512_tile k)

/-- The gain as the call finds it. -/
theorem gain (c : Dev nD) :
    V (F := Ideal) m c main_v4 = shapeCast S1x1024 (shapeCast S1024 (m ((c : Thread nD τ).loc main_arg2) : FVec Ideal S1x1024 .f32) shapeCasts_S1x1024_S1024)
      shapeCasts_S1024_S1x1024 := by
  show StableHlo.after hostOps0 _ _ = _
  simp only [hostOps0]
  after_results <;> rfl

theorem gain_entry (c : Dev nD) (z : Fin 1024) : V (F := Ideal) m c main_v4 (ix2 0 z : S1x1024.Idx) = gArg m c z := by
  rw [gain]
  pointwise
  rfl

/-! ## The blocks -/

theorem blk0 (c : Dev nD) (t : Fin cfg0.N) (r : Fin 1024) (k : Fin 512) :
    iblk (F := Ideal) m c 0 t (ix2 r k : S1024x512.Idx) = ctArg m c (at4 (pRow t.val t.isLt) r) (at512 (pCol t.val) k) := by
  blk_simp [iblk]
  rw [V_main_arg0]
  refine congrArg (m _) ?_
  blk_ext [idx00 t, at4, at512, pCol, pRow]

theorem blk1 (c : Dev nD) (t : Fin cfg0.N) (j : Fin 1024) (k : Fin 512) :
    iblk (F := Ideal) m c 1 t (ix4 0 0 j k : S1x1x1024x512.Idx) = wArg m c j (at512 (pCol t.val) k) := by
  refine Eq.trans ?_ (stack_entry m c j (at512 (pCol t.val) k))
  rw [tile512_at, in512_at]
  blk_simp [iblk]
  refine congrArg (V m c main_v2) ?_
  blk_ext [idx01 t, pCol]

theorem blk2 (c : Dev nD) (t : Fin cfg0.N) (r j : Fin 1024) :
    iblk (F := Ideal) m c 2 t (ix2 r j : S1024x1024.Idx) = hArg m c (at4 (pRow t.val t.isLt) r) j := by
  blk_simp [iblk]
  rw [V_main_arg1]
  refine congrArg (m _) ?_
  blk_ext [idx02 t, at4, pRow]

theorem blk3 (c : Dev nD) (t : Fin cfg0.N) (z : Fin 1024) : iblk (F := Ideal) m c 3 t (ix2 0 z : S1x1024.Idx) = gArg m c z := by
  refine Eq.trans ?_ (gain_entry m c z)
  blk_simp [iblk]
  refine congrArg (V m c main_v4) ?_
  blk_ext [idx03 t]

theorem blk4 (c : Dev nD) (t : Fin cfg0.N) (r j : Fin 1024) :
    iblk (F := Ideal) m c 4 t (ix2 r j : S1024x1024.Idx) = dhArg m c (at4 (pRow t.val t.isLt) r) j := by
  blk_simp [iblk]
  rw [V_main_arg3]
  refine congrArg (m _) ?_
  blk_ext [idx04 t, at4, pRow]

/-- The gradient reaching the normed rows. -/
def dn (c : Dev nD) : Fin 4096 → Fin 1024 → EReal := mul (ctArg m c) (tr (wArg m c))

/-- The call's entry: the gradient passed by and the one through the norm. -/
def total (c : Dev nD) (r : Fin 4096) (z : Fin 1024) : EReal := dhArg m c r z + normBack (dn m c r) (hArg m c r) (gArg m c) z

/-- What the columns of step `p` add to an entry of that gradient. -/
def part (c : Dev nD) (p : Fin 4) (r : Fin 4096) (j : Fin 1024) : EReal := ∑ k : Fin 512, ctArg m c r (at512 p k) * wArg m c j (at512 p k)

theorem part_sum (c : Dev nD) (r : Fin 4096) (j : Fin 1024) : part m c 0 r j + part m c 1 r j + part m c 2 r j + part m c 3 r j = dn m c r j := by
  rw [dn, mul, sum_at512, Fin.sum_univ_four]
  rfl

theorem step_part (c : Dev nD) (t : Fin cfg0.N) (p : Fin 4) (h : t.val % 4 = p.val) (r z : Fin 1024) :
    mul (fun (r : Fin 1024) (k : Fin 512) => iblk m c 0 t (ix2 r k)) (fun k z => iblk m c 1 t (ix4 0 0 z k)) r z = part m c p (at4 (pRow t.val t.isLt) r) z := by
  simp only [blk0, blk1, show pCol t.val = p from Fin.ext h]
  rfl

/-! ## What the points leave -/

/-- A row's first point leaves what its step adds. -/
theorem first (c : Dev nD) (t : Fin cfg0.N) (h : t.val % 4 = 0) (r z : Fin 1024) :
    (outsAt0 (F := Ideal) m c t.val t.isLt).2.2.2 (ix2 r z) = part m c 0 (at4 (pRow t.val t.isLt) r) z := by
  have e : (outsAt0 (F := Ideal) m c t.val t.isLt).2.2.2 (ix2 r z) = mul (fun (r : Fin 1024) (k : Fin 512) => iblk m c 0 t (ix2 r k)) (fun k z => iblk m c 1 t (ix4 0 0 z k)) r z := by
    rw [outsAt0_A m c t h (by omega)]
    dsimp only
    frame_out
    pointwise [k0_pay2, k0_pay1]
    rfl
  rw [e, step_part m c t 0 h]

/-- Each later point of a row adds its step. -/
theorem next (c : Dev nD) (t : Fin cfg0.N) (h : ¬t.val % 4 = 0) (h' : ¬t.val % 4 = 3) (r z : Fin 1024) :
    (outsAt0 (F := Ideal) m c t.val t.isLt).2.2.2 (ix2 r z) = (outsAt0 (F := Ideal) m c (t.val - 1) (Nat.lt_of_le_of_lt (Nat.sub_le _ _) t.isLt)).2.2.2 (ix2 r z) + mul (fun (r : Fin 1024) (k : Fin 512) => iblk m c 0 t (ix2 r k)) (fun k z => iblk m c 1 t (ix4 0 0 z k)) r z := by
  rw [outsAt0_B m c t h h']
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay2, k0_pay1]
  rw [read_unread_whole]
  rfl

/-- The point before, in the same row. -/
def pred (t : Fin cfg0.N) : Fin cfg0.N := ⟨t.val - 1, Nat.lt_of_le_of_lt (Nat.sub_le _ _) t.isLt⟩

theorem row_pred (t : Fin cfg0.N) (h : ¬t.val % 4 = 0) : pRow (pred t).val (pred t).isLt = pRow t.val t.isLt :=
  Fin.ext (by simp only [pRow, pred]; omega)

theorem second (c : Dev nD) (t : Fin cfg0.N) (h : t.val % 4 = 1) (r z : Fin 1024) :
    (outsAt0 (F := Ideal) m c t.val t.isLt).2.2.2 (ix2 r z) = part m c 0 (at4 (pRow t.val t.isLt) r) z + part m c 1 (at4 (pRow t.val t.isLt) r) z := by
  have ha := first m c (pred t) (by simp only [pred]; omega) r z
  rw [row_pred t (by omega)] at ha
  rw [next m c t (by omega) (by omega), step_part m c t 1 h, ← ha]
  rfl

theorem third (c : Dev nD) (t : Fin cfg0.N) (h : t.val % 4 = 2) (r z : Fin 1024) :
    (outsAt0 (F := Ideal) m c t.val t.isLt).2.2.2 (ix2 r z) = part m c 0 (at4 (pRow t.val t.isLt) r) z + part m c 1 (at4 (pRow t.val t.isLt) r) z + part m c 2 (at4 (pRow t.val t.isLt) r) z := by
  have ha := second m c (pred t) (by simp only [pred]; omega) r z
  rw [row_pred t (by omega)] at ha
  rw [next m c t (by omega) (by omega), step_part m c t 2 h, ← ha]
  rfl

/-- Before a row's last point and with its step added: the whole gradient reaching the normed rows. -/
theorem whole (c : Dev nD) (t : Fin cfg0.N) (h : t.val % 4 = 3) (r z : Fin 1024) :
    (outsAt0 (F := Ideal) m c (t.val - 1) (Nat.lt_of_le_of_lt (Nat.sub_le _ _) t.isLt)).2.2.2 (ix2 r z) + mul (fun (r : Fin 1024) (k : Fin 512) => iblk m c 0 t (ix2 r k)) (fun k z => iblk m c 1 t (ix4 0 0 z k)) r z = dn m c (at4 (pRow t.val t.isLt) r) z := by
  have ha := third m c (pred t) (by simp only [pred]; omega) r z
  rw [row_pred t (by omega)] at ha
  rw [step_part m c t 3 h, ← part_sum, ← ha]
  rfl

/-- A row's last point leaves the gradient of the norm's input, in both formats. -/
theorem last (c : Dev nD) (t : Fin cfg0.N) (h : t.val % 4 = 3) (r z : Fin 1024) :
    (outsAt0 (F := Ideal) m c t.val t.isLt).1 (ix2 r z) = total m c (at4 (pRow t.val t.isLt) r) z := by
  have e : (outsAt0 (F := Ideal) m c t.val t.isLt).1 (ix2 r z) = withBack (iblk m c 4 t (ix2 r z : S1024x1024.Idx)) (fun q => (outsAt0 (F := Ideal) m c (t.val - 1) (Nat.lt_of_le_of_lt (Nat.sub_le _ _) t.isLt)).2.2.2 (ix2 r q) + mul (fun (r : Fin 1024) (k : Fin 512) => iblk m c 0 t (ix2 r k)) (fun k z => iblk m c 1 t (ix4 0 0 z k)) r q)
      (fun q => iblk m c 2 t (ix2 r q : S1024x1024.Idx)) (fun q => iblk m c 3 t (ix2 0 q : S1x1024.Idx)) z := by
    by_cases h2 : t.val < 4
    · rw [outsAt0_C m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay7, k0_pay5, k0_pay4, k0_pay2, k0_pay1, withBack, normBack, root, square]
      simp only [read_unread_whole]
      rfl
    · rw [outsAt0_D m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay7, k0_pay5, k0_pay4, k0_pay2, k0_pay1, withBack, normBack, root, square]
      simp only [read_unread_whole]
      rfl
  rw [e]
  simp only [whole m c t h, blk2, blk3, blk4]
  rfl

theorem last_narrow (c : Dev nD) (t : Fin cfg0.N) (h : t.val % 4 = 3) (r z : Fin 1024) :
    (outsAt0 (F := Ideal) m c t.val t.isLt).2.1 (ix2 r z) = total m c (at4 (pRow t.val t.isLt) r) z := by
  have e : (outsAt0 (F := Ideal) m c t.val t.isLt).2.1 (ix2 r z) = withBack (iblk m c 4 t (ix2 r z : S1024x1024.Idx)) (fun q => (outsAt0 (F := Ideal) m c (t.val - 1) (Nat.lt_of_le_of_lt (Nat.sub_le _ _) t.isLt)).2.2.2 (ix2 r q) + mul (fun (r : Fin 1024) (k : Fin 512) => iblk m c 0 t (ix2 r k)) (fun k z => iblk m c 1 t (ix4 0 0 z k)) r q)
      (fun q => iblk m c 2 t (ix2 r q : S1024x1024.Idx)) (fun q => iblk m c 3 t (ix2 0 q : S1x1024.Idx)) z := by
    by_cases h2 : t.val < 4
    · rw [outsAt0_C m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay8, k0_pay7, k0_pay5, k0_pay4, k0_pay2, k0_pay1, withBack, normBack, root, square]
      simp only [read_unread_whole]
      rfl
    · rw [outsAt0_D m c t (by omega) h h2 (by omega)]
      dsimp only
      generalize (outsAt0 (F := Ideal) m c (t.val - 1) (Nat.lt_of_le_of_lt (Nat.sub_le _ _) t.isLt)).2.2.2 = xs
      generalize (outsAt0 (F := Ideal) m c (t.val - 1) (Nat.lt_of_le_of_lt (Nat.sub_le _ _) t.isLt)).2.2.1 = ys
      frame_out
      pointwise [k0_pay8, k0_pay7, k0_pay5, k0_pay4, k0_pay2, k0_pay1, withBack, normBack, root, square]
      simp only [read_unread_whole]
      rfl
  rw [e]
  simp only [whole m c t h, blk2, blk3, blk4]
  rfl

/-! ## The gain's gradient -/

/-- What a row's last point adds to the gain's gradient. -/
theorem gain_part (c : Dev nD) (t : Fin cfg0.N) (h : t.val % 4 = 3) (z : Fin 1024) :
    (∑ r : Fin 1024, ((outsAt0 (F := Ideal) m c (t.val - 1) (Nat.lt_of_le_of_lt (Nat.sub_le _ _) t.isLt)).2.2.2 (ix2 r z) + mul (fun (r : Fin 1024) (k : Fin 512) => iblk m c 0 t (ix2 r k)) (fun k z => iblk m c 1 t (ix4 0 0 z k)) r z)
      * normRow (fun q => iblk m c 2 t (ix2 r q : S1024x1024.Idx)) z)
      = gainPart (dn m c) (hArg m c) (pRow t.val t.isLt) z := by
  simp only [whole m c t h, blk2]
  rfl

/-- The first row's last point leaves its part. -/
theorem gain_first (c : Dev nD) (t : Fin cfg0.N) (h : t.val % 4 = 3) (h2 : t.val < 4) (z : Fin 1024) :
    (outsAt0 (F := Ideal) m c t.val t.isLt).2.2.1 (ix2 0 z) = gainPart (dn m c) (hArg m c) (pRow t.val t.isLt) z := by
  rw [← gain_part m c t h]
  rw [outsAt0_C m c t (by omega) h h2 (by omega)]
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay6, k0_pay5, k0_pay4, k0_pay2, k0_pay1, normRow, root, square]
  simp only [read_unread_whole]
  rfl

/-- The later rows' last points add theirs. -/
theorem gain_next (c : Dev nD) (t : Fin cfg0.N) (h : t.val % 4 = 3) (h2 : ¬t.val < 4) (z : Fin 1024) :
    (outsAt0 (F := Ideal) m c t.val t.isLt).2.2.1 (ix2 0 z) = (outsAt0 (F := Ideal) m c (t.val - 1) (Nat.lt_of_le_of_lt (Nat.sub_le _ _) t.isLt)).2.2.1 (ix2 0 z) + gainPart (dn m c) (hArg m c) (pRow t.val t.isLt) z := by
  rw [← gain_part m c t h]
  rw [outsAt0_D m c t (by omega) h h2 (by omega)]
  dsimp only
  generalize (outsAt0 (F := Ideal) m c (t.val - 1) (Nat.lt_of_le_of_lt (Nat.sub_le _ _) t.isLt)).2.2.2 = xs
  generalize (outsAt0 (F := Ideal) m c (t.val - 1) (Nat.lt_of_le_of_lt (Nat.sub_le _ _) t.isLt)).2.2.1 = ys
  frame_out
  pointwise [k0_pay3, k0_pay6, k0_pay5, k0_pay4, k0_pay2, k0_pay1, normRow, root, square]
  simp only [read_unread_whole]
  rfl

/-- The other points leave it as it was. -/
theorem gain_keep (c : Dev nD) (t : Fin cfg0.N) (h0 : t.val ≠ 0) (h : ¬t.val % 4 = 3) :
    (outsAt0 (F := Ideal) m c t.val t.isLt).2.2.1 = (outsAt0 (F := Ideal) m c (t.val - 1) (Nat.lt_of_le_of_lt (Nat.sub_le _ _) t.isLt)).2.2.1 := by
  by_cases h' : t.val % 4 = 0
  · obtain ⟨n, hn⟩ := t
    cases n with
    | zero => exact absurd rfl h0
    | succ n =>
      rw [outsAt0_A m c ⟨n + 1, hn⟩ h' h]
      rfl
  · rw [outsAt0_B m c t h' h]
    rfl

theorem gain_row (c : Dev nD) (a b : ℕ) (hb : b < cfg0.N) (p : Fin 4) (h : b = a + 4) (h3 : a % 4 = 3) (hp : p.val = b / 4) (z : Fin 1024) :
    (outsAt0 (F := Ideal) m c b hb).2.2.1 (ix2 0 z)
      = (outsAt0 (F := Ideal) m c a (by omega)).2.2.1 (ix2 0 z) + gainPart (dn m c) (hArg m c) p z := by
  subst h
  obtain rfl : p = pRow (a + 4) hb := Fin.ext hp
  have k1 := gain_keep m c ⟨a + 1, by omega⟩ (by simp) (by dsimp only; omega)
  have k2 := gain_keep m c ⟨a + 2, by omega⟩ (by simp) (by dsimp only; omega)
  have k3 := gain_keep m c ⟨a + 3, by omega⟩ (by simp) (by dsimp only; omega)
  refine (gain_next m c ⟨a + 4, hb⟩ (by dsimp only; omega) (by dsimp only; omega) z).trans ?_
  exact congrArg (fun x : FVec Ideal S1x1024 .f32 => x (ix2 0 z) + gainPart (dn m c) (hArg m c) (pRow (a + 4) hb) z) (k3.trans (k2.trans k1))

theorem gain_start (c : Dev nD) (a : ℕ) (ha : a < cfg0.N) (p : Fin 4) (h : a = 3) (hp : p.val = a / 4) (z : Fin 1024) :
    (outsAt0 (F := Ideal) m c a ha).2.2.1 (ix2 0 z) = gainPart (dn m c) (hArg m c) p z := by
  obtain rfl : p = pRow a ha := Fin.ext hp
  exact gain_first m c ⟨a, ha⟩ (by dsimp only; omega) (by dsimp only; omega) z

/-- After the last point: the whole gain's gradient. -/
theorem gain_whole (c : Dev nD) (t : Fin cfg0.N) (h : t.val % 16 = 15) (z : Fin 1024) :
    (outsAt0 (F := Ideal) m c t.val t.isLt).2.2.1 (ix2 0 z) = gainBack (dn m c) (hArg m c) z := by
  have hN : cfg0.N = 16 := N_0
  have ht : t.val = 15 := by have := t.isLt; omega
  rw [gain_row m c 11 t.val t.isLt 3 ht rfl (by rw [ht]; rfl) z, gain_row m c 7 11 (by omega) 2 rfl rfl rfl z,
    gain_row m c 3 7 (by omega) 1 rfl rfl rfl z, gain_start m c 3 (by omega) 0 rfl rfl z, gainBack_parts]

/-! ## The arrays after the run -/

theorem arr (c : Dev nD) : (dats (F := Ideal) m 0 c).arrAt 5 cfg0.N = fun i : S4096x1024.Idx => total m c (i 0) (i 1) := by
  refine (dats m 0 c).arrAt_eq_of_covers 5 _ (by decide +kernel) fun t hf y => ?_
  blk_simp
  rw [after0_5]
  obtain ⟨r, z, rfl⟩ : ∃ r z, y = (ix2 r z : S1024x1024.Idx) := ⟨y 0, y 1, eq_ix2 y⟩
  rw [last m c t ((flush0_5 t).mp hf)]
  have e0 : (win0_5.blk t).view.emb (ix2 r z) 0 = at4 (pRow t.val t.isLt) r := Fin.ext (by blk_simp [idx05 t]; simp [at4, pRow, ix2])
  have e1 : (win0_5.blk t).view.emb (ix2 r z) 1 = z := Fin.ext (by blk_simp [idx05 t])
  simp only [e0, e1]

theorem arr_narrow (c : Dev nD) : (dats (F := Ideal) m 0 c).arrAt 6 cfg0.N = fun i : S4096x1024.Idx => total m c (i 0) (i 1) := by
  refine (dats m 0 c).arrAt_eq_of_covers 6 _ (by decide +kernel) fun t hf y => ?_
  blk_simp
  rw [after0_6]
  obtain ⟨r, z, rfl⟩ : ∃ r z, y = (ix2 r z : S1024x1024.Idx) := ⟨y 0, y 1, eq_ix2 y⟩
  rw [last_narrow m c t ((flush0_6 t).mp hf)]
  have e0 : (win0_6.blk t).view.emb (ix2 r z) 0 = at4 (pRow t.val t.isLt) r := Fin.ext (by blk_simp [idx06 t]; simp [at4, pRow, ix2])
  have e1 : (win0_6.blk t).view.emb (ix2 r z) 1 = z := Fin.ext (by blk_simp [idx06 t])
  simp only [e0, e1]

theorem arr_gain (c : Dev nD) : (dats (F := Ideal) m 0 c).arrAt 7 cfg0.N = fun i : S1x1024.Idx => gainBack (dn m c) (hArg m c) (i 1) := by
  refine (dats m 0 c).arrAt_eq_of_covers 7 _ (by decide +kernel) fun t hf y => ?_
  blk_simp
  rw [after0_7]
  obtain ⟨z, rfl⟩ : ∃ z, y = (ix2 0 z : S1x1024.Idx) :=
    ⟨y 1, by
      refine (eq_ix2 y).trans ?_
      rw [show y 0 = (0 : Fin 1) from Subsingleton.elim (α := Fin 1) _ _]⟩
  rw [gain_whole m c t ((flush0_7 t).mp hf)]
  have e1 : (win0_7.blk t).view.emb (ix2 0 z) 1 = z := Fin.ext (by blk_simp [idx07 t])
  simp only [e1]

end Cert.CdnIdeal.Arr
-- ==== Proof.CdnRefVal.lean ====
module

public import proofs.«01_k».proof.Proof.Gen.CdnRefIdeal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the gradient of the convolution block's widening product's input through the norm before it, its layer, entry by entry. -/

namespace Cert.CdnRefIdeal.Val

open Cert.CdnRefIdeal Cert.CdnRefIdeal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the incoming gradient, the norm's input, its gain, the gradient passed by, and the weight. -/
def ctArg (c : Dev nD) (r : Fin 4096) (k : Fin 2048) : EReal := m ((c.tc : Thread nD τ).loc main_arg0) (ix2 r k)
def hArg (c : Dev nD) (r : Fin 4096) (j : Fin 1024) : EReal := m ((c.tc : Thread nD τ).loc main_arg1) (ix2 r j)
def gArg (c : Dev nD) (j : Fin 1024) : EReal := m ((c.tc : Thread nD τ).loc main_arg2) (ix2 0 j)
def dhArg (c : Dev nD) (r : Fin 4096) (j : Fin 1024) : EReal := m ((c.tc : Thread nD τ).loc main_arg3) (ix2 r j)
def wArg (c : Dev nD) (j : Fin 1024) (k : Fin 2048) : EReal := m ((c.tc : Thread nD τ).loc main_arg4) (ix3 0 j k)

/-- The incoming gradient in the wide format, the weight, and the gain as a row. -/
def wide (x : FVec Ideal S4096x2048 .bf16) : FVec Ideal S4096x2048 .f32 := extf (F := Ideal) .f32 x bitsLt_bf16_f32
def layer (x : FVec Ideal S1x1024x2048 .f32) : FVec Ideal S1024x2048 .f32 := shapeCast S1024x2048 x shapeCasts_S1x1024x2048_S1024x2048
def gainRow (g : FVec Ideal S1x1024 .f32) : FVec Ideal S1x1024 .f32 :=
  broadcastInDim S1x1024 ![1] bcast_S1024_S1x1024_1 (shapeCast S1024 g shapeCasts_S1x1024_S1024)

/-- The gradient reaching the normed rows. -/
def dnOut (x : FVec Ideal S4096x2048 .bf16) (w : FVec Ideal S1x1024x2048 .f32) : FVec Ideal S4096x1024 .f32 :=
  Host.dotGeneral (F := Ideal) dot_S4096x2048_S1024x2048_S4096x1024_1_1_0_0_n_n none (wide x) (layer w)

theorem layer_apply (x : FVec Ideal S1x1024x2048 .f32) (j : Fin 1024) (k : Fin 2048) : layer x (ix2 j k) = x (ix3 0 j k) := by
  pointwise [layer]

theorem gainRow_apply (g : FVec Ideal S1x1024 .f32) (z : Fin 1024) : gainRow g (ix2 0 z) = g (ix2 0 z) := by
  pointwise [gainRow]

theorem wide_apply (x : FVec Ideal S4096x2048 .bf16) (r : Fin 4096) (k : Fin 2048) : (wide x (ix2 r k) : EReal) = x (ix2 r k) := by
  pointwise [wide]

theorem dnOut_apply (x : FVec Ideal S4096x2048 .bf16) (w : FVec Ideal S1x1024x2048 .f32) (r : Fin 4096) (j : Fin 1024) :
    (dnOut x w (ix2 r j) : EReal) = mul (fun (r : Fin 4096) (k : Fin 2048) => x (ix2 r k)) (tr fun (j : Fin 1024) (k : Fin 2048) => w (ix3 0 j k)) r j := by
  have e : (dnOut x w (ix2 r j) : EReal) = ∑ k : Fin 2048, wide x (ix2 r k) * layer w (ix2 j k) := by pointwise [dnOut]
  rw [e]
  simp only [layer_apply, wide_apply]
  rfl

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v41) = totalOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v42) = narrowOut (dnOut (m ((c.tc : Thread nD τ).loc main_arg0)) (m ((c.tc : Thread nD τ).loc main_arg4))) (m ((c.tc : Thread nD τ).loc main_arg3)) (m ((c.tc : Thread nD τ).loc main_arg1)) (gainRow (m ((c.tc : Thread nD τ).loc main_arg2)))
      ∧ r.2.mem ((c.tc : Thread nD τ).loc main_v43) = gainOut (dnOut (m ((c.tc : Thread nD τ).loc main_arg0)) (m ((c.tc : Thread nD τ).loc main_arg4))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.CdnRefIdeal.Val
-- ==== Proof.CdnClaim.lean ====
module

public import proofs.«01_k».proof.Defs
public import proofs.«01_k».proof.Proof.Gen.Cdn
public import proofs.«01_k».proof.Proof.CdnArr
public import proofs.«01_k».proof.Proof.CdnRefVal
public import Idealize.ShloMosaic.Lib.Quiescent

@[expose] public section

set_option maxRecDepth 16384

noncomputable section

/-! The gradient of the convolution block's widening product's input through the norm before it, its layer. -/

namespace Cert.CdnClaim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_CdnRefIdeal := by
  intro m g _
  refine (θ_run Cert.CdnRefIdeal.defs _ _).mono (fun r h => ⟨fun c => (h c).2.2.2, ?_⟩) (Cert.CdnRefIdeal.Val.run m g)
  exact sem_eq_zero_of_no_sems (by decide) r.2

/-- The calls' results are the reference's. -/
theorem algebraic : Cert.algebraic_CdnIdeal_CdnRefIdeal := by
  intro m g m' g' _ hm
  have hct (c) : Cert.CdnRefIdeal.Val.ctArg m' c = Cert.CdnIdeal.Arr.ctArg m c :=
    funext fun r => funext fun k => congrFun (hm c).1 (ix2 r k)
  have hh (c) : Cert.CdnRefIdeal.Val.hArg m' c = Cert.CdnIdeal.Arr.hArg m c :=
    funext fun r => funext fun k => congrFun (hm c).2.1 (ix2 r k)
  have hg (c) : Cert.CdnRefIdeal.Val.gArg m' c = Cert.CdnIdeal.Arr.gArg m c :=
    funext fun j => congrFun (hm c).2.2.1 (ix2 0 j)
  have hdh (c) : Cert.CdnRefIdeal.Val.dhArg m' c = Cert.CdnIdeal.Arr.dhArg m c :=
    funext fun r => funext fun k => congrFun (hm c).2.2.2.1 (ix2 r k)
  have hw (c) : Cert.CdnRefIdeal.Val.wArg m' c = Cert.CdnIdeal.Arr.wArg m c :=
    funext fun j => funext fun k => congrFun (hm c).2.2.2.2 (ix3 0 j k)
  have hdn (c) : mul (Cert.CdnRefIdeal.Val.ctArg m' c) (tr (Cert.CdnRefIdeal.Val.wArg m' c)) = Cert.CdnIdeal.Arr.dn m c := by
    rw [hct, hw]
    rfl
  have htotal (c) (a : Fin 4096) (b : Fin 1024) :
      Cert.CdnRefIdeal.Val.dhArg m' c a b + normBack (mul (Cert.CdnRefIdeal.Val.ctArg m' c) (tr (Cert.CdnRefIdeal.Val.wArg m' c)) a) (Cert.CdnRefIdeal.Val.hArg m' c a) (Cert.CdnRefIdeal.Val.gArg m' c) b = Cert.CdnIdeal.Arr.total m c a b := by
    rw [hdn, hdh, hh, hg]
    rfl
  have hgain (c) (b : Fin 1024) :
      gainBack (mul (Cert.CdnRefIdeal.Val.ctArg m' c) (tr (Cert.CdnRefIdeal.Val.wArg m' c))) (Cert.CdnRefIdeal.Val.hArg m' c) b = gainBack (Cert.CdnIdeal.Arr.dn m c) (Cert.CdnIdeal.Arr.hArg m c) b := by
    rw [hdn, hh]
  refine ⟨_, _, _, Cert.CdnIdeal.Value.run_blocks m g, ?_⟩
  refine (θ_run Cert.CdnRefIdeal.defs _ _).mono (fun r h c => ?_) (Cert.CdnRefIdeal.Val.run m' g')
  obtain ⟨h0, h1, h2, ha⟩ := h c
  refine ⟨h0.trans ?_, h1.trans ?_, h2.trans ?_, ha⟩
  · funext i
    obtain ⟨a, b, rfl⟩ : ∃ a b, i = (ix2 a b : Cert.CdnIdeal.S4096x1024.Idx) := ⟨i 0, i 1, eq_ix2 i⟩
    refine (Cert.NormVal.totalOut_apply _ _ _ _ a b).trans ?_
    refine Eq.trans ?_ (congrFun (Cert.CdnIdeal.Arr.arr m c) (ix2 a b)).symm
    simp only [Cert.CdnRefIdeal.Val.dnOut_apply, Cert.CdnRefIdeal.Val.gainRow_apply]
    exact htotal c a b
  · funext i
    obtain ⟨a, b, rfl⟩ : ∃ a b, i = (ix2 a b : Cert.CdnIdeal.S4096x1024.Idx) := ⟨i 0, i 1, eq_ix2 i⟩
    refine (Cert.NormVal.narrowOut_apply _ _ _ _ a b).trans ?_
    refine Eq.trans ?_ (congrFun (Cert.CdnIdeal.Arr.arr_narrow m c) (ix2 a b)).symm
    simp only [Cert.CdnRefIdeal.Val.dnOut_apply, Cert.CdnRefIdeal.Val.gainRow_apply]
    exact htotal c a b
  · funext i
    obtain ⟨a, b, rfl⟩ : ∃ a b, i = (ix2 a b : Cert.CdnIdeal.S1x1024.Idx) := ⟨i 0, i 1, eq_ix2 i⟩
    obtain rfl : a = (0 : Fin 1) := Subsingleton.elim (α := Fin 1) _ _
    refine (Cert.NormVal.gainOut_apply _ _ b).trans ?_
    refine Eq.trans ?_ (congrFun (Cert.CdnIdeal.Arr.arr_gain m c) (ix2 0 b)).symm
    simp only [Cert.CdnRefIdeal.Val.dnOut_apply]
    exact hgain c b

end Cert.CdnClaim
-- ==== Proof.Out0Run.lean ====
module

public import proofs.«01_k».proof.Proof.Gen.Out0Ideal.Frame

@[expose] public section

set_option maxRecDepth 16384

noncomputable section

namespace Cert.Out0Ideal.Run

open Cert.Out0Ideal Cert.Out0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The two calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v9_0) = W4 m ρ c (Proc.devRef .tc main_v9_0)
      ∧ r.2.mem ((c.tc : Thread nD τ).loc main_v9_1) = W4 m ρ c (Proc.devRef .tc main_v9_1)
      ∧ r.2.mem ((c.tc : Thread nD τ).loc main_v13_0) = W4 m ρ c (Proc.devRef .tc main_v13_0)
      ∧ r.2.mem ((c.tc : Thread nD τ).loc main_v13_1) = W4 m ρ c (Proc.devRef .tc main_v13_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v9_0 (by decide)),
      h c _ (mem_uc main_v9_1 (by decide)),
      h c _ (mem_uc main_v13_0 (by decide)),
      h c _ (mem_uc main_v13_1 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩) (run m ρ)

end Cert.Out0Ideal.Run
-- ==== Proof.Out0Arr.lean ====
module

public import proofs.«01_k».proof.Proof.Out0Run
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The output products of the recurrent block and of the first layer's attention, each with its skip connection and the norm after it:
what the calls leave, tile by tile, and the program's results. -/

namespace Cert.Out0Ideal.Arr

open Cert.Out0Ideal Cert.Out0Ideal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 0, 0, 0] := (by decide +kernel : ∀ t : Fin grid0.N, _)
theorem idx02 : ∀ t : Fin cfg0.N, win0_2.index t = ![t.val, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![t.val, 0] := (by decide +kernel : ∀ t : Fin grid0.N, _)
theorem idx05 : ∀ t : Fin cfg0.N, win0_5.index t = ![t.val, 0] := (by decide +kernel : ∀ t : Fin grid0.N, _)
theorem idx10 : ∀ t : Fin cfg1.N, win1_0.index t = ![t.val, 0] := (by decide +kernel : ∀ t : Fin grid1.N, _)
theorem idx11 : ∀ t : Fin cfg1.N, win1_1.index t = ![0, 0, 0, 0] := (by decide +kernel : ∀ t : Fin grid1.N, _)
theorem idx12 : ∀ t : Fin cfg1.N, win1_2.index t = ![t.val, 0] := (by decide +kernel : ∀ t : Fin grid1.N, _)
theorem idx13 : ∀ t : Fin cfg1.N, win1_3.index t = ![0, 0] := (by decide +kernel : ∀ t : Fin grid1.N, _)
theorem idx14 : ∀ t : Fin cfg1.N, win1_4.index t = ![t.val, 0] := (by decide +kernel : ∀ t : Fin grid1.N, _)
theorem idx15 : ∀ t : Fin cfg1.N, win1_5.index t = ![t.val, 0] := (by decide +kernel : ∀ t : Fin grid1.N, _)

section
variable (V : (c : Dev nD) → (b : Ref sig .tc) → Buf (Elt Ideal) ((c : Thread nD τ).loc b))

/-- The arrays the calls read, entry by entry: the inner values, the skip connections, the weights, split over four shards with their
    rows numbered through, and the gains. -/
def xMat (c : Dev nD) (r : Fin 4096) (k : Fin 1024) : EReal := V c main_arg0 (ix2 r k)
def hMat (c : Dev nD) (r : Fin 4096) (k : Fin 1024) : EReal := V c main_arg1 (ix2 r k)
def yMat (c : Dev nD) (r : Fin 4096) (k : Fin 1024) : EReal := V c main_arg2 (ix2 r k)
def kMat (c : Dev nD) (r : Fin 4096) (k : Fin 1024) : EReal := V c main_arg3 (ix2 r k)
def wMat (c : Dev nD) (k j : Fin 1024) : EReal := V c main_v2 (ix4 (tile256 k) 0 (in256 k) j)
def uMat (c : Dev nD) (k j : Fin 1024) : EReal := V c main_v5 (ix4 (tile256 k) 0 (in256 k) j)
def gMat (c : Dev nD) (j : Fin 1024) : EReal := V c main_v8 (ix2 0 j)
def fMat (c : Dev nD) (j : Fin 1024) : EReal := V c main_v12 (ix2 0 j)

/-- What the two calls make of them. -/
def out0 (c : Dev nD) (r : Fin 4096) (j : Fin 1024) : EReal := mul (xMat V c) (wMat V c) r j + hMat V c r j
def out1 (c : Dev nD) (r : Fin 4096) (j : Fin 1024) : EReal := mul (yMat V c) (uMat V c) r j + kMat V c r j

/-! ## What one tile's body leaves -/

theorem tile0 (c : Dev nD) (t : Fin cfg0.N) (r z : Fin 1024) :
    (outsAt0 (F := Ideal) V c t).1 (ix2 r z) = mul (fun (r : Fin 1024) (k : Fin 1024) => iblk0 V c 0 t (ix2 r k)) (fun k z => iblk0 V c 1 t (ix4 (tile256 k) 0 (in256 k) z)) r z + iblk0 V c 2 t (ix2 r z : S1024x1024.Idx) := by
  rw [outsAt0]
  dsimp only
  frame_out
  pointwise [k0_pay3, k0_pay2, k0_pay1]
  rfl

theorem tile0_norm (c : Dev nD) (t : Fin cfg0.N) (r z : Fin 1024) :
    (outsAt0 (F := Ideal) V c t).2 (ix2 r z) = normed (fun q => mul (fun (r : Fin 1024) (k : Fin 1024) => iblk0 V c 0 t (ix2 r k)) (fun k z => iblk0 V c 1 t (ix4 (tile256 k) 0 (in256 k) z)) r q + iblk0 V c 2 t (ix2 r q : S1024x1024.Idx)) z (iblk0 V c 3 t (ix2 0 z : S1x1024.Idx)) := by
  rw [outsAt0]
  dsimp only
  frame_out
  pointwise [k0_pay4, k0_pay3, k0_pay2, k0_pay1, normed]
  rfl

theorem tile1 (c : Dev nD) (t : Fin cfg1.N) (r z : Fin 1024) :
    (outsAt1 (F := Ideal) V c t).1 (ix2 r z) = mul (fun (r : Fin 1024) (k : Fin 1024) => iblk1 V c 0 t (ix2 r k)) (fun k z => iblk1 V c 1 t (ix4 (tile256 k) 0 (in256 k) z)) r z + iblk1 V c 2 t (ix2 r z : S1024x1024.Idx) := by
  rw [outsAt1]
  dsimp only
  frame_out
  pointwise [k1_pay3, k1_pay2, k1_pay1]
  rfl

theorem tile1_norm (c : Dev nD) (t : Fin cfg1.N) (r z : Fin 1024) :
    (outsAt1 (F := Ideal) V c t).2 (ix2 r z) = normed (fun q => mul (fun (r : Fin 1024) (k : Fin 1024) => iblk1 V c 0 t (ix2 r k)) (fun k z => iblk1 V c 1 t (ix4 (tile256 k) 0 (in256 k) z)) r q + iblk1 V c 2 t (ix2 r q : S1024x1024.Idx)) z (iblk1 V c 3 t (ix2 0 z : S1x1024.Idx)) := by
  rw [outsAt1]
  dsimp only
  frame_out
  pointwise [k1_pay4, k1_pay3, k1_pay2, k1_pay1, normed]
  rfl

/-! ## The calls' blocks and arrays -/

theorem blk00 (c : Dev nD) (t : Fin cfg0.N) (r k : Fin 1024) :
    iblk0 (F := Ideal) V c 0 t (ix2 r k : S1024x1024.Idx) = xMat V c (at4 (shard t.val t.isLt) r) k := by
  blk_simp [iblk0]
  refine congrArg (V c main_arg0) ?_
  blk_ext [idx00 t, at4, shard]

theorem blk01 (c : Dev nD) (t : Fin cfg0.N) (k j : Fin 1024) :
    iblk0 (F := Ideal) V c 1 t (ix4 (tile256 k) 0 (in256 k) j : S4x1x256x1024.Idx) = wMat V c k j := by
  blk_simp [iblk0]
  refine congrArg (V c main_v2) ?_
  blk_ext [idx01 t, tile256, in256]

theorem blk02 (c : Dev nD) (t : Fin cfg0.N) (r k : Fin 1024) :
    iblk0 (F := Ideal) V c 2 t (ix2 r k : S1024x1024.Idx) = hMat V c (at4 (shard t.val t.isLt) r) k := by
  blk_simp [iblk0]
  refine congrArg (V c main_arg1) ?_
  blk_ext [idx02 t, at4, shard]

theorem blk03 (c : Dev nD) (t : Fin cfg0.N) (j : Fin 1024) :
    iblk0 (F := Ideal) V c 3 t (ix2 0 j : S1x1024.Idx) = gMat V c j := by
  blk_simp [iblk0]
  refine congrArg (V c main_v8) ?_
  blk_ext [idx03 t]

theorem arr0 (c : Dev nD) :
    (dat0 (F := Ideal) V c).arrAt 4 cfg0.N = fun i : S4096x1024.Idx => out0 V c (i 0) (i 1) := by
  refine (dat0 V c).arrAt_eq_of_covers 4 _ (by decide +kernel) fun t _ y => ?_
  blk_simp
  rw [after0_4]
  obtain ⟨r, z, rfl⟩ : ∃ r z, y = (ix2 r z : S1024x1024.Idx) := ⟨y 0, y 1, eq_ix2 y⟩
  rw [tile0]
  have e0 : (win0_4.blk t).view.emb (ix2 r z) 0 = at4 (shard t.val t.isLt) r := Fin.ext (by blk_simp [idx04 t]; simp [at4, shard, ix2])
  have e1 : (win0_4.blk t).view.emb (ix2 r z) 1 = z := Fin.ext (by blk_simp [idx04 t])
  simp only [e0, e1, blk00, blk01, blk02]
  rfl

theorem arr0_norm (c : Dev nD) :
    (dat0 (F := Ideal) V c).arrAt 5 cfg0.N = fun i : S4096x1024.Idx => normed (out0 V c (i 0)) (i 1) (gMat V c (i 1)) := by
  refine (dat0 V c).arrAt_eq_of_covers 5 _ (by decide +kernel) fun t _ y => ?_
  blk_simp
  rw [after0_5]
  obtain ⟨r, z, rfl⟩ : ∃ r z, y = (ix2 r z : S1024x1024.Idx) := ⟨y 0, y 1, eq_ix2 y⟩
  rw [tile0_norm]
  have e0 : (win0_5.blk t).view.emb (ix2 r z) 0 = at4 (shard t.val t.isLt) r := Fin.ext (by blk_simp [idx05 t]; simp [at4, shard, ix2])
  have e1 : (win0_5.blk t).view.emb (ix2 r z) 1 = z := Fin.ext (by blk_simp [idx05 t])
  simp only [e0, e1, blk00, blk01, blk02, blk03]
  rfl

theorem blk10 (c : Dev nD) (t : Fin cfg1.N) (r k : Fin 1024) :
    iblk1 (F := Ideal) V c 0 t (ix2 r k : S1024x1024.Idx) = yMat V c (at4 (shard t.val t.isLt) r) k := by
  blk_simp [iblk1]
  refine congrArg (V c main_arg2) ?_
  blk_ext [idx10 t, at4, shard]

theorem blk11 (c : Dev nD) (t : Fin cfg1.N) (k j : Fin 1024) :
    iblk1 (F := Ideal) V c 1 t (ix4 (tile256 k) 0 (in256 k) j : S4x1x256x1024.Idx) = uMat V c k j := by
  blk_simp [iblk1]
  refine congrArg (V c main_v5) ?_
  blk_ext [idx11 t, tile256, in256]

theorem blk12 (c : Dev nD) (t : Fin cfg1.N) (r k : Fin 1024) :
    iblk1 (F := Ideal) V c 2 t (ix2 r k : S1024x1024.Idx) = kMat V c (at4 (shard t.val t.isLt) r) k := by
  blk_simp [iblk1]
  refine congrArg (V c main_arg3) ?_
  blk_ext [idx12 t, at4, shard]

theorem blk13 (c : Dev nD) (t : Fin cfg1.N) (j : Fin 1024) :
    iblk1 (F := Ideal) V c 3 t (ix2 0 j : S1x1024.Idx) = fMat V c j := by
  blk_simp [iblk1]
  refine congrArg (V c main_v12) ?_
  blk_ext [idx13 t]

theorem arr1 (c : Dev nD) :
    (dat1 (F := Ideal) V c).arrAt 4 cfg1.N = fun i : S4096x1024.Idx => out1 V c (i 0) (i 1) := by
  refine (dat1 V c).arrAt_eq_of_covers 4 _ (by decide +kernel) fun t _ y => ?_
  blk_simp
  rw [after1_4]
  obtain ⟨r, z, rfl⟩ : ∃ r z, y = (ix2 r z : S1024x1024.Idx) := ⟨y 0, y 1, eq_ix2 y⟩
  rw [tile1]
  have e0 : (win1_4.blk t).view.emb (ix2 r z) 0 = at4 (shard t.val t.isLt) r := Fin.ext (by blk_simp [idx14 t]; simp [at4, shard, ix2])
  have e1 : (win1_4.blk t).view.emb (ix2 r z) 1 = z := Fin.ext (by blk_simp [idx14 t])
  simp only [e0, e1, blk10, blk11, blk12]
  rfl

theorem arr1_norm (c : Dev nD) :
    (dat1 (F := Ideal) V c).arrAt 5 cfg1.N = fun i : S4096x1024.Idx => normed (out1 V c (i 0)) (i 1) (fMat V c (i 1)) := by
  refine (dat1 V c).arrAt_eq_of_covers 5 _ (by decide +kernel) fun t _ y => ?_
  blk_simp
  rw [after1_5]
  obtain ⟨r, z, rfl⟩ : ∃ r z, y = (ix2 r z : S1024x1024.Idx) := ⟨y 0, y 1, eq_ix2 y⟩
  rw [tile1_norm]
  have e0 : (win1_5.blk t).view.emb (ix2 r z) 0 = at4 (shard t.val t.isLt) r := Fin.ext (by blk_simp [idx15 t]; simp [at4, shard, ix2])
  have e1 : (win1_5.blk t).view.emb (ix2 r z) 1 = z := Fin.ext (by blk_simp [idx15 t])
  simp only [e0, e1, blk10, blk11, blk12, blk13]
  rfl

end

variable (m : (ℓ : Loc nD τ sig) → Buf (Elt Ideal) ℓ) (ρ : Dev nD → PrngReg)

/-- The arguments, entry by entry, and the two sums of them. -/
def xArg (c : Dev nD) (r : Fin 4096) (k : Fin 1024) : EReal := m ((c : Thread nD τ).loc main_arg0) (ix2 r k)
def hArg (c : Dev nD) (r : Fin 4096) (k : Fin 1024) : EReal := m ((c : Thread nD τ).loc main_arg1) (ix2 r k)
def yArg (c : Dev nD) (r : Fin 4096) (k : Fin 1024) : EReal := m ((c : Thread nD τ).loc main_arg2) (ix2 r k)
def kArg (c : Dev nD) (r : Fin 4096) (k : Fin 1024) : EReal := m ((c : Thread nD τ).loc main_arg3) (ix2 r k)
def wArg (c : Dev nD) (k j : Fin 1024) : EReal := m ((c : Thread nD τ).loc main_arg4) (ix3 0 k j)
def uArg (c : Dev nD) (k j : Fin 1024) : EReal := m ((c : Thread nD τ).loc main_arg5) (ix3 0 k j)
def gArg (c : Dev nD) (j : Fin 1024) : EReal := m ((c : Thread nD τ).loc main_arg6) (ix2 0 j)
def fArg (c : Dev nD) (j : Fin 1024) : EReal := m ((c : Thread nD τ).loc main_arg7) (ix2 0 j)
def firstOut (c : Dev nD) (r : Fin 4096) (j : Fin 1024) : EReal := mul (xArg m c) (wArg m c) r j + hArg m c r j
def secondOut (c : Dev nD) (r : Fin 4096) (j : Fin 1024) : EReal := mul (yArg m c) (uArg m c) r j + kArg m c r j

/-! ## What each call finds -/

theorem w_stack (c : Dev nD) :
    V1 (F := Ideal) m ρ c main_v2 = transpose S4x1x256x1024 [1, 0, 2, 3]
      (shapeCast S1x4x256x1024 (truncf .bf16 (m ((c : Thread nD τ).loc main_arg4) : FVec Ideal S1x1024x1024 .f32) bitsLt_bf16_f32 : FVec Ideal S1x1024x1024 .bf16)
        shapeCasts_S1x1024x1024_S1x4x256x1024) transposes_S1x4x256x1024_S4x1x256x1024_1_0_2_3 := by
  show StableHlo.after hostOps0 _ _ = _
  simp only [hostOps0]
  after_results <;> rfl

theorem w_entry (c : Dev nD) : wMat (V1 (F := Ideal) m ρ) c = wArg m c := by
  funext k j
  rw [wMat, w_stack]
  pointwise
  exact congrArg (fun x => m ((c : Thread nD τ).loc main_arg4) (ix3 0 x j)) (at256_tile k)

theorem u_stack (c : Dev nD) :
    V1 (F := Ideal) m ρ c main_v5 = transpose S4x2x256x1024 [1, 0, 2, 3]
      (shapeCast S2x4x256x1024 (truncf .bf16 (m ((c : Thread nD τ).loc main_arg5) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem u_entry (c : Dev nD) : uMat (V1 (F := Ideal) m ρ) c = uArg m c := by
  funext k j
  rw [uMat, u_stack]
  pointwise
  exact congrArg (fun x => m ((c : Thread nD τ).loc main_arg5) (ix3 0 x j)) (at256_tile k)

theorem uMat3 (c : Dev nD) : uMat (V3 (F := Ideal) m ρ) c = uArg m c := by
  refine Eq.trans ?_ (u_entry m ρ c)
  funext a b
  exact congrFun ((W3_of (F := Ideal) m ρ c main_v5 (by decide)).trans (W2_of (F := Ideal) m ρ c main_v5 (by decide))) _

theorem g_row (c : Dev nD) :
    V1 (F := Ideal) m ρ c main_v8 = shapeCast S1x1024 (shapeCast S1024 (extractStridedSlice S1x1024 ![0, 0] (m ((c : Thread nD τ).loc main_arg6) : FVec Ideal S2x1024 .f32) slices_S2x1024_S1x1024_0_0)
      shapeCasts_S1x1024_S1024) shapeCasts_S1024_S1x1024 := by
  show StableHlo.after hostOps0 _ _ = _
  simp only [hostOps0]
  after_results <;> rfl

theorem g_entry (c : Dev nD) : gMat (V1 (F := Ideal) m ρ) c = gArg m c := by
  funext z
  rw [gMat, g_row]
  pointwise
  rfl

theorem f_row (c : Dev nD) :
    V3 (F := Ideal) m ρ c main_v12 = shapeCast S1x1024 (shapeCast S1024 (extractStridedSlice S1x1024 ![0, 0] (W2 (F := Ideal) m ρ c (Proc.devRef .tc main_arg7) : FVec Ideal S2x1024 .f32) slices_S2x1024_S1x1024_0_0)
      shapeCasts_S1x1024_S1024) shapeCasts_S1024_S1x1024 := by
  show StableHlo.after hostOps1 _ _ = _
  simp only [hostOps1]
  after_results <;> rfl

theorem f_entry (c : Dev nD) : fMat (V3 (F := Ideal) m ρ) c = fArg m c := by
  funext z
  rw [fMat, f_row]
  pointwise
  exact congrFun ((W2_of (F := Ideal) m ρ c main_arg7 (by decide)).trans (W1_of (F := Ideal) m ρ c main_arg7 (by decide))) _

theorem xMat1 (c : Dev nD) : xMat (V1 (F := Ideal) m ρ) c = xArg m c := by
  funext a b
  exact congrFun (W1_of (F := Ideal) m ρ c main_arg0 (by decide)) _

theorem hMat1 (c : Dev nD) : hMat (V1 (F := Ideal) m ρ) c = hArg m c := by
  funext a b
  exact congrFun (W1_of (F := Ideal) m ρ c main_arg1 (by decide)) _

theorem yMat3 (c : Dev nD) : yMat (V3 (F := Ideal) m ρ) c = yArg m c := by
  funext a b
  exact congrFun ((W3_of (F := Ideal) m ρ c main_arg2 (by decide)).trans ((W2_of (F := Ideal) m ρ c main_arg2 (by decide)).trans (W1_of (F := Ideal) m ρ c main_arg2 (by decide)))) _

theorem kMat3 (c : Dev nD) : kMat (V3 (F := Ideal) m ρ) c = kArg m c := by
  funext a b
  exact congrFun ((W3_of (F := Ideal) m ρ c main_arg3 (by decide)).trans ((W2_of (F := Ideal) m ρ c main_arg3 (by decide)).trans (W1_of (F := Ideal) m ρ c main_arg3 (by decide)))) _

theorem out0_eq (c : Dev nD) : out0 (V1 (F := Ideal) m ρ) c = firstOut m c := by
  funext r j
  rw [out0, xMat1, w_entry, hMat1]
  rfl

theorem out1_eq (c : Dev nD) : out1 (V3 (F := Ideal) m ρ) c = secondOut m c := by
  funext r j
  rw [out1, yMat3, uMat3, kMat3]
  rfl

/-! ## The results -/

theorem first (c : Dev nD) : W4 (F := Ideal) m ρ c (Proc.devRef .tc main_v9_0) = fun i : S4096x1024.Idx => firstOut m c (i 0) (i 1) := by
  refine ((W4_of (F := Ideal) m ρ c main_v9_0 (by decide)).trans ((W3_of (F := Ideal) m ρ c main_v9_0 (by decide)).trans ((W2_arr (F := Ideal) m ρ c 4).trans (arr0 (V1 m ρ) c)))).trans ?_
  simp only [out0_eq]

theorem first_norm (c : Dev nD) : W4 (F := Ideal) m ρ c (Proc.devRef .tc main_v9_1) = fun i : S4096x1024.Idx => normed (firstOut m c (i 0)) (i 1) (gArg m c (i 1)) := by
  refine ((W4_of (F := Ideal) m ρ c main_v9_1 (by decide)).trans ((W3_of (F := Ideal) m ρ c main_v9_1 (by decide)).trans ((W2_arr (F := Ideal) m ρ c 5).trans (arr0_norm (V1 m ρ) c)))).trans ?_
  simp only [out0_eq, g_entry]

theorem second (c : Dev nD) : W4 (F := Ideal) m ρ c (Proc.devRef .tc main_v13_0) = fun i : S4096x1024.Idx => secondOut m c (i 0) (i 1) := by
  refine ((W4_arr (F := Ideal) m ρ c 4).trans (arr1 (V3 m ρ) c)).trans ?_
  simp only [out1_eq]

theorem second_norm (c : Dev nD) : W4 (F := Ideal) m ρ c (Proc.devRef .tc main_v13_1) = fun i : S4096x1024.Idx => normed (secondOut m c (i 0)) (i 1) (fArg m c (i 1)) := by
  refine ((W4_arr (F := Ideal) m ρ c 5).trans (arr1_norm (V3 m ρ) c)).trans ?_
  simp only [out1_eq, f_entry]

end Cert.Out0Ideal.Arr
-- ==== Proof.OutRef0Val.lean ====
module

public import proofs.«01_k».proof.Proof.Gen.OutRef0Ideal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the output products of the recurrent block and of the first layer's attention, entry by entry. -/

namespace Cert.OutRef0Ideal.Val

open Cert.OutRef0Ideal Cert.OutRef0Ideal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the inner values, the skip connections, the weights and the gains. -/
def xArg (c : Dev nD) (r : Fin 4096) (k : Fin 1024) : EReal := m ((c.tc : Thread nD τ).loc main_arg0) (ix2 r k)
def hArg (c : Dev nD) (r : Fin 4096) (k : Fin 1024) : EReal := m ((c.tc : Thread nD τ).loc main_arg1) (ix2 r k)
def yArg (c : Dev nD) (r : Fin 4096) (k : Fin 1024) : EReal := m ((c.tc : Thread nD τ).loc main_arg2) (ix2 r k)
def kArg (c : Dev nD) (r : Fin 4096) (k : Fin 1024) : EReal := m ((c.tc : Thread nD τ).loc main_arg3) (ix2 r k)
def wArg (c : Dev nD) (k j : Fin 1024) : EReal := m ((c.tc : Thread nD τ).loc main_arg4) (ix3 0 k j)
def uArg (c : Dev nD) (k j : Fin 1024) : EReal := m ((c.tc : Thread nD τ).loc main_arg5) (ix3 0 k j)
def gArg (c : Dev nD) (j : Fin 1024) : EReal := m ((c.tc : Thread nD τ).loc main_arg6) (ix2 0 j)
def fArg (c : Dev nD) (j : Fin 1024) : EReal := m ((c.tc : Thread nD τ).loc main_arg7) (ix2 0 j)

/-- An array of the narrow format in the wide one, a weight without its leading axis, and the first layer's part of one. -/
def wide (x : FVec Ideal S4096x1024 .bf16) : FVec Ideal S4096x1024 .f32 := extf (F := Ideal) .f32 x bitsLt_bf16_f32
def flat (x : FVec Ideal S1x1024x1024 .f32) : FVec Ideal S1024x1024 .f32 := shapeCast S1024x1024 x shapeCasts_S1x1024x1024_S1024x1024
def layer (x : FVec Ideal S2x1024x1024 .f32) : FVec Ideal S1024x1024 .f32 :=
  shapeCast S1024x1024 (extractStridedSlice S1x1024x1024 ![0, 0, 0] x slices_S2x1024x1024_S1x1024x1024_0_0_0) shapeCasts_S1x1024x1024_S1024x1024

/-- The product, and the two sums. -/
def product (x : FVec Ideal S4096x1024 .bf16) (w : FVec Ideal S1024x1024 .f32) : FVec Ideal S4096x1024 .f32 :=
  Host.dotGeneral (F := Ideal) dot_S4096x1024_S1024x1024_S4096x1024_1_0_0_1_n_n none (wide x) w
def firstOut (x : FVec Ideal S4096x1024 .bf16) (h : FVec Ideal S4096x1024 .f32) (w : FVec Ideal S1x1024x1024 .f32) : FVec Ideal S4096x1024 .f32 :=
  addf h (product x (flat w))
def secondOut (x : FVec Ideal S4096x1024 .bf16) (h : FVec Ideal S4096x1024 .f32) (w : FVec Ideal S2x1024x1024 .f32) : FVec Ideal S4096x1024 .f32 :=
  addf h (product x (layer w))

/-- The first layer's gain as a row. -/
def gainRow (g : FVec Ideal S2x1024 .f32) : FVec Ideal S1x1024 .f32 :=
  broadcastInDim S1x1024 ![1] bcast_S1024_S1x1024_1 (shapeCast S1024 (extractStridedSlice S1x1024 ![0, 0] g slices_S2x1024_S1x1024_0_0) shapeCasts_S1x1024_S1024)

theorem flat_apply (x : FVec Ideal S1x1024x1024 .f32) (k j : Fin 1024) : flat x (ix2 k j) = x (ix3 0 k j) := by
  pointwise [flat]

theorem layer_apply (x : FVec Ideal S2x1024x1024 .f32) (k j : Fin 1024) : layer x (ix2 k j) = x (ix3 0 k j) := by
  pointwise [layer]

theorem product_apply (x : FVec Ideal S4096x1024 .bf16) (w : FVec Ideal S1024x1024 .f32) (r : Fin 4096) (j : Fin 1024) :
    (product x w (ix2 r j) : EReal) = mul (fun (r : Fin 4096) (k : Fin 1024) => x (ix2 r k)) (fun (k j : Fin 1024) => w (ix2 k j)) r j := by
  have e : (product x w (ix2 r j) : EReal) = ∑ k : Fin 1024, wide x (ix2 r k) * w (ix2 k j) := by pointwise [product]
  rw [e]
  refine Finset.sum_congr rfl fun k _ => congrArg (fun a : EReal => a * w (ix2 k j)) ?_
  pointwise [wide]

theorem firstOut_apply (x : FVec Ideal S4096x1024 .bf16) (h : FVec Ideal S4096x1024 .f32) (w : FVec Ideal S1x1024x1024 .f32) (r : Fin 4096) (j : Fin 1024) :
    (firstOut x h w (ix2 r j) : EReal) = mul (fun (r : Fin 4096) (k : Fin 1024) => x (ix2 r k)) (fun (k j : Fin 1024) => w (ix3 0 k j)) r j + h (ix2 r j) := by
  have e : (firstOut x h w (ix2 r j) : EReal) = h (ix2 r j) + product x (flat w) (ix2 r j) := by pointwise [firstOut]
  rw [e, product_apply, add_comm]
  simp only [flat_apply]

theorem secondOut_apply (x : FVec Ideal S4096x1024 .bf16) (h : FVec Ideal S4096x1024 .f32) (w : FVec Ideal S2x1024x1024 .f32) (r : Fin 4096) (j : Fin 1024) :
    (secondOut x h w (ix2 r j) : EReal) = mul (fun (r : Fin 4096) (k : Fin 1024) => x (ix2 r k)) (fun (k j : Fin 1024) => w (ix3 0 k j)) r j + h (ix2 r j) := by
  have e : (secondOut x h w (ix2 r j) : EReal) = h (ix2 r j) + product x (layer w) (ix2 r j) := by pointwise [secondOut]
  rw [e, product_apply, add_comm]
  simp only [layer_apply]

theorem gainRow_apply (g : FVec Ideal S2x1024 .f32) (z : Fin 1024) : (gainRow g (ix2 0 z) : EReal) = g (ix2 0 z) := by
  pointwise [gainRow]

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v3) = firstOut (m ((c.tc : Thread nD τ).loc main_arg0)) (m ((c.tc : Thread nD τ).loc main_arg1)) (m ((c.tc : Thread nD τ).loc main_arg4))
      ∧ r.2.mem ((c.tc : Thread nD τ).loc main_v24) = normOut (firstOut (m ((c.tc : Thread nD τ).loc main_arg0)) (m ((c.tc : Thread nD τ).loc main_arg1)) (m ((c.tc : Thread nD τ).loc main_arg4))) (gainRow (m ((c.tc : Thread nD τ).loc main_arg6)))
      ∧ r.2.mem ((c.tc : Thread nD τ).loc main_v8) = secondOut (m ((c.tc : Thread nD τ).loc main_arg2)) (m ((c.tc : Thread nD τ).loc main_arg3)) (m ((c.tc : Thread nD τ).loc main_arg5))
      ∧ r.2.mem ((c.tc : Thread nD τ).loc main_v40) = normOut (secondOut (m ((c.tc : Thread nD τ).loc main_arg2)) (m ((c.tc : Thread nD τ).loc main_arg3)) (m ((c.tc : Thread nD τ).loc main_arg5))) (gainRow (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

end Cert.OutRef0Ideal.Val
-- ==== Proof.Out0Claim.lean ====
module

public import proofs.«01_k».proof.Defs
public import proofs.«01_k».proof.Proof.Gen.Out0
public import proofs.«01_k».proof.Proof.Out0Arr
public import proofs.«01_k».proof.Proof.OutRef0Val
public import Idealize.ShloMosaic.Lib.Quiescent

@[expose] public section

set_option maxRecDepth 16384

noncomputable section

/-! The output products of the recurrent block and of the first layer's attention. -/

namespace Cert.Out0Claim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_OutRef0Ideal := by
  intro m g _
  refine (θ_run Cert.OutRef0Ideal.defs _ _).mono (fun r h => ⟨fun c => (h c).2.2.2.2, ?_⟩) (Cert.OutRef0Ideal.Val.run m g)
  exact sem_eq_zero_of_no_sems (by decide) r.2

/-- The calls' results are the reference's. -/
theorem algebraic : Cert.algebraic_Out0Ideal_OutRef0Ideal := by
  intro m g m' g' _ hm
  have hx (c) : Cert.OutRef0Ideal.Val.xArg m' c = Cert.Out0Ideal.Arr.xArg m c :=
    funext fun r => funext fun k => congrFun (hm c).1 (ix2 r k)
  have hh (c) : Cert.OutRef0Ideal.Val.hArg m' c = Cert.Out0Ideal.Arr.hArg m c :=
    funext fun r => funext fun k => congrFun (hm c).2.1 (ix2 r k)
  have hy (c) : Cert.OutRef0Ideal.Val.yArg m' c = Cert.Out0Ideal.Arr.yArg m c :=
    funext fun r => funext fun k => congrFun (hm c).2.2.1 (ix2 r k)
  have hk (c) : Cert.OutRef0Ideal.Val.kArg m' c = Cert.Out0Ideal.Arr.kArg m c :=
    funext fun r => funext fun k => congrFun (hm c).2.2.2.1 (ix2 r k)
  have hw (c) : Cert.OutRef0Ideal.Val.wArg m' c = Cert.Out0Ideal.Arr.wArg m c :=
    funext fun k => funext fun j => congrFun (hm c).2.2.2.2.1 (ix3 0 k j)
  have hu (c) : Cert.OutRef0Ideal.Val.uArg m' c = Cert.Out0Ideal.Arr.uArg m c :=
    funext fun k => funext fun j => congrFun (hm c).2.2.2.2.2.1 (ix3 0 k j)
  have hg (c) : Cert.OutRef0Ideal.Val.gArg m' c = Cert.Out0Ideal.Arr.gArg m c :=
    funext fun j => congrFun (hm c).2.2.2.2.2.2.1 (ix2 0 j)
  have hf (c) : Cert.OutRef0Ideal.Val.fArg m' c = Cert.Out0Ideal.Arr.fArg m c :=
    funext fun j => congrFun (hm c).2.2.2.2.2.2.2 (ix2 0 j)
  have hfirst (c) (a : Fin 4096) (b : Fin 1024) :
      mul (Cert.OutRef0Ideal.Val.xArg m' c) (Cert.OutRef0Ideal.Val.wArg m' c) a b + Cert.OutRef0Ideal.Val.hArg m' c a b = Cert.Out0Ideal.Arr.firstOut m c a b := by
    rw [hx, hw, hh]
    rfl
  have hsecond (c) (a : Fin 4096) (b : Fin 1024) :
      mul (Cert.OutRef0Ideal.Val.yArg m' c) (Cert.OutRef0Ideal.Val.uArg m' c) a b + Cert.OutRef0Ideal.Val.kArg m' c a b = Cert.Out0Ideal.Arr.secondOut m c a b := by
    rw [hy, hu, hk]
    rfl
  refine ⟨_, _, _, _, Cert.Out0Ideal.Run.run_results m g, ?_⟩
  refine (θ_run Cert.OutRef0Ideal.defs _ _).mono (fun r h c => ?_) (Cert.OutRef0Ideal.Val.run m' g')
  obtain ⟨h0, h1, h2, h3, ha⟩ := h c
  refine ⟨h0.trans ?_, h1.trans ?_, h2.trans ?_, h3.trans ?_, ha⟩
  · funext i
    obtain ⟨a, b, rfl⟩ : ∃ a b, i = (ix2 a b : Cert.Out0Ideal.S4096x1024.Idx) := ⟨i 0, i 1, eq_ix2 i⟩
    refine (Cert.OutRef0Ideal.Val.firstOut_apply _ _ _ a b).trans ?_
    exact (hfirst c a b).trans (congrFun (Cert.Out0Ideal.Arr.first m g c) (ix2 a b)).symm
  · funext i
    obtain ⟨a, b, rfl⟩ : ∃ a b, i = (ix2 a b : Cert.Out0Ideal.S4096x1024.Idx) := ⟨i 0, i 1, eq_ix2 i⟩
    refine (Cert.NormVal.normOut_apply _ _ a b).trans ?_
    refine Eq.trans ?_ (congrFun (Cert.Out0Ideal.Arr.first_norm m g c) (ix2 a b)).symm
    exact congrArg₂ (fun y g => normed y b g) (funext fun q => (Cert.OutRef0Ideal.Val.firstOut_apply _ _ _ a q).trans (hfirst c a q)) ((Cert.OutRef0Ideal.Val.gainRow_apply _ b).trans (congrFun (hg c) b))
  · funext i
    obtain ⟨a, b, rfl⟩ : ∃ a b, i = (ix2 a b : Cert.Out0Ideal.S4096x1024.Idx) := ⟨i 0, i 1, eq_ix2 i⟩
    refine (Cert.OutRef0Ideal.Val.secondOut_apply _ _ _ a b).trans ?_
    exact (hsecond c a b).trans (congrFun (Cert.Out0Ideal.Arr.second m g c) (ix2 a b)).symm
  · funext i
    obtain ⟨a, b, rfl⟩ : ∃ a b, i = (ix2 a b : Cert.Out0Ideal.S4096x1024.Idx) := ⟨i 0, i 1, eq_ix2 i⟩
    refine (Cert.NormVal.normOut_apply _ _ a b).trans ?_
    refine Eq.trans ?_ (congrFun (Cert.Out0Ideal.Arr.second_norm m g c) (ix2 a b)).symm
    exact congrArg₂ (fun y g => normed y b g) (funext fun q => (Cert.OutRef0Ideal.Val.secondOut_apply _ _ _ a q).trans (hsecond c a q)) ((Cert.OutRef0Ideal.Val.gainRow_apply _ b).trans (congrFun (hf c) b))

end Cert.Out0Claim
-- ==== Proof.Out1Run.lean ====
module

public import proofs.«01_k».proof.Proof.Gen.Out1Ideal.Frame

@[expose] public section

set_option maxRecDepth 16384

noncomputable section

namespace Cert.Out1Ideal.Run

open Cert.Out1Ideal Cert.Out1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The two calls and the operations around them, run in order, end with every buffer that outlives a call at the contents the
    last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The results of the run, each at the contents the last boundary names, and the arguments as launched. -/
theorem run_results : θ_run defs (onTc (τ := τ) (main (F := F))) ⟨m, fun _ => 0, ρ⟩ (fun r => ∀ c : Dev nD,
      r.2.mem ((c.tc : Thread nD τ).loc main_v9_0) = W4 m ρ c (Proc.devRef .tc main_v9_0)
      ∧ r.2.mem ((c.tc : Thread nD τ).loc main_v9_1) = W4 m ρ c (Proc.devRef .tc main_v9_1)
      ∧ r.2.mem ((c.tc : Thread nD τ).loc main_v13_0) = W4 m ρ c (Proc.devRef .tc main_v13_0)
      ∧ r.2.mem ((c.tc : Thread nD τ).loc main_v13_1) = W4 m ρ c (Proc.devRef .tc main_v13_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v9_0 (by decide)),
      h c _ (mem_uc main_v9_1 (by decide)),
      h c _ (mem_uc main_v13_0 (by decide)),
      h c _ (mem_uc main_v13_1 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run m ρ)

end Cert.Out1Ideal.Run
-- ==== Proof.Out1Arr.lean ====
module

public import proofs.«01_k».proof.Proof.Out1Run
public import proofs.«01_k».proof.Proof.NormSpec
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry
public import Idealize.ShloMosaic.Lib.StableHlo.Run

@[expose] public section

set_option maxRecDepth 16384

noncomputable section

/-! The output products of the convolution block and of the second layer's attention, each with its skip connection and the norm after it:
what the calls leave, tile by tile, and the program's results. -/

namespace Cert.Out1Ideal.Arr

open Cert.Out1Ideal Cert.Out1Ideal.Gen Idealize.ShloMosaic Idealize.ShloMosaic.TcCoe Idealize.SL.Sem Idealize.ShloMosaic.StableHlo
open Idealize.ShloMosaic.Pipeline (Dat)
open Cert.MlpVal Cert.ProdVal Cert.DownVal Cert.NormVal

/-! ## Where the blocks lie -/

theorem idx00 : ∀ t : Fin cfg0.N, win0_0.index t = ![t.val, 0] := (by decide +kernel : ∀ t : Fin grid0.N, _)
theorem idx01 : ∀ t : Fin cfg0.N, win0_1.index t = ![0, 0, 0, 0] := (by decide +kernel : ∀ t : Fin grid0.N, _)
theorem idx02 : ∀ t : Fin cfg0.N, win0_2.index t = ![t.val, 0] := (by decide +kernel : ∀ t : Fin grid0.N, _)
theorem idx03 : ∀ t : Fin cfg0.N, win0_3.index t = ![0, 0] := (by decide +kernel : ∀ t : Fin grid0.N, _)
theorem idx04 : ∀ t : Fin cfg0.N, win0_4.index t = ![0, 0] := (by decide +kernel : ∀ t : Fin grid0.N, _)
theorem idx05 : ∀ t : Fin cfg0.N, win0_5.index t = ![t.val, 0] := (by decide +kernel : ∀ t : Fin grid0.N, _)
theorem idx06 : ∀ t : Fin cfg0.N, win0_6.index t = ![t.val, 0] := (by decide +kernel : ∀ t : Fin grid0.N, _)
theorem idx10 : ∀ t : Fin cfg1.N, win1_0.index t = ![t.val, 0] := (by decide +kernel : ∀ t : Fin grid1.N, _)
theorem idx11 : ∀ t : Fin cfg1.N, win1_1.index t = ![0, 1, 0, 0] := (by decide +kernel : ∀ t : Fin grid1.N, _)
theorem idx12 : ∀ t : Fin cfg1.N, win1_2.index t = ![t.val, 0] := (by decide +kernel : ∀ t : Fin grid1.N, _)
theorem idx13 : ∀ t : Fin cfg1.N, win1_3.index t = ![0, 0] := (by decide +kernel : ∀ t : Fin grid1.N, _)
theorem idx14 : ∀ t : Fin cfg1.N, win1_4.index t = ![t.val, 0] := (by decide +kernel : ∀ t : Fin grid1.N, _)
theorem idx15 : ∀ t : Fin cfg1.N, win1_5.index t = ![t.val, 0] := (by decide +kernel : ∀ t : Fin grid1.N, _)

section
variable (V : (c : Dev nD) → (b : Ref sig .tc) → Buf (Elt Ideal) ((c : Thread nD τ).loc b))

/-- The arrays the calls read, entry by entry: the inner values, the skip connections, the weights, split over four shards with their
    rows numbered through, the bias row and the gains. -/
def xMat (c : Dev nD) (r : Fin 4096) (k : Fin 1024) : EReal := V c main_arg0 (ix2 r k)
def hMat (c : Dev nD) (r : Fin 4096) (k : Fin 1024) : EReal := V c main_arg1 (ix2 r k)
def yMat (c : Dev nD) (r : Fin 4096) (k : Fin 1024) : EReal := V c main_arg2 (ix2 r k)
def kMat (c : Dev nD) (r : Fin 4096) (k : Fin 1024) : EReal := V c main_arg3 (ix2 r k)
def wMat (c : Dev nD) (k j : Fin 1024) : EReal := V c main_v2 (ix4 (tile256 k) 0 (in256 k) j)
def uMat (c : Dev nD) (k j : Fin 1024) : EReal := V c main_v5 (ix4 (tile256 k) 1 (in256 k) j)
def bMat (c : Dev nD) (j : Fin 1024) : EReal := V c main_arg5 (ix2 0 j)
def gMat (c : Dev nD) (j : Fin 1024) : EReal := V c main_v8 (ix2 0 j)
def fMat (c : Dev nD) (j : Fin 1024) : EReal := V c main_v12 (ix2 0 j)

/-- What the two calls make of them. -/
def out0 (c : Dev nD) (r : Fin 4096) (j : Fin 1024) : EReal := mul (xMat V c) (wMat V c) r j + hMat V c r j + bMat V c j
def out1 (c : Dev nD) (r : Fin 4096) (j : Fin 1024) : EReal := mul (yMat V c) (uMat V c) r j + kMat V c r j

/-! ## What one tile's body leaves -/

theorem tile0 (c : Dev nD) (t : Fin cfg0.N) (r z : Fin 1024) :
    (outsAt0 (F := Ideal) V c t).1 (ix2 r z) = mul (fun (r : Fin 1024) (k : Fin 1024) => iblk0 V c 0 t (ix2 r k)) (fun k z => iblk0 V c 1 t (ix4 (tile256 k) 0 (in256 k) z)) r z + iblk0 V c 2 t (ix2 r z : S1024x1024.Idx) + iblk0 V c 3 t (ix2 0 z : S1x1024.Idx) := by
  rw [outsAt0]
  dsimp only
  frame_out
  pointwise [k0_pay3, k0_pay2, k0_pay1]
  rfl

theorem tile0_norm (c : Dev nD) (t : Fin cfg0.N) (r z : Fin 1024) :
    (outsAt0 (F := Ideal) V c t).2 (ix2 r z) = normed (fun q => mul (fun (r : Fin 1024) (k : Fin 1024) => iblk0 V c 0 t (ix2 r k)) (fun k z => iblk0 V c 1 t (ix4 (tile256 k) 0 (in256 k) z)) r q + iblk0 V c 2 t (ix2 r q : S1024x1024.Idx) + iblk0 V c 3 t (ix2 0 q : S1x1024.Idx)) z (iblk0 V c 4 t (ix2 0 z : S1x1024.Idx)) := by
  rw [outsAt0]
  dsimp only
  frame_out
  pointwise [k0_pay4, k0_pay3, k0_pay2, k0_pay1, normed]
  rfl

theorem tile1 (c : Dev nD) (t : Fin cfg1.N) (r z : Fin 1024) :
    (outsAt1 (F := Ideal) V c t).1 (ix2 r z) = mul (fun (r : Fin 1024) (k : Fin 1024) => iblk1 V c 0 t (ix2 r k)) (fun k z => iblk1 V c 1 t (ix4 (tile256 k) 0 (in256 k) z)) r z + iblk1 V c 2 t (ix2 r z : S1024x1024.Idx) := by
  rw [outsAt1]
  dsimp only
  frame_out
  pointwise [k1_pay3, k1_pay2, k1_pay1]
  rfl

theorem tile1_norm (c : Dev nD) (t : Fin cfg1.N) (r z : Fin 1024) :
    (outsAt1 (F := Ideal) V c t).2 (ix2 r z) = normed (fun q => mul (fun (r : Fin 1024) (k : Fin 1024) => iblk1 V c 0 t (ix2 r k)) (fun k z => iblk1 V c 1 t (ix4 (tile256 k) 0 (in256 k) z)) r q + iblk1 V c 2 t (ix2 r q : S1024x1024.Idx)) z (iblk1 V c 3 t (ix2 0 z : S1x1024.Idx)) := by
  rw [outsAt1]
  dsimp only
  frame_out
  pointwise [k1_pay4, k1_pay3, k1_pay2, k1_pay1, normed]
  rfl

/-! ## The calls' blocks and arrays -/

theorem blk00 (c : Dev nD) (t : Fin cfg0.N) (r k : Fin 1024) :
    iblk0 (F := Ideal) V c 0 t (ix2 r k : S1024x1024.Idx) = xMat V c (at4 (shard t.val t.isLt) r) k := by
  blk_simp [iblk0]
  refine congrArg (V c main_arg0) ?_
  blk_ext [idx00 t, at4, shard]

theorem blk01 (c : Dev nD) (t : Fin cfg0.N) (k j : Fin 1024) :
    iblk0 (F := Ideal) V c 1 t (ix4 (tile256 k) 0 (in256 k) j : S4x1x256x1024.Idx) = wMat V c k j := by
  blk_simp [iblk0]
  refine congrArg (V c main_v2) ?_
  blk_ext [idx01 t, tile256, in256]

theorem blk02 (c : Dev nD) (t : Fin cfg0.N) (r k : Fin 1024) :
    iblk0 (F := Ideal) V c 2 t (ix2 r k : S1024x1024.Idx) = hMat V c (at4 (shard t.val t.isLt) r) k := by
  blk_simp [iblk0]
  refine congrArg (V c main_arg1) ?_
  blk_ext [idx02 t, at4, shard]

theorem blk03 (c : Dev nD) (t : Fin cfg0.N) (j : Fin 1024) :
    iblk0 (F := Ideal) V c 3 t (ix2 0 j : S1x1024.Idx) = bMat V c j := by
  blk_simp [iblk0]
  refine congrArg (V c main_arg5) ?_
  blk_ext [idx03 t]

theorem blk04 (c : Dev nD) (t : Fin cfg0.N) (j : Fin 1024) :
    iblk0 (F := Ideal) V c 4 t (ix2 0 j : S1x1024.Idx) = gMat V c j := by
  blk_simp [iblk0]
  refine congrArg (V c main_v8) ?_
  blk_ext [idx04 t]

theorem arr0 (c : Dev nD) :
    (dat0 (F := Ideal) V c).arrAt 5 cfg0.N = fun i : S4096x1024.Idx => out0 V c (i 0) (i 1) := by
  refine (dat0 V c).arrAt_eq_of_covers 5 _ (by decide +kernel) fun t _ y => ?_
  blk_simp
  rw [after0_5]
  obtain ⟨r, z, rfl⟩ : ∃ r z, y = (ix2 r z : S1024x1024.Idx) := ⟨y 0, y 1, eq_ix2 y⟩
  rw [tile0]
  have e0 : (win0_5.blk t).view.emb (ix2 r z) 0 = at4 (shard t.val t.isLt) r := Fin.ext (by blk_simp [idx05 t]; simp [at4, shard, ix2])
  have e1 : (win0_5.blk t).view.emb (ix2 r z) 1 = z := Fin.ext (by blk_simp [idx05 t])
  simp only [e0, e1, blk00, blk01, blk02, blk03]
  rfl

theorem arr0_norm (c : Dev nD) :
    (dat0 (F := Ideal) V c).arrAt 6 cfg0.N = fun i : S4096x1024.Idx => normed (out0 V c (i 0)) (i 1) (gMat V c (i 1)) := by
  refine (dat0 V c).arrAt_eq_of_covers 6 _ (by decide +kernel) fun t _ y => ?_
  blk_simp
  rw [after0_6]
  obtain ⟨r, z, rfl⟩ : ∃ r z, y = (ix2 r z : S1024x1024.Idx) := ⟨y 0, y 1, eq_ix2 y⟩
  rw [tile0_norm]
  have e0 : (win0_6.blk t).view.emb (ix2 r z) 0 = at4 (shard t.val t.isLt) r := Fin.ext (by blk_simp [idx06 t]; simp [at4, shard, ix2])
  have e1 : (win0_6.blk t).view.emb (ix2 r z) 1 = z := Fin.ext (by blk_simp [idx06 t])
  simp only [e0, e1, blk00, blk01, blk02, blk03, blk04]
  rfl

theorem blk10 (c : Dev nD) (t : Fin cfg1.N) (r k : Fin 1024) :
    iblk1 (F := Ideal) V c 0 t (ix2 r k : S1024x1024.Idx) = yMat V c (at4 (shard t.val t.isLt) r) k := by
  blk_simp [iblk1]
  refine congrArg (V c main_arg2) ?_
  blk_ext [idx10 t, at4, shard]

theorem blk11 (c : Dev nD) (t : Fin cfg1.N) (k j : Fin 1024) :
    iblk1 (F := Ideal) V c 1 t (ix4 (tile256 k) 0 (in256 k) j : S4x1x256x1024.Idx) = uMat V c k j := by
  blk_simp [iblk1]
  refine congrArg (V c main_v5) ?_
  blk_ext [idx11 t, tile256, in256]

theorem blk12 (c : Dev nD) (t : Fin cfg1.N) (r k : Fin 1024) :
    iblk1 (F := Ideal) V c 2 t (ix2 r k : S1024x1024.Idx) = kMat V c (at4 (shard t.val t.isLt) r) k := by
  blk_simp [iblk1]
  refine congrArg (V c main_arg3) ?_
  blk_ext [idx12 t, at4, shard]

theorem blk13 (c : Dev nD) (t : Fin cfg1.N) (j : Fin 1024) :
    iblk1 (F := Ideal) V c 3 t (ix2 0 j : S1x1024.Idx) = fMat V c j := by
  blk_simp [iblk1]
  refine congrArg (V c main_v12) ?_
  blk_ext [idx13 t]

theorem arr1 (c : Dev nD) :
    (dat1 (F := Ideal) V c).arrAt 4 cfg1.N = fun i : S4096x1024.Idx => out1 V c (i 0) (i 1) := by
  refine (dat1 V c).arrAt_eq_of_covers 4 _ (by decide +kernel) fun t _ y => ?_
  blk_simp
  rw [after1_4]
  obtain ⟨r, z, rfl⟩ : ∃ r z, y = (ix2 r z : S1024x1024.Idx) := ⟨y 0, y 1, eq_ix2 y⟩
  rw [tile1]
  have e0 : (win1_4.blk t).view.emb (ix2 r z) 0 = at4 (shard t.val t.isLt) r := Fin.ext (by blk_simp [idx14 t]; simp [at4, shard, ix2])
  have e1 : (win1_4.blk t).view.emb (ix2 r z) 1 = z := Fin.ext (by blk_simp [idx14 t])
  simp only [e0, e1, blk10, blk11, blk12]
  rfl

theorem arr1_norm (c : Dev nD) :
    (dat1 (F := Ideal) V c).arrAt 5 cfg1.N = fun i : S4096x1024.Idx => normed (out1 V c (i 0)) (i 1) (fMat V c (i 1)) := by
  refine (dat1 V c).arrAt_eq_of_covers 5 _ (by decide +kernel) fun t _ y => ?_
  blk_simp
  rw [after1_5]
  obtain ⟨r, z, rfl⟩ : ∃ r z, y = (ix2 r z : S1024x1024.Idx) := ⟨y 0, y 1, eq_ix2 y⟩
  rw [tile1_norm]
  have e0 : (win1_5.blk t).view.emb (ix2 r z) 0 = at4 (shard t.val t.isLt) r := Fin.ext (by blk_simp [idx15 t]; simp [at4, shard, ix2])
  have e1 : (win1_5.blk t).view.emb (ix2 r z) 1 = z := Fin.ext (by blk_simp [idx15 t])
  simp only [e0, e1, blk10, blk11, blk12, blk13]
  rfl

end

variable (m : (ℓ : Loc nD τ sig) → Buf (Elt Ideal) ℓ) (ρ : Dev nD → PrngReg)

/-- The arguments, entry by entry, and the two sums of them. -/
def xArg (c : Dev nD) (r : Fin 4096) (k : Fin 1024) : EReal := m ((c : Thread nD τ).loc main_arg0) (ix2 r k)
def hArg (c : Dev nD) (r : Fin 4096) (k : Fin 1024) : EReal := m ((c : Thread nD τ).loc main_arg1) (ix2 r k)
def yArg (c : Dev nD) (r : Fin 4096) (k : Fin 1024) : EReal := m ((c : Thread nD τ).loc main_arg2) (ix2 r k)
def kArg (c : Dev nD) (r : Fin 4096) (k : Fin 1024) : EReal := m ((c : Thread nD τ).loc main_arg3) (ix2 r k)
def wArg (c : Dev nD) (k j : Fin 1024) : EReal := m ((c : Thread nD τ).loc main_arg4) (ix3 0 k j)
def bArg (c : Dev nD) (j : Fin 1024) : EReal := m ((c : Thread nD τ).loc main_arg5) (ix2 0 j)
def uArg (c : Dev nD) (k j : Fin 1024) : EReal := m ((c : Thread nD τ).loc main_arg6) (ix3 1 k j)
def gArg (c : Dev nD) (j : Fin 1024) : EReal := m ((c : Thread nD τ).loc main_arg7) (ix2 1 j)
def fArg (c : Dev nD) (j : Fin 1024) : EReal := m ((c : Thread nD τ).loc main_arg8) (ix2 1 j)
def firstOut (c : Dev nD) (r : Fin 4096) (j : Fin 1024) : EReal := mul (xArg m c) (wArg m c) r j + hArg m c r j + bArg m c j
def secondOut (c : Dev nD) (r : Fin 4096) (j : Fin 1024) : EReal := mul (yArg m c) (uArg m c) r j + kArg m c r j

/-! ## What each call finds -/

theorem w_stack (c : Dev nD) :
    V1 (F := Ideal) m ρ c main_v2 = transpose S4x1x256x1024 [1, 0, 2, 3]
      (shapeCast S1x4x256x1024 (truncf .bf16 (m ((c : Thread nD τ).loc main_arg4) : FVec Ideal S1x1024x1024 .f32) bitsLt_bf16_f32 : FVec Ideal S1x1024x1024 .bf16)
        shapeCasts_S1x1024x1024_S1x4x256x1024) transposes_S1x4x256x1024_S4x1x256x1024_1_0_2_3 := by
  show StableHlo.after hostOps0 _ _ = _
  simp only [hostOps0]
  after_results <;> rfl

theorem w_entry (c : Dev nD) : wMat (V1 (F := Ideal) m ρ) c = wArg m c := by
  funext k j
  rw [wMat, w_stack]
  pointwise
  exact congrArg (fun x => m ((c : Thread nD τ).loc main_arg4) (ix3 0 x j)) (at256_tile k)

theorem u_stack (c : Dev nD) :
    V1 (F := Ideal) m ρ c main_v5 = transpose S4x2x256x1024 [1, 0, 2, 3]
      (shapeCast S2x4x256x1024 (truncf .bf16 (m ((c : Thread nD τ).loc main_arg6) : FVec Ideal S2x1024x1024 .f32) bitsLt_bf16_f32 : FVec Ideal S2x1024x1024 .bf16)
        shapeCasts_S2x1024x1024_S2x4x256x1024) transposes_S2x4x256x1024_S4x2x256x1024_1_0_2_3 := by
  show StableHlo.after hostOps0 _ _ = _
  simp only [hostOps0]
  after_results <;> rfl

theorem u_entry (c : Dev nD) : uMat (V1 (F := Ideal) m ρ) c = uArg m c := by
  funext k j
  rw [uMat, u_stack]
  pointwise
  exact congrArg (fun x => m ((c : Thread nD τ).loc main_arg6) (ix3 1 x j)) (at256_tile k)

theorem uMat3 (c : Dev nD) : uMat (V3 (F := Ideal) m ρ) c = uArg m c := by
  refine Eq.trans ?_ (u_entry m ρ c)
  funext a b
  exact congrFun ((W3_of (F := Ideal) m ρ c main_v5 (by decide)).trans (W2_of (F := Ideal) m ρ c main_v5 (by decide))) _

theorem g_row (c : Dev nD) :
    V1 (F := Ideal) m ρ c main_v8 = shapeCast S1x1024 (shapeCast S1024 (extractStridedSlice S1x1024 ![1, 0] (m ((c : Thread nD τ).loc main_arg7) : FVec Ideal S2x1024 .f32) slices_S2x1024_S1x1024_1_0)
      shapeCasts_S1x1024_S1024) shapeCasts_S1024_S1x1024 := by
  show StableHlo.after hostOps0 _ _ = _
  simp only [hostOps0]
  after_results <;> rfl

theorem g_entry (c : Dev nD) : gMat (V1 (F := Ideal) m ρ) c = gArg m c := by
  funext z
  rw [gMat, g_row]
  pointwise
  rfl

theorem f_row (c : Dev nD) :
    V3 (F := Ideal) m ρ c main_v12 = shapeCast S1x1024 (shapeCast S1024 (extractStridedSlice S1x1024 ![1, 0] (W2 (F := Ideal) m ρ c (Proc.devRef .tc main_arg8) : FVec Ideal S2x1024 .f32) slices_S2x1024_S1x1024_1_0)
      shapeCasts_S1x1024_S1024) shapeCasts_S1024_S1x1024 := by
  show StableHlo.after hostOps1 _ _ = _
  simp only [hostOps1]
  after_results <;> rfl

theorem f_entry (c : Dev nD) : fMat (V3 (F := Ideal) m ρ) c = fArg m c := by
  funext z
  rw [fMat, f_row]
  pointwise
  exact congrFun ((W2_of (F := Ideal) m ρ c main_arg8 (by decide)).trans (W1_of (F := Ideal) m ρ c main_arg8 (by decide))) _

theorem xMat1 (c : Dev nD) : xMat (V1 (F := Ideal) m ρ) c = xArg m c := by
  funext a b
  exact congrFun (W1_of (F := Ideal) m ρ c main_arg0 (by decide)) _

theorem hMat1 (c : Dev nD) : hMat (V1 (F := Ideal) m ρ) c = hArg m c := by
  funext a b
  exact congrFun (W1_of (F := Ideal) m ρ c main_arg1 (by decide)) _

theorem bMat1 (c : Dev nD) : bMat (V1 (F := Ideal) m ρ) c = bArg m c := by
  funext b
  exact congrFun (W1_of (F := Ideal) m ρ c main_arg5 (by decide)) _

theorem yMat3 (c : Dev nD) : yMat (V3 (F := Ideal) m ρ) c = yArg m c := by
  funext a b
  exact congrFun ((W3_of (F := Ideal) m ρ c main_arg2 (by decide)).trans ((W2_of (F := Ideal) m ρ c main_arg2 (by decide)).trans (W1_of (F := Ideal) m ρ c main_arg2 (by decide)))) _

theorem kMat3 (c : Dev nD) : kMat (V3 (F := Ideal) m ρ) c = kArg m c := by
  funext a b
  exact congrFun ((W3_of (F := Ideal) m ρ c main_arg3 (by decide)).trans ((W2_of (F := Ideal) m ρ c main_arg3 (by decide)).trans (W1_of (F := Ideal) m ρ c main_arg3 (by decide)))) _

theorem out0_eq (c : Dev nD) : out0 (V1 (F := Ideal) m ρ) c = firstOut m c := by
  funext r j
  rw [out0, xMat1, w_entry, hMat1, bMat1]
  rfl

theorem out1_eq (c : Dev nD) : out1 (V3 (F := Ideal) m ρ) c = secondOut m c := by
  funext r j
  rw [out1, yMat3, uMat3, kMat3]
  rfl

/-! ## The results -/

theorem first (c : Dev nD) : W4 (F := Ideal) m ρ c (Proc.devRef .tc main_v9_0) = fun i : S4096x1024.Idx => firstOut m c (i 0) (i 1) := by
  refine ((W4_of (F := Ideal) m ρ c main_v9_0 (by decide)).trans ((W3_of (F := Ideal) m ρ c main_v9_0 (by decide)).trans ((W2_arr (F := Ideal) m ρ c 5).trans (arr0 (V1 m ρ) c)))).trans ?_
  simp only [out0_eq]

theorem first_norm (c : Dev nD) : W4 (F := Ideal) m ρ c (Proc.devRef .tc main_v9_1) = fun i : S4096x1024.Idx => normed (firstOut m c (i 0)) (i 1) (gArg m c (i 1)) := by
  refine ((W4_of (F := Ideal) m ρ c main_v9_1 (by decide)).trans ((W3_of (F := Ideal) m ρ c main_v9_1 (by decide)).trans ((W2_arr (F := Ideal) m ρ c 6).trans (arr0_norm (V1 m ρ) c)))).trans ?_
  simp only [out0_eq, g_entry]

theorem second (c : Dev nD) : W4 (F := Ideal) m ρ c (Proc.devRef .tc main_v13_0) = fun i : S4096x1024.Idx => secondOut m c (i 0) (i 1) := by
  refine ((W4_arr (F := Ideal) m ρ c 4).trans (arr1 (V3 m ρ) c)).trans ?_
  simp only [out1_eq]

theorem second_norm (c : Dev nD) : W4 (F := Ideal) m ρ c (Proc.devRef .tc main_v13_1) = fun i : S4096x1024.Idx => normed (secondOut m c (i 0)) (i 1) (fArg m c (i 1)) := by
  refine ((W4_arr (F := Ideal) m ρ c 5).trans (arr1_norm (V3 m ρ) c)).trans ?_
  simp only [out1_eq, f_entry]

end Cert.Out1Ideal.Arr
-- ==== Proof.OutRef1Val.lean ====
module

public import proofs.«01_k».proof.Proof.Gen.OutRef1Ideal.Run
public import proofs.«01_k».proof.Proof.NormHost
public import Idealize.ShloMosaic.Lib.Tactic
public import Idealize.ShloMosaic.Lib.Pointwise
public import Idealize.ShloMosaic.Lib.ValueIdx

@[expose] public section

set_option maxRecDepth 16384

noncomputable section

/-! The reference of the output products of the convolution block and of the second layer's attention, entry by entry. -/

namespace Cert.OutRef1Ideal.Val

open Cert.OutRef1Ideal Cert.OutRef1Ideal.Gen Idealize.ShloMosaic Idealize.ShloMosaic.TcCoe Idealize.SL.Sem
open Cert.MlpVal Cert.ProdVal Cert.DownVal Cert.NormVal

variable (m : (ℓ : Loc nD τ sig) → Buf (Elt Ideal) ℓ)

/-- The arguments, entry by entry: the inner values, the skip connections, the weights, the bias and the gains. -/
def xArg (c : Dev nD) (r : Fin 4096) (k : Fin 1024) : EReal := m ((c.tc : Thread nD τ).loc main_arg0) (ix2 r k)
def hArg (c : Dev nD) (r : Fin 4096) (k : Fin 1024) : EReal := m ((c.tc : Thread nD τ).loc main_arg1) (ix2 r k)
def yArg (c : Dev nD) (r : Fin 4096) (k : Fin 1024) : EReal := m ((c.tc : Thread nD τ).loc main_arg2) (ix2 r k)
def kArg (c : Dev nD) (r : Fin 4096) (k : Fin 1024) : EReal := m ((c.tc : Thread nD τ).loc main_arg3) (ix2 r k)
def wArg (c : Dev nD) (k j : Fin 1024) : EReal := m ((c.tc : Thread nD τ).loc main_arg4) (ix3 0 k j)
def bArg (c : Dev nD) (j : Fin 1024) : EReal := m ((c.tc : Thread nD τ).loc main_arg5) (ix2 0 j)
def uArg (c : Dev nD) (k j : Fin 1024) : EReal := m ((c.tc : Thread nD τ).loc main_arg6) (ix3 1 k j)
def gArg (c : Dev nD) (j : Fin 1024) : EReal := m ((c.tc : Thread nD τ).loc main_arg7) (ix2 1 j)
def fArg (c : Dev nD) (j : Fin 1024) : EReal := m ((c.tc : Thread nD τ).loc main_arg8) (ix2 1 j)

/-- An array of the narrow format in the wide one, a weight without its leading axis, and the second layer's part of one. -/
def wide (x : FVec Ideal S4096x1024 .bf16) : FVec Ideal S4096x1024 .f32 := extf (F := Ideal) .f32 x bitsLt_bf16_f32
def flat (x : FVec Ideal S1x1024x1024 .f32) : FVec Ideal S1024x1024 .f32 := shapeCast S1024x1024 x shapeCasts_S1x1024x1024_S1024x1024
def layer (x : FVec Ideal S2x1024x1024 .f32) : FVec Ideal S1024x1024 .f32 :=
  shapeCast S1024x1024 (extractStridedSlice S1x1024x1024 ![1, 0, 0] x slices_S2x1024x1024_S1x1024x1024_1_0_0) shapeCasts_S1x1024x1024_S1024x1024

/-- The product, and the two sums. -/
def product (x : FVec Ideal S4096x1024 .bf16) (w : FVec Ideal S1024x1024 .f32) : FVec Ideal S4096x1024 .f32 :=
  Host.dotGeneral (F := Ideal) dot_S4096x1024_S1024x1024_S4096x1024_1_0_0_1_n_n none (wide x) w
def rowOf (b : FVec Ideal S1x1024 .f32) : FVec Ideal S4096x1024 .f32 :=
  broadcastInDim S4096x1024 ![0, 1] bcast_S1x1024_S4096x1024_0_1 (broadcastInDim S1x1024 ![1] bcast_S1024_S1x1024_1 (shapeCast S1024 b shapeCasts_S1x1024_S1024))
def firstOut (x : FVec Ideal S4096x1024 .bf16) (h : FVec Ideal S4096x1024 .f32) (w : FVec Ideal S1x1024x1024 .f32) (b : FVec Ideal S1x1024 .f32) : FVec Ideal S4096x1024 .f32 :=
  addf h (addf (product x (flat w)) (rowOf b))
def secondOut (x : FVec Ideal S4096x1024 .bf16) (h : FVec Ideal S4096x1024 .f32) (w : FVec Ideal S2x1024x1024 .f32) : FVec Ideal S4096x1024 .f32 :=
  addf h (product x (layer w))

/-- The second layer's gain as a row. -/
def gainRow (g : FVec Ideal S2x1024 .f32) : FVec Ideal S1x1024 .f32 :=
  broadcastInDim S1x1024 ![1] bcast_S1024_S1x1024_1 (shapeCast S1024 (extractStridedSlice S1x1024 ![1, 0] g slices_S2x1024_S1x1024_1_0) shapeCasts_S1x1024_S1024)

theorem flat_apply (x : FVec Ideal S1x1024x1024 .f32) (k j : Fin 1024) : flat x (ix2 k j) = x (ix3 0 k j) := by
  pointwise [flat]

theorem layer_apply (x : FVec Ideal S2x1024x1024 .f32) (k j : Fin 1024) : layer x (ix2 k j) = x (ix3 1 k j) := by
  pointwise [layer]

theorem product_apply (x : FVec Ideal S4096x1024 .bf16) (w : FVec Ideal S1024x1024 .f32) (r : Fin 4096) (j : Fin 1024) :
    (product x w (ix2 r j) : EReal) = mul (fun (r : Fin 4096) (k : Fin 1024) => x (ix2 r k)) (fun (k j : Fin 1024) => w (ix2 k j)) r j := by
  have e : (product x w (ix2 r j) : EReal) = ∑ k : Fin 1024, wide x (ix2 r k) * w (ix2 k j) := by pointwise [product]
  rw [e]
  refine Finset.sum_congr rfl fun k _ => congrArg (fun a : EReal => a * w (ix2 k j)) ?_
  pointwise [wide]

theorem rowOf_apply (b : FVec Ideal S1x1024 .f32) (r : Fin 4096) (j : Fin 1024) : (rowOf b (ix2 r j) : EReal) = b (ix2 0 j) := by
  pointwise [rowOf]

theorem firstOut_apply (x : FVec Ideal S4096x1024 .bf16) (h : FVec Ideal S4096x1024 .f32) (w : FVec Ideal S1x1024x1024 .f32) (b : FVec Ideal S1x1024 .f32) (r : Fin 4096) (j : Fin 1024) :
    (firstOut x h w b (ix2 r j) : EReal) = mul (fun (r : Fin 4096) (k : Fin 1024) => x (ix2 r k)) (fun (k j : Fin 1024) => w (ix3 0 k j)) r j + h (ix2 r j) + b (ix2 0 j) := by
  have e : (firstOut x h w b (ix2 r j) : EReal) = h (ix2 r j) + (product x (flat w) (ix2 r j) + rowOf b (ix2 r j)) := by pointwise [firstOut]
  rw [e, product_apply, rowOf_apply, ← add_assoc, add_comm (h (ix2 r j) : EReal)]
  simp only [flat_apply]

theorem secondOut_apply (x : FVec Ideal S4096x1024 .bf16) (h : FVec Ideal S4096x1024 .f32) (w : FVec Ideal S2x1024x1024 .f32) (r : Fin 4096) (j : Fin 1024) :
    (secondOut x h w (ix2 r j) : EReal) = mul (fun (r : Fin 4096) (k : Fin 1024) => x (ix2 r k)) (fun (k j : Fin 1024) => w (ix3 1 k j)) r j + h (ix2 r j) := by
  have e : (secondOut x h w (ix2 r j) : EReal) = h (ix2 r j) + product x (layer w) (ix2 r j) := by pointwise [secondOut]
  rw [e, product_apply, add_comm]
  simp only [layer_apply]

theorem gainRow_apply (g : FVec Ideal S2x1024 .f32) (z : Fin 1024) : (gainRow g (ix2 0 z) : EReal) = g (ix2 1 z) := by
  pointwise [gainRow]

/-- The reference's run, its results named. -/
theorem run (ρ : Dev nD → PrngReg) :
    θ_run defs (onTc (τ := τ) (main (F := Ideal))) ⟨m, fun _ => 0, ρ⟩ fun r => ∀ c : Dev nD,
      r.2.mem ((c.tc : Thread nD τ).loc main_v7) = firstOut (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v28) = normOut (firstOut (m ((c.tc : Thread nD τ).loc main_arg0)) (m ((c.tc : Thread nD τ).loc main_arg1)) (m ((c.tc : Thread nD τ).loc main_arg4)) (m ((c.tc : Thread nD τ).loc main_arg5))) (gainRow (m ((c.tc : Thread nD τ).loc main_arg7)))
      ∧ r.2.mem ((c.tc : Thread nD τ).loc main_v12) = secondOut (m ((c.tc : Thread nD τ).loc main_arg2)) (m ((c.tc : Thread nD τ).loc main_arg3)) (m ((c.tc : Thread nD τ).loc main_arg6))
      ∧ r.2.mem ((c.tc : Thread nD τ).loc main_v44) = normOut (secondOut (m ((c.tc : Thread nD τ).loc main_arg2)) (m ((c.tc : Thread nD τ).loc main_arg3)) (m ((c.tc : Thread nD τ).loc main_arg6))) (gainRow (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run (F := Ideal) m ρ

end Cert.OutRef1Ideal.Val
-- ==== Proof.Out1Claim.lean ====
module

public import proofs.«01_k».proof.Defs
public import proofs.«01_k».proof.Proof.Gen.Out1
public import proofs.«01_k».proof.Proof.Out1Arr
public import proofs.«01_k».proof.Proof.OutRef1Val
public import Idealize.ShloMosaic.Lib.Quiescent

@[expose] public section

set_option maxRecDepth 16384

noncomputable section

/-! The output products of the convolution block and of the second layer's attention. -/

namespace Cert.Out1Claim

open Idealize.ShloMosaic Idealize.ShloMosaic.TcCoe Idealize.SL.Sem
open Cert.MlpVal Cert.ProdVal Cert.DownVal Cert.NormVal

/-- The reference's run leaves its arguments and its counters as they were. -/
theorem reference_frame : Cert.quiescent_OutRef1Ideal := by
  intro m g _
  refine (θ_run Cert.OutRef1Ideal.defs _ _).mono (fun r h => ⟨fun c => (h c).2.2.2.2, ?_⟩) (Cert.OutRef1Ideal.Val.run m g)
  exact sem_eq_zero_of_no_sems (by decide) r.2

/-- The calls' results are the reference's. -/
theorem algebraic : Cert.algebraic_Out1Ideal_OutRef1Ideal := by
  intro m g m' g' _ hm
  have hx (c) : Cert.OutRef1Ideal.Val.xArg m' c = Cert.Out1Ideal.Arr.xArg m c :=
    funext fun r => funext fun k => congrFun (hm c).1 (ix2 r k)
  have hh (c) : Cert.OutRef1Ideal.Val.hArg m' c = Cert.Out1Ideal.Arr.hArg m c :=
    funext fun r => funext fun k => congrFun (hm c).2.1 (ix2 r k)
  have hy (c) : Cert.OutRef1Ideal.Val.yArg m' c = Cert.Out1Ideal.Arr.yArg m c :=
    funext fun r => funext fun k => congrFun (hm c).2.2.1 (ix2 r k)
  have hk (c) : Cert.OutRef1Ideal.Val.kArg m' c = Cert.Out1Ideal.Arr.kArg m c :=
    funext fun r => funext fun k => congrFun (hm c).2.2.2.1 (ix2 r k)
  have hw (c) : Cert.OutRef1Ideal.Val.wArg m' c = Cert.Out1Ideal.Arr.wArg m c :=
    funext fun k => funext fun j => congrFun (hm c).2.2.2.2.1 (ix3 0 k j)
  have hb (c) : Cert.OutRef1Ideal.Val.bArg m' c = Cert.Out1Ideal.Arr.bArg m c :=
    funext fun j => congrFun (hm c).2.2.2.2.2.1 (ix2 0 j)
  have hu (c) : Cert.OutRef1Ideal.Val.uArg m' c = Cert.Out1Ideal.Arr.uArg m c :=
    funext fun k => funext fun j => congrFun (hm c).2.2.2.2.2.2.1 (ix3 1 k j)
  have hg (c) : Cert.OutRef1Ideal.Val.gArg m' c = Cert.Out1Ideal.Arr.gArg m c :=
    funext fun j => congrFun (hm c).2.2.2.2.2.2.2.1 (ix2 1 j)
  have hf (c) : Cert.OutRef1Ideal.Val.fArg m' c = Cert.Out1Ideal.Arr.fArg m c :=
    funext fun j => congrFun (hm c).2.2.2.2.2.2.2.2 (ix2 1 j)
  have hfirst (c) (a : Fin 4096) (b : Fin 1024) :
      mul (Cert.OutRef1Ideal.Val.xArg m' c) (Cert.OutRef1Ideal.Val.wArg m' c) a b + Cert.OutRef1Ideal.Val.hArg m' c a b + Cert.OutRef1Ideal.Val.bArg m' c b = Cert.Out1Ideal.Arr.firstOut m c a b := by
    rw [hx, hw, hh, hb]
    rfl
  have hsecond (c) (a : Fin 4096) (b : Fin 1024) :
      mul (Cert.OutRef1Ideal.Val.yArg m' c) (Cert.OutRef1Ideal.Val.uArg m' c) a b + Cert.OutRef1Ideal.Val.kArg m' c a b = Cert.Out1Ideal.Arr.secondOut m c a b := by
    rw [hy, hu, hk]
    rfl
  refine ⟨_, _, _, _, Cert.Out1Ideal.Run.run_results m g, ?_⟩
  refine (θ_run Cert.OutRef1Ideal.defs _ _).mono (fun r h c => ?_) (Cert.OutRef1Ideal.Val.run m' g')
  obtain ⟨h0, h1, h2, h3, ha⟩ := h c
  refine ⟨h0.trans ?_, h1.trans ?_, h2.trans ?_, h3.trans ?_, ha⟩
  · funext i
    obtain ⟨a, b, rfl⟩ : ∃ a b, i = (ix2 a b : Cert.Out1Ideal.S4096x1024.Idx) := ⟨i 0, i 1, eq_ix2 i⟩
    refine (Cert.OutRef1Ideal.Val.firstOut_apply _ _ _ _ a b).trans ?_
    exact (hfirst c a b).trans (congrFun (Cert.Out1Ideal.Arr.first m g c) (ix2 a b)).symm
  · funext i
    obtain ⟨a, b, rfl⟩ : ∃ a b, i = (ix2 a b : Cert.Out1Ideal.S4096x1024.Idx) := ⟨i 0, i 1, eq_ix2 i⟩
    refine (Cert.NormVal.normOut_apply _ _ a b).trans ?_
    refine Eq.trans ?_ (congrFun (Cert.Out1Ideal.Arr.first_norm m g c) (ix2 a b)).symm
    exact congrArg₂ (fun y g => normed y b g) (funext fun q => (Cert.OutRef1Ideal.Val.firstOut_apply _ _ _ _ a q).trans (hfirst c a q)) ((Cert.OutRef1Ideal.Val.gainRow_apply _ b).trans (congrFun (hg c) b))
  · funext i
    obtain ⟨a, b, rfl⟩ : ∃ a b, i = (ix2 a b : Cert.Out1Ideal.S4096x1024.Idx) := ⟨i 0, i 1, eq_ix2 i⟩
    refine (Cert.OutRef1Ideal.Val.secondOut_apply _ _ _ a b).trans ?_
    exact (hsecond c a b).trans (congrFun (Cert.Out1Ideal.Arr.second m g c) (ix2 a b)).symm
  · funext i
    obtain ⟨a, b, rfl⟩ : ∃ a b, i = (ix2 a b : Cert.Out1Ideal.S4096x1024.Idx) := ⟨i 0, i 1, eq_ix2 i⟩
    refine (Cert.NormVal.normOut_apply _ _ a b).trans ?_
    refine Eq.trans ?_ (congrFun (Cert.Out1Ideal.Arr.second_norm m g c) (ix2 a b)).symm
    exact congrArg₂ (fun y g => normed y b g) (funext fun q => (Cert.OutRef1Ideal.Val.secondOut_apply _ _ _ a q).trans (hsecond c a q)) ((Cert.OutRef1Ideal.Val.gainRow_apply _ b).trans (congrFun (hf c) b))

end Cert.Out1Claim
-- ==== Proof.XfwdArr.lean ====
module

public import proofs.«01_k».proof.Proof.Gen.XfwdIdeal.Value
public import proofs.«01_k».proof.Proof.Block
public import Idealize.ShloMosaic.Lib.Pipeline.Value
public import Idealize.ShloMosaic.Lib.Tactic
public import Idealize.ShloMosaic.Lib.Pointwise
public import Idealize.ShloMosaic.Lib.ValueIdx
public import Idealize.ShloMosaic.Lib.Pipeline.ValueKit.Acc
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

/-! The forward call of the attention: what each block of rows leaves, and the array after the run. -/

namespace Cert.Att

open Idealize.ShloMosaic

/-- The attention of one query row: the values weighted by the row's probabilities. -/
def oRow (Q : Fin 1024 → EReal) (KV : Fin 256 → Fin 2048 → EReal) (y : Fin 1024) : EReal :=
  ∑ j : Fin 256, pr Q KV (qhead y) j * KV j ⟨1024 + y.val, by omega⟩

theorem oRow_col (Q : Fin 1024 → EReal) (KV : Fin 256 → Fin 2048 → EReal) (h : Fin 4) (d : Fin 256) :
    oRow Q KV (col h d) = ∑ j : Fin 256, pr Q KV h j * KV j (vcol h d) := by
  have e : qhead (col h d) = h := Fin.ext (by simp only [qhead, col]; omega)
  have e' : (⟨1024 + (col h d).val, by omega⟩ : Fin 2048) = vcol h d := Fin.ext (by simp only [col, vcol]; omega)
  simp only [oRow, e, e']

end Cert.Att

namespace Cert.XfwdIdeal.Att

open Cert.XfwdIdeal Cert.XfwdIdeal.Gen Idealize.ShloMosaic Idealize.ShloMosaic.TcCoe Idealize.SL.Sem
open Idealize.ShloMosaic.Pipeline (Dat)
open Cert.Att
open Cert.KernelIdeal.Att (col_zero kcol_zero tile_idx)

variable (m : (ℓ : Loc nD τ sig) → Buf (Elt Ideal) ℓ)

/-- One block of rows, from its queries and the keys and values. -/
theorem out_rows (x0 : Vec Ideal S512x1024 .bf16) (x1 : Vec Ideal S256x2048 .bf16) (r : Fin 512) (y : Fin 1024) :
    out0_2 (F := Ideal) x0 x1 (ix2 r y) = oRow (fun y => x0 (ix2 r y)) (fun j y => x1 (ix2 j y)) y := by
  unfold out0_2
  canon_tiles x h
  case piece0 =>
    obtain ⟨b, rfl⟩ : ∃ b : Fin 256, y = col 3 b := ⟨x 1, Fin.ext (h1.trans (by simp only [col]; norm_num))⟩
    obtain rfl : x = (ix2 r b : S512x256.Idx) := tile_idx x h0.symm (by simp only [Cert.KernelIdeal.Att.ix2_1, col] at h1; norm_num at h1; omega)
    rw [oRow_col]
    pointwise [k0_pay1, k0_pay6, k0_pay7]
    rfl
  case piece1 =>
    obtain ⟨b, rfl⟩ : ∃ b : Fin 256, y = col 2 b := ⟨x 1, Fin.ext (h1.trans (by simp only [col]; norm_num))⟩
    obtain rfl : x = (ix2 r b : S512x256.Idx) := tile_idx x h0.symm (by simp only [Cert.KernelIdeal.Att.ix2_1, col] at h1; norm_num at h1; omega)
    rw [oRow_col]
    pointwise [k0_pay5]
    rfl
  case piece2 =>
    obtain ⟨b, rfl⟩ : ∃ b : Fin 256, y = col 1 b := ⟨x 1, Fin.ext (h1.trans (by simp only [col]; norm_num))⟩
    obtain rfl : x = (ix2 r b : S512x256.Idx) := tile_idx x h0.symm (by simp only [Cert.KernelIdeal.Att.ix2_1, col] at h1; norm_num at h1; omega)
    rw [oRow_col]
    pointwise [k0_pay4, k0_pay3]
    rfl
  case piece3 =>
    obtain ⟨b, rfl⟩ : ∃ b : Fin 256, y = col 0 b := ⟨x 1, Fin.ext (h1.trans (by simp only [col]; norm_num))⟩
    obtain rfl : x = (ix2 r b : S512x256.Idx) := tile_idx x h0.symm (by simp only [Cert.KernelIdeal.Att.ix2_1, col] at h1; norm_num at h1; omega)
    rw [oRow_col]
    pointwise [k0_pay2]
    simp only [pr, col_zero, kcol_zero, vcol]
    rfl

/-- One row of the queries. -/
def qRow (c : Dev nD) (r : Fin 4096) (y : Fin 1024) : EReal := m ((c : Thread nD τ).loc main_arg0) (ix2 r y)

/-- The keys and values. -/
def kvMat (c : Dev nD) (j : Fin 256) (y : Fin 2048) : EReal := m ((c : Thread nD τ).loc main_arg1) (ix2 j y)

/-- Row `r` of block `t` is a row of the array. -/
def blkRow (t : Fin cfg0.N) (r : Fin 512) : Fin 4096 := ⟨t.val * 512 + r.val, by have := t.isLt; have : cfg0.N = 8 := rfl; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem iblk0 (c : Dev nD) (t : Fin cfg0.N) (r : Fin 512) (y : Fin 1024) :
    iblk (F := Ideal) m c 0 t (ix2 r y : S512x1024.Idx) = qRow m c (blkRow t r) y := by
  blk_simp [iblk]
  rw [V_main_arg0]
  refine congrArg (m _) ?_
  blk_ext [idx0 t, blkRow]

theorem iblk1 (c : Dev nD) (t : Fin cfg0.N) (j : Fin 256) (y : Fin 2048) :
    iblk (F := Ideal) m c 1 t (ix2 j y : S256x2048.Idx) = kvMat m c j y := by
  blk_simp [iblk]
  rw [V_main_arg1]
  refine congrArg (m _) ?_
  blk_ext [idx1 t]

/-- The array after the run. -/
theorem arr_o (c : Dev nD) :
    (dats (F := Ideal) m 0 c).arrAt 2 cfg0.N = fun i : S4096x1024.Idx => oRow (qRow m c (i 0)) (kvMat m c) (i 1) := by
  refine (dats m 0 c).arrAt_eq_of_covers 2 _ (by decide +kernel) fun t _ y => ?_
  blk_simp
  rw [after0_2]
  obtain ⟨r, z, rfl⟩ : ∃ r z, y = (ix2 r z : S512x1024.Idx) := ⟨y 0, y 1, eq_ix2 y⟩
  rw [out_rows]
  simp only [iblk0, iblk1]
  have e0 : (win0_2.blk t).view.emb (ix2 r z) 0 = blkRow t r := Fin.ext (by blk_simp [idx2 t]; simp [blkRow, ix2])
  have e1 : (win0_2.blk t).view.emb (ix2 r z) 1 = z := Fin.ext (by blk_simp [idx2 t])
  exact congrArg₂ (fun a b => oRow (qRow m c a) (kvMat m c) b) e0.symm e1.symm

end Cert.XfwdIdeal.Att

end
-- ==== Proof.XfwdClaim.lean ====
module

public import proofs.«01_k».proof.Defs
public import proofs.«01_k».proof.Proof.Gen.XfwdRefIdeal.Run
public import proofs.«01_k».proof.Proof.AttHost
public import proofs.«01_k».proof.Proof.XfwdArr
public import Idealize.ShloMosaic.Lib.Claim
public import Idealize.ShloMosaic.Lib.Quiescent

@[expose] public section

set_option maxRecDepth 16384

noncomputable section

/-! The forward call of the attention against the attention's own lines: on every input, finite or not. -/

namespace Cert.XfwdClaim

open Idealize.ShloMosaic Idealize.ShloMosaic.TcCoe Idealize.SL.Sem
open Cert.Att

section

open Cert.ReferenceIdeal Cert.ReferenceIdeal.Gen Cert.ReferenceIdeal.Att

/-- The attention on the host, before the heads are put side by side. -/
def oHost (Q : FVec Ideal S4096x1024 .bf16) (KV : FVec Ideal S256x2048 .bf16) : FVec Ideal Cert.XfwdRefIdeal.S4x256x4096 .f32 :=
  Host.dotGeneral (F := Ideal) Cert.XfwdRefIdeal.dot_S256x4x256_S4x4096x256_S4x256x4096_0_2_2_1_1_0 none (v3 KV) (Host.divf (e3 Q KV) (wide (z2 Q KV)))

/-- The attention on the host. -/
def oOut (Q : FVec Ideal S4096x1024 .bf16) (KV : FVec Ideal S256x2048 .bf16) : FVec Ideal S4096x1024 .bf16 :=
  truncf (F := Ideal) .bf16 (shapeCast _ (transpose S4096x4x256 [2, 0, 1] (oHost Q KV) Cert.XfwdRefIdeal.Gen.transposes_S4x256x4096_S4096x4x256_2_0_1)
    shapeCasts_S4096x4x256_S4096x1024) bitsLt_bf16_f32

theorem oHost_apply (Q : FVec Ideal S4096x1024 .bf16) (KV : FVec Ideal S256x2048 .bf16) (h : Fin 4) (d : Fin 256) (r : Fin 4096) :
    (oHost Q KV (ix3 h d r) : EReal) = ∑ j : Fin 256, pr (rowOf Q r) (matOf KV) h j * matOf KV j (vcol h d) := by
  have e : (oHost Q KV (ix3 h d r) : EReal) = ∑ x : Fin 256, v3 KV (ix3 x h d) * Ideal.div (e3 Q KV (ix3 h r x)) (z2 Q KV (ix2 h r)) := by
    pointwise [oHost, wide]
  rw [e]
  refine Finset.sum_congr rfl fun j _ => ?_
  rw [v3_apply, e3_apply, z2_apply, mul_comm]
  rfl

theorem oOut_apply (Q : FVec Ideal S4096x1024 .bf16) (KV : FVec Ideal S256x2048 .bf16) (r : Fin 4096) (y : Fin 1024) :
    (oOut Q KV (ix2 r y) : EReal) = oRow (rowOf Q r) (matOf KV) y := by
  have e : (oOut Q KV (ix2 r y) : EReal) = oHost Q KV (ix3 (qhead y) ⟨y.val % 256, by omega⟩ r) := by
    pointwise [oOut]
    rfl
  rw [e, oHost_apply]
  refine Finset.sum_congr rfl fun j _ => ?_
  refine congrArg (pr (rowOf Q r) (matOf KV) (qhead y) j * ·) (congrArg (matOf KV j) (Fin.ext ?_))
  simp only [vcol, qhead]
  omega

end

/-- The reference's run leaves its arguments and its counters as they were. -/
theorem reference_frame : Cert.quiescent_XfwdRefIdeal := by
  intro m g _
  refine (θ_run Cert.XfwdRefIdeal.defs _ _).mono (fun r h => ⟨fun c => (h c).2, ?_⟩) (Cert.XfwdRefIdeal.Value.run (F := Ideal) m g)
  exact sem_eq_zero_of_no_sems (by decide) r.2

theorem algebraic : Cert.algebraic_XfwdIdeal_XfwdRefIdeal := by
  intro m g m' g' _ hm
  refine ⟨_, Cert.XfwdIdeal.Value.run_blocks m g, ?_⟩
  refine (θ_run Cert.XfwdRefIdeal.defs _ _).mono (fun r h c => ?_) (Cert.XfwdRefIdeal.Value.run (F := Ideal) m' g')
  obtain ⟨h0, ha⟩ := h c
  refine ⟨h0.trans ?_, ha⟩
  refine (show _ = oOut (m' ((c : Thread Cert.XfwdRefIdeal.nD Cert.XfwdRefIdeal.τ).loc Cert.XfwdRefIdeal.main_arg0)) (m' ((c : Thread Cert.XfwdRefIdeal.nD Cert.XfwdRefIdeal.τ).loc Cert.XfwdRefIdeal.main_arg1)) from rfl).trans ?_
  rw [Cert.XfwdIdeal.Att.arr_o]
  funext i
  obtain ⟨r, y, rfl⟩ : ∃ r y, i = (ix2 r y : Cert.XfwdRefIdeal.S4096x1024.Idx) := ⟨i 0, i 1, eq_ix2 i⟩
  refine (oOut_apply _ _ r y).trans ?_
  have hq : Cert.ReferenceIdeal.Att.rowOf (m' ((c : Thread Cert.XfwdRefIdeal.nD Cert.XfwdRefIdeal.τ).loc Cert.XfwdRefIdeal.main_arg0)) r = Cert.XfwdIdeal.Att.qRow m c r :=
    funext fun y => congrFun (hm c).1 (ix2 r y)
  have hk : Cert.ReferenceIdeal.Att.matOf (m' ((c : Thread Cert.XfwdRefIdeal.nD Cert.XfwdRefIdeal.τ).loc Cert.XfwdRefIdeal.main_arg1)) = Cert.XfwdIdeal.Att.kvMat m c :=
    funext fun j => funext fun y => congrFun (hm c).2 (ix2 j y)
  rw [hq, hk]
  rfl

end Cert.XfwdClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Attention
public import proofs.«01_k».proof.Proof.Gen.Pre_finite_scores
public import proofs.«01_k».proof.Proof.Gen.Mlp0
public import proofs.«01_k».proof.Proof.Gen.Mlp0.Frame
public import proofs.«01_k».proof.Proof.Gen.Mlp0Ideal
public import proofs.«01_k».proof.Proof.Gen.Mlp0Ideal.Frame
public import proofs.«01_k».proof.Proof.Gen.MlpRef0Ideal
public import proofs.«01_k».proof.Proof.Gen.MlpRef0Ideal.Run
public import proofs.«01_k».proof.Proof.Mlp0Claim
public import proofs.«01_k».proof.Proof.Gen.Mlp1
public import proofs.«01_k».proof.Proof.Gen.Mlp1.Frame
public import proofs.«01_k».proof.Proof.Gen.Mlp1Ideal
public import proofs.«01_k».proof.Proof.Gen.Mlp1Ideal.Frame
public import proofs.«01_k».proof.Proof.Gen.MlpRef1Ideal
public import proofs.«01_k».proof.Proof.Gen.MlpRef1Ideal.Run
public import proofs.«01_k».proof.Proof.Mlp1Claim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.ProjClaim
public import proofs.«01_k».proof.Proof.Gen.Pw1
public import proofs.«01_k».proof.Proof.Gen.Pw1.Frame
public import proofs.«01_k».proof.Proof.Gen.Pw1Ideal
public import proofs.«01_k».proof.Proof.Gen.Pw1Ideal.Frame
public import proofs.«01_k».proof.Proof.Gen.Pw1RefIdeal
public import proofs.«01_k».proof.Proof.Gen.Pw1RefIdeal.Run
public import proofs.«01_k».proof.Proof.Pw1Claim
public import proofs.«01_k».proof.Proof.Gen.Xlin0
public import proofs.«01_k».proof.Proof.Gen.Xlin0.Frame
public import proofs.«01_k».proof.Proof.Gen.Xlin0Ideal
public import proofs.«01_k».proof.Proof.Gen.Xlin0Ideal.Frame
public import proofs.«01_k».proof.Proof.Gen.XlinRef0Ideal
public import proofs.«01_k».proof.Proof.Gen.XlinRef0Ideal.Run
public import proofs.«01_k».proof.Proof.Xlin0Claim
public import proofs.«01_k».proof.Proof.Gen.Xlin1
public import proofs.«01_k».proof.Proof.Gen.Xlin1.Frame
public import proofs.«01_k».proof.Proof.Gen.Xlin1Ideal
public import proofs.«01_k».proof.Proof.Gen.Xlin1Ideal.Frame
public import proofs.«01_k».proof.Proof.Gen.XlinRef1Ideal
public import proofs.«01_k».proof.Proof.Gen.XlinRef1Ideal.Run
public import proofs.«01_k».proof.Proof.Xlin1Claim
public import proofs.«01_k».proof.Proof.Gen.Wout
public import proofs.«01_k».proof.Proof.Gen.Wout.Frame
public import proofs.«01_k».proof.Proof.Gen.WoutIdeal
public import proofs.«01_k».proof.Proof.Gen.WoutIdeal.Frame
public import proofs.«01_k».proof.Proof.Gen.WoutRefIdeal
public import proofs.«01_k».proof.Proof.Gen.WoutRefIdeal.Run
public import proofs.«01_k».proof.Proof.WoutClaim
public import proofs.«01_k».proof.Proof.Gen.Down1
public import proofs.«01_k».proof.Proof.Gen.Down1.Frame
public import proofs.«01_k».proof.Proof.Gen.Down1Ideal
public import proofs.«01_k».proof.Proof.Gen.Down1Ideal.Frame
public import proofs.«01_k».proof.Proof.Gen.Down1Ideal.Value
public import proofs.«01_k».proof.Proof.Gen.DownRef1Ideal
public import proofs.«01_k».proof.Proof.Gen.DownRef1Ideal.Run
public import proofs.«01_k».proof.Proof.Down1Claim
public import proofs.«01_k».proof.Proof.Gen.Down0
public import proofs.«01_k».proof.Proof.Gen.Down0.Frame
public import proofs.«01_k».proof.Proof.Gen.Down0Ideal
public import proofs.«01_k».proof.Proof.Gen.Down0Ideal.Frame
public import proofs.«01_k».proof.Proof.Gen.Down0Ideal.Value
public import proofs.«01_k».proof.Proof.Gen.DownRef0Ideal
public import proofs.«01_k».proof.Proof.Gen.DownRef0Ideal.Run
public import proofs.«01_k».proof.Proof.Down0Claim
public import proofs.«01_k».proof.Proof.Gen.Mdn0
public import proofs.«01_k».proof.Proof.Gen.Mdn0.Frame
public import proofs.«01_k».proof.Proof.Gen.Mdn0Ideal
public import proofs.«01_k».proof.Proof.Gen.Mdn0Ideal.Frame
public import proofs.«01_k».proof.Proof.Gen.Mdn0Ideal.Value
public import proofs.«01_k».proof.Proof.Gen.MdnRef0Ideal
public import proofs.«01_k».proof.Proof.Gen.MdnRef0Ideal.Run
public import proofs.«01_k».proof.Proof.Mdn0Claim
public import proofs.«01_k».proof.Proof.Gen.Mdn1
public import proofs.«01_k».proof.Proof.Gen.Mdn1.Frame
public import proofs.«01_k».proof.Proof.Gen.Mdn1Ideal
public import proofs.«01_k».proof.Proof.Gen.Mdn1Ideal.Frame
public import proofs.«01_k».proof.Proof.Gen.Mdn1Ideal.Value
public import proofs.«01_k».proof.Proof.Gen.MdnRef1Ideal
public import proofs.«01_k».proof.Proof.Gen.MdnRef1Ideal.Run
public import proofs.«01_k».proof.Proof.Mdn1Claim
public import proofs.«01_k».proof.Proof.Gen.Xdn0
public import proofs.«01_k».proof.Proof.Gen.Xdn0.Frame
public import proofs.«01_k».proof.Proof.Gen.Xdn0Ideal
public import proofs.«01_k».proof.Proof.Gen.Xdn0Ideal.Frame
public import proofs.«01_k».proof.Proof.Gen.Xdn0Ideal.Value
public import proofs.«01_k».proof.Proof.Gen.XdnRef0Ideal
public import proofs.«01_k».proof.Proof.Gen.XdnRef0Ideal.Run
public import proofs.«01_k».proof.Proof.Xdn0Claim
public import proofs.«01_k».proof.Proof.Gen.Xdn1
public import proofs.«01_k».proof.Proof.Gen.Xdn1.Frame
public import proofs.«01_k».proof.Proof.Gen.Xdn1Ideal
public import proofs.«01_k».proof.Proof.Gen.Xdn1Ideal.Frame
public import proofs.«01_k».proof.Proof.Gen.Xdn1Ideal.Value
public import proofs.«01_k».proof.Proof.Gen.XdnRef1Ideal
public import proofs.«01_k».proof.Proof.Gen.XdnRef1Ideal.Run
public import proofs.«01_k».proof.Proof.Xdn1Claim
public import proofs.«01_k».proof.Proof.Gen.Cdn
public import proofs.«01_k».proof.Proof.Gen.Cdn.Frame
public import proofs.«01_k».proof.Proof.Gen.CdnIdeal
public import proofs.«01_k».proof.Proof.Gen.CdnIdeal.Frame
public import proofs.«01_k».proof.Proof.Gen.CdnIdeal.Value
public import proofs.«01_k».proof.Proof.Gen.CdnRefIdeal
public import proofs.«01_k».proof.Proof.Gen.CdnRefIdeal.Run
public import proofs.«01_k».proof.Proof.CdnClaim
public import proofs.«01_k».proof.Proof.Gen.Out0
public import proofs.«01_k».proof.Proof.Gen.Out0.Frame
public import proofs.«01_k».proof.Proof.Gen.Out0Ideal
public import proofs.«01_k».proof.Proof.Gen.Out0Ideal.Frame
public import proofs.«01_k».proof.Proof.Gen.OutRef0Ideal
public import proofs.«01_k».proof.Proof.Gen.OutRef0Ideal.Run
public import proofs.«01_k».proof.Proof.Out0Claim
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Gen.OutRef1Ideal
public import proofs.«01_k».proof.Proof.Gen.OutRef1Ideal.Run
public import proofs.«01_k».proof.Proof.Out1Claim
public import proofs.«01_k».proof.Proof.Gen.Xfwd
public import proofs.«01_k».proof.Proof.Gen.Xfwd.Frame
public import proofs.«01_k».proof.Proof.Gen.XfwdIdeal
public import proofs.«01_k».proof.Proof.Gen.XfwdIdeal.Frame
public import proofs.«01_k».proof.Proof.Gen.XfwdIdeal.Value
public import proofs.«01_k».proof.Proof.Gen.XfwdRefIdeal
public import proofs.«01_k».proof.Proof.Gen.XfwdRefIdeal.Run
public import proofs.«01_k».proof.Proof.XfwdClaim
public import Idealize.ShloMosaic.Adequacy
public import Idealize.ShloMosaic.Init

@[expose] public section

noncomputable section

namespace Cert.Proof

open Idealize.ShloMosaic Idealize.SL.Sem Cert.Kernel

/-- Every claim of the certificate: the frames of all programs first, then for each kernel that nothing was rewritten and that its
    results are the reference's. -/
theorem claim : Cert.Claim := ⟨Cert.Kernel.Gen.facts, Cert.KernelIdeal.Gen.facts, Cert.ReferenceIdeal.Gen.facts,
  Cert.Mlp0.Gen.facts, Cert.Mlp0Ideal.Gen.facts, Cert.MlpRef0Ideal.Gen.facts,
  Cert.Mlp1.Gen.facts, Cert.Mlp1Ideal.Gen.facts, Cert.MlpRef1Ideal.Gen.facts,
  Cert.Proj.Gen.facts, Cert.ProjIdeal.Gen.facts, Cert.ProjRefIdeal.Gen.facts,
  Cert.Pw1.Gen.facts, Cert.Pw1Ideal.Gen.facts, Cert.Pw1RefIdeal.Gen.facts,
  Cert.Xlin0.Gen.facts, Cert.Xlin0Ideal.Gen.facts, Cert.XlinRef0Ideal.Gen.facts,
  Cert.Xlin1.Gen.facts, Cert.Xlin1Ideal.Gen.facts, Cert.XlinRef1Ideal.Gen.facts,
  Cert.Wout.Gen.facts, Cert.WoutIdeal.Gen.facts, Cert.WoutRefIdeal.Gen.facts,
  Cert.Down1.Gen.facts, Cert.Down1Ideal.Gen.facts, Cert.DownRef1Ideal.Gen.facts,
  Cert.Down0.Gen.facts, Cert.Down0Ideal.Gen.facts, Cert.DownRef0Ideal.Gen.facts,
  Cert.Mdn0.Gen.facts, Cert.Mdn0Ideal.Gen.facts, Cert.MdnRef0Ideal.Gen.facts,
  Cert.Mdn1.Gen.facts, Cert.Mdn1Ideal.Gen.facts, Cert.MdnRef1Ideal.Gen.facts,
  Cert.Xdn0.Gen.facts, Cert.Xdn0Ideal.Gen.facts, Cert.XdnRef0Ideal.Gen.facts,
  Cert.Xdn1.Gen.facts, Cert.Xdn1Ideal.Gen.facts, Cert.XdnRef1Ideal.Gen.facts,
  Cert.Cdn.Gen.facts, Cert.CdnIdeal.Gen.facts, Cert.CdnRefIdeal.Gen.facts,
  Cert.Out0.Gen.facts, Cert.Out0Ideal.Gen.facts, Cert.OutRef0Ideal.Gen.facts,
  Cert.Out1.Gen.facts, Cert.Out1Ideal.Gen.facts, Cert.OutRef1Ideal.Gen.facts,
  Cert.Xfwd.Gen.facts, Cert.XfwdIdeal.Gen.facts, Cert.XfwdRefIdeal.Gen.facts,
  Cert.Pre_finite_scores.Gen.facts, by
  exact ⟨fun m ρ _ => Cert.Kernel.Gen.frame m ρ, fun m ρ _ => Cert.KernelIdeal.Gen.frame m ρ, fun m ρ _ => Cert.KernelIdeal.Gen.frame m ρ,
    Cert.Att.reference_frame, fun m ρ _ => Cert.Att.reference_frame m ρ trivial,
    fun m ρ _ => Cert.Mlp0.Gen.frame m ρ, fun m ρ _ => Cert.Mlp0Ideal.Gen.frame m ρ, Cert.Mlp0Claim.reference_frame,
    fun m ρ _ => Cert.Mlp1.Gen.frame m ρ, fun m ρ _ => Cert.Mlp1Ideal.Gen.frame m ρ, Cert.Mlp1Claim.reference_frame,
    fun m ρ _ => Cert.Proj.Gen.frame m ρ, fun m ρ _ => Cert.ProjIdeal.Gen.frame m ρ, Cert.ProjClaim.reference_frame,
    fun m ρ _ => Cert.Pw1.Gen.frame m ρ, fun m ρ _ => Cert.Pw1Ideal.Gen.frame m ρ, Cert.Pw1Claim.reference_frame,
    fun m ρ _ => Cert.Xlin0.Gen.frame m ρ, fun m ρ _ => Cert.Xlin0Ideal.Gen.frame m ρ, Cert.Xlin0Claim.reference_frame,
    fun m ρ _ => Cert.Xlin1.Gen.frame m ρ, fun m ρ _ => Cert.Xlin1Ideal.Gen.frame m ρ, Cert.Xlin1Claim.reference_frame,
    fun m ρ _ => Cert.Wout.Gen.frame m ρ, fun m ρ _ => Cert.WoutIdeal.Gen.frame m ρ, Cert.WoutClaim.reference_frame,
    fun m ρ _ => Cert.Down1.Gen.frame m ρ, fun m ρ _ => Cert.Down1Ideal.Gen.frame m ρ, Cert.Down1Claim.reference_frame,
    fun m ρ _ => Cert.Down0.Gen.frame m ρ, fun m ρ _ => Cert.Down0Ideal.Gen.frame m ρ, Cert.Down0Claim.reference_frame,
    fun m ρ _ => Cert.Mdn0.Gen.frame m ρ, fun m ρ _ => Cert.Mdn0Ideal.Gen.frame m ρ, Cert.Mdn0Claim.reference_frame,
    fun m ρ _ => Cert.Mdn1.Gen.frame m ρ, fun m ρ _ => Cert.Mdn1Ideal.Gen.frame m ρ, Cert.Mdn1Claim.reference_frame,
    fun m ρ _ => Cert.Xdn0.Gen.frame m ρ, fun m ρ _ => Cert.Xdn0Ideal.Gen.frame m ρ, Cert.Xdn0Claim.reference_frame,
    fun m ρ _ => Cert.Xdn1.Gen.frame m ρ, fun m ρ _ => Cert.Xdn1Ideal.Gen.frame m ρ, Cert.Xdn1Claim.reference_frame,
    fun m ρ _ => Cert.Cdn.Gen.frame m ρ, fun m ρ _ => Cert.CdnIdeal.Gen.frame m ρ, Cert.CdnClaim.reference_frame,
    fun m ρ _ => Cert.Out0.Gen.frame m ρ, fun m ρ _ => Cert.Out0Ideal.Gen.frame m ρ, Cert.Out0Claim.reference_frame,
    fun m ρ _ => Cert.Out1.Gen.frame m ρ, fun m ρ _ => Cert.Out1Ideal.Gen.frame m ρ, Cert.Out1Claim.reference_frame,
    fun m ρ _ => Cert.Xfwd.Gen.frame m ρ, fun m ρ _ => Cert.XfwdIdeal.Gen.frame m ρ, Cert.XfwdClaim.reference_frame,
    trivial, Cert.Att.algebraic,
    trivial, Cert.Mlp0Claim.algebraic,
    trivial, Cert.Mlp1Claim.algebraic,
    trivial, Cert.ProjClaim.algebraic,
    trivial, Cert.Pw1Claim.algebraic,
    trivial, Cert.Xlin0Claim.algebraic,
    trivial, Cert.Xlin1Claim.algebraic,
    trivial, Cert.WoutClaim.algebraic,
    trivial, Cert.Down1Claim.algebraic,
    trivial, Cert.Down0Claim.algebraic,
    trivial, Cert.Mdn0Claim.algebraic,
    trivial, Cert.Mdn1Claim.algebraic,
    trivial, Cert.Xdn0Claim.algebraic,
    trivial, Cert.Xdn1Claim.algebraic,
    trivial, Cert.CdnClaim.algebraic,
    trivial, Cert.Out0Claim.algebraic,
    trivial, Cert.Out1Claim.algebraic,
    trivial, Cert.XfwdClaim.algebraic⟩⟩

end Cert.Proof

end
